-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_BranchBwd (m : (ℓ : Loc Cert.BranchBwd.nD Cert.BranchBwd.τ Cert.BranchBwd.sig) → Buf (Elt Bits) ℓ) : Prop :=
  True

def Pre_BranchBwdIdeal (m : (ℓ : Loc Cert.BranchBwdIdeal.nD Cert.BranchBwdIdeal.τ Cert.BranchBwdIdeal.sig) → Buf (Elt Ideal) ℓ) : Prop :=
  True

def Pre_BranchBwdReferenceIdeal (m : (ℓ : Loc Cert.BranchBwdReferenceIdeal.nD Cert.BranchBwdReferenceIdeal.τ Cert.BranchBwdReferenceIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_DwBranchReferenceIdeal (m : (ℓ : Loc Cert.DwBranchReferenceIdeal.nD Cert.DwBranchReferenceIdeal.τ Cert.DwBranchReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdReferenceIdeal (m : (ℓ : Loc Cert.ProjBwdReferenceIdeal.nD Cert.ProjBwdReferenceIdeal.τ Cert.ProjBwdReferenceIdeal.sig) → Buf (Elt Ideal) ℓ) : Prop :=
  True

def Pre_MlpDownBwd (m : (ℓ : Loc Cert.MlpDownBwd.nD Cert.MlpDownBwd.τ Cert.MlpDownBwd.sig) → Buf (Elt Bits) ℓ) : Prop :=
  True

def Pre_MlpDownBwdIdeal (m : (ℓ : Loc Cert.MlpDownBwdIdeal.nD Cert.MlpDownBwdIdeal.τ Cert.MlpDownBwdIdeal.sig) → Buf (Elt Ideal) ℓ) : Prop :=
  True

def Pre_MlpDownBwdReferenceIdeal (m : (ℓ : Loc Cert.MlpDownBwdReferenceIdeal.nD Cert.MlpDownBwdReferenceIdeal.τ Cert.MlpDownBwdReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_MlpUpBwd (m : (ℓ : Loc Cert.MlpUpBwd.nD Cert.MlpUpBwd.τ Cert.MlpUpBwd.sig) → Buf (Elt Bits) ℓ) : Prop :=
  True

def Pre_MlpUpBwdIdeal (m : (ℓ : Loc Cert.MlpUpBwdIdeal.nD Cert.MlpUpBwdIdeal.τ Cert.MlpUpBwdIdeal.sig) → Buf (Elt Ideal) ℓ) : Prop :=
  True

def Pre_MlpUpBwdReferenceIdeal (m : (ℓ : Loc Cert.MlpUpBwdReferenceIdeal.nD Cert.MlpUpBwdReferenceIdeal.τ Cert.MlpUpBwdReferenceIdeal.sig) → Buf (Elt Ideal) ℓ) : Prop :=
  True

def Pre_OutProjBwd (m : (ℓ : Loc Cert.OutProjBwd.nD Cert.OutProjBwd.τ Cert.OutProjBwd.sig) → Buf (Elt Bits) ℓ) : Prop :=
  True

def Pre_OutProjBwdIdeal (m : (ℓ : Loc Cert.OutProjBwdIdeal.nD Cert.OutProjBwdIdeal.τ Cert.OutProjBwdIdeal.sig) → Buf (Elt Ideal) ℓ) : Prop :=
  True

def Pre_OutProjBwdReferenceIdeal (m : (ℓ : Loc Cert.OutProjBwdReferenceIdeal.nD Cert.OutProjBwdReferenceIdeal.τ Cert.OutProjBwdReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdReferenceIdeal (m : (ℓ : Loc Cert.PleBwdReferenceIdeal.nD Cert.PleBwdReferenceIdeal.τ Cert.PleBwdReferenceIdeal.sig) → Buf (Elt Ideal) ℓ) : Prop :=
  True

def Pre_DwPle (m : (ℓ : Loc Cert.DwPle.nD Cert.DwPle.τ Cert.DwPle.sig) → Buf (Elt Bits) ℓ) : Prop :=
  True

def Pre_DwPleIdeal (m : (ℓ : Loc Cert.DwPleIdeal.nD Cert.DwPleIdeal.τ Cert.DwPleIdeal.sig) → Buf (Elt Ideal) ℓ) : Prop :=
  True

def Pre_DwPleReferenceIdeal (m : (ℓ : Loc Cert.DwPleReferenceIdeal.nD Cert.DwPleReferenceIdeal.τ Cert.DwPleReferenceIdeal.sig) → Buf (Elt Ideal) ℓ) : Prop :=
  True

def Pre_DwPleGate (m : (ℓ : Loc Cert.DwPleGate.nD Cert.DwPleGate.τ Cert.DwPleGate.sig) → Buf (Elt Bits) ℓ) : Prop :=
  True

def Pre_DwPleGateIdeal (m : (ℓ : Loc Cert.DwPleGateIdeal.nD Cert.DwPleGateIdeal.τ Cert.DwPleGateIdeal.sig) → Buf (Elt Ideal) ℓ) : Prop :=
  True

def Pre_DwPleGateReferenceIdeal (m : (ℓ : Loc Cert.DwPleGateReferenceIdeal.nD Cert.DwPleGateReferenceIdeal.τ Cert.DwPleGateReferenceIdeal.sig) → Buf (Elt Ideal) ℓ) : Prop :=
  True

def Pre_DhPle (m : (ℓ : Loc Cert.DhPle.nD Cert.DhPle.τ Cert.DhPle.sig) → Buf (Elt Bits) ℓ) : Prop :=
  True

def Pre_DhPleIdeal (m : (ℓ : Loc Cert.DhPleIdeal.nD Cert.DhPleIdeal.τ Cert.DhPleIdeal.sig) → Buf (Elt Ideal) ℓ) : Prop :=
  True

def Pre_DhPleReferenceIdeal (m : (ℓ : Loc Cert.DhPleReferenceIdeal.nD Cert.DhPleReferenceIdeal.τ Cert.DhPleReferenceIdeal.sig) → Buf (Elt Ideal) ℓ) : Prop :=
  True

def Pre_RmsMix (m : (ℓ : Loc Cert.RmsMix.nD Cert.RmsMix.τ Cert.RmsMix.sig) → Buf (Elt Bits) ℓ) : Prop :=
  True

def Pre_RmsMixIdeal (m : (ℓ : Loc Cert.RmsMixIdeal.nD Cert.RmsMixIdeal.τ Cert.RmsMixIdeal.sig) → Buf (Elt Ideal) ℓ) : Prop :=
  True

def Pre_RmsMixReferenceIdeal (m : (ℓ : Loc Cert.RmsMixReferenceIdeal.nD Cert.RmsMixReferenceIdeal.τ Cert.RmsMixReferenceIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdReferenceIdeal (m : (ℓ : Loc Cert.ProjFwdReferenceIdeal.nD Cert.ProjFwdReferenceIdeal.τ Cert.ProjFwdReferenceIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesReferenceIdeal (m : (ℓ : Loc Cert.ProjGatesReferenceIdeal.nD Cert.ProjGatesReferenceIdeal.τ Cert.ProjGatesReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpReferenceIdeal (m : (ℓ : Loc Cert.MlpUpReferenceIdeal.nD Cert.MlpUpReferenceIdeal.τ Cert.MlpUpReferenceIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownReferenceIdeal (m : (ℓ : Loc Cert.MlpDownReferenceIdeal.nD Cert.MlpDownReferenceIdeal.τ Cert.MlpDownReferenceIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateReferenceIdeal (m : (ℓ : Loc Cert.PleGateReferenceIdeal.nD Cert.PleGateReferenceIdeal.τ Cert.PleGateReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchReferenceIdeal (m : (ℓ : Loc Cert.AdamBranchReferenceIdeal.nD Cert.AdamBranchReferenceIdeal.τ Cert.AdamBranchReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamPle (m : (ℓ : Loc Cert.AdamPle.nD Cert.AdamPle.τ Cert.AdamPle.sig) → Buf (Elt Bits) ℓ) : Prop :=
  True

def Pre_AdamPleIdeal (m : (ℓ : Loc Cert.AdamPleIdeal.nD Cert.AdamPleIdeal.τ Cert.AdamPleIdeal.sig) → Buf (Elt Ideal) ℓ) : Prop :=
  True

def Pre_AdamPleReferenceIdeal (m : (ℓ : Loc Cert.AdamPleReferenceIdeal.nD Cert.AdamPleReferenceIdeal.τ Cert.AdamPleReferenceIdeal.sig) → Buf (Elt Ideal) ℓ) : Prop :=
  True

def Pre_SeqFwd (m : (ℓ : Loc Cert.SeqFwd.nD Cert.SeqFwd.τ Cert.SeqFwd.sig) → Buf (Elt Bits) ℓ) : Prop :=
  True

def Pre_SeqFwdIdeal (m : (ℓ : Loc Cert.SeqFwdIdeal.nD Cert.SeqFwdIdeal.τ Cert.SeqFwdIdeal.sig) → Buf (Elt Ideal) ℓ) : Prop :=
  True

def Pre_SeqFwdReferenceIdeal (m : (ℓ : Loc Cert.SeqFwdReferenceIdeal.nD Cert.SeqFwdReferenceIdeal.τ Cert.SeqFwdReferenceIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdReferenceIdeal (m : (ℓ : Loc Cert.GluBwdReferenceIdeal.nD Cert.GluBwdReferenceIdeal.τ Cert.GluBwdReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_AdamSharded (m : (ℓ : Loc Cert.AdamSharded.nD Cert.AdamSharded.τ Cert.AdamSharded.sig) → Buf (Elt Bits) ℓ) : Prop :=
  True

def Pre_AdamShardedIdeal (m : (ℓ : Loc Cert.AdamShardedIdeal.nD Cert.AdamShardedIdeal.τ Cert.AdamShardedIdeal.sig) → Buf (Elt Ideal) ℓ) : Prop :=
  True

def Pre_AdamShardedReferenceIdeal (m : (ℓ : Loc Cert.AdamShardedReferenceIdeal.nD Cert.AdamShardedReferenceIdeal.τ Cert.AdamShardedReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_BranchBwd [hBranchBwd : Cert.BranchBwd.Facts] : Prop :=
  ∀ (m : (ℓ : Loc Cert.BranchBwd.nD Cert.BranchBwd.τ Cert.BranchBwd.sig) → Buf (Elt Bits) ℓ) (g : Dev Cert.BranchBwd.nD → PrngReg), Pre_BranchBwd m →
    θ_run (Cert.BranchBwd.defs (F := Bits)) (onTc (τ := Cert.BranchBwd.τ) (Cert.BranchBwd.main (F := Bits))) ⟨m, fun _ => 0, g⟩ (fun r => (∀ c : Dev Cert.BranchBwd.nD,
      r.2.mem ((c.tc : Thread Cert.BranchBwd.nD Cert.BranchBwd.τ).loc Cert.BranchBwd.main_arg0) = m ((c.tc : Thread Cert.BranchBwd.nD Cert.BranchBwd.τ).loc Cert.BranchBwd.main_arg0)
      ∧ r.2.mem ((c.tc : Thread Cert.BranchBwd.nD Cert.BranchBwd.τ).loc Cert.BranchBwd.main_arg1) = m ((c.tc : Thread Cert.BranchBwd.nD Cert.BranchBwd.τ).loc Cert.BranchBwd.main_arg1))
      ∧ r.2.sem = fun _ => 0)

def quiescent_BranchBwdIdeal [hBranchBwdIdeal : Cert.BranchBwdIdeal.Facts] : Prop :=
  ∀ (m : (ℓ : Loc Cert.BranchBwdIdeal.nD Cert.BranchBwdIdeal.τ Cert.BranchBwdIdeal.sig) → Buf (Elt Ideal) ℓ) (g : Dev Cert.BranchBwdIdeal.nD → PrngReg), Pre_BranchBwdIdeal m →
    θ_run (Cert.BranchBwdIdeal.defs (F := Ideal)) (onTc (τ := Cert.BranchBwdIdeal.τ) (Cert.BranchBwdIdeal.main (F := Ideal))) ⟨m, fun _ => 0, g⟩ (fun r => (∀ c : Dev Cert.BranchBwdIdeal.nD,
      r.2.mem ((c.tc : Thread Cert.BranchBwdIdeal.nD Cert.BranchBwdIdeal.τ).loc Cert.BranchBwdIdeal.main_arg0) = m ((c.tc : Thread Cert.BranchBwdIdeal.nD Cert.BranchBwdIdeal.τ).loc Cert.BranchBwdIdeal.main_arg0)
      ∧ r.2.mem ((c.tc : Thread Cert.BranchBwdIdeal.nD Cert.BranchBwdIdeal.τ).loc Cert.BranchBwdIdeal.main_arg1) = m ((c.tc : Thread Cert.BranchBwdIdeal.nD Cert.BranchBwdIdeal.τ).loc Cert.BranchBwdIdeal.main_arg1))
      ∧ r.2.sem = fun _ => 0)

def quiescent_BranchBwdReferenceIdeal [hBranchBwdReferenceIdeal : Cert.BranchBwdReferenceIdeal.Facts] : Prop :=
  ∀ (m : (ℓ : Loc Cert.BranchBwdReferenceIdeal.nD Cert.BranchBwdReferenceIdeal.τ Cert.BranchBwdReferenceIdeal.sig) → Buf (Elt Ideal) ℓ) (g : Dev Cert.BranchBwdReferenceIdeal.nD → PrngReg), Pre_BranchBwdReferenceIdeal m →
    θ_run (Cert.BranchBwdReferenceIdeal.defs (F := Ideal)) (onTc (τ := Cert.BranchBwdReferenceIdeal.τ) (Cert.BranchBwdReferenceIdeal.main (F := Ideal))) ⟨m, fun _ => 0, g⟩ (fun r => (∀ c : Dev Cert.BranchBwdReferenceIdeal.nD,
      r.2.mem ((c.tc : Thread Cert.BranchBwdReferenceIdeal.nD Cert.BranchBwdReferenceIdeal.τ).loc Cert.BranchBwdReferenceIdeal.main_arg0) = m ((c.tc : Thread Cert.BranchBwdReferenceIdeal.nD Cert.BranchBwdReferenceIdeal.τ).loc Cert.BranchBwdReferenceIdeal.main_arg0)
      ∧ r.2.mem ((c.tc : Thread Cert.BranchBwdReferenceIdeal.nD Cert.BranchBwdReferenceIdeal.τ).loc Cert.BranchBwdReferenceIdeal.main_arg1) = m ((c.tc : Thread Cert.BranchBwdReferenceIdeal.nD Cert.BranchBwdReferenceIdeal.τ).loc Cert.BranchBwdReferenceIdeal.main_arg1))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_DwBranchReferenceIdeal [hDwBranchReferenceIdeal : Cert.DwBranchReferenceIdeal.Facts] : Prop :=
  ∀ (m : (ℓ : Loc Cert.DwBranchReferenceIdeal.nD Cert.DwBranchReferenceIdeal.τ Cert.DwBranchReferenceIdeal.sig) → Buf (Elt Ideal) ℓ) (g : Dev Cert.DwBranchReferenceIdeal.nD → PrngReg), Pre_DwBranchReferenceIdeal m →
    θ_run (Cert.DwBranchReferenceIdeal.defs (F := Ideal)) (onTc (τ := Cert.DwBranchReferenceIdeal.τ) (Cert.DwBranchReferenceIdeal.main (F := Ideal))) ⟨m, fun _ => 0, g⟩ (fun r => (∀ c : Dev Cert.DwBranchReferenceIdeal.nD,
      r.2.mem ((c.tc : Thread Cert.DwBranchReferenceIdeal.nD Cert.DwBranchReferenceIdeal.τ).loc Cert.DwBranchReferenceIdeal.main_arg0) = m ((c.tc : Thread Cert.DwBranchReferenceIdeal.nD Cert.DwBranchReferenceIdeal.τ).loc Cert.DwBranchReferenceIdeal.main_arg0)
      ∧ r.2.mem ((c.tc : Thread Cert.DwBranchReferenceIdeal.nD Cert.DwBranchReferenceIdeal.τ).loc Cert.DwBranchReferenceIdeal.main_arg1) = m ((c.tc : Thread Cert.DwBranchReferenceIdeal.nD Cert.DwBranchReferenceIdeal.τ).loc Cert.DwBranchReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1)
      ∧ r.2.mem ((c.tc : Thread Cert.DwInReferenceIdeal.nD Cert.DwInReferenceIdeal.τ).loc Cert.DwInReferenceIdeal.main_arg2) = m ((c.tc : Thread Cert.DwInReferenceIdeal.nD Cert.DwInReferenceIdeal.τ).loc Cert.DwInReferenceIdeal.main_arg2))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdReferenceIdeal [hProjBwdReferenceIdeal : Cert.ProjBwdReferenceIdeal.Facts] : Prop :=
  ∀ (m : (ℓ : Loc Cert.ProjBwdReferenceIdeal.nD Cert.ProjBwdReferenceIdeal.τ Cert.ProjBwdReferenceIdeal.sig) → Buf (Elt Ideal) ℓ) (g : Dev Cert.ProjBwdReferenceIdeal.nD → PrngReg), Pre_ProjBwdReferenceIdeal m →
    θ_run (Cert.ProjBwdReferenceIdeal.defs (F := Ideal)) (onTc (τ := Cert.ProjBwdReferenceIdeal.τ) (Cert.ProjBwdReferenceIdeal.main (F := Ideal))) ⟨m, fun _ => 0, g⟩ (fun r => (∀ c : Dev Cert.ProjBwdReferenceIdeal.nD,
      r.2.mem ((c.tc : Thread Cert.ProjBwdReferenceIdeal.nD Cert.ProjBwdReferenceIdeal.τ).loc Cert.ProjBwdReferenceIdeal.main_arg0) = m ((c.tc : Thread Cert.ProjBwdReferenceIdeal.nD Cert.ProjBwdReferenceIdeal.τ).loc Cert.ProjBwdReferenceIdeal.main_arg0)
      ∧ r.2.mem ((c.tc : Thread Cert.ProjBwdReferenceIdeal.nD Cert.ProjBwdReferenceIdeal.τ).loc Cert.ProjBwdReferenceIdeal.main_arg1) = m ((c.tc : Thread Cert.ProjBwdReferenceIdeal.nD Cert.ProjBwdReferenceIdeal.τ).loc Cert.ProjBwdReferenceIdeal.main_arg1)
      ∧ r.2.mem ((c.tc : Thread Cert.ProjBwdReferenceIdeal.nD Cert.ProjBwdReferenceIdeal.τ).loc Cert.ProjBwdReferenceIdeal.main_arg2) = m ((c.tc : Thread Cert.ProjBwdReferenceIdeal.nD Cert.ProjBwdReferenceIdeal.τ).loc Cert.ProjBwdReferenceIdeal.main_arg2)
      ∧ r.2.mem ((c.tc : Thread Cert.ProjBwdReferenceIdeal.nD Cert.ProjBwdReferenceIdeal.τ).loc Cert.ProjBwdReferenceIdeal.main_arg3) = m ((c.tc : Thread Cert.ProjBwdReferenceIdeal.nD Cert.ProjBwdReferenceIdeal.τ).loc Cert.ProjBwdReferenceIdeal.main_arg3)
      ∧ r.2.mem ((c.tc : Thread Cert.ProjBwdReferenceIdeal.nD Cert.ProjBwdReferenceIdeal.τ).loc Cert.ProjBwdReferenceIdeal.main_arg4) = m ((c.tc : Thread Cert.ProjBwdReferenceIdeal.nD Cert.ProjBwdReferenceIdeal.τ).loc Cert.ProjBwdReferenceIdeal.main_arg4))
      ∧ r.2.sem = fun _ => 0)

def quiescent_MlpDownBwd [hMlpDownBwd : Cert.MlpDownBwd.Facts] : Prop :=
  ∀ (m : (ℓ : Loc Cert.MlpDownBwd.nD Cert.MlpDownBwd.τ Cert.MlpDownBwd.sig) → Buf (Elt Bits) ℓ) (g : Dev Cert.MlpDownBwd.nD → PrngReg), Pre_MlpDownBwd m →
    θ_run (Cert.MlpDownBwd.defs (F := Bits)) (onTc (τ := Cert.MlpDownBwd.τ) (Cert.MlpDownBwd.main (F := Bits))) ⟨m, fun _ => 0, g⟩ (fun r => (∀ c : Dev Cert.MlpDownBwd.nD,
      r.2.mem ((c.tc : Thread Cert.MlpDownBwd.nD Cert.MlpDownBwd.τ).loc Cert.MlpDownBwd.main_arg0) = m ((c.tc : Thread Cert.MlpDownBwd.nD Cert.MlpDownBwd.τ).loc Cert.MlpDownBwd.main_arg0)
      ∧ r.2.mem ((c.tc : Thread Cert.MlpDownBwd.nD Cert.MlpDownBwd.τ).loc Cert.MlpDownBwd.main_arg1) = m ((c.tc : Thread Cert.MlpDownBwd.nD Cert.MlpDownBwd.τ).loc Cert.MlpDownBwd.main_arg1)
      ∧ r.2.mem ((c.tc : Thread Cert.MlpDownBwd.nD Cert.MlpDownBwd.τ).loc Cert.MlpDownBwd.main_arg2) = m ((c.tc : Thread Cert.MlpDownBwd.nD Cert.MlpDownBwd.τ).loc Cert.MlpDownBwd.main_arg2)
      ∧ r.2.mem ((c.tc : Thread Cert.MlpDownBwd.nD Cert.MlpDownBwd.τ).loc Cert.MlpDownBwd.main_arg3) = m ((c.tc : Thread Cert.MlpDownBwd.nD Cert.MlpDownBwd.τ).loc Cert.MlpDownBwd.main_arg3)
      ∧ r.2.mem ((c.tc : Thread Cert.MlpDownBwd.nD Cert.MlpDownBwd.τ).loc Cert.MlpDownBwd.main_arg4) = m ((c.tc : Thread Cert.MlpDownBwd.nD Cert.MlpDownBwd.τ).loc Cert.MlpDownBwd.main_arg4))
      ∧ r.2.sem = fun _ => 0)

def quiescent_MlpDownBwdIdeal [hMlpDownBwdIdeal : Cert.MlpDownBwdIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg), Pre_MlpDownBwdIdeal m →
    θ_run (Cert.MlpDownBwdIdeal.defs (F := Ideal)) (onTc (τ := Cert.MlpDownBwdIdeal.τ) (Cert.MlpDownBwdIdeal.main (F := Ideal))) ⟨m, fun _ => 0, g⟩ (fun r => (∀ c : Dev Cert.MlpDownBwdIdeal.nD,
      r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
      ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
      ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2)
      ∧ r.2.mem ((c.tc : Thread Cert.MlpDownBwdIdeal.nD Cert.MlpDownBwdIdeal.τ).loc Cert.MlpDownBwdIdeal.main_arg3) = m ((c.tc : Thread Cert.MlpDownBwdIdeal.nD Cert.MlpDownBwdIdeal.τ).loc Cert.MlpDownBwdIdeal.main_arg3)
      ∧ r.2.mem ((c.tc : Thread Cert.MlpDownBwdIdeal.nD Cert.MlpDownBwdIdeal.τ).loc Cert.MlpDownBwdIdeal.main_arg4) = m ((c.tc : Thread Cert.MlpDownBwdIdeal.nD Cert.MlpDownBwdIdeal.τ).loc Cert.MlpDownBwdIdeal.main_arg4))
      ∧ r.2.sem = fun _ => 0)

def quiescent_MlpDownBwdReferenceIdeal [hMlpDownBwdReferenceIdeal : Cert.MlpDownBwdReferenceIdeal.Facts] : Prop :=
  ∀ (m : (ℓ : Loc Cert.MlpDownBwdReferenceIdeal.nD Cert.MlpDownBwdReferenceIdeal.τ Cert.MlpDownBwdReferenceIdeal.sig) → Buf (Elt Ideal) ℓ) (g : Dev Cert.MlpDownBwdReferenceIdeal.nD → PrngReg), Pre_MlpDownBwdReferenceIdeal m →
    θ_run (Cert.MlpDownBwdReferenceIdeal.defs (F := Ideal)) (onTc (τ := Cert.MlpDownBwdReferenceIdeal.τ) (Cert.MlpDownBwdReferenceIdeal.main (F := Ideal))) ⟨m, fun _ => 0, g⟩ (fun r => (∀ c : Dev Cert.MlpDownBwdReferenceIdeal.nD,
      r.2.mem ((c.tc : Thread Cert.MlpDownBwdReferenceIdeal.nD Cert.MlpDownBwdReferenceIdeal.τ).loc Cert.MlpDownBwdReferenceIdeal.main_arg0) = m ((c.tc : Thread Cert.MlpDownBwdReferenceIdeal.nD Cert.MlpDownBwdReferenceIdeal.τ).loc Cert.MlpDownBwdReferenceIdeal.main_arg0)
      ∧ r.2.mem ((c.tc : Thread Cert.MlpDownBwdReferenceIdeal.nD Cert.MlpDownBwdReferenceIdeal.τ).loc Cert.MlpDownBwdReferenceIdeal.main_arg1) = m ((c.tc : Thread Cert.MlpDownBwdReferenceIdeal.nD Cert.MlpDownBwdReferenceIdeal.τ).loc Cert.MlpDownBwdReferenceIdeal.main_arg1)
      ∧ r.2.mem ((c.tc : Thread Cert.MlpDownBwdReferenceIdeal.nD Cert.MlpDownBwdReferenceIdeal.τ).loc Cert.MlpDownBwdReferenceIdeal.main_arg2) = m ((c.tc : Thread Cert.MlpDownBwdReferenceIdeal.nD Cert.MlpDownBwdReferenceIdeal.τ).loc Cert.MlpDownBwdReferenceIdeal.main_arg2)
      ∧ r.2.mem ((c.tc : Thread Cert.MlpDownBwdReferenceIdeal.nD Cert.MlpDownBwdReferenceIdeal.τ).loc Cert.MlpDownBwdReferenceIdeal.main_arg3) = m ((c.tc : Thread Cert.MlpDownBwdReferenceIdeal.nD Cert.MlpDownBwdReferenceIdeal.τ).loc Cert.MlpDownBwdReferenceIdeal.main_arg3)
      ∧ r.2.mem ((c.tc : Thread Cert.MlpDownBwdReferenceIdeal.nD Cert.MlpDownBwdReferenceIdeal.τ).loc Cert.MlpDownBwdReferenceIdeal.main_arg4) = m ((c.tc : Thread Cert.MlpDownBwdReferenceIdeal.nD Cert.MlpDownBwdReferenceIdeal.τ).loc Cert.MlpDownBwdReferenceIdeal.main_arg4))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2)
      ∧ r.2.mem ((c.tc : Thread Cert.DwDown.nD Cert.DwDown.τ).loc Cert.DwDown.main_arg3) = m ((c.tc : Thread Cert.DwDown.nD Cert.DwDown.τ).loc Cert.DwDown.main_arg3))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
      ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1)
      ∧ r.2.mem ((c.tc : Thread Cert.DwDownReferenceIdeal.nD Cert.DwDownReferenceIdeal.τ).loc Cert.DwDownReferenceIdeal.main_arg2) = m ((c.tc : Thread Cert.DwDownReferenceIdeal.nD Cert.DwDownReferenceIdeal.τ).loc Cert.DwDownReferenceIdeal.main_arg2)
      ∧ r.2.mem ((c.tc : Thread Cert.DwDownReferenceIdeal.nD Cert.DwDownReferenceIdeal.τ).loc Cert.DwDownReferenceIdeal.main_arg3) = m ((c.tc : Thread Cert.DwDownReferenceIdeal.nD Cert.DwDownReferenceIdeal.τ).loc Cert.DwDownReferenceIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1)
      ∧ r.2.mem ((c.tc : Thread Cert.DwUpReferenceIdeal.nD Cert.DwUpReferenceIdeal.τ).loc Cert.DwUpReferenceIdeal.main_arg2) = m ((c.tc : Thread Cert.DwUpReferenceIdeal.nD Cert.DwUpReferenceIdeal.τ).loc Cert.DwUpReferenceIdeal.main_arg2))
      ∧ r.2.sem = fun _ => 0)

def quiescent_MlpUpBwd [hMlpUpBwd : Cert.MlpUpBwd.Facts] : Prop :=
  ∀ (m : (ℓ : Loc Cert.MlpUpBwd.nD Cert.MlpUpBwd.τ Cert.MlpUpBwd.sig) → Buf (Elt Bits) ℓ) (g : Dev Cert.MlpUpBwd.nD → PrngReg), Pre_MlpUpBwd m →
    θ_run (Cert.MlpUpBwd.defs (F := Bits)) (onTc (τ := Cert.MlpUpBwd.τ) (Cert.MlpUpBwd.main (F := Bits))) ⟨m, fun _ => 0, g⟩ (fun r => (∀ c : Dev Cert.MlpUpBwd.nD,
      r.2.mem ((c.tc : Thread Cert.MlpUpBwd.nD Cert.MlpUpBwd.τ).loc Cert.MlpUpBwd.main_arg0) = m ((c.tc : Thread Cert.MlpUpBwd.nD Cert.MlpUpBwd.τ).loc Cert.MlpUpBwd.main_arg0)
      ∧ r.2.mem ((c.tc : Thread Cert.MlpUpBwd.nD Cert.MlpUpBwd.τ).loc Cert.MlpUpBwd.main_arg1) = m ((c.tc : Thread Cert.MlpUpBwd.nD Cert.MlpUpBwd.τ).loc Cert.MlpUpBwd.main_arg1)
      ∧ r.2.mem ((c.tc : Thread Cert.MlpUpBwd.nD Cert.MlpUpBwd.τ).loc Cert.MlpUpBwd.main_arg2) = m ((c.tc : Thread Cert.MlpUpBwd.nD Cert.MlpUpBwd.τ).loc Cert.MlpUpBwd.main_arg2)
      ∧ r.2.mem ((c.tc : Thread Cert.MlpUpBwd.nD Cert.MlpUpBwd.τ).loc Cert.MlpUpBwd.main_arg3) = m ((c.tc : Thread Cert.MlpUpBwd.nD Cert.MlpUpBwd.τ).loc Cert.MlpUpBwd.main_arg3)
      ∧ r.2.mem ((c.tc : Thread Cert.MlpUpBwd.nD Cert.MlpUpBwd.τ).loc Cert.MlpUpBwd.main_arg4) = m ((c.tc : Thread Cert.MlpUpBwd.nD Cert.MlpUpBwd.τ).loc Cert.MlpUpBwd.main_arg4))
      ∧ r.2.sem = fun _ => 0)

def quiescent_MlpUpBwdIdeal [hMlpUpBwdIdeal : Cert.MlpUpBwdIdeal.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg), Pre_MlpUpBwdIdeal m →
    θ_run (Cert.MlpUpBwdIdeal.defs (F := Ideal)) (onTc (τ := Cert.MlpUpBwdIdeal.τ) (Cert.MlpUpBwdIdeal.main (F := Ideal))) ⟨m, fun _ => 0, g⟩ (fun r => (∀ c : Dev Cert.MlpUpBwdIdeal.nD,
      r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
      ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
      ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2)
      ∧ r.2.mem ((c.tc : Thread Cert.MlpUpBwdIdeal.nD Cert.MlpUpBwdIdeal.τ).loc Cert.MlpUpBwdIdeal.main_arg3) = m ((c.tc : Thread Cert.MlpUpBwdIdeal.nD Cert.MlpUpBwdIdeal.τ).loc Cert.MlpUpBwdIdeal.main_arg3)
      ∧ r.2.mem ((c.tc : Thread Cert.MlpUpBwdIdeal.nD Cert.MlpUpBwdIdeal.τ).loc Cert.MlpUpBwdIdeal.main_arg4) = m ((c.tc : Thread Cert.MlpUpBwdIdeal.nD Cert.MlpUpBwdIdeal.τ).loc Cert.MlpUpBwdIdeal.main_arg4))
      ∧ r.2.sem = fun _ => 0)

def quiescent_MlpUpBwdReferenceIdeal [hMlpUpBwdReferenceIdeal : Cert.MlpUpBwdReferenceIdeal.Facts] : Prop :=
  ∀ (m : (ℓ : Loc Cert.MlpUpBwdReferenceIdeal.nD Cert.MlpUpBwdReferenceIdeal.τ Cert.MlpUpBwdReferenceIdeal.sig) → Buf (Elt Ideal) ℓ) (g : Dev Cert.MlpUpBwdReferenceIdeal.nD → PrngReg), Pre_MlpUpBwdReferenceIdeal m →
    θ_run (Cert.MlpUpBwdReferenceIdeal.defs (F := Ideal)) (onTc (τ := Cert.MlpUpBwdReferenceIdeal.τ) (Cert.MlpUpBwdReferenceIdeal.main (F := Ideal))) ⟨m, fun _ => 0, g⟩ (fun r => (∀ c : Dev Cert.MlpUpBwdReferenceIdeal.nD,
      r.2.mem ((c.tc : Thread Cert.MlpUpBwdReferenceIdeal.nD Cert.MlpUpBwdReferenceIdeal.τ).loc Cert.MlpUpBwdReferenceIdeal.main_arg0) = m ((c.tc : Thread Cert.MlpUpBwdReferenceIdeal.nD Cert.MlpUpBwdReferenceIdeal.τ).loc Cert.MlpUpBwdReferenceIdeal.main_arg0)
      ∧ r.2.mem ((c.tc : Thread Cert.MlpUpBwdReferenceIdeal.nD Cert.MlpUpBwdReferenceIdeal.τ).loc Cert.MlpUpBwdReferenceIdeal.main_arg1) = m ((c.tc : Thread Cert.MlpUpBwdReferenceIdeal.nD Cert.MlpUpBwdReferenceIdeal.τ).loc Cert.MlpUpBwdReferenceIdeal.main_arg1)
      ∧ r.2.mem ((c.tc : Thread Cert.MlpUpBwdReferenceIdeal.nD Cert.MlpUpBwdReferenceIdeal.τ).loc Cert.MlpUpBwdReferenceIdeal.main_arg2) = m ((c.tc : Thread Cert.MlpUpBwdReferenceIdeal.nD Cert.MlpUpBwdReferenceIdeal.τ).loc Cert.MlpUpBwdReferenceIdeal.main_arg2)
      ∧ r.2.mem ((c.tc : Thread Cert.MlpUpBwdReferenceIdeal.nD Cert.MlpUpBwdReferenceIdeal.τ).loc Cert.MlpUpBwdReferenceIdeal.main_arg3) = m ((c.tc : Thread Cert.MlpUpBwdReferenceIdeal.nD Cert.MlpUpBwdReferenceIdeal.τ).loc Cert.MlpUpBwdReferenceIdeal.main_arg3)
      ∧ r.2.mem ((c.tc : Thread Cert.MlpUpBwdReferenceIdeal.nD Cert.MlpUpBwdReferenceIdeal.τ).loc Cert.MlpUpBwdReferenceIdeal.main_arg4) = m ((c.tc : Thread Cert.MlpUpBwdReferenceIdeal.nD Cert.MlpUpBwdReferenceIdeal.τ).loc Cert.MlpUpBwdReferenceIdeal.main_arg4))
      ∧ r.2.sem = fun _ => 0)

def quiescent_OutProjBwd [hOutProjBwd : Cert.OutProjBwd.Facts] : Prop :=
  ∀ (m : (ℓ : Loc Cert.OutProjBwd.nD Cert.OutProjBwd.τ Cert.OutProjBwd.sig) → Buf (Elt Bits) ℓ) (g : Dev Cert.OutProjBwd.nD → PrngReg), Pre_OutProjBwd m →
    θ_run (Cert.OutProjBwd.defs (F := Bits)) (onTc (τ := Cert.OutProjBwd.τ) (Cert.OutProjBwd.main (F := Bits))) ⟨m, fun _ => 0, g⟩ (fun r => (∀ c : Dev Cert.OutProjBwd.nD,
      r.2.mem ((c.tc : Thread Cert.OutProjBwd.nD Cert.OutProjBwd.τ).loc Cert.OutProjBwd.main_arg0) = m ((c.tc : Thread Cert.OutProjBwd.nD Cert.OutProjBwd.τ).loc Cert.OutProjBwd.main_arg0)
      ∧ r.2.mem ((c.tc : Thread Cert.OutProjBwd.nD Cert.OutProjBwd.τ).loc Cert.OutProjBwd.main_arg1) = m ((c.tc : Thread Cert.OutProjBwd.nD Cert.OutProjBwd.τ).loc Cert.OutProjBwd.main_arg1))
      ∧ r.2.sem = fun _ => 0)

def quiescent_OutProjBwdIdeal [hOutProjBwdIdeal : Cert.OutProjBwdIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg), Pre_OutProjBwdIdeal m →
    θ_run (Cert.OutProjBwdIdeal.defs (F := Ideal)) (onTc (τ := Cert.OutProjBwdIdeal.τ) (Cert.OutProjBwdIdeal.main (F := Ideal))) ⟨m, fun _ => 0, g⟩ (fun r => (∀ c : Dev Cert.OutProjBwdIdeal.nD,
      r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
      ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1))
      ∧ r.2.sem = fun _ => 0)

def quiescent_OutProjBwdReferenceIdeal [hOutProjBwdReferenceIdeal : Cert.OutProjBwdReferenceIdeal.Facts] : Prop :=
  ∀ (m : (ℓ : Loc Cert.OutProjBwdReferenceIdeal.nD Cert.OutProjBwdReferenceIdeal.τ Cert.OutProjBwdReferenceIdeal.sig) → Buf (Elt Ideal) ℓ) (g : Dev Cert.OutProjBwdReferenceIdeal.nD → PrngReg), Pre_OutProjBwdReferenceIdeal m →
    θ_run (Cert.OutProjBwdReferenceIdeal.defs (F := Ideal)) (onTc (τ := Cert.OutProjBwdReferenceIdeal.τ) (Cert.OutProjBwdReferenceIdeal.main (F := Ideal))) ⟨m, fun _ => 0, g⟩ (fun r => (∀ c : Dev Cert.OutProjBwdReferenceIdeal.nD,
      r.2.mem ((c.tc : Thread Cert.OutProjBwdReferenceIdeal.nD Cert.OutProjBwdReferenceIdeal.τ).loc Cert.OutProjBwdReferenceIdeal.main_arg0) = m ((c.tc : Thread Cert.OutProjBwdReferenceIdeal.nD Cert.OutProjBwdReferenceIdeal.τ).loc Cert.OutProjBwdReferenceIdeal.main_arg0)
      ∧ r.2.mem ((c.tc : Thread Cert.OutProjBwdReferenceIdeal.nD Cert.OutProjBwdReferenceIdeal.τ).loc Cert.OutProjBwdReferenceIdeal.main_arg1) = m ((c.tc : Thread Cert.OutProjBwdReferenceIdeal.nD Cert.OutProjBwdReferenceIdeal.τ).loc Cert.OutProjBwdReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4)
      ∧ r.2.mem ((c.tc : Thread Cert.PleBwd.nD Cert.PleBwd.τ).loc Cert.PleBwd.main_arg5) = m ((c.tc : Thread Cert.PleBwd.nD Cert.PleBwd.τ).loc Cert.PleBwd.main_arg5))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ r.2.sem = fun _ => 0)

def quiescent_PleBwdReferenceIdeal [hPleBwdReferenceIdeal : Cert.PleBwdReferenceIdeal.Facts] : Prop :=
  ∀ (m : (ℓ : Loc Cert.PleBwdReferenceIdeal.nD Cert.PleBwdReferenceIdeal.τ Cert.PleBwdReferenceIdeal.sig) → Buf (Elt Ideal) ℓ) (g : Dev Cert.PleBwdReferenceIdeal.nD → PrngReg), Pre_PleBwdReferenceIdeal m →
    θ_run (Cert.PleBwdReferenceIdeal.defs (F := Ideal)) (onTc (τ := Cert.PleBwdReferenceIdeal.τ) (Cert.PleBwdReferenceIdeal.main (F := Ideal))) ⟨m, fun _ => 0, g⟩ (fun r => (∀ c : Dev Cert.PleBwdReferenceIdeal.nD,
      r.2.mem ((c.tc : Thread Cert.PleBwdReferenceIdeal.nD Cert.PleBwdReferenceIdeal.τ).loc Cert.PleBwdReferenceIdeal.main_arg0) = m ((c.tc : Thread Cert.PleBwdReferenceIdeal.nD Cert.PleBwdReferenceIdeal.τ).loc Cert.PleBwdReferenceIdeal.main_arg0)
      ∧ r.2.mem ((c.tc : Thread Cert.PleBwdReferenceIdeal.nD Cert.PleBwdReferenceIdeal.τ).loc Cert.PleBwdReferenceIdeal.main_arg1) = m ((c.tc : Thread Cert.PleBwdReferenceIdeal.nD Cert.PleBwdReferenceIdeal.τ).loc Cert.PleBwdReferenceIdeal.main_arg1)
      ∧ r.2.mem ((c.tc : Thread Cert.PleBwdReferenceIdeal.nD Cert.PleBwdReferenceIdeal.τ).loc Cert.PleBwdReferenceIdeal.main_arg2) = m ((c.tc : Thread Cert.PleBwdReferenceIdeal.nD Cert.PleBwdReferenceIdeal.τ).loc Cert.PleBwdReferenceIdeal.main_arg2)
      ∧ r.2.mem ((c.tc : Thread Cert.PleBwdReferenceIdeal.nD Cert.PleBwdReferenceIdeal.τ).loc Cert.PleBwdReferenceIdeal.main_arg3) = m ((c.tc : Thread Cert.PleBwdReferenceIdeal.nD Cert.PleBwdReferenceIdeal.τ).loc Cert.PleBwdReferenceIdeal.main_arg3)
      ∧ r.2.mem ((c.tc : Thread Cert.PleBwdReferenceIdeal.nD Cert.PleBwdReferenceIdeal.τ).loc Cert.PleBwdReferenceIdeal.main_arg4) = m ((c.tc : Thread Cert.PleBwdReferenceIdeal.nD Cert.PleBwdReferenceIdeal.τ).loc Cert.PleBwdReferenceIdeal.main_arg4)
      ∧ r.2.mem ((c.tc : Thread Cert.PleBwdReferenceIdeal.nD Cert.PleBwdReferenceIdeal.τ).loc Cert.PleBwdReferenceIdeal.main_arg5) = m ((c.tc : Thread Cert.PleBwdReferenceIdeal.nD Cert.PleBwdReferenceIdeal.τ).loc Cert.PleBwdReferenceIdeal.main_arg5))
      ∧ r.2.sem = fun _ => 0)

def quiescent_DwPle [hDwPle : Cert.DwPle.Facts] : Prop :=
  ∀ (m : (ℓ : Loc Cert.DwPle.nD Cert.DwPle.τ Cert.DwPle.sig) → Buf (Elt Bits) ℓ) (g : Dev Cert.DwPle.nD → PrngReg), Pre_DwPle m →
    θ_run (Cert.DwPle.defs (F := Bits)) (onTc (τ := Cert.DwPle.τ) (Cert.DwPle.main (F := Bits))) ⟨m, fun _ => 0, g⟩ (fun r => (∀ c : Dev Cert.DwPle.nD,
      r.2.mem ((c.tc : Thread Cert.DwPle.nD Cert.DwPle.τ).loc Cert.DwPle.main_arg0) = m ((c.tc : Thread Cert.DwPle.nD Cert.DwPle.τ).loc Cert.DwPle.main_arg0)
      ∧ r.2.mem ((c.tc : Thread Cert.DwPle.nD Cert.DwPle.τ).loc Cert.DwPle.main_arg1) = m ((c.tc : Thread Cert.DwPle.nD Cert.DwPle.τ).loc Cert.DwPle.main_arg1))
      ∧ r.2.sem = fun _ => 0)

def quiescent_DwPleIdeal [hDwPleIdeal : Cert.DwPleIdeal.Facts] : Prop :=
  ∀ (m : (ℓ : Loc Cert.DwPleIdeal.nD Cert.DwPleIdeal.τ Cert.DwPleIdeal.sig) → Buf (Elt Ideal) ℓ) (g : Dev Cert.DwPleIdeal.nD → PrngReg), Pre_DwPleIdeal m →
    θ_run (Cert.DwPleIdeal.defs (F := Ideal)) (onTc (τ := Cert.DwPleIdeal.τ) (Cert.DwPleIdeal.main (F := Ideal))) ⟨m, fun _ => 0, g⟩ (fun r => (∀ c : Dev Cert.DwPleIdeal.nD,
      r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
      ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1))
      ∧ r.2.sem = fun _ => 0)

def quiescent_DwPleReferenceIdeal [hDwPleReferenceIdeal : Cert.DwPleReferenceIdeal.Facts] : Prop :=
  ∀ (m : (ℓ : Loc Cert.DwPleReferenceIdeal.nD Cert.DwPleReferenceIdeal.τ Cert.DwPleReferenceIdeal.sig) → Buf (Elt Ideal) ℓ) (g : Dev Cert.DwPleReferenceIdeal.nD → PrngReg), Pre_DwPleReferenceIdeal m →
    θ_run (Cert.DwPleReferenceIdeal.defs (F := Ideal)) (onTc (τ := Cert.DwPleReferenceIdeal.τ) (Cert.DwPleReferenceIdeal.main (F := Ideal))) ⟨m, fun _ => 0, g⟩ (fun r => (∀ c : Dev Cert.DwPleReferenceIdeal.nD,
      r.2.mem ((c.tc : Thread Cert.DwPleReferenceIdeal.nD Cert.DwPleReferenceIdeal.τ).loc Cert.DwPleReferenceIdeal.main_arg0) = m ((c.tc : Thread Cert.DwPleReferenceIdeal.nD Cert.DwPleReferenceIdeal.τ).loc Cert.DwPleReferenceIdeal.main_arg0)
      ∧ r.2.mem ((c.tc : Thread Cert.DwPleReferenceIdeal.nD Cert.DwPleReferenceIdeal.τ).loc Cert.DwPleReferenceIdeal.main_arg1) = m ((c.tc : Thread Cert.DwPleReferenceIdeal.nD Cert.DwPleReferenceIdeal.τ).loc Cert.DwPleReferenceIdeal.main_arg1))
      ∧ r.2.sem = fun _ => 0)

def quiescent_DwPleGate [hDwPleGate : Cert.DwPleGate.Facts] : Prop :=
  ∀ (m : (ℓ : Loc Cert.DwPleGate.nD Cert.DwPleGate.τ Cert.DwPleGate.sig) → Buf (Elt Bits) ℓ) (g : Dev Cert.DwPleGate.nD → PrngReg), Pre_DwPleGate m →
    θ_run (Cert.DwPleGate.defs (F := Bits)) (onTc (τ := Cert.DwPleGate.τ) (Cert.DwPleGate.main (F := Bits))) ⟨m, fun _ => 0, g⟩ (fun r => (∀ c : Dev Cert.DwPleGate.nD,
      r.2.mem ((c.tc : Thread Cert.DwPleGate.nD Cert.DwPleGate.τ).loc Cert.DwPleGate.main_arg0) = m ((c.tc : Thread Cert.DwPleGate.nD Cert.DwPleGate.τ).loc Cert.DwPleGate.main_arg0)
      ∧ r.2.mem ((c.tc : Thread Cert.DwPleGate.nD Cert.DwPleGate.τ).loc Cert.DwPleGate.main_arg1) = m ((c.tc : Thread Cert.DwPleGate.nD Cert.DwPleGate.τ).loc Cert.DwPleGate.main_arg1)
      ∧ r.2.mem ((c.tc : Thread Cert.DwPleGate.nD Cert.DwPleGate.τ).loc Cert.DwPleGate.main_arg2) = m ((c.tc : Thread Cert.DwPleGate.nD Cert.DwPleGate.τ).loc Cert.DwPleGate.main_arg2))
      ∧ r.2.sem = fun _ => 0)

def quiescent_DwPleGateIdeal [hDwPleGateIdeal : Cert.DwPleGateIdeal.Facts] : Prop :=
  ∀ (m : (ℓ : Loc Cert.DwPleGateIdeal.nD Cert.DwPleGateIdeal.τ Cert.DwPleGateIdeal.sig) → Buf (Elt Ideal) ℓ) (g : Dev Cert.DwPleGateIdeal.nD → PrngReg), Pre_DwPleGateIdeal m →
    θ_run (Cert.DwPleGateIdeal.defs (F := Ideal)) (onTc (τ := Cert.DwPleGateIdeal.τ) (Cert.DwPleGateIdeal.main (F := Ideal))) ⟨m, fun _ => 0, g⟩ (fun r => (∀ c : Dev Cert.DwPleGateIdeal.nD,
      r.2.mem ((c.tc : Thread Cert.DwPleGateIdeal.nD Cert.DwPleGateIdeal.τ).loc Cert.DwPleGateIdeal.main_arg0) = m ((c.tc : Thread Cert.DwPleGateIdeal.nD Cert.DwPleGateIdeal.τ).loc Cert.DwPleGateIdeal.main_arg0)
      ∧ r.2.mem ((c.tc : Thread Cert.DwPleGateIdeal.nD Cert.DwPleGateIdeal.τ).loc Cert.DwPleGateIdeal.main_arg1) = m ((c.tc : Thread Cert.DwPleGateIdeal.nD Cert.DwPleGateIdeal.τ).loc Cert.DwPleGateIdeal.main_arg1)
      ∧ r.2.mem ((c.tc : Thread Cert.DwPleGateIdeal.nD Cert.DwPleGateIdeal.τ).loc Cert.DwPleGateIdeal.main_arg2) = m ((c.tc : Thread Cert.DwPleGateIdeal.nD Cert.DwPleGateIdeal.τ).loc Cert.DwPleGateIdeal.main_arg2))
      ∧ r.2.sem = fun _ => 0)

def quiescent_DwPleGateReferenceIdeal [hDwPleGateReferenceIdeal : Cert.DwPleGateReferenceIdeal.Facts] : Prop :=
  ∀ (m : (ℓ : Loc Cert.DwPleGateReferenceIdeal.nD Cert.DwPleGateReferenceIdeal.τ Cert.DwPleGateReferenceIdeal.sig) → Buf (Elt Ideal) ℓ) (g : Dev Cert.DwPleGateReferenceIdeal.nD → PrngReg), Pre_DwPleGateReferenceIdeal m →
    θ_run (Cert.DwPleGateReferenceIdeal.defs (F := Ideal)) (onTc (τ := Cert.DwPleGateReferenceIdeal.τ) (Cert.DwPleGateReferenceIdeal.main (F := Ideal))) ⟨m, fun _ => 0, g⟩ (fun r => (∀ c : Dev Cert.DwPleGateReferenceIdeal.nD,
      r.2.mem ((c.tc : Thread Cert.DwPleGateReferenceIdeal.nD Cert.DwPleGateReferenceIdeal.τ).loc Cert.DwPleGateReferenceIdeal.main_arg0) = m ((c.tc : Thread Cert.DwPleGateReferenceIdeal.nD Cert.DwPleGateReferenceIdeal.τ).loc Cert.DwPleGateReferenceIdeal.main_arg0)
      ∧ r.2.mem ((c.tc : Thread Cert.DwPleGateReferenceIdeal.nD Cert.DwPleGateReferenceIdeal.τ).loc Cert.DwPleGateReferenceIdeal.main_arg1) = m ((c.tc : Thread Cert.DwPleGateReferenceIdeal.nD Cert.DwPleGateReferenceIdeal.τ).loc Cert.DwPleGateReferenceIdeal.main_arg1)
      ∧ r.2.mem ((c.tc : Thread Cert.DwPleGateReferenceIdeal.nD Cert.DwPleGateReferenceIdeal.τ).loc Cert.DwPleGateReferenceIdeal.main_arg2) = m ((c.tc : Thread Cert.DwPleGateReferenceIdeal.nD Cert.DwPleGateReferenceIdeal.τ).loc Cert.DwPleGateReferenceIdeal.main_arg2))
      ∧ r.2.sem = fun _ => 0)

def quiescent_DhPle [hDhPle : Cert.DhPle.Facts] : Prop :=
  ∀ (m : (ℓ : Loc Cert.DhPle.nD Cert.DhPle.τ Cert.DhPle.sig) → Buf (Elt Bits) ℓ) (g : Dev Cert.DhPle.nD → PrngReg), Pre_DhPle m →
    θ_run (Cert.DhPle.defs (F := Bits)) (onTc (τ := Cert.DhPle.τ) (Cert.DhPle.main (F := Bits))) ⟨m, fun _ => 0, g⟩ (fun r => (∀ c : Dev Cert.DhPle.nD,
      r.2.mem ((c.tc : Thread Cert.DhPle.nD Cert.DhPle.τ).loc Cert.DhPle.main_arg0) = m ((c.tc : Thread Cert.DhPle.nD Cert.DhPle.τ).loc Cert.DhPle.main_arg0)
      ∧ r.2.mem ((c.tc : Thread Cert.DhPle.nD Cert.DhPle.τ).loc Cert.DhPle.main_arg1) = m ((c.tc : Thread Cert.DhPle.nD Cert.DhPle.τ).loc Cert.DhPle.main_arg1)
      ∧ r.2.mem ((c.tc : Thread Cert.DhPle.nD Cert.DhPle.τ).loc Cert.DhPle.main_arg2) = m ((c.tc : Thread Cert.DhPle.nD Cert.DhPle.τ).loc Cert.DhPle.main_arg2)
      ∧ r.2.mem ((c.tc : Thread Cert.DhPle.nD Cert.DhPle.τ).loc Cert.DhPle.main_arg3) = m ((c.tc : Thread Cert.DhPle.nD Cert.DhPle.τ).loc Cert.DhPle.main_arg3)
      ∧ r.2.mem ((c.tc : Thread Cert.DhPle.nD Cert.DhPle.τ).loc Cert.DhPle.main_arg4) = m ((c.tc : Thread Cert.DhPle.nD Cert.DhPle.τ).loc Cert.DhPle.main_arg4))
      ∧ r.2.sem = fun _ => 0)

def quiescent_DhPleIdeal [hDhPleIdeal : Cert.DhPleIdeal.Facts] : Prop :=
  ∀ (m : (ℓ : Loc Cert.DhPleIdeal.nD Cert.DhPleIdeal.τ Cert.DhPleIdeal.sig) → Buf (Elt Ideal) ℓ) (g : Dev Cert.DhPleIdeal.nD → PrngReg), Pre_DhPleIdeal m →
    θ_run (Cert.DhPleIdeal.defs (F := Ideal)) (onTc (τ := Cert.DhPleIdeal.τ) (Cert.DhPleIdeal.main (F := Ideal))) ⟨m, fun _ => 0, g⟩ (fun r => (∀ c : Dev Cert.DhPleIdeal.nD,
      r.2.mem ((c.tc : Thread Cert.DhPleIdeal.nD Cert.DhPleIdeal.τ).loc Cert.DhPleIdeal.main_arg0) = m ((c.tc : Thread Cert.DhPleIdeal.nD Cert.DhPleIdeal.τ).loc Cert.DhPleIdeal.main_arg0)
      ∧ r.2.mem ((c.tc : Thread Cert.DhPleIdeal.nD Cert.DhPleIdeal.τ).loc Cert.DhPleIdeal.main_arg1) = m ((c.tc : Thread Cert.DhPleIdeal.nD Cert.DhPleIdeal.τ).loc Cert.DhPleIdeal.main_arg1)
      ∧ r.2.mem ((c.tc : Thread Cert.DhPleIdeal.nD Cert.DhPleIdeal.τ).loc Cert.DhPleIdeal.main_arg2) = m ((c.tc : Thread Cert.DhPleIdeal.nD Cert.DhPleIdeal.τ).loc Cert.DhPleIdeal.main_arg2)
      ∧ r.2.mem ((c.tc : Thread Cert.DhPleIdeal.nD Cert.DhPleIdeal.τ).loc Cert.DhPleIdeal.main_arg3) = m ((c.tc : Thread Cert.DhPleIdeal.nD Cert.DhPleIdeal.τ).loc Cert.DhPleIdeal.main_arg3)
      ∧ r.2.mem ((c.tc : Thread Cert.DhPleIdeal.nD Cert.DhPleIdeal.τ).loc Cert.DhPleIdeal.main_arg4) = m ((c.tc : Thread Cert.DhPleIdeal.nD Cert.DhPleIdeal.τ).loc Cert.DhPleIdeal.main_arg4))
      ∧ r.2.sem = fun _ => 0)

def quiescent_DhPleReferenceIdeal [hDhPleReferenceIdeal : Cert.DhPleReferenceIdeal.Facts] : Prop :=
  ∀ (m : (ℓ : Loc Cert.DhPleReferenceIdeal.nD Cert.DhPleReferenceIdeal.τ Cert.DhPleReferenceIdeal.sig) → Buf (Elt Ideal) ℓ) (g : Dev Cert.DhPleReferenceIdeal.nD → PrngReg), Pre_DhPleReferenceIdeal m →
    θ_run (Cert.DhPleReferenceIdeal.defs (F := Ideal)) (onTc (τ := Cert.DhPleReferenceIdeal.τ) (Cert.DhPleReferenceIdeal.main (F := Ideal))) ⟨m, fun _ => 0, g⟩ (fun r => (∀ c : Dev Cert.DhPleReferenceIdeal.nD,
      r.2.mem ((c.tc : Thread Cert.DhPleReferenceIdeal.nD Cert.DhPleReferenceIdeal.τ).loc Cert.DhPleReferenceIdeal.main_arg0) = m ((c.tc : Thread Cert.DhPleReferenceIdeal.nD Cert.DhPleReferenceIdeal.τ).loc Cert.DhPleReferenceIdeal.main_arg0)
      ∧ r.2.mem ((c.tc : Thread Cert.DhPleReferenceIdeal.nD Cert.DhPleReferenceIdeal.τ).loc Cert.DhPleReferenceIdeal.main_arg1) = m ((c.tc : Thread Cert.DhPleReferenceIdeal.nD Cert.DhPleReferenceIdeal.τ).loc Cert.DhPleReferenceIdeal.main_arg1)
      ∧ r.2.mem ((c.tc : Thread Cert.DhPleReferenceIdeal.nD Cert.DhPleReferenceIdeal.τ).loc Cert.DhPleReferenceIdeal.main_arg2) = m ((c.tc : Thread Cert.DhPleReferenceIdeal.nD Cert.DhPleReferenceIdeal.τ).loc Cert.DhPleReferenceIdeal.main_arg2)
      ∧ r.2.mem ((c.tc : Thread Cert.DhPleReferenceIdeal.nD Cert.DhPleReferenceIdeal.τ).loc Cert.DhPleReferenceIdeal.main_arg3) = m ((c.tc : Thread Cert.DhPleReferenceIdeal.nD Cert.DhPleReferenceIdeal.τ).loc Cert.DhPleReferenceIdeal.main_arg3)
      ∧ r.2.mem ((c.tc : Thread Cert.DhPleReferenceIdeal.nD Cert.DhPleReferenceIdeal.τ).loc Cert.DhPleReferenceIdeal.main_arg4) = m ((c.tc : Thread Cert.DhPleReferenceIdeal.nD Cert.DhPleReferenceIdeal.τ).loc Cert.DhPleReferenceIdeal.main_arg4))
      ∧ r.2.sem = fun _ => 0)

def quiescent_RmsMix [hRmsMix : Cert.RmsMix.Facts] : Prop :=
  ∀ (m : (ℓ : Loc Cert.RmsMix.nD Cert.RmsMix.τ Cert.RmsMix.sig) → Buf (Elt Bits) ℓ) (g : Dev Cert.RmsMix.nD → PrngReg), Pre_RmsMix m →
    θ_run (Cert.RmsMix.defs (F := Bits)) (onTc (τ := Cert.RmsMix.τ) (Cert.RmsMix.main (F := Bits))) ⟨m, fun _ => 0, g⟩ (fun r => (∀ c : Dev Cert.RmsMix.nD,
      r.2.mem ((c.tc : Thread Cert.RmsMix.nD Cert.RmsMix.τ).loc Cert.RmsMix.main_arg0) = m ((c.tc : Thread Cert.RmsMix.nD Cert.RmsMix.τ).loc Cert.RmsMix.main_arg0)
      ∧ r.2.mem ((c.tc : Thread Cert.RmsMix.nD Cert.RmsMix.τ).loc Cert.RmsMix.main_arg1) = m ((c.tc : Thread Cert.RmsMix.nD Cert.RmsMix.τ).loc Cert.RmsMix.main_arg1))
      ∧ r.2.sem = fun _ => 0)

def quiescent_RmsMixIdeal [hRmsMixIdeal : Cert.RmsMixIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg), Pre_RmsMixIdeal m →
    θ_run (Cert.RmsMixIdeal.defs (F := Ideal)) (onTc (τ := Cert.RmsMixIdeal.τ) (Cert.RmsMixIdeal.main (F := Ideal))) ⟨m, fun _ => 0, g⟩ (fun r => (∀ c : Dev Cert.RmsMixIdeal.nD,
      r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
      ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1))
      ∧ r.2.sem = fun _ => 0)

def quiescent_RmsMixReferenceIdeal [hRmsMixReferenceIdeal : Cert.RmsMixReferenceIdeal.Facts] : Prop :=
  ∀ (m : (ℓ : Loc Cert.RmsMixReferenceIdeal.nD Cert.RmsMixReferenceIdeal.τ Cert.RmsMixReferenceIdeal.sig) → Buf (Elt Ideal) ℓ) (g : Dev Cert.RmsMixReferenceIdeal.nD → PrngReg), Pre_RmsMixReferenceIdeal m →
    θ_run (Cert.RmsMixReferenceIdeal.defs (F := Ideal)) (onTc (τ := Cert.RmsMixReferenceIdeal.τ) (Cert.RmsMixReferenceIdeal.main (F := Ideal))) ⟨m, fun _ => 0, g⟩ (fun r => (∀ c : Dev Cert.RmsMixReferenceIdeal.nD,
      r.2.mem ((c.tc : Thread Cert.RmsMixReferenceIdeal.nD Cert.RmsMixReferenceIdeal.τ).loc Cert.RmsMixReferenceIdeal.main_arg0) = m ((c.tc : Thread Cert.RmsMixReferenceIdeal.nD Cert.RmsMixReferenceIdeal.τ).loc Cert.RmsMixReferenceIdeal.main_arg0)
      ∧ r.2.mem ((c.tc : Thread Cert.RmsMixReferenceIdeal.nD Cert.RmsMixReferenceIdeal.τ).loc Cert.RmsMixReferenceIdeal.main_arg1) = m ((c.tc : Thread Cert.RmsMixReferenceIdeal.nD Cert.RmsMixReferenceIdeal.τ).loc Cert.RmsMixReferenceIdeal.main_arg1))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ r.2.sem = fun _ => 0)

def quiescent_ProjFwdReferenceIdeal [hProjFwdReferenceIdeal : Cert.ProjFwdReferenceIdeal.Facts] : Prop :=
  ∀ (m : (ℓ : Loc Cert.ProjFwdReferenceIdeal.nD Cert.ProjFwdReferenceIdeal.τ Cert.ProjFwdReferenceIdeal.sig) → Buf (Elt Ideal) ℓ) (g : Dev Cert.ProjFwdReferenceIdeal.nD → PrngReg), Pre_ProjFwdReferenceIdeal m →
    θ_run (Cert.ProjFwdReferenceIdeal.defs (F := Ideal)) (onTc (τ := Cert.ProjFwdReferenceIdeal.τ) (Cert.ProjFwdReferenceIdeal.main (F := Ideal))) ⟨m, fun _ => 0, g⟩ (fun r => (∀ c : Dev Cert.ProjFwdReferenceIdeal.nD,
      r.2.mem ((c.tc : Thread Cert.ProjFwdReferenceIdeal.nD Cert.ProjFwdReferenceIdeal.τ).loc Cert.ProjFwdReferenceIdeal.main_arg0) = m ((c.tc : Thread Cert.ProjFwdReferenceIdeal.nD Cert.ProjFwdReferenceIdeal.τ).loc Cert.ProjFwdReferenceIdeal.main_arg0)
      ∧ r.2.mem ((c.tc : Thread Cert.ProjFwdReferenceIdeal.nD Cert.ProjFwdReferenceIdeal.τ).loc Cert.ProjFwdReferenceIdeal.main_arg1) = m ((c.tc : Thread Cert.ProjFwdReferenceIdeal.nD Cert.ProjFwdReferenceIdeal.τ).loc Cert.ProjFwdReferenceIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesReferenceIdeal [hProjGatesReferenceIdeal : Cert.ProjGatesReferenceIdeal.Facts] : Prop :=
  ∀ (m : (ℓ : Loc Cert.ProjGatesReferenceIdeal.nD Cert.ProjGatesReferenceIdeal.τ Cert.ProjGatesReferenceIdeal.sig) → Buf (Elt Ideal) ℓ) (g : Dev Cert.ProjGatesReferenceIdeal.nD → PrngReg), Pre_ProjGatesReferenceIdeal m →
    θ_run (Cert.ProjGatesReferenceIdeal.defs (F := Ideal)) (onTc (τ := Cert.ProjGatesReferenceIdeal.τ) (Cert.ProjGatesReferenceIdeal.main (F := Ideal))) ⟨m, fun _ => 0, g⟩ (fun r => (∀ c : Dev Cert.ProjGatesReferenceIdeal.nD,
      r.2.mem ((c.tc : Thread Cert.ProjGatesReferenceIdeal.nD Cert.ProjGatesReferenceIdeal.τ).loc Cert.ProjGatesReferenceIdeal.main_arg0) = m ((c.tc : Thread Cert.ProjGatesReferenceIdeal.nD Cert.ProjGatesReferenceIdeal.τ).loc Cert.ProjGatesReferenceIdeal.main_arg0)
      ∧ r.2.mem ((c.tc : Thread Cert.ProjGatesReferenceIdeal.nD Cert.ProjGatesReferenceIdeal.τ).loc Cert.ProjGatesReferenceIdeal.main_arg1) = m ((c.tc : Thread Cert.ProjGatesReferenceIdeal.nD Cert.ProjGatesReferenceIdeal.τ).loc Cert.ProjGatesReferenceIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpReferenceIdeal [hMlpUpReferenceIdeal : Cert.MlpUpReferenceIdeal.Facts] : Prop :=
  ∀ (m : (ℓ : Loc Cert.MlpUpReferenceIdeal.nD Cert.MlpUpReferenceIdeal.τ Cert.MlpUpReferenceIdeal.sig) → Buf (Elt Ideal) ℓ) (g : Dev Cert.MlpUpReferenceIdeal.nD → PrngReg), Pre_MlpUpReferenceIdeal m →
    θ_run (Cert.MlpUpReferenceIdeal.defs (F := Ideal)) (onTc (τ := Cert.MlpUpReferenceIdeal.τ) (Cert.MlpUpReferenceIdeal.main (F := Ideal))) ⟨m, fun _ => 0, g⟩ (fun r => (∀ c : Dev Cert.MlpUpReferenceIdeal.nD,
      r.2.mem ((c.tc : Thread Cert.MlpUpReferenceIdeal.nD Cert.MlpUpReferenceIdeal.τ).loc Cert.MlpUpReferenceIdeal.main_arg0) = m ((c.tc : Thread Cert.MlpUpReferenceIdeal.nD Cert.MlpUpReferenceIdeal.τ).loc Cert.MlpUpReferenceIdeal.main_arg0)
      ∧ r.2.mem ((c.tc : Thread Cert.MlpUpReferenceIdeal.nD Cert.MlpUpReferenceIdeal.τ).loc Cert.MlpUpReferenceIdeal.main_arg1) = m ((c.tc : Thread Cert.MlpUpReferenceIdeal.nD Cert.MlpUpReferenceIdeal.τ).loc Cert.MlpUpReferenceIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownReferenceIdeal [hMlpDownReferenceIdeal : Cert.MlpDownReferenceIdeal.Facts] : Prop :=
  ∀ (m : (ℓ : Loc Cert.MlpDownReferenceIdeal.nD Cert.MlpDownReferenceIdeal.τ Cert.MlpDownReferenceIdeal.sig) → Buf (Elt Ideal) ℓ) (g : Dev Cert.MlpDownReferenceIdeal.nD → PrngReg), Pre_MlpDownReferenceIdeal m →
    θ_run (Cert.MlpDownReferenceIdeal.defs (F := Ideal)) (onTc (τ := Cert.MlpDownReferenceIdeal.τ) (Cert.MlpDownReferenceIdeal.main (F := Ideal))) ⟨m, fun _ => 0, g⟩ (fun r => (∀ c : Dev Cert.MlpDownReferenceIdeal.nD,
      r.2.mem ((c.tc : Thread Cert.MlpDownReferenceIdeal.nD Cert.MlpDownReferenceIdeal.τ).loc Cert.MlpDownReferenceIdeal.main_arg0) = m ((c.tc : Thread Cert.MlpDownReferenceIdeal.nD Cert.MlpDownReferenceIdeal.τ).loc Cert.MlpDownReferenceIdeal.main_arg0)
      ∧ r.2.mem ((c.tc : Thread Cert.MlpDownReferenceIdeal.nD Cert.MlpDownReferenceIdeal.τ).loc Cert.MlpDownReferenceIdeal.main_arg1) = m ((c.tc : Thread Cert.MlpDownReferenceIdeal.nD Cert.MlpDownReferenceIdeal.τ).loc Cert.MlpDownReferenceIdeal.main_arg1)
      ∧ r.2.mem ((c.tc : Thread Cert.MlpDownReferenceIdeal.nD Cert.MlpDownReferenceIdeal.τ).loc Cert.MlpDownReferenceIdeal.main_arg2) = m ((c.tc : Thread Cert.MlpDownReferenceIdeal.nD Cert.MlpDownReferenceIdeal.τ).loc Cert.MlpDownReferenceIdeal.main_arg2)
      ∧ r.2.mem ((c.tc : Thread Cert.MlpDownReferenceIdeal.nD Cert.MlpDownReferenceIdeal.τ).loc Cert.MlpDownReferenceIdeal.main_arg3) = m ((c.tc : Thread Cert.MlpDownReferenceIdeal.nD Cert.MlpDownReferenceIdeal.τ).loc Cert.MlpDownReferenceIdeal.main_arg3))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateReferenceIdeal [hPleGateReferenceIdeal : Cert.PleGateReferenceIdeal.Facts] : Prop :=
  ∀ (m : (ℓ : Loc Cert.PleGateReferenceIdeal.nD Cert.PleGateReferenceIdeal.τ Cert.PleGateReferenceIdeal.sig) → Buf (Elt Ideal) ℓ) (g : Dev Cert.PleGateReferenceIdeal.nD → PrngReg), Pre_PleGateReferenceIdeal m →
    θ_run (Cert.PleGateReferenceIdeal.defs (F := Ideal)) (onTc (τ := Cert.PleGateReferenceIdeal.τ) (Cert.PleGateReferenceIdeal.main (F := Ideal))) ⟨m, fun _ => 0, g⟩ (fun r => (∀ c : Dev Cert.PleGateReferenceIdeal.nD,
      r.2.mem ((c.tc : Thread Cert.PleGateReferenceIdeal.nD Cert.PleGateReferenceIdeal.τ).loc Cert.PleGateReferenceIdeal.main_arg0) = m ((c.tc : Thread Cert.PleGateReferenceIdeal.nD Cert.PleGateReferenceIdeal.τ).loc Cert.PleGateReferenceIdeal.main_arg0)
      ∧ r.2.mem ((c.tc : Thread Cert.PleGateReferenceIdeal.nD Cert.PleGateReferenceIdeal.τ).loc Cert.PleGateReferenceIdeal.main_arg1) = m ((c.tc : Thread Cert.PleGateReferenceIdeal.nD Cert.PleGateReferenceIdeal.τ).loc Cert.PleGateReferenceIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchReferenceIdeal [hAdamBranchReferenceIdeal : Cert.AdamBranchReferenceIdeal.Facts] : Prop :=
  ∀ (m : (ℓ : Loc Cert.AdamBranchReferenceIdeal.nD Cert.AdamBranchReferenceIdeal.τ Cert.AdamBranchReferenceIdeal.sig) → Buf (Elt Ideal) ℓ) (g : Dev Cert.AdamBranchReferenceIdeal.nD → PrngReg), Pre_AdamBranchReferenceIdeal m →
    θ_run (Cert.AdamBranchReferenceIdeal.defs (F := Ideal)) (onTc (τ := Cert.AdamBranchReferenceIdeal.τ) (Cert.AdamBranchReferenceIdeal.main (F := Ideal))) ⟨m, fun _ => 0, g⟩ (fun r => (∀ c : Dev Cert.AdamBranchReferenceIdeal.nD,
      r.2.mem ((c.tc : Thread Cert.AdamBranchReferenceIdeal.nD Cert.AdamBranchReferenceIdeal.τ).loc Cert.AdamBranchReferenceIdeal.main_arg0) = m ((c.tc : Thread Cert.AdamBranchReferenceIdeal.nD Cert.AdamBranchReferenceIdeal.τ).loc Cert.AdamBranchReferenceIdeal.main_arg0)
      ∧ r.2.mem ((c.tc : Thread Cert.AdamBranchReferenceIdeal.nD Cert.AdamBranchReferenceIdeal.τ).loc Cert.AdamBranchReferenceIdeal.main_arg1) = m ((c.tc : Thread Cert.AdamBranchReferenceIdeal.nD Cert.AdamBranchReferenceIdeal.τ).loc Cert.AdamBranchReferenceIdeal.main_arg1)
      ∧ r.2.mem ((c.tc : Thread Cert.AdamBranchReferenceIdeal.nD Cert.AdamBranchReferenceIdeal.τ).loc Cert.AdamBranchReferenceIdeal.main_arg2) = m ((c.tc : Thread Cert.AdamBranchReferenceIdeal.nD Cert.AdamBranchReferenceIdeal.τ).loc Cert.AdamBranchReferenceIdeal.main_arg2)
      ∧ r.2.mem ((c.tc : Thread Cert.AdamBranchReferenceIdeal.nD Cert.AdamBranchReferenceIdeal.τ).loc Cert.AdamBranchReferenceIdeal.main_arg3) = m ((c.tc : Thread Cert.AdamBranchReferenceIdeal.nD Cert.AdamBranchReferenceIdeal.τ).loc Cert.AdamBranchReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamPle [hAdamPle : Cert.AdamPle.Facts] : Prop :=
  ∀ (m : (ℓ : Loc Cert.AdamPle.nD Cert.AdamPle.τ Cert.AdamPle.sig) → Buf (Elt Bits) ℓ) (g : Dev Cert.AdamPle.nD → PrngReg), Pre_AdamPle m →
    θ_run (Cert.AdamPle.defs (F := Bits)) (onTc (τ := Cert.AdamPle.τ) (Cert.AdamPle.main (F := Bits))) ⟨m, fun _ => 0, g⟩ (fun r => (∀ c : Dev Cert.AdamPle.nD,
      r.2.mem ((c.tc : Thread Cert.AdamPle.nD Cert.AdamPle.τ).loc Cert.AdamPle.main_arg0) = m ((c.tc : Thread Cert.AdamPle.nD Cert.AdamPle.τ).loc Cert.AdamPle.main_arg0)
      ∧ r.2.mem ((c.tc : Thread Cert.AdamPle.nD Cert.AdamPle.τ).loc Cert.AdamPle.main_arg1) = m ((c.tc : Thread Cert.AdamPle.nD Cert.AdamPle.τ).loc Cert.AdamPle.main_arg1)
      ∧ r.2.mem ((c.tc : Thread Cert.AdamPle.nD Cert.AdamPle.τ).loc Cert.AdamPle.main_arg2) = m ((c.tc : Thread Cert.AdamPle.nD Cert.AdamPle.τ).loc Cert.AdamPle.main_arg2)
      ∧ r.2.mem ((c.tc : Thread Cert.AdamPle.nD Cert.AdamPle.τ).loc Cert.AdamPle.main_arg3) = m ((c.tc : Thread Cert.AdamPle.nD Cert.AdamPle.τ).loc Cert.AdamPle.main_arg3))
      ∧ r.2.sem = fun _ => 0)

def quiescent_AdamPleIdeal [hAdamPleIdeal : Cert.AdamPleIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg), Pre_AdamPleIdeal m →
    θ_run (Cert.AdamPleIdeal.defs (F := Ideal)) (onTc (τ := Cert.AdamPleIdeal.τ) (Cert.AdamPleIdeal.main (F := Ideal))) ⟨m, fun _ => 0, g⟩ (fun r => (∀ c : Dev Cert.AdamPleIdeal.nD,
      r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
      ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
      ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
      ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ r.2.sem = fun _ => 0)

def quiescent_AdamPleReferenceIdeal [hAdamPleReferenceIdeal : Cert.AdamPleReferenceIdeal.Facts] : Prop :=
  ∀ (m : (ℓ : Loc Cert.AdamPleReferenceIdeal.nD Cert.AdamPleReferenceIdeal.τ Cert.AdamPleReferenceIdeal.sig) → Buf (Elt Ideal) ℓ) (g : Dev Cert.AdamPleReferenceIdeal.nD → PrngReg), Pre_AdamPleReferenceIdeal m →
    θ_run (Cert.AdamPleReferenceIdeal.defs (F := Ideal)) (onTc (τ := Cert.AdamPleReferenceIdeal.τ) (Cert.AdamPleReferenceIdeal.main (F := Ideal))) ⟨m, fun _ => 0, g⟩ (fun r => (∀ c : Dev Cert.AdamPleReferenceIdeal.nD,
      r.2.mem ((c.tc : Thread Cert.AdamPleReferenceIdeal.nD Cert.AdamPleReferenceIdeal.τ).loc Cert.AdamPleReferenceIdeal.main_arg0) = m ((c.tc : Thread Cert.AdamPleReferenceIdeal.nD Cert.AdamPleReferenceIdeal.τ).loc Cert.AdamPleReferenceIdeal.main_arg0)
      ∧ r.2.mem ((c.tc : Thread Cert.AdamPleReferenceIdeal.nD Cert.AdamPleReferenceIdeal.τ).loc Cert.AdamPleReferenceIdeal.main_arg1) = m ((c.tc : Thread Cert.AdamPleReferenceIdeal.nD Cert.AdamPleReferenceIdeal.τ).loc Cert.AdamPleReferenceIdeal.main_arg1)
      ∧ r.2.mem ((c.tc : Thread Cert.AdamPleReferenceIdeal.nD Cert.AdamPleReferenceIdeal.τ).loc Cert.AdamPleReferenceIdeal.main_arg2) = m ((c.tc : Thread Cert.AdamPleReferenceIdeal.nD Cert.AdamPleReferenceIdeal.τ).loc Cert.AdamPleReferenceIdeal.main_arg2)
      ∧ r.2.mem ((c.tc : Thread Cert.AdamPleReferenceIdeal.nD Cert.AdamPleReferenceIdeal.τ).loc Cert.AdamPleReferenceIdeal.main_arg3) = m ((c.tc : Thread Cert.AdamPleReferenceIdeal.nD Cert.AdamPleReferenceIdeal.τ).loc Cert.AdamPleReferenceIdeal.main_arg3))
      ∧ r.2.sem = fun _ => 0)

def quiescent_SeqFwd [hSeqFwd : Cert.SeqFwd.Facts] : Prop :=
  ∀ (m : (ℓ : Loc Cert.SeqFwd.nD Cert.SeqFwd.τ Cert.SeqFwd.sig) → Buf (Elt Bits) ℓ) (g : Dev Cert.SeqFwd.nD → PrngReg), Pre_SeqFwd m →
    θ_run (Cert.SeqFwd.defs (F := Bits)) (onTc (τ := Cert.SeqFwd.τ) (Cert.SeqFwd.main (F := Bits))) ⟨m, fun _ => 0, g⟩ (fun r => (∀ c : Dev Cert.SeqFwd.nD,
      r.2.mem ((c.tc : Thread Cert.SeqFwd.nD Cert.SeqFwd.τ).loc Cert.SeqFwd.main_arg0) = m ((c.tc : Thread Cert.SeqFwd.nD Cert.SeqFwd.τ).loc Cert.SeqFwd.main_arg0)
      ∧ r.2.mem ((c.tc : Thread Cert.SeqFwd.nD Cert.SeqFwd.τ).loc Cert.SeqFwd.main_arg1) = m ((c.tc : Thread Cert.SeqFwd.nD Cert.SeqFwd.τ).loc Cert.SeqFwd.main_arg1)
      ∧ r.2.mem ((c.tc : Thread Cert.SeqFwd.nD Cert.SeqFwd.τ).loc Cert.SeqFwd.main_arg2) = m ((c.tc : Thread Cert.SeqFwd.nD Cert.SeqFwd.τ).loc Cert.SeqFwd.main_arg2)
      ∧ r.2.mem ((c.tc : Thread Cert.SeqFwd.nD Cert.SeqFwd.τ).loc Cert.SeqFwd.main_arg3) = m ((c.tc : Thread Cert.SeqFwd.nD Cert.SeqFwd.τ).loc Cert.SeqFwd.main_arg3)
      ∧ r.2.mem ((c.tc : Thread Cert.SeqFwd.nD Cert.SeqFwd.τ).loc Cert.SeqFwd.main_arg4) = m ((c.tc : Thread Cert.SeqFwd.nD Cert.SeqFwd.τ).loc Cert.SeqFwd.main_arg4))
      ∧ r.2.sem = fun _ => 0)

def quiescent_SeqFwdIdeal [hSeqFwdIdeal : Cert.SeqFwdIdeal.Facts] : Prop :=
  ∀ (m : (ℓ : Loc Cert.SeqFwdIdeal.nD Cert.SeqFwdIdeal.τ Cert.SeqFwdIdeal.sig) → Buf (Elt Ideal) ℓ) (g : Dev Cert.SeqFwdIdeal.nD → PrngReg), Pre_SeqFwdIdeal m →
    θ_run (Cert.SeqFwdIdeal.defs (F := Ideal)) (onTc (τ := Cert.SeqFwdIdeal.τ) (Cert.SeqFwdIdeal.main (F := Ideal))) ⟨m, fun _ => 0, g⟩ (fun r => (∀ c : Dev Cert.SeqFwdIdeal.nD,
      r.2.mem ((c.tc : Thread Cert.SeqFwdIdeal.nD Cert.SeqFwdIdeal.τ).loc Cert.SeqFwdIdeal.main_arg0) = m ((c.tc : Thread Cert.SeqFwdIdeal.nD Cert.SeqFwdIdeal.τ).loc Cert.SeqFwdIdeal.main_arg0)
      ∧ r.2.mem ((c.tc : Thread Cert.SeqFwdIdeal.nD Cert.SeqFwdIdeal.τ).loc Cert.SeqFwdIdeal.main_arg1) = m ((c.tc : Thread Cert.SeqFwdIdeal.nD Cert.SeqFwdIdeal.τ).loc Cert.SeqFwdIdeal.main_arg1)
      ∧ r.2.mem ((c.tc : Thread Cert.SeqFwdIdeal.nD Cert.SeqFwdIdeal.τ).loc Cert.SeqFwdIdeal.main_arg2) = m ((c.tc : Thread Cert.SeqFwdIdeal.nD Cert.SeqFwdIdeal.τ).loc Cert.SeqFwdIdeal.main_arg2)
      ∧ r.2.mem ((c.tc : Thread Cert.SeqFwdIdeal.nD Cert.SeqFwdIdeal.τ).loc Cert.SeqFwdIdeal.main_arg3) = m ((c.tc : Thread Cert.SeqFwdIdeal.nD Cert.SeqFwdIdeal.τ).loc Cert.SeqFwdIdeal.main_arg3)
      ∧ r.2.mem ((c.tc : Thread Cert.SeqFwdIdeal.nD Cert.SeqFwdIdeal.τ).loc Cert.SeqFwdIdeal.main_arg4) = m ((c.tc : Thread Cert.SeqFwdIdeal.nD Cert.SeqFwdIdeal.τ).loc Cert.SeqFwdIdeal.main_arg4))
      ∧ r.2.sem = fun _ => 0)

def quiescent_SeqFwdReferenceIdeal [hSeqFwdReferenceIdeal : Cert.SeqFwdReferenceIdeal.Facts] : Prop :=
  ∀ (m : (ℓ : Loc Cert.SeqFwdReferenceIdeal.nD Cert.SeqFwdReferenceIdeal.τ Cert.SeqFwdReferenceIdeal.sig) → Buf (Elt Ideal) ℓ) (g : Dev Cert.SeqFwdReferenceIdeal.nD → PrngReg), Pre_SeqFwdReferenceIdeal m →
    θ_run (Cert.SeqFwdReferenceIdeal.defs (F := Ideal)) (onTc (τ := Cert.SeqFwdReferenceIdeal.τ) (Cert.SeqFwdReferenceIdeal.main (F := Ideal))) ⟨m, fun _ => 0, g⟩ (fun r => (∀ c : Dev Cert.SeqFwdReferenceIdeal.nD,
      r.2.mem ((c.tc : Thread Cert.SeqFwdReferenceIdeal.nD Cert.SeqFwdReferenceIdeal.τ).loc Cert.SeqFwdReferenceIdeal.main_arg0) = m ((c.tc : Thread Cert.SeqFwdReferenceIdeal.nD Cert.SeqFwdReferenceIdeal.τ).loc Cert.SeqFwdReferenceIdeal.main_arg0)
      ∧ r.2.mem ((c.tc : Thread Cert.SeqFwdReferenceIdeal.nD Cert.SeqFwdReferenceIdeal.τ).loc Cert.SeqFwdReferenceIdeal.main_arg1) = m ((c.tc : Thread Cert.SeqFwdReferenceIdeal.nD Cert.SeqFwdReferenceIdeal.τ).loc Cert.SeqFwdReferenceIdeal.main_arg1)
      ∧ r.2.mem ((c.tc : Thread Cert.SeqFwdReferenceIdeal.nD Cert.SeqFwdReferenceIdeal.τ).loc Cert.SeqFwdReferenceIdeal.main_arg2) = m ((c.tc : Thread Cert.SeqFwdReferenceIdeal.nD Cert.SeqFwdReferenceIdeal.τ).loc Cert.SeqFwdReferenceIdeal.main_arg2)
      ∧ r.2.mem ((c.tc : Thread Cert.SeqFwdReferenceIdeal.nD Cert.SeqFwdReferenceIdeal.τ).loc Cert.SeqFwdReferenceIdeal.main_arg3) = m ((c.tc : Thread Cert.SeqFwdReferenceIdeal.nD Cert.SeqFwdReferenceIdeal.τ).loc Cert.SeqFwdReferenceIdeal.main_arg3)
      ∧ r.2.mem ((c.tc : Thread Cert.SeqFwdReferenceIdeal.nD Cert.SeqFwdReferenceIdeal.τ).loc Cert.SeqFwdReferenceIdeal.main_arg4) = m ((c.tc : Thread Cert.SeqFwdReferenceIdeal.nD Cert.SeqFwdReferenceIdeal.τ).loc Cert.SeqFwdReferenceIdeal.main_arg4))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4)
      ∧ r.2.mem ((c.tc : Thread Cert.GluBwd.nD Cert.GluBwd.τ).loc Cert.GluBwd.main_arg5) = m ((c.tc : Thread Cert.GluBwd.nD Cert.GluBwd.τ).loc Cert.GluBwd.main_arg5))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
      ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5))
      ∧ r.2.sem = fun _ => 0)

def quiescent_GluBwdReferenceIdeal [hGluBwdReferenceIdeal : Cert.GluBwdReferenceIdeal.Facts] : Prop :=
  ∀ (m : (ℓ : Loc Cert.GluBwdReferenceIdeal.nD Cert.GluBwdReferenceIdeal.τ Cert.GluBwdReferenceIdeal.sig) → Buf (Elt Ideal) ℓ) (g : Dev Cert.GluBwdReferenceIdeal.nD → PrngReg), Pre_GluBwdReferenceIdeal m →
    θ_run (Cert.GluBwdReferenceIdeal.defs (F := Ideal)) (onTc (τ := Cert.GluBwdReferenceIdeal.τ) (Cert.GluBwdReferenceIdeal.main (F := Ideal))) ⟨m, fun _ => 0, g⟩ (fun r => (∀ c : Dev Cert.GluBwdReferenceIdeal.nD,
      r.2.mem ((c.tc : Thread Cert.GluBwdReferenceIdeal.nD Cert.GluBwdReferenceIdeal.τ).loc Cert.GluBwdReferenceIdeal.main_arg0) = m ((c.tc : Thread Cert.GluBwdReferenceIdeal.nD Cert.GluBwdReferenceIdeal.τ).loc Cert.GluBwdReferenceIdeal.main_arg0)
      ∧ r.2.mem ((c.tc : Thread Cert.GluBwdReferenceIdeal.nD Cert.GluBwdReferenceIdeal.τ).loc Cert.GluBwdReferenceIdeal.main_arg1) = m ((c.tc : Thread Cert.GluBwdReferenceIdeal.nD Cert.GluBwdReferenceIdeal.τ).loc Cert.GluBwdReferenceIdeal.main_arg1)
      ∧ r.2.mem ((c.tc : Thread Cert.GluBwdReferenceIdeal.nD Cert.GluBwdReferenceIdeal.τ).loc Cert.GluBwdReferenceIdeal.main_arg2) = m ((c.tc : Thread Cert.GluBwdReferenceIdeal.nD Cert.GluBwdReferenceIdeal.τ).loc Cert.GluBwdReferenceIdeal.main_arg2)
      ∧ r.2.mem ((c.tc : Thread Cert.GluBwdReferenceIdeal.nD Cert.GluBwdReferenceIdeal.τ).loc Cert.GluBwdReferenceIdeal.main_arg3) = m ((c.tc : Thread Cert.GluBwdReferenceIdeal.nD Cert.GluBwdReferenceIdeal.τ).loc Cert.GluBwdReferenceIdeal.main_arg3)
      ∧ r.2.mem ((c.tc : Thread Cert.GluBwdReferenceIdeal.nD Cert.GluBwdReferenceIdeal.τ).loc Cert.GluBwdReferenceIdeal.main_arg4) = m ((c.tc : Thread Cert.GluBwdReferenceIdeal.nD Cert.GluBwdReferenceIdeal.τ).loc Cert.GluBwdReferenceIdeal.main_arg4)
      ∧ r.2.mem ((c.tc : Thread Cert.GluBwdReferenceIdeal.nD Cert.GluBwdReferenceIdeal.τ).loc Cert.GluBwdReferenceIdeal.main_arg5) = m ((c.tc : Thread Cert.GluBwdReferenceIdeal.nD Cert.GluBwdReferenceIdeal.τ).loc Cert.GluBwdReferenceIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2))
      ∧ r.2.sem = fun _ => 0)

def quiescent_AdamSharded [hAdamSharded : Cert.AdamSharded.Facts] : Prop :=
  ∀ (m : (ℓ : Loc Cert.AdamSharded.nD Cert.AdamSharded.τ Cert.AdamSharded.sig) → Buf (Elt Bits) ℓ) (g : Dev Cert.AdamSharded.nD → PrngReg), Pre_AdamSharded m →
    θ_run (Cert.AdamSharded.defs (F := Bits)) (onTc (τ := Cert.AdamSharded.τ) (Cert.AdamSharded.main (F := Bits))) ⟨m, fun _ => 0, g⟩ (fun r => (∀ c : Dev Cert.AdamSharded.nD,
      r.2.mem ((c.tc : Thread Cert.AdamSharded.nD Cert.AdamSharded.τ).loc Cert.AdamSharded.main_arg0) = m ((c.tc : Thread Cert.AdamSharded.nD Cert.AdamSharded.τ).loc Cert.AdamSharded.main_arg0)
      ∧ r.2.mem ((c.tc : Thread Cert.AdamSharded.nD Cert.AdamSharded.τ).loc Cert.AdamSharded.main_arg1) = m ((c.tc : Thread Cert.AdamSharded.nD Cert.AdamSharded.τ).loc Cert.AdamSharded.main_arg1)
      ∧ r.2.mem ((c.tc : Thread Cert.AdamSharded.nD Cert.AdamSharded.τ).loc Cert.AdamSharded.main_arg2) = m ((c.tc : Thread Cert.AdamSharded.nD Cert.AdamSharded.τ).loc Cert.AdamSharded.main_arg2)
      ∧ r.2.mem ((c.tc : Thread Cert.AdamSharded.nD Cert.AdamSharded.τ).loc Cert.AdamSharded.main_arg3) = m ((c.tc : Thread Cert.AdamSharded.nD Cert.AdamSharded.τ).loc Cert.AdamSharded.main_arg3)
      ∧ r.2.mem ((c.tc : Thread Cert.AdamSharded.nD Cert.AdamSharded.τ).loc Cert.AdamSharded.main_arg4) = m ((c.tc : Thread Cert.AdamSharded.nD Cert.AdamSharded.τ).loc Cert.AdamSharded.main_arg4)
      ∧ r.2.mem ((c.tc : Thread Cert.AdamSharded.nD Cert.AdamSharded.τ).loc Cert.AdamSharded.main_arg5) = m ((c.tc : Thread Cert.AdamSharded.nD Cert.AdamSharded.τ).loc Cert.AdamSharded.main_arg5)
      ∧ r.2.mem ((c.tc : Thread Cert.AdamSharded.nD Cert.AdamSharded.τ).loc Cert.AdamSharded.main_arg6) = m ((c.tc : Thread Cert.AdamSharded.nD Cert.AdamSharded.τ).loc Cert.AdamSharded.main_arg6)
      ∧ r.2.mem ((c.tc : Thread Cert.AdamSharded.nD Cert.AdamSharded.τ).loc Cert.AdamSharded.main_arg7) = m ((c.tc : Thread Cert.AdamSharded.nD Cert.AdamSharded.τ).loc Cert.AdamSharded.main_arg7))
      ∧ r.2.sem = fun _ => 0)

def quiescent_AdamShardedIdeal [hAdamShardedIdeal : Cert.AdamShardedIdeal.Facts] : Prop :=
  ∀ (m : (ℓ : Loc Cert.AdamShardedIdeal.nD Cert.AdamShardedIdeal.τ Cert.AdamShardedIdeal.sig) → Buf (Elt Ideal) ℓ) (g : Dev Cert.AdamShardedIdeal.nD → PrngReg), Pre_AdamShardedIdeal m →
    θ_run (Cert.AdamShardedIdeal.defs (F := Ideal)) (onTc (τ := Cert.AdamShardedIdeal.τ) (Cert.AdamShardedIdeal.main (F := Ideal))) ⟨m, fun _ => 0, g⟩ (fun r => (∀ c : Dev Cert.AdamShardedIdeal.nD,
      r.2.mem ((c.tc : Thread Cert.AdamShardedIdeal.nD Cert.AdamShardedIdeal.τ).loc Cert.AdamShardedIdeal.main_arg0) = m ((c.tc : Thread Cert.AdamShardedIdeal.nD Cert.AdamShardedIdeal.τ).loc Cert.AdamShardedIdeal.main_arg0)
      ∧ r.2.mem ((c.tc : Thread Cert.AdamShardedIdeal.nD Cert.AdamShardedIdeal.τ).loc Cert.AdamShardedIdeal.main_arg1) = m ((c.tc : Thread Cert.AdamShardedIdeal.nD Cert.AdamShardedIdeal.τ).loc Cert.AdamShardedIdeal.main_arg1)
      ∧ r.2.mem ((c.tc : Thread Cert.AdamShardedIdeal.nD Cert.AdamShardedIdeal.τ).loc Cert.AdamShardedIdeal.main_arg2) = m ((c.tc : Thread Cert.AdamShardedIdeal.nD Cert.AdamShardedIdeal.τ).loc Cert.AdamShardedIdeal.main_arg2)
      ∧ r.2.mem ((c.tc : Thread Cert.AdamShardedIdeal.nD Cert.AdamShardedIdeal.τ).loc Cert.AdamShardedIdeal.main_arg3) = m ((c.tc : Thread Cert.AdamShardedIdeal.nD Cert.AdamShardedIdeal.τ).loc Cert.AdamShardedIdeal.main_arg3)
      ∧ r.2.mem ((c.tc : Thread Cert.AdamShardedIdeal.nD Cert.AdamShardedIdeal.τ).loc Cert.AdamShardedIdeal.main_arg4) = m ((c.tc : Thread Cert.AdamShardedIdeal.nD Cert.AdamShardedIdeal.τ).loc Cert.AdamShardedIdeal.main_arg4)
      ∧ r.2.mem ((c.tc : Thread Cert.AdamShardedIdeal.nD Cert.AdamShardedIdeal.τ).loc Cert.AdamShardedIdeal.main_arg5) = m ((c.tc : Thread Cert.AdamShardedIdeal.nD Cert.AdamShardedIdeal.τ).loc Cert.AdamShardedIdeal.main_arg5)
      ∧ r.2.mem ((c.tc : Thread Cert.AdamShardedIdeal.nD Cert.AdamShardedIdeal.τ).loc Cert.AdamShardedIdeal.main_arg6) = m ((c.tc : Thread Cert.AdamShardedIdeal.nD Cert.AdamShardedIdeal.τ).loc Cert.AdamShardedIdeal.main_arg6)
      ∧ r.2.mem ((c.tc : Thread Cert.AdamShardedIdeal.nD Cert.AdamShardedIdeal.τ).loc Cert.AdamShardedIdeal.main_arg7) = m ((c.tc : Thread Cert.AdamShardedIdeal.nD Cert.AdamShardedIdeal.τ).loc Cert.AdamShardedIdeal.main_arg7))
      ∧ r.2.sem = fun _ => 0)

def quiescent_AdamShardedReferenceIdeal [hAdamShardedReferenceIdeal : Cert.AdamShardedReferenceIdeal.Facts] : Prop :=
  ∀ (m : (ℓ : Loc Cert.AdamShardedReferenceIdeal.nD Cert.AdamShardedReferenceIdeal.τ Cert.AdamShardedReferenceIdeal.sig) → Buf (Elt Ideal) ℓ) (g : Dev Cert.AdamShardedReferenceIdeal.nD → PrngReg), Pre_AdamShardedReferenceIdeal m →
    θ_run (Cert.AdamShardedReferenceIdeal.defs (F := Ideal)) (onTc (τ := Cert.AdamShardedReferenceIdeal.τ) (Cert.AdamShardedReferenceIdeal.main (F := Ideal))) ⟨m, fun _ => 0, g⟩ (fun r => (∀ c : Dev Cert.AdamShardedReferenceIdeal.nD,
      r.2.mem ((c.tc : Thread Cert.AdamShardedReferenceIdeal.nD Cert.AdamShardedReferenceIdeal.τ).loc Cert.AdamShardedReferenceIdeal.main_arg0) = m ((c.tc : Thread Cert.AdamShardedReferenceIdeal.nD Cert.AdamShardedReferenceIdeal.τ).loc Cert.AdamShardedReferenceIdeal.main_arg0)
      ∧ r.2.mem ((c.tc : Thread Cert.AdamShardedReferenceIdeal.nD Cert.AdamShardedReferenceIdeal.τ).loc Cert.AdamShardedReferenceIdeal.main_arg1) = m ((c.tc : Thread Cert.AdamShardedReferenceIdeal.nD Cert.AdamShardedReferenceIdeal.τ).loc Cert.AdamShardedReferenceIdeal.main_arg1)
      ∧ r.2.mem ((c.tc : Thread Cert.AdamShardedReferenceIdeal.nD Cert.AdamShardedReferenceIdeal.τ).loc Cert.AdamShardedReferenceIdeal.main_arg2) = m ((c.tc : Thread Cert.AdamShardedReferenceIdeal.nD Cert.AdamShardedReferenceIdeal.τ).loc Cert.AdamShardedReferenceIdeal.main_arg2)
      ∧ r.2.mem ((c.tc : Thread Cert.AdamShardedReferenceIdeal.nD Cert.AdamShardedReferenceIdeal.τ).loc Cert.AdamShardedReferenceIdeal.main_arg3) = m ((c.tc : Thread Cert.AdamShardedReferenceIdeal.nD Cert.AdamShardedReferenceIdeal.τ).loc Cert.AdamShardedReferenceIdeal.main_arg3)
      ∧ r.2.mem ((c.tc : Thread Cert.AdamShardedReferenceIdeal.nD Cert.AdamShardedReferenceIdeal.τ).loc Cert.AdamShardedReferenceIdeal.main_arg4) = m ((c.tc : Thread Cert.AdamShardedReferenceIdeal.nD Cert.AdamShardedReferenceIdeal.τ).loc Cert.AdamShardedReferenceIdeal.main_arg4)
      ∧ r.2.mem ((c.tc : Thread Cert.AdamShardedReferenceIdeal.nD Cert.AdamShardedReferenceIdeal.τ).loc Cert.AdamShardedReferenceIdeal.main_arg5) = m ((c.tc : Thread Cert.AdamShardedReferenceIdeal.nD Cert.AdamShardedReferenceIdeal.τ).loc Cert.AdamShardedReferenceIdeal.main_arg5)
      ∧ r.2.mem ((c.tc : Thread Cert.AdamShardedReferenceIdeal.nD Cert.AdamShardedReferenceIdeal.τ).loc Cert.AdamShardedReferenceIdeal.main_arg6) = m ((c.tc : Thread Cert.AdamShardedReferenceIdeal.nD Cert.AdamShardedReferenceIdeal.τ).loc Cert.AdamShardedReferenceIdeal.main_arg6)
      ∧ r.2.mem ((c.tc : Thread Cert.AdamShardedReferenceIdeal.nD Cert.AdamShardedReferenceIdeal.τ).loc Cert.AdamShardedReferenceIdeal.main_arg7) = m ((c.tc : Thread Cert.AdamShardedReferenceIdeal.nD Cert.AdamShardedReferenceIdeal.τ).loc Cert.AdamShardedReferenceIdeal.main_arg7))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3)
      ∧ r.2.mem ((c.tc : Thread Cert.AdamSmallReferenceIdeal.nD Cert.AdamSmallReferenceIdeal.τ).loc Cert.AdamSmallReferenceIdeal.main_arg4) = m ((c.tc : Thread Cert.AdamSmallReferenceIdeal.nD Cert.AdamSmallReferenceIdeal.τ).loc Cert.AdamSmallReferenceIdeal.main_arg4)
      ∧ r.2.mem ((c.tc : Thread Cert.AdamSmallReferenceIdeal.nD Cert.AdamSmallReferenceIdeal.τ).loc Cert.AdamSmallReferenceIdeal.main_arg5) = m ((c.tc : Thread Cert.AdamSmallReferenceIdeal.nD Cert.AdamSmallReferenceIdeal.τ).loc Cert.AdamSmallReferenceIdeal.main_arg5)
      ∧ r.2.mem ((c.tc : Thread Cert.AdamSmallReferenceIdeal.nD Cert.AdamSmallReferenceIdeal.τ).loc Cert.AdamSmallReferenceIdeal.main_arg6) = m ((c.tc : Thread Cert.AdamSmallReferenceIdeal.nD Cert.AdamSmallReferenceIdeal.τ).loc Cert.AdamSmallReferenceIdeal.main_arg6)
      ∧ r.2.mem ((c.tc : Thread Cert.AdamSmallReferenceIdeal.nD Cert.AdamSmallReferenceIdeal.τ).loc Cert.AdamSmallReferenceIdeal.main_arg7) = m ((c.tc : Thread Cert.AdamSmallReferenceIdeal.nD Cert.AdamSmallReferenceIdeal.τ).loc Cert.AdamSmallReferenceIdeal.main_arg7)
      ∧ r.2.mem ((c.tc : Thread Cert.AdamSmallReferenceIdeal.nD Cert.AdamSmallReferenceIdeal.τ).loc Cert.AdamSmallReferenceIdeal.main_arg8) = m ((c.tc : Thread Cert.AdamSmallReferenceIdeal.nD Cert.AdamSmallReferenceIdeal.τ).loc Cert.AdamSmallReferenceIdeal.main_arg8)
      ∧ r.2.mem ((c.tc : Thread Cert.AdamSmallReferenceIdeal.nD Cert.AdamSmallReferenceIdeal.τ).loc Cert.AdamSmallReferenceIdeal.main_arg9) = m ((c.tc : Thread Cert.AdamSmallReferenceIdeal.nD Cert.AdamSmallReferenceIdeal.τ).loc Cert.AdamSmallReferenceIdeal.main_arg9)
      ∧ r.2.mem ((c.tc : Thread Cert.AdamSmallReferenceIdeal.nD Cert.AdamSmallReferenceIdeal.τ).loc Cert.AdamSmallReferenceIdeal.main_arg10) = m ((c.tc : Thread Cert.AdamSmallReferenceIdeal.nD Cert.AdamSmallReferenceIdeal.τ).loc Cert.AdamSmallReferenceIdeal.main_arg10)
      ∧ r.2.mem ((c.tc : Thread Cert.AdamSmallReferenceIdeal.nD Cert.AdamSmallReferenceIdeal.τ).loc Cert.AdamSmallReferenceIdeal.main_arg11) = m ((c.tc : Thread Cert.AdamSmallReferenceIdeal.nD Cert.AdamSmallReferenceIdeal.τ).loc Cert.AdamSmallReferenceIdeal.main_arg11)
      ∧ r.2.mem ((c.tc : Thread Cert.AdamSmallReferenceIdeal.nD Cert.AdamSmallReferenceIdeal.τ).loc Cert.AdamSmallReferenceIdeal.main_arg12) = m ((c.tc : Thread Cert.AdamSmallReferenceIdeal.nD Cert.AdamSmallReferenceIdeal.τ).loc Cert.AdamSmallReferenceIdeal.main_arg12)
      ∧ r.2.mem ((c.tc : Thread Cert.AdamSmallReferenceIdeal.nD Cert.AdamSmallReferenceIdeal.τ).loc Cert.AdamSmallReferenceIdeal.main_arg13) = m ((c.tc : Thread Cert.AdamSmallReferenceIdeal.nD Cert.AdamSmallReferenceIdeal.τ).loc Cert.AdamSmallReferenceIdeal.main_arg13)
      ∧ r.2.mem ((c.tc : Thread Cert.AdamSmallReferenceIdeal.nD Cert.AdamSmallReferenceIdeal.τ).loc Cert.AdamSmallReferenceIdeal.main_arg14) = m ((c.tc : Thread Cert.AdamSmallReferenceIdeal.nD Cert.AdamSmallReferenceIdeal.τ).loc Cert.AdamSmallReferenceIdeal.main_arg14)
      ∧ r.2.mem ((c.tc : Thread Cert.AdamSmallReferenceIdeal.nD Cert.AdamSmallReferenceIdeal.τ).loc Cert.AdamSmallReferenceIdeal.main_arg15) = m ((c.tc : Thread Cert.AdamSmallReferenceIdeal.nD Cert.AdamSmallReferenceIdeal.τ).loc Cert.AdamSmallReferenceIdeal.main_arg15)
      ∧ r.2.mem ((c.tc : Thread Cert.AdamSmallReferenceIdeal.nD Cert.AdamSmallReferenceIdeal.τ).loc Cert.AdamSmallReferenceIdeal.main_arg16) = m ((c.tc : Thread Cert.AdamSmallReferenceIdeal.nD Cert.AdamSmallReferenceIdeal.τ).loc Cert.AdamSmallReferenceIdeal.main_arg16)
      ∧ r.2.mem ((c.tc : Thread Cert.AdamSmallReferenceIdeal.nD Cert.AdamSmallReferenceIdeal.τ).loc Cert.AdamSmallReferenceIdeal.main_arg17) = m ((c.tc : Thread Cert.AdamSmallReferenceIdeal.nD Cert.AdamSmallReferenceIdeal.τ).loc Cert.AdamSmallReferenceIdeal.main_arg17)
      ∧ r.2.mem ((c.tc : Thread Cert.AdamSmallReferenceIdeal.nD Cert.AdamSmallReferenceIdeal.τ).loc Cert.AdamSmallReferenceIdeal.main_arg18) = m ((c.tc : Thread Cert.AdamSmallReferenceIdeal.nD Cert.AdamSmallReferenceIdeal.τ).loc Cert.AdamSmallReferenceIdeal.main_arg18)
      ∧ r.2.mem ((c.tc : Thread Cert.AdamSmallReferenceIdeal.nD Cert.AdamSmallReferenceIdeal.τ).loc Cert.AdamSmallReferenceIdeal.main_arg19) = m ((c.tc : Thread Cert.AdamSmallReferenceIdeal.nD Cert.AdamSmallReferenceIdeal.τ).loc Cert.AdamSmallReferenceIdeal.main_arg19)
      ∧ r.2.mem ((c.tc : Thread Cert.AdamSmallReferenceIdeal.nD Cert.AdamSmallReferenceIdeal.τ).loc Cert.AdamSmallReferenceIdeal.main_arg20) = m ((c.tc : Thread Cert.AdamSmallReferenceIdeal.nD Cert.AdamSmallReferenceIdeal.τ).loc Cert.AdamSmallReferenceIdeal.main_arg20)
      ∧ r.2.mem ((c.tc : Thread Cert.AdamSmallReferenceIdeal.nD Cert.AdamSmallReferenceIdeal.τ).loc Cert.AdamSmallReferenceIdeal.main_arg21) = m ((c.tc : Thread Cert.AdamSmallReferenceIdeal.nD Cert.AdamSmallReferenceIdeal.τ).loc Cert.AdamSmallReferenceIdeal.main_arg21)
      ∧ r.2.mem ((c.tc : Thread Cert.AdamSmallReferenceIdeal.nD Cert.AdamSmallReferenceIdeal.τ).loc Cert.AdamSmallReferenceIdeal.main_arg22) = m ((c.tc : Thread Cert.AdamSmallReferenceIdeal.nD Cert.AdamSmallReferenceIdeal.τ).loc Cert.AdamSmallReferenceIdeal.main_arg22)
      ∧ r.2.mem ((c.tc : Thread Cert.AdamSmallReferenceIdeal.nD Cert.AdamSmallReferenceIdeal.τ).loc Cert.AdamSmallReferenceIdeal.main_arg23) = m ((c.tc : Thread Cert.AdamSmallReferenceIdeal.nD Cert.AdamSmallReferenceIdeal.τ).loc Cert.AdamSmallReferenceIdeal.main_arg23)
      ∧ r.2.mem ((c.tc : Thread Cert.AdamSmallReferenceIdeal.nD Cert.AdamSmallReferenceIdeal.τ).loc Cert.AdamSmallReferenceIdeal.main_arg24) = m ((c.tc : Thread Cert.AdamSmallReferenceIdeal.nD Cert.AdamSmallReferenceIdeal.τ).loc Cert.AdamSmallReferenceIdeal.main_arg24)
      ∧ r.2.mem ((c.tc : Thread Cert.AdamSmallReferenceIdeal.nD Cert.AdamSmallReferenceIdeal.τ).loc Cert.AdamSmallReferenceIdeal.main_arg25) = m ((c.tc : Thread Cert.AdamSmallReferenceIdeal.nD Cert.AdamSmallReferenceIdeal.τ).loc Cert.AdamSmallReferenceIdeal.main_arg25)
      ∧ r.2.mem ((c.tc : Thread Cert.AdamSmallReferenceIdeal.nD Cert.AdamSmallReferenceIdeal.τ).loc Cert.AdamSmallReferenceIdeal.main_arg26) = m ((c.tc : Thread Cert.AdamSmallReferenceIdeal.nD Cert.AdamSmallReferenceIdeal.τ).loc Cert.AdamSmallReferenceIdeal.main_arg26)
      ∧ r.2.mem ((c.tc : Thread Cert.AdamSmallReferenceIdeal.nD Cert.AdamSmallReferenceIdeal.τ).loc Cert.AdamSmallReferenceIdeal.main_arg27) = m ((c.tc : Thread Cert.AdamSmallReferenceIdeal.nD Cert.AdamSmallReferenceIdeal.τ).loc Cert.AdamSmallReferenceIdeal.main_arg27)
      ∧ r.2.mem ((c.tc : Thread Cert.AdamSmallReferenceIdeal.nD Cert.AdamSmallReferenceIdeal.τ).loc Cert.AdamSmallReferenceIdeal.main_arg28) = m ((c.tc : Thread Cert.AdamSmallReferenceIdeal.nD Cert.AdamSmallReferenceIdeal.τ).loc Cert.AdamSmallReferenceIdeal.main_arg28)
      ∧ r.2.mem ((c.tc : Thread Cert.AdamSmallReferenceIdeal.nD Cert.AdamSmallReferenceIdeal.τ).loc Cert.AdamSmallReferenceIdeal.main_arg29) = m ((c.tc : Thread Cert.AdamSmallReferenceIdeal.nD Cert.AdamSmallReferenceIdeal.τ).loc Cert.AdamSmallReferenceIdeal.main_arg29)
      ∧ r.2.mem ((c.tc : Thread Cert.AdamSmallReferenceIdeal.nD Cert.AdamSmallReferenceIdeal.τ).loc Cert.AdamSmallReferenceIdeal.main_arg30) = m ((c.tc : Thread Cert.AdamSmallReferenceIdeal.nD Cert.AdamSmallReferenceIdeal.τ).loc Cert.AdamSmallReferenceIdeal.main_arg30)
      ∧ r.2.mem ((c.tc : Thread Cert.AdamSmallReferenceIdeal.nD Cert.AdamSmallReferenceIdeal.τ).loc Cert.AdamSmallReferenceIdeal.main_arg31) = m ((c.tc : Thread Cert.AdamSmallReferenceIdeal.nD Cert.AdamSmallReferenceIdeal.τ).loc Cert.AdamSmallReferenceIdeal.main_arg31)
      ∧ r.2.mem ((c.tc : Thread Cert.AdamSmallReferenceIdeal.nD Cert.AdamSmallReferenceIdeal.τ).loc Cert.AdamSmallReferenceIdeal.main_arg32) = m ((c.tc : Thread Cert.AdamSmallReferenceIdeal.nD Cert.AdamSmallReferenceIdeal.τ).loc Cert.AdamSmallReferenceIdeal.main_arg32)
      ∧ r.2.mem ((c.tc : Thread Cert.AdamSmallReferenceIdeal.nD Cert.AdamSmallReferenceIdeal.τ).loc Cert.AdamSmallReferenceIdeal.main_arg33) = m ((c.tc : Thread Cert.AdamSmallReferenceIdeal.nD Cert.AdamSmallReferenceIdeal.τ).loc Cert.AdamSmallReferenceIdeal.main_arg33)
      ∧ r.2.mem ((c.tc : Thread Cert.AdamSmallReferenceIdeal.nD Cert.AdamSmallReferenceIdeal.τ).loc Cert.AdamSmallReferenceIdeal.main_arg34) = m ((c.tc : Thread Cert.AdamSmallReferenceIdeal.nD Cert.AdamSmallReferenceIdeal.τ).loc Cert.AdamSmallReferenceIdeal.main_arg34)
      ∧ r.2.mem ((c.tc : Thread Cert.AdamSmallReferenceIdeal.nD Cert.AdamSmallReferenceIdeal.τ).loc Cert.AdamSmallReferenceIdeal.main_arg35) = m ((c.tc : Thread Cert.AdamSmallReferenceIdeal.nD Cert.AdamSmallReferenceIdeal.τ).loc Cert.AdamSmallReferenceIdeal.main_arg35)
      ∧ r.2.mem ((c.tc : Thread Cert.AdamSmallReferenceIdeal.nD Cert.AdamSmallReferenceIdeal.τ).loc Cert.AdamSmallReferenceIdeal.main_arg36) = m ((c.tc : Thread Cert.AdamSmallReferenceIdeal.nD Cert.AdamSmallReferenceIdeal.τ).loc Cert.AdamSmallReferenceIdeal.main_arg36)
      ∧ r.2.mem ((c.tc : Thread Cert.AdamSmallReferenceIdeal.nD Cert.AdamSmallReferenceIdeal.τ).loc Cert.AdamSmallReferenceIdeal.main_arg37) = m ((c.tc : Thread Cert.AdamSmallReferenceIdeal.nD Cert.AdamSmallReferenceIdeal.τ).loc Cert.AdamSmallReferenceIdeal.main_arg37)
      ∧ r.2.mem ((c.tc : Thread Cert.AdamSmallReferenceIdeal.nD Cert.AdamSmallReferenceIdeal.τ).loc Cert.AdamSmallReferenceIdeal.main_arg38) = m ((c.tc : Thread Cert.AdamSmallReferenceIdeal.nD Cert.AdamSmallReferenceIdeal.τ).loc Cert.AdamSmallReferenceIdeal.main_arg38)
      ∧ r.2.mem ((c.tc : Thread Cert.AdamSmallReferenceIdeal.nD Cert.AdamSmallReferenceIdeal.τ).loc Cert.AdamSmallReferenceIdeal.main_arg39) = m ((c.tc : Thread Cert.AdamSmallReferenceIdeal.nD Cert.AdamSmallReferenceIdeal.τ).loc Cert.AdamSmallReferenceIdeal.main_arg39)
      ∧ r.2.mem ((c.tc : Thread Cert.AdamSmallReferenceIdeal.nD Cert.AdamSmallReferenceIdeal.τ).loc Cert.AdamSmallReferenceIdeal.main_arg40) = m ((c.tc : Thread Cert.AdamSmallReferenceIdeal.nD Cert.AdamSmallReferenceIdeal.τ).loc Cert.AdamSmallReferenceIdeal.main_arg40)
      ∧ r.2.mem ((c.tc : Thread Cert.AdamSmallReferenceIdeal.nD Cert.AdamSmallReferenceIdeal.τ).loc Cert.AdamSmallReferenceIdeal.main_arg41) = m ((c.tc : Thread Cert.AdamSmallReferenceIdeal.nD Cert.AdamSmallReferenceIdeal.τ).loc Cert.AdamSmallReferenceIdeal.main_arg41)
      ∧ r.2.mem ((c.tc : Thread Cert.AdamSmallReferenceIdeal.nD Cert.AdamSmallReferenceIdeal.τ).loc Cert.AdamSmallReferenceIdeal.main_arg42) = m ((c.tc : Thread Cert.AdamSmallReferenceIdeal.nD Cert.AdamSmallReferenceIdeal.τ).loc Cert.AdamSmallReferenceIdeal.main_arg42)
      ∧ r.2.mem ((c.tc : Thread Cert.AdamSmallReferenceIdeal.nD Cert.AdamSmallReferenceIdeal.τ).loc Cert.AdamSmallReferenceIdeal.main_arg43) = m ((c.tc : Thread Cert.AdamSmallReferenceIdeal.nD Cert.AdamSmallReferenceIdeal.τ).loc Cert.AdamSmallReferenceIdeal.main_arg43)
      ∧ r.2.mem ((c.tc : Thread Cert.AdamSmallReferenceIdeal.nD Cert.AdamSmallReferenceIdeal.τ).loc Cert.AdamSmallReferenceIdeal.main_arg44) = m ((c.tc : Thread Cert.AdamSmallReferenceIdeal.nD Cert.AdamSmallReferenceIdeal.τ).loc Cert.AdamSmallReferenceIdeal.main_arg44)
      ∧ r.2.mem ((c.tc : Thread Cert.AdamSmallReferenceIdeal.nD Cert.AdamSmallReferenceIdeal.τ).loc Cert.AdamSmallReferenceIdeal.main_arg45) = m ((c.tc : Thread Cert.AdamSmallReferenceIdeal.nD Cert.AdamSmallReferenceIdeal.τ).loc Cert.AdamSmallReferenceIdeal.main_arg45)
      ∧ r.2.mem ((c.tc : Thread Cert.AdamSmallReferenceIdeal.nD Cert.AdamSmallReferenceIdeal.τ).loc Cert.AdamSmallReferenceIdeal.main_arg46) = m ((c.tc : Thread Cert.AdamSmallReferenceIdeal.nD Cert.AdamSmallReferenceIdeal.τ).loc Cert.AdamSmallReferenceIdeal.main_arg46)
      ∧ r.2.mem ((c.tc : Thread Cert.AdamSmallReferenceIdeal.nD Cert.AdamSmallReferenceIdeal.τ).loc Cert.AdamSmallReferenceIdeal.main_arg47) = m ((c.tc : Thread Cert.AdamSmallReferenceIdeal.nD Cert.AdamSmallReferenceIdeal.τ).loc Cert.AdamSmallReferenceIdeal.main_arg47)
      ∧ r.2.mem ((c.tc : Thread Cert.AdamSmallReferenceIdeal.nD Cert.AdamSmallReferenceIdeal.τ).loc Cert.AdamSmallReferenceIdeal.main_arg48) = m ((c.tc : Thread Cert.AdamSmallReferenceIdeal.nD Cert.AdamSmallReferenceIdeal.τ).loc Cert.AdamSmallReferenceIdeal.main_arg48)
      ∧ r.2.mem ((c.tc : Thread Cert.AdamSmallReferenceIdeal.nD Cert.AdamSmallReferenceIdeal.τ).loc Cert.AdamSmallReferenceIdeal.main_arg49) = m ((c.tc : Thread Cert.AdamSmallReferenceIdeal.nD Cert.AdamSmallReferenceIdeal.τ).loc Cert.AdamSmallReferenceIdeal.main_arg49)
      ∧ r.2.mem ((c.tc : Thread Cert.AdamSmallReferenceIdeal.nD Cert.AdamSmallReferenceIdeal.τ).loc Cert.AdamSmallReferenceIdeal.main_arg50) = m ((c.tc : Thread Cert.AdamSmallReferenceIdeal.nD Cert.AdamSmallReferenceIdeal.τ).loc Cert.AdamSmallReferenceIdeal.main_arg50)
      ∧ r.2.mem ((c.tc : Thread Cert.AdamSmallReferenceIdeal.nD Cert.AdamSmallReferenceIdeal.τ).loc Cert.AdamSmallReferenceIdeal.main_arg51) = m ((c.tc : Thread Cert.AdamSmallReferenceIdeal.nD Cert.AdamSmallReferenceIdeal.τ).loc Cert.AdamSmallReferenceIdeal.main_arg51))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 2048, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v9_0) i = v0 c i)
          ∧ (∀ i : (⟨2, ![2048, 8192]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.KernelIdeal.nD Cert.KernelIdeal.τ).loc Cert.KernelIdeal.main_v9_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 2048, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v23) i = v0 c i)
          ∧ (∀ i : (⟨2, ![2048, 8192]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.ReferenceIdeal.nD Cert.ReferenceIdeal.τ).loc Cert.ReferenceIdeal.main_v24) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_BranchBwd_BranchBwdIdeal : Prop :=
  True

def algebraic_BranchBwdIdeal_BranchBwdReferenceIdeal [hBranchBwdIdeal : Cert.BranchBwdIdeal.Facts] [hBranchBwdReferenceIdeal : Cert.BranchBwdReferenceIdeal.Facts] : Prop :=
  ∀ (m : (ℓ : Loc Cert.BranchBwdIdeal.nD Cert.BranchBwdIdeal.τ Cert.BranchBwdIdeal.sig) → Buf (Elt Ideal) ℓ) (g : Dev Cert.BranchBwdIdeal.nD → PrngReg)
    (m' : (ℓ : Loc Cert.BranchBwdReferenceIdeal.nD Cert.BranchBwdReferenceIdeal.τ Cert.BranchBwdReferenceIdeal.sig) → Buf (Elt Ideal) ℓ) (g' : Dev Cert.BranchBwdReferenceIdeal.nD → PrngReg), Pre_BranchBwdIdeal m →
    (∀ c : Dev Cert.BranchBwdIdeal.nD,
      m' ((c.tc : Thread Cert.BranchBwdReferenceIdeal.nD Cert.BranchBwdReferenceIdeal.τ).loc Cert.BranchBwdReferenceIdeal.main_arg0) = m ((c.tc : Thread Cert.BranchBwdIdeal.nD Cert.BranchBwdIdeal.τ).loc Cert.BranchBwdIdeal.main_arg0)
      ∧ m' ((c.tc : Thread Cert.BranchBwdReferenceIdeal.nD Cert.BranchBwdReferenceIdeal.τ).loc Cert.BranchBwdReferenceIdeal.main_arg1) = m ((c.tc : Thread Cert.BranchBwdIdeal.nD Cert.BranchBwdIdeal.τ).loc Cert.BranchBwdIdeal.main_arg1)) →
    ∃ (v0 : (c : Dev Cert.BranchBwdIdeal.nD) → Buf (Elt Ideal) ((c.tc : Thread Cert.BranchBwdIdeal.nD Cert.BranchBwdIdeal.τ).loc Cert.BranchBwdIdeal.main_v2)),
      θ_run (Cert.BranchBwdIdeal.defs (F := Ideal)) (onTc (τ := Cert.BranchBwdIdeal.τ) (Cert.BranchBwdIdeal.main (F := Ideal))) ⟨m, fun _ => 0, g⟩ (fun r => ∀ c : Dev Cert.BranchBwdIdeal.nD,
          r.2.mem ((c.tc : Thread Cert.BranchBwdIdeal.nD Cert.BranchBwdIdeal.τ).loc Cert.BranchBwdIdeal.main_v2) = v0 c
          ∧ r.2.mem ((c.tc : Thread Cert.BranchBwdIdeal.nD Cert.BranchBwdIdeal.τ).loc Cert.BranchBwdIdeal.main_arg0) = m ((c.tc : Thread Cert.BranchBwdIdeal.nD Cert.BranchBwdIdeal.τ).loc Cert.BranchBwdIdeal.main_arg0)
          ∧ r.2.mem ((c.tc : Thread Cert.BranchBwdIdeal.nD Cert.BranchBwdIdeal.τ).loc Cert.BranchBwdIdeal.main_arg1) = m ((c.tc : Thread Cert.BranchBwdIdeal.nD Cert.BranchBwdIdeal.τ).loc Cert.BranchBwdIdeal.main_arg1))
      ∧ θ_run (Cert.BranchBwdReferenceIdeal.defs (F := Ideal)) (onTc (τ := Cert.BranchBwdReferenceIdeal.τ) (Cert.BranchBwdReferenceIdeal.main (F := Ideal))) ⟨m', fun _ => 0, g'⟩ (fun r => ∀ c : Dev Cert.BranchBwdReferenceIdeal.nD,
          r.2.mem ((c.tc : Thread Cert.BranchBwdReferenceIdeal.nD Cert.BranchBwdReferenceIdeal.τ).loc Cert.BranchBwdReferenceIdeal.main_v7) = v0 c
          ∧ r.2.mem ((c.tc : Thread Cert.BranchBwdReferenceIdeal.nD Cert.BranchBwdReferenceIdeal.τ).loc Cert.BranchBwdReferenceIdeal.main_arg0) = m' ((c.tc : Thread Cert.BranchBwdReferenceIdeal.nD Cert.BranchBwdReferenceIdeal.τ).loc Cert.BranchBwdReferenceIdeal.main_arg0)
          ∧ r.2.mem ((c.tc : Thread Cert.BranchBwdReferenceIdeal.nD Cert.BranchBwdReferenceIdeal.τ).loc Cert.BranchBwdReferenceIdeal.main_arg1) = m' ((c.tc : Thread Cert.BranchBwdReferenceIdeal.nD Cert.BranchBwdReferenceIdeal.τ).loc Cert.BranchBwdReferenceIdeal.main_arg1))

def preserves_DwBranch_DwBranchIdeal : Prop :=
  True

def algebraic_DwBranchIdeal_DwBranchReferenceIdeal [hDwBranchIdeal : Cert.DwBranchIdeal.Facts] [hDwBranchReferenceIdeal : Cert.DwBranchReferenceIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.DwBranchReferenceIdeal.nD Cert.DwBranchReferenceIdeal.τ Cert.DwBranchReferenceIdeal.sig) → Buf (Elt Ideal) ℓ) (g' : Dev Cert.DwBranchReferenceIdeal.nD → PrngReg), Pre_DwBranchIdeal m →
    (∀ c : Dev Cert.DwBranchIdeal.nD,
      m' ((c.tc : Thread Cert.DwBranchReferenceIdeal.nD Cert.DwBranchReferenceIdeal.τ).loc Cert.DwBranchReferenceIdeal.main_arg0) = m ((c.tc : Thread Cert.DwBranchIdeal.nD Cert.DwBranchIdeal.τ).loc Cert.DwBranchIdeal.main_arg0)
      ∧ m' ((c.tc : Thread Cert.DwBranchReferenceIdeal.nD Cert.DwBranchReferenceIdeal.τ).loc Cert.DwBranchReferenceIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v2)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v2) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.DwBranchReferenceIdeal.defs (F := Ideal)) (onTc (τ := Cert.DwBranchReferenceIdeal.τ) (Cert.DwBranchReferenceIdeal.main (F := Ideal))) ⟨m', fun _ => 0, g'⟩ (fun r => ∀ c : Dev Cert.DwBranchReferenceIdeal.nD,
          r.2.mem ((c.tc : Thread Cert.DwBranchReferenceIdeal.nD Cert.DwBranchReferenceIdeal.τ).loc Cert.DwBranchReferenceIdeal.main_v8) = v0 c
          ∧ r.2.mem ((c.tc : Thread Cert.DwBranchReferenceIdeal.nD Cert.DwBranchReferenceIdeal.τ).loc Cert.DwBranchReferenceIdeal.main_arg0) = m' ((c.tc : Thread Cert.DwBranchReferenceIdeal.nD Cert.DwBranchReferenceIdeal.τ).loc Cert.DwBranchReferenceIdeal.main_arg0)
          ∧ r.2.mem ((c.tc : Thread Cert.DwBranchReferenceIdeal.nD Cert.DwBranchReferenceIdeal.τ).loc Cert.DwBranchReferenceIdeal.main_arg1) = m' ((c.tc : Thread Cert.DwBranchReferenceIdeal.nD Cert.DwBranchReferenceIdeal.τ).loc Cert.DwBranchReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)
      ∧ m' ((c.tc : Thread Cert.DwInReferenceIdeal.nD Cert.DwInReferenceIdeal.τ).loc Cert.DwInReferenceIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v18)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v18) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v17) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1)
          ∧ r.2.mem ((c.tc : Thread Cert.DwInReferenceIdeal.nD Cert.DwInReferenceIdeal.τ).loc Cert.DwInReferenceIdeal.main_arg2) = m' ((c.tc : Thread Cert.DwInReferenceIdeal.nD Cert.DwInReferenceIdeal.τ).loc Cert.DwInReferenceIdeal.main_arg2))

def preserves_ProjBwd_ProjBwdIdeal : Prop :=
  True

def algebraic_ProjBwdIdeal_ProjBwdReferenceIdeal [hProjBwdIdeal : Cert.ProjBwdIdeal.Facts] [hProjBwdReferenceIdeal : Cert.ProjBwdReferenceIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdReferenceIdeal.nD Cert.ProjBwdReferenceIdeal.τ Cert.ProjBwdReferenceIdeal.sig) → Buf (Elt Ideal) ℓ) (g' : Dev Cert.ProjBwdReferenceIdeal.nD → PrngReg), Pre_ProjBwdIdeal m →
    (∀ c : Dev Cert.ProjBwdIdeal.nD,
      m' ((c.tc : Thread Cert.ProjBwdReferenceIdeal.nD Cert.ProjBwdReferenceIdeal.τ).loc Cert.ProjBwdReferenceIdeal.main_arg0) = m ((c.tc : Thread Cert.ProjBwdIdeal.nD Cert.ProjBwdIdeal.τ).loc Cert.ProjBwdIdeal.main_arg0)
      ∧ m' ((c.tc : Thread Cert.ProjBwdReferenceIdeal.nD Cert.ProjBwdReferenceIdeal.τ).loc Cert.ProjBwdReferenceIdeal.main_arg1) = m ((c.tc : Thread Cert.ProjBwdIdeal.nD Cert.ProjBwdIdeal.τ).loc Cert.ProjBwdIdeal.main_arg1)
      ∧ m' ((c.tc : Thread Cert.ProjBwdReferenceIdeal.nD Cert.ProjBwdReferenceIdeal.τ).loc Cert.ProjBwdReferenceIdeal.main_arg2) = m ((c.tc : Thread Cert.ProjBwdIdeal.nD Cert.ProjBwdIdeal.τ).loc Cert.ProjBwdIdeal.main_arg2)
      ∧ m' ((c.tc : Thread Cert.ProjBwdReferenceIdeal.nD Cert.ProjBwdReferenceIdeal.τ).loc Cert.ProjBwdReferenceIdeal.main_arg3) = m ((c.tc : Thread Cert.ProjBwdIdeal.nD Cert.ProjBwdIdeal.τ).loc Cert.ProjBwdIdeal.main_arg3)
      ∧ m' ((c.tc : Thread Cert.ProjBwdReferenceIdeal.nD Cert.ProjBwdReferenceIdeal.τ).loc Cert.ProjBwdReferenceIdeal.main_arg4) = m ((c.tc : Thread Cert.ProjBwdIdeal.nD Cert.ProjBwdIdeal.τ).loc Cert.ProjBwdIdeal.main_arg4)) →
    ∃ (v0 : (c : Dev Cert.ProjBwdIdeal.nD) → Buf (Elt Ideal) ((c.tc : Thread Cert.ProjBwdIdeal.nD Cert.ProjBwdIdeal.τ).loc Cert.ProjBwdIdeal.main_v11)) (v1 : (c : Dev Cert.ProjBwdIdeal.nD) → Buf (Elt Ideal) ((c.tc : Thread Cert.ProjBwdIdeal.nD Cert.ProjBwdIdeal.τ).loc Cert.ProjBwdIdeal.main_v15)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v11) = v0 c
          ∧ r.2.mem ((c.tc : Thread Cert.ProjBwdIdeal.nD Cert.ProjBwdIdeal.τ).loc Cert.ProjBwdIdeal.main_v15) = v1 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ θ_run (Cert.ProjBwdReferenceIdeal.defs (F := Ideal)) (onTc (τ := Cert.ProjBwdReferenceIdeal.τ) (Cert.ProjBwdReferenceIdeal.main (F := Ideal))) ⟨m', fun _ => 0, g'⟩ (fun r => ∀ c : Dev Cert.ProjBwdReferenceIdeal.nD,
          r.2.mem ((c.tc : Thread Cert.ProjBwdReferenceIdeal.nD Cert.ProjBwdReferenceIdeal.τ).loc Cert.ProjBwdReferenceIdeal.main_v38) = v0 c
          ∧ r.2.mem ((c.tc : Thread Cert.ProjBwdReferenceIdeal.nD Cert.ProjBwdReferenceIdeal.τ).loc Cert.ProjBwdReferenceIdeal.main_v39) = v1 c
          ∧ r.2.mem ((c.tc : Thread Cert.ProjBwdReferenceIdeal.nD Cert.ProjBwdReferenceIdeal.τ).loc Cert.ProjBwdReferenceIdeal.main_arg0) = m' ((c.tc : Thread Cert.ProjBwdReferenceIdeal.nD Cert.ProjBwdReferenceIdeal.τ).loc Cert.ProjBwdReferenceIdeal.main_arg0)
          ∧ r.2.mem ((c.tc : Thread Cert.ProjBwdReferenceIdeal.nD Cert.ProjBwdReferenceIdeal.τ).loc Cert.ProjBwdReferenceIdeal.main_arg1) = m' ((c.tc : Thread Cert.ProjBwdReferenceIdeal.nD Cert.ProjBwdReferenceIdeal.τ).loc Cert.ProjBwdReferenceIdeal.main_arg1)
          ∧ r.2.mem ((c.tc : Thread Cert.ProjBwdReferenceIdeal.nD Cert.ProjBwdReferenceIdeal.τ).loc Cert.ProjBwdReferenceIdeal.main_arg2) = m' ((c.tc : Thread Cert.ProjBwdReferenceIdeal.nD Cert.ProjBwdReferenceIdeal.τ).loc Cert.ProjBwdReferenceIdeal.main_arg2)
          ∧ r.2.mem ((c.tc : Thread Cert.ProjBwdReferenceIdeal.nD Cert.ProjBwdReferenceIdeal.τ).loc Cert.ProjBwdReferenceIdeal.main_arg3) = m' ((c.tc : Thread Cert.ProjBwdReferenceIdeal.nD Cert.ProjBwdReferenceIdeal.τ).loc Cert.ProjBwdReferenceIdeal.main_arg3)
          ∧ r.2.mem ((c.tc : Thread Cert.ProjBwdReferenceIdeal.nD Cert.ProjBwdReferenceIdeal.τ).loc Cert.ProjBwdReferenceIdeal.main_arg4) = m' ((c.tc : Thread Cert.ProjBwdReferenceIdeal.nD Cert.ProjBwdReferenceIdeal.τ).loc Cert.ProjBwdReferenceIdeal.main_arg4))

def preserves_MlpDownBwd_MlpDownBwdIdeal : Prop :=
  True

def algebraic_MlpDownBwdIdeal_MlpDownBwdReferenceIdeal [hMlpDownBwdIdeal : Cert.MlpDownBwdIdeal.Facts] [hMlpDownBwdReferenceIdeal : Cert.MlpDownBwdReferenceIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg)
    (m' : (ℓ : Loc Cert.MlpDownBwdReferenceIdeal.nD Cert.MlpDownBwdReferenceIdeal.τ Cert.MlpDownBwdReferenceIdeal.sig) → Buf (Elt Ideal) ℓ) (g' : Dev Cert.MlpDownBwdReferenceIdeal.nD → PrngReg), Pre_MlpDownBwdIdeal m →
    (∀ c : Dev Cert.MlpDownBwdIdeal.nD,
      m' ((c.tc : Thread Cert.MlpDownBwdReferenceIdeal.nD Cert.MlpDownBwdReferenceIdeal.τ).loc Cert.MlpDownBwdReferenceIdeal.main_arg0) = m ((c.tc : Thread Cert.MlpDownBwdIdeal.nD Cert.MlpDownBwdIdeal.τ).loc Cert.MlpDownBwdIdeal.main_arg0)
      ∧ m' ((c.tc : Thread Cert.MlpDownBwdReferenceIdeal.nD Cert.MlpDownBwdReferenceIdeal.τ).loc Cert.MlpDownBwdReferenceIdeal.main_arg1) = m ((c.tc : Thread Cert.MlpDownBwdIdeal.nD Cert.MlpDownBwdIdeal.τ).loc Cert.MlpDownBwdIdeal.main_arg1)
      ∧ m' ((c.tc : Thread Cert.MlpDownBwdReferenceIdeal.nD Cert.MlpDownBwdReferenceIdeal.τ).loc Cert.MlpDownBwdReferenceIdeal.main_arg2) = m ((c.tc : Thread Cert.MlpDownBwdIdeal.nD Cert.MlpDownBwdIdeal.τ).loc Cert.MlpDownBwdIdeal.main_arg2)
      ∧ m' ((c.tc : Thread Cert.MlpDownBwdReferenceIdeal.nD Cert.MlpDownBwdReferenceIdeal.τ).loc Cert.MlpDownBwdReferenceIdeal.main_arg3) = m ((c.tc : Thread Cert.MlpDownBwdIdeal.nD Cert.MlpDownBwdIdeal.τ).loc Cert.MlpDownBwdIdeal.main_arg3)
      ∧ m' ((c.tc : Thread Cert.MlpDownBwdReferenceIdeal.nD Cert.MlpDownBwdReferenceIdeal.τ).loc Cert.MlpDownBwdReferenceIdeal.main_arg4) = m ((c.tc : Thread Cert.MlpDownBwdIdeal.nD Cert.MlpDownBwdIdeal.τ).loc Cert.MlpDownBwdIdeal.main_arg4)) →
    ∃ (v0 : (c : Dev Cert.MlpDownBwdIdeal.nD) → Buf (Elt Ideal) ((c.tc : Thread Cert.MlpDownBwdIdeal.nD Cert.MlpDownBwdIdeal.τ).loc Cert.MlpDownBwdIdeal.main_v22)),
      θ_run (Cert.MlpDownBwdIdeal.defs (F := Ideal)) (onTc (τ := Cert.MlpDownBwdIdeal.τ) (Cert.MlpDownBwdIdeal.main (F := Ideal))) ⟨m, fun _ => 0, g⟩ (fun r => ∀ c : Dev Cert.MlpDownBwdIdeal.nD,
          r.2.mem ((c.tc : Thread Cert.MlpDownBwdIdeal.nD Cert.MlpDownBwdIdeal.τ).loc Cert.MlpDownBwdIdeal.main_v22) = v0 c
          ∧ r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
          ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
          ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2)
          ∧ r.2.mem ((c.tc : Thread Cert.MlpDownBwdIdeal.nD Cert.MlpDownBwdIdeal.τ).loc Cert.MlpDownBwdIdeal.main_arg3) = m ((c.tc : Thread Cert.MlpDownBwdIdeal.nD Cert.MlpDownBwdIdeal.τ).loc Cert.MlpDownBwdIdeal.main_arg3)
          ∧ r.2.mem ((c.tc : Thread Cert.MlpDownBwdIdeal.nD Cert.MlpDownBwdIdeal.τ).loc Cert.MlpDownBwdIdeal.main_arg4) = m ((c.tc : Thread Cert.MlpDownBwdIdeal.nD Cert.MlpDownBwdIdeal.τ).loc Cert.MlpDownBwdIdeal.main_arg4))
      ∧ θ_run (Cert.MlpDownBwdReferenceIdeal.defs (F := Ideal)) (onTc (τ := Cert.MlpDownBwdReferenceIdeal.τ) (Cert.MlpDownBwdReferenceIdeal.main (F := Ideal))) ⟨m', fun _ => 0, g'⟩ (fun r => ∀ c : Dev Cert.MlpDownBwdReferenceIdeal.nD,
          r.2.mem ((c.tc : Thread Cert.MlpDownBwdReferenceIdeal.nD Cert.MlpDownBwdReferenceIdeal.τ).loc Cert.MlpDownBwdReferenceIdeal.main_v26) = v0 c
          ∧ r.2.mem ((c.tc : Thread Cert.MlpDownBwdReferenceIdeal.nD Cert.MlpDownBwdReferenceIdeal.τ).loc Cert.MlpDownBwdReferenceIdeal.main_arg0) = m' ((c.tc : Thread Cert.MlpDownBwdReferenceIdeal.nD Cert.MlpDownBwdReferenceIdeal.τ).loc Cert.MlpDownBwdReferenceIdeal.main_arg0)
          ∧ r.2.mem ((c.tc : Thread Cert.MlpDownBwdReferenceIdeal.nD Cert.MlpDownBwdReferenceIdeal.τ).loc Cert.MlpDownBwdReferenceIdeal.main_arg1) = m' ((c.tc : Thread Cert.MlpDownBwdReferenceIdeal.nD Cert.MlpDownBwdReferenceIdeal.τ).loc Cert.MlpDownBwdReferenceIdeal.main_arg1)
          ∧ r.2.mem ((c.tc : Thread Cert.MlpDownBwdReferenceIdeal.nD Cert.MlpDownBwdReferenceIdeal.τ).loc Cert.MlpDownBwdReferenceIdeal.main_arg2) = m' ((c.tc : Thread Cert.MlpDownBwdReferenceIdeal.nD Cert.MlpDownBwdReferenceIdeal.τ).loc Cert.MlpDownBwdReferenceIdeal.main_arg2)
          ∧ r.2.mem ((c.tc : Thread Cert.MlpDownBwdReferenceIdeal.nD Cert.MlpDownBwdReferenceIdeal.τ).loc Cert.MlpDownBwdReferenceIdeal.main_arg3) = m' ((c.tc : Thread Cert.MlpDownBwdReferenceIdeal.nD Cert.MlpDownBwdReferenceIdeal.τ).loc Cert.MlpDownBwdReferenceIdeal.main_arg3)
          ∧ r.2.mem ((c.tc : Thread Cert.MlpDownBwdReferenceIdeal.nD Cert.MlpDownBwdReferenceIdeal.τ).loc Cert.MlpDownBwdReferenceIdeal.main_arg4) = m' ((c.tc : Thread Cert.MlpDownBwdReferenceIdeal.nD Cert.MlpDownBwdReferenceIdeal.τ).loc Cert.MlpDownBwdReferenceIdeal.main_arg4))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)
      ∧ m' ((c.tc : Thread Cert.DwDownReferenceIdeal.nD Cert.DwDownReferenceIdeal.τ).loc Cert.DwDownReferenceIdeal.main_arg2) = m ((c.tc : Thread Cert.DwDownIdeal.nD Cert.DwDownIdeal.τ).loc Cert.DwDownIdeal.main_arg2)
      ∧ m' ((c.tc : Thread Cert.DwDownReferenceIdeal.nD Cert.DwDownReferenceIdeal.τ).loc Cert.DwDownReferenceIdeal.main_arg3) = m ((c.tc : Thread Cert.DwDownIdeal.nD Cert.DwDownIdeal.τ).loc Cert.DwDownIdeal.main_arg3)) →
    ∃ (v0 : (c : Dev Cert.DwDownIdeal.nD) → Buf (Elt Ideal) ((c.tc : Thread Cert.DwDownIdeal.nD Cert.DwDownIdeal.τ).loc Cert.DwDownIdeal.main_v20)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v20) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
          ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v20) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1)
          ∧ r.2.mem ((c.tc : Thread Cert.DwDownReferenceIdeal.nD Cert.DwDownReferenceIdeal.τ).loc Cert.DwDownReferenceIdeal.main_arg2) = m' ((c.tc : Thread Cert.DwDownReferenceIdeal.nD Cert.DwDownReferenceIdeal.τ).loc Cert.DwDownReferenceIdeal.main_arg2)
          ∧ r.2.mem ((c.tc : Thread Cert.DwDownReferenceIdeal.nD Cert.DwDownReferenceIdeal.τ).loc Cert.DwDownReferenceIdeal.main_arg3) = m' ((c.tc : Thread Cert.DwDownReferenceIdeal.nD Cert.DwDownReferenceIdeal.τ).loc Cert.DwDownReferenceIdeal.main_arg3))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)
      ∧ m' ((c.tc : Thread Cert.DwUpReferenceIdeal.nD Cert.DwUpReferenceIdeal.τ).loc Cert.DwUpReferenceIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v18)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v18) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v17) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1)
          ∧ r.2.mem ((c.tc : Thread Cert.DwUpReferenceIdeal.nD Cert.DwUpReferenceIdeal.τ).loc Cert.DwUpReferenceIdeal.main_arg2) = m' ((c.tc : Thread Cert.DwUpReferenceIdeal.nD Cert.DwUpReferenceIdeal.τ).loc Cert.DwUpReferenceIdeal.main_arg2))

def preserves_MlpUpBwd_MlpUpBwdIdeal : Prop :=
  True

def algebraic_MlpUpBwdIdeal_MlpUpBwdReferenceIdeal [hMlpUpBwdIdeal : Cert.MlpUpBwdIdeal.Facts] [hMlpUpBwdReferenceIdeal : Cert.MlpUpBwdReferenceIdeal.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg)
    (m' : (ℓ : Loc Cert.MlpUpBwdReferenceIdeal.nD Cert.MlpUpBwdReferenceIdeal.τ Cert.MlpUpBwdReferenceIdeal.sig) → Buf (Elt Ideal) ℓ) (g' : Dev Cert.MlpUpBwdReferenceIdeal.nD → PrngReg), Pre_MlpUpBwdIdeal m →
    (∀ c : Dev Cert.MlpUpBwdIdeal.nD,
      m' ((c.tc : Thread Cert.MlpUpBwdReferenceIdeal.nD Cert.MlpUpBwdReferenceIdeal.τ).loc Cert.MlpUpBwdReferenceIdeal.main_arg0) = m ((c.tc : Thread Cert.MlpUpBwdIdeal.nD Cert.MlpUpBwdIdeal.τ).loc Cert.MlpUpBwdIdeal.main_arg0)
      ∧ m' ((c.tc : Thread Cert.MlpUpBwdReferenceIdeal.nD Cert.MlpUpBwdReferenceIdeal.τ).loc Cert.MlpUpBwdReferenceIdeal.main_arg1) = m ((c.tc : Thread Cert.MlpUpBwdIdeal.nD Cert.MlpUpBwdIdeal.τ).loc Cert.MlpUpBwdIdeal.main_arg1)
      ∧ m' ((c.tc : Thread Cert.MlpUpBwdReferenceIdeal.nD Cert.MlpUpBwdReferenceIdeal.τ).loc Cert.MlpUpBwdReferenceIdeal.main_arg2) = m ((c.tc : Thread Cert.MlpUpBwdIdeal.nD Cert.MlpUpBwdIdeal.τ).loc Cert.MlpUpBwdIdeal.main_arg2)
      ∧ m' ((c.tc : Thread Cert.MlpUpBwdReferenceIdeal.nD Cert.MlpUpBwdReferenceIdeal.τ).loc Cert.MlpUpBwdReferenceIdeal.main_arg3) = m ((c.tc : Thread Cert.MlpUpBwdIdeal.nD Cert.MlpUpBwdIdeal.τ).loc Cert.MlpUpBwdIdeal.main_arg3)
      ∧ m' ((c.tc : Thread Cert.MlpUpBwdReferenceIdeal.nD Cert.MlpUpBwdReferenceIdeal.τ).loc Cert.MlpUpBwdReferenceIdeal.main_arg4) = m ((c.tc : Thread Cert.MlpUpBwdIdeal.nD Cert.MlpUpBwdIdeal.τ).loc Cert.MlpUpBwdIdeal.main_arg4)) →
    ∃ (v0 : (c : Dev Cert.MlpUpBwdIdeal.nD) → Buf (Elt Ideal) ((c.tc : Thread Cert.MlpUpBwdIdeal.nD Cert.MlpUpBwdIdeal.τ).loc Cert.MlpUpBwdIdeal.main_v11)) (v1 : (c : Dev Cert.MlpUpBwdIdeal.nD) → Buf (Elt Ideal) ((c.tc : Thread Cert.MlpUpBwdIdeal.nD Cert.MlpUpBwdIdeal.τ).loc Cert.MlpUpBwdIdeal.main_v15)),
      θ_run (Cert.MlpUpBwdIdeal.defs (F := Ideal)) (onTc (τ := Cert.MlpUpBwdIdeal.τ) (Cert.MlpUpBwdIdeal.main (F := Ideal))) ⟨m, fun _ => 0, g⟩ (fun r => ∀ c : Dev Cert.MlpUpBwdIdeal.nD,
          r.2.mem ((c.tc : Thread Cert.MlpUpBwdIdeal.nD Cert.MlpUpBwdIdeal.τ).loc Cert.MlpUpBwdIdeal.main_v11) = v0 c
          ∧ r.2.mem ((c.tc : Thread Cert.MlpUpBwdIdeal.nD Cert.MlpUpBwdIdeal.τ).loc Cert.MlpUpBwdIdeal.main_v15) = v1 c
          ∧ r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
          ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
          ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2)
          ∧ r.2.mem ((c.tc : Thread Cert.MlpUpBwdIdeal.nD Cert.MlpUpBwdIdeal.τ).loc Cert.MlpUpBwdIdeal.main_arg3) = m ((c.tc : Thread Cert.MlpUpBwdIdeal.nD Cert.MlpUpBwdIdeal.τ).loc Cert.MlpUpBwdIdeal.main_arg3)
          ∧ r.2.mem ((c.tc : Thread Cert.MlpUpBwdIdeal.nD Cert.MlpUpBwdIdeal.τ).loc Cert.MlpUpBwdIdeal.main_arg4) = m ((c.tc : Thread Cert.MlpUpBwdIdeal.nD Cert.MlpUpBwdIdeal.τ).loc Cert.MlpUpBwdIdeal.main_arg4))
      ∧ θ_run (Cert.MlpUpBwdReferenceIdeal.defs (F := Ideal)) (onTc (τ := Cert.MlpUpBwdReferenceIdeal.τ) (Cert.MlpUpBwdReferenceIdeal.main (F := Ideal))) ⟨m', fun _ => 0, g'⟩ (fun r => ∀ c : Dev Cert.MlpUpBwdReferenceIdeal.nD,
          r.2.mem ((c.tc : Thread Cert.MlpUpBwdReferenceIdeal.nD Cert.MlpUpBwdReferenceIdeal.τ).loc Cert.MlpUpBwdReferenceIdeal.main_v38) = v0 c
          ∧ r.2.mem ((c.tc : Thread Cert.MlpUpBwdReferenceIdeal.nD Cert.MlpUpBwdReferenceIdeal.τ).loc Cert.MlpUpBwdReferenceIdeal.main_v39) = v1 c
          ∧ r.2.mem ((c.tc : Thread Cert.MlpUpBwdReferenceIdeal.nD Cert.MlpUpBwdReferenceIdeal.τ).loc Cert.MlpUpBwdReferenceIdeal.main_arg0) = m' ((c.tc : Thread Cert.MlpUpBwdReferenceIdeal.nD Cert.MlpUpBwdReferenceIdeal.τ).loc Cert.MlpUpBwdReferenceIdeal.main_arg0)
          ∧ r.2.mem ((c.tc : Thread Cert.MlpUpBwdReferenceIdeal.nD Cert.MlpUpBwdReferenceIdeal.τ).loc Cert.MlpUpBwdReferenceIdeal.main_arg1) = m' ((c.tc : Thread Cert.MlpUpBwdReferenceIdeal.nD Cert.MlpUpBwdReferenceIdeal.τ).loc Cert.MlpUpBwdReferenceIdeal.main_arg1)
          ∧ r.2.mem ((c.tc : Thread Cert.MlpUpBwdReferenceIdeal.nD Cert.MlpUpBwdReferenceIdeal.τ).loc Cert.MlpUpBwdReferenceIdeal.main_arg2) = m' ((c.tc : Thread Cert.MlpUpBwdReferenceIdeal.nD Cert.MlpUpBwdReferenceIdeal.τ).loc Cert.MlpUpBwdReferenceIdeal.main_arg2)
          ∧ r.2.mem ((c.tc : Thread Cert.MlpUpBwdReferenceIdeal.nD Cert.MlpUpBwdReferenceIdeal.τ).loc Cert.MlpUpBwdReferenceIdeal.main_arg3) = m' ((c.tc : Thread Cert.MlpUpBwdReferenceIdeal.nD Cert.MlpUpBwdReferenceIdeal.τ).loc Cert.MlpUpBwdReferenceIdeal.main_arg3)
          ∧ r.2.mem ((c.tc : Thread Cert.MlpUpBwdReferenceIdeal.nD Cert.MlpUpBwdReferenceIdeal.τ).loc Cert.MlpUpBwdReferenceIdeal.main_arg4) = m' ((c.tc : Thread Cert.MlpUpBwdReferenceIdeal.nD Cert.MlpUpBwdReferenceIdeal.τ).loc Cert.MlpUpBwdReferenceIdeal.main_arg4))

def preserves_OutProjBwd_OutProjBwdIdeal : Prop :=
  True

def algebraic_OutProjBwdIdeal_OutProjBwdReferenceIdeal [hOutProjBwdIdeal : Cert.OutProjBwdIdeal.Facts] [hOutProjBwdReferenceIdeal : Cert.OutProjBwdReferenceIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg)
    (m' : (ℓ : Loc Cert.OutProjBwdReferenceIdeal.nD Cert.OutProjBwdReferenceIdeal.τ Cert.OutProjBwdReferenceIdeal.sig) → Buf (Elt Ideal) ℓ) (g' : Dev Cert.OutProjBwdReferenceIdeal.nD → PrngReg), Pre_OutProjBwdIdeal m →
    (∀ c : Dev Cert.OutProjBwdIdeal.nD,
      m' ((c.tc : Thread Cert.OutProjBwdReferenceIdeal.nD Cert.OutProjBwdReferenceIdeal.τ).loc Cert.OutProjBwdReferenceIdeal.main_arg0) = m ((c.tc : Thread Cert.OutProjBwdIdeal.nD Cert.OutProjBwdIdeal.τ).loc Cert.OutProjBwdIdeal.main_arg0)
      ∧ m' ((c.tc : Thread Cert.OutProjBwdReferenceIdeal.nD Cert.OutProjBwdReferenceIdeal.τ).loc Cert.OutProjBwdReferenceIdeal.main_arg1) = m ((c.tc : Thread Cert.OutProjBwdIdeal.nD Cert.OutProjBwdIdeal.τ).loc Cert.OutProjBwdIdeal.main_arg1)) →
    ∃ (v0 : (c : Dev Cert.OutProjBwdIdeal.nD) → Buf (Elt Ideal) ((c.tc : Thread Cert.OutProjBwdIdeal.nD Cert.OutProjBwdIdeal.τ).loc Cert.OutProjBwdIdeal.main_v4)),
      θ_run (Cert.OutProjBwdIdeal.defs (F := Ideal)) (onTc (τ := Cert.OutProjBwdIdeal.τ) (Cert.OutProjBwdIdeal.main (F := Ideal))) ⟨m, fun _ => 0, g⟩ (fun r => ∀ c : Dev Cert.OutProjBwdIdeal.nD,
          r.2.mem ((c.tc : Thread Cert.OutProjBwdIdeal.nD Cert.OutProjBwdIdeal.τ).loc Cert.OutProjBwdIdeal.main_v4) = v0 c
          ∧ r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
          ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1))
      ∧ θ_run (Cert.OutProjBwdReferenceIdeal.defs (F := Ideal)) (onTc (τ := Cert.OutProjBwdReferenceIdeal.τ) (Cert.OutProjBwdReferenceIdeal.main (F := Ideal))) ⟨m', fun _ => 0, g'⟩ (fun r => ∀ c : Dev Cert.OutProjBwdReferenceIdeal.nD,
          r.2.mem ((c.tc : Thread Cert.OutProjBwdReferenceIdeal.nD Cert.OutProjBwdReferenceIdeal.τ).loc Cert.OutProjBwdReferenceIdeal.main_v2) = v0 c
          ∧ r.2.mem ((c.tc : Thread Cert.OutProjBwdReferenceIdeal.nD Cert.OutProjBwdReferenceIdeal.τ).loc Cert.OutProjBwdReferenceIdeal.main_arg0) = m' ((c.tc : Thread Cert.OutProjBwdReferenceIdeal.nD Cert.OutProjBwdReferenceIdeal.τ).loc Cert.OutProjBwdReferenceIdeal.main_arg0)
          ∧ r.2.mem ((c.tc : Thread Cert.OutProjBwdReferenceIdeal.nD Cert.OutProjBwdReferenceIdeal.τ).loc Cert.OutProjBwdReferenceIdeal.main_arg1) = m' ((c.tc : Thread Cert.OutProjBwdReferenceIdeal.nD Cert.OutProjBwdReferenceIdeal.τ).loc Cert.OutProjBwdReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v4)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v4) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v4) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_PleBwd_PleBwdIdeal : Prop :=
  True

def algebraic_PleBwdIdeal_PleBwdReferenceIdeal [hPleBwdIdeal : Cert.PleBwdIdeal.Facts] [hPleBwdReferenceIdeal : Cert.PleBwdReferenceIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdReferenceIdeal.nD Cert.PleBwdReferenceIdeal.τ Cert.PleBwdReferenceIdeal.sig) → Buf (Elt Ideal) ℓ) (g' : Dev Cert.PleBwdReferenceIdeal.nD → PrngReg), Pre_PleBwdIdeal m →
    (∀ c : Dev Cert.PleBwdIdeal.nD,
      m' ((c.tc : Thread Cert.PleBwdReferenceIdeal.nD Cert.PleBwdReferenceIdeal.τ).loc Cert.PleBwdReferenceIdeal.main_arg0) = m ((c.tc : Thread Cert.PleBwdIdeal.nD Cert.PleBwdIdeal.τ).loc Cert.PleBwdIdeal.main_arg0)
      ∧ m' ((c.tc : Thread Cert.PleBwdReferenceIdeal.nD Cert.PleBwdReferenceIdeal.τ).loc Cert.PleBwdReferenceIdeal.main_arg1) = m ((c.tc : Thread Cert.PleBwdIdeal.nD Cert.PleBwdIdeal.τ).loc Cert.PleBwdIdeal.main_arg1)
      ∧ m' ((c.tc : Thread Cert.PleBwdReferenceIdeal.nD Cert.PleBwdReferenceIdeal.τ).loc Cert.PleBwdReferenceIdeal.main_arg2) = m ((c.tc : Thread Cert.PleBwdIdeal.nD Cert.PleBwdIdeal.τ).loc Cert.PleBwdIdeal.main_arg2)
      ∧ m' ((c.tc : Thread Cert.PleBwdReferenceIdeal.nD Cert.PleBwdReferenceIdeal.τ).loc Cert.PleBwdReferenceIdeal.main_arg3) = m ((c.tc : Thread Cert.PleBwdIdeal.nD Cert.PleBwdIdeal.τ).loc Cert.PleBwdIdeal.main_arg3)
      ∧ m' ((c.tc : Thread Cert.PleBwdReferenceIdeal.nD Cert.PleBwdReferenceIdeal.τ).loc Cert.PleBwdReferenceIdeal.main_arg4) = m ((c.tc : Thread Cert.PleBwdIdeal.nD Cert.PleBwdIdeal.τ).loc Cert.PleBwdIdeal.main_arg4)
      ∧ m' ((c.tc : Thread Cert.PleBwdReferenceIdeal.nD Cert.PleBwdReferenceIdeal.τ).loc Cert.PleBwdReferenceIdeal.main_arg5) = m ((c.tc : Thread Cert.PleBwdIdeal.nD Cert.PleBwdIdeal.τ).loc Cert.PleBwdIdeal.main_arg5)) →
    ∃ (v0 : (c : Dev Cert.PleBwdIdeal.nD) → Buf (Elt Ideal) ((c.tc : Thread Cert.PleBwdIdeal.nD Cert.PleBwdIdeal.τ).loc Cert.PleBwdIdeal.main_v20)) (v1 : (c : Dev Cert.PleBwdIdeal.nD) → Buf (Elt Ideal) ((c.tc : Thread Cert.PleBwdIdeal.nD Cert.PleBwdIdeal.τ).loc Cert.PleBwdIdeal.main_v21)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v20) = v0 c
          ∧ r.2.mem ((c.tc : Thread Cert.PleBwdIdeal.nD Cert.PleBwdIdeal.τ).loc Cert.PleBwdIdeal.main_v21) = v1 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
          ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ θ_run (Cert.PleBwdReferenceIdeal.defs (F := Ideal)) (onTc (τ := Cert.PleBwdReferenceIdeal.τ) (Cert.PleBwdReferenceIdeal.main (F := Ideal))) ⟨m', fun _ => 0, g'⟩ (fun r => ∀ c : Dev Cert.PleBwdReferenceIdeal.nD,
          r.2.mem ((c.tc : Thread Cert.PleBwdReferenceIdeal.nD Cert.PleBwdReferenceIdeal.τ).loc Cert.PleBwdReferenceIdeal.main_v28) = v0 c
          ∧ r.2.mem ((c.tc : Thread Cert.PleBwdReferenceIdeal.nD Cert.PleBwdReferenceIdeal.τ).loc Cert.PleBwdReferenceIdeal.main_v29) = v1 c
          ∧ r.2.mem ((c.tc : Thread Cert.PleBwdReferenceIdeal.nD Cert.PleBwdReferenceIdeal.τ).loc Cert.PleBwdReferenceIdeal.main_arg0) = m' ((c.tc : Thread Cert.PleBwdReferenceIdeal.nD Cert.PleBwdReferenceIdeal.τ).loc Cert.PleBwdReferenceIdeal.main_arg0)
          ∧ r.2.mem ((c.tc : Thread Cert.PleBwdReferenceIdeal.nD Cert.PleBwdReferenceIdeal.τ).loc Cert.PleBwdReferenceIdeal.main_arg1) = m' ((c.tc : Thread Cert.PleBwdReferenceIdeal.nD Cert.PleBwdReferenceIdeal.τ).loc Cert.PleBwdReferenceIdeal.main_arg1)
          ∧ r.2.mem ((c.tc : Thread Cert.PleBwdReferenceIdeal.nD Cert.PleBwdReferenceIdeal.τ).loc Cert.PleBwdReferenceIdeal.main_arg2) = m' ((c.tc : Thread Cert.PleBwdReferenceIdeal.nD Cert.PleBwdReferenceIdeal.τ).loc Cert.PleBwdReferenceIdeal.main_arg2)
          ∧ r.2.mem ((c.tc : Thread Cert.PleBwdReferenceIdeal.nD Cert.PleBwdReferenceIdeal.τ).loc Cert.PleBwdReferenceIdeal.main_arg3) = m' ((c.tc : Thread Cert.PleBwdReferenceIdeal.nD Cert.PleBwdReferenceIdeal.τ).loc Cert.PleBwdReferenceIdeal.main_arg3)
          ∧ r.2.mem ((c.tc : Thread Cert.PleBwdReferenceIdeal.nD Cert.PleBwdReferenceIdeal.τ).loc Cert.PleBwdReferenceIdeal.main_arg4) = m' ((c.tc : Thread Cert.PleBwdReferenceIdeal.nD Cert.PleBwdReferenceIdeal.τ).loc Cert.PleBwdReferenceIdeal.main_arg4)
          ∧ r.2.mem ((c.tc : Thread Cert.PleBwdReferenceIdeal.nD Cert.PleBwdReferenceIdeal.τ).loc Cert.PleBwdReferenceIdeal.main_arg5) = m' ((c.tc : Thread Cert.PleBwdReferenceIdeal.nD Cert.PleBwdReferenceIdeal.τ).loc Cert.PleBwdReferenceIdeal.main_arg5))

def preserves_DwPle_DwPleIdeal : Prop :=
  True

def algebraic_DwPleIdeal_DwPleReferenceIdeal [hDwPleIdeal : Cert.DwPleIdeal.Facts] [hDwPleReferenceIdeal : Cert.DwPleReferenceIdeal.Facts] : Prop :=
  ∀ (m : (ℓ : Loc Cert.DwPleIdeal.nD Cert.DwPleIdeal.τ Cert.DwPleIdeal.sig) → Buf (Elt Ideal) ℓ) (g : Dev Cert.DwPleIdeal.nD → PrngReg)
    (m' : (ℓ : Loc Cert.DwPleReferenceIdeal.nD Cert.DwPleReferenceIdeal.τ Cert.DwPleReferenceIdeal.sig) → Buf (Elt Ideal) ℓ) (g' : Dev Cert.DwPleReferenceIdeal.nD → PrngReg), Pre_DwPleIdeal m →
    (∀ c : Dev Cert.DwPleIdeal.nD,
      m' ((c.tc : Thread Cert.DwPleReferenceIdeal.nD Cert.DwPleReferenceIdeal.τ).loc Cert.DwPleReferenceIdeal.main_arg0) = m ((c.tc : Thread Cert.DwPleIdeal.nD Cert.DwPleIdeal.τ).loc Cert.DwPleIdeal.main_arg0)
      ∧ m' ((c.tc : Thread Cert.DwPleReferenceIdeal.nD Cert.DwPleReferenceIdeal.τ).loc Cert.DwPleReferenceIdeal.main_arg1) = m ((c.tc : Thread Cert.DwPleIdeal.nD Cert.DwPleIdeal.τ).loc Cert.DwPleIdeal.main_arg1)) →
    ∃ (v0 : (c : Dev Cert.DwPleIdeal.nD) → Buf (Elt Ideal) ((c.tc : Thread Cert.DwPleIdeal.nD Cert.DwPleIdeal.τ).loc Cert.DwPleIdeal.main_v4)),
      θ_run (Cert.DwPleIdeal.defs (F := Ideal)) (onTc (τ := Cert.DwPleIdeal.τ) (Cert.DwPleIdeal.main (F := Ideal))) ⟨m, fun _ => 0, g⟩ (fun r => ∀ c : Dev Cert.DwPleIdeal.nD,
          r.2.mem ((c.tc : Thread Cert.DwPleIdeal.nD Cert.DwPleIdeal.τ).loc Cert.DwPleIdeal.main_v4) = v0 c
          ∧ r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
          ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1))
      ∧ θ_run (Cert.DwPleReferenceIdeal.defs (F := Ideal)) (onTc (τ := Cert.DwPleReferenceIdeal.τ) (Cert.DwPleReferenceIdeal.main (F := Ideal))) ⟨m', fun _ => 0, g'⟩ (fun r => ∀ c : Dev Cert.DwPleReferenceIdeal.nD,
          r.2.mem ((c.tc : Thread Cert.DwPleReferenceIdeal.nD Cert.DwPleReferenceIdeal.τ).loc Cert.DwPleReferenceIdeal.main_v4) = v0 c
          ∧ r.2.mem ((c.tc : Thread Cert.DwPleReferenceIdeal.nD Cert.DwPleReferenceIdeal.τ).loc Cert.DwPleReferenceIdeal.main_arg0) = m' ((c.tc : Thread Cert.DwPleReferenceIdeal.nD Cert.DwPleReferenceIdeal.τ).loc Cert.DwPleReferenceIdeal.main_arg0)
          ∧ r.2.mem ((c.tc : Thread Cert.DwPleReferenceIdeal.nD Cert.DwPleReferenceIdeal.τ).loc Cert.DwPleReferenceIdeal.main_arg1) = m' ((c.tc : Thread Cert.DwPleReferenceIdeal.nD Cert.DwPleReferenceIdeal.τ).loc Cert.DwPleReferenceIdeal.main_arg1))

def preserves_DwPleGate_DwPleGateIdeal : Prop :=
  True

def algebraic_DwPleGateIdeal_DwPleGateReferenceIdeal [hDwPleGateIdeal : Cert.DwPleGateIdeal.Facts] [hDwPleGateReferenceIdeal : Cert.DwPleGateReferenceIdeal.Facts] : Prop :=
  ∀ (m : (ℓ : Loc Cert.DwPleGateIdeal.nD Cert.DwPleGateIdeal.τ Cert.DwPleGateIdeal.sig) → Buf (Elt Ideal) ℓ) (g : Dev Cert.DwPleGateIdeal.nD → PrngReg)
    (m' : (ℓ : Loc Cert.DwPleGateReferenceIdeal.nD Cert.DwPleGateReferenceIdeal.τ Cert.DwPleGateReferenceIdeal.sig) → Buf (Elt Ideal) ℓ) (g' : Dev Cert.DwPleGateReferenceIdeal.nD → PrngReg), Pre_DwPleGateIdeal m →
    (∀ c : Dev Cert.DwPleGateIdeal.nD,
      m' ((c.tc : Thread Cert.DwPleGateReferenceIdeal.nD Cert.DwPleGateReferenceIdeal.τ).loc Cert.DwPleGateReferenceIdeal.main_arg0) = m ((c.tc : Thread Cert.DwPleGateIdeal.nD Cert.DwPleGateIdeal.τ).loc Cert.DwPleGateIdeal.main_arg0)
      ∧ m' ((c.tc : Thread Cert.DwPleGateReferenceIdeal.nD Cert.DwPleGateReferenceIdeal.τ).loc Cert.DwPleGateReferenceIdeal.main_arg1) = m ((c.tc : Thread Cert.DwPleGateIdeal.nD Cert.DwPleGateIdeal.τ).loc Cert.DwPleGateIdeal.main_arg1)
      ∧ m' ((c.tc : Thread Cert.DwPleGateReferenceIdeal.nD Cert.DwPleGateReferenceIdeal.τ).loc Cert.DwPleGateReferenceIdeal.main_arg2) = m ((c.tc : Thread Cert.DwPleGateIdeal.nD Cert.DwPleGateIdeal.τ).loc Cert.DwPleGateIdeal.main_arg2)) →
    ∃ (v0 : (c : Dev Cert.DwPleGateIdeal.nD) → Buf (Elt Ideal) ((c.tc : Thread Cert.DwPleGateIdeal.nD Cert.DwPleGateIdeal.τ).loc Cert.DwPleGateIdeal.main_v18)),
      θ_run (Cert.DwPleGateIdeal.defs (F := Ideal)) (onTc (τ := Cert.DwPleGateIdeal.τ) (Cert.DwPleGateIdeal.main (F := Ideal))) ⟨m, fun _ => 0, g⟩ (fun r => ∀ c : Dev Cert.DwPleGateIdeal.nD,
          r.2.mem ((c.tc : Thread Cert.DwPleGateIdeal.nD Cert.DwPleGateIdeal.τ).loc Cert.DwPleGateIdeal.main_v18) = v0 c
          ∧ r.2.mem ((c.tc : Thread Cert.DwPleGateIdeal.nD Cert.DwPleGateIdeal.τ).loc Cert.DwPleGateIdeal.main_arg0) = m ((c.tc : Thread Cert.DwPleGateIdeal.nD Cert.DwPleGateIdeal.τ).loc Cert.DwPleGateIdeal.main_arg0)
          ∧ r.2.mem ((c.tc : Thread Cert.DwPleGateIdeal.nD Cert.DwPleGateIdeal.τ).loc Cert.DwPleGateIdeal.main_arg1) = m ((c.tc : Thread Cert.DwPleGateIdeal.nD Cert.DwPleGateIdeal.τ).loc Cert.DwPleGateIdeal.main_arg1)
          ∧ r.2.mem ((c.tc : Thread Cert.DwPleGateIdeal.nD Cert.DwPleGateIdeal.τ).loc Cert.DwPleGateIdeal.main_arg2) = m ((c.tc : Thread Cert.DwPleGateIdeal.nD Cert.DwPleGateIdeal.τ).loc Cert.DwPleGateIdeal.main_arg2))
      ∧ θ_run (Cert.DwPleGateReferenceIdeal.defs (F := Ideal)) (onTc (τ := Cert.DwPleGateReferenceIdeal.τ) (Cert.DwPleGateReferenceIdeal.main (F := Ideal))) ⟨m', fun _ => 0, g'⟩ (fun r => ∀ c : Dev Cert.DwPleGateReferenceIdeal.nD,
          r.2.mem ((c.tc : Thread Cert.DwPleGateReferenceIdeal.nD Cert.DwPleGateReferenceIdeal.τ).loc Cert.DwPleGateReferenceIdeal.main_v17) = v0 c
          ∧ r.2.mem ((c.tc : Thread Cert.DwPleGateReferenceIdeal.nD Cert.DwPleGateReferenceIdeal.τ).loc Cert.DwPleGateReferenceIdeal.main_arg0) = m' ((c.tc : Thread Cert.DwPleGateReferenceIdeal.nD Cert.DwPleGateReferenceIdeal.τ).loc Cert.DwPleGateReferenceIdeal.main_arg0)
          ∧ r.2.mem ((c.tc : Thread Cert.DwPleGateReferenceIdeal.nD Cert.DwPleGateReferenceIdeal.τ).loc Cert.DwPleGateReferenceIdeal.main_arg1) = m' ((c.tc : Thread Cert.DwPleGateReferenceIdeal.nD Cert.DwPleGateReferenceIdeal.τ).loc Cert.DwPleGateReferenceIdeal.main_arg1)
          ∧ r.2.mem ((c.tc : Thread Cert.DwPleGateReferenceIdeal.nD Cert.DwPleGateReferenceIdeal.τ).loc Cert.DwPleGateReferenceIdeal.main_arg2) = m' ((c.tc : Thread Cert.DwPleGateReferenceIdeal.nD Cert.DwPleGateReferenceIdeal.τ).loc Cert.DwPleGateReferenceIdeal.main_arg2))

def preserves_DhPle_DhPleIdeal : Prop :=
  True

def algebraic_DhPleIdeal_DhPleReferenceIdeal [hDhPleIdeal : Cert.DhPleIdeal.Facts] [hDhPleReferenceIdeal : Cert.DhPleReferenceIdeal.Facts] : Prop :=
  ∀ (m : (ℓ : Loc Cert.DhPleIdeal.nD Cert.DhPleIdeal.τ Cert.DhPleIdeal.sig) → Buf (Elt Ideal) ℓ) (g : Dev Cert.DhPleIdeal.nD → PrngReg)
    (m' : (ℓ : Loc Cert.DhPleReferenceIdeal.nD Cert.DhPleReferenceIdeal.τ Cert.DhPleReferenceIdeal.sig) → Buf (Elt Ideal) ℓ) (g' : Dev Cert.DhPleReferenceIdeal.nD → PrngReg), Pre_DhPleIdeal m →
    (∀ c : Dev Cert.DhPleIdeal.nD,
      m' ((c.tc : Thread Cert.DhPleReferenceIdeal.nD Cert.DhPleReferenceIdeal.τ).loc Cert.DhPleReferenceIdeal.main_arg0) = m ((c.tc : Thread Cert.DhPleIdeal.nD Cert.DhPleIdeal.τ).loc Cert.DhPleIdeal.main_arg0)
      ∧ m' ((c.tc : Thread Cert.DhPleReferenceIdeal.nD Cert.DhPleReferenceIdeal.τ).loc Cert.DhPleReferenceIdeal.main_arg1) = m ((c.tc : Thread Cert.DhPleIdeal.nD Cert.DhPleIdeal.τ).loc Cert.DhPleIdeal.main_arg1)
      ∧ m' ((c.tc : Thread Cert.DhPleReferenceIdeal.nD Cert.DhPleReferenceIdeal.τ).loc Cert.DhPleReferenceIdeal.main_arg2) = m ((c.tc : Thread Cert.DhPleIdeal.nD Cert.DhPleIdeal.τ).loc Cert.DhPleIdeal.main_arg2)
      ∧ m' ((c.tc : Thread Cert.DhPleReferenceIdeal.nD Cert.DhPleReferenceIdeal.τ).loc Cert.DhPleReferenceIdeal.main_arg3) = m ((c.tc : Thread Cert.DhPleIdeal.nD Cert.DhPleIdeal.τ).loc Cert.DhPleIdeal.main_arg3)
      ∧ m' ((c.tc : Thread Cert.DhPleReferenceIdeal.nD Cert.DhPleReferenceIdeal.τ).loc Cert.DhPleReferenceIdeal.main_arg4) = m ((c.tc : Thread Cert.DhPleIdeal.nD Cert.DhPleIdeal.τ).loc Cert.DhPleIdeal.main_arg4)) →
    ∃ (v0 : (c : Dev Cert.DhPleIdeal.nD) → Buf (Elt Ideal) ((c.tc : Thread Cert.DhPleIdeal.nD Cert.DhPleIdeal.τ).loc Cert.DhPleIdeal.main_v9)) (v1 : (c : Dev Cert.DhPleIdeal.nD) → Buf (Elt Ideal) ((c.tc : Thread Cert.DhPleIdeal.nD Cert.DhPleIdeal.τ).loc Cert.DhPleIdeal.main_v13)),
      θ_run (Cert.DhPleIdeal.defs (F := Ideal)) (onTc (τ := Cert.DhPleIdeal.τ) (Cert.DhPleIdeal.main (F := Ideal))) ⟨m, fun _ => 0, g⟩ (fun r => ∀ c : Dev Cert.DhPleIdeal.nD,
          r.2.mem ((c.tc : Thread Cert.DhPleIdeal.nD Cert.DhPleIdeal.τ).loc Cert.DhPleIdeal.main_v9) = v0 c
          ∧ r.2.mem ((c.tc : Thread Cert.DhPleIdeal.nD Cert.DhPleIdeal.τ).loc Cert.DhPleIdeal.main_v13) = v1 c
          ∧ r.2.mem ((c.tc : Thread Cert.DhPleIdeal.nD Cert.DhPleIdeal.τ).loc Cert.DhPleIdeal.main_arg0) = m ((c.tc : Thread Cert.DhPleIdeal.nD Cert.DhPleIdeal.τ).loc Cert.DhPleIdeal.main_arg0)
          ∧ r.2.mem ((c.tc : Thread Cert.DhPleIdeal.nD Cert.DhPleIdeal.τ).loc Cert.DhPleIdeal.main_arg1) = m ((c.tc : Thread Cert.DhPleIdeal.nD Cert.DhPleIdeal.τ).loc Cert.DhPleIdeal.main_arg1)
          ∧ r.2.mem ((c.tc : Thread Cert.DhPleIdeal.nD Cert.DhPleIdeal.τ).loc Cert.DhPleIdeal.main_arg2) = m ((c.tc : Thread Cert.DhPleIdeal.nD Cert.DhPleIdeal.τ).loc Cert.DhPleIdeal.main_arg2)
          ∧ r.2.mem ((c.tc : Thread Cert.DhPleIdeal.nD Cert.DhPleIdeal.τ).loc Cert.DhPleIdeal.main_arg3) = m ((c.tc : Thread Cert.DhPleIdeal.nD Cert.DhPleIdeal.τ).loc Cert.DhPleIdeal.main_arg3)
          ∧ r.2.mem ((c.tc : Thread Cert.DhPleIdeal.nD Cert.DhPleIdeal.τ).loc Cert.DhPleIdeal.main_arg4) = m ((c.tc : Thread Cert.DhPleIdeal.nD Cert.DhPleIdeal.τ).loc Cert.DhPleIdeal.main_arg4))
      ∧ θ_run (Cert.DhPleReferenceIdeal.defs (F := Ideal)) (onTc (τ := Cert.DhPleReferenceIdeal.τ) (Cert.DhPleReferenceIdeal.main (F := Ideal))) ⟨m', fun _ => 0, g'⟩ (fun r => ∀ c : Dev Cert.DhPleReferenceIdeal.nD,
          r.2.mem ((c.tc : Thread Cert.DhPleReferenceIdeal.nD Cert.DhPleReferenceIdeal.τ).loc Cert.DhPleReferenceIdeal.main_v38) = v0 c
          ∧ r.2.mem ((c.tc : Thread Cert.DhPleReferenceIdeal.nD Cert.DhPleReferenceIdeal.τ).loc Cert.DhPleReferenceIdeal.main_v39) = v1 c
          ∧ r.2.mem ((c.tc : Thread Cert.DhPleReferenceIdeal.nD Cert.DhPleReferenceIdeal.τ).loc Cert.DhPleReferenceIdeal.main_arg0) = m' ((c.tc : Thread Cert.DhPleReferenceIdeal.nD Cert.DhPleReferenceIdeal.τ).loc Cert.DhPleReferenceIdeal.main_arg0)
          ∧ r.2.mem ((c.tc : Thread Cert.DhPleReferenceIdeal.nD Cert.DhPleReferenceIdeal.τ).loc Cert.DhPleReferenceIdeal.main_arg1) = m' ((c.tc : Thread Cert.DhPleReferenceIdeal.nD Cert.DhPleReferenceIdeal.τ).loc Cert.DhPleReferenceIdeal.main_arg1)
          ∧ r.2.mem ((c.tc : Thread Cert.DhPleReferenceIdeal.nD Cert.DhPleReferenceIdeal.τ).loc Cert.DhPleReferenceIdeal.main_arg2) = m' ((c.tc : Thread Cert.DhPleReferenceIdeal.nD Cert.DhPleReferenceIdeal.τ).loc Cert.DhPleReferenceIdeal.main_arg2)
          ∧ r.2.mem ((c.tc : Thread Cert.DhPleReferenceIdeal.nD Cert.DhPleReferenceIdeal.τ).loc Cert.DhPleReferenceIdeal.main_arg3) = m' ((c.tc : Thread Cert.DhPleReferenceIdeal.nD Cert.DhPleReferenceIdeal.τ).loc Cert.DhPleReferenceIdeal.main_arg3)
          ∧ r.2.mem ((c.tc : Thread Cert.DhPleReferenceIdeal.nD Cert.DhPleReferenceIdeal.τ).loc Cert.DhPleReferenceIdeal.main_arg4) = m' ((c.tc : Thread Cert.DhPleReferenceIdeal.nD Cert.DhPleReferenceIdeal.τ).loc Cert.DhPleReferenceIdeal.main_arg4))

def preserves_RmsMix_RmsMixIdeal : Prop :=
  True

def algebraic_RmsMixIdeal_RmsMixReferenceIdeal [hRmsMixIdeal : Cert.RmsMixIdeal.Facts] [hRmsMixReferenceIdeal : Cert.RmsMixReferenceIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg)
    (m' : (ℓ : Loc Cert.RmsMixReferenceIdeal.nD Cert.RmsMixReferenceIdeal.τ Cert.RmsMixReferenceIdeal.sig) → Buf (Elt Ideal) ℓ) (g' : Dev Cert.RmsMixReferenceIdeal.nD → PrngReg), Pre_RmsMixIdeal m →
    (∀ c : Dev Cert.RmsMixIdeal.nD,
      m' ((c.tc : Thread Cert.RmsMixReferenceIdeal.nD Cert.RmsMixReferenceIdeal.τ).loc Cert.RmsMixReferenceIdeal.main_arg0) = m ((c.tc : Thread Cert.RmsMixIdeal.nD Cert.RmsMixIdeal.τ).loc Cert.RmsMixIdeal.main_arg0)
      ∧ m' ((c.tc : Thread Cert.RmsMixReferenceIdeal.nD Cert.RmsMixReferenceIdeal.τ).loc Cert.RmsMixReferenceIdeal.main_arg1) = m ((c.tc : Thread Cert.RmsMixIdeal.nD Cert.RmsMixIdeal.τ).loc Cert.RmsMixIdeal.main_arg1)) →
    ∃ (v0 : (c : Dev Cert.RmsMixIdeal.nD) → Buf (Elt Ideal) ((c.tc : Thread Cert.RmsMixIdeal.nD Cert.RmsMixIdeal.τ).loc Cert.RmsMixIdeal.main_v1)),
      θ_run (Cert.RmsMixIdeal.defs (F := Ideal)) (onTc (τ := Cert.RmsMixIdeal.τ) (Cert.RmsMixIdeal.main (F := Ideal))) ⟨m, fun _ => 0, g⟩ (fun r => ∀ c : Dev Cert.RmsMixIdeal.nD,
          r.2.mem ((c.tc : Thread Cert.RmsMixIdeal.nD Cert.RmsMixIdeal.τ).loc Cert.RmsMixIdeal.main_v1) = v0 c
          ∧ r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
          ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1))
      ∧ θ_run (Cert.RmsMixReferenceIdeal.defs (F := Ideal)) (onTc (τ := Cert.RmsMixReferenceIdeal.τ) (Cert.RmsMixReferenceIdeal.main (F := Ideal))) ⟨m', fun _ => 0, g'⟩ (fun r => ∀ c : Dev Cert.RmsMixReferenceIdeal.nD,
          r.2.mem ((c.tc : Thread Cert.RmsMixReferenceIdeal.nD Cert.RmsMixReferenceIdeal.τ).loc Cert.RmsMixReferenceIdeal.main_v13) = v0 c
          ∧ r.2.mem ((c.tc : Thread Cert.RmsMixReferenceIdeal.nD Cert.RmsMixReferenceIdeal.τ).loc Cert.RmsMixReferenceIdeal.main_arg0) = m' ((c.tc : Thread Cert.RmsMixReferenceIdeal.nD Cert.RmsMixReferenceIdeal.τ).loc Cert.RmsMixReferenceIdeal.main_arg0)
          ∧ r.2.mem ((c.tc : Thread Cert.RmsMixReferenceIdeal.nD Cert.RmsMixReferenceIdeal.τ).loc Cert.RmsMixReferenceIdeal.main_arg1) = m' ((c.tc : Thread Cert.RmsMixReferenceIdeal.nD Cert.RmsMixReferenceIdeal.τ).loc Cert.RmsMixReferenceIdeal.main_arg1))

def preserves_ProjFwd_ProjFwdIdeal : Prop :=
  True

def algebraic_ProjFwdIdeal_ProjFwdReferenceIdeal [hProjFwdIdeal : Cert.ProjFwdIdeal.Facts] [hProjFwdReferenceIdeal : Cert.ProjFwdReferenceIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdReferenceIdeal.nD Cert.ProjFwdReferenceIdeal.τ Cert.ProjFwdReferenceIdeal.sig) → Buf (Elt Ideal) ℓ) (g' : Dev Cert.ProjFwdReferenceIdeal.nD → PrngReg), Pre_ProjFwdIdeal m →
    (∀ c : Dev Cert.ProjFwdIdeal.nD,
      m' ((c.tc : Thread Cert.ProjFwdReferenceIdeal.nD Cert.ProjFwdReferenceIdeal.τ).loc Cert.ProjFwdReferenceIdeal.main_arg0) = m ((c.tc : Thread Cert.ProjFwdIdeal.nD Cert.ProjFwdIdeal.τ).loc Cert.ProjFwdIdeal.main_arg0)
      ∧ m' ((c.tc : Thread Cert.ProjFwdReferenceIdeal.nD Cert.ProjFwdReferenceIdeal.τ).loc Cert.ProjFwdReferenceIdeal.main_arg1) = m ((c.tc : Thread Cert.ProjFwdIdeal.nD Cert.ProjFwdIdeal.τ).loc Cert.ProjFwdIdeal.main_arg1)) →
    ∃ (v0 : (c : Dev Cert.ProjFwdIdeal.nD) → Buf (Elt Ideal) ((c.tc : Thread Cert.ProjFwdIdeal.nD Cert.ProjFwdIdeal.τ).loc Cert.ProjFwdIdeal.main_v7)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v7) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ θ_run (Cert.ProjFwdReferenceIdeal.defs (F := Ideal)) (onTc (τ := Cert.ProjFwdReferenceIdeal.τ) (Cert.ProjFwdReferenceIdeal.main (F := Ideal))) ⟨m', fun _ => 0, g'⟩ (fun r => ∀ c : Dev Cert.ProjFwdReferenceIdeal.nD,
          r.2.mem ((c.tc : Thread Cert.ProjFwdReferenceIdeal.nD Cert.ProjFwdReferenceIdeal.τ).loc Cert.ProjFwdReferenceIdeal.main_v1) = v0 c
          ∧ r.2.mem ((c.tc : Thread Cert.ProjFwdReferenceIdeal.nD Cert.ProjFwdReferenceIdeal.τ).loc Cert.ProjFwdReferenceIdeal.main_arg0) = m' ((c.tc : Thread Cert.ProjFwdReferenceIdeal.nD Cert.ProjFwdReferenceIdeal.τ).loc Cert.ProjFwdReferenceIdeal.main_arg0)
          ∧ r.2.mem ((c.tc : Thread Cert.ProjFwdReferenceIdeal.nD Cert.ProjFwdReferenceIdeal.τ).loc Cert.ProjFwdReferenceIdeal.main_arg1) = m' ((c.tc : Thread Cert.ProjFwdReferenceIdeal.nD Cert.ProjFwdReferenceIdeal.τ).loc Cert.ProjFwdReferenceIdeal.main_arg1))

def preserves_ProjGates_ProjGatesIdeal : Prop :=
  True

def algebraic_ProjGatesIdeal_ProjGatesReferenceIdeal [hProjGatesIdeal : Cert.ProjGatesIdeal.Facts] [hProjGatesReferenceIdeal : Cert.ProjGatesReferenceIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesReferenceIdeal.nD Cert.ProjGatesReferenceIdeal.τ Cert.ProjGatesReferenceIdeal.sig) → Buf (Elt Ideal) ℓ) (g' : Dev Cert.ProjGatesReferenceIdeal.nD → PrngReg), Pre_ProjGatesIdeal m →
    (∀ c : Dev Cert.ProjGatesIdeal.nD,
      m' ((c.tc : Thread Cert.ProjGatesReferenceIdeal.nD Cert.ProjGatesReferenceIdeal.τ).loc Cert.ProjGatesReferenceIdeal.main_arg0) = m ((c.tc : Thread Cert.ProjGatesIdeal.nD Cert.ProjGatesIdeal.τ).loc Cert.ProjGatesIdeal.main_arg0)
      ∧ m' ((c.tc : Thread Cert.ProjGatesReferenceIdeal.nD Cert.ProjGatesReferenceIdeal.τ).loc Cert.ProjGatesReferenceIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v7)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v7) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesReferenceIdeal.defs (F := Ideal)) (onTc (τ := Cert.ProjGatesReferenceIdeal.τ) (Cert.ProjGatesReferenceIdeal.main (F := Ideal))) ⟨m', fun _ => 0, g'⟩ (fun r => ∀ c : Dev Cert.ProjGatesReferenceIdeal.nD,
          r.2.mem ((c.tc : Thread Cert.ProjGatesReferenceIdeal.nD Cert.ProjGatesReferenceIdeal.τ).loc Cert.ProjGatesReferenceIdeal.main_v8) = v0 c
          ∧ r.2.mem ((c.tc : Thread Cert.ProjGatesReferenceIdeal.nD Cert.ProjGatesReferenceIdeal.τ).loc Cert.ProjGatesReferenceIdeal.main_arg0) = m' ((c.tc : Thread Cert.ProjGatesReferenceIdeal.nD Cert.ProjGatesReferenceIdeal.τ).loc Cert.ProjGatesReferenceIdeal.main_arg0)
          ∧ r.2.mem ((c.tc : Thread Cert.ProjGatesReferenceIdeal.nD Cert.ProjGatesReferenceIdeal.τ).loc Cert.ProjGatesReferenceIdeal.main_arg1) = m' ((c.tc : Thread Cert.ProjGatesReferenceIdeal.nD Cert.ProjGatesReferenceIdeal.τ).loc Cert.ProjGatesReferenceIdeal.main_arg1))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v10) = v0 c
          ∧ r.2.mem ((c.tc : Thread Cert.GluReferenceIdeal.nD Cert.GluReferenceIdeal.τ).loc Cert.GluReferenceIdeal.main_v11) = v1 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v9)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v9) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v12) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v8)) (v1 : (c : Dev Cert.OutProjIdeal.nD) → Buf (Elt Ideal) ((c.tc : Thread Cert.OutProjIdeal.nD Cert.OutProjIdeal.τ).loc Cert.OutProjIdeal.main_v9)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8) = v0 c
          ∧ r.2.mem ((c.tc : Thread Cert.OutProjIdeal.nD Cert.OutProjIdeal.τ).loc Cert.OutProjIdeal.main_v9) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v1) = v0 c
          ∧ r.2.mem ((c.tc : Thread Cert.OutProjReferenceIdeal.nD Cert.OutProjReferenceIdeal.τ).loc Cert.OutProjReferenceIdeal.main_v15) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_MlpUp_MlpUpIdeal : Prop :=
  True

def algebraic_MlpUpIdeal_MlpUpReferenceIdeal [hMlpUpIdeal : Cert.MlpUpIdeal.Facts] [hMlpUpReferenceIdeal : Cert.MlpUpReferenceIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpReferenceIdeal.nD Cert.MlpUpReferenceIdeal.τ Cert.MlpUpReferenceIdeal.sig) → Buf (Elt Ideal) ℓ) (g' : Dev Cert.MlpUpReferenceIdeal.nD → PrngReg), Pre_MlpUpIdeal m →
    (∀ c : Dev Cert.MlpUpIdeal.nD,
      m' ((c.tc : Thread Cert.MlpUpReferenceIdeal.nD Cert.MlpUpReferenceIdeal.τ).loc Cert.MlpUpReferenceIdeal.main_arg0) = m ((c.tc : Thread Cert.MlpUpIdeal.nD Cert.MlpUpIdeal.τ).loc Cert.MlpUpIdeal.main_arg0)
      ∧ m' ((c.tc : Thread Cert.MlpUpReferenceIdeal.nD Cert.MlpUpReferenceIdeal.τ).loc Cert.MlpUpReferenceIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v7)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v7) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpReferenceIdeal.defs (F := Ideal)) (onTc (τ := Cert.MlpUpReferenceIdeal.τ) (Cert.MlpUpReferenceIdeal.main (F := Ideal))) ⟨m', fun _ => 0, g'⟩ (fun r => ∀ c : Dev Cert.MlpUpReferenceIdeal.nD,
          r.2.mem ((c.tc : Thread Cert.MlpUpReferenceIdeal.nD Cert.MlpUpReferenceIdeal.τ).loc Cert.MlpUpReferenceIdeal.main_v3) = v0 c
          ∧ r.2.mem ((c.tc : Thread Cert.MlpUpReferenceIdeal.nD Cert.MlpUpReferenceIdeal.τ).loc Cert.MlpUpReferenceIdeal.main_arg0) = m' ((c.tc : Thread Cert.MlpUpReferenceIdeal.nD Cert.MlpUpReferenceIdeal.τ).loc Cert.MlpUpReferenceIdeal.main_arg0)
          ∧ r.2.mem ((c.tc : Thread Cert.MlpUpReferenceIdeal.nD Cert.MlpUpReferenceIdeal.τ).loc Cert.MlpUpReferenceIdeal.main_arg1) = m' ((c.tc : Thread Cert.MlpUpReferenceIdeal.nD Cert.MlpUpReferenceIdeal.τ).loc Cert.MlpUpReferenceIdeal.main_arg1))

def preserves_MlpDown_MlpDownIdeal : Prop :=
  True

def algebraic_MlpDownIdeal_MlpDownReferenceIdeal [hMlpDownIdeal : Cert.MlpDownIdeal.Facts] [hMlpDownReferenceIdeal : Cert.MlpDownReferenceIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownReferenceIdeal.nD Cert.MlpDownReferenceIdeal.τ Cert.MlpDownReferenceIdeal.sig) → Buf (Elt Ideal) ℓ) (g' : Dev Cert.MlpDownReferenceIdeal.nD → PrngReg), Pre_MlpDownIdeal m →
    (∀ c : Dev Cert.MlpDownIdeal.nD,
      m' ((c.tc : Thread Cert.MlpDownReferenceIdeal.nD Cert.MlpDownReferenceIdeal.τ).loc Cert.MlpDownReferenceIdeal.main_arg0) = m ((c.tc : Thread Cert.MlpDownIdeal.nD Cert.MlpDownIdeal.τ).loc Cert.MlpDownIdeal.main_arg0)
      ∧ m' ((c.tc : Thread Cert.MlpDownReferenceIdeal.nD Cert.MlpDownReferenceIdeal.τ).loc Cert.MlpDownReferenceIdeal.main_arg1) = m ((c.tc : Thread Cert.MlpDownIdeal.nD Cert.MlpDownIdeal.τ).loc Cert.MlpDownIdeal.main_arg1)
      ∧ m' ((c.tc : Thread Cert.MlpDownReferenceIdeal.nD Cert.MlpDownReferenceIdeal.τ).loc Cert.MlpDownReferenceIdeal.main_arg2) = m ((c.tc : Thread Cert.MlpDownIdeal.nD Cert.MlpDownIdeal.τ).loc Cert.MlpDownIdeal.main_arg2)
      ∧ m' ((c.tc : Thread Cert.MlpDownReferenceIdeal.nD Cert.MlpDownReferenceIdeal.τ).loc Cert.MlpDownReferenceIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v8)) (v1 : (c : Dev Cert.MlpDownIdeal.nD) → Buf (Elt Ideal) ((c.tc : Thread Cert.MlpDownIdeal.nD Cert.MlpDownIdeal.τ).loc Cert.MlpDownIdeal.main_v9)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v8) = v0 c
          ∧ r.2.mem ((c.tc : Thread Cert.MlpDownIdeal.nD Cert.MlpDownIdeal.τ).loc Cert.MlpDownIdeal.main_v9) = v1 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownReferenceIdeal.defs (F := Ideal)) (onTc (τ := Cert.MlpDownReferenceIdeal.τ) (Cert.MlpDownReferenceIdeal.main (F := Ideal))) ⟨m', fun _ => 0, g'⟩ (fun r => ∀ c : Dev Cert.MlpDownReferenceIdeal.nD,
          r.2.mem ((c.tc : Thread Cert.MlpDownReferenceIdeal.nD Cert.MlpDownReferenceIdeal.τ).loc Cert.MlpDownReferenceIdeal.main_v1) = v0 c
          ∧ r.2.mem ((c.tc : Thread Cert.MlpDownReferenceIdeal.nD Cert.MlpDownReferenceIdeal.τ).loc Cert.MlpDownReferenceIdeal.main_v15) = v1 c
          ∧ r.2.mem ((c.tc : Thread Cert.MlpDownReferenceIdeal.nD Cert.MlpDownReferenceIdeal.τ).loc Cert.MlpDownReferenceIdeal.main_arg0) = m' ((c.tc : Thread Cert.MlpDownReferenceIdeal.nD Cert.MlpDownReferenceIdeal.τ).loc Cert.MlpDownReferenceIdeal.main_arg0)
          ∧ r.2.mem ((c.tc : Thread Cert.MlpDownReferenceIdeal.nD Cert.MlpDownReferenceIdeal.τ).loc Cert.MlpDownReferenceIdeal.main_arg1) = m' ((c.tc : Thread Cert.MlpDownReferenceIdeal.nD Cert.MlpDownReferenceIdeal.τ).loc Cert.MlpDownReferenceIdeal.main_arg1)
          ∧ r.2.mem ((c.tc : Thread Cert.MlpDownReferenceIdeal.nD Cert.MlpDownReferenceIdeal.τ).loc Cert.MlpDownReferenceIdeal.main_arg2) = m' ((c.tc : Thread Cert.MlpDownReferenceIdeal.nD Cert.MlpDownReferenceIdeal.τ).loc Cert.MlpDownReferenceIdeal.main_arg2)
          ∧ r.2.mem ((c.tc : Thread Cert.MlpDownReferenceIdeal.nD Cert.MlpDownReferenceIdeal.τ).loc Cert.MlpDownReferenceIdeal.main_arg3) = m' ((c.tc : Thread Cert.MlpDownReferenceIdeal.nD Cert.MlpDownReferenceIdeal.τ).loc Cert.MlpDownReferenceIdeal.main_arg3))

def preserves_PleGate_PleGateIdeal : Prop :=
  True

def algebraic_PleGateIdeal_PleGateReferenceIdeal [hPleGateIdeal : Cert.PleGateIdeal.Facts] [hPleGateReferenceIdeal : Cert.PleGateReferenceIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateReferenceIdeal.nD Cert.PleGateReferenceIdeal.τ Cert.PleGateReferenceIdeal.sig) → Buf (Elt Ideal) ℓ) (g' : Dev Cert.PleGateReferenceIdeal.nD → PrngReg), Pre_PleGateIdeal m →
    (∀ c : Dev Cert.PleGateIdeal.nD,
      m' ((c.tc : Thread Cert.PleGateReferenceIdeal.nD Cert.PleGateReferenceIdeal.τ).loc Cert.PleGateReferenceIdeal.main_arg0) = m ((c.tc : Thread Cert.PleGateIdeal.nD Cert.PleGateIdeal.τ).loc Cert.PleGateIdeal.main_arg0)
      ∧ m' ((c.tc : Thread Cert.PleGateReferenceIdeal.nD Cert.PleGateReferenceIdeal.τ).loc Cert.PleGateReferenceIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v5)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v5) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateReferenceIdeal.defs (F := Ideal)) (onTc (τ := Cert.PleGateReferenceIdeal.τ) (Cert.PleGateReferenceIdeal.main (F := Ideal))) ⟨m', fun _ => 0, g'⟩ (fun r => ∀ c : Dev Cert.PleGateReferenceIdeal.nD,
          r.2.mem ((c.tc : Thread Cert.PleGateReferenceIdeal.nD Cert.PleGateReferenceIdeal.τ).loc Cert.PleGateReferenceIdeal.main_v0) = v0 c
          ∧ r.2.mem ((c.tc : Thread Cert.PleGateReferenceIdeal.nD Cert.PleGateReferenceIdeal.τ).loc Cert.PleGateReferenceIdeal.main_arg0) = m' ((c.tc : Thread Cert.PleGateReferenceIdeal.nD Cert.PleGateReferenceIdeal.τ).loc Cert.PleGateReferenceIdeal.main_arg0)
          ∧ r.2.mem ((c.tc : Thread Cert.PleGateReferenceIdeal.nD Cert.PleGateReferenceIdeal.τ).loc Cert.PleGateReferenceIdeal.main_arg1) = m' ((c.tc : Thread Cert.PleGateReferenceIdeal.nD Cert.PleGateReferenceIdeal.τ).loc Cert.PleGateReferenceIdeal.main_arg1))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)) →
    ∃ (v0 : (c : Dev Cert.PleIdeal.nD) → Buf (Elt Ideal) ((c.tc : Thread Cert.PleIdeal.nD Cert.PleIdeal.τ).loc Cert.PleIdeal.main_v6)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v6) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v8) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v5)) (v1 : (c : Dev Cert.AdamInIdeal.nD) → Buf (Elt Ideal) ((c.tc : Thread Cert.AdamInIdeal.nD Cert.AdamInIdeal.τ).loc Cert.AdamInIdeal.main_v6)) (v2 : (c : Dev Cert.AdamInIdeal.nD) → Buf (Elt Ideal) ((c.tc : Thread Cert.AdamInIdeal.nD Cert.AdamInIdeal.τ).loc Cert.AdamInIdeal.main_v7)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v5) = v0 c
          ∧ r.2.mem ((c.tc : Thread Cert.AdamInIdeal.nD Cert.AdamInIdeal.τ).loc Cert.AdamInIdeal.main_v6) = v1 c
          ∧ r.2.mem ((c.tc : Thread Cert.AdamInIdeal.nD Cert.AdamInIdeal.τ).loc Cert.AdamInIdeal.main_v7) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamBranch_AdamBranchIdeal : Prop :=
  True

def algebraic_AdamBranchIdeal_AdamBranchReferenceIdeal [hAdamBranchIdeal : Cert.AdamBranchIdeal.Facts] [hAdamBranchReferenceIdeal : Cert.AdamBranchReferenceIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchReferenceIdeal.nD Cert.AdamBranchReferenceIdeal.τ Cert.AdamBranchReferenceIdeal.sig) → Buf (Elt Ideal) ℓ) (g' : Dev Cert.AdamBranchReferenceIdeal.nD → PrngReg), Pre_AdamBranchIdeal m →
    (∀ c : Dev Cert.AdamBranchIdeal.nD,
      m' ((c.tc : Thread Cert.AdamBranchReferenceIdeal.nD Cert.AdamBranchReferenceIdeal.τ).loc Cert.AdamBranchReferenceIdeal.main_arg0) = m ((c.tc : Thread Cert.AdamBranchIdeal.nD Cert.AdamBranchIdeal.τ).loc Cert.AdamBranchIdeal.main_arg0)
      ∧ m' ((c.tc : Thread Cert.AdamBranchReferenceIdeal.nD Cert.AdamBranchReferenceIdeal.τ).loc Cert.AdamBranchReferenceIdeal.main_arg1) = m ((c.tc : Thread Cert.AdamBranchIdeal.nD Cert.AdamBranchIdeal.τ).loc Cert.AdamBranchIdeal.main_arg1)
      ∧ m' ((c.tc : Thread Cert.AdamBranchReferenceIdeal.nD Cert.AdamBranchReferenceIdeal.τ).loc Cert.AdamBranchReferenceIdeal.main_arg2) = m ((c.tc : Thread Cert.AdamBranchIdeal.nD Cert.AdamBranchIdeal.τ).loc Cert.AdamBranchIdeal.main_arg2)
      ∧ m' ((c.tc : Thread Cert.AdamBranchReferenceIdeal.nD Cert.AdamBranchReferenceIdeal.τ).loc Cert.AdamBranchReferenceIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v5)) (v1 : (c : Dev Cert.AdamBranchIdeal.nD) → Buf (Elt Ideal) ((c.tc : Thread Cert.AdamBranchIdeal.nD Cert.AdamBranchIdeal.τ).loc Cert.AdamBranchIdeal.main_v6)) (v2 : (c : Dev Cert.AdamBranchIdeal.nD) → Buf (Elt Ideal) ((c.tc : Thread Cert.AdamBranchIdeal.nD Cert.AdamBranchIdeal.τ).loc Cert.AdamBranchIdeal.main_v7)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v5) = v0 c
          ∧ r.2.mem ((c.tc : Thread Cert.AdamBranchIdeal.nD Cert.AdamBranchIdeal.τ).loc Cert.AdamBranchIdeal.main_v6) = v1 c
          ∧ r.2.mem ((c.tc : Thread Cert.AdamBranchIdeal.nD Cert.AdamBranchIdeal.τ).loc Cert.AdamBranchIdeal.main_v7) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchReferenceIdeal.defs (F := Ideal)) (onTc (τ := Cert.AdamBranchReferenceIdeal.τ) (Cert.AdamBranchReferenceIdeal.main (F := Ideal))) ⟨m', fun _ => 0, g'⟩ (fun r => ∀ c : Dev Cert.AdamBranchReferenceIdeal.nD,
          r.2.mem ((c.tc : Thread Cert.AdamBranchReferenceIdeal.nD Cert.AdamBranchReferenceIdeal.τ).loc Cert.AdamBranchReferenceIdeal.main_v23) = v0 c
          ∧ r.2.mem ((c.tc : Thread Cert.AdamBranchReferenceIdeal.nD Cert.AdamBranchReferenceIdeal.τ).loc Cert.AdamBranchReferenceIdeal.main_v4) = v1 c
          ∧ r.2.mem ((c.tc : Thread Cert.AdamBranchReferenceIdeal.nD Cert.AdamBranchReferenceIdeal.τ).loc Cert.AdamBranchReferenceIdeal.main_v10) = v2 c
          ∧ r.2.mem ((c.tc : Thread Cert.AdamBranchReferenceIdeal.nD Cert.AdamBranchReferenceIdeal.τ).loc Cert.AdamBranchReferenceIdeal.main_arg0) = m' ((c.tc : Thread Cert.AdamBranchReferenceIdeal.nD Cert.AdamBranchReferenceIdeal.τ).loc Cert.AdamBranchReferenceIdeal.main_arg0)
          ∧ r.2.mem ((c.tc : Thread Cert.AdamBranchReferenceIdeal.nD Cert.AdamBranchReferenceIdeal.τ).loc Cert.AdamBranchReferenceIdeal.main_arg1) = m' ((c.tc : Thread Cert.AdamBranchReferenceIdeal.nD Cert.AdamBranchReferenceIdeal.τ).loc Cert.AdamBranchReferenceIdeal.main_arg1)
          ∧ r.2.mem ((c.tc : Thread Cert.AdamBranchReferenceIdeal.nD Cert.AdamBranchReferenceIdeal.τ).loc Cert.AdamBranchReferenceIdeal.main_arg2) = m' ((c.tc : Thread Cert.AdamBranchReferenceIdeal.nD Cert.AdamBranchReferenceIdeal.τ).loc Cert.AdamBranchReferenceIdeal.main_arg2)
          ∧ r.2.mem ((c.tc : Thread Cert.AdamBranchReferenceIdeal.nD Cert.AdamBranchReferenceIdeal.τ).loc Cert.AdamBranchReferenceIdeal.main_arg3) = m' ((c.tc : Thread Cert.AdamBranchReferenceIdeal.nD Cert.AdamBranchReferenceIdeal.τ).loc Cert.AdamBranchReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v5)) (v1 : (c : Dev Cert.AdamOutIdeal.nD) → Buf (Elt Ideal) ((c.tc : Thread Cert.AdamOutIdeal.nD Cert.AdamOutIdeal.τ).loc Cert.AdamOutIdeal.main_v6)) (v2 : (c : Dev Cert.AdamOutIdeal.nD) → Buf (Elt Ideal) ((c.tc : Thread Cert.AdamOutIdeal.nD Cert.AdamOutIdeal.τ).loc Cert.AdamOutIdeal.main_v7)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v5) = v0 c
          ∧ r.2.mem ((c.tc : Thread Cert.AdamOutIdeal.nD Cert.AdamOutIdeal.τ).loc Cert.AdamOutIdeal.main_v6) = v1 c
          ∧ r.2.mem ((c.tc : Thread Cert.AdamOutIdeal.nD Cert.AdamOutIdeal.τ).loc Cert.AdamOutIdeal.main_v7) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v5)) (v1 : (c : Dev Cert.AdamUpIdeal.nD) → Buf (Elt Ideal) ((c.tc : Thread Cert.AdamUpIdeal.nD Cert.AdamUpIdeal.τ).loc Cert.AdamUpIdeal.main_v6)) (v2 : (c : Dev Cert.AdamUpIdeal.nD) → Buf (Elt Ideal) ((c.tc : Thread Cert.AdamUpIdeal.nD Cert.AdamUpIdeal.τ).loc Cert.AdamUpIdeal.main_v7)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v5) = v0 c
          ∧ r.2.mem ((c.tc : Thread Cert.AdamUpIdeal.nD Cert.AdamUpIdeal.τ).loc Cert.AdamUpIdeal.main_v6) = v1 c
          ∧ r.2.mem ((c.tc : Thread Cert.AdamUpIdeal.nD Cert.AdamUpIdeal.τ).loc Cert.AdamUpIdeal.main_v7) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v23) = v0 c
          ∧ r.2.mem ((c.tc : Thread Cert.AdamUpReferenceIdeal.nD Cert.AdamUpReferenceIdeal.τ).loc Cert.AdamUpReferenceIdeal.main_v4) = v1 c
          ∧ r.2.mem ((c.tc : Thread Cert.AdamUpReferenceIdeal.nD Cert.AdamUpReferenceIdeal.τ).loc Cert.AdamUpReferenceIdeal.main_v10) = v2 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamPle_AdamPleIdeal : Prop :=
  True

def algebraic_AdamPleIdeal_AdamPleReferenceIdeal [hAdamPleIdeal : Cert.AdamPleIdeal.Facts] [hAdamPleReferenceIdeal : Cert.AdamPleReferenceIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg)
    (m' : (ℓ : Loc Cert.AdamPleReferenceIdeal.nD Cert.AdamPleReferenceIdeal.τ Cert.AdamPleReferenceIdeal.sig) → Buf (Elt Ideal) ℓ) (g' : Dev Cert.AdamPleReferenceIdeal.nD → PrngReg), Pre_AdamPleIdeal m →
    (∀ c : Dev Cert.AdamPleIdeal.nD,
      m' ((c.tc : Thread Cert.AdamPleReferenceIdeal.nD Cert.AdamPleReferenceIdeal.τ).loc Cert.AdamPleReferenceIdeal.main_arg0) = m ((c.tc : Thread Cert.AdamPleIdeal.nD Cert.AdamPleIdeal.τ).loc Cert.AdamPleIdeal.main_arg0)
      ∧ m' ((c.tc : Thread Cert.AdamPleReferenceIdeal.nD Cert.AdamPleReferenceIdeal.τ).loc Cert.AdamPleReferenceIdeal.main_arg1) = m ((c.tc : Thread Cert.AdamPleIdeal.nD Cert.AdamPleIdeal.τ).loc Cert.AdamPleIdeal.main_arg1)
      ∧ m' ((c.tc : Thread Cert.AdamPleReferenceIdeal.nD Cert.AdamPleReferenceIdeal.τ).loc Cert.AdamPleReferenceIdeal.main_arg2) = m ((c.tc : Thread Cert.AdamPleIdeal.nD Cert.AdamPleIdeal.τ).loc Cert.AdamPleIdeal.main_arg2)
      ∧ m' ((c.tc : Thread Cert.AdamPleReferenceIdeal.nD Cert.AdamPleReferenceIdeal.τ).loc Cert.AdamPleReferenceIdeal.main_arg3) = m ((c.tc : Thread Cert.AdamPleIdeal.nD Cert.AdamPleIdeal.τ).loc Cert.AdamPleIdeal.main_arg3)) →
    ∃ (v0 : (c : Dev Cert.AdamPleIdeal.nD) → Buf (Elt Ideal) ((c.tc : Thread Cert.AdamPleIdeal.nD Cert.AdamPleIdeal.τ).loc Cert.AdamPleIdeal.main_v5)) (v1 : (c : Dev Cert.AdamPleIdeal.nD) → Buf (Elt Ideal) ((c.tc : Thread Cert.AdamPleIdeal.nD Cert.AdamPleIdeal.τ).loc Cert.AdamPleIdeal.main_v6)) (v2 : (c : Dev Cert.AdamPleIdeal.nD) → Buf (Elt Ideal) ((c.tc : Thread Cert.AdamPleIdeal.nD Cert.AdamPleIdeal.τ).loc Cert.AdamPleIdeal.main_v7)),
      θ_run (Cert.AdamPleIdeal.defs (F := Ideal)) (onTc (τ := Cert.AdamPleIdeal.τ) (Cert.AdamPleIdeal.main (F := Ideal))) ⟨m, fun _ => 0, g⟩ (fun r => ∀ c : Dev Cert.AdamPleIdeal.nD,
          r.2.mem ((c.tc : Thread Cert.AdamPleIdeal.nD Cert.AdamPleIdeal.τ).loc Cert.AdamPleIdeal.main_v5) = v0 c
          ∧ r.2.mem ((c.tc : Thread Cert.AdamPleIdeal.nD Cert.AdamPleIdeal.τ).loc Cert.AdamPleIdeal.main_v6) = v1 c
          ∧ r.2.mem ((c.tc : Thread Cert.AdamPleIdeal.nD Cert.AdamPleIdeal.τ).loc Cert.AdamPleIdeal.main_v7) = v2 c
          ∧ r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
          ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
          ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
          ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ θ_run (Cert.AdamPleReferenceIdeal.defs (F := Ideal)) (onTc (τ := Cert.AdamPleReferenceIdeal.τ) (Cert.AdamPleReferenceIdeal.main (F := Ideal))) ⟨m', fun _ => 0, g'⟩ (fun r => ∀ c : Dev Cert.AdamPleReferenceIdeal.nD,
          r.2.mem ((c.tc : Thread Cert.AdamPleReferenceIdeal.nD Cert.AdamPleReferenceIdeal.τ).loc Cert.AdamPleReferenceIdeal.main_v23) = v0 c
          ∧ r.2.mem ((c.tc : Thread Cert.AdamPleReferenceIdeal.nD Cert.AdamPleReferenceIdeal.τ).loc Cert.AdamPleReferenceIdeal.main_v4) = v1 c
          ∧ r.2.mem ((c.tc : Thread Cert.AdamPleReferenceIdeal.nD Cert.AdamPleReferenceIdeal.τ).loc Cert.AdamPleReferenceIdeal.main_v10) = v2 c
          ∧ r.2.mem ((c.tc : Thread Cert.AdamPleReferenceIdeal.nD Cert.AdamPleReferenceIdeal.τ).loc Cert.AdamPleReferenceIdeal.main_arg0) = m' ((c.tc : Thread Cert.AdamPleReferenceIdeal.nD Cert.AdamPleReferenceIdeal.τ).loc Cert.AdamPleReferenceIdeal.main_arg0)
          ∧ r.2.mem ((c.tc : Thread Cert.AdamPleReferenceIdeal.nD Cert.AdamPleReferenceIdeal.τ).loc Cert.AdamPleReferenceIdeal.main_arg1) = m' ((c.tc : Thread Cert.AdamPleReferenceIdeal.nD Cert.AdamPleReferenceIdeal.τ).loc Cert.AdamPleReferenceIdeal.main_arg1)
          ∧ r.2.mem ((c.tc : Thread Cert.AdamPleReferenceIdeal.nD Cert.AdamPleReferenceIdeal.τ).loc Cert.AdamPleReferenceIdeal.main_arg2) = m' ((c.tc : Thread Cert.AdamPleReferenceIdeal.nD Cert.AdamPleReferenceIdeal.τ).loc Cert.AdamPleReferenceIdeal.main_arg2)
          ∧ r.2.mem ((c.tc : Thread Cert.AdamPleReferenceIdeal.nD Cert.AdamPleReferenceIdeal.τ).loc Cert.AdamPleReferenceIdeal.main_arg3) = m' ((c.tc : Thread Cert.AdamPleReferenceIdeal.nD Cert.AdamPleReferenceIdeal.τ).loc Cert.AdamPleReferenceIdeal.main_arg3))

def preserves_SeqFwd_SeqFwdIdeal : Prop :=
  True

def algebraic_SeqFwdIdeal_SeqFwdReferenceIdeal [hSeqFwdIdeal : Cert.SeqFwdIdeal.Facts] [hSeqFwdReferenceIdeal : Cert.SeqFwdReferenceIdeal.Facts] : Prop :=
  ∀ (m : (ℓ : Loc Cert.SeqFwdIdeal.nD Cert.SeqFwdIdeal.τ Cert.SeqFwdIdeal.sig) → Buf (Elt Ideal) ℓ) (g : Dev Cert.SeqFwdIdeal.nD → PrngReg)
    (m' : (ℓ : Loc Cert.SeqFwdReferenceIdeal.nD Cert.SeqFwdReferenceIdeal.τ Cert.SeqFwdReferenceIdeal.sig) → Buf (Elt Ideal) ℓ) (g' : Dev Cert.SeqFwdReferenceIdeal.nD → PrngReg), Pre_SeqFwdIdeal m →
    (∀ c : Dev Cert.SeqFwdIdeal.nD,
      m' ((c.tc : Thread Cert.SeqFwdReferenceIdeal.nD Cert.SeqFwdReferenceIdeal.τ).loc Cert.SeqFwdReferenceIdeal.main_arg0) = m ((c.tc : Thread Cert.SeqFwdIdeal.nD Cert.SeqFwdIdeal.τ).loc Cert.SeqFwdIdeal.main_arg0)
      ∧ m' ((c.tc : Thread Cert.SeqFwdReferenceIdeal.nD Cert.SeqFwdReferenceIdeal.τ).loc Cert.SeqFwdReferenceIdeal.main_arg1) = m ((c.tc : Thread Cert.SeqFwdIdeal.nD Cert.SeqFwdIdeal.τ).loc Cert.SeqFwdIdeal.main_arg1)
      ∧ m' ((c.tc : Thread Cert.SeqFwdReferenceIdeal.nD Cert.SeqFwdReferenceIdeal.τ).loc Cert.SeqFwdReferenceIdeal.main_arg2) = m ((c.tc : Thread Cert.SeqFwdIdeal.nD Cert.SeqFwdIdeal.τ).loc Cert.SeqFwdIdeal.main_arg2)
      ∧ m' ((c.tc : Thread Cert.SeqFwdReferenceIdeal.nD Cert.SeqFwdReferenceIdeal.τ).loc Cert.SeqFwdReferenceIdeal.main_arg3) = m ((c.tc : Thread Cert.SeqFwdIdeal.nD Cert.SeqFwdIdeal.τ).loc Cert.SeqFwdIdeal.main_arg3)
      ∧ m' ((c.tc : Thread Cert.SeqFwdReferenceIdeal.nD Cert.SeqFwdReferenceIdeal.τ).loc Cert.SeqFwdReferenceIdeal.main_arg4) = m ((c.tc : Thread Cert.SeqFwdIdeal.nD Cert.SeqFwdIdeal.τ).loc Cert.SeqFwdIdeal.main_arg4)) →
    ∃ (v0 : (c : Dev Cert.SeqFwdIdeal.nD) → Buf (Elt Ideal) ((c.tc : Thread Cert.SeqFwdIdeal.nD Cert.SeqFwdIdeal.τ).loc Cert.SeqFwdIdeal.main_v0_0)) (v1 : (c : Dev Cert.SeqFwdIdeal.nD) → Buf (Elt Ideal) ((c.tc : Thread Cert.SeqFwdIdeal.nD Cert.SeqFwdIdeal.τ).loc Cert.SeqFwdIdeal.main_v0_1)) (v2 : (c : Dev Cert.SeqFwdIdeal.nD) → Buf (Elt Ideal) ((c.tc : Thread Cert.SeqFwdIdeal.nD Cert.SeqFwdIdeal.τ).loc Cert.SeqFwdIdeal.main_v0_2)),
      θ_run (Cert.SeqFwdIdeal.defs (F := Ideal)) (onTc (τ := Cert.SeqFwdIdeal.τ) (Cert.SeqFwdIdeal.main (F := Ideal))) ⟨m, fun _ => 0, g⟩ (fun r => ∀ c : Dev Cert.SeqFwdIdeal.nD,
          r.2.mem ((c.tc : Thread Cert.SeqFwdIdeal.nD Cert.SeqFwdIdeal.τ).loc Cert.SeqFwdIdeal.main_v0_0) = v0 c
          ∧ r.2.mem ((c.tc : Thread Cert.SeqFwdIdeal.nD Cert.SeqFwdIdeal.τ).loc Cert.SeqFwdIdeal.main_v0_1) = v1 c
          ∧ r.2.mem ((c.tc : Thread Cert.SeqFwdIdeal.nD Cert.SeqFwdIdeal.τ).loc Cert.SeqFwdIdeal.main_v0_2) = v2 c
          ∧ r.2.mem ((c.tc : Thread Cert.SeqFwdIdeal.nD Cert.SeqFwdIdeal.τ).loc Cert.SeqFwdIdeal.main_arg0) = m ((c.tc : Thread Cert.SeqFwdIdeal.nD Cert.SeqFwdIdeal.τ).loc Cert.SeqFwdIdeal.main_arg0)
          ∧ r.2.mem ((c.tc : Thread Cert.SeqFwdIdeal.nD Cert.SeqFwdIdeal.τ).loc Cert.SeqFwdIdeal.main_arg1) = m ((c.tc : Thread Cert.SeqFwdIdeal.nD Cert.SeqFwdIdeal.τ).loc Cert.SeqFwdIdeal.main_arg1)
          ∧ r.2.mem ((c.tc : Thread Cert.SeqFwdIdeal.nD Cert.SeqFwdIdeal.τ).loc Cert.SeqFwdIdeal.main_arg2) = m ((c.tc : Thread Cert.SeqFwdIdeal.nD Cert.SeqFwdIdeal.τ).loc Cert.SeqFwdIdeal.main_arg2)
          ∧ r.2.mem ((c.tc : Thread Cert.SeqFwdIdeal.nD Cert.SeqFwdIdeal.τ).loc Cert.SeqFwdIdeal.main_arg3) = m ((c.tc : Thread Cert.SeqFwdIdeal.nD Cert.SeqFwdIdeal.τ).loc Cert.SeqFwdIdeal.main_arg3)
          ∧ r.2.mem ((c.tc : Thread Cert.SeqFwdIdeal.nD Cert.SeqFwdIdeal.τ).loc Cert.SeqFwdIdeal.main_arg4) = m ((c.tc : Thread Cert.SeqFwdIdeal.nD Cert.SeqFwdIdeal.τ).loc Cert.SeqFwdIdeal.main_arg4))
      ∧ θ_run (Cert.SeqFwdReferenceIdeal.defs (F := Ideal)) (onTc (τ := Cert.SeqFwdReferenceIdeal.τ) (Cert.SeqFwdReferenceIdeal.main (F := Ideal))) ⟨m', fun _ => 0, g'⟩ (fun r => ∀ c : Dev Cert.SeqFwdReferenceIdeal.nD,
          r.2.mem ((c.tc : Thread Cert.SeqFwdReferenceIdeal.nD Cert.SeqFwdReferenceIdeal.τ).loc Cert.SeqFwdReferenceIdeal.main_v375) = v0 c
          ∧ r.2.mem ((c.tc : Thread Cert.SeqFwdReferenceIdeal.nD Cert.SeqFwdReferenceIdeal.τ).loc Cert.SeqFwdReferenceIdeal.main_v127) = v1 c
          ∧ r.2.mem ((c.tc : Thread Cert.SeqFwdReferenceIdeal.nD Cert.SeqFwdReferenceIdeal.τ).loc Cert.SeqFwdReferenceIdeal.main_v399) = v2 c
          ∧ r.2.mem ((c.tc : Thread Cert.SeqFwdReferenceIdeal.nD Cert.SeqFwdReferenceIdeal.τ).loc Cert.SeqFwdReferenceIdeal.main_arg0) = m' ((c.tc : Thread Cert.SeqFwdReferenceIdeal.nD Cert.SeqFwdReferenceIdeal.τ).loc Cert.SeqFwdReferenceIdeal.main_arg0)
          ∧ r.2.mem ((c.tc : Thread Cert.SeqFwdReferenceIdeal.nD Cert.SeqFwdReferenceIdeal.τ).loc Cert.SeqFwdReferenceIdeal.main_arg1) = m' ((c.tc : Thread Cert.SeqFwdReferenceIdeal.nD Cert.SeqFwdReferenceIdeal.τ).loc Cert.SeqFwdReferenceIdeal.main_arg1)
          ∧ r.2.mem ((c.tc : Thread Cert.SeqFwdReferenceIdeal.nD Cert.SeqFwdReferenceIdeal.τ).loc Cert.SeqFwdReferenceIdeal.main_arg2) = m' ((c.tc : Thread Cert.SeqFwdReferenceIdeal.nD Cert.SeqFwdReferenceIdeal.τ).loc Cert.SeqFwdReferenceIdeal.main_arg2)
          ∧ r.2.mem ((c.tc : Thread Cert.SeqFwdReferenceIdeal.nD Cert.SeqFwdReferenceIdeal.τ).loc Cert.SeqFwdReferenceIdeal.main_arg3) = m' ((c.tc : Thread Cert.SeqFwdReferenceIdeal.nD Cert.SeqFwdReferenceIdeal.τ).loc Cert.SeqFwdReferenceIdeal.main_arg3)
          ∧ r.2.mem ((c.tc : Thread Cert.SeqFwdReferenceIdeal.nD Cert.SeqFwdReferenceIdeal.τ).loc Cert.SeqFwdReferenceIdeal.main_arg4) = m' ((c.tc : Thread Cert.SeqFwdReferenceIdeal.nD Cert.SeqFwdReferenceIdeal.τ).loc Cert.SeqFwdReferenceIdeal.main_arg4))

def preserves_GluBwd_GluBwdIdeal : Prop :=
  True

def algebraic_GluBwdIdeal_GluBwdReferenceIdeal [hGluBwdIdeal : Cert.GluBwdIdeal.Facts] [hGluBwdReferenceIdeal : Cert.GluBwdReferenceIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdReferenceIdeal.nD Cert.GluBwdReferenceIdeal.τ Cert.GluBwdReferenceIdeal.sig) → Buf (Elt Ideal) ℓ) (g' : Dev Cert.GluBwdReferenceIdeal.nD → PrngReg), Pre_GluBwdIdeal m →
    (∀ c : Dev Cert.GluBwdIdeal.nD,
      m' ((c.tc : Thread Cert.GluBwdReferenceIdeal.nD Cert.GluBwdReferenceIdeal.τ).loc Cert.GluBwdReferenceIdeal.main_arg0) = m ((c.tc : Thread Cert.GluBwdIdeal.nD Cert.GluBwdIdeal.τ).loc Cert.GluBwdIdeal.main_arg0)
      ∧ m' ((c.tc : Thread Cert.GluBwdReferenceIdeal.nD Cert.GluBwdReferenceIdeal.τ).loc Cert.GluBwdReferenceIdeal.main_arg1) = m ((c.tc : Thread Cert.GluBwdIdeal.nD Cert.GluBwdIdeal.τ).loc Cert.GluBwdIdeal.main_arg1)
      ∧ m' ((c.tc : Thread Cert.GluBwdReferenceIdeal.nD Cert.GluBwdReferenceIdeal.τ).loc Cert.GluBwdReferenceIdeal.main_arg2) = m ((c.tc : Thread Cert.GluBwdIdeal.nD Cert.GluBwdIdeal.τ).loc Cert.GluBwdIdeal.main_arg2)
      ∧ m' ((c.tc : Thread Cert.GluBwdReferenceIdeal.nD Cert.GluBwdReferenceIdeal.τ).loc Cert.GluBwdReferenceIdeal.main_arg3) = m ((c.tc : Thread Cert.GluBwdIdeal.nD Cert.GluBwdIdeal.τ).loc Cert.GluBwdIdeal.main_arg3)
      ∧ m' ((c.tc : Thread Cert.GluBwdReferenceIdeal.nD Cert.GluBwdReferenceIdeal.τ).loc Cert.GluBwdReferenceIdeal.main_arg4) = m ((c.tc : Thread Cert.GluBwdIdeal.nD Cert.GluBwdIdeal.τ).loc Cert.GluBwdIdeal.main_arg4)
      ∧ m' ((c.tc : Thread Cert.GluBwdReferenceIdeal.nD Cert.GluBwdReferenceIdeal.τ).loc Cert.GluBwdReferenceIdeal.main_arg5) = m ((c.tc : Thread Cert.GluBwdIdeal.nD Cert.GluBwdIdeal.τ).loc Cert.GluBwdIdeal.main_arg5)) →
    ∃ (v0 : (c : Dev Cert.GluBwdIdeal.nD) → Buf (Elt Ideal) ((c.tc : Thread Cert.GluBwdIdeal.nD Cert.GluBwdIdeal.τ).loc Cert.GluBwdIdeal.main_v3)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v3) = v0 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
          ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
          ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5))
      ∧ θ_run (Cert.GluBwdReferenceIdeal.defs (F := Ideal)) (onTc (τ := Cert.GluBwdReferenceIdeal.τ) (Cert.GluBwdReferenceIdeal.main (F := Ideal))) ⟨m', fun _ => 0, g'⟩ (fun r => ∀ c : Dev Cert.GluBwdReferenceIdeal.nD,
          r.2.mem ((c.tc : Thread Cert.GluBwdReferenceIdeal.nD Cert.GluBwdReferenceIdeal.τ).loc Cert.GluBwdReferenceIdeal.main_v36) = v0 c
          ∧ r.2.mem ((c.tc : Thread Cert.GluBwdReferenceIdeal.nD Cert.GluBwdReferenceIdeal.τ).loc Cert.GluBwdReferenceIdeal.main_arg0) = m' ((c.tc : Thread Cert.GluBwdReferenceIdeal.nD Cert.GluBwdReferenceIdeal.τ).loc Cert.GluBwdReferenceIdeal.main_arg0)
          ∧ r.2.mem ((c.tc : Thread Cert.GluBwdReferenceIdeal.nD Cert.GluBwdReferenceIdeal.τ).loc Cert.GluBwdReferenceIdeal.main_arg1) = m' ((c.tc : Thread Cert.GluBwdReferenceIdeal.nD Cert.GluBwdReferenceIdeal.τ).loc Cert.GluBwdReferenceIdeal.main_arg1)
          ∧ r.2.mem ((c.tc : Thread Cert.GluBwdReferenceIdeal.nD Cert.GluBwdReferenceIdeal.τ).loc Cert.GluBwdReferenceIdeal.main_arg2) = m' ((c.tc : Thread Cert.GluBwdReferenceIdeal.nD Cert.GluBwdReferenceIdeal.τ).loc Cert.GluBwdReferenceIdeal.main_arg2)
          ∧ r.2.mem ((c.tc : Thread Cert.GluBwdReferenceIdeal.nD Cert.GluBwdReferenceIdeal.τ).loc Cert.GluBwdReferenceIdeal.main_arg3) = m' ((c.tc : Thread Cert.GluBwdReferenceIdeal.nD Cert.GluBwdReferenceIdeal.τ).loc Cert.GluBwdReferenceIdeal.main_arg3)
          ∧ r.2.mem ((c.tc : Thread Cert.GluBwdReferenceIdeal.nD Cert.GluBwdReferenceIdeal.τ).loc Cert.GluBwdReferenceIdeal.main_arg4) = m' ((c.tc : Thread Cert.GluBwdReferenceIdeal.nD Cert.GluBwdReferenceIdeal.τ).loc Cert.GluBwdReferenceIdeal.main_arg4)
          ∧ r.2.mem ((c.tc : Thread Cert.GluBwdReferenceIdeal.nD Cert.GluBwdReferenceIdeal.τ).loc Cert.GluBwdReferenceIdeal.main_arg5) = m' ((c.tc : Thread Cert.GluBwdReferenceIdeal.nD Cert.GluBwdReferenceIdeal.τ).loc Cert.GluBwdReferenceIdeal.main_arg5))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v2)) (v2 : (c : Dev Cert.LossHeadIdeal.nD) → Buf (Elt Ideal) ((c.tc : Thread Cert.LossHeadIdeal.nD Cert.LossHeadIdeal.τ).loc Cert.LossHeadIdeal.main_v4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v2) = v1 c
          ∧ r.2.mem ((c.tc : Thread Cert.LossHeadIdeal.nD Cert.LossHeadIdeal.τ).loc Cert.LossHeadIdeal.main_v4) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v50) = v0 c
          ∧ r.2.mem ((c.tc : Thread Cert.LossHeadReferenceIdeal.nD Cert.LossHeadReferenceIdeal.τ).loc Cert.LossHeadReferenceIdeal.main_v36) = v1 c
          ∧ r.2.mem ((c.tc : Thread Cert.LossHeadReferenceIdeal.nD Cert.LossHeadReferenceIdeal.τ).loc Cert.LossHeadReferenceIdeal.main_v24) = v2 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2))

def preserves_AdamSharded_AdamShardedIdeal : Prop :=
  True

def algebraic_AdamShardedIdeal_AdamShardedReferenceIdeal [hAdamShardedIdeal : Cert.AdamShardedIdeal.Facts] [hAdamShardedReferenceIdeal : Cert.AdamShardedReferenceIdeal.Facts] : Prop :=
  ∀ (m : (ℓ : Loc Cert.AdamShardedIdeal.nD Cert.AdamShardedIdeal.τ Cert.AdamShardedIdeal.sig) → Buf (Elt Ideal) ℓ) (g : Dev Cert.AdamShardedIdeal.nD → PrngReg)
    (m' : (ℓ : Loc Cert.AdamShardedReferenceIdeal.nD Cert.AdamShardedReferenceIdeal.τ Cert.AdamShardedReferenceIdeal.sig) → Buf (Elt Ideal) ℓ) (g' : Dev Cert.AdamShardedReferenceIdeal.nD → PrngReg), Pre_AdamShardedIdeal m →
    (∀ c : Dev Cert.AdamShardedIdeal.nD,
      m' ((c.tc : Thread Cert.AdamShardedReferenceIdeal.nD Cert.AdamShardedReferenceIdeal.τ).loc Cert.AdamShardedReferenceIdeal.main_arg0) = m ((c.tc : Thread Cert.AdamShardedIdeal.nD Cert.AdamShardedIdeal.τ).loc Cert.AdamShardedIdeal.main_arg0)
      ∧ m' ((c.tc : Thread Cert.AdamShardedReferenceIdeal.nD Cert.AdamShardedReferenceIdeal.τ).loc Cert.AdamShardedReferenceIdeal.main_arg1) = m ((c.tc : Thread Cert.AdamShardedIdeal.nD Cert.AdamShardedIdeal.τ).loc Cert.AdamShardedIdeal.main_arg1)
      ∧ m' ((c.tc : Thread Cert.AdamShardedReferenceIdeal.nD Cert.AdamShardedReferenceIdeal.τ).loc Cert.AdamShardedReferenceIdeal.main_arg2) = m ((c.tc : Thread Cert.AdamShardedIdeal.nD Cert.AdamShardedIdeal.τ).loc Cert.AdamShardedIdeal.main_arg2)
      ∧ m' ((c.tc : Thread Cert.AdamShardedReferenceIdeal.nD Cert.AdamShardedReferenceIdeal.τ).loc Cert.AdamShardedReferenceIdeal.main_arg3) = m ((c.tc : Thread Cert.AdamShardedIdeal.nD Cert.AdamShardedIdeal.τ).loc Cert.AdamShardedIdeal.main_arg3)
      ∧ m' ((c.tc : Thread Cert.AdamShardedReferenceIdeal.nD Cert.AdamShardedReferenceIdeal.τ).loc Cert.AdamShardedReferenceIdeal.main_arg4) = m ((c.tc : Thread Cert.AdamShardedIdeal.nD Cert.AdamShardedIdeal.τ).loc Cert.AdamShardedIdeal.main_arg4)
      ∧ m' ((c.tc : Thread Cert.AdamShardedReferenceIdeal.nD Cert.AdamShardedReferenceIdeal.τ).loc Cert.AdamShardedReferenceIdeal.main_arg5) = m ((c.tc : Thread Cert.AdamShardedIdeal.nD Cert.AdamShardedIdeal.τ).loc Cert.AdamShardedIdeal.main_arg5)
      ∧ m' ((c.tc : Thread Cert.AdamShardedReferenceIdeal.nD Cert.AdamShardedReferenceIdeal.τ).loc Cert.AdamShardedReferenceIdeal.main_arg6) = m ((c.tc : Thread Cert.AdamShardedIdeal.nD Cert.AdamShardedIdeal.τ).loc Cert.AdamShardedIdeal.main_arg6)
      ∧ m' ((c.tc : Thread Cert.AdamShardedReferenceIdeal.nD Cert.AdamShardedReferenceIdeal.τ).loc Cert.AdamShardedReferenceIdeal.main_arg7) = m ((c.tc : Thread Cert.AdamShardedIdeal.nD Cert.AdamShardedIdeal.τ).loc Cert.AdamShardedIdeal.main_arg7)) →
    ∃ (v0 : (c : Dev Cert.AdamShardedIdeal.nD) → Buf (Elt Ideal) ((c.tc : Thread Cert.AdamShardedIdeal.nD Cert.AdamShardedIdeal.τ).loc Cert.AdamShardedIdeal.main_v23)) (v1 : (c : Dev Cert.AdamShardedIdeal.nD) → Buf (Elt Ideal) ((c.tc : Thread Cert.AdamShardedIdeal.nD Cert.AdamShardedIdeal.τ).loc Cert.AdamShardedIdeal.main_v25)) (v2 : (c : Dev Cert.AdamShardedIdeal.nD) → Buf (Elt Ideal) ((c.tc : Thread Cert.AdamShardedIdeal.nD Cert.AdamShardedIdeal.τ).loc Cert.AdamShardedIdeal.main_v28)) (v3 : (c : Dev Cert.AdamShardedIdeal.nD) → Buf (Elt Ideal) ((c.tc : Thread Cert.AdamShardedIdeal.nD Cert.AdamShardedIdeal.τ).loc Cert.AdamShardedIdeal.main_v30)) (v4 : (c : Dev Cert.AdamShardedIdeal.nD) → Buf (Elt Ideal) ((c.tc : Thread Cert.AdamShardedIdeal.nD Cert.AdamShardedIdeal.τ).loc Cert.AdamShardedIdeal.main_v33)) (v5 : (c : Dev Cert.AdamShardedIdeal.nD) → Buf (Elt Ideal) ((c.tc : Thread Cert.AdamShardedIdeal.nD Cert.AdamShardedIdeal.τ).loc Cert.AdamShardedIdeal.main_v35)),
      θ_run (Cert.AdamShardedIdeal.defs (F := Ideal)) (onTc (τ := Cert.AdamShardedIdeal.τ) (Cert.AdamShardedIdeal.main (F := Ideal))) ⟨m, fun _ => 0, g⟩ (fun r => ∀ c : Dev Cert.AdamShardedIdeal.nD,
          r.2.mem ((c.tc : Thread Cert.AdamShardedIdeal.nD Cert.AdamShardedIdeal.τ).loc Cert.AdamShardedIdeal.main_v23) = v0 c
          ∧ r.2.mem ((c.tc : Thread Cert.AdamShardedIdeal.nD Cert.AdamShardedIdeal.τ).loc Cert.AdamShardedIdeal.main_v25) = v1 c
          ∧ r.2.mem ((c.tc : Thread Cert.AdamShardedIdeal.nD Cert.AdamShardedIdeal.τ).loc Cert.AdamShardedIdeal.main_v28) = v2 c
          ∧ r.2.mem ((c.tc : Thread Cert.AdamShardedIdeal.nD Cert.AdamShardedIdeal.τ).loc Cert.AdamShardedIdeal.main_v30) = v3 c
          ∧ r.2.mem ((c.tc : Thread Cert.AdamShardedIdeal.nD Cert.AdamShardedIdeal.τ).loc Cert.AdamShardedIdeal.main_v33) = v4 c
          ∧ r.2.mem ((c.tc : Thread Cert.AdamShardedIdeal.nD Cert.AdamShardedIdeal.τ).loc Cert.AdamShardedIdeal.main_v35) = v5 c
          ∧ r.2.mem ((c.tc : Thread Cert.AdamShardedIdeal.nD Cert.AdamShardedIdeal.τ).loc Cert.AdamShardedIdeal.main_arg0) = m ((c.tc : Thread Cert.AdamShardedIdeal.nD Cert.AdamShardedIdeal.τ).loc Cert.AdamShardedIdeal.main_arg0)
          ∧ r.2.mem ((c.tc : Thread Cert.AdamShardedIdeal.nD Cert.AdamShardedIdeal.τ).loc Cert.AdamShardedIdeal.main_arg1) = m ((c.tc : Thread Cert.AdamShardedIdeal.nD Cert.AdamShardedIdeal.τ).loc Cert.AdamShardedIdeal.main_arg1)
          ∧ r.2.mem ((c.tc : Thread Cert.AdamShardedIdeal.nD Cert.AdamShardedIdeal.τ).loc Cert.AdamShardedIdeal.main_arg2) = m ((c.tc : Thread Cert.AdamShardedIdeal.nD Cert.AdamShardedIdeal.τ).loc Cert.AdamShardedIdeal.main_arg2)
          ∧ r.2.mem ((c.tc : Thread Cert.AdamShardedIdeal.nD Cert.AdamShardedIdeal.τ).loc Cert.AdamShardedIdeal.main_arg3) = m ((c.tc : Thread Cert.AdamShardedIdeal.nD Cert.AdamShardedIdeal.τ).loc Cert.AdamShardedIdeal.main_arg3)
          ∧ r.2.mem ((c.tc : Thread Cert.AdamShardedIdeal.nD Cert.AdamShardedIdeal.τ).loc Cert.AdamShardedIdeal.main_arg4) = m ((c.tc : Thread Cert.AdamShardedIdeal.nD Cert.AdamShardedIdeal.τ).loc Cert.AdamShardedIdeal.main_arg4)
          ∧ r.2.mem ((c.tc : Thread Cert.AdamShardedIdeal.nD Cert.AdamShardedIdeal.τ).loc Cert.AdamShardedIdeal.main_arg5) = m ((c.tc : Thread Cert.AdamShardedIdeal.nD Cert.AdamShardedIdeal.τ).loc Cert.AdamShardedIdeal.main_arg5)
          ∧ r.2.mem ((c.tc : Thread Cert.AdamShardedIdeal.nD Cert.AdamShardedIdeal.τ).loc Cert.AdamShardedIdeal.main_arg6) = m ((c.tc : Thread Cert.AdamShardedIdeal.nD Cert.AdamShardedIdeal.τ).loc Cert.AdamShardedIdeal.main_arg6)
          ∧ r.2.mem ((c.tc : Thread Cert.AdamShardedIdeal.nD Cert.AdamShardedIdeal.τ).loc Cert.AdamShardedIdeal.main_arg7) = m ((c.tc : Thread Cert.AdamShardedIdeal.nD Cert.AdamShardedIdeal.τ).loc Cert.AdamShardedIdeal.main_arg7))
      ∧ θ_run (Cert.AdamShardedReferenceIdeal.defs (F := Ideal)) (onTc (τ := Cert.AdamShardedReferenceIdeal.τ) (Cert.AdamShardedReferenceIdeal.main (F := Ideal))) ⟨m', fun _ => 0, g'⟩ (fun r => ∀ c : Dev Cert.AdamShardedReferenceIdeal.nD,
          r.2.mem ((c.tc : Thread Cert.AdamShardedReferenceIdeal.nD Cert.AdamShardedReferenceIdeal.τ).loc Cert.AdamShardedReferenceIdeal.main_v23) = v0 c
          ∧ r.2.mem ((c.tc : Thread Cert.AdamShardedReferenceIdeal.nD Cert.AdamShardedReferenceIdeal.τ).loc Cert.AdamShardedReferenceIdeal.main_v47) = v1 c
          ∧ r.2.mem ((c.tc : Thread Cert.AdamShardedReferenceIdeal.nD Cert.AdamShardedReferenceIdeal.τ).loc Cert.AdamShardedReferenceIdeal.main_v4) = v2 c
          ∧ r.2.mem ((c.tc : Thread Cert.AdamShardedReferenceIdeal.nD Cert.AdamShardedReferenceIdeal.τ).loc Cert.AdamShardedReferenceIdeal.main_v28) = v3 c
          ∧ r.2.mem ((c.tc : Thread Cert.AdamShardedReferenceIdeal.nD Cert.AdamShardedReferenceIdeal.τ).loc Cert.AdamShardedReferenceIdeal.main_v10) = v4 c
          ∧ r.2.mem ((c.tc : Thread Cert.AdamShardedReferenceIdeal.nD Cert.AdamShardedReferenceIdeal.τ).loc Cert.AdamShardedReferenceIdeal.main_v34) = v5 c
          ∧ r.2.mem ((c.tc : Thread Cert.AdamShardedReferenceIdeal.nD Cert.AdamShardedReferenceIdeal.τ).loc Cert.AdamShardedReferenceIdeal.main_arg0) = m' ((c.tc : Thread Cert.AdamShardedReferenceIdeal.nD Cert.AdamShardedReferenceIdeal.τ).loc Cert.AdamShardedReferenceIdeal.main_arg0)
          ∧ r.2.mem ((c.tc : Thread Cert.AdamShardedReferenceIdeal.nD Cert.AdamShardedReferenceIdeal.τ).loc Cert.AdamShardedReferenceIdeal.main_arg1) = m' ((c.tc : Thread Cert.AdamShardedReferenceIdeal.nD Cert.AdamShardedReferenceIdeal.τ).loc Cert.AdamShardedReferenceIdeal.main_arg1)
          ∧ r.2.mem ((c.tc : Thread Cert.AdamShardedReferenceIdeal.nD Cert.AdamShardedReferenceIdeal.τ).loc Cert.AdamShardedReferenceIdeal.main_arg2) = m' ((c.tc : Thread Cert.AdamShardedReferenceIdeal.nD Cert.AdamShardedReferenceIdeal.τ).loc Cert.AdamShardedReferenceIdeal.main_arg2)
          ∧ r.2.mem ((c.tc : Thread Cert.AdamShardedReferenceIdeal.nD Cert.AdamShardedReferenceIdeal.τ).loc Cert.AdamShardedReferenceIdeal.main_arg3) = m' ((c.tc : Thread Cert.AdamShardedReferenceIdeal.nD Cert.AdamShardedReferenceIdeal.τ).loc Cert.AdamShardedReferenceIdeal.main_arg3)
          ∧ r.2.mem ((c.tc : Thread Cert.AdamShardedReferenceIdeal.nD Cert.AdamShardedReferenceIdeal.τ).loc Cert.AdamShardedReferenceIdeal.main_arg4) = m' ((c.tc : Thread Cert.AdamShardedReferenceIdeal.nD Cert.AdamShardedReferenceIdeal.τ).loc Cert.AdamShardedReferenceIdeal.main_arg4)
          ∧ r.2.mem ((c.tc : Thread Cert.AdamShardedReferenceIdeal.nD Cert.AdamShardedReferenceIdeal.τ).loc Cert.AdamShardedReferenceIdeal.main_arg5) = m' ((c.tc : Thread Cert.AdamShardedReferenceIdeal.nD Cert.AdamShardedReferenceIdeal.τ).loc Cert.AdamShardedReferenceIdeal.main_arg5)
          ∧ r.2.mem ((c.tc : Thread Cert.AdamShardedReferenceIdeal.nD Cert.AdamShardedReferenceIdeal.τ).loc Cert.AdamShardedReferenceIdeal.main_arg6) = m' ((c.tc : Thread Cert.AdamShardedReferenceIdeal.nD Cert.AdamShardedReferenceIdeal.τ).loc Cert.AdamShardedReferenceIdeal.main_arg6)
          ∧ r.2.mem ((c.tc : Thread Cert.AdamShardedReferenceIdeal.nD Cert.AdamShardedReferenceIdeal.τ).loc Cert.AdamShardedReferenceIdeal.main_arg7) = m' ((c.tc : Thread Cert.AdamShardedReferenceIdeal.nD Cert.AdamShardedReferenceIdeal.τ).loc Cert.AdamShardedReferenceIdeal.main_arg7))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)
      ∧ m' ((c.tc : Thread Cert.AdamSmallReferenceIdeal.nD Cert.AdamSmallReferenceIdeal.τ).loc Cert.AdamSmallReferenceIdeal.main_arg4) = m ((c.tc : Thread Cert.AdamSmallIdeal.nD Cert.AdamSmallIdeal.τ).loc Cert.AdamSmallIdeal.main_arg4)
      ∧ m' ((c.tc : Thread Cert.AdamSmallReferenceIdeal.nD Cert.AdamSmallReferenceIdeal.τ).loc Cert.AdamSmallReferenceIdeal.main_arg5) = m ((c.tc : Thread Cert.AdamSmallIdeal.nD Cert.AdamSmallIdeal.τ).loc Cert.AdamSmallIdeal.main_arg5)
      ∧ m' ((c.tc : Thread Cert.AdamSmallReferenceIdeal.nD Cert.AdamSmallReferenceIdeal.τ).loc Cert.AdamSmallReferenceIdeal.main_arg6) = m ((c.tc : Thread Cert.AdamSmallIdeal.nD Cert.AdamSmallIdeal.τ).loc Cert.AdamSmallIdeal.main_arg6)
      ∧ m' ((c.tc : Thread Cert.AdamSmallReferenceIdeal.nD Cert.AdamSmallReferenceIdeal.τ).loc Cert.AdamSmallReferenceIdeal.main_arg7) = m ((c.tc : Thread Cert.AdamSmallIdeal.nD Cert.AdamSmallIdeal.τ).loc Cert.AdamSmallIdeal.main_arg7)
      ∧ m' ((c.tc : Thread Cert.AdamSmallReferenceIdeal.nD Cert.AdamSmallReferenceIdeal.τ).loc Cert.AdamSmallReferenceIdeal.main_arg8) = m ((c.tc : Thread Cert.AdamSmallIdeal.nD Cert.AdamSmallIdeal.τ).loc Cert.AdamSmallIdeal.main_arg8)
      ∧ m' ((c.tc : Thread Cert.AdamSmallReferenceIdeal.nD Cert.AdamSmallReferenceIdeal.τ).loc Cert.AdamSmallReferenceIdeal.main_arg9) = m ((c.tc : Thread Cert.AdamSmallIdeal.nD Cert.AdamSmallIdeal.τ).loc Cert.AdamSmallIdeal.main_arg9)
      ∧ m' ((c.tc : Thread Cert.AdamSmallReferenceIdeal.nD Cert.AdamSmallReferenceIdeal.τ).loc Cert.AdamSmallReferenceIdeal.main_arg10) = m ((c.tc : Thread Cert.AdamSmallIdeal.nD Cert.AdamSmallIdeal.τ).loc Cert.AdamSmallIdeal.main_arg10)
      ∧ m' ((c.tc : Thread Cert.AdamSmallReferenceIdeal.nD Cert.AdamSmallReferenceIdeal.τ).loc Cert.AdamSmallReferenceIdeal.main_arg11) = m ((c.tc : Thread Cert.AdamSmallIdeal.nD Cert.AdamSmallIdeal.τ).loc Cert.AdamSmallIdeal.main_arg11)
      ∧ m' ((c.tc : Thread Cert.AdamSmallReferenceIdeal.nD Cert.AdamSmallReferenceIdeal.τ).loc Cert.AdamSmallReferenceIdeal.main_arg12) = m ((c.tc : Thread Cert.AdamSmallIdeal.nD Cert.AdamSmallIdeal.τ).loc Cert.AdamSmallIdeal.main_arg12)
      ∧ m' ((c.tc : Thread Cert.AdamSmallReferenceIdeal.nD Cert.AdamSmallReferenceIdeal.τ).loc Cert.AdamSmallReferenceIdeal.main_arg13) = m ((c.tc : Thread Cert.AdamSmallIdeal.nD Cert.AdamSmallIdeal.τ).loc Cert.AdamSmallIdeal.main_arg13)
      ∧ m' ((c.tc : Thread Cert.AdamSmallReferenceIdeal.nD Cert.AdamSmallReferenceIdeal.τ).loc Cert.AdamSmallReferenceIdeal.main_arg14) = m ((c.tc : Thread Cert.AdamSmallIdeal.nD Cert.AdamSmallIdeal.τ).loc Cert.AdamSmallIdeal.main_arg14)
      ∧ m' ((c.tc : Thread Cert.AdamSmallReferenceIdeal.nD Cert.AdamSmallReferenceIdeal.τ).loc Cert.AdamSmallReferenceIdeal.main_arg15) = m ((c.tc : Thread Cert.AdamSmallIdeal.nD Cert.AdamSmallIdeal.τ).loc Cert.AdamSmallIdeal.main_arg15)
      ∧ m' ((c.tc : Thread Cert.AdamSmallReferenceIdeal.nD Cert.AdamSmallReferenceIdeal.τ).loc Cert.AdamSmallReferenceIdeal.main_arg16) = m ((c.tc : Thread Cert.AdamSmallIdeal.nD Cert.AdamSmallIdeal.τ).loc Cert.AdamSmallIdeal.main_arg16)
      ∧ m' ((c.tc : Thread Cert.AdamSmallReferenceIdeal.nD Cert.AdamSmallReferenceIdeal.τ).loc Cert.AdamSmallReferenceIdeal.main_arg17) = m ((c.tc : Thread Cert.AdamSmallIdeal.nD Cert.AdamSmallIdeal.τ).loc Cert.AdamSmallIdeal.main_arg17)
      ∧ m' ((c.tc : Thread Cert.AdamSmallReferenceIdeal.nD Cert.AdamSmallReferenceIdeal.τ).loc Cert.AdamSmallReferenceIdeal.main_arg18) = m ((c.tc : Thread Cert.AdamSmallIdeal.nD Cert.AdamSmallIdeal.τ).loc Cert.AdamSmallIdeal.main_arg18)
      ∧ m' ((c.tc : Thread Cert.AdamSmallReferenceIdeal.nD Cert.AdamSmallReferenceIdeal.τ).loc Cert.AdamSmallReferenceIdeal.main_arg19) = m ((c.tc : Thread Cert.AdamSmallIdeal.nD Cert.AdamSmallIdeal.τ).loc Cert.AdamSmallIdeal.main_arg19)
      ∧ m' ((c.tc : Thread Cert.AdamSmallReferenceIdeal.nD Cert.AdamSmallReferenceIdeal.τ).loc Cert.AdamSmallReferenceIdeal.main_arg20) = m ((c.tc : Thread Cert.AdamSmallIdeal.nD Cert.AdamSmallIdeal.τ).loc Cert.AdamSmallIdeal.main_arg20)
      ∧ m' ((c.tc : Thread Cert.AdamSmallReferenceIdeal.nD Cert.AdamSmallReferenceIdeal.τ).loc Cert.AdamSmallReferenceIdeal.main_arg21) = m ((c.tc : Thread Cert.AdamSmallIdeal.nD Cert.AdamSmallIdeal.τ).loc Cert.AdamSmallIdeal.main_arg21)
      ∧ m' ((c.tc : Thread Cert.AdamSmallReferenceIdeal.nD Cert.AdamSmallReferenceIdeal.τ).loc Cert.AdamSmallReferenceIdeal.main_arg22) = m ((c.tc : Thread Cert.AdamSmallIdeal.nD Cert.AdamSmallIdeal.τ).loc Cert.AdamSmallIdeal.main_arg22)
      ∧ m' ((c.tc : Thread Cert.AdamSmallReferenceIdeal.nD Cert.AdamSmallReferenceIdeal.τ).loc Cert.AdamSmallReferenceIdeal.main_arg23) = m ((c.tc : Thread Cert.AdamSmallIdeal.nD Cert.AdamSmallIdeal.τ).loc Cert.AdamSmallIdeal.main_arg23)
      ∧ m' ((c.tc : Thread Cert.AdamSmallReferenceIdeal.nD Cert.AdamSmallReferenceIdeal.τ).loc Cert.AdamSmallReferenceIdeal.main_arg24) = m ((c.tc : Thread Cert.AdamSmallIdeal.nD Cert.AdamSmallIdeal.τ).loc Cert.AdamSmallIdeal.main_arg24)
      ∧ m' ((c.tc : Thread Cert.AdamSmallReferenceIdeal.nD Cert.AdamSmallReferenceIdeal.τ).loc Cert.AdamSmallReferenceIdeal.main_arg25) = m ((c.tc : Thread Cert.AdamSmallIdeal.nD Cert.AdamSmallIdeal.τ).loc Cert.AdamSmallIdeal.main_arg25)
      ∧ m' ((c.tc : Thread Cert.AdamSmallReferenceIdeal.nD Cert.AdamSmallReferenceIdeal.τ).loc Cert.AdamSmallReferenceIdeal.main_arg26) = m ((c.tc : Thread Cert.AdamSmallIdeal.nD Cert.AdamSmallIdeal.τ).loc Cert.AdamSmallIdeal.main_arg26)
      ∧ m' ((c.tc : Thread Cert.AdamSmallReferenceIdeal.nD Cert.AdamSmallReferenceIdeal.τ).loc Cert.AdamSmallReferenceIdeal.main_arg27) = m ((c.tc : Thread Cert.AdamSmallIdeal.nD Cert.AdamSmallIdeal.τ).loc Cert.AdamSmallIdeal.main_arg27)
      ∧ m' ((c.tc : Thread Cert.AdamSmallReferenceIdeal.nD Cert.AdamSmallReferenceIdeal.τ).loc Cert.AdamSmallReferenceIdeal.main_arg28) = m ((c.tc : Thread Cert.AdamSmallIdeal.nD Cert.AdamSmallIdeal.τ).loc Cert.AdamSmallIdeal.main_arg28)
      ∧ m' ((c.tc : Thread Cert.AdamSmallReferenceIdeal.nD Cert.AdamSmallReferenceIdeal.τ).loc Cert.AdamSmallReferenceIdeal.main_arg29) = m ((c.tc : Thread Cert.AdamSmallIdeal.nD Cert.AdamSmallIdeal.τ).loc Cert.AdamSmallIdeal.main_arg29)
      ∧ m' ((c.tc : Thread Cert.AdamSmallReferenceIdeal.nD Cert.AdamSmallReferenceIdeal.τ).loc Cert.AdamSmallReferenceIdeal.main_arg30) = m ((c.tc : Thread Cert.AdamSmallIdeal.nD Cert.AdamSmallIdeal.τ).loc Cert.AdamSmallIdeal.main_arg30)
      ∧ m' ((c.tc : Thread Cert.AdamSmallReferenceIdeal.nD Cert.AdamSmallReferenceIdeal.τ).loc Cert.AdamSmallReferenceIdeal.main_arg31) = m ((c.tc : Thread Cert.AdamSmallIdeal.nD Cert.AdamSmallIdeal.τ).loc Cert.AdamSmallIdeal.main_arg31)
      ∧ m' ((c.tc : Thread Cert.AdamSmallReferenceIdeal.nD Cert.AdamSmallReferenceIdeal.τ).loc Cert.AdamSmallReferenceIdeal.main_arg32) = m ((c.tc : Thread Cert.AdamSmallIdeal.nD Cert.AdamSmallIdeal.τ).loc Cert.AdamSmallIdeal.main_arg32)
      ∧ m' ((c.tc : Thread Cert.AdamSmallReferenceIdeal.nD Cert.AdamSmallReferenceIdeal.τ).loc Cert.AdamSmallReferenceIdeal.main_arg33) = m ((c.tc : Thread Cert.AdamSmallIdeal.nD Cert.AdamSmallIdeal.τ).loc Cert.AdamSmallIdeal.main_arg33)
      ∧ m' ((c.tc : Thread Cert.AdamSmallReferenceIdeal.nD Cert.AdamSmallReferenceIdeal.τ).loc Cert.AdamSmallReferenceIdeal.main_arg34) = m ((c.tc : Thread Cert.AdamSmallIdeal.nD Cert.AdamSmallIdeal.τ).loc Cert.AdamSmallIdeal.main_arg34)
      ∧ m' ((c.tc : Thread Cert.AdamSmallReferenceIdeal.nD Cert.AdamSmallReferenceIdeal.τ).loc Cert.AdamSmallReferenceIdeal.main_arg35) = m ((c.tc : Thread Cert.AdamSmallIdeal.nD Cert.AdamSmallIdeal.τ).loc Cert.AdamSmallIdeal.main_arg35)
      ∧ m' ((c.tc : Thread Cert.AdamSmallReferenceIdeal.nD Cert.AdamSmallReferenceIdeal.τ).loc Cert.AdamSmallReferenceIdeal.main_arg36) = m ((c.tc : Thread Cert.AdamSmallIdeal.nD Cert.AdamSmallIdeal.τ).loc Cert.AdamSmallIdeal.main_arg36)
      ∧ m' ((c.tc : Thread Cert.AdamSmallReferenceIdeal.nD Cert.AdamSmallReferenceIdeal.τ).loc Cert.AdamSmallReferenceIdeal.main_arg37) = m ((c.tc : Thread Cert.AdamSmallIdeal.nD Cert.AdamSmallIdeal.τ).loc Cert.AdamSmallIdeal.main_arg37)
      ∧ m' ((c.tc : Thread Cert.AdamSmallReferenceIdeal.nD Cert.AdamSmallReferenceIdeal.τ).loc Cert.AdamSmallReferenceIdeal.main_arg38) = m ((c.tc : Thread Cert.AdamSmallIdeal.nD Cert.AdamSmallIdeal.τ).loc Cert.AdamSmallIdeal.main_arg38)
      ∧ m' ((c.tc : Thread Cert.AdamSmallReferenceIdeal.nD Cert.AdamSmallReferenceIdeal.τ).loc Cert.AdamSmallReferenceIdeal.main_arg39) = m ((c.tc : Thread Cert.AdamSmallIdeal.nD Cert.AdamSmallIdeal.τ).loc Cert.AdamSmallIdeal.main_arg39)
      ∧ m' ((c.tc : Thread Cert.AdamSmallReferenceIdeal.nD Cert.AdamSmallReferenceIdeal.τ).loc Cert.AdamSmallReferenceIdeal.main_arg40) = m ((c.tc : Thread Cert.AdamSmallIdeal.nD Cert.AdamSmallIdeal.τ).loc Cert.AdamSmallIdeal.main_arg40)
      ∧ m' ((c.tc : Thread Cert.AdamSmallReferenceIdeal.nD Cert.AdamSmallReferenceIdeal.τ).loc Cert.AdamSmallReferenceIdeal.main_arg41) = m ((c.tc : Thread Cert.AdamSmallIdeal.nD Cert.AdamSmallIdeal.τ).loc Cert.AdamSmallIdeal.main_arg41)
      ∧ m' ((c.tc : Thread Cert.AdamSmallReferenceIdeal.nD Cert.AdamSmallReferenceIdeal.τ).loc Cert.AdamSmallReferenceIdeal.main_arg42) = m ((c.tc : Thread Cert.AdamSmallIdeal.nD Cert.AdamSmallIdeal.τ).loc Cert.AdamSmallIdeal.main_arg42)
      ∧ m' ((c.tc : Thread Cert.AdamSmallReferenceIdeal.nD Cert.AdamSmallReferenceIdeal.τ).loc Cert.AdamSmallReferenceIdeal.main_arg43) = m ((c.tc : Thread Cert.AdamSmallIdeal.nD Cert.AdamSmallIdeal.τ).loc Cert.AdamSmallIdeal.main_arg43)
      ∧ m' ((c.tc : Thread Cert.AdamSmallReferenceIdeal.nD Cert.AdamSmallReferenceIdeal.τ).loc Cert.AdamSmallReferenceIdeal.main_arg44) = m ((c.tc : Thread Cert.AdamSmallIdeal.nD Cert.AdamSmallIdeal.τ).loc Cert.AdamSmallIdeal.main_arg44)
      ∧ m' ((c.tc : Thread Cert.AdamSmallReferenceIdeal.nD Cert.AdamSmallReferenceIdeal.τ).loc Cert.AdamSmallReferenceIdeal.main_arg45) = m ((c.tc : Thread Cert.AdamSmallIdeal.nD Cert.AdamSmallIdeal.τ).loc Cert.AdamSmallIdeal.main_arg45)
      ∧ m' ((c.tc : Thread Cert.AdamSmallReferenceIdeal.nD Cert.AdamSmallReferenceIdeal.τ).loc Cert.AdamSmallReferenceIdeal.main_arg46) = m ((c.tc : Thread Cert.AdamSmallIdeal.nD Cert.AdamSmallIdeal.τ).loc Cert.AdamSmallIdeal.main_arg46)
      ∧ m' ((c.tc : Thread Cert.AdamSmallReferenceIdeal.nD Cert.AdamSmallReferenceIdeal.τ).loc Cert.AdamSmallReferenceIdeal.main_arg47) = m ((c.tc : Thread Cert.AdamSmallIdeal.nD Cert.AdamSmallIdeal.τ).loc Cert.AdamSmallIdeal.main_arg47)
      ∧ m' ((c.tc : Thread Cert.AdamSmallReferenceIdeal.nD Cert.AdamSmallReferenceIdeal.τ).loc Cert.AdamSmallReferenceIdeal.main_arg48) = m ((c.tc : Thread Cert.AdamSmallIdeal.nD Cert.AdamSmallIdeal.τ).loc Cert.AdamSmallIdeal.main_arg48)
      ∧ m' ((c.tc : Thread Cert.AdamSmallReferenceIdeal.nD Cert.AdamSmallReferenceIdeal.τ).loc Cert.AdamSmallReferenceIdeal.main_arg49) = m ((c.tc : Thread Cert.AdamSmallIdeal.nD Cert.AdamSmallIdeal.τ).loc Cert.AdamSmallIdeal.main_arg49)
      ∧ m' ((c.tc : Thread Cert.AdamSmallReferenceIdeal.nD Cert.AdamSmallReferenceIdeal.τ).loc Cert.AdamSmallReferenceIdeal.main_arg50) = m ((c.tc : Thread Cert.AdamSmallIdeal.nD Cert.AdamSmallIdeal.τ).loc Cert.AdamSmallIdeal.main_arg50)
      ∧ m' ((c.tc : Thread Cert.AdamSmallReferenceIdeal.nD Cert.AdamSmallReferenceIdeal.τ).loc Cert.AdamSmallReferenceIdeal.main_arg51) = m ((c.tc : Thread Cert.AdamSmallIdeal.nD Cert.AdamSmallIdeal.τ).loc Cert.AdamSmallIdeal.main_arg51)) →
    ∃ (v0 : (c : Dev Cert.AdamSmallIdeal.nD) → Buf (Elt Ideal) ((c.tc : Thread Cert.AdamSmallIdeal.nD Cert.AdamSmallIdeal.τ).loc Cert.AdamSmallIdeal.main_v63)) (v1 : (c : Dev Cert.AdamSmallIdeal.nD) → Buf (Elt Ideal) ((c.tc : Thread Cert.AdamSmallIdeal.nD Cert.AdamSmallIdeal.τ).loc Cert.AdamSmallIdeal.main_v65)) (v2 : (c : Dev Cert.AdamSmallIdeal.nD) → Buf (Elt Ideal) ((c.tc : Thread Cert.AdamSmallIdeal.nD Cert.AdamSmallIdeal.τ).loc Cert.AdamSmallIdeal.main_v67)) (v3 : (c : Dev Cert.AdamSmallIdeal.nD) → Buf (Elt Ideal) ((c.tc : Thread Cert.AdamSmallIdeal.nD Cert.AdamSmallIdeal.τ).loc Cert.AdamSmallIdeal.main_v69)) (v4 : (c : Dev Cert.AdamSmallIdeal.nD) → Buf (Elt Ideal) ((c.tc : Thread Cert.AdamSmallIdeal.nD Cert.AdamSmallIdeal.τ).loc Cert.AdamSmallIdeal.main_v71)) (v5 : (c : Dev Cert.AdamSmallIdeal.nD) → Buf (Elt Ideal) ((c.tc : Thread Cert.AdamSmallIdeal.nD Cert.AdamSmallIdeal.τ).loc Cert.AdamSmallIdeal.main_v73)) (v6 : (c : Dev Cert.AdamSmallIdeal.nD) → Buf (Elt Ideal) ((c.tc : Thread Cert.AdamSmallIdeal.nD Cert.AdamSmallIdeal.τ).loc Cert.AdamSmallIdeal.main_v75)) (v7 : (c : Dev Cert.AdamSmallIdeal.nD) → Buf (Elt Ideal) ((c.tc : Thread Cert.AdamSmallIdeal.nD Cert.AdamSmallIdeal.τ).loc Cert.AdamSmallIdeal.main_v77)) (v8 : (c : Dev Cert.AdamSmallIdeal.nD) → Buf (Elt Ideal) ((c.tc : Thread Cert.AdamSmallIdeal.nD Cert.AdamSmallIdeal.τ).loc Cert.AdamSmallIdeal.main_v79)) (v9 : (c : Dev Cert.AdamSmallIdeal.nD) → Buf (Elt Ideal) ((c.tc : Thread Cert.AdamSmallIdeal.nD Cert.AdamSmallIdeal.τ).loc Cert.AdamSmallIdeal.main_v81)) (v10 : (c : Dev Cert.AdamSmallIdeal.nD) → Buf (Elt Ideal) ((c.tc : Thread Cert.AdamSmallIdeal.nD Cert.AdamSmallIdeal.τ).loc Cert.AdamSmallIdeal.main_v83)) (v11 : (c : Dev Cert.AdamSmallIdeal.nD) → Buf (Elt Ideal) ((c.tc : Thread Cert.AdamSmallIdeal.nD Cert.AdamSmallIdeal.τ).loc Cert.AdamSmallIdeal.main_v85)) (v12 : (c : Dev Cert.AdamSmallIdeal.nD) → Buf (Elt Ideal) ((c.tc : Thread Cert.AdamSmallIdeal.nD Cert.AdamSmallIdeal.τ).loc Cert.AdamSmallIdeal.main_v86)) (v13 : (c : Dev Cert.AdamSmallIdeal.nD) → Buf (Elt Ideal) ((c.tc : Thread Cert.AdamSmallIdeal.nD Cert.AdamSmallIdeal.τ).loc Cert.AdamSmallIdeal.main_v89)) (v14 : (c : Dev Cert.AdamSmallIdeal.nD) → Buf (Elt Ideal) ((c.tc : Thread Cert.AdamSmallIdeal.nD Cert.AdamSmallIdeal.τ).loc Cert.AdamSmallIdeal.main_v91)) (v15 : (c : Dev Cert.AdamSmallIdeal.nD) → Buf (Elt Ideal) ((c.tc : Thread Cert.AdamSmallIdeal.nD Cert.AdamSmallIdeal.τ).loc Cert.AdamSmallIdeal.main_v93)) (v16 : (c : Dev Cert.AdamSmallIdeal.nD) → Buf (Elt Ideal) ((c.tc : Thread Cert.AdamSmallIdeal.nD Cert.AdamSmallIdeal.τ).loc Cert.AdamSmallIdeal.main_v95)) (v17 : (c : Dev Cert.AdamSmallIdeal.nD) → Buf (Elt Ideal) ((c.tc : Thread Cert.AdamSmallIdeal.nD Cert.AdamSmallIdeal.τ).loc Cert.AdamSmallIdeal.main_v97)) (v18 : (c : Dev Cert.AdamSmallIdeal.nD) → Buf (Elt Ideal) ((c.tc : Thread Cert.AdamSmallIdeal.nD Cert.AdamSmallIdeal.τ).loc Cert.AdamSmallIdeal.main_v99)) (v19 : (c : Dev Cert.AdamSmallIdeal.nD) → Buf (Elt Ideal) ((c.tc : Thread Cert.AdamSmallIdeal.nD Cert.AdamSmallIdeal.τ).loc Cert.AdamSmallIdeal.main_v101)) (v20 : (c : Dev Cert.AdamSmallIdeal.nD) → Buf (Elt Ideal) ((c.tc : Thread Cert.AdamSmallIdeal.nD Cert.AdamSmallIdeal.τ).loc Cert.AdamSmallIdeal.main_v103)) (v21 : (c : Dev Cert.AdamSmallIdeal.nD) → Buf (Elt Ideal) ((c.tc : Thread Cert.AdamSmallIdeal.nD Cert.AdamSmallIdeal.τ).loc Cert.AdamSmallIdeal.main_v105)) (v22 : (c : Dev Cert.AdamSmallIdeal.nD) → Buf (Elt Ideal) ((c.tc : Thread Cert.AdamSmallIdeal.nD Cert.AdamSmallIdeal.τ).loc Cert.AdamSmallIdeal.main_v107)) (v23 : (c : Dev Cert.AdamSmallIdeal.nD) → Buf (Elt Ideal) ((c.tc : Thread Cert.AdamSmallIdeal.nD Cert.AdamSmallIdeal.τ).loc Cert.AdamSmallIdeal.main_v109)) (v24 : (c : Dev Cert.AdamSmallIdeal.nD) → Buf (Elt Ideal) ((c.tc : Thread Cert.AdamSmallIdeal.nD Cert.AdamSmallIdeal.τ).loc Cert.AdamSmallIdeal.main_v111)) (v25 : (c : Dev Cert.AdamSmallIdeal.nD) → Buf (Elt Ideal) ((c.tc : Thread Cert.AdamSmallIdeal.nD Cert.AdamSmallIdeal.τ).loc Cert.AdamSmallIdeal.main_v112)) (v26 : (c : Dev Cert.AdamSmallIdeal.nD) → Buf (Elt Ideal) ((c.tc : Thread Cert.AdamSmallIdeal.nD Cert.AdamSmallIdeal.τ).loc Cert.AdamSmallIdeal.main_v115)) (v27 : (c : Dev Cert.AdamSmallIdeal.nD) → Buf (Elt Ideal) ((c.tc : Thread Cert.AdamSmallIdeal.nD Cert.AdamSmallIdeal.τ).loc Cert.AdamSmallIdeal.main_v117)) (v28 : (c : Dev Cert.AdamSmallIdeal.nD) → Buf (Elt Ideal) ((c.tc : Thread Cert.AdamSmallIdeal.nD Cert.AdamSmallIdeal.τ).loc Cert.AdamSmallIdeal.main_v119)) (v29 : (c : Dev Cert.AdamSmallIdeal.nD) → Buf (Elt Ideal) ((c.tc : Thread Cert.AdamSmallIdeal.nD Cert.AdamSmallIdeal.τ).loc Cert.AdamSmallIdeal.main_v121)) (v30 : (c : Dev Cert.AdamSmallIdeal.nD) → Buf (Elt Ideal) ((c.tc : Thread Cert.AdamSmallIdeal.nD Cert.AdamSmallIdeal.τ).loc Cert.AdamSmallIdeal.main_v123)) (v31 : (c : Dev Cert.AdamSmallIdeal.nD) → Buf (Elt Ideal) ((c.tc : Thread Cert.AdamSmallIdeal.nD Cert.AdamSmallIdeal.τ).loc Cert.AdamSmallIdeal.main_v125)) (v32 : (c : Dev Cert.AdamSmallIdeal.nD) → Buf (Elt Ideal) ((c.tc : Thread Cert.AdamSmallIdeal.nD Cert.AdamSmallIdeal.τ).loc Cert.AdamSmallIdeal.main_v127)) (v33 : (c : Dev Cert.AdamSmallIdeal.nD) → Buf (Elt Ideal) ((c.tc : Thread Cert.AdamSmallIdeal.nD Cert.AdamSmallIdeal.τ).loc Cert.AdamSmallIdeal.main_v129)) (v34 : (c : Dev Cert.AdamSmallIdeal.nD) → Buf (Elt Ideal) ((c.tc : Thread Cert.AdamSmallIdeal.nD Cert.AdamSmallIdeal.τ).loc Cert.AdamSmallIdeal.main_v131)) (v35 : (c : Dev Cert.AdamSmallIdeal.nD) → Buf (Elt Ideal) ((c.tc : Thread Cert.AdamSmallIdeal.nD Cert.AdamSmallIdeal.τ).loc Cert.AdamSmallIdeal.main_v133)) (v36 : (c : Dev Cert.AdamSmallIdeal.nD) → Buf (Elt Ideal) ((c.tc : Thread Cert.AdamSmallIdeal.nD Cert.AdamSmallIdeal.τ).loc Cert.AdamSmallIdeal.main_v135)) (v37 : (c : Dev Cert.AdamSmallIdeal.nD) → Buf (Elt Ideal) ((c.tc : Thread Cert.AdamSmallIdeal.nD Cert.AdamSmallIdeal.τ).loc Cert.AdamSmallIdeal.main_v137)) (v38 : (c : Dev Cert.AdamSmallIdeal.nD) → Buf (Elt Ideal) ((c.tc : Thread Cert.AdamSmallIdeal.nD Cert.AdamSmallIdeal.τ).loc Cert.AdamSmallIdeal.main_v138)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v63) = v0 c
          ∧ r.2.mem ((c.tc : Thread Cert.AdamSmallIdeal.nD Cert.AdamSmallIdeal.τ).loc Cert.AdamSmallIdeal.main_v65) = v1 c
          ∧ r.2.mem ((c.tc : Thread Cert.AdamSmallIdeal.nD Cert.AdamSmallIdeal.τ).loc Cert.AdamSmallIdeal.main_v67) = v2 c
          ∧ r.2.mem ((c.tc : Thread Cert.AdamSmallIdeal.nD Cert.AdamSmallIdeal.τ).loc Cert.AdamSmallIdeal.main_v69) = v3 c
          ∧ r.2.mem ((c.tc : Thread Cert.AdamSmallIdeal.nD Cert.AdamSmallIdeal.τ).loc Cert.AdamSmallIdeal.main_v71) = v4 c
          ∧ r.2.mem ((c.tc : Thread Cert.AdamSmallIdeal.nD Cert.AdamSmallIdeal.τ).loc Cert.AdamSmallIdeal.main_v73) = v5 c
          ∧ r.2.mem ((c.tc : Thread Cert.AdamSmallIdeal.nD Cert.AdamSmallIdeal.τ).loc Cert.AdamSmallIdeal.main_v75) = v6 c
          ∧ r.2.mem ((c.tc : Thread Cert.AdamSmallIdeal.nD Cert.AdamSmallIdeal.τ).loc Cert.AdamSmallIdeal.main_v77) = v7 c
          ∧ r.2.mem ((c.tc : Thread Cert.AdamSmallIdeal.nD Cert.AdamSmallIdeal.τ).loc Cert.AdamSmallIdeal.main_v79) = v8 c
          ∧ r.2.mem ((c.tc : Thread Cert.AdamSmallIdeal.nD Cert.AdamSmallIdeal.τ).loc Cert.AdamSmallIdeal.main_v81) = v9 c
          ∧ r.2.mem ((c.tc : Thread Cert.AdamSmallIdeal.nD Cert.AdamSmallIdeal.τ).loc Cert.AdamSmallIdeal.main_v83) = v10 c
          ∧ r.2.mem ((c.tc : Thread Cert.AdamSmallIdeal.nD Cert.AdamSmallIdeal.τ).loc Cert.AdamSmallIdeal.main_v85) = v11 c
          ∧ r.2.mem ((c.tc : Thread Cert.AdamSmallIdeal.nD Cert.AdamSmallIdeal.τ).loc Cert.AdamSmallIdeal.main_v86) = v12 c
          ∧ r.2.mem ((c.tc : Thread Cert.AdamSmallIdeal.nD Cert.AdamSmallIdeal.τ).loc Cert.AdamSmallIdeal.main_v89) = v13 c
          ∧ r.2.mem ((c.tc : Thread Cert.AdamSmallIdeal.nD Cert.AdamSmallIdeal.τ).loc Cert.AdamSmallIdeal.main_v91) = v14 c
          ∧ r.2.mem ((c.tc : Thread Cert.AdamSmallIdeal.nD Cert.AdamSmallIdeal.τ).loc Cert.AdamSmallIdeal.main_v93) = v15 c
          ∧ r.2.mem ((c.tc : Thread Cert.AdamSmallIdeal.nD Cert.AdamSmallIdeal.τ).loc Cert.AdamSmallIdeal.main_v95) = v16 c
          ∧ r.2.mem ((c.tc : Thread Cert.AdamSmallIdeal.nD Cert.AdamSmallIdeal.τ).loc Cert.AdamSmallIdeal.main_v97) = v17 c
          ∧ r.2.mem ((c.tc : Thread Cert.AdamSmallIdeal.nD Cert.AdamSmallIdeal.τ).loc Cert.AdamSmallIdeal.main_v99) = v18 c
          ∧ r.2.mem ((c.tc : Thread Cert.AdamSmallIdeal.nD Cert.AdamSmallIdeal.τ).loc Cert.AdamSmallIdeal.main_v101) = v19 c
          ∧ r.2.mem ((c.tc : Thread Cert.AdamSmallIdeal.nD Cert.AdamSmallIdeal.τ).loc Cert.AdamSmallIdeal.main_v103) = v20 c
          ∧ r.2.mem ((c.tc : Thread Cert.AdamSmallIdeal.nD Cert.AdamSmallIdeal.τ).loc Cert.AdamSmallIdeal.main_v105) = v21 c
          ∧ r.2.mem ((c.tc : Thread Cert.AdamSmallIdeal.nD Cert.AdamSmallIdeal.τ).loc Cert.AdamSmallIdeal.main_v107) = v22 c
          ∧ r.2.mem ((c.tc : Thread Cert.AdamSmallIdeal.nD Cert.AdamSmallIdeal.τ).loc Cert.AdamSmallIdeal.main_v109) = v23 c
          ∧ r.2.mem ((c.tc : Thread Cert.AdamSmallIdeal.nD Cert.AdamSmallIdeal.τ).loc Cert.AdamSmallIdeal.main_v111) = v24 c
          ∧ r.2.mem ((c.tc : Thread Cert.AdamSmallIdeal.nD Cert.AdamSmallIdeal.τ).loc Cert.AdamSmallIdeal.main_v112) = v25 c
          ∧ r.2.mem ((c.tc : Thread Cert.AdamSmallIdeal.nD Cert.AdamSmallIdeal.τ).loc Cert.AdamSmallIdeal.main_v115) = v26 c
          ∧ r.2.mem ((c.tc : Thread Cert.AdamSmallIdeal.nD Cert.AdamSmallIdeal.τ).loc Cert.AdamSmallIdeal.main_v117) = v27 c
          ∧ r.2.mem ((c.tc : Thread Cert.AdamSmallIdeal.nD Cert.AdamSmallIdeal.τ).loc Cert.AdamSmallIdeal.main_v119) = v28 c
          ∧ r.2.mem ((c.tc : Thread Cert.AdamSmallIdeal.nD Cert.AdamSmallIdeal.τ).loc Cert.AdamSmallIdeal.main_v121) = v29 c
          ∧ r.2.mem ((c.tc : Thread Cert.AdamSmallIdeal.nD Cert.AdamSmallIdeal.τ).loc Cert.AdamSmallIdeal.main_v123) = v30 c
          ∧ r.2.mem ((c.tc : Thread Cert.AdamSmallIdeal.nD Cert.AdamSmallIdeal.τ).loc Cert.AdamSmallIdeal.main_v125) = v31 c
          ∧ r.2.mem ((c.tc : Thread Cert.AdamSmallIdeal.nD Cert.AdamSmallIdeal.τ).loc Cert.AdamSmallIdeal.main_v127) = v32 c
          ∧ r.2.mem ((c.tc : Thread Cert.AdamSmallIdeal.nD Cert.AdamSmallIdeal.τ).loc Cert.AdamSmallIdeal.main_v129) = v33 c
          ∧ r.2.mem ((c.tc : Thread Cert.AdamSmallIdeal.nD Cert.AdamSmallIdeal.τ).loc Cert.AdamSmallIdeal.main_v131) = v34 c
          ∧ r.2.mem ((c.tc : Thread Cert.AdamSmallIdeal.nD Cert.AdamSmallIdeal.τ).loc Cert.AdamSmallIdeal.main_v133) = v35 c
          ∧ r.2.mem ((c.tc : Thread Cert.AdamSmallIdeal.nD Cert.AdamSmallIdeal.τ).loc Cert.AdamSmallIdeal.main_v135) = v36 c
          ∧ r.2.mem ((c.tc : Thread Cert.AdamSmallIdeal.nD Cert.AdamSmallIdeal.τ).loc Cert.AdamSmallIdeal.main_v137) = v37 c
          ∧ r.2.mem ((c.tc : Thread Cert.AdamSmallIdeal.nD Cert.AdamSmallIdeal.τ).loc Cert.AdamSmallIdeal.main_v138) = v38 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v47) = v1 c
          ∧ r.2.mem ((c.tc : Thread Cert.AdamSmallReferenceIdeal.nD Cert.AdamSmallReferenceIdeal.τ).loc Cert.AdamSmallReferenceIdeal.main_v71) = v2 c
          ∧ r.2.mem ((c.tc : Thread Cert.AdamSmallReferenceIdeal.nD Cert.AdamSmallReferenceIdeal.τ).loc Cert.AdamSmallReferenceIdeal.main_v95) = v3 c
          ∧ r.2.mem ((c.tc : Thread Cert.AdamSmallReferenceIdeal.nD Cert.AdamSmallReferenceIdeal.τ).loc Cert.AdamSmallReferenceIdeal.main_v119) = v4 c
          ∧ r.2.mem ((c.tc : Thread Cert.AdamSmallReferenceIdeal.nD Cert.AdamSmallReferenceIdeal.τ).loc Cert.AdamSmallReferenceIdeal.main_v143) = v5 c
          ∧ r.2.mem ((c.tc : Thread Cert.AdamSmallReferenceIdeal.nD Cert.AdamSmallReferenceIdeal.τ).loc Cert.AdamSmallReferenceIdeal.main_v167) = v6 c
          ∧ r.2.mem ((c.tc : Thread Cert.AdamSmallReferenceIdeal.nD Cert.AdamSmallReferenceIdeal.τ).loc Cert.AdamSmallReferenceIdeal.main_v191) = v7 c
          ∧ r.2.mem ((c.tc : Thread Cert.AdamSmallReferenceIdeal.nD Cert.AdamSmallReferenceIdeal.τ).loc Cert.AdamSmallReferenceIdeal.main_v215) = v8 c
          ∧ r.2.mem ((c.tc : Thread Cert.AdamSmallReferenceIdeal.nD Cert.AdamSmallReferenceIdeal.τ).loc Cert.AdamSmallReferenceIdeal.main_v239) = v9 c
          ∧ r.2.mem ((c.tc : Thread Cert.AdamSmallReferenceIdeal.nD Cert.AdamSmallReferenceIdeal.τ).loc Cert.AdamSmallReferenceIdeal.main_v263) = v10 c
          ∧ r.2.mem ((c.tc : Thread Cert.AdamSmallReferenceIdeal.nD Cert.AdamSmallReferenceIdeal.τ).loc Cert.AdamSmallReferenceIdeal.main_v287) = v11 c
          ∧ r.2.mem ((c.tc : Thread Cert.AdamSmallReferenceIdeal.nD Cert.AdamSmallReferenceIdeal.τ).loc Cert.AdamSmallReferenceIdeal.main_v311) = v12 c
          ∧ r.2.mem ((c.tc : Thread Cert.AdamSmallReferenceIdeal.nD Cert.AdamSmallReferenceIdeal.τ).loc Cert.AdamSmallReferenceIdeal.main_v4) = v13 c
          ∧ r.2.mem ((c.tc : Thread Cert.AdamSmallReferenceIdeal.nD Cert.AdamSmallReferenceIdeal.τ).loc Cert.AdamSmallReferenceIdeal.main_v28) = v14 c
          ∧ r.2.mem ((c.tc : Thread Cert.AdamSmallReferenceIdeal.nD Cert.AdamSmallReferenceIdeal.τ).loc Cert.AdamSmallReferenceIdeal.main_v52) = v15 c
          ∧ r.2.mem ((c.tc : Thread Cert.AdamSmallReferenceIdeal.nD Cert.AdamSmallReferenceIdeal.τ).loc Cert.AdamSmallReferenceIdeal.main_v76) = v16 c
          ∧ r.2.mem ((c.tc : Thread Cert.AdamSmallReferenceIdeal.nD Cert.AdamSmallReferenceIdeal.τ).loc Cert.AdamSmallReferenceIdeal.main_v100) = v17 c
          ∧ r.2.mem ((c.tc : Thread Cert.AdamSmallReferenceIdeal.nD Cert.AdamSmallReferenceIdeal.τ).loc Cert.AdamSmallReferenceIdeal.main_v124) = v18 c
          ∧ r.2.mem ((c.tc : Thread Cert.AdamSmallReferenceIdeal.nD Cert.AdamSmallReferenceIdeal.τ).loc Cert.AdamSmallReferenceIdeal.main_v148) = v19 c
          ∧ r.2.mem ((c.tc : Thread Cert.AdamSmallReferenceIdeal.nD Cert.AdamSmallReferenceIdeal.τ).loc Cert.AdamSmallReferenceIdeal.main_v172) = v20 c
          ∧ r.2.mem ((c.tc : Thread Cert.AdamSmallReferenceIdeal.nD Cert.AdamSmallReferenceIdeal.τ).loc Cert.AdamSmallReferenceIdeal.main_v196) = v21 c
          ∧ r.2.mem ((c.tc : Thread Cert.AdamSmallReferenceIdeal.nD Cert.AdamSmallReferenceIdeal.τ).loc Cert.AdamSmallReferenceIdeal.main_v220) = v22 c
          ∧ r.2.mem ((c.tc : Thread Cert.AdamSmallReferenceIdeal.nD Cert.AdamSmallReferenceIdeal.τ).loc Cert.AdamSmallReferenceIdeal.main_v244) = v23 c
          ∧ r.2.mem ((c.tc : Thread Cert.AdamSmallReferenceIdeal.nD Cert.AdamSmallReferenceIdeal.τ).loc Cert.AdamSmallReferenceIdeal.main_v268) = v24 c
          ∧ r.2.mem ((c.tc : Thread Cert.AdamSmallReferenceIdeal.nD Cert.AdamSmallReferenceIdeal.τ).loc Cert.AdamSmallReferenceIdeal.main_v292) = v25 c
          ∧ r.2.mem ((c.tc : Thread Cert.AdamSmallReferenceIdeal.nD Cert.AdamSmallReferenceIdeal.τ).loc Cert.AdamSmallReferenceIdeal.main_v10) = v26 c
          ∧ r.2.mem ((c.tc : Thread Cert.AdamSmallReferenceIdeal.nD Cert.AdamSmallReferenceIdeal.τ).loc Cert.AdamSmallReferenceIdeal.main_v34) = v27 c
          ∧ r.2.mem ((c.tc : Thread Cert.AdamSmallReferenceIdeal.nD Cert.AdamSmallReferenceIdeal.τ).loc Cert.AdamSmallReferenceIdeal.main_v58) = v28 c
          ∧ r.2.mem ((c.tc : Thread Cert.AdamSmallReferenceIdeal.nD Cert.AdamSmallReferenceIdeal.τ).loc Cert.AdamSmallReferenceIdeal.main_v82) = v29 c
          ∧ r.2.mem ((c.tc : Thread Cert.AdamSmallReferenceIdeal.nD Cert.AdamSmallReferenceIdeal.τ).loc Cert.AdamSmallReferenceIdeal.main_v106) = v30 c
          ∧ r.2.mem ((c.tc : Thread Cert.AdamSmallReferenceIdeal.nD Cert.AdamSmallReferenceIdeal.τ).loc Cert.AdamSmallReferenceIdeal.main_v130) = v31 c
          ∧ r.2.mem ((c.tc : Thread Cert.AdamSmallReferenceIdeal.nD Cert.AdamSmallReferenceIdeal.τ).loc Cert.AdamSmallReferenceIdeal.main_v154) = v32 c
          ∧ r.2.mem ((c.tc : Thread Cert.AdamSmallReferenceIdeal.nD Cert.AdamSmallReferenceIdeal.τ).loc Cert.AdamSmallReferenceIdeal.main_v178) = v33 c
          ∧ r.2.mem ((c.tc : Thread Cert.AdamSmallReferenceIdeal.nD Cert.AdamSmallReferenceIdeal.τ).loc Cert.AdamSmallReferenceIdeal.main_v202) = v34 c
          ∧ r.2.mem ((c.tc : Thread Cert.AdamSmallReferenceIdeal.nD Cert.AdamSmallReferenceIdeal.τ).loc Cert.AdamSmallReferenceIdeal.main_v226) = v35 c
          ∧ r.2.mem ((c.tc : Thread Cert.AdamSmallReferenceIdeal.nD Cert.AdamSmallReferenceIdeal.τ).loc Cert.AdamSmallReferenceIdeal.main_v250) = v36 c
          ∧ r.2.mem ((c.tc : Thread Cert.AdamSmallReferenceIdeal.nD Cert.AdamSmallReferenceIdeal.τ).loc Cert.AdamSmallReferenceIdeal.main_v274) = v37 c
          ∧ r.2.mem ((c.tc : Thread Cert.AdamSmallReferenceIdeal.nD Cert.AdamSmallReferenceIdeal.τ).loc Cert.AdamSmallReferenceIdeal.main_v298) = v38 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3)
          ∧ r.2.mem ((c.tc : Thread Cert.AdamSmallReferenceIdeal.nD Cert.AdamSmallReferenceIdeal.τ).loc Cert.AdamSmallReferenceIdeal.main_arg4) = m' ((c.tc : Thread Cert.AdamSmallReferenceIdeal.nD Cert.AdamSmallReferenceIdeal.τ).loc Cert.AdamSmallReferenceIdeal.main_arg4)
          ∧ r.2.mem ((c.tc : Thread Cert.AdamSmallReferenceIdeal.nD Cert.AdamSmallReferenceIdeal.τ).loc Cert.AdamSmallReferenceIdeal.main_arg5) = m' ((c.tc : Thread Cert.AdamSmallReferenceIdeal.nD Cert.AdamSmallReferenceIdeal.τ).loc Cert.AdamSmallReferenceIdeal.main_arg5)
          ∧ r.2.mem ((c.tc : Thread Cert.AdamSmallReferenceIdeal.nD Cert.AdamSmallReferenceIdeal.τ).loc Cert.AdamSmallReferenceIdeal.main_arg6) = m' ((c.tc : Thread Cert.AdamSmallReferenceIdeal.nD Cert.AdamSmallReferenceIdeal.τ).loc Cert.AdamSmallReferenceIdeal.main_arg6)
          ∧ r.2.mem ((c.tc : Thread Cert.AdamSmallReferenceIdeal.nD Cert.AdamSmallReferenceIdeal.τ).loc Cert.AdamSmallReferenceIdeal.main_arg7) = m' ((c.tc : Thread Cert.AdamSmallReferenceIdeal.nD Cert.AdamSmallReferenceIdeal.τ).loc Cert.AdamSmallReferenceIdeal.main_arg7)
          ∧ r.2.mem ((c.tc : Thread Cert.AdamSmallReferenceIdeal.nD Cert.AdamSmallReferenceIdeal.τ).loc Cert.AdamSmallReferenceIdeal.main_arg8) = m' ((c.tc : Thread Cert.AdamSmallReferenceIdeal.nD Cert.AdamSmallReferenceIdeal.τ).loc Cert.AdamSmallReferenceIdeal.main_arg8)
          ∧ r.2.mem ((c.tc : Thread Cert.AdamSmallReferenceIdeal.nD Cert.AdamSmallReferenceIdeal.τ).loc Cert.AdamSmallReferenceIdeal.main_arg9) = m' ((c.tc : Thread Cert.AdamSmallReferenceIdeal.nD Cert.AdamSmallReferenceIdeal.τ).loc Cert.AdamSmallReferenceIdeal.main_arg9)
          ∧ r.2.mem ((c.tc : Thread Cert.AdamSmallReferenceIdeal.nD Cert.AdamSmallReferenceIdeal.τ).loc Cert.AdamSmallReferenceIdeal.main_arg10) = m' ((c.tc : Thread Cert.AdamSmallReferenceIdeal.nD Cert.AdamSmallReferenceIdeal.τ).loc Cert.AdamSmallReferenceIdeal.main_arg10)
          ∧ r.2.mem ((c.tc : Thread Cert.AdamSmallReferenceIdeal.nD Cert.AdamSmallReferenceIdeal.τ).loc Cert.AdamSmallReferenceIdeal.main_arg11) = m' ((c.tc : Thread Cert.AdamSmallReferenceIdeal.nD Cert.AdamSmallReferenceIdeal.τ).loc Cert.AdamSmallReferenceIdeal.main_arg11)
          ∧ r.2.mem ((c.tc : Thread Cert.AdamSmallReferenceIdeal.nD Cert.AdamSmallReferenceIdeal.τ).loc Cert.AdamSmallReferenceIdeal.main_arg12) = m' ((c.tc : Thread Cert.AdamSmallReferenceIdeal.nD Cert.AdamSmallReferenceIdeal.τ).loc Cert.AdamSmallReferenceIdeal.main_arg12)
          ∧ r.2.mem ((c.tc : Thread Cert.AdamSmallReferenceIdeal.nD Cert.AdamSmallReferenceIdeal.τ).loc Cert.AdamSmallReferenceIdeal.main_arg13) = m' ((c.tc : Thread Cert.AdamSmallReferenceIdeal.nD Cert.AdamSmallReferenceIdeal.τ).loc Cert.AdamSmallReferenceIdeal.main_arg13)
          ∧ r.2.mem ((c.tc : Thread Cert.AdamSmallReferenceIdeal.nD Cert.AdamSmallReferenceIdeal.τ).loc Cert.AdamSmallReferenceIdeal.main_arg14) = m' ((c.tc : Thread Cert.AdamSmallReferenceIdeal.nD Cert.AdamSmallReferenceIdeal.τ).loc Cert.AdamSmallReferenceIdeal.main_arg14)
          ∧ r.2.mem ((c.tc : Thread Cert.AdamSmallReferenceIdeal.nD Cert.AdamSmallReferenceIdeal.τ).loc Cert.AdamSmallReferenceIdeal.main_arg15) = m' ((c.tc : Thread Cert.AdamSmallReferenceIdeal.nD Cert.AdamSmallReferenceIdeal.τ).loc Cert.AdamSmallReferenceIdeal.main_arg15)
          ∧ r.2.mem ((c.tc : Thread Cert.AdamSmallReferenceIdeal.nD Cert.AdamSmallReferenceIdeal.τ).loc Cert.AdamSmallReferenceIdeal.main_arg16) = m' ((c.tc : Thread Cert.AdamSmallReferenceIdeal.nD Cert.AdamSmallReferenceIdeal.τ).loc Cert.AdamSmallReferenceIdeal.main_arg16)
          ∧ r.2.mem ((c.tc : Thread Cert.AdamSmallReferenceIdeal.nD Cert.AdamSmallReferenceIdeal.τ).loc Cert.AdamSmallReferenceIdeal.main_arg17) = m' ((c.tc : Thread Cert.AdamSmallReferenceIdeal.nD Cert.AdamSmallReferenceIdeal.τ).loc Cert.AdamSmallReferenceIdeal.main_arg17)
          ∧ r.2.mem ((c.tc : Thread Cert.AdamSmallReferenceIdeal.nD Cert.AdamSmallReferenceIdeal.τ).loc Cert.AdamSmallReferenceIdeal.main_arg18) = m' ((c.tc : Thread Cert.AdamSmallReferenceIdeal.nD Cert.AdamSmallReferenceIdeal.τ).loc Cert.AdamSmallReferenceIdeal.main_arg18)
          ∧ r.2.mem ((c.tc : Thread Cert.AdamSmallReferenceIdeal.nD Cert.AdamSmallReferenceIdeal.τ).loc Cert.AdamSmallReferenceIdeal.main_arg19) = m' ((c.tc : Thread Cert.AdamSmallReferenceIdeal.nD Cert.AdamSmallReferenceIdeal.τ).loc Cert.AdamSmallReferenceIdeal.main_arg19)
          ∧ r.2.mem ((c.tc : Thread Cert.AdamSmallReferenceIdeal.nD Cert.AdamSmallReferenceIdeal.τ).loc Cert.AdamSmallReferenceIdeal.main_arg20) = m' ((c.tc : Thread Cert.AdamSmallReferenceIdeal.nD Cert.AdamSmallReferenceIdeal.τ).loc Cert.AdamSmallReferenceIdeal.main_arg20)
          ∧ r.2.mem ((c.tc : Thread Cert.AdamSmallReferenceIdeal.nD Cert.AdamSmallReferenceIdeal.τ).loc Cert.AdamSmallReferenceIdeal.main_arg21) = m' ((c.tc : Thread Cert.AdamSmallReferenceIdeal.nD Cert.AdamSmallReferenceIdeal.τ).loc Cert.AdamSmallReferenceIdeal.main_arg21)
          ∧ r.2.mem ((c.tc : Thread Cert.AdamSmallReferenceIdeal.nD Cert.AdamSmallReferenceIdeal.τ).loc Cert.AdamSmallReferenceIdeal.main_arg22) = m' ((c.tc : Thread Cert.AdamSmallReferenceIdeal.nD Cert.AdamSmallReferenceIdeal.τ).loc Cert.AdamSmallReferenceIdeal.main_arg22)
          ∧ r.2.mem ((c.tc : Thread Cert.AdamSmallReferenceIdeal.nD Cert.AdamSmallReferenceIdeal.τ).loc Cert.AdamSmallReferenceIdeal.main_arg23) = m' ((c.tc : Thread Cert.AdamSmallReferenceIdeal.nD Cert.AdamSmallReferenceIdeal.τ).loc Cert.AdamSmallReferenceIdeal.main_arg23)
          ∧ r.2.mem ((c.tc : Thread Cert.AdamSmallReferenceIdeal.nD Cert.AdamSmallReferenceIdeal.τ).loc Cert.AdamSmallReferenceIdeal.main_arg24) = m' ((c.tc : Thread Cert.AdamSmallReferenceIdeal.nD Cert.AdamSmallReferenceIdeal.τ).loc Cert.AdamSmallReferenceIdeal.main_arg24)
          ∧ r.2.mem ((c.tc : Thread Cert.AdamSmallReferenceIdeal.nD Cert.AdamSmallReferenceIdeal.τ).loc Cert.AdamSmallReferenceIdeal.main_arg25) = m' ((c.tc : Thread Cert.AdamSmallReferenceIdeal.nD Cert.AdamSmallReferenceIdeal.τ).loc Cert.AdamSmallReferenceIdeal.main_arg25)
          ∧ r.2.mem ((c.tc : Thread Cert.AdamSmallReferenceIdeal.nD Cert.AdamSmallReferenceIdeal.τ).loc Cert.AdamSmallReferenceIdeal.main_arg26) = m' ((c.tc : Thread Cert.AdamSmallReferenceIdeal.nD Cert.AdamSmallReferenceIdeal.τ).loc Cert.AdamSmallReferenceIdeal.main_arg26)
          ∧ r.2.mem ((c.tc : Thread Cert.AdamSmallReferenceIdeal.nD Cert.AdamSmallReferenceIdeal.τ).loc Cert.AdamSmallReferenceIdeal.main_arg27) = m' ((c.tc : Thread Cert.AdamSmallReferenceIdeal.nD Cert.AdamSmallReferenceIdeal.τ).loc Cert.AdamSmallReferenceIdeal.main_arg27)
          ∧ r.2.mem ((c.tc : Thread Cert.AdamSmallReferenceIdeal.nD Cert.AdamSmallReferenceIdeal.τ).loc Cert.AdamSmallReferenceIdeal.main_arg28) = m' ((c.tc : Thread Cert.AdamSmallReferenceIdeal.nD Cert.AdamSmallReferenceIdeal.τ).loc Cert.AdamSmallReferenceIdeal.main_arg28)
          ∧ r.2.mem ((c.tc : Thread Cert.AdamSmallReferenceIdeal.nD Cert.AdamSmallReferenceIdeal.τ).loc Cert.AdamSmallReferenceIdeal.main_arg29) = m' ((c.tc : Thread Cert.AdamSmallReferenceIdeal.nD Cert.AdamSmallReferenceIdeal.τ).loc Cert.AdamSmallReferenceIdeal.main_arg29)
          ∧ r.2.mem ((c.tc : Thread Cert.AdamSmallReferenceIdeal.nD Cert.AdamSmallReferenceIdeal.τ).loc Cert.AdamSmallReferenceIdeal.main_arg30) = m' ((c.tc : Thread Cert.AdamSmallReferenceIdeal.nD Cert.AdamSmallReferenceIdeal.τ).loc Cert.AdamSmallReferenceIdeal.main_arg30)
          ∧ r.2.mem ((c.tc : Thread Cert.AdamSmallReferenceIdeal.nD Cert.AdamSmallReferenceIdeal.τ).loc Cert.AdamSmallReferenceIdeal.main_arg31) = m' ((c.tc : Thread Cert.AdamSmallReferenceIdeal.nD Cert.AdamSmallReferenceIdeal.τ).loc Cert.AdamSmallReferenceIdeal.main_arg31)
          ∧ r.2.mem ((c.tc : Thread Cert.AdamSmallReferenceIdeal.nD Cert.AdamSmallReferenceIdeal.τ).loc Cert.AdamSmallReferenceIdeal.main_arg32) = m' ((c.tc : Thread Cert.AdamSmallReferenceIdeal.nD Cert.AdamSmallReferenceIdeal.τ).loc Cert.AdamSmallReferenceIdeal.main_arg32)
          ∧ r.2.mem ((c.tc : Thread Cert.AdamSmallReferenceIdeal.nD Cert.AdamSmallReferenceIdeal.τ).loc Cert.AdamSmallReferenceIdeal.main_arg33) = m' ((c.tc : Thread Cert.AdamSmallReferenceIdeal.nD Cert.AdamSmallReferenceIdeal.τ).loc Cert.AdamSmallReferenceIdeal.main_arg33)
          ∧ r.2.mem ((c.tc : Thread Cert.AdamSmallReferenceIdeal.nD Cert.AdamSmallReferenceIdeal.τ).loc Cert.AdamSmallReferenceIdeal.main_arg34) = m' ((c.tc : Thread Cert.AdamSmallReferenceIdeal.nD Cert.AdamSmallReferenceIdeal.τ).loc Cert.AdamSmallReferenceIdeal.main_arg34)
          ∧ r.2.mem ((c.tc : Thread Cert.AdamSmallReferenceIdeal.nD Cert.AdamSmallReferenceIdeal.τ).loc Cert.AdamSmallReferenceIdeal.main_arg35) = m' ((c.tc : Thread Cert.AdamSmallReferenceIdeal.nD Cert.AdamSmallReferenceIdeal.τ).loc Cert.AdamSmallReferenceIdeal.main_arg35)
          ∧ r.2.mem ((c.tc : Thread Cert.AdamSmallReferenceIdeal.nD Cert.AdamSmallReferenceIdeal.τ).loc Cert.AdamSmallReferenceIdeal.main_arg36) = m' ((c.tc : Thread Cert.AdamSmallReferenceIdeal.nD Cert.AdamSmallReferenceIdeal.τ).loc Cert.AdamSmallReferenceIdeal.main_arg36)
          ∧ r.2.mem ((c.tc : Thread Cert.AdamSmallReferenceIdeal.nD Cert.AdamSmallReferenceIdeal.τ).loc Cert.AdamSmallReferenceIdeal.main_arg37) = m' ((c.tc : Thread Cert.AdamSmallReferenceIdeal.nD Cert.AdamSmallReferenceIdeal.τ).loc Cert.AdamSmallReferenceIdeal.main_arg37)
          ∧ r.2.mem ((c.tc : Thread Cert.AdamSmallReferenceIdeal.nD Cert.AdamSmallReferenceIdeal.τ).loc Cert.AdamSmallReferenceIdeal.main_arg38) = m' ((c.tc : Thread Cert.AdamSmallReferenceIdeal.nD Cert.AdamSmallReferenceIdeal.τ).loc Cert.AdamSmallReferenceIdeal.main_arg38)
          ∧ r.2.mem ((c.tc : Thread Cert.AdamSmallReferenceIdeal.nD Cert.AdamSmallReferenceIdeal.τ).loc Cert.AdamSmallReferenceIdeal.main_arg39) = m' ((c.tc : Thread Cert.AdamSmallReferenceIdeal.nD Cert.AdamSmallReferenceIdeal.τ).loc Cert.AdamSmallReferenceIdeal.main_arg39)
          ∧ r.2.mem ((c.tc : Thread Cert.AdamSmallReferenceIdeal.nD Cert.AdamSmallReferenceIdeal.τ).loc Cert.AdamSmallReferenceIdeal.main_arg40) = m' ((c.tc : Thread Cert.AdamSmallReferenceIdeal.nD Cert.AdamSmallReferenceIdeal.τ).loc Cert.AdamSmallReferenceIdeal.main_arg40)
          ∧ r.2.mem ((c.tc : Thread Cert.AdamSmallReferenceIdeal.nD Cert.AdamSmallReferenceIdeal.τ).loc Cert.AdamSmallReferenceIdeal.main_arg41) = m' ((c.tc : Thread Cert.AdamSmallReferenceIdeal.nD Cert.AdamSmallReferenceIdeal.τ).loc Cert.AdamSmallReferenceIdeal.main_arg41)
          ∧ r.2.mem ((c.tc : Thread Cert.AdamSmallReferenceIdeal.nD Cert.AdamSmallReferenceIdeal.τ).loc Cert.AdamSmallReferenceIdeal.main_arg42) = m' ((c.tc : Thread Cert.AdamSmallReferenceIdeal.nD Cert.AdamSmallReferenceIdeal.τ).loc Cert.AdamSmallReferenceIdeal.main_arg42)
          ∧ r.2.mem ((c.tc : Thread Cert.AdamSmallReferenceIdeal.nD Cert.AdamSmallReferenceIdeal.τ).loc Cert.AdamSmallReferenceIdeal.main_arg43) = m' ((c.tc : Thread Cert.AdamSmallReferenceIdeal.nD Cert.AdamSmallReferenceIdeal.τ).loc Cert.AdamSmallReferenceIdeal.main_arg43)
          ∧ r.2.mem ((c.tc : Thread Cert.AdamSmallReferenceIdeal.nD Cert.AdamSmallReferenceIdeal.τ).loc Cert.AdamSmallReferenceIdeal.main_arg44) = m' ((c.tc : Thread Cert.AdamSmallReferenceIdeal.nD Cert.AdamSmallReferenceIdeal.τ).loc Cert.AdamSmallReferenceIdeal.main_arg44)
          ∧ r.2.mem ((c.tc : Thread Cert.AdamSmallReferenceIdeal.nD Cert.AdamSmallReferenceIdeal.τ).loc Cert.AdamSmallReferenceIdeal.main_arg45) = m' ((c.tc : Thread Cert.AdamSmallReferenceIdeal.nD Cert.AdamSmallReferenceIdeal.τ).loc Cert.AdamSmallReferenceIdeal.main_arg45)
          ∧ r.2.mem ((c.tc : Thread Cert.AdamSmallReferenceIdeal.nD Cert.AdamSmallReferenceIdeal.τ).loc Cert.AdamSmallReferenceIdeal.main_arg46) = m' ((c.tc : Thread Cert.AdamSmallReferenceIdeal.nD Cert.AdamSmallReferenceIdeal.τ).loc Cert.AdamSmallReferenceIdeal.main_arg46)
          ∧ r.2.mem ((c.tc : Thread Cert.AdamSmallReferenceIdeal.nD Cert.AdamSmallReferenceIdeal.τ).loc Cert.AdamSmallReferenceIdeal.main_arg47) = m' ((c.tc : Thread Cert.AdamSmallReferenceIdeal.nD Cert.AdamSmallReferenceIdeal.τ).loc Cert.AdamSmallReferenceIdeal.main_arg47)
          ∧ r.2.mem ((c.tc : Thread Cert.AdamSmallReferenceIdeal.nD Cert.AdamSmallReferenceIdeal.τ).loc Cert.AdamSmallReferenceIdeal.main_arg48) = m' ((c.tc : Thread Cert.AdamSmallReferenceIdeal.nD Cert.AdamSmallReferenceIdeal.τ).loc Cert.AdamSmallReferenceIdeal.main_arg48)
          ∧ r.2.mem ((c.tc : Thread Cert.AdamSmallReferenceIdeal.nD Cert.AdamSmallReferenceIdeal.τ).loc Cert.AdamSmallReferenceIdeal.main_arg49) = m' ((c.tc : Thread Cert.AdamSmallReferenceIdeal.nD Cert.AdamSmallReferenceIdeal.τ).loc Cert.AdamSmallReferenceIdeal.main_arg49)
          ∧ r.2.mem ((c.tc : Thread Cert.AdamSmallReferenceIdeal.nD Cert.AdamSmallReferenceIdeal.τ).loc Cert.AdamSmallReferenceIdeal.main_arg50) = m' ((c.tc : Thread Cert.AdamSmallReferenceIdeal.nD Cert.AdamSmallReferenceIdeal.τ).loc Cert.AdamSmallReferenceIdeal.main_arg50)
          ∧ r.2.mem ((c.tc : Thread Cert.AdamSmallReferenceIdeal.nD Cert.AdamSmallReferenceIdeal.τ).loc Cert.AdamSmallReferenceIdeal.main_arg51) = m' ((c.tc : Thread Cert.AdamSmallReferenceIdeal.nD Cert.AdamSmallReferenceIdeal.τ).loc Cert.AdamSmallReferenceIdeal.main_arg51))

def Claim : Prop :=
  ∃ (hKernel : Cert.Kernel.Facts) (hKernelIdeal : Cert.KernelIdeal.Facts) (hReferenceIdeal : Cert.ReferenceIdeal.Facts) (hBranchBwd : Cert.BranchBwd.Facts) (hBranchBwdIdeal : Cert.BranchBwdIdeal.Facts) (hBranchBwdReferenceIdeal : Cert.BranchBwdReferenceIdeal.Facts) (hDwBranch : Cert.DwBranch.Facts) (hDwBranchIdeal : Cert.DwBranchIdeal.Facts) (hDwBranchReferenceIdeal : Cert.DwBranchReferenceIdeal.Facts) (hDwIn : Cert.DwIn.Facts) (hDwInIdeal : Cert.DwInIdeal.Facts) (hDwInReferenceIdeal : Cert.DwInReferenceIdeal.Facts) (hProjBwd : Cert.ProjBwd.Facts) (hProjBwdIdeal : Cert.ProjBwdIdeal.Facts) (hProjBwdReferenceIdeal : Cert.ProjBwdReferenceIdeal.Facts) (hMlpDownBwd : Cert.MlpDownBwd.Facts) (hMlpDownBwdIdeal : Cert.MlpDownBwdIdeal.Facts) (hMlpDownBwdReferenceIdeal : Cert.MlpDownBwdReferenceIdeal.Facts) (hDwDown : Cert.DwDown.Facts) (hDwDownIdeal : Cert.DwDownIdeal.Facts) (hDwDownReferenceIdeal : Cert.DwDownReferenceIdeal.Facts) (hDwUp : Cert.DwUp.Facts) (hDwUpIdeal : Cert.DwUpIdeal.Facts) (hDwUpReferenceIdeal : Cert.DwUpReferenceIdeal.Facts) (hMlpUpBwd : Cert.MlpUpBwd.Facts) (hMlpUpBwdIdeal : Cert.MlpUpBwdIdeal.Facts) (hMlpUpBwdReferenceIdeal : Cert.MlpUpBwdReferenceIdeal.Facts) (hOutProjBwd : Cert.OutProjBwd.Facts) (hOutProjBwdIdeal : Cert.OutProjBwdIdeal.Facts) (hOutProjBwdReferenceIdeal : Cert.OutProjBwdReferenceIdeal.Facts) (hDwOut : Cert.DwOut.Facts) (hDwOutIdeal : Cert.DwOutIdeal.Facts) (hDwOutReferenceIdeal : Cert.DwOutReferenceIdeal.Facts) (hPleBwd : Cert.PleBwd.Facts) (hPleBwdIdeal : Cert.PleBwdIdeal.Facts) (hPleBwdReferenceIdeal : Cert.PleBwdReferenceIdeal.Facts) (hDwPle : Cert.DwPle.Facts) (hDwPleIdeal : Cert.DwPleIdeal.Facts) (hDwPleReferenceIdeal : Cert.DwPleReferenceIdeal.Facts) (hDwPleGate : Cert.DwPleGate.Facts) (hDwPleGateIdeal : Cert.DwPleGateIdeal.Facts) (hDwPleGateReferenceIdeal : Cert.DwPleGateReferenceIdeal.Facts) (hDhPle : Cert.DhPle.Facts) (hDhPleIdeal : Cert.DhPleIdeal.Facts) (hDhPleReferenceIdeal : Cert.DhPleReferenceIdeal.Facts) (hRmsMix : Cert.RmsMix.Facts) (hRmsMixIdeal : Cert.RmsMixIdeal.Facts) (hRmsMixReferenceIdeal : Cert.RmsMixReferenceIdeal.Facts) (hProjFwd : Cert.ProjFwd.Facts) (hProjFwdIdeal : Cert.ProjFwdIdeal.Facts) (hProjFwdReferenceIdeal : Cert.ProjFwdReferenceIdeal.Facts) (hProjGates : Cert.ProjGates.Facts) (hProjGatesIdeal : Cert.ProjGatesIdeal.Facts) (hProjGatesReferenceIdeal : Cert.ProjGatesReferenceIdeal.Facts) (hGlu : Cert.Glu.Facts) (hGluIdeal : Cert.GluIdeal.Facts) (hGluReferenceIdeal : Cert.GluReferenceIdeal.Facts) (hMergeFwd : Cert.MergeFwd.Facts) (hMergeFwdIdeal : Cert.MergeFwdIdeal.Facts) (hMergeFwdReferenceIdeal : Cert.MergeFwdReferenceIdeal.Facts) (hOutProj : Cert.OutProj.Facts) (hOutProjIdeal : Cert.OutProjIdeal.Facts) (hOutProjReferenceIdeal : Cert.OutProjReferenceIdeal.Facts) (hMlpUp : Cert.MlpUp.Facts) (hMlpUpIdeal : Cert.MlpUpIdeal.Facts) (hMlpUpReferenceIdeal : Cert.MlpUpReferenceIdeal.Facts) (hMlpDown : Cert.MlpDown.Facts) (hMlpDownIdeal : Cert.MlpDownIdeal.Facts) (hMlpDownReferenceIdeal : Cert.MlpDownReferenceIdeal.Facts) (hPleGate : Cert.PleGate.Facts) (hPleGateIdeal : Cert.PleGateIdeal.Facts) (hPleGateReferenceIdeal : Cert.PleGateReferenceIdeal.Facts) (hPle : Cert.Ple.Facts) (hPleIdeal : Cert.PleIdeal.Facts) (hPleReferenceIdeal : Cert.PleReferenceIdeal.Facts) (hAdamIn : Cert.AdamIn.Facts) (hAdamInIdeal : Cert.AdamInIdeal.Facts) (hAdamInReferenceIdeal : Cert.AdamInReferenceIdeal.Facts) (hAdamBranch : Cert.AdamBranch.Facts) (hAdamBranchIdeal : Cert.AdamBranchIdeal.Facts) (hAdamBranchReferenceIdeal : Cert.AdamBranchReferenceIdeal.Facts) (hAdamOut : Cert.AdamOut.Facts) (hAdamOutIdeal : Cert.AdamOutIdeal.Facts) (hAdamOutReferenceIdeal : Cert.AdamOutReferenceIdeal.Facts) (hAdamUp : Cert.AdamUp.Facts) (hAdamUpIdeal : Cert.AdamUpIdeal.Facts) (hAdamUpReferenceIdeal : Cert.AdamUpReferenceIdeal.Facts) (hAdamPle : Cert.AdamPle.Facts) (hAdamPleIdeal : Cert.AdamPleIdeal.Facts) (hAdamPleReferenceIdeal : Cert.AdamPleReferenceIdeal.Facts) (hSeqFwd : Cert.SeqFwd.Facts) (hSeqFwdIdeal : Cert.SeqFwdIdeal.Facts) (hSeqFwdReferenceIdeal : Cert.SeqFwdReferenceIdeal.Facts) (hGluBwd : Cert.GluBwd.Facts) (hGluBwdIdeal : Cert.GluBwdIdeal.Facts) (hGluBwdReferenceIdeal : Cert.GluBwdReferenceIdeal.Facts) (hLossHead : Cert.LossHead.Facts) (hLossHeadIdeal : Cert.LossHeadIdeal.Facts) (hLossHeadReferenceIdeal : Cert.LossHeadReferenceIdeal.Facts) (hAdamSharded : Cert.AdamSharded.Facts) (hAdamShardedIdeal : Cert.AdamShardedIdeal.Facts) (hAdamShardedReferenceIdeal : Cert.AdamShardedReferenceIdeal.Facts) (hAdamSmall : Cert.AdamSmall.Facts) (hAdamSmallIdeal : Cert.AdamSmallIdeal.Facts) (hAdamSmallReferenceIdeal : Cert.AdamSmallReferenceIdeal.Facts) (hOn_gate_columns : Cert.On_gate_columns.Facts),
    quiescent_Kernel (hKernel := hKernel)
    ∧ quiescent_KernelIdeal (hKernelIdeal := hKernelIdeal)
    ∧ quiescent_ReferenceIdeal (hReferenceIdeal := hReferenceIdeal)
    ∧ quiescent_BranchBwd (hBranchBwd := hBranchBwd)
    ∧ quiescent_BranchBwdIdeal (hBranchBwdIdeal := hBranchBwdIdeal)
    ∧ quiescent_BranchBwdReferenceIdeal (hBranchBwdReferenceIdeal := hBranchBwdReferenceIdeal)
    ∧ quiescent_DwBranch (hDwBranch := hDwBranch)
    ∧ quiescent_DwBranchIdeal (hDwBranchIdeal := hDwBranchIdeal)
    ∧ quiescent_DwBranchReferenceIdeal (hDwBranchReferenceIdeal := hDwBranchReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_ProjBwd (hProjBwd := hProjBwd)
    ∧ quiescent_ProjBwdIdeal (hProjBwdIdeal := hProjBwdIdeal)
    ∧ quiescent_ProjBwdReferenceIdeal (hProjBwdReferenceIdeal := hProjBwdReferenceIdeal)
    ∧ quiescent_MlpDownBwd (hMlpDownBwd := hMlpDownBwd)
    ∧ quiescent_MlpDownBwdIdeal (hMlpDownBwdIdeal := hMlpDownBwdIdeal)
    ∧ quiescent_MlpDownBwdReferenceIdeal (hMlpDownBwdReferenceIdeal := hMlpDownBwdReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_MlpUpBwd (hMlpUpBwd := hMlpUpBwd)
    ∧ quiescent_MlpUpBwdIdeal (hMlpUpBwdIdeal := hMlpUpBwdIdeal)
    ∧ quiescent_MlpUpBwdReferenceIdeal (hMlpUpBwdReferenceIdeal := hMlpUpBwdReferenceIdeal)
    ∧ quiescent_OutProjBwd (hOutProjBwd := hOutProjBwd)
    ∧ quiescent_OutProjBwdIdeal (hOutProjBwdIdeal := hOutProjBwdIdeal)
    ∧ quiescent_OutProjBwdReferenceIdeal (hOutProjBwdReferenceIdeal := hOutProjBwdReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_PleBwd (hPleBwd := hPleBwd)
    ∧ quiescent_PleBwdIdeal (hPleBwdIdeal := hPleBwdIdeal)
    ∧ quiescent_PleBwdReferenceIdeal (hPleBwdReferenceIdeal := hPleBwdReferenceIdeal)
    ∧ quiescent_DwPle (hDwPle := hDwPle)
    ∧ quiescent_DwPleIdeal (hDwPleIdeal := hDwPleIdeal)
    ∧ quiescent_DwPleReferenceIdeal (hDwPleReferenceIdeal := hDwPleReferenceIdeal)
    ∧ quiescent_DwPleGate (hDwPleGate := hDwPleGate)
    ∧ quiescent_DwPleGateIdeal (hDwPleGateIdeal := hDwPleGateIdeal)
    ∧ quiescent_DwPleGateReferenceIdeal (hDwPleGateReferenceIdeal := hDwPleGateReferenceIdeal)
    ∧ quiescent_DhPle (hDhPle := hDhPle)
    ∧ quiescent_DhPleIdeal (hDhPleIdeal := hDhPleIdeal)
    ∧ quiescent_DhPleReferenceIdeal (hDhPleReferenceIdeal := hDhPleReferenceIdeal)
    ∧ quiescent_RmsMix (hRmsMix := hRmsMix)
    ∧ quiescent_RmsMixIdeal (hRmsMixIdeal := hRmsMixIdeal)
    ∧ quiescent_RmsMixReferenceIdeal (hRmsMixReferenceIdeal := hRmsMixReferenceIdeal)
    ∧ quiescent_ProjFwd (hProjFwd := hProjFwd)
    ∧ quiescent_ProjFwdIdeal (hProjFwdIdeal := hProjFwdIdeal)
    ∧ quiescent_ProjFwdReferenceIdeal (hProjFwdReferenceIdeal := hProjFwdReferenceIdeal)
    ∧ quiescent_ProjGates (hProjGates := hProjGates)
    ∧ quiescent_ProjGatesIdeal (hProjGatesIdeal := hProjGatesIdeal)
    ∧ quiescent_ProjGatesReferenceIdeal (hProjGatesReferenceIdeal := hProjGatesReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_MlpUp (hMlpUp := hMlpUp)
    ∧ quiescent_MlpUpIdeal (hMlpUpIdeal := hMlpUpIdeal)
    ∧ quiescent_MlpUpReferenceIdeal (hMlpUpReferenceIdeal := hMlpUpReferenceIdeal)
    ∧ quiescent_MlpDown (hMlpDown := hMlpDown)
    ∧ quiescent_MlpDownIdeal (hMlpDownIdeal := hMlpDownIdeal)
    ∧ quiescent_MlpDownReferenceIdeal (hMlpDownReferenceIdeal := hMlpDownReferenceIdeal)
    ∧ quiescent_PleGate (hPleGate := hPleGate)
    ∧ quiescent_PleGateIdeal (hPleGateIdeal := hPleGateIdeal)
    ∧ quiescent_PleGateReferenceIdeal (hPleGateReferenceIdeal := hPleGateReferenceIdeal)
    ∧ quiescent_Ple (hPle := hPle)
    ∧ quiescent_PleIdeal (hPleIdeal := hPleIdeal)
    ∧ quiescent_PleReferenceIdeal (hPleReferenceIdeal := hPleReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamBranch (hAdamBranch := hAdamBranch)
    ∧ quiescent_AdamBranchIdeal (hAdamBranchIdeal := hAdamBranchIdeal)
    ∧ quiescent_AdamBranchReferenceIdeal (hAdamBranchReferenceIdeal := hAdamBranchReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamPle (hAdamPle := hAdamPle)
    ∧ quiescent_AdamPleIdeal (hAdamPleIdeal := hAdamPleIdeal)
    ∧ quiescent_AdamPleReferenceIdeal (hAdamPleReferenceIdeal := hAdamPleReferenceIdeal)
    ∧ quiescent_SeqFwd (hSeqFwd := hSeqFwd)
    ∧ quiescent_SeqFwdIdeal (hSeqFwdIdeal := hSeqFwdIdeal)
    ∧ quiescent_SeqFwdReferenceIdeal (hSeqFwdReferenceIdeal := hSeqFwdReferenceIdeal)
    ∧ quiescent_GluBwd (hGluBwd := hGluBwd)
    ∧ quiescent_GluBwdIdeal (hGluBwdIdeal := hGluBwdIdeal)
    ∧ quiescent_GluBwdReferenceIdeal (hGluBwdReferenceIdeal := hGluBwdReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_AdamSharded (hAdamSharded := hAdamSharded)
    ∧ quiescent_AdamShardedIdeal (hAdamShardedIdeal := hAdamShardedIdeal)
    ∧ quiescent_AdamShardedReferenceIdeal (hAdamShardedReferenceIdeal := hAdamShardedReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_BranchBwd_BranchBwdIdeal
    ∧ algebraic_BranchBwdIdeal_BranchBwdReferenceIdeal (hBranchBwdIdeal := hBranchBwdIdeal) (hBranchBwdReferenceIdeal := hBranchBwdReferenceIdeal)
    ∧ preserves_DwBranch_DwBranchIdeal
    ∧ algebraic_DwBranchIdeal_DwBranchReferenceIdeal (hDwBranchIdeal := hDwBranchIdeal) (hDwBranchReferenceIdeal := hDwBranchReferenceIdeal)
    ∧ preserves_DwIn_DwInIdeal
    ∧ algebraic_DwInIdeal_DwInReferenceIdeal (hDwInIdeal := hDwInIdeal) (hDwInReferenceIdeal := hDwInReferenceIdeal)
    ∧ preserves_ProjBwd_ProjBwdIdeal
    ∧ algebraic_ProjBwdIdeal_ProjBwdReferenceIdeal (hProjBwdIdeal := hProjBwdIdeal) (hProjBwdReferenceIdeal := hProjBwdReferenceIdeal)
    ∧ preserves_MlpDownBwd_MlpDownBwdIdeal
    ∧ algebraic_MlpDownBwdIdeal_MlpDownBwdReferenceIdeal (hMlpDownBwdIdeal := hMlpDownBwdIdeal) (hMlpDownBwdReferenceIdeal := hMlpDownBwdReferenceIdeal)
    ∧ preserves_DwDown_DwDownIdeal
    ∧ algebraic_DwDownIdeal_DwDownReferenceIdeal (hDwDownIdeal := hDwDownIdeal) (hDwDownReferenceIdeal := hDwDownReferenceIdeal)
    ∧ preserves_DwUp_DwUpIdeal
    ∧ algebraic_DwUpIdeal_DwUpReferenceIdeal (hDwUpIdeal := hDwUpIdeal) (hDwUpReferenceIdeal := hDwUpReferenceIdeal)
    ∧ preserves_MlpUpBwd_MlpUpBwdIdeal
    ∧ algebraic_MlpUpBwdIdeal_MlpUpBwdReferenceIdeal (hMlpUpBwdIdeal := hMlpUpBwdIdeal) (hMlpUpBwdReferenceIdeal := hMlpUpBwdReferenceIdeal)
    ∧ preserves_OutProjBwd_OutProjBwdIdeal
    ∧ algebraic_OutProjBwdIdeal_OutProjBwdReferenceIdeal (hOutProjBwdIdeal := hOutProjBwdIdeal) (hOutProjBwdReferenceIdeal := hOutProjBwdReferenceIdeal)
    ∧ preserves_DwOut_DwOutIdeal
    ∧ algebraic_DwOutIdeal_DwOutReferenceIdeal (hDwOutIdeal := hDwOutIdeal) (hDwOutReferenceIdeal := hDwOutReferenceIdeal)
    ∧ preserves_PleBwd_PleBwdIdeal
    ∧ algebraic_PleBwdIdeal_PleBwdReferenceIdeal (hPleBwdIdeal := hPleBwdIdeal) (hPleBwdReferenceIdeal := hPleBwdReferenceIdeal)
    ∧ preserves_DwPle_DwPleIdeal
    ∧ algebraic_DwPleIdeal_DwPleReferenceIdeal (hDwPleIdeal := hDwPleIdeal) (hDwPleReferenceIdeal := hDwPleReferenceIdeal)
    ∧ preserves_DwPleGate_DwPleGateIdeal
    ∧ algebraic_DwPleGateIdeal_DwPleGateReferenceIdeal (hDwPleGateIdeal := hDwPleGateIdeal) (hDwPleGateReferenceIdeal := hDwPleGateReferenceIdeal)
    ∧ preserves_DhPle_DhPleIdeal
    ∧ algebraic_DhPleIdeal_DhPleReferenceIdeal (hDhPleIdeal := hDhPleIdeal) (hDhPleReferenceIdeal := hDhPleReferenceIdeal)
    ∧ preserves_RmsMix_RmsMixIdeal
    ∧ algebraic_RmsMixIdeal_RmsMixReferenceIdeal (hRmsMixIdeal := hRmsMixIdeal) (hRmsMixReferenceIdeal := hRmsMixReferenceIdeal)
    ∧ preserves_ProjFwd_ProjFwdIdeal
    ∧ algebraic_ProjFwdIdeal_ProjFwdReferenceIdeal (hProjFwdIdeal := hProjFwdIdeal) (hProjFwdReferenceIdeal := hProjFwdReferenceIdeal)
    ∧ preserves_ProjGates_ProjGatesIdeal
    ∧ algebraic_ProjGatesIdeal_ProjGatesReferenceIdeal (hProjGatesIdeal := hProjGatesIdeal) (hProjGatesReferenceIdeal := hProjGatesReferenceIdeal)
    ∧ preserves_Glu_GluIdeal
    ∧ algebraic_GluIdeal_GluReferenceIdeal (hGluIdeal := hGluIdeal) (hGluReferenceIdeal := hGluReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_OutProj_OutProjIdeal
    ∧ algebraic_OutProjIdeal_OutProjReferenceIdeal (hOutProjIdeal := hOutProjIdeal) (hOutProjReferenceIdeal := hOutProjReferenceIdeal)
    ∧ preserves_MlpUp_MlpUpIdeal
    ∧ algebraic_MlpUpIdeal_MlpUpReferenceIdeal (hMlpUpIdeal := hMlpUpIdeal) (hMlpUpReferenceIdeal := hMlpUpReferenceIdeal)
    ∧ preserves_MlpDown_MlpDownIdeal
    ∧ algebraic_MlpDownIdeal_MlpDownReferenceIdeal (hMlpDownIdeal := hMlpDownIdeal) (hMlpDownReferenceIdeal := hMlpDownReferenceIdeal)
    ∧ preserves_PleGate_PleGateIdeal
    ∧ algebraic_PleGateIdeal_PleGateReferenceIdeal (hPleGateIdeal := hPleGateIdeal) (hPleGateReferenceIdeal := hPleGateReferenceIdeal)
    ∧ preserves_Ple_PleIdeal
    ∧ algebraic_PleIdeal_PleReferenceIdeal (hPleIdeal := hPleIdeal) (hPleReferenceIdeal := hPleReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamBranch_AdamBranchIdeal
    ∧ algebraic_AdamBranchIdeal_AdamBranchReferenceIdeal (hAdamBranchIdeal := hAdamBranchIdeal) (hAdamBranchReferenceIdeal := hAdamBranchReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamPle_AdamPleIdeal
    ∧ algebraic_AdamPleIdeal_AdamPleReferenceIdeal (hAdamPleIdeal := hAdamPleIdeal) (hAdamPleReferenceIdeal := hAdamPleReferenceIdeal)
    ∧ preserves_SeqFwd_SeqFwdIdeal
    ∧ algebraic_SeqFwdIdeal_SeqFwdReferenceIdeal (hSeqFwdIdeal := hSeqFwdIdeal) (hSeqFwdReferenceIdeal := hSeqFwdReferenceIdeal)
    ∧ preserves_GluBwd_GluBwdIdeal
    ∧ algebraic_GluBwdIdeal_GluBwdReferenceIdeal (hGluBwdIdeal := hGluBwdIdeal) (hGluBwdReferenceIdeal := hGluBwdReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_AdamSharded_AdamShardedIdeal
    ∧ algebraic_AdamShardedIdeal_AdamShardedReferenceIdeal (hAdamShardedIdeal := hAdamShardedIdeal) (hAdamShardedReferenceIdeal := hAdamShardedReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
-- ==== On_gate_columns.lean ====
abbrev S2048x2048 : Shape := ⟨2, ![2048, 2048]⟩
abbrev S4x512x1024 : Shape := ⟨3, ![4, 512, 1024]⟩
abbrev S2048x4096 : Shape := ⟨2, ![2048, 4096]⟩
abbrev S2048x1024 : Shape := ⟨2, ![2048, 1024]⟩
abbrev S_ : Shape := ⟨0, ![]⟩
abbrev S4x2048x1024 : Shape := ⟨3, ![4, 2048, 1024]⟩
abbrev S2048x8192 : Shape := ⟨2, ![2048, 8192]⟩

class Facts : Prop where
  bcast_S_S4x2048x1024 : S_.BroadcastsInDim S4x2048x1024 (![] : Fin 0 → Fin S4x2048x1024.rank)
  bcast_S_S2048x8192 : S_.BroadcastsInDim S2048x8192 (![] : Fin 0 → Fin S2048x8192.rank)

variable [Facts]

def fn {F : FTy → Type} [FloatOps F] (main_arg0 : FVec F S2048x2048 .f32) (main_arg1 : FVec F S4x512x1024 .f32) (main_arg2 : FVec F S2048x4096 .f32) (main_arg3 : FVec F S2048x1024 .f32) : IVec S4x2048x1024 1 × IVec S2048x8192 1 :=
  let main_c : IVec S_ 1 := constantI S_ 1 1#1
  let main_v0 : IVec S4x2048x1024 1 := broadcastInDim S4x2048x1024 ![] bcast_S_S4x2048x1024 main_c
  let main_v1 : IVec S2048x8192 32 := iotaInDim S2048x8192 32 1
  let main_c_0 : IVec S_ 32 := constantI S_ 32 4096#32
  let main_v2 : IVec S2048x8192 32 := broadcastInDim S2048x8192 ![] bcast_S_S2048x8192 main_c_0
  let main_v3 : IVec S2048x8192 1 := cmpi .sge main_v1 main_v2
  (main_v0, main_v3)
-- ==== Kernel.lean ====
abbrev S2048x2048 : Shape := ⟨2, ![2048, 2048]⟩
abbrev S4x512x1024 : Shape := ⟨3, ![4, 512, 1024]⟩
abbrev S2048x4096 : Shape := ⟨2, ![2048, 4096]⟩
abbrev S2048x1024 : Shape := ⟨2, ![2048, 1024]⟩
abbrev S_ : Shape := ⟨0, ![]⟩
abbrev S4x2048x1024 : Shape := ⟨3, ![4, 2048, 1024]⟩
abbrev S2048x8192 : Shape := ⟨2, ![2048, 8192]⟩
abbrev S1024x512 : Shape := ⟨2, ![1024, 512]⟩
abbrev S1x512x1024 : Shape := ⟨3, ![1, 512, 1024]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 17
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S4x512x1024, .f32⟩
  | .hbm, ⟨2, _⟩ => ⟨S2048x4096, .f32⟩
  | .hbm, ⟨3, _⟩ => ⟨S2048x1024, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x4096, .bf16⟩
  | .hbm, ⟨13, _⟩ => ⟨S2048x2048, .bf16⟩
  | .hbm, ⟨14, _⟩ => ⟨S4x512x1024, .bf16⟩
  | .hbm, ⟨15, _⟩ => ⟨S4x2048x1024, .bf16⟩
  | .hbm, ⟨16, _⟩ => ⟨S2048x8192, .bf16⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .bf16⟩
  | .local _ .vmem, ⟨11, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let v1 : BitVec 32 := Scalar.addi v0 arg1
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c1_i32 : BitVec 32 := 1#32
  let v1 : BitVec 32 := Scalar.muli v0 c1_i32
  let v2 : BitVec 32 := Scalar.addi v1 arg1
  let c0_i32 : BitVec 32 := 0#32
  ![arg0.toNat, v2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2048x2048 : Shape := ⟨2, ![2048, 2048]⟩
abbrev S4x512x1024 : Shape := ⟨3, ![4, 512, 1024]⟩
abbrev S2048x4096 : Shape := ⟨2, ![2048, 4096]⟩
abbrev S2048x1024 : Shape := ⟨2, ![2048, 1024]⟩
abbrev S2048x4x512 : Shape := ⟨3, ![2048, 4, 512]⟩
abbrev S4x1024x2048 : Shape := ⟨3, ![4, 1024, 2048]⟩
abbrev S2048x4x1024 : Shape := ⟨3, ![2048, 4, 1024]⟩
abbrev S_ : Shape := ⟨0, ![]⟩
abbrev S2048x8192 : Shape := ⟨2, ![2048, 8192]⟩
abbrev S4x2048x1024 : Shape := ⟨3, ![4, 2048, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x512x1024, .f32⟩
  | .hbm, ⟨2, _⟩ => ⟨S2048x4096, .f32⟩
  | .hbm, ⟨3, _⟩ => ⟨S2048x1024, .f32⟩
  | .hbm, ⟨4, _⟩ => ⟨S2048x4x512, .f32⟩
  | .hbm, ⟨5, _⟩ => ⟨S4x1024x2048, .f32⟩
  | .hbm, ⟨6, _⟩ => ⟨S2048x4x1024, .f32⟩
  | .hbm, ⟨7, _⟩ => ⟨S2048x4x1024, .f32⟩
  | .hbm, ⟨8, _⟩ => ⟨S2048x4x1024, .f32⟩
  | .hbm, ⟨9, _⟩ => ⟨S2048x4x1024, .f32⟩
  | .hbm, ⟨10, _⟩ => ⟨S_, .f32⟩
  | .hbm, ⟨11, _⟩ => ⟨S2048x4x1024, .f32⟩
  | .hbm, ⟨12, _⟩ => ⟨S2048x4x1024, .f32⟩
  | .hbm, ⟨13, _⟩ => ⟨S_, .f32⟩
  | .hbm, ⟨14, _⟩ => ⟨S2048x4x1024, .f32⟩
  | .hbm, ⟨15, _⟩ => ⟨S2048x4x1024, .f32⟩
  | .hbm, ⟨16, _⟩ => ⟨S_, .f32⟩
  | .hbm, ⟨17, _⟩ => ⟨S2048x4x1024, .f32⟩
  | .hbm, ⟨18, _⟩ => ⟨S2048x4x1024, .f32⟩
  | .hbm, ⟨19, _⟩ => ⟨S2048x4x1024, .f32⟩
  | .hbm, ⟨20, _⟩ => ⟨S2048x4x1024, .f32⟩
  | .hbm, ⟨21, _⟩ => ⟨S_, .f32⟩
  | .hbm, ⟨22, _⟩ => ⟨S2048x1024, .f32⟩
  | .hbm, ⟨23, _⟩ => ⟨S2048x4x1024, .f32⟩
  | .hbm, ⟨24, _⟩ => ⟨S2048x4x1024, .f32⟩
  | .hbm, ⟨25, _⟩ => ⟨S2048x4x1024, .f32⟩
  | .hbm, ⟨26, _⟩ => ⟨S2048x4x1024, .f32⟩
  | .hbm, ⟨27, _⟩ => ⟨S2048x4096, .f32⟩
  | .hbm, ⟨28, _⟩ => ⟨S_, .f32⟩
  | .hbm, ⟨29, _⟩ => ⟨S2048x4096, .f32⟩
  | .hbm, ⟨30, _⟩ => ⟨S2048x8192, .f32⟩
  | .hbm, ⟨31, _⟩ => ⟨S4x2048x1024, .f32⟩
  | .hbm, ⟨32, _⟩ => ⟨S4x2048x1024, .bf16⟩
  | .hbm, ⟨33, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== BranchBwd.lean ====
abbrev S4x2048x1024 : Shape := ⟨3, ![4, 2048, 1024]⟩
abbrev S4x512x1024 : Shape := ⟨3, ![4, 512, 1024]⟩
abbrev S4x2048x512 : Shape := ⟨3, ![4, 2048, 512]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S4x512x1024, .f32⟩
  | .hbm, ⟨2, _⟩ => ⟨S4x2048x1024, .bf16⟩
  | .hbm, ⟨3, _⟩ => ⟨S4x512x1024, .bf16⟩
  | .hbm, ⟨4, _⟩ => ⟨S4x2048x512, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BranchBwdReferenceIdeal.lean ====
abbrev S4x2048x1024 : Shape := ⟨3, ![4, 2048, 1024]⟩
abbrev S4x512x1024 : Shape := ⟨3, ![4, 512, 1024]⟩
abbrev S_ : Shape := ⟨0, ![]⟩
abbrev S2048x4x512 : Shape := ⟨3, ![2048, 4, 512]⟩
abbrev S4x1024x2048 : Shape := ⟨3, ![4, 1024, 2048]⟩
abbrev S2048x4x1024 : Shape := ⟨3, ![2048, 4, 1024]⟩
abbrev S4x2048x512 : Shape := ⟨3, ![4, 2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x512x1024, .f32⟩
  | .hbm, ⟨2, _⟩ => ⟨S_, .f32⟩
  | .hbm, ⟨3, _⟩ => ⟨S2048x4x512, .f32⟩
  | .hbm, ⟨4, _⟩ => ⟨S4x1024x2048, .f32⟩
  | .hbm, ⟨5, _⟩ => ⟨S2048x4x1024, .f32⟩
  | .hbm, ⟨6, _⟩ => ⟨S2048x4x1024, .f32⟩
  | .hbm, ⟨7, _⟩ => ⟨S4x1024x2048, .f32⟩
  | .hbm, ⟨8, _⟩ => ⟨S4x2048x512, .f32⟩
  | .hbm, ⟨9, _⟩ => ⟨S2048x4x512, .f32⟩
  | .hbm, ⟨10, _⟩ => ⟨S4x2048x512, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwBranch.lean ====
abbrev S2048x2048 : Shape := ⟨2, ![2048, 2048]⟩
abbrev S4x2048x1024 : Shape := ⟨3, ![4, 2048, 1024]⟩
abbrev S4x512x1024 : Shape := ⟨3, ![4, 512, 1024]⟩
abbrev S2048x512 : Shape := ⟨2, ![2048, 512]⟩
abbrev S1x2048x1024 : Shape := ⟨3, ![1, 2048, 1024]⟩
abbrev S1x512x1024 : Shape := ⟨3, ![1, 512, 1024]⟩
abbrev S512x1024 : Shape := ⟨2, ![512, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4x2048x1024, .f32⟩
  | .hbm, ⟨2, _⟩ => ⟨S2048x2048, .bf16⟩
  | .hbm, ⟨3, _⟩ => ⟨S4x2048x1024, .bf16⟩
  | .hbm, ⟨4, _⟩ => ⟨S4x512x1024, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  ![arg3.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwBranchReferenceIdeal.lean ====
abbrev S2048x2048 : Shape := ⟨2, ![2048, 2048]⟩
abbrev S4x2048x1024 : Shape := ⟨3, ![4, 2048, 1024]⟩
abbrev S_ : Shape := ⟨0, ![]⟩
abbrev S4x512x1024 : Shape := ⟨3, ![4, 512, 1024]⟩
abbrev S2048x4x512 : Shape := ⟨3, ![2048, 4, 512]⟩
abbrev S4x1024x2048 : Shape := ⟨3, ![4, 1024, 2048]⟩
abbrev S2048x4x1024 : Shape := ⟨3, ![2048, 4, 1024]⟩
abbrev S4x1024x512 : Shape := ⟨3, ![4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048x1024, .f32⟩
  | .hbm, ⟨2, _⟩ => ⟨S_, .f32⟩
  | .hbm, ⟨3, _⟩ => ⟨S4x512x1024, .f32⟩
  | .hbm, ⟨4, _⟩ => ⟨S2048x4x512, .f32⟩
  | .hbm, ⟨5, _⟩ => ⟨S4x1024x2048, .f32⟩
  | .hbm, ⟨6, _⟩ => ⟨S2048x4x1024, .f32⟩
  | .hbm, ⟨7, _⟩ => ⟨S2048x4x1024, .f32⟩
  | .hbm, ⟨8, _⟩ => ⟨S4x1024x2048, .f32⟩
  | .hbm, ⟨9, _⟩ => ⟨S4x1024x512, .f32⟩
  | .hbm, ⟨10, _⟩ => ⟨S4x512x1024, .f32⟩
  | .hbm, ⟨11, _⟩ => ⟨S4x512x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwIn.lean ====
abbrev S2048x1024 : Shape := ⟨2, ![2048, 1024]⟩
abbrev S1024 : Shape := ⟨1, ![1024]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x2048x1024 : Shape := ⟨3, ![1, 2048, 1024]⟩
abbrev S1x2048x8192 : Shape := ⟨3, ![1, 2048, 8192]⟩
abbrev S1x1024x8192 : Shape := ⟨3, ![1, 1024, 8192]⟩
abbrev S1x1024x1024 : Shape := ⟨3, ![1, 1024, 1024]⟩
abbrev S1024x1024 : Shape := ⟨2, ![1024, 1024]⟩
abbrev S1024x8192 : Shape := ⟨2, ![1024, 8192]⟩

abbrev nBuf : Space → Nat
  | .hbm => 25
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x8192, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x8192, .bf16⟩
  | .hbm, ⟨21, _⟩ => ⟨S1x2048x1024, .bf16⟩
  | .hbm, ⟨22, _⟩ => ⟨S1x2048x8192, .bf16⟩
  | .hbm, ⟨23, _⟩ => ⟨S1x1024x8192, .bf16⟩
  | .hbm, ⟨24, _⟩ => ⟨S1024x8192, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwInReferenceIdeal.lean ====
abbrev S2048x1024 : Shape := ⟨2, ![2048, 1024]⟩
abbrev S1024 : Shape := ⟨1, ![1024]⟩
abbrev S2048x8192 : Shape := ⟨2, ![2048, 8192]⟩
abbrev S_ : Shape := ⟨0, ![]⟩
abbrev S1024x8192 : Shape := ⟨2, ![1024, 8192]⟩
abbrev S2048 : Shape := ⟨1, ![2048]⟩
abbrev S2048x1 : Shape := ⟨2, ![2048, 1]⟩
abbrev S1x1024 : Shape := ⟨2, ![1, 1024]⟩
abbrev S8192x1024 : Shape := ⟨2, ![8192, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x8192, .f32⟩
  | .hbm, ⟨3, _⟩ => ⟨S_, .f32⟩
  | .hbm, ⟨4, _⟩ => ⟨S1024x8192, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x8192, .f32⟩
  | .hbm, ⟨22, _⟩ => ⟨S8192x1024, .f32⟩
  | .hbm, ⟨23, _⟩ => ⟨S1024x8192, .f32⟩
  | .hbm, ⟨24, _⟩ => ⟨S1024x8192, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== ProjBwd.lean ====
abbrev S2048x1024 : Shape := ⟨2, ![2048, 1024]⟩
abbrev S1024 : Shape := ⟨1, ![1024]⟩
abbrev S1024x8192 : Shape := ⟨2, ![1024, 8192]⟩
abbrev S2048x8192 : Shape := ⟨2, ![2048, 8192]⟩
abbrev S1024x4x2048 : Shape := ⟨3, ![1024, 4, 2048]⟩
abbrev S4x1024x2048 : Shape := ⟨3, ![4, 1024, 2048]⟩
abbrev S1x1024 : Shape := ⟨2, ![1, 1024]⟩
abbrev S1x2048x8192 : Shape := ⟨3, ![1, 2048, 8192]⟩
abbrev S1x4x1024x2048 : Shape := ⟨4, ![1, 4, 1024, 2048]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S1x1024x1024 : Shape := ⟨3, ![1, 1024, 1024]⟩
abbrev S1x1x1024x1024 : Shape := ⟨4, ![1, 1, 1024, 1024]⟩
abbrev S1x8x1024 : Shape := ⟨3, ![1, 8, 1024]⟩
abbrev S1024x1024 : Shape := ⟨2, ![1024, 1024]⟩
abbrev S1024x1 : Shape := ⟨2, ![1024, 1]⟩
abbrev S8x1024 : Shape := ⟨2, ![8, 1024]⟩
abbrev S16x1024 : Shape := ⟨2, ![16, 1024]⟩
abbrev S2x1024 : Shape := ⟨2, ![2, 1024]⟩
abbrev S_ : Shape := ⟨0, ![]⟩

abbrev nBuf : Space → Nat
  | .hbm => 23
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x8192, .f32⟩
  | .hbm, ⟨3, _⟩ => ⟨S2048x8192, .f32⟩
  | .hbm, ⟨4, _⟩ => ⟨S2048x1024, .f32⟩
  | .hbm, ⟨5, _⟩ => ⟨S2048x8192, .bf16⟩
  | .hbm, ⟨6, _⟩ => ⟨S1024x8192, .bf16⟩
  | .hbm, ⟨7, _⟩ => ⟨S1024x4x2048, .bf16⟩
  | .hbm, ⟨8, _⟩ => ⟨S4x1024x2048, .bf16⟩
  | .hbm, ⟨9, _⟩ => ⟨S1x1024, .f32⟩
  | .hbm, ⟨10, _⟩ => ⟨S1x2048x8192, .bf16⟩
  | .hbm, ⟨11, _⟩ => ⟨S1x4x1024x2048, .bf16⟩
  | .hbm, ⟨12, _⟩ => ⟨S1x2048x1024, .f32⟩
  | .hbm, ⟨13, _⟩ => ⟨S1x2048x1024, .f32⟩
  | .hbm, ⟨14, _⟩ => ⟨S1x1x1024, .f32⟩
  | .hbm, ⟨15, _⟩ => ⟨S1x2048x1024, .f32⟩
  | .hbm, ⟨16, _⟩ => ⟨S1x16x1024, .f32⟩
  | .hbm, ⟨17, _⟩ => ⟨S2048x1024, .f32⟩
  | .hbm, ⟨18, _⟩ => ⟨S16x1024, .f32⟩
  | .hbm, ⟨19, _⟩ => ⟨S2x1024, .f32⟩
  | .hbm, ⟨20, _⟩ => ⟨S_, .f32⟩
  | .hbm, ⟨21, _⟩ => ⟨S1024, .f32⟩
  | .hbm, ⟨22, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x8x1024, .f32⟩
  | .local _ .vmem, ⟨12, _⟩ => ⟨S1x8x1024, .f32⟩
  | .local _ .vmem, ⟨13, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨4, ![1, 2, 1, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg3 c2_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg3 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg3 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![arg0.toNat, v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]
-- ==== ProjBwdReferenceIdeal.lean ====
abbrev S2048x1024 : Shape := ⟨2, ![2048, 1024]⟩
abbrev S1024 : Shape := ⟨1, ![1024]⟩
abbrev S1024x8192 : Shape := ⟨2, ![1024, 8192]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x8192, .f32⟩
  | .hbm, ⟨3, _⟩ => ⟨S2048x8192, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x8192, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== MlpDownBwd.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1x2048x1024 : Shape := ⟨3, ![1, 2048, 1024]⟩
abbrev S1x4096x1024 : Shape := ⟨3, ![1, 4096, 1024]⟩
abbrev S1x2048x4096 : Shape := ⟨3, ![1, 2048, 4096]⟩
abbrev S1x1024x1024 : Shape := ⟨3, ![1, 1024, 1024]⟩
abbrev S1024x1024 : Shape := ⟨2, ![1024, 1024]⟩

abbrev nBuf : Space → Nat
  | .hbm => 33
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x4096, .bf16⟩
  | .hbm, ⟨27, _⟩ => ⟨S4096x1024, .bf16⟩
  | .hbm, ⟨28, _⟩ => ⟨S1x2048x1024, .f32⟩
  | .hbm, ⟨29, _⟩ => ⟨S1x4096x1024, .bf16⟩
  | .hbm, ⟨30, _⟩ => ⟨S1x2048x4096, .bf16⟩
  | .hbm, ⟨31, _⟩ => ⟨S1x2048x4096, .bf16⟩
  | .hbm, ⟨32, _⟩ => ⟨S2048x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== MlpDownBwdReferenceIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S_, .f32⟩
  | .hbm, ⟨26, _⟩ => ⟨S2048x4096, .f32⟩
  | .hbm, ⟨27, _⟩ => ⟨S2048x4096, .i1⟩
  | .hbm, ⟨28, _⟩ => ⟨S_, .f32⟩
  | .hbm, ⟨29, _⟩ => ⟨S2048x4096, .f32⟩
  | .hbm, ⟨30, _⟩ => ⟨S2048x4096, .f32⟩
  | .hbm, ⟨31, _⟩ => ⟨S_, .f32⟩
  | .hbm, ⟨32, _⟩ => ⟨S2048x4096, .f32⟩
  | .hbm, ⟨33, _⟩ => ⟨S2048x4096, .f32⟩
  | .hbm, ⟨34, _⟩ => ⟨S2048x1024, .f32⟩
  | .hbm, ⟨35, _⟩ => ⟨S2048x4096, .f32⟩
  | .hbm, ⟨36, _⟩ => ⟨S2048x4096, .f32⟩
  | .hbm, ⟨37, _⟩ => ⟨S_, .f32⟩
  | .hbm, ⟨38, _⟩ => ⟨S2048x4096, .f32⟩
  | .hbm, ⟨39, _⟩ => ⟨S2048x4096, .f32⟩
  | .hbm, ⟨40, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== DwDown.lean ====
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1x2048x4096 : Shape := ⟨3, ![1, 2048, 4096]⟩
abbrev S1x2048x1024 : Shape := ⟨3, ![1, 2048, 1024]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S4096x1024 : Shape := ⟨2, ![4096, 1024]⟩

abbrev nBuf : Space → Nat
  | .hbm => 30
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x4096, .bf16⟩
  | .hbm, ⟨26, _⟩ => ⟨S1x2048x4096, .bf16⟩
  | .hbm, ⟨27, _⟩ => ⟨S1x2048x1024, .f32⟩
  | .hbm, ⟨28, _⟩ => ⟨S1x4096x1024, .bf16⟩
  | .hbm, ⟨29, _⟩ => ⟨S4096x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwDownReferenceIdeal.lean ====
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S4096x1024 : Shape := ⟨2, ![4096, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S_, .f32⟩
  | .hbm, ⟨26, _⟩ => ⟨S4096x1024, .f32⟩
  | .hbm, ⟨27, _⟩ => ⟨S2048x1024, .f32⟩
  | .hbm, ⟨28, _⟩ => ⟨S1024x4096, .f32⟩
  | .hbm, ⟨29, _⟩ => ⟨S4096x1024, .f32⟩
  | .hbm, ⟨30, _⟩ => ⟨S4096x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== DwUp.lean ====
abbrev S2048x1024 : Shape := ⟨2, ![2048, 1024]⟩
abbrev S1024 : Shape := ⟨1, ![1024]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x2048x1024 : Shape := ⟨3, ![1, 2048, 1024]⟩
abbrev S1x2048x4096 : Shape := ⟨3, ![1, 2048, 4096]⟩
abbrev S1x1024x4096 : Shape := ⟨3, ![1, 1024, 4096]⟩
abbrev S1x1024x1024 : Shape := ⟨3, ![1, 1024, 1024]⟩
abbrev S1024x1024 : Shape := ⟨2, ![1024, 1024]⟩
abbrev S1024x4096 : Shape := ⟨2, ![1024, 4096]⟩

abbrev nBuf : Space → Nat
  | .hbm => 25
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x4096, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x4096, .bf16⟩
  | .hbm, ⟨21, _⟩ => ⟨S1x2048x1024, .bf16⟩
  | .hbm, ⟨22, _⟩ => ⟨S1x2048x4096, .bf16⟩
  | .hbm, ⟨23, _⟩ => ⟨S1x1024x4096, .bf16⟩
  | .hbm, ⟨24, _⟩ => ⟨S1024x4096, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwUpReferenceIdeal.lean ====
abbrev S2048x1024 : Shape := ⟨2, ![2048, 1024]⟩
abbrev S1024 : Shape := ⟨1, ![1024]⟩
abbrev S2048x4096 : Shape := ⟨2, ![2048, 4096]⟩
abbrev S_ : Shape := ⟨0, ![]⟩
abbrev S1024x4096 : Shape := ⟨2, ![1024, 4096]⟩
abbrev S2048 : Shape := ⟨1, ![2048]⟩
abbrev S2048x1 : Shape := ⟨2, ![2048, 1]⟩
abbrev S1x1024 : Shape := ⟨2, ![1, 1024]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x4096, .f32⟩
  | .hbm, ⟨3, _⟩ => ⟨S_, .f32⟩
  | .hbm, ⟨4, _⟩ => ⟨S1024x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x4096, .f32⟩
  | .hbm, ⟨22, _⟩ => ⟨S4096x1024, .f32⟩
  | .hbm, ⟨23, _⟩ => ⟨S1024x4096, .f32⟩
  | .hbm, ⟨24, _⟩ => ⟨S1024x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MlpUpBwd.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S1x2048x4096 : Shape := ⟨3, ![1, 2048, 4096]⟩
abbrev S1x4x1024x1024 : Shape := ⟨4, ![1, 4, 1024, 1024]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S1x1024x1024 : Shape := ⟨3, ![1, 1024, 1024]⟩
abbrev S1x1x1024x1024 : Shape := ⟨4, ![1, 1, 1024, 1024]⟩
abbrev S1x8x1024 : Shape := ⟨3, ![1, 8, 1024]⟩
abbrev S1024x1024 : Shape := ⟨2, ![1024, 1024]⟩
abbrev S1024x1 : Shape := ⟨2, ![1024, 1]⟩
abbrev S8x1024 : Shape := ⟨2, ![8, 1024]⟩
abbrev S16x1024 : Shape := ⟨2, ![16, 1024]⟩
abbrev S2x1024 : Shape := ⟨2, ![2, 1024]⟩
abbrev S_ : Shape := ⟨0, ![]⟩

abbrev nBuf : Space → Nat
  | .hbm => 23
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S2048x4096, .bf16⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S1x1024, .f32⟩
  | .hbm, ⟨10, _⟩ => ⟨S1x2048x4096, .bf16⟩
  | .hbm, ⟨11, _⟩ => ⟨S1x4x1024x1024, .bf16⟩
  | .hbm, ⟨12, _⟩ => ⟨S1x2048x1024, .f32⟩
  | .hbm, ⟨13, _⟩ => ⟨S1x2048x1024, .f32⟩
  | .hbm, ⟨14, _⟩ => ⟨S1x1x1024, .f32⟩
  | .hbm, ⟨15, _⟩ => ⟨S1x2048x1024, .f32⟩
  | .hbm, ⟨16, _⟩ => ⟨S1x16x1024, .f32⟩
  | .hbm, ⟨17, _⟩ => ⟨S2048x1024, .f32⟩
  | .hbm, ⟨18, _⟩ => ⟨S16x1024, .f32⟩
  | .hbm, ⟨19, _⟩ => ⟨S2x1024, .f32⟩
  | .hbm, ⟨20, _⟩ => ⟨S_, .f32⟩
  | .hbm, ⟨21, _⟩ => ⟨S1024, .f32⟩
  | .hbm, ⟨22, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x8x1024, .f32⟩
  | .local _ .vmem, ⟨12, _⟩ => ⟨S1x8x1024, .f32⟩
  | .local _ .vmem, ⟨13, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨4, ![1, 2, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![arg0.toNat, v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]
-- ==== MlpUpBwdReferenceIdeal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== OutProjBwd.lean ====
abbrev S1024x1024 : Shape := ⟨2, ![1024, 1024]⟩
abbrev S2048x1024 : Shape := ⟨2, ![2048, 1024]⟩
abbrev S1x2048x1024 : Shape := ⟨3, ![1, 2048, 1024]⟩
abbrev S1x1024x1024 : Shape := ⟨3, ![1, 1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S1024x1024, .bf16⟩
  | .hbm, ⟨3, _⟩ => ⟨S1x2048x1024, .f32⟩
  | .hbm, ⟨4, _⟩ => ⟨S1x1024x1024, .bf16⟩
  | .hbm, ⟨5, _⟩ => ⟨S1x2048x1024, .f32⟩
  | .hbm, ⟨6, _⟩ => ⟨S2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== OutProjBwdReferenceIdeal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwOut.lean ====
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 7
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1x2048x1024, .bf16⟩
  | .hbm, ⟨4, _⟩ => ⟨S1x2048x1024, .f32⟩
  | .hbm, ⟨5, _⟩ => ⟨S1x1024x1024, .bf16⟩
  | .hbm, ⟨6, _⟩ => ⟨S1024x1024, .bf16⟩
  | .local _ .vmem, ⟨0, _⟩ => ⟨S1x2048x1024, .bf16⟩
  | .local _ .vmem, ⟨1, _⟩ => ⟨S1x2048x1024, .f32⟩
  | .local _ .vmem, ⟨2, _⟩ => ⟨S1x1024x1024, .bf16⟩
  | .local _ .vmem, ⟨3, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== DwOutReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PleBwd.lean ====
abbrev S2048x1024 : Shape := ⟨2, ![2048, 1024]⟩
abbrev S1024 : Shape := ⟨1, ![1024]⟩
abbrev S1024x1024 : Shape := ⟨2, ![1024, 1024]⟩
abbrev S2048x256 : Shape := ⟨2, ![2048, 256]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x2048x256 : Shape := ⟨3, ![1, 2048, 256]⟩
abbrev S1x256x1024 : Shape := ⟨3, ![1, 256, 1024]⟩
abbrev S1x2048x1024 : Shape := ⟨3, ![1, 2048, 1024]⟩
abbrev S1x1024x256 : Shape := ⟨3, ![1, 1024, 256]⟩
abbrev S1x1024x1024 : Shape := ⟨3, ![1, 1024, 1024]⟩
abbrev S1024x256 : Shape := ⟨2, ![1024, 256]⟩

abbrev nBuf : Space → Nat
  | .hbm => 32
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x256, .f32⟩
  | .hbm, ⟨4, _⟩ => ⟨S256x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S256x1024, .bf16⟩
  | .hbm, ⟨24, _⟩ => ⟨S1x2048x256, .f32⟩
  | .hbm, ⟨25, _⟩ => ⟨S1x256x1024, .bf16⟩
  | .hbm, ⟨26, _⟩ => ⟨S1x2048x1024, .f32⟩
  | .hbm, ⟨27, _⟩ => ⟨S1x2048x1024, .f32⟩
  | .hbm, ⟨28, _⟩ => ⟨S1x2048x1024, .bf16⟩
  | .hbm, ⟨29, _⟩ => ⟨S1x2048x1024, .bf16⟩
  | .hbm, ⟨30, _⟩ => ⟨S2048x1024, .bf16⟩
  | .hbm, ⟨31, _⟩ => ⟨S2048x1024, .bf16⟩
  | .local _ .vmem, ⟨0, _⟩ => ⟨S1x1024x256, .f32⟩
  | .local _ .vmem, ⟨1, _⟩ => ⟨S1x1024x256, .f32⟩
  | .local _ .vmem, ⟨2, _⟩ => ⟨S1x256x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== PleBwdReferenceIdeal.lean ====
abbrev S2048x1024 : Shape := ⟨2, ![2048, 1024]⟩
abbrev S1024 : Shape := ⟨1, ![1024]⟩
abbrev S1024x1024 : Shape := ⟨2, ![1024, 1024]⟩
abbrev S2048x256 : Shape := ⟨2, ![2048, 256]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x256, .f32⟩
  | .hbm, ⟨4, _⟩ => ⟨S256x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .bf16⟩
  | .hbm, ⟨41, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== DwPle.lean ====
abbrev S2048x256 : Shape := ⟨2, ![2048, 256]⟩
abbrev S2048x1024 : Shape := ⟨2, ![2048, 1024]⟩
abbrev S1x2048x256 : Shape := ⟨3, ![1, 2048, 256]⟩
abbrev S1x2048x1024 : Shape := ⟨3, ![1, 2048, 1024]⟩
abbrev S1x256x1024 : Shape := ⟨3, ![1, 256, 1024]⟩
abbrev S256x1024 : Shape := ⟨2, ![256, 1024]⟩

abbrev nBuf : Space → Nat
  | .hbm => 7
  | .vmem => 4
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S2048x1024, .bf16⟩
  | .hbm, ⟨3, _⟩ => ⟨S1x2048x256, .f32⟩
  | .hbm, ⟨4, _⟩ => ⟨S1x2048x1024, .bf16⟩
  | .hbm, ⟨5, _⟩ => ⟨S1x256x1024, .bf16⟩
  | .hbm, ⟨6, _⟩ => ⟨S256x1024, .bf16⟩
  | .local _ .vmem, ⟨0, _⟩ => ⟨S1x2048x256, .f32⟩
  | .local _ .vmem, ⟨1, _⟩ => ⟨S1x2048x1024, .bf16⟩
  | .local _ .vmem, ⟨2, _⟩ => ⟨S1x256x1024, .bf16⟩
  | .local _ .vmem, ⟨3, _⟩ => ⟨S256x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== DwPleReferenceIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S_, .f32⟩
  | .hbm, ⟨3, _⟩ => ⟨S256x1024, .f32⟩
  | .hbm, ⟨4, _⟩ => ⟨S2048x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwPleGate.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 25
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x1024, .bf16⟩
  | .hbm, ⟨21, _⟩ => ⟨S1x2048x1024, .bf16⟩
  | .hbm, ⟨22, _⟩ => ⟨S1x2048x1024, .bf16⟩
  | .hbm, ⟨23, _⟩ => ⟨S1x1024x1024, .bf16⟩
  | .hbm, ⟨24, _⟩ => ⟨S1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | .local _ .vmem, ⟨3, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== DwPleGateReferenceIdeal.lean ====
abbrev S2048x1024 : Shape := ⟨2, ![2048, 1024]⟩
abbrev S1024 : Shape := ⟨1, ![1024]⟩
abbrev S_ : Shape := ⟨0, ![]⟩
abbrev S1024x1024 : Shape := ⟨2, ![1024, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1024x1024, .f32⟩
  | .hbm, ⟨23, _⟩ => ⟨S1024x1024, .f32⟩
  | .hbm, ⟨24, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DhPle.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S1x2048x1024 : Shape := ⟨3, ![1, 2048, 1024]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1x8x1024 : Shape := ⟨3, ![1, 8, 1024]⟩
abbrev S1024x1 : Shape := ⟨2, ![1024, 1]⟩
abbrev S8x1024 : Shape := ⟨2, ![8, 1024]⟩
abbrev S16x1024 : Shape := ⟨2, ![16, 1024]⟩
abbrev S2x1024 : Shape := ⟨2, ![2, 1024]⟩
abbrev S_ : Shape := ⟨0, ![]⟩

abbrev nBuf : Space → Nat
  | .hbm => 21
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1024x1024, .bf16⟩
  | .hbm, ⟨7, _⟩ => ⟨S1x1024, .f32⟩
  | .hbm, ⟨8, _⟩ => ⟨S1x2048x1024, .bf16⟩
  | .hbm, ⟨9, _⟩ => ⟨S1x1024x1024, .bf16⟩
  | .hbm, ⟨10, _⟩ => ⟨S1x2048x1024, .f32⟩
  | .hbm, ⟨11, _⟩ => ⟨S1x2048x1024, .f32⟩
  | .hbm, ⟨12, _⟩ => ⟨S1x1x1024, .f32⟩
  | .hbm, ⟨13, _⟩ => ⟨S1x2048x1024, .f32⟩
  | .hbm, ⟨14, _⟩ => ⟨S1x16x1024, .f32⟩
  | .hbm, ⟨15, _⟩ => ⟨S2048x1024, .f32⟩
  | .hbm, ⟨16, _⟩ => ⟨S16x1024, .f32⟩
  | .hbm, ⟨17, _⟩ => ⟨S2x1024, .f32⟩
  | .hbm, ⟨18, _⟩ => ⟨S_, .f32⟩
  | .hbm, ⟨19, _⟩ => ⟨S1024, .f32⟩
  | .hbm, ⟨20, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x8x1024, .f32⟩
  | .local _ .vmem, ⟨11, _⟩ => ⟨S1x8x1024, .f32⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]
-- ==== DhPleReferenceIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== RmsMix.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsMixReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ProjFwd.lean ====
abbrev S2048x1024 : Shape := ⟨2, ![2048, 1024]⟩
abbrev S1024x8192 : Shape := ⟨2, ![1024, 8192]⟩
abbrev S1024x4x2048 : Shape := ⟨3, ![1024, 4, 2048]⟩
abbrev S4x1024x2048 : Shape := ⟨3, ![4, 1024, 2048]⟩
abbrev S1x2048x1024 : Shape := ⟨3, ![1, 2048, 1024]⟩
abbrev S1x4x1024x2048 : Shape := ⟨4, ![1, 4, 1024, 2048]⟩
abbrev S1x2048x4096 : Shape := ⟨3, ![1, 2048, 4096]⟩
abbrev S1x1024x1024 : Shape := ⟨3, ![1, 1024, 1024]⟩
abbrev S1x1x1024x1024 : Shape := ⟨4, ![1, 1, 1024, 1024]⟩
abbrev S1024x1024 : Shape := ⟨2, ![1024, 1024]⟩
abbrev S2048x4096 : Shape := ⟨2, ![2048, 4096]⟩

abbrev nBuf : Space → Nat
  | .hbm => 10
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S2048x1024, .bf16⟩
  | .hbm, ⟨3, _⟩ => ⟨S1024x8192, .bf16⟩
  | .hbm, ⟨4, _⟩ => ⟨S1024x4x2048, .bf16⟩
  | .hbm, ⟨5, _⟩ => ⟨S4x1024x2048, .bf16⟩
  | .hbm, ⟨6, _⟩ => ⟨S1x2048x1024, .bf16⟩
  | .hbm, ⟨7, _⟩ => ⟨S1x4x1024x2048, .bf16⟩
  | .hbm, ⟨8, _⟩ => ⟨S1x2048x4096, .f32⟩
  | .hbm, ⟨9, _⟩ => ⟨S2048x4096, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![arg0.toNat, v17.toNat, arg3.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjFwdReferenceIdeal.lean ====
abbrev S2048x1024 : Shape := ⟨2, ![2048, 1024]⟩
abbrev S1024x8192 : Shape := ⟨2, ![1024, 8192]⟩
abbrev S2048x8192 : Shape := ⟨2, ![2048, 8192]⟩
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S2048x8192, .f32⟩
  | .hbm, ⟨3, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjGates.lean ====
abbrev S2048x1024 : Shape := ⟨2, ![2048, 1024]⟩
abbrev S1024x8192 : Shape := ⟨2, ![1024, 8192]⟩
abbrev S1024x4x2048 : Shape := ⟨3, ![1024, 4, 2048]⟩
abbrev S4x1024x2048 : Shape := ⟨3, ![4, 1024, 2048]⟩
abbrev S1x2048x1024 : Shape := ⟨3, ![1, 2048, 1024]⟩
abbrev S1x4x1024x2048 : Shape := ⟨4, ![1, 4, 1024, 2048]⟩
abbrev S1x2048x4096 : Shape := ⟨3, ![1, 2048, 4096]⟩
abbrev S1x1024x1024 : Shape := ⟨3, ![1, 1024, 1024]⟩
abbrev S1x1x1024x1024 : Shape := ⟨4, ![1, 1, 1024, 1024]⟩
abbrev S1024x1024 : Shape := ⟨2, ![1024, 1024]⟩
abbrev S2048x4096 : Shape := ⟨2, ![2048, 4096]⟩

abbrev nBuf : Space → Nat
  | .hbm => 10
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S2048x1024, .bf16⟩
  | .hbm, ⟨3, _⟩ => ⟨S1024x8192, .bf16⟩
  | .hbm, ⟨4, _⟩ => ⟨S1024x4x2048, .bf16⟩
  | .hbm, ⟨5, _⟩ => ⟨S4x1024x2048, .bf16⟩
  | .hbm, ⟨6, _⟩ => ⟨S1x2048x1024, .bf16⟩
  | .hbm, ⟨7, _⟩ => ⟨S1x4x1024x2048, .bf16⟩
  | .hbm, ⟨8, _⟩ => ⟨S1x2048x4096, .bf16⟩
  | .hbm, ⟨9, _⟩ => ⟨S2048x4096, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![arg0.toNat, v17.toNat, arg3.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjGatesReferenceIdeal.lean ====
abbrev S2048x1024 : Shape := ⟨2, ![2048, 1024]⟩
abbrev S1024x8192 : Shape := ⟨2, ![1024, 8192]⟩
abbrev S2048x8192 : Shape := ⟨2, ![2048, 8192]⟩
abbrev S2048x4096 : Shape := ⟨2, ![2048, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S2048x8192, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Glu.lean ====
abbrev S2048x4096 : Shape := ⟨2, ![2048, 4096]⟩
abbrev S2048x512 : Shape := ⟨2, ![2048, 512]⟩
abbrev S256x512 : Shape := ⟨2, ![256, 512]⟩

abbrev nBuf : Space → Nat
  | .hbm => 3
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S2048x512, .f32⟩
  | .hbm, ⟨2, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluReferenceIdeal.lean ====
abbrev S2048x4096 : Shape := ⟨2, ![2048, 4096]⟩
abbrev S2048x512 : Shape := ⟨2, ![2048, 512]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== MergeFwd.lean ====
abbrev S2048x2048 : Shape := ⟨2, ![2048, 2048]⟩
abbrev S4x512x1024 : Shape := ⟨3, ![4, 512, 1024]⟩
abbrev S2048x4096 : Shape := ⟨2, ![2048, 4096]⟩
abbrev S_ : Shape := ⟨0, ![]⟩
abbrev S2048x1024 : Shape := ⟨2, ![2048, 1024]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 15
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S4x512x1024, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x4096, .bf16⟩
  | .hbm, ⟨12, _⟩ => ⟨S2048x2048, .bf16⟩
  | .hbm, ⟨13, _⟩ => ⟨S4x512x1024, .bf16⟩
  | .hbm, ⟨14, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let v1 : BitVec 32 := Scalar.addi v0 arg1
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MergeFwdReferenceIdeal.lean ====
abbrev S2048x2048 : Shape := ⟨2, ![2048, 2048]⟩
abbrev S4x512x1024 : Shape := ⟨3, ![4, 512, 1024]⟩
abbrev S2048x4096 : Shape := ⟨2, ![2048, 4096]⟩
abbrev S2048x4x512 : Shape := ⟨3, ![2048, 4, 512]⟩
abbrev S4x1024x2048 : Shape := ⟨3, ![4, 1024, 2048]⟩
abbrev S2048x4x1024 : Shape := ⟨3, ![2048, 4, 1024]⟩
abbrev S_ : Shape := ⟨0, ![]⟩
abbrev S2048x1024 : Shape := ⟨2, ![2048, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x512x1024, .f32⟩
  | .hbm, ⟨2, _⟩ => ⟨S2048x4096, .f32⟩
  | .hbm, ⟨3, _⟩ => ⟨S2048x4x512, .f32⟩
  | .hbm, ⟨4, _⟩ => ⟨S4x1024x2048, .f32⟩
  | .hbm, ⟨5, _⟩ => ⟨S2048x4x1024, .f32⟩
  | .hbm, ⟨6, _⟩ => ⟨S2048x4x1024, .f32⟩
  | .hbm, ⟨7, _⟩ => ⟨S2048x4x1024, .f32⟩
  | .hbm, ⟨8, _⟩ => ⟨S2048x4x1024, .f32⟩
  | .hbm, ⟨9, _⟩ => ⟨S_, .f32⟩
  | .hbm, ⟨10, _⟩ => ⟨S2048x4x1024, .f32⟩
  | .hbm, ⟨11, _⟩ => ⟨S2048x4x1024, .f32⟩
  | .hbm, ⟨12, _⟩ => ⟨S_, .f32⟩
  | .hbm, ⟨13, _⟩ => ⟨S2048x4x1024, .f32⟩
  | .hbm, ⟨14, _⟩ => ⟨S2048x4x1024, .f32⟩
  | .hbm, ⟨15, _⟩ => ⟨S2048x4x1024, .f32⟩
  | .hbm, ⟨16, _⟩ => ⟨S_, .f32⟩
  | .hbm, ⟨17, _⟩ => ⟨S2048x1024, .f32⟩
  | .hbm, ⟨18, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== OutProj.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S1x1024x1024 : Shape := ⟨3, ![1, 1024, 1024]⟩
abbrev S1x1x1024 : Shape := ⟨3, ![1, 1, 1024]⟩
abbrev S1024x1 : Shape := ⟨2, ![1024, 1]⟩

abbrev nBuf : Space → Nat
  | .hbm => 15
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .bf16⟩
  | .hbm, ⟨5, _⟩ => ⟨S1024x1024, .bf16⟩
  | .hbm, ⟨6, _⟩ => ⟨S1x1024, .f32⟩
  | .hbm, ⟨7, _⟩ => ⟨S1x2048x1024, .bf16⟩
  | .hbm, ⟨8, _⟩ => ⟨S1x1024x1024, .bf16⟩
  | .hbm, ⟨9, _⟩ => ⟨S1x2048x1024, .f32⟩
  | .hbm, ⟨10, _⟩ => ⟨S1x1x1024, .f32⟩
  | .hbm, ⟨11, _⟩ => ⟨S1x2048x1024, .f32⟩
  | .hbm, ⟨12, _⟩ => ⟨S1x2048x1024, .bf16⟩
  | .hbm, ⟨13, _⟩ => ⟨S2048x1024, .f32⟩
  | .hbm, ⟨14, _⟩ => ⟨S2048x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== OutProjReferenceIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MlpUp.lean ====
abbrev S2048x1024 : Shape := ⟨2, ![2048, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x2048x1024 : Shape := ⟨3, ![1, 2048, 1024]⟩
abbrev S1x4x1024x1024 : Shape := ⟨4, ![1, 4, 1024, 1024]⟩
abbrev S1x2048x4096 : Shape := ⟨3, ![1, 2048, 4096]⟩
abbrev S1x1024x1024 : Shape := ⟨3, ![1, 1024, 1024]⟩
abbrev S1x1x1024x1024 : Shape := ⟨4, ![1, 1, 1024, 1024]⟩
abbrev S1024x1024 : Shape := ⟨2, ![1024, 1024]⟩
abbrev S2048x4096 : Shape := ⟨2, ![2048, 4096]⟩

abbrev nBuf : Space → Nat
  | .hbm => 10
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S1x2048x1024, .bf16⟩
  | .hbm, ⟨7, _⟩ => ⟨S1x4x1024x1024, .bf16⟩
  | .hbm, ⟨8, _⟩ => ⟨S1x2048x4096, .bf16⟩
  | .hbm, ⟨9, _⟩ => ⟨S2048x4096, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![arg0.toNat, v17.toNat, arg3.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MlpUpReferenceIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MlpDown.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S1x1024 : Shape := ⟨2, ![1, 1024]⟩
abbrev S1x2048x4096 : Shape := ⟨3, ![1, 2048, 4096]⟩
abbrev S1x4096x1024 : Shape := ⟨3, ![1, 4096, 1024]⟩
abbrev S1x2048x1024 : Shape := ⟨3, ![1, 2048, 1024]⟩
abbrev S1x1x1024 : Shape := ⟨3, ![1, 1, 1024]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 15
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1024, .f32⟩
  | .hbm, ⟨4, _⟩ => ⟨S2048x4096, .bf16⟩
  | .hbm, ⟨5, _⟩ => ⟨S4096x1024, .bf16⟩
  | .hbm, ⟨6, _⟩ => ⟨S1x1024, .f32⟩
  | .hbm, ⟨7, _⟩ => ⟨S1x2048x4096, .bf16⟩
  | .hbm, ⟨8, _⟩ => ⟨S1x4096x1024, .bf16⟩
  | .hbm, ⟨9, _⟩ => ⟨S1x2048x1024, .f32⟩
  | .hbm, ⟨10, _⟩ => ⟨S1x1x1024, .f32⟩
  | .hbm, ⟨11, _⟩ => ⟨S1x2048x1024, .f32⟩
  | .hbm, ⟨12, _⟩ => ⟨S1x2048x1024, .bf16⟩
  | .hbm, ⟨13, _⟩ => ⟨S2048x1024, .f32⟩
  | .hbm, ⟨14, _⟩ => ⟨S2048x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨4, ![1, 2, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== MlpDownReferenceIdeal.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== PleGate.lean ====
abbrev S2048x1024 : Shape := ⟨2, ![2048, 1024]⟩
abbrev S1024x1024 : Shape := ⟨2, ![1024, 1024]⟩
abbrev S1x2048x1024 : Shape := ⟨3, ![1, 2048, 1024]⟩
abbrev S1x1024x1024 : Shape := ⟨3, ![1, 1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S1x2048x1024, .bf16⟩
  | .hbm, ⟨5, _⟩ => ⟨S1x1024x1024, .bf16⟩
  | .hbm, ⟨6, _⟩ => ⟨S1x2048x1024, .f32⟩
  | .hbm, ⟨7, _⟩ => ⟨S2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== PleGateReferenceIdeal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Ple.lean ====
abbrev S2048x256 : Shape := ⟨2, ![2048, 256]⟩
abbrev S256x1024 : Shape := ⟨2, ![256, 1024]⟩
abbrev S2048x1024 : Shape := ⟨2, ![2048, 1024]⟩
abbrev S1x2048x256 : Shape := ⟨3, ![1, 2048, 256]⟩
abbrev S1x256x1024 : Shape := ⟨3, ![1, 256, 1024]⟩
abbrev S1x2048x1024 : Shape := ⟨3, ![1, 2048, 1024]⟩
abbrev S1x1024x256 : Shape := ⟨3, ![1, 1024, 256]⟩
abbrev S1x1024x1024 : Shape := ⟨3, ![1, 1024, 1024]⟩
abbrev S1024x1024 : Shape := ⟨2, ![1024, 1024]⟩
abbrev S1024x256 : Shape := ⟨2, ![1024, 256]⟩

abbrev nBuf : Space → Nat
  | .hbm => 11
  | .vmem => 10
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | .hbm, ⟨3, _⟩ => ⟨S2048x1024, .f32⟩
  | .hbm, ⟨4, _⟩ => ⟨S256x1024, .bf16⟩
  | .hbm, ⟨5, _⟩ => ⟨S1x2048x256, .f32⟩
  | .hbm, ⟨6, _⟩ => ⟨S1x256x1024, .bf16⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S2048x1024, .f32⟩
  | .local _ .vmem, ⟨0, _⟩ => ⟨S1x1024x256, .f32⟩
  | .local _ .vmem, ⟨1, _⟩ => ⟨S1x1024x256, .f32⟩
  | .local _ .vmem, ⟨2, _⟩ => ⟨S1x256x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== PleReferenceIdeal.lean ====
abbrev S2048x256 : Shape := ⟨2, ![2048, 256]⟩
abbrev S256x1024 : Shape := ⟨2, ![256, 1024]⟩
abbrev S2048x1024 : Shape := ⟨2, ![2048, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== AdamIn.lean ====
abbrev S4x1024x2048 : Shape := ⟨3, ![4, 1024, 2048]⟩
abbrev S4096x2048 : Shape := ⟨2, ![4096, 2048]⟩
abbrev S128x2048 : Shape := ⟨2, ![128, 2048]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4x1024x2048, .f32⟩
  | .hbm, ⟨12, _⟩ => ⟨S4x1024x2048, .f32⟩
  | .hbm, ⟨13, _⟩ => ⟨S4x1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4x1024x2048 : Shape := ⟨3, ![4, 1024, 2048]⟩
abbrev S4096x2048 : Shape := ⟨2, ![4096, 2048]⟩
abbrev S128x2048 : Shape := ⟨2, ![128, 2048]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4x1024x2048, .f32⟩
  | .hbm, ⟨12, _⟩ => ⟨S4x1024x2048, .f32⟩
  | .hbm, ⟨13, _⟩ => ⟨S4x1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S4x1024x2048 : Shape := ⟨3, ![4, 1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S_, .f32⟩
  | .hbm, ⟨5, _⟩ => ⟨S4x1024x2048, .f32⟩
  | .hbm, ⟨6, _⟩ => ⟨S4x1024x2048, .f32⟩
  | .hbm, ⟨7, _⟩ => ⟨S_, .f32⟩
  | .hbm, ⟨8, _⟩ => ⟨S4x1024x2048, .f32⟩
  | .hbm, ⟨9, _⟩ => ⟨S4x1024x2048, .f32⟩
  | .hbm, ⟨10, _⟩ => ⟨S4x1024x2048, .f32⟩
  | .hbm, ⟨11, _⟩ => ⟨S_, .f32⟩
  | .hbm, ⟨12, _⟩ => ⟨S4x1024x2048, .f32⟩
  | .hbm, ⟨13, _⟩ => ⟨S4x1024x2048, .f32⟩
  | .hbm, ⟨14, _⟩ => ⟨S4x1024x2048, .f32⟩
  | .hbm, ⟨15, _⟩ => ⟨S_, .f32⟩
  | .hbm, ⟨16, _⟩ => ⟨S4x1024x2048, .f32⟩
  | .hbm, ⟨17, _⟩ => ⟨S4x1024x2048, .f32⟩
  | .hbm, ⟨18, _⟩ => ⟨S4x1024x2048, .f32⟩
  | .hbm, ⟨19, _⟩ => ⟨S_, .f32⟩
  | .hbm, ⟨20, _⟩ => ⟨S4x1024x2048, .f32⟩
  | .hbm, ⟨21, _⟩ => ⟨S4x1024x2048, .f32⟩
  | .hbm, ⟨22, _⟩ => ⟨S_, .f32⟩
  | .hbm, ⟨23, _⟩ => ⟨S4x1024x2048, .f32⟩
  | .hbm, ⟨24, _⟩ => ⟨S4x1024x2048, .f32⟩
  | .hbm, ⟨25, _⟩ => ⟨S4x1024x2048, .f32⟩
  | .hbm, ⟨26, _⟩ => ⟨S_, .f32⟩
  | .hbm, ⟨27, _⟩ => ⟨S4x1024x2048, .f32⟩
  | .hbm, ⟨28, _⟩ => ⟨S4x1024x2048, .f32⟩
  | .hbm, ⟨29, _⟩ => ⟨S4x1024x2048, .f32⟩
  | .hbm, ⟨30, _⟩ => ⟨S_, .f32⟩
  | .hbm, ⟨31, _⟩ => ⟨S4x1024x2048, .f32⟩
  | .hbm, ⟨32, _⟩ => ⟨S4x1024x2048, .f32⟩
  | .hbm, ⟨33, _⟩ => ⟨S4x1024x2048, .f32⟩
  | .hbm, ⟨34, _⟩ => ⟨S_, .f32⟩
  | .hbm, ⟨35, _⟩ => ⟨S4x1024x2048, .f32⟩
  | .hbm, ⟨36, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranch.lean ====
abbrev S4x4x512x256 : Shape := ⟨4, ![4, 4, 512, 256]⟩
abbrev S8192x256 : Shape := ⟨2, ![8192, 256]⟩
abbrev S1024x256 : Shape := ⟨2, ![1024, 256]⟩

abbrev nBuf : Space → Nat
  | .hbm => 14
  | .vmem => 14
  | .smem => 0
  | _ => 0

abbrev bufTy : (tb : Table) → Fin (tcTables nBuf tb) → BufTy
  | .hbm, ⟨0, _⟩ => ⟨S4x4x512x256, .f32⟩
  | .hbm, ⟨1, _⟩ => ⟨S4x4x512x256, .f32⟩
  | .hbm, ⟨2, _⟩ => ⟨S4x4x512x256, .f32⟩
  | .hbm, ⟨3, _⟩ => ⟨S4x4x512x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S4x4x512x256, .f32⟩
  | .hbm, ⟨12, _⟩ => ⟨S4x4x512x256, .f32⟩
  | .hbm, ⟨13, _⟩ => ⟨S4x4x512x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S4x4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchIdeal.lean ====
abbrev S4x4x512x256 : Shape := ⟨4, ![4, 4, 512, 256]⟩
abbrev S8192x256 : Shape := ⟨2, ![8192, 256]⟩
abbrev S1024x256 : Shape := ⟨2, ![1024, 256]⟩

abbrev nBuf : Space → Nat
  | .hbm => 14
  | .vmem => 14
  | .smem => 0
  | _ => 0

abbrev bufTy : (tb : Table) → Fin (tcTables nBuf tb) → BufTy
  | .hbm, ⟨0, _⟩ => ⟨S4x4x512x256, .f32⟩
  | .hbm, ⟨1, _⟩ => ⟨S4x4x512x256, .f32⟩
  | .hbm, ⟨2, _⟩ => ⟨S4x4x512x256, .f32⟩
  | .hbm, ⟨3, _⟩ => ⟨S4x4x512x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S4x4x512x256, .f32⟩
  | .hbm, ⟨12, _⟩ => ⟨S4x4x512x256, .f32⟩
  | .hbm, ⟨13, _⟩ => ⟨S4x4x512x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S4x4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchReferenceIdeal.lean ====
abbrev S4x4x512x256 : Shape := ⟨4, ![4, 4, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4x512x256, .f32⟩
  | .hbm, ⟨1, _⟩ => ⟨S4x4x512x256, .f32⟩
  | .hbm, ⟨2, _⟩ => ⟨S4x4x512x256, .f32⟩
  | .hbm, ⟨3, _⟩ => ⟨S4x4x512x256, .f32⟩
  | .hbm, ⟨4, _⟩ => ⟨S_, .f32⟩
  | .hbm, ⟨5, _⟩ => ⟨S4x4x512x256, .f32⟩
  | .hbm, ⟨6, _⟩ => ⟨S4x4x512x256, .f32⟩
  | .hbm, ⟨7, _⟩ => ⟨S_, .f32⟩
  | .hbm, ⟨8, _⟩ => ⟨S4x4x512x256, .f32⟩
  | .hbm, ⟨9, _⟩ => ⟨S4x4x512x256, .f32⟩
  | .hbm, ⟨10, _⟩ => ⟨S4x4x512x256, .f32⟩
  | .hbm, ⟨11, _⟩ => ⟨S_, .f32⟩
  | .hbm, ⟨12, _⟩ => ⟨S4x4x512x256, .f32⟩
  | .hbm, ⟨13, _⟩ => ⟨S4x4x512x256, .f32⟩
  | .hbm, ⟨14, _⟩ => ⟨S4x4x512x256, .f32⟩
  | .hbm, ⟨15, _⟩ => ⟨S_, .f32⟩
  | .hbm, ⟨16, _⟩ => ⟨S4x4x512x256, .f32⟩
  | .hbm, ⟨17, _⟩ => ⟨S4x4x512x256, .f32⟩
  | .hbm, ⟨18, _⟩ => ⟨S4x4x512x256, .f32⟩
  | .hbm, ⟨19, _⟩ => ⟨S_, .f32⟩
  | .hbm, ⟨20, _⟩ => ⟨S4x4x512x256, .f32⟩
  | .hbm, ⟨21, _⟩ => ⟨S4x4x512x256, .f32⟩
  | .hbm, ⟨22, _⟩ => ⟨S_, .f32⟩
  | .hbm, ⟨23, _⟩ => ⟨S4x4x512x256, .f32⟩
  | .hbm, ⟨24, _⟩ => ⟨S4x4x512x256, .f32⟩
  | .hbm, ⟨25, _⟩ => ⟨S4x4x512x256, .f32⟩
  | .hbm, ⟨26, _⟩ => ⟨S_, .f32⟩
  | .hbm, ⟨27, _⟩ => ⟨S4x4x512x256, .f32⟩
  | .hbm, ⟨28, _⟩ => ⟨S4x4x512x256, .f32⟩
  | .hbm, ⟨29, _⟩ => ⟨S4x4x512x256, .f32⟩
  | .hbm, ⟨30, _⟩ => ⟨S_, .f32⟩
  | .hbm, ⟨31, _⟩ => ⟨S4x4x512x256, .f32⟩
  | .hbm, ⟨32, _⟩ => ⟨S4x4x512x256, .f32⟩
  | .hbm, ⟨33, _⟩ => ⟨S4x4x512x256, .f32⟩
  | .hbm, ⟨34, _⟩ => ⟨S_, .f32⟩
  | .hbm, ⟨35, _⟩ => ⟨S4x4x512x256, .f32⟩
  | .hbm, ⟨36, _⟩ => ⟨S4x4x512x256, .f32⟩
  | _, _ => ⟨S4x4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S4x1024x1024 : Shape := ⟨3, ![4, 1024, 1024]⟩
abbrev S4096x1024 : Shape := ⟨2, ![4096, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S4x1024x1024 : Shape := ⟨3, ![4, 1024, 1024]⟩
abbrev S4096x1024 : Shape := ⟨2, ![4096, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpReferenceIdeal.lean ====
abbrev S4x1024x1024 : Shape := ⟨3, ![4, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPle.lean ====
abbrev S4x256x256 : Shape := ⟨3, ![4, 256, 256]⟩
abbrev S1024x256 : Shape := ⟨2, ![1024, 256]⟩

abbrev nBuf : Space → Nat
  | .hbm => 14
  | .vmem => 7
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S4x256x256, .f32⟩
  | .hbm, ⟨12, _⟩ => ⟨S4x256x256, .f32⟩
  | .hbm, ⟨13, _⟩ => ⟨S4x256x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPleReferenceIdeal.lean ====
abbrev S4x256x256 : Shape := ⟨3, ![4, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S_, .f32⟩
  | .hbm, ⟨5, _⟩ => ⟨S4x256x256, .f32⟩
  | .hbm, ⟨6, _⟩ => ⟨S4x256x256, .f32⟩
  | .hbm, ⟨7, _⟩ => ⟨S_, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S_, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S_, .f32⟩
  | .hbm, ⟨23, _⟩ => ⟨S4x256x256, .f32⟩
  | .hbm, ⟨24, _⟩ => ⟨S4x256x256, .f32⟩
  | .hbm, ⟨25, _⟩ => ⟨S4x256x256, .f32⟩
  | .hbm, ⟨26, _⟩ => ⟨S_, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SeqFwd.lean ====
abbrev S2048x512 : Shape := ⟨2, ![2048, 512]⟩
abbrev S2048x4096 : Shape := ⟨2, ![2048, 4096]⟩
abbrev S31x512 : Shape := ⟨2, ![31, 512]⟩
abbrev S3x512 : Shape := ⟨2, ![3, 512]⟩
abbrev S512x128 : Shape := ⟨2, ![512, 128]⟩
abbrev S32x128 : Shape := ⟨2, ![32, 128]⟩
abbrev S31x128 : Shape := ⟨2, ![31, 128]⟩
abbrev S3x128 : Shape := ⟨2, ![3, 128]⟩
abbrev S544x128 : Shape := ⟨2, ![544, 128]⟩
abbrev S1x128 : Shape := ⟨2, ![1, 128]⟩
abbrev S544x1 : Shape := ⟨2, ![544, 1]⟩

abbrev nBuf : Space → Nat
  | .hbm => 8
  | .vmem => 22
  | .smem => 0
  | _ => 0

abbrev bufTy : (tb : Table) → Fin (tcTables nBuf tb) → BufTy
  | .hbm, ⟨0, _⟩ => ⟨S2048x512, .f32⟩
  | .hbm, ⟨1, _⟩ => ⟨S2048x4096, .f32⟩
  | .hbm, ⟨2, _⟩ => ⟨S2048x512, .f32⟩
  | .hbm, ⟨3, _⟩ => ⟨S31x512, .f32⟩
  | .hbm, ⟨4, _⟩ => ⟨S3x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S512x128, .f32⟩
  | .local _ .vmem, ⟨1, _⟩ => ⟨S512x128, .f32⟩
  | .local _ .vmem, ⟨2, _⟩ => ⟨S32x128, .f32⟩
  | .local _ .vmem, ⟨3, _⟩ => ⟨S32x128, .f32⟩
  | .local _ .vmem, ⟨4, _⟩ => ⟨S512x128, .f32⟩
  | .local _ .vmem, ⟨5, _⟩ => ⟨S512x128, .f32⟩
  | .local _ .vmem, ⟨6, _⟩ => ⟨S32x128, .f32⟩
  | .local _ .vmem, ⟨7, _⟩ => ⟨S32x128, .f32⟩
  | .local _ .vmem, ⟨8, _⟩ => ⟨S512x128, .f32⟩
  | .local _ .vmem, ⟨9, _⟩ => ⟨S512x128, .f32⟩
  | .local _ .vmem, ⟨10, _⟩ => ⟨S32x128, .f32⟩
  | .local _ .vmem, ⟨11, _⟩ => ⟨S32x128, .f32⟩
  | .local _ .vmem, ⟨12, _⟩ => ⟨S31x128, .f32⟩
  | .local _ .vmem, ⟨13, _⟩ => ⟨S31x128, .f32⟩
  | .local _ .vmem, ⟨14, _⟩ => ⟨S3x128, .f32⟩
  | .local _ .vmem, ⟨15, _⟩ => ⟨S3x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SeqFwdReferenceIdeal.lean ====
abbrev S2048x512 : Shape := ⟨2, ![2048, 512]⟩
abbrev S2048x4096 : Shape := ⟨2, ![2048, 4096]⟩
abbrev S31x512 : Shape := ⟨2, ![31, 512]⟩
abbrev S3x512 : Shape := ⟨2, ![3, 512]⟩
abbrev S2048x128 : Shape := ⟨2, ![2048, 128]⟩
abbrev S_ : Shape := ⟨0, ![]⟩
abbrev S2049x128 : Shape := ⟨2, ![2049, 128]⟩
abbrev S2050x128 : Shape := ⟨2, ![2050, 128]⟩
abbrev S2051x128 : Shape := ⟨2, ![2051, 128]⟩
abbrev S2052x128 : Shape := ⟨2, ![2052, 128]⟩
abbrev S2053x128 : Shape := ⟨2, ![2053, 128]⟩
abbrev S2054x128 : Shape := ⟨2, ![2054, 128]⟩
abbrev S2055x128 : Shape := ⟨2, ![2055, 128]⟩
abbrev S2056x128 : Shape := ⟨2, ![2056, 128]⟩
abbrev S2057x128 : Shape := ⟨2, ![2057, 128]⟩
abbrev S2058x128 : Shape := ⟨2, ![2058, 128]⟩
abbrev S2059x128 : Shape := ⟨2, ![2059, 128]⟩
abbrev S2060x128 : Shape := ⟨2, ![2060, 128]⟩
abbrev S2061x128 : Shape := ⟨2, ![2061, 128]⟩
abbrev S2062x128 : Shape := ⟨2, ![2062, 128]⟩
abbrev S2063x128 : Shape := ⟨2, ![2063, 128]⟩
abbrev S1x512 : Shape := ⟨2, ![1, 512]⟩
abbrev S512 : Shape := ⟨1, ![512]⟩
abbrev S2078x512 : Shape := ⟨2, ![2078, 512]⟩
abbrev S2077x512 : Shape := ⟨2, ![2077, 512]⟩
abbrev S2076x512 : Shape := ⟨2, ![2076, 512]⟩
abbrev S2075x512 : Shape := ⟨2, ![2075, 512]⟩
abbrev S2074x512 : Shape := ⟨2, ![2074, 512]⟩
abbrev S2073x512 : Shape := ⟨2, ![2073, 512]⟩
abbrev S2072x512 : Shape := ⟨2, ![2072, 512]⟩
abbrev S2071x512 : Shape := ⟨2, ![2071, 512]⟩
abbrev S2070x512 : Shape := ⟨2, ![2070, 512]⟩
abbrev S2069x512 : Shape := ⟨2, ![2069, 512]⟩
abbrev S2068x512 : Shape := ⟨2, ![2068, 512]⟩
abbrev S2067x512 : Shape := ⟨2, ![2067, 512]⟩
abbrev S2066x512 : Shape := ⟨2, ![2066, 512]⟩
abbrev S2065x512 : Shape := ⟨2, ![2065, 512]⟩
abbrev S2064x512 : Shape := ⟨2, ![2064, 512]⟩
abbrev S2063x512 : Shape := ⟨2, ![2063, 512]⟩
abbrev S2062x512 : Shape := ⟨2, ![2062, 512]⟩
abbrev S2061x512 : Shape := ⟨2, ![2061, 512]⟩
abbrev S2060x512 : Shape := ⟨2, ![2060, 512]⟩
abbrev S2059x512 : Shape := ⟨2, ![2059, 512]⟩
abbrev S2058x512 : Shape := ⟨2, ![2058, 512]⟩
abbrev S2057x512 : Shape := ⟨2, ![2057, 512]⟩
abbrev S2056x512 : Shape := ⟨2, ![2056, 512]⟩
abbrev S2055x512 : Shape := ⟨2, ![2055, 512]⟩
abbrev S2054x512 : Shape := ⟨2, ![2054, 512]⟩
abbrev S2053x512 : Shape := ⟨2, ![2053, 512]⟩
abbrev S2052x512 : Shape := ⟨2, ![2052, 512]⟩
abbrev S2051x512 : Shape := ⟨2, ![2051, 512]⟩
abbrev S2050x512 : Shape := ⟨2, ![2050, 512]⟩
abbrev S2049x512 : Shape := ⟨2, ![2049, 512]⟩

abbrev nBuf : Space → Nat
  | .hbm => 547
  | .vmem => 0
  | .smem => 0
  | _ => 0

abbrev hbmTy0_0 (i : Nat) : BufTy := match i % 128 with
  | 0 => ⟨S2048x512, .f32⟩
  | 1 => ⟨S2048x4096, .f32⟩
  | 2 => ⟨S2048x512, .f32⟩
  | 3 => ⟨S31x512, .f32⟩
  | 4 => ⟨S3x512, .f32⟩
  | 5 => ⟨S2048x512, .f32⟩
  | 6 => ⟨S2048x128, .f32⟩
  | 7 => ⟨S2048x128, .i32⟩
  | 8 => ⟨S2048x128, .f32⟩
  | 9 => ⟨S_, .f32⟩
  | 10 => ⟨S2048x128, .f32⟩
  | 11 => ⟨S2048x128, .f32⟩
  | 12 => ⟨S_, .i32⟩
  | 13 => ⟨S_, .f32⟩
  | 14 => ⟨S2048x128, .f32⟩
  | 15 => ⟨S_, .f32⟩
  | 16 => ⟨S2048x128, .f32⟩
  | 17 => ⟨S2048x128, .f32⟩
  | 18 => ⟨S_, .i32⟩
  | 19 => ⟨S_, .f32⟩
  | 20 => ⟨S2049x128, .f32⟩
  | 21 => ⟨S2048x128, .f32⟩
  | 22 => ⟨S2048x128, .f32⟩
  | 23 => ⟨S_, .f32⟩
  | 24 => ⟨S2048x128, .f32⟩
  | 25 => ⟨S2048x128, .f32⟩
  | 26 => ⟨S2048x128, .f32⟩
  | 27 => ⟨S2048x128, .f32⟩
  | 28 => ⟨S2048x128, .f32⟩
  | 29 => ⟨S2048x128, .i32⟩
  | 30 => ⟨S2048x128, .f32⟩
  | 31 => ⟨S_, .f32⟩
  | 32 => ⟨S2048x128, .f32⟩
  | 33 => ⟨S2048x128, .f32⟩
  | 34 => ⟨S_, .i32⟩
  | 35 => ⟨S_, .f32⟩
  | 36 => ⟨S2048x128, .f32⟩
  | 37 => ⟨S_, .f32⟩
  | 38 => ⟨S2048x128, .f32⟩
  | 39 => ⟨S2048x128, .f32⟩
  | 40 => ⟨S_, .i32⟩
  | 41 => ⟨S_, .f32⟩
  | 42 => ⟨S2049x128, .f32⟩
  | 43 => ⟨S2048x128, .f32⟩
  | 44 => ⟨S2048x128, .f32⟩
  | 45 => ⟨S_, .i32⟩
  | 46 => ⟨S_, .f32⟩
  | 47 => ⟨S2050x128, .f32⟩
  | 48 => ⟨S2048x128, .f32⟩
  | 49 => ⟨S2048x128, .f32⟩
  | 50 => ⟨S_, .i32⟩
  | 51 => ⟨S_, .f32⟩
  | 52 => ⟨S2051x128, .f32⟩
  | 53 => ⟨S2048x128, .f32⟩
  | 54 => ⟨S2048x128, .f32⟩
  | 55 => ⟨S_, .f32⟩
  | 56 => ⟨S2048x128, .f32⟩
  | 57 => ⟨S2048x128, .f32⟩
  | 58 => ⟨S2048x128, .f32⟩
  | 59 => ⟨S2048x128, .f32⟩
  | 60 => ⟨S2048x128, .f32⟩
  | 61 => ⟨S2048x128, .i32⟩
  | 62 => ⟨S2048x128, .f32⟩
  | 63 => ⟨S_, .f32⟩
  | 64 => ⟨S2048x128, .f32⟩
  | 65 => ⟨S2048x128, .f32⟩
  | 66 => ⟨S_, .i32⟩
  | 67 => ⟨S_, .f32⟩
  | 68 => ⟨S2048x128, .f32⟩
  | 69 => ⟨S_, .f32⟩
  | 70 => ⟨S2048x128, .f32⟩
  | 71 => ⟨S2048x128, .f32⟩
  | 72 => ⟨S_, .i32⟩
  | 73 => ⟨S_, .f32⟩
  | 74 => ⟨S2049x128, .f32⟩
  | 75 => ⟨S2048x128, .f32⟩
  | 76 => ⟨S2048x128, .f32⟩
  | 77 => ⟨S_, .i32⟩
  | 78 => ⟨S_, .f32⟩
  | 79 => ⟨S2050x128, .f32⟩
  | 80 => ⟨S2048x128, .f32⟩
  | 81 => ⟨S2048x128, .f32⟩
  | 82 => ⟨S_, .i32⟩
  | 83 => ⟨S_, .f32⟩
  | 84 => ⟨S2051x128, .f32⟩
  | 85 => ⟨S2048x128, .f32⟩
  | 86 => ⟨S2048x128, .f32⟩
  | 87 => ⟨S_, .i32⟩
  | 88 => ⟨S_, .f32⟩
  | 89 => ⟨S2052x128, .f32⟩
  | 90 => ⟨S2048x128, .f32⟩
  | 91 => ⟨S2048x128, .f32⟩
  | 92 => ⟨S_, .i32⟩
  | 93 => ⟨S_, .f32⟩
  | 94 => ⟨S2053x128, .f32⟩
  | 95 => ⟨S2048x128, .f32⟩
  | 96 => ⟨S2048x128, .f32⟩
  | 97 => ⟨S_, .i32⟩
  | 98 => ⟨S_, .f32⟩
  | 99 => ⟨S2054x128, .f32⟩
  | 100 => ⟨S2048x128, .f32⟩
  | 101 => ⟨S2048x128, .f32⟩
  | 102 => ⟨S_, .i32⟩
  | 103 => ⟨S_, .f32⟩
  | 104 => ⟨S2055x128, .f32⟩
  | 105 => ⟨S2048x128, .f32⟩
  | 106 => ⟨S2048x128, .f32⟩
  | 107 => ⟨S_, .f32⟩
  | 108 => ⟨S2048x128, .f32⟩
  | 109 => ⟨S2048x128, .f32⟩
  | 110 => ⟨S2048x128, .f32⟩
  | 111 => ⟨S2048x128, .f32⟩
  | 112 => ⟨S2048x128, .f32⟩
  | 113 => ⟨S2048x128, .i32⟩
  | 114 => ⟨S2048x128, .f32⟩
  | 115 => ⟨S_, .f32⟩
  | 116 => ⟨S2048x128, .f32⟩
  | 117 => ⟨S2048x128, .f32⟩
  | 118 => ⟨S_, .i32⟩
  | 119 => ⟨S_, .f32⟩
  | 120 => ⟨S2048x128, .f32⟩
  | 121 => ⟨S_, .f32⟩
  | 122 => ⟨S2048x128, .f32⟩
  | 123 => ⟨S2048x128, .f32⟩
  | 124 => ⟨S_, .i32⟩
  | 125 => ⟨S_, .f32⟩
  | 126 => ⟨S2049x128, .f32⟩
  | 127 => ⟨S2048x128, .f32⟩
  | _ => ⟨S2048x512, .f32⟩

abbrev hbmTy0_1 (i : Nat) : BufTy := match i % 128 with
  | 0 => ⟨S2048x128, .f32⟩
  | 1 => ⟨S_, .i32⟩
  | 2 => ⟨S_, .f32⟩
  | 3 => ⟨S2050x128, .f32⟩
  | 4 => ⟨S2048x128, .f32⟩
  | 5 => ⟨S2048x128, .f32⟩
  | 6 => ⟨S_, .i32⟩
  | 7 => ⟨S_, .f32⟩
  | 8 => ⟨S2051x128, .f32⟩
  | 9 => ⟨S2048x128, .f32⟩
  | 10 => ⟨S2048x128, .f32⟩
  | 11 => ⟨S_, .i32⟩
  | 12 => ⟨S_, .f32⟩
  | 13 => ⟨S2052x128, .f32⟩
  | 14 => ⟨S2048x128, .f32⟩
  | 15 => ⟨S2048x128, .f32⟩
  | 16 => ⟨S_, .i32⟩
  | 17 => ⟨S_, .f32⟩
  | 18 => ⟨S2053x128, .f32⟩
  | 19 => ⟨S2048x128, .f32⟩
  | 20 => ⟨S2048x128, .f32⟩
  | 21 => ⟨S_, .i32⟩
  | 22 => ⟨S_, .f32⟩
  | 23 => ⟨S2054x128, .f32⟩
  | 24 => ⟨S2048x128, .f32⟩
  | 25 => ⟨S2048x128, .f32⟩
  | 26 => ⟨S_, .i32⟩
  | 27 => ⟨S_, .f32⟩
  | 28 => ⟨S2055x128, .f32⟩
  | 29 => ⟨S2048x128, .f32⟩
  | 30 => ⟨S2048x128, .f32⟩
  | 31 => ⟨S_, .i32⟩
  | 32 => ⟨S_, .f32⟩
  | 33 => ⟨S2056x128, .f32⟩
  | 34 => ⟨S2048x128, .f32⟩
  | 35 => ⟨S2048x128, .f32⟩
  | 36 => ⟨S_, .i32⟩
  | 37 => ⟨S_, .f32⟩
  | 38 => ⟨S2057x128, .f32⟩
  | 39 => ⟨S2048x128, .f32⟩
  | 40 => ⟨S2048x128, .f32⟩
  | 41 => ⟨S_, .i32⟩
  | 42 => ⟨S_, .f32⟩
  | 43 => ⟨S2058x128, .f32⟩
  | 44 => ⟨S2048x128, .f32⟩
  | 45 => ⟨S2048x128, .f32⟩
  | 46 => ⟨S_, .i32⟩
  | 47 => ⟨S_, .f32⟩
  | 48 => ⟨S2059x128, .f32⟩
  | 49 => ⟨S2048x128, .f32⟩
  | 50 => ⟨S2048x128, .f32⟩
  | 51 => ⟨S_, .i32⟩
  | 52 => ⟨S_, .f32⟩
  | 53 => ⟨S2060x128, .f32⟩
  | 54 => ⟨S2048x128, .f32⟩
  | 55 => ⟨S2048x128, .f32⟩
  | 56 => ⟨S_, .i32⟩
  | 57 => ⟨S_, .f32⟩
  | 58 => ⟨S2061x128, .f32⟩
  | 59 => ⟨S2048x128, .f32⟩
  | 60 => ⟨S2048x128, .f32⟩
  | 61 => ⟨S_, .i32⟩
  | 62 => ⟨S_, .f32⟩
  | 63 => ⟨S2062x128, .f32⟩
  | 64 => ⟨S2048x128, .f32⟩
  | 65 => ⟨S2048x128, .f32⟩
  | 66 => ⟨S_, .i32⟩
  | 67 => ⟨S_, .f32⟩
  | 68 => ⟨S2063x128, .f32⟩
  | 69 => ⟨S2048x128, .f32⟩
  | 70 => ⟨S2048x128, .f32⟩
  | 71 => ⟨S_, .f32⟩
  | 72 => ⟨S2048x128, .f32⟩
  | 73 => ⟨S2048x128, .f32⟩
  | 74 => ⟨S2048x128, .f32⟩
  | 75 => ⟨S2048x128, .f32⟩
  | 76 => ⟨S2048x512, .f32⟩
  | 77 => ⟨S1x512, .f32⟩
  | 78 => ⟨S512, .f32⟩
  | 79 => ⟨S_, .i32⟩
  | 80 => ⟨S_, .f32⟩
  | 81 => ⟨S2078x512, .f32⟩
  | 82 => ⟨S2048x512, .f32⟩
  | 83 => ⟨S1x512, .f32⟩
  | 84 => ⟨S2048x512, .f32⟩
  | 85 => ⟨S2048x512, .f32⟩
  | 86 => ⟨S_, .f32⟩
  | 87 => ⟨S2048x512, .f32⟩
  | 88 => ⟨S2048x512, .f32⟩
  | 89 => ⟨S1x512, .f32⟩
  | 90 => ⟨S512, .f32⟩
  | 91 => ⟨S_, .i32⟩
  | 92 => ⟨S_, .f32⟩
  | 93 => ⟨S2077x512, .f32⟩
  | 94 => ⟨S2048x512, .f32⟩
  | 95 => ⟨S1x512, .f32⟩
  | 96 => ⟨S2048x512, .f32⟩
  | 97 => ⟨S2048x512, .f32⟩
  | 98 => ⟨S2048x512, .f32⟩
  | 99 => ⟨S1x512, .f32⟩
  | 100 => ⟨S512, .f32⟩
  | 101 => ⟨S_, .i32⟩
  | 102 => ⟨S_, .f32⟩
  | 103 => ⟨S2076x512, .f32⟩
  | 104 => ⟨S2048x512, .f32⟩
  | 105 => ⟨S1x512, .f32⟩
  | 106 => ⟨S2048x512, .f32⟩
  | 107 => ⟨S2048x512, .f32⟩
  | 108 => ⟨S2048x512, .f32⟩
  | 109 => ⟨S1x512, .f32⟩
  | 110 => ⟨S512, .f32⟩
  | 111 => ⟨S_, .i32⟩
  | 112 => ⟨S_, .f32⟩
  | 113 => ⟨S2075x512, .f32⟩
  | 114 => ⟨S2048x512, .f32⟩
  | 115 => ⟨S1x512, .f32⟩
  | 116 => ⟨S2048x512, .f32⟩
  | 117 => ⟨S2048x512, .f32⟩
  | 118 => ⟨S2048x512, .f32⟩
  | 119 => ⟨S1x512, .f32⟩
  | 120 => ⟨S512, .f32⟩
  | 121 => ⟨S_, .i32⟩
  | 122 => ⟨S_, .f32⟩
  | 123 => ⟨S2074x512, .f32⟩
  | 124 => ⟨S2048x512, .f32⟩
  | 125 => ⟨S1x512, .f32⟩
  | 126 => ⟨S2048x512, .f32⟩
  | 127 => ⟨S2048x512, .f32⟩
  | _ => ⟨S2048x512, .f32⟩

abbrev hbmTy0_2 (i : Nat) : BufTy := match i % 128 with
  | 0 => ⟨S2048x512, .f32⟩
  | 1 => ⟨S1x512, .f32⟩
  | 2 => ⟨S512, .f32⟩
  | 3 => ⟨S_, .i32⟩
  | 4 => ⟨S_, .f32⟩
  | 5 => ⟨S2073x512, .f32⟩
  | 6 => ⟨S2048x512, .f32⟩
  | 7 => ⟨S1x512, .f32⟩
  | 8 => ⟨S2048x512, .f32⟩
  | 9 => ⟨S2048x512, .f32⟩
  | 10 => ⟨S2048x512, .f32⟩
  | 11 => ⟨S1x512, .f32⟩
  | 12 => ⟨S512, .f32⟩
  | 13 => ⟨S_, .i32⟩
  | 14 => ⟨S_, .f32⟩
  | 15 => ⟨S2072x512, .f32⟩
  | 16 => ⟨S2048x512, .f32⟩
  | 17 => ⟨S1x512, .f32⟩
  | 18 => ⟨S2048x512, .f32⟩
  | 19 => ⟨S2048x512, .f32⟩
  | 20 => ⟨S2048x512, .f32⟩
  | 21 => ⟨S1x512, .f32⟩
  | 22 => ⟨S512, .f32⟩
  | 23 => ⟨S_, .i32⟩
  | 24 => ⟨S_, .f32⟩
  | 25 => ⟨S2071x512, .f32⟩
  | 26 => ⟨S2048x512, .f32⟩
  | 27 => ⟨S1x512, .f32⟩
  | 28 => ⟨S2048x512, .f32⟩
  | 29 => ⟨S2048x512, .f32⟩
  | 30 => ⟨S2048x512, .f32⟩
  | 31 => ⟨S1x512, .f32⟩
  | 32 => ⟨S512, .f32⟩
  | 33 => ⟨S_, .i32⟩
  | 34 => ⟨S_, .f32⟩
  | 35 => ⟨S2070x512, .f32⟩
  | 36 => ⟨S2048x512, .f32⟩
  | 37 => ⟨S1x512, .f32⟩
  | 38 => ⟨S2048x512, .f32⟩
  | 39 => ⟨S2048x512, .f32⟩
  | 40 => ⟨S2048x512, .f32⟩
  | 41 => ⟨S1x512, .f32⟩
  | 42 => ⟨S512, .f32⟩
  | 43 => ⟨S_, .i32⟩
  | 44 => ⟨S_, .f32⟩
  | 45 => ⟨S2069x512, .f32⟩
  | 46 => ⟨S2048x512, .f32⟩
  | 47 => ⟨S1x512, .f32⟩
  | 48 => ⟨S2048x512, .f32⟩
  | 49 => ⟨S2048x512, .f32⟩
  | 50 => ⟨S2048x512, .f32⟩
  | 51 => ⟨S1x512, .f32⟩
  | 52 => ⟨S512, .f32⟩
  | 53 => ⟨S_, .i32⟩
  | 54 => ⟨S_, .f32⟩
  | 55 => ⟨S2068x512, .f32⟩
  | 56 => ⟨S2048x512, .f32⟩
  | 57 => ⟨S1x512, .f32⟩
  | 58 => ⟨S2048x512, .f32⟩
  | 59 => ⟨S2048x512, .f32⟩
  | 60 => ⟨S2048x512, .f32⟩
  | 61 => ⟨S1x512, .f32⟩
  | 62 => ⟨S512, .f32⟩
  | 63 => ⟨S_, .i32⟩
  | 64 => ⟨S_, .f32⟩
  | 65 => ⟨S2067x512, .f32⟩
  | 66 => ⟨S2048x512, .f32⟩
  | 67 => ⟨S1x512, .f32⟩
  | 68 => ⟨S2048x512, .f32⟩
  | 69 => ⟨S2048x512, .f32⟩
  | 70 => ⟨S2048x512, .f32⟩
  | 71 => ⟨S1x512, .f32⟩
  | 72 => ⟨S512, .f32⟩
  | 73 => ⟨S_, .i32⟩
  | 74 => ⟨S_, .f32⟩
  | 75 => ⟨S2066x512, .f32⟩
  | 76 => ⟨S2048x512, .f32⟩
  | 77 => ⟨S1x512, .f32⟩
  | 78 => ⟨S2048x512, .f32⟩
  | 79 => ⟨S2048x512, .f32⟩
  | 80 => ⟨S2048x512, .f32⟩
  | 81 => ⟨S1x512, .f32⟩
  | 82 => ⟨S512, .f32⟩
  | 83 => ⟨S_, .i32⟩
  | 84 => ⟨S_, .f32⟩
  | 85 => ⟨S2065x512, .f32⟩
  | 86 => ⟨S2048x512, .f32⟩
  | 87 => ⟨S1x512, .f32⟩
  | 88 => ⟨S2048x512, .f32⟩
  | 89 => ⟨S2048x512, .f32⟩
  | 90 => ⟨S2048x512, .f32⟩
  | 91 => ⟨S1x512, .f32⟩
  | 92 => ⟨S512, .f32⟩
  | 93 => ⟨S_, .i32⟩
  | 94 => ⟨S_, .f32⟩
  | 95 => ⟨S2064x512, .f32⟩
  | 96 => ⟨S2048x512, .f32⟩
  | 97 => ⟨S1x512, .f32⟩
  | 98 => ⟨S2048x512, .f32⟩
  | 99 => ⟨S2048x512, .f32⟩
  | 100 => ⟨S2048x512, .f32⟩
  | 101 => ⟨S1x512, .f32⟩
  | 102 => ⟨S512, .f32⟩
  | 103 => ⟨S_, .i32⟩
  | 104 => ⟨S_, .f32⟩
  | 105 => ⟨S2063x512, .f32⟩
  | 106 => ⟨S2048x512, .f32⟩
  | 107 => ⟨S1x512, .f32⟩
  | 108 => ⟨S2048x512, .f32⟩
  | 109 => ⟨S2048x512, .f32⟩
  | 110 => ⟨S2048x512, .f32⟩
  | 111 => ⟨S1x512, .f32⟩
  | 112 => ⟨S512, .f32⟩
  | 113 => ⟨S_, .i32⟩
  | 114 => ⟨S_, .f32⟩
  | 115 => ⟨S2062x512, .f32⟩
  | 116 => ⟨S2048x512, .f32⟩
  | 117 => ⟨S1x512, .f32⟩
  | 118 => ⟨S2048x512, .f32⟩
  | 119 => ⟨S2048x512, .f32⟩
  | 120 => ⟨S2048x512, .f32⟩
  | 121 => ⟨S1x512, .f32⟩
  | 122 => ⟨S512, .f32⟩
  | 123 => ⟨S_, .i32⟩
  | 124 => ⟨S_, .f32⟩
  | 125 => ⟨S2061x512, .f32⟩
  | 126 => ⟨S2048x512, .f32⟩
  | 127 => ⟨S1x512, .f32⟩
  | _ => ⟨S2048x512, .f32⟩

abbrev hbmTy0_3 (i : Nat) : BufTy := match i % 128 with
  | 0 => ⟨S2048x512, .f32⟩
  | 1 => ⟨S2048x512, .f32⟩
  | 2 => ⟨S2048x512, .f32⟩
  | 3 => ⟨S1x512, .f32⟩
  | 4 => ⟨S512, .f32⟩
  | 5 => ⟨S_, .i32⟩
  | 6 => ⟨S_, .f32⟩
  | 7 => ⟨S2060x512, .f32⟩
  | 8 => ⟨S2048x512, .f32⟩
  | 9 => ⟨S1x512, .f32⟩
  | 10 => ⟨S2048x512, .f32⟩
  | 11 => ⟨S2048x512, .f32⟩
  | 12 => ⟨S2048x512, .f32⟩
  | 13 => ⟨S1x512, .f32⟩
  | 14 => ⟨S512, .f32⟩
  | 15 => ⟨S_, .i32⟩
  | 16 => ⟨S_, .f32⟩
  | 17 => ⟨S2059x512, .f32⟩
  | 18 => ⟨S2048x512, .f32⟩
  | 19 => ⟨S1x512, .f32⟩
  | 20 => ⟨S2048x512, .f32⟩
  | 21 => ⟨S2048x512, .f32⟩
  | 22 => ⟨S2048x512, .f32⟩
  | 23 => ⟨S1x512, .f32⟩
  | 24 => ⟨S512, .f32⟩
  | 25 => ⟨S_, .i32⟩
  | 26 => ⟨S_, .f32⟩
  | 27 => ⟨S2058x512, .f32⟩
  | 28 => ⟨S2048x512, .f32⟩
  | 29 => ⟨S1x512, .f32⟩
  | 30 => ⟨S2048x512, .f32⟩
  | 31 => ⟨S2048x512, .f32⟩
  | 32 => ⟨S2048x512, .f32⟩
  | 33 => ⟨S1x512, .f32⟩
  | 34 => ⟨S512, .f32⟩
  | 35 => ⟨S_, .i32⟩
  | 36 => ⟨S_, .f32⟩
  | 37 => ⟨S2057x512, .f32⟩
  | 38 => ⟨S2048x512, .f32⟩
  | 39 => ⟨S1x512, .f32⟩
  | 40 => ⟨S2048x512, .f32⟩
  | 41 => ⟨S2048x512, .f32⟩
  | 42 => ⟨S2048x512, .f32⟩
  | 43 => ⟨S1x512, .f32⟩
  | 44 => ⟨S512, .f32⟩
  | 45 => ⟨S_, .i32⟩
  | 46 => ⟨S_, .f32⟩
  | 47 => ⟨S2056x512, .f32⟩
  | 48 => ⟨S2048x512, .f32⟩
  | 49 => ⟨S1x512, .f32⟩
  | 50 => ⟨S2048x512, .f32⟩
  | 51 => ⟨S2048x512, .f32⟩
  | 52 => ⟨S2048x512, .f32⟩
  | 53 => ⟨S1x512, .f32⟩
  | 54 => ⟨S512, .f32⟩
  | 55 => ⟨S_, .i32⟩
  | 56 => ⟨S_, .f32⟩
  | 57 => ⟨S2055x512, .f32⟩
  | 58 => ⟨S2048x512, .f32⟩
  | 59 => ⟨S1x512, .f32⟩
  | 60 => ⟨S2048x512, .f32⟩
  | 61 => ⟨S2048x512, .f32⟩
  | 62 => ⟨S2048x512, .f32⟩
  | 63 => ⟨S1x512, .f32⟩
  | 64 => ⟨S512, .f32⟩
  | 65 => ⟨S_, .i32⟩
  | 66 => ⟨S_, .f32⟩
  | 67 => ⟨S2054x512, .f32⟩
  | 68 => ⟨S2048x512, .f32⟩
  | 69 => ⟨S1x512, .f32⟩
  | 70 => ⟨S2048x512, .f32⟩
  | 71 => ⟨S2048x512, .f32⟩
  | 72 => ⟨S2048x512, .f32⟩
  | 73 => ⟨S1x512, .f32⟩
  | 74 => ⟨S512, .f32⟩
  | 75 => ⟨S_, .i32⟩
  | 76 => ⟨S_, .f32⟩
  | 77 => ⟨S2053x512, .f32⟩
  | 78 => ⟨S2048x512, .f32⟩
  | 79 => ⟨S1x512, .f32⟩
  | 80 => ⟨S2048x512, .f32⟩
  | 81 => ⟨S2048x512, .f32⟩
  | 82 => ⟨S2048x512, .f32⟩
  | 83 => ⟨S1x512, .f32⟩
  | 84 => ⟨S512, .f32⟩
  | 85 => ⟨S_, .i32⟩
  | 86 => ⟨S_, .f32⟩
  | 87 => ⟨S2052x512, .f32⟩
  | 88 => ⟨S2048x512, .f32⟩
  | 89 => ⟨S1x512, .f32⟩
  | 90 => ⟨S2048x512, .f32⟩
  | 91 => ⟨S2048x512, .f32⟩
  | 92 => ⟨S2048x512, .f32⟩
  | 93 => ⟨S1x512, .f32⟩
  | 94 => ⟨S512, .f32⟩
  | 95 => ⟨S_, .i32⟩
  | 96 => ⟨S_, .f32⟩
  | 97 => ⟨S2051x512, .f32⟩
  | 98 => ⟨S2048x512, .f32⟩
  | 99 => ⟨S1x512, .f32⟩
  | 100 => ⟨S2048x512, .f32⟩
  | 101 => ⟨S2048x512, .f32⟩
  | 102 => ⟨S2048x512, .f32⟩
  | 103 => ⟨S1x512, .f32⟩
  | 104 => ⟨S512, .f32⟩
  | 105 => ⟨S_, .i32⟩
  | 106 => ⟨S_, .f32⟩
  | 107 => ⟨S2050x512, .f32⟩
  | 108 => ⟨S2048x512, .f32⟩
  | 109 => ⟨S1x512, .f32⟩
  | 110 => ⟨S2048x512, .f32⟩
  | 111 => ⟨S2048x512, .f32⟩
  | 112 => ⟨S2048x512, .f32⟩
  | 113 => ⟨S1x512, .f32⟩
  | 114 => ⟨S512, .f32⟩
  | 115 => ⟨S_, .i32⟩
  | 116 => ⟨S_, .f32⟩
  | 117 => ⟨S2049x512, .f32⟩
  | 118 => ⟨S2048x512, .f32⟩
  | 119 => ⟨S1x512, .f32⟩
  | 120 => ⟨S2048x512, .f32⟩
  | 121 => ⟨S2048x512, .f32⟩
  | 122 => ⟨S2048x512, .f32⟩
  | 123 => ⟨S1x512, .f32⟩
  | 124 => ⟨S512, .f32⟩
  | 125 => ⟨S_, .i32⟩
  | 126 => ⟨S_, .f32⟩
  | 127 => ⟨S2048x512, .f32⟩
  | _ => ⟨S2048x512, .f32⟩

abbrev hbmTy0_4 (i : Nat) : BufTy := match i % 128 with
  | 0 => ⟨S1x512, .f32⟩
  | 1 => ⟨S2048x512, .f32⟩
  | 2 => ⟨S2048x512, .f32⟩
  | 3 => ⟨S2048x512, .f32⟩
  | 4 => ⟨S1x512, .f32⟩
  | 5 => ⟨S512, .f32⟩
  | 6 => ⟨S_, .i32⟩
  | 7 => ⟨S_, .f32⟩
  | 8 => ⟨S2050x512, .f32⟩
  | 9 => ⟨S2048x512, .f32⟩
  | 10 => ⟨S1x512, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S1x512, .f32⟩
  | 17 => ⟨S512, .f32⟩
  | 18 => ⟨S_, .i32⟩
  | 19 => ⟨S_, .f32⟩
  | 20 => ⟨S2049x512, .f32⟩
  | 21 => ⟨S2048x512, .f32⟩
  | 22 => ⟨S1x512, .f32⟩
  | 23 => ⟨S2048x512, .f32⟩
  | 24 => ⟨S2048x512, .f32⟩
  | 25 => ⟨S2048x512, .f32⟩
  | 26 => ⟨S1x512, .f32⟩
  | 27 => ⟨S512, .f32⟩
  | 28 => ⟨S_, .i32⟩
  | 29 => ⟨S_, .f32⟩
  | 30 => ⟨S2048x512, .f32⟩
  | 31 => ⟨S1x512, .f32⟩
  | 32 => ⟨S2048x512, .f32⟩
  | 33 => ⟨S2048x512, .f32⟩
  | 34 => ⟨S2048x512, .f32⟩
  | _ => ⟨S2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_call2_v0 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_call3_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_call4_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_call5_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_call6_v0 : Ref sig .tc := ⟨.hbm, 67, rfl⟩
abbrev main_v42 : Ref sig .tc := ⟨.hbm, 68, rfl⟩
abbrev main_cst_12 : Ref sig .tc := ⟨.hbm, 69, rfl⟩
abbrev main_v43 : Ref sig .tc := ⟨.hbm, 70, rfl⟩
abbrev main_v44 : Ref sig .tc := ⟨.hbm, 71, rfl⟩
abbrev main_c_13 : Ref sig .tc := ⟨.hbm, 72, rfl⟩
abbrev main_call7_v0 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_14 : Ref sig .tc := ⟨.hbm, 77, rfl⟩
abbrev main_call8_v0 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_15 : Ref sig .tc := ⟨.hbm, 82, rfl⟩
abbrev main_call9_v0 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_16 : Ref sig .tc := ⟨.hbm, 87, rfl⟩
abbrev main_call10_v0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_17 : Ref sig .tc := ⟨.hbm, 92, rfl⟩
abbrev main_call11_v0 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_18 : Ref sig .tc := ⟨.hbm, 97, rfl⟩
abbrev main_call12_v0 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_c_19 : Ref sig .tc := ⟨.hbm, 102, rfl⟩
abbrev main_call13_v0 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_20 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_21 : Ref sig .tc := ⟨.hbm, 115, rfl⟩
abbrev main_v73 : Ref sig .tc := ⟨.hbm, 116, rfl⟩
abbrev main_v74 : Ref sig .tc := ⟨.hbm, 117, rfl⟩
abbrev main_c_22 : Ref sig .tc := ⟨.hbm, 118, rfl⟩
abbrev main_call14_v0 : Ref sig .tc := ⟨.hbm, 119, rfl⟩
abbrev main_v75 : Ref sig .tc := ⟨.hbm, 120, rfl⟩
abbrev main_cst_23 : Ref sig .tc := ⟨.hbm, 121, rfl⟩
abbrev main_v76 : Ref sig .tc := ⟨.hbm, 122, rfl⟩
abbrev main_v77 : Ref sig .tc := ⟨.hbm, 123, rfl⟩
abbrev main_c_24 : Ref sig .tc := ⟨.hbm, 124, rfl⟩
abbrev main_call15_v0 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_25 : Ref sig .tc := ⟨.hbm, 129, rfl⟩
abbrev main_call16_v0 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_c_26 : Ref sig .tc := ⟨.hbm, 134, rfl⟩
abbrev main_call17_v0 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_c_27 : Ref sig .tc := ⟨.hbm, 139, rfl⟩
abbrev main_call18_v0 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_c_28 : Ref sig .tc := ⟨.hbm, 144, rfl⟩
abbrev main_call19_v0 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_29 : Ref sig .tc := ⟨.hbm, 149, rfl⟩
abbrev main_call20_v0 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_c_30 : Ref sig .tc := ⟨.hbm, 154, rfl⟩
abbrev main_call21_v0 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_c_31 : Ref sig .tc := ⟨.hbm, 159, rfl⟩
abbrev main_call22_v0 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_c_32 : Ref sig .tc := ⟨.hbm, 164, rfl⟩
abbrev main_call23_v0 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_c_33 : Ref sig .tc := ⟨.hbm, 169, rfl⟩
abbrev main_call24_v0 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_c_34 : Ref sig .tc := ⟨.hbm, 174, rfl⟩
abbrev main_call25_v0 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_c_35 : Ref sig .tc := ⟨.hbm, 179, rfl⟩
abbrev main_call26_v0 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_c_36 : Ref sig .tc := ⟨.hbm, 184, rfl⟩
abbrev main_call27_v0 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_c_37 : Ref sig .tc := ⟨.hbm, 189, rfl⟩
abbrev main_call28_v0 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_c_38 : Ref sig .tc := ⟨.hbm, 194, rfl⟩
abbrev main_call29_v0 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_cst_39 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_c_40 : Ref sig .tc := ⟨.hbm, 207, rfl⟩
abbrev main_call30_v0 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_cst_41 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_c_42 : Ref sig .tc := ⟨.hbm, 219, rfl⟩
abbrev main_call31_v0 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_c_43 : Ref sig .tc := ⟨.hbm, 229, rfl⟩
abbrev main_call32_v0 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_c_44 : Ref sig .tc := ⟨.hbm, 239, rfl⟩
abbrev main_call33_v0 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_c_45 : Ref sig .tc := ⟨.hbm, 249, rfl⟩
abbrev main_call34_v0 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_c_46 : Ref sig .tc := ⟨.hbm, 259, rfl⟩
abbrev main_call35_v0 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_c_47 : Ref sig .tc := ⟨.hbm, 269, rfl⟩
abbrev main_call36_v0 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_c_48 : Ref sig .tc := ⟨.hbm, 279, rfl⟩
abbrev main_call37_v0 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_c_49 : Ref sig .tc := ⟨.hbm, 289, rfl⟩
abbrev main_call38_v0 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_c_50 : Ref sig .tc := ⟨.hbm, 299, rfl⟩
abbrev main_call39_v0 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_c_51 : Ref sig .tc := ⟨.hbm, 309, rfl⟩
abbrev main_call40_v0 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_c_52 : Ref sig .tc := ⟨.hbm, 319, rfl⟩
abbrev main_call41_v0 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_v225 : Ref sig .tc := ⟨.hbm, 327, rfl⟩
abbrev main_v226 : Ref sig .tc := ⟨.hbm, 328, rfl⟩
abbrev main_c_53 : Ref sig .tc := ⟨.hbm, 329, rfl⟩
abbrev main_call42_v0 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_v234 : Ref sig .tc := ⟨.hbm, 338, rfl⟩
abbrev main_c_54 : Ref sig .tc := ⟨.hbm, 339, rfl⟩
abbrev main_call43_v0 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_c_55 : Ref sig .tc := ⟨.hbm, 349, rfl⟩
abbrev main_call44_v0 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_c_56 : Ref sig .tc := ⟨.hbm, 359, rfl⟩
abbrev main_call45_v0 : Ref sig .tc := ⟨.hbm, 360, rfl⟩
abbrev main_v251 : Ref sig .tc := ⟨.hbm, 361, rfl⟩
abbrev main_v252 : Ref sig .tc := ⟨.hbm, 362, rfl⟩
abbrev main_v253 : Ref sig .tc := ⟨.hbm, 363, rfl⟩
abbrev main_v254 : Ref sig .tc := ⟨.hbm, 364, rfl⟩
abbrev main_v255 : Ref sig .tc := ⟨.hbm, 365, rfl⟩
abbrev main_v256 : Ref sig .tc := ⟨.hbm, 366, rfl⟩
abbrev main_v257 : Ref sig .tc := ⟨.hbm, 367, rfl⟩
abbrev main_v258 : Ref sig .tc := ⟨.hbm, 368, rfl⟩
abbrev main_c_57 : Ref sig .tc := ⟨.hbm, 369, rfl⟩
abbrev main_call46_v0 : Ref sig .tc := ⟨.hbm, 370, rfl⟩
abbrev main_v259 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_v263 : Ref sig .tc := ⟨.hbm, 375, rfl⟩
abbrev main_v264 : Ref sig .tc := ⟨.hbm, 376, rfl⟩
abbrev main_v265 : Ref sig .tc := ⟨.hbm, 377, rfl⟩
abbrev main_v266 : Ref sig .tc := ⟨.hbm, 378, rfl⟩
abbrev main_c_58 : Ref sig .tc := ⟨.hbm, 379, rfl⟩
abbrev main_call47_v0 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_c_59 : Ref sig .tc := ⟨.hbm, 389, rfl⟩
abbrev main_call48_v0 : Ref sig .tc := ⟨.hbm, 390, rfl⟩
abbrev main_v275 : Ref sig .tc := ⟨.hbm, 391, rfl⟩
abbrev main_v276 : Ref sig .tc := ⟨.hbm, 392, rfl⟩
abbrev main_v277 : Ref sig .tc := ⟨.hbm, 393, rfl⟩
abbrev main_v278 : Ref sig .tc := ⟨.hbm, 394, rfl⟩
abbrev main_v279 : Ref sig .tc := ⟨.hbm, 395, rfl⟩
abbrev main_v280 : Ref sig .tc := ⟨.hbm, 396, rfl⟩
abbrev main_v281 : Ref sig .tc := ⟨.hbm, 397, rfl⟩
abbrev main_v282 : Ref sig .tc := ⟨.hbm, 398, rfl⟩
abbrev main_c_60 : Ref sig .tc := ⟨.hbm, 399, rfl⟩
abbrev main_call49_v0 : Ref sig .tc := ⟨.hbm, 400, rfl⟩
abbrev main_v283 : Ref sig .tc := ⟨.hbm, 401, rfl⟩
abbrev main_v284 : Ref sig .tc := ⟨.hbm, 402, rfl⟩
abbrev main_v285 : Ref sig .tc := ⟨.hbm, 403, rfl⟩
abbrev main_v286 : Ref sig .tc := ⟨.hbm, 404, rfl⟩
abbrev main_v287 : Ref sig .tc := ⟨.hbm, 405, rfl⟩
abbrev main_v288 : Ref sig .tc := ⟨.hbm, 406, rfl⟩
abbrev main_v289 : Ref sig .tc := ⟨.hbm, 407, rfl⟩
abbrev main_v290 : Ref sig .tc := ⟨.hbm, 408, rfl⟩
abbrev main_c_61 : Ref sig .tc := ⟨.hbm, 409, rfl⟩
abbrev main_call50_v0 : Ref sig .tc := ⟨.hbm, 410, rfl⟩
abbrev main_v291 : Ref sig .tc := ⟨.hbm, 411, rfl⟩
abbrev main_v292 : Ref sig .tc := ⟨.hbm, 412, rfl⟩
abbrev main_v293 : Ref sig .tc := ⟨.hbm, 413, rfl⟩
abbrev main_v294 : Ref sig .tc := ⟨.hbm, 414, rfl⟩
abbrev main_v295 : Ref sig .tc := ⟨.hbm, 415, rfl⟩
abbrev main_v296 : Ref sig .tc := ⟨.hbm, 416, rfl⟩
abbrev main_v297 : Ref sig .tc := ⟨.hbm, 417, rfl⟩
abbrev main_v298 : Ref sig .tc := ⟨.hbm, 418, rfl⟩
abbrev main_c_62 : Ref sig .tc := ⟨.hbm, 419, rfl⟩
abbrev main_call51_v0 : Ref sig .tc := ⟨.hbm, 420, rfl⟩
abbrev main_v299 : Ref sig .tc := ⟨.hbm, 421, rfl⟩
abbrev main_v300 : Ref sig .tc := ⟨.hbm, 422, rfl⟩
abbrev main_v301 : Ref sig .tc := ⟨.hbm, 423, rfl⟩
abbrev main_v302 : Ref sig .tc := ⟨.hbm, 424, rfl⟩
abbrev main_v303 : Ref sig .tc := ⟨.hbm, 425, rfl⟩
abbrev main_v304 : Ref sig .tc := ⟨.hbm, 426, rfl⟩
abbrev main_v305 : Ref sig .tc := ⟨.hbm, 427, rfl⟩
abbrev main_v306 : Ref sig .tc := ⟨.hbm, 428, rfl⟩
abbrev main_c_63 : Ref sig .tc := ⟨.hbm, 429, rfl⟩
abbrev main_call52_v0 : Ref sig .tc := ⟨.hbm, 430, rfl⟩
abbrev main_v307 : Ref sig .tc := ⟨.hbm, 431, rfl⟩
abbrev main_v308 : Ref sig .tc := ⟨.hbm, 432, rfl⟩
abbrev main_v309 : Ref sig .tc := ⟨.hbm, 433, rfl⟩
abbrev main_v310 : Ref sig .tc := ⟨.hbm, 434, rfl⟩
abbrev main_v311 : Ref sig .tc := ⟨.hbm, 435, rfl⟩
abbrev main_v312 : Ref sig .tc := ⟨.hbm, 436, rfl⟩
abbrev main_v313 : Ref sig .tc := ⟨.hbm, 437, rfl⟩
abbrev main_v314 : Ref sig .tc := ⟨.hbm, 438, rfl⟩
abbrev main_c_64 : Ref sig .tc := ⟨.hbm, 439, rfl⟩
abbrev main_call53_v0 : Ref sig .tc := ⟨.hbm, 440, rfl⟩
abbrev main_v315 : Ref sig .tc := ⟨.hbm, 441, rfl⟩
abbrev main_v316 : Ref sig .tc := ⟨.hbm, 442, rfl⟩
abbrev main_v317 : Ref sig .tc := ⟨.hbm, 443, rfl⟩
abbrev main_v318 : Ref sig .tc := ⟨.hbm, 444, rfl⟩
abbrev main_v319 : Ref sig .tc := ⟨.hbm, 445, rfl⟩
abbrev main_v320 : Ref sig .tc := ⟨.hbm, 446, rfl⟩
abbrev main_v321 : Ref sig .tc := ⟨.hbm, 447, rfl⟩
abbrev main_v322 : Ref sig .tc := ⟨.hbm, 448, rfl⟩
abbrev main_c_65 : Ref sig .tc := ⟨.hbm, 449, rfl⟩
abbrev main_call54_v0 : Ref sig .tc := ⟨.hbm, 450, rfl⟩
abbrev main_v323 : Ref sig .tc := ⟨.hbm, 451, rfl⟩
abbrev main_v324 : Ref sig .tc := ⟨.hbm, 452, rfl⟩
abbrev main_v325 : Ref sig .tc := ⟨.hbm, 453, rfl⟩
abbrev main_v326 : Ref sig .tc := ⟨.hbm, 454, rfl⟩
abbrev main_v327 : Ref sig .tc := ⟨.hbm, 455, rfl⟩
abbrev main_v328 : Ref sig .tc := ⟨.hbm, 456, rfl⟩
abbrev main_v329 : Ref sig .tc := ⟨.hbm, 457, rfl⟩
abbrev main_v330 : Ref sig .tc := ⟨.hbm, 458, rfl⟩
abbrev main_c_66 : Ref sig .tc := ⟨.hbm, 459, rfl⟩
abbrev main_call55_v0 : Ref sig .tc := ⟨.hbm, 460, rfl⟩
abbrev main_v331 : Ref sig .tc := ⟨.hbm, 461, rfl⟩
abbrev main_v332 : Ref sig .tc := ⟨.hbm, 462, rfl⟩
abbrev main_v333 : Ref sig .tc := ⟨.hbm, 463, rfl⟩
abbrev main_v334 : Ref sig .tc := ⟨.hbm, 464, rfl⟩
abbrev main_v335 : Ref sig .tc := ⟨.hbm, 465, rfl⟩
abbrev main_v336 : Ref sig .tc := ⟨.hbm, 466, rfl⟩
abbrev main_v337 : Ref sig .tc := ⟨.hbm, 467, rfl⟩
abbrev main_v338 : Ref sig .tc := ⟨.hbm, 468, rfl⟩
abbrev main_c_67 : Ref sig .tc := ⟨.hbm, 469, rfl⟩
abbrev main_call56_v0 : Ref sig .tc := ⟨.hbm, 470, rfl⟩
abbrev main_v339 : Ref sig .tc := ⟨.hbm, 471, rfl⟩
abbrev main_v340 : Ref sig .tc := ⟨.hbm, 472, rfl⟩
abbrev main_v341 : Ref sig .tc := ⟨.hbm, 473, rfl⟩
abbrev main_v342 : Ref sig .tc := ⟨.hbm, 474, rfl⟩
abbrev main_v343 : Ref sig .tc := ⟨.hbm, 475, rfl⟩
abbrev main_v344 : Ref sig .tc := ⟨.hbm, 476, rfl⟩
abbrev main_v345 : Ref sig .tc := ⟨.hbm, 477, rfl⟩
abbrev main_v346 : Ref sig .tc := ⟨.hbm, 478, rfl⟩
abbrev main_c_68 : Ref sig .tc := ⟨.hbm, 479, rfl⟩
abbrev main_call57_v0 : Ref sig .tc := ⟨.hbm, 480, rfl⟩
abbrev main_v347 : Ref sig .tc := ⟨.hbm, 481, rfl⟩
abbrev main_v348 : Ref sig .tc := ⟨.hbm, 482, rfl⟩
abbrev main_v349 : Ref sig .tc := ⟨.hbm, 483, rfl⟩
abbrev main_v350 : Ref sig .tc := ⟨.hbm, 484, rfl⟩
abbrev main_v351 : Ref sig .tc := ⟨.hbm, 485, rfl⟩
abbrev main_v352 : Ref sig .tc := ⟨.hbm, 486, rfl⟩
abbrev main_v353 : Ref sig .tc := ⟨.hbm, 487, rfl⟩
abbrev main_v354 : Ref sig .tc := ⟨.hbm, 488, rfl⟩
abbrev main_c_69 : Ref sig .tc := ⟨.hbm, 489, rfl⟩
abbrev main_call58_v0 : Ref sig .tc := ⟨.hbm, 490, rfl⟩
abbrev main_v355 : Ref sig .tc := ⟨.hbm, 491, rfl⟩
abbrev main_v356 : Ref sig .tc := ⟨.hbm, 492, rfl⟩
abbrev main_v357 : Ref sig .tc := ⟨.hbm, 493, rfl⟩
abbrev main_v358 : Ref sig .tc := ⟨.hbm, 494, rfl⟩
abbrev main_v359 : Ref sig .tc := ⟨.hbm, 495, rfl⟩
abbrev main_v360 : Ref sig .tc := ⟨.hbm, 496, rfl⟩
abbrev main_v361 : Ref sig .tc := ⟨.hbm, 497, rfl⟩
abbrev main_v362 : Ref sig .tc := ⟨.hbm, 498, rfl⟩
abbrev main_c_70 : Ref sig .tc := ⟨.hbm, 499, rfl⟩
abbrev main_call59_v0 : Ref sig .tc := ⟨.hbm, 500, rfl⟩
abbrev main_v363 : Ref sig .tc := ⟨.hbm, 501, rfl⟩
abbrev main_v364 : Ref sig .tc := ⟨.hbm, 502, rfl⟩
abbrev main_v365 : Ref sig .tc := ⟨.hbm, 503, rfl⟩
abbrev main_v366 : Ref sig .tc := ⟨.hbm, 504, rfl⟩
abbrev main_v367 : Ref sig .tc := ⟨.hbm, 505, rfl⟩
abbrev main_v368 : Ref sig .tc := ⟨.hbm, 506, rfl⟩
abbrev main_v369 : Ref sig .tc := ⟨.hbm, 507, rfl⟩
abbrev main_v370 : Ref sig .tc := ⟨.hbm, 508, rfl⟩
abbrev main_c_71 : Ref sig .tc := ⟨.hbm, 509, rfl⟩
abbrev main_call60_v0 : Ref sig .tc := ⟨.hbm, 510, rfl⟩
abbrev main_v371 : Ref sig .tc := ⟨.hbm, 511, rfl⟩
abbrev main_v372 : Ref sig .tc := ⟨.hbm, 512, rfl⟩
abbrev main_v373 : Ref sig .tc := ⟨.hbm, 513, rfl⟩
abbrev main_v374 : Ref sig .tc := ⟨.hbm, 514, rfl⟩
abbrev main_v375 : Ref sig .tc := ⟨.hbm, 515, rfl⟩
abbrev main_v376 : Ref sig .tc := ⟨.hbm, 516, rfl⟩
abbrev main_v377 : Ref sig .tc := ⟨.hbm, 517, rfl⟩
abbrev main_c_72 : Ref sig .tc := ⟨.hbm, 518, rfl⟩
abbrev main_call61_v0 : Ref sig .tc := ⟨.hbm, 519, rfl⟩
abbrev main_v378 : Ref sig .tc := ⟨.hbm, 520, rfl⟩
abbrev main_v379 : Ref sig .tc := ⟨.hbm, 521, rfl⟩
abbrev main_v380 : Ref sig .tc := ⟨.hbm, 522, rfl⟩
abbrev main_v381 : Ref sig .tc := ⟨.hbm, 523, rfl⟩
abbrev main_v382 : Ref sig .tc := ⟨.hbm, 524, rfl⟩
abbrev main_cst_73 : Ref sig .tc := ⟨.hbm, 525, rfl⟩
abbrev main_v383 : Ref sig .tc := ⟨.hbm, 526, rfl⟩
abbrev main_v384 : Ref sig .tc := ⟨.hbm, 527, rfl⟩
abbrev main_v385 : Ref sig .tc := ⟨.hbm, 528, rfl⟩
abbrev main_v386 : Ref sig .tc := ⟨.hbm, 529, rfl⟩
abbrev main_c_74 : Ref sig .tc := ⟨.hbm, 530, rfl⟩
abbrev main_call62_v0 : Ref sig .tc := ⟨.hbm, 531, rfl⟩
abbrev main_v387 : Ref sig .tc := ⟨.hbm, 532, rfl⟩
abbrev main_v388 : Ref sig .tc := ⟨.hbm, 533, rfl⟩
abbrev main_v389 : Ref sig .tc := ⟨.hbm, 534, rfl⟩
abbrev main_v390 : Ref sig .tc := ⟨.hbm, 535, rfl⟩
abbrev main_v391 : Ref sig .tc := ⟨.hbm, 536, rfl⟩
abbrev main_v392 : Ref sig .tc := ⟨.hbm, 537, rfl⟩
abbrev main_v393 : Ref sig .tc := ⟨.hbm, 538, rfl⟩
abbrev main_v394 : Ref sig .tc := ⟨.hbm, 539, rfl⟩
abbrev main_c_75 : Ref sig .tc := ⟨.hbm, 540, rfl⟩
abbrev main_call63_v0 : Ref sig .tc := ⟨.hbm, 541, rfl⟩
abbrev main_v395 : Ref sig .tc := ⟨.hbm, 542, rfl⟩
abbrev main_v396 : Ref sig .tc := ⟨.hbm, 543, rfl⟩
abbrev main_v397 : Ref sig .tc := ⟨.hbm, 544, rfl⟩
abbrev main_v398 : Ref sig .tc := ⟨.hbm, 545, rfl⟩
abbrev main_v399 : Ref sig .tc := ⟨.hbm, 546, rfl⟩

abbrev nD : Nat := 1
abbrev τ : Topo := Topo.v7x

variable {F : FTy → Type} [FloatOps F]
-- ==== GluBwd.lean ====
abbrev S2048x4096 : Shape := ⟨2, ![2048, 4096]⟩
abbrev S2048x512 : Shape := ⟨2, ![2048, 512]⟩
abbrev S2048x8192 : Shape := ⟨2, ![2048, 8192]⟩
abbrev S256x512 : Shape := ⟨2, ![256, 512]⟩
abbrev S256x3072 : Shape := ⟨2, ![256, 3072]⟩

abbrev nBuf : Space → Nat
  | .hbm => 10
  | .vmem => 18
  | .smem => 0
  | _ => 0

abbrev bufTy : (tb : Table) → Fin (tcTables nBuf tb) → BufTy
  | .hbm, ⟨0, _⟩ => ⟨S2048x4096, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x8192, .f32⟩
  | .hbm, ⟨6, _⟩ => ⟨S2048x512, .bf16⟩
  | .hbm, ⟨7, _⟩ => ⟨S2048x512, .bf16⟩
  | .hbm, ⟨8, _⟩ => ⟨S2048x8192, .bf16⟩
  | .hbm, ⟨9, _⟩ => ⟨S2048x8192, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x3072, .bf16⟩
  | .local _ .vmem, ⟨17, _⟩ => ⟨S256x3072, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GluBwdReferenceIdeal.lean ====
abbrev S2048x4096 : Shape := ⟨2, ![2048, 4096]⟩
abbrev S2048x512 : Shape := ⟨2, ![2048, 512]⟩
abbrev S2048x8192 : Shape := ⟨2, ![2048, 8192]⟩
abbrev S2048x3072 : Shape := ⟨2, ![2048, 3072]⟩
abbrev S_ : Shape := ⟨0, ![]⟩
abbrev S2048x5120 : Shape := ⟨2, ![2048, 5120]⟩

abbrev nBuf : Space → Nat
  | .hbm => 52
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x8192, .f32⟩
  | .hbm, ⟨6, _⟩ => ⟨S2048x3072, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | .hbm, ⟨37, _⟩ => ⟨S_, .f32⟩
  | .hbm, ⟨38, _⟩ => ⟨S2048x3072, .f32⟩
  | .hbm, ⟨39, _⟩ => ⟨S2048x3072, .f32⟩
  | .hbm, ⟨40, _⟩ => ⟨S_, .f32⟩
  | .hbm, ⟨41, _⟩ => ⟨S2048x3072, .f32⟩
  | .hbm, ⟨42, _⟩ => ⟨S2048x3072, .f32⟩
  | .hbm, ⟨43, _⟩ => ⟨S_, .f32⟩
  | .hbm, ⟨44, _⟩ => ⟨S2048x3072, .f32⟩
  | .hbm, ⟨45, _⟩ => ⟨S2048x3072, .f32⟩
  | .hbm, ⟨46, _⟩ => ⟨S_, .f32⟩
  | .hbm, ⟨47, _⟩ => ⟨S2048x3072, .f32⟩
  | .hbm, ⟨48, _⟩ => ⟨S2048x3072, .f32⟩
  | .hbm, ⟨49, _⟩ => ⟨S2048x5120, .f32⟩
  | .hbm, ⟨50, _⟩ => ⟨S2048x8192, .f32⟩
  | .hbm, ⟨51, _⟩ => ⟨S2048x8192, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== LossHead.lean ====
abbrev S2048x1024 : Shape := ⟨2, ![2048, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1x1024, .f32⟩
  | .hbm, ⟨4, _⟩ => ⟨S2048x1024, .f32⟩
  | .hbm, ⟨5, _⟩ => ⟨S1x1024, .f32⟩
  | .hbm, ⟨6, _⟩ => ⟨S1x128, .f32⟩
  | .hbm, ⟨7, _⟩ => ⟨S1024, .f32⟩
  | .hbm, ⟨8, _⟩ => ⟨S1x1, .f32⟩
  | .hbm, ⟨9, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v70 : BitVec 1 := Scalar.cmpi .eq arg0 c0_i32
  let v71 : BitVec 32 := Scalar.extui v70
  let c0_i32_24 : BitVec 32 := 0#32
  let v72 : BitVec 1 := Scalar.cmpi .ne v71 c0_i32_24
  v72

def k0_cond2 (i : grid0.Coords) : BitVec 1 :=
  let arg0 : BitVec 32 := BitVec.ofNat 32 (i 0).val
  let c0_i32 : BitVec 32 := 0#32
  let v70 : BitVec 1 := Scalar.cmpi .eq arg0 c0_i32
  let v_true : BitVec 1 := 1#1
  let v73 : BitVec 1 := Scalar.xori v70 v_true
  let v74 : BitVec 32 := Scalar.extui v73
  let c0_i32_25 : BitVec 32 := 0#32
  let v75 : BitVec 1 := Scalar.cmpi .ne v74 c0_i32_25
  v75

def k0_cond3 (i : grid0.Coords) : BitVec 1 :=
  let arg0 : BitVec 32 := BitVec.ofNat 32 (i 0).val
  let c0_i32 : BitVec 32 := 0#32
  let v70 : BitVec 1 := Scalar.cmpi .eq arg0 c0_i32
  let v76 : BitVec 32 := Scalar.extui v70
  let c0_i32_26 : BitVec 32 := 0#32
  let v77 : BitVec 1 := Scalar.cmpi .ne v76 c0_i32_26
  v77

def k0_cond4 (i : grid0.Coords) : BitVec 1 :=
  let arg0 : BitVec 32 := BitVec.ofNat 32 (i 0).val
  let c0_i32 : BitVec 32 := 0#32
  let v70 : BitVec 1 := Scalar.cmpi .eq arg0 c0_i32
  let true_27 : BitVec 1 := 1#1
  let v78 : BitVec 1 := Scalar.xori v70 true_27
  let v79 : BitVec 32 := Scalar.extui v78
  let c0_i32_28 : BitVec 32 := 0#32
  let v80 : BitVec 1 := Scalar.cmpi .ne v79 c0_i32_28
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== AdamSharded.lean ====
abbrev S4x31x128 : Shape := ⟨3, ![4, 31, 128]⟩
abbrev S4x3x128 : Shape := ⟨3, ![4, 3, 128]⟩
abbrev S15872 : Shape := ⟨1, ![15872]⟩
abbrev S1536 : Shape := ⟨1, ![1536]⟩
abbrev S17408 : Shape := ⟨1, ![17408]⟩
abbrev S_ : Shape := ⟨0, ![]⟩
abbrev S32768 : Shape := ⟨1, ![32768]⟩
abbrev S256x128 : Shape := ⟨2, ![256, 128]⟩

abbrev nBuf : Space → Nat
  | .hbm => 54
  | .vmem => 7
  | .smem => 0
  | _ => 0

abbrev bufTy : (tb : Table) → Fin (tcTables nBuf tb) → BufTy
  | .hbm, ⟨0, _⟩ => ⟨S4x31x128, .f32⟩
  | .hbm, ⟨1, _⟩ => ⟨S4x3x128, .f32⟩
  | .hbm, ⟨2, _⟩ => ⟨S4x31x128, .f32⟩
  | .hbm, ⟨3, _⟩ => ⟨S4x3x128, .f32⟩
  | .hbm, ⟨4, _⟩ => ⟨S4x31x128, .f32⟩
  | .hbm, ⟨5, _⟩ => ⟨S4x3x128, .f32⟩
  | .hbm, ⟨6, _⟩ => ⟨S4x31x128, .f32⟩
  | .hbm, ⟨7, _⟩ => ⟨S4x3x128, .f32⟩
  | .hbm, ⟨8, _⟩ => ⟨S15872, .f32⟩
  | .hbm, ⟨9, _⟩ => ⟨S1536, .f32⟩
  | .hbm, ⟨10, _⟩ => ⟨S17408, .f32⟩
  | .hbm, ⟨11, _⟩ => ⟨S_, .i32⟩
  | .hbm, ⟨12, _⟩ => ⟨S_, .f32⟩
  | .hbm, ⟨13, _⟩ => ⟨S32768, .f32⟩
  | .hbm, ⟨14, _⟩ => ⟨S256x128, .f32⟩
  | .hbm, ⟨15, _⟩ => ⟨S15872, .f32⟩
  | .hbm, ⟨16, _⟩ => ⟨S1536, .f32⟩
  | .hbm, ⟨17, _⟩ => ⟨S17408, .f32⟩
  | .hbm, ⟨18, _⟩ => ⟨S_, .i32⟩
  | .hbm, ⟨19, _⟩ => ⟨S_, .f32⟩
  | .hbm, ⟨20, _⟩ => ⟨S32768, .f32⟩
  | .hbm, ⟨21, _⟩ => ⟨S256x128, .f32⟩
  | .hbm, ⟨22, _⟩ => ⟨S15872, .f32⟩
  | .hbm, ⟨23, _⟩ => ⟨S1536, .f32⟩
  | .hbm, ⟨24, _⟩ => ⟨S17408, .f32⟩
  | .hbm, ⟨25, _⟩ => ⟨S_, .i32⟩
  | .hbm, ⟨26, _⟩ => ⟨S_, .f32⟩
  | .hbm, ⟨27, _⟩ => ⟨S32768, .f32⟩
  | .hbm, ⟨28, _⟩ => ⟨S256x128, .f32⟩
  | .hbm, ⟨29, _⟩ => ⟨S15872, .f32⟩
  | .hbm, ⟨30, _⟩ => ⟨S1536, .f32⟩
  | .hbm, ⟨31, _⟩ => ⟨S17408, .f32⟩
  | .hbm, ⟨32, _⟩ => ⟨S_, .i32⟩
  | .hbm, ⟨33, _⟩ => ⟨S_, .f32⟩
  | .hbm, ⟨34, _⟩ => ⟨S32768, .f32⟩
  | .hbm, ⟨35, _⟩ => ⟨S256x128, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S32768, .f32⟩
  | .hbm, ⟨40, _⟩ => ⟨S15872, .f32⟩
  | .hbm, ⟨41, _⟩ => ⟨S4x31x128, .f32⟩
  | .hbm, ⟨42, _⟩ => ⟨S1536, .f32⟩
  | .hbm, ⟨43, _⟩ => ⟨S4x3x128, .f32⟩
  | .hbm, ⟨44, _⟩ => ⟨S32768, .f32⟩
  | .hbm, ⟨45, _⟩ => ⟨S15872, .f32⟩
  | .hbm, ⟨46, _⟩ => ⟨S4x31x128, .f32⟩
  | .hbm, ⟨47, _⟩ => ⟨S1536, .f32⟩
  | .hbm, ⟨48, _⟩ => ⟨S4x3x128, .f32⟩
  | .hbm, ⟨49, _⟩ => ⟨S32768, .f32⟩
  | .hbm, ⟨50, _⟩ => ⟨S15872, .f32⟩
  | .hbm, ⟨51, _⟩ => ⟨S4x31x128, .f32⟩
  | .hbm, ⟨52, _⟩ => ⟨S1536, .f32⟩
  | .hbm, ⟨53, _⟩ => ⟨S4x3x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S4x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call2_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_call3_v0 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamShardedIdeal.lean ====
abbrev S4x31x128 : Shape := ⟨3, ![4, 31, 128]⟩
abbrev S4x3x128 : Shape := ⟨3, ![4, 3, 128]⟩
abbrev S15872 : Shape := ⟨1, ![15872]⟩
abbrev S1536 : Shape := ⟨1, ![1536]⟩
abbrev S17408 : Shape := ⟨1, ![17408]⟩
abbrev S_ : Shape := ⟨0, ![]⟩
abbrev S32768 : Shape := ⟨1, ![32768]⟩
abbrev S256x128 : Shape := ⟨2, ![256, 128]⟩

abbrev nBuf : Space → Nat
  | .hbm => 54
  | .vmem => 7
  | .smem => 0
  | _ => 0

abbrev bufTy : (tb : Table) → Fin (tcTables nBuf tb) → BufTy
  | .hbm, ⟨0, _⟩ => ⟨S4x31x128, .f32⟩
  | .hbm, ⟨1, _⟩ => ⟨S4x3x128, .f32⟩
  | .hbm, ⟨2, _⟩ => ⟨S4x31x128, .f32⟩
  | .hbm, ⟨3, _⟩ => ⟨S4x3x128, .f32⟩
  | .hbm, ⟨4, _⟩ => ⟨S4x31x128, .f32⟩
  | .hbm, ⟨5, _⟩ => ⟨S4x3x128, .f32⟩
  | .hbm, ⟨6, _⟩ => ⟨S4x31x128, .f32⟩
  | .hbm, ⟨7, _⟩ => ⟨S4x3x128, .f32⟩
  | .hbm, ⟨8, _⟩ => ⟨S15872, .f32⟩
  | .hbm, ⟨9, _⟩ => ⟨S1536, .f32⟩
  | .hbm, ⟨10, _⟩ => ⟨S17408, .f32⟩
  | .hbm, ⟨11, _⟩ => ⟨S_, .i32⟩
  | .hbm, ⟨12, _⟩ => ⟨S_, .f32⟩
  | .hbm, ⟨13, _⟩ => ⟨S32768, .f32⟩
  | .hbm, ⟨14, _⟩ => ⟨S256x128, .f32⟩
  | .hbm, ⟨15, _⟩ => ⟨S15872, .f32⟩
  | .hbm, ⟨16, _⟩ => ⟨S1536, .f32⟩
  | .hbm, ⟨17, _⟩ => ⟨S17408, .f32⟩
  | .hbm, ⟨18, _⟩ => ⟨S_, .i32⟩
  | .hbm, ⟨19, _⟩ => ⟨S_, .f32⟩
  | .hbm, ⟨20, _⟩ => ⟨S32768, .f32⟩
  | .hbm, ⟨21, _⟩ => ⟨S256x128, .f32⟩
  | .hbm, ⟨22, _⟩ => ⟨S15872, .f32⟩
  | .hbm, ⟨23, _⟩ => ⟨S1536, .f32⟩
  | .hbm, ⟨24, _⟩ => ⟨S17408, .f32⟩
  | .hbm, ⟨25, _⟩ => ⟨S_, .i32⟩
  | .hbm, ⟨26, _⟩ => ⟨S_, .f32⟩
  | .hbm, ⟨27, _⟩ => ⟨S32768, .f32⟩
  | .hbm, ⟨28, _⟩ => ⟨S256x128, .f32⟩
  | .hbm, ⟨29, _⟩ => ⟨S15872, .f32⟩
  | .hbm, ⟨30, _⟩ => ⟨S1536, .f32⟩
  | .hbm, ⟨31, _⟩ => ⟨S17408, .f32⟩
  | .hbm, ⟨32, _⟩ => ⟨S_, .i32⟩
  | .hbm, ⟨33, _⟩ => ⟨S_, .f32⟩
  | .hbm, ⟨34, _⟩ => ⟨S32768, .f32⟩
  | .hbm, ⟨35, _⟩ => ⟨S256x128, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S32768, .f32⟩
  | .hbm, ⟨40, _⟩ => ⟨S15872, .f32⟩
  | .hbm, ⟨41, _⟩ => ⟨S4x31x128, .f32⟩
  | .hbm, ⟨42, _⟩ => ⟨S1536, .f32⟩
  | .hbm, ⟨43, _⟩ => ⟨S4x3x128, .f32⟩
  | .hbm, ⟨44, _⟩ => ⟨S32768, .f32⟩
  | .hbm, ⟨45, _⟩ => ⟨S15872, .f32⟩
  | .hbm, ⟨46, _⟩ => ⟨S4x31x128, .f32⟩
  | .hbm, ⟨47, _⟩ => ⟨S1536, .f32⟩
  | .hbm, ⟨48, _⟩ => ⟨S4x3x128, .f32⟩
  | .hbm, ⟨49, _⟩ => ⟨S32768, .f32⟩
  | .hbm, ⟨50, _⟩ => ⟨S15872, .f32⟩
  | .hbm, ⟨51, _⟩ => ⟨S4x31x128, .f32⟩
  | .hbm, ⟨52, _⟩ => ⟨S1536, .f32⟩
  | .hbm, ⟨53, _⟩ => ⟨S4x3x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S4x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call2_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_call3_v0 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamShardedReferenceIdeal.lean ====
abbrev S4x31x128 : Shape := ⟨3, ![4, 31, 128]⟩
abbrev S4x3x128 : Shape := ⟨3, ![4, 3, 128]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S4x31x128, .f32⟩
  | .hbm, ⟨1, _⟩ => ⟨S4x3x128, .f32⟩
  | .hbm, ⟨2, _⟩ => ⟨S4x31x128, .f32⟩
  | .hbm, ⟨3, _⟩ => ⟨S4x3x128, .f32⟩
  | .hbm, ⟨4, _⟩ => ⟨S4x31x128, .f32⟩
  | .hbm, ⟨5, _⟩ => ⟨S4x3x128, .f32⟩
  | .hbm, ⟨6, _⟩ => ⟨S4x31x128, .f32⟩
  | .hbm, ⟨7, _⟩ => ⟨S4x3x128, .f32⟩
  | .hbm, ⟨8, _⟩ => ⟨S_, .f32⟩
  | .hbm, ⟨9, _⟩ => ⟨S4x31x128, .f32⟩
  | .hbm, ⟨10, _⟩ => ⟨S4x31x128, .f32⟩
  | .hbm, ⟨11, _⟩ => ⟨S_, .f32⟩
  | .hbm, ⟨12, _⟩ => ⟨S4x31x128, .f32⟩
  | .hbm, ⟨13, _⟩ => ⟨S4x31x128, .f32⟩
  | .hbm, ⟨14, _⟩ => ⟨S4x31x128, .f32⟩
  | .hbm, ⟨15, _⟩ => ⟨S_, .f32⟩
  | .hbm, ⟨16, _⟩ => ⟨S4x31x128, .f32⟩
  | .hbm, ⟨17, _⟩ => ⟨S4x31x128, .f32⟩
  | .hbm, ⟨18, _⟩ => ⟨S4x31x128, .f32⟩
  | .hbm, ⟨19, _⟩ => ⟨S_, .f32⟩
  | .hbm, ⟨20, _⟩ => ⟨S4x31x128, .f32⟩
  | .hbm, ⟨21, _⟩ => ⟨S4x31x128, .f32⟩
  | .hbm, ⟨22, _⟩ => ⟨S4x31x128, .f32⟩
  | .hbm, ⟨23, _⟩ => ⟨S_, .f32⟩
  | .hbm, ⟨24, _⟩ => ⟨S4x31x128, .f32⟩
  | .hbm, ⟨25, _⟩ => ⟨S4x31x128, .f32⟩
  | .hbm, ⟨26, _⟩ => ⟨S_, .f32⟩
  | .hbm, ⟨27, _⟩ => ⟨S4x31x128, .f32⟩
  | .hbm, ⟨28, _⟩ => ⟨S4x31x128, .f32⟩
  | .hbm, ⟨29, _⟩ => ⟨S4x31x128, .f32⟩
  | .hbm, ⟨30, _⟩ => ⟨S_, .f32⟩
  | .hbm, ⟨31, _⟩ => ⟨S4x31x128, .f32⟩
  | .hbm, ⟨32, _⟩ => ⟨S4x31x128, .f32⟩
  | .hbm, ⟨33, _⟩ => ⟨S4x31x128, .f32⟩
  | .hbm, ⟨34, _⟩ => ⟨S_, .f32⟩
  | .hbm, ⟨35, _⟩ => ⟨S4x31x128, .f32⟩
  | .hbm, ⟨36, _⟩ => ⟨S4x31x128, .f32⟩
  | .hbm, ⟨37, _⟩ => ⟨S4x31x128, .f32⟩
  | .hbm, ⟨38, _⟩ => ⟨S_, .f32⟩
  | .hbm, ⟨39, _⟩ => ⟨S4x31x128, .f32⟩
  | .hbm, ⟨40, _⟩ => ⟨S4x31x128, .f32⟩
  | .hbm, ⟨41, _⟩ => ⟨S_, .f32⟩
  | .hbm, ⟨42, _⟩ => ⟨S4x3x128, .f32⟩
  | .hbm, ⟨43, _⟩ => ⟨S4x3x128, .f32⟩
  | .hbm, ⟨44, _⟩ => ⟨S_, .f32⟩
  | .hbm, ⟨45, _⟩ => ⟨S4x3x128, .f32⟩
  | .hbm, ⟨46, _⟩ => ⟨S4x3x128, .f32⟩
  | .hbm, ⟨47, _⟩ => ⟨S4x3x128, .f32⟩
  | .hbm, ⟨48, _⟩ => ⟨S_, .f32⟩
  | .hbm, ⟨49, _⟩ => ⟨S4x3x128, .f32⟩
  | .hbm, ⟨50, _⟩ => ⟨S4x3x128, .f32⟩
  | .hbm, ⟨51, _⟩ => ⟨S4x3x128, .f32⟩
  | .hbm, ⟨52, _⟩ => ⟨S_, .f32⟩
  | .hbm, ⟨53, _⟩ => ⟨S4x3x128, .f32⟩
  | .hbm, ⟨54, _⟩ => ⟨S4x3x128, .f32⟩
  | .hbm, ⟨55, _⟩ => ⟨S4x3x128, .f32⟩
  | .hbm, ⟨56, _⟩ => ⟨S_, .f32⟩
  | .hbm, ⟨57, _⟩ => ⟨S4x3x128, .f32⟩
  | .hbm, ⟨58, _⟩ => ⟨S4x3x128, .f32⟩
  | .hbm, ⟨59, _⟩ => ⟨S_, .f32⟩
  | .hbm, ⟨60, _⟩ => ⟨S4x3x128, .f32⟩
  | .hbm, ⟨61, _⟩ => ⟨S4x3x128, .f32⟩
  | .hbm, ⟨62, _⟩ => ⟨S4x3x128, .f32⟩
  | .hbm, ⟨63, _⟩ => ⟨S_, .f32⟩
  | .hbm, ⟨64, _⟩ => ⟨S4x3x128, .f32⟩
  | .hbm, ⟨65, _⟩ => ⟨S4x3x128, .f32⟩
  | .hbm, ⟨66, _⟩ => ⟨S4x3x128, .f32⟩
  | .hbm, ⟨67, _⟩ => ⟨S_, .f32⟩
  | .hbm, ⟨68, _⟩ => ⟨S4x3x128, .f32⟩
  | .hbm, ⟨69, _⟩ => ⟨S4x3x128, .f32⟩
  | .hbm, ⟨70, _⟩ => ⟨S4x3x128, .f32⟩
  | .hbm, ⟨71, _⟩ => ⟨S_, .f32⟩
  | .hbm, ⟨72, _⟩ => ⟨S4x3x128, .f32⟩
  | .hbm, ⟨73, _⟩ => ⟨S4x3x128, .f32⟩
  | _, _ => ⟨S4x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== AdamSmall.lean ====
abbrev S4x1024 : Shape := ⟨2, ![4, 1024]⟩
abbrev S4x512 : Shape := ⟨2, ![4, 512]⟩
abbrev S4x4x128x128 : Shape := ⟨4, ![4, 4, 128, 128]⟩
abbrev S4x4x128 : Shape := ⟨3, ![4, 4, 128]⟩
abbrev S1024 : Shape := ⟨1, ![1024]⟩
abbrev S4096 : Shape := ⟨1, ![4096]⟩
abbrev S2048 : Shape := ⟨1, ![2048]⟩
abbrev S262144 : Shape := ⟨1, ![262144]⟩
abbrev S551936 : Shape := ⟨1, ![551936]⟩
abbrev S_ : Shape := ⟨0, ![]⟩
abbrev S557056 : Shape := ⟨1, ![557056]⟩
abbrev S4352x128 : Shape := ⟨2, ![4352, 128]⟩
abbrev S256x128 : Shape := ⟨2, ![256, 128]⟩

abbrev nBuf : Space → Nat
  | .hbm => 201
  | .vmem => 14
  | .smem => 0
  | _ => 0

abbrev hbmTy0_0 (i : Nat) : BufTy := match i % 128 with
  | 0 => ⟨S4x1024, .f32⟩
  | 1 => ⟨S4x512, .f32⟩
  | 2 => ⟨S4x512, .f32⟩
  | 3 => ⟨S4x512, .f32⟩
  | 4 => ⟨S4x4x128x128, .f32⟩
  | 5 => ⟨S4x512, .f32⟩
  | 6 => ⟨S4x512, .f32⟩
  | 7 => ⟨S4x512, .f32⟩
  | 8 => ⟨S4x4x128x128, .f32⟩
  | 9 => ⟨S4x4x128, .f32⟩
  | 10 => ⟨S4x1024, .f32⟩
  | 11 => ⟨S4x1024, .f32⟩
  | 12 => ⟨S1024, .f32⟩
  | 13 => ⟨S4x1024, .f32⟩
  | 14 => ⟨S4x512, .f32⟩
  | 15 => ⟨S4x512, .f32⟩
  | 16 => ⟨S4x512, .f32⟩
  | 17 => ⟨S4x4x128x128, .f32⟩
  | 18 => ⟨S4x512, .f32⟩
  | 19 => ⟨S4x512, .f32⟩
  | 20 => ⟨S4x512, .f32⟩
  | 21 => ⟨S4x4x128x128, .f32⟩
  | 22 => ⟨S4x4x128, .f32⟩
  | 23 => ⟨S4x1024, .f32⟩
  | 24 => ⟨S4x1024, .f32⟩
  | 25 => ⟨S1024, .f32⟩
  | 26 => ⟨S4x1024, .f32⟩
  | 27 => ⟨S4x512, .f32⟩
  | 28 => ⟨S4x512, .f32⟩
  | 29 => ⟨S4x512, .f32⟩
  | 30 => ⟨S4x4x128x128, .f32⟩
  | 31 => ⟨S4x512, .f32⟩
  | 32 => ⟨S4x512, .f32⟩
  | 33 => ⟨S4x512, .f32⟩
  | 34 => ⟨S4x4x128x128, .f32⟩
  | 35 => ⟨S4x4x128, .f32⟩
  | 36 => ⟨S4x1024, .f32⟩
  | 37 => ⟨S4x1024, .f32⟩
  | 38 => ⟨S1024, .f32⟩
  | 39 => ⟨S4x1024, .f32⟩
  | 40 => ⟨S4x512, .f32⟩
  | 41 => ⟨S4x512, .f32⟩
  | 42 => ⟨S4x512, .f32⟩
  | 43 => ⟨S4x4x128x128, .f32⟩
  | 44 => ⟨S4x512, .f32⟩
  | 45 => ⟨S4x512, .f32⟩
  | 46 => ⟨S4x512, .f32⟩
  | 47 => ⟨S4x4x128x128, .f32⟩
  | 48 => ⟨S4x4x128, .f32⟩
  | 49 => ⟨S4x1024, .f32⟩
  | 50 => ⟨S4x1024, .f32⟩
  | 51 => ⟨S1024, .f32⟩
  | 52 => ⟨S4096, .f32⟩
  | 53 => ⟨S2048, .f32⟩
  | 54 => ⟨S2048, .f32⟩
  | 55 => ⟨S2048, .f32⟩
  | 56 => ⟨S262144, .f32⟩
  | 57 => ⟨S2048, .f32⟩
  | 58 => ⟨S2048, .f32⟩
  | 59 => ⟨S2048, .f32⟩
  | 60 => ⟨S262144, .f32⟩
  | 61 => ⟨S2048, .f32⟩
  | 62 => ⟨S4096, .f32⟩
  | 63 => ⟨S4096, .f32⟩
  | 64 => ⟨S551936, .f32⟩
  | 65 => ⟨S_, .i32⟩
  | 66 => ⟨S_, .f32⟩
  | 67 => ⟨S557056, .f32⟩
  | 68 => ⟨S4352x128, .f32⟩
  | 69 => ⟨S4096, .f32⟩
  | 70 => ⟨S2048, .f32⟩
  | 71 => ⟨S2048, .f32⟩
  | 72 => ⟨S2048, .f32⟩
  | 73 => ⟨S262144, .f32⟩
  | 74 => ⟨S2048, .f32⟩
  | 75 => ⟨S2048, .f32⟩
  | 76 => ⟨S2048, .f32⟩
  | 77 => ⟨S262144, .f32⟩
  | 78 => ⟨S2048, .f32⟩
  | 79 => ⟨S4096, .f32⟩
  | 80 => ⟨S4096, .f32⟩
  | 81 => ⟨S551936, .f32⟩
  | 82 => ⟨S_, .i32⟩
  | 83 => ⟨S_, .f32⟩
  | 84 => ⟨S557056, .f32⟩
  | 85 => ⟨S4352x128, .f32⟩
  | 86 => ⟨S4096, .f32⟩
  | 87 => ⟨S2048, .f32⟩
  | 88 => ⟨S2048, .f32⟩
  | 89 => ⟨S2048, .f32⟩
  | 90 => ⟨S262144, .f32⟩
  | 91 => ⟨S2048, .f32⟩
  | 92 => ⟨S2048, .f32⟩
  | 93 => ⟨S2048, .f32⟩
  | 94 => ⟨S262144, .f32⟩
  | 95 => ⟨S2048, .f32⟩
  | 96 => ⟨S4096, .f32⟩
  | 97 => ⟨S4096, .f32⟩
  | 98 => ⟨S551936, .f32⟩
  | 99 => ⟨S_, .i32⟩
  | 100 => ⟨S_, .f32⟩
  | 101 => ⟨S557056, .f32⟩
  | 102 => ⟨S4352x128, .f32⟩
  | 103 => ⟨S4096, .f32⟩
  | 104 => ⟨S2048, .f32⟩
  | 105 => ⟨S2048, .f32⟩
  | 106 => ⟨S2048, .f32⟩
  | 107 => ⟨S262144, .f32⟩
  | 108 => ⟨S2048, .f32⟩
  | 109 => ⟨S2048, .f32⟩
  | 110 => ⟨S2048, .f32⟩
  | 111 => ⟨S262144, .f32⟩
  | 112 => ⟨S2048, .f32⟩
  | 113 => ⟨S4096, .f32⟩
  | 114 => ⟨S4096, .f32⟩
  | 115 => ⟨S551936, .f32⟩
  | 116 => ⟨S_, .i32⟩
  | 117 => ⟨S_, .f32⟩
  | 118 => ⟨S557056, .f32⟩
  | 119 => ⟨S4352x128, .f32⟩
  | 120 => ⟨S4352x128, .f32⟩
  | 121 => ⟨S4352x128, .f32⟩
  | 122 => ⟨S4352x128, .f32⟩
  | 123 => ⟨S557056, .f32⟩
  | 124 => ⟨S4096, .f32⟩
  | 125 => ⟨S4x1024, .f32⟩
  | 126 => ⟨S2048, .f32⟩
  | 127 => ⟨S4x512, .f32⟩
  | _ => ⟨S4x1024, .f32⟩

abbrev hbmTy0_1 (i : Nat) : BufTy := match i % 128 with
  | 0 => ⟨S2048, .f32⟩
  | 1 => ⟨S4x512, .f32⟩
  | 2 => ⟨S2048, .f32⟩
  | 3 => ⟨S4x512, .f32⟩
  | 4 => ⟨S262144, .f32⟩
  | 5 => ⟨S4x4x128x128, .f32⟩
  | 6 => ⟨S2048, .f32⟩
  | 7 => ⟨S4x512, .f32⟩
  | 8 => ⟨S2048, .f32⟩
  | 9 => ⟨S4x512, .f32⟩
  | 10 => ⟨S2048, .f32⟩
  | 11 => ⟨S4x512, .f32⟩
  | 12 => ⟨S262144, .f32⟩
  | 13 => ⟨S4x4x128x128, .f32⟩
  | 14 => ⟨S2048, .f32⟩
  | 15 => ⟨S4x4x128, .f32⟩
  | 16 => ⟨S4096, .f32⟩
  | 17 => ⟨S4x1024, .f32⟩
  | 18 => ⟨S4096, .f32⟩
  | 19 => ⟨S4x1024, .f32⟩
  | 20 => ⟨S1024, .f32⟩
  | 21 => ⟨S557056, .f32⟩
  | 22 => ⟨S4096, .f32⟩
  | 23 => ⟨S4x1024, .f32⟩
  | 24 => ⟨S2048, .f32⟩
  | 25 => ⟨S4x512, .f32⟩
  | 26 => ⟨S2048, .f32⟩
  | 27 => ⟨S4x512, .f32⟩
  | 28 => ⟨S2048, .f32⟩
  | 29 => ⟨S4x512, .f32⟩
  | 30 => ⟨S262144, .f32⟩
  | 31 => ⟨S4x4x128x128, .f32⟩
  | 32 => ⟨S2048, .f32⟩
  | 33 => ⟨S4x512, .f32⟩
  | 34 => ⟨S2048, .f32⟩
  | 35 => ⟨S4x512, .f32⟩
  | 36 => ⟨S2048, .f32⟩
  | 37 => ⟨S4x512, .f32⟩
  | 38 => ⟨S262144, .f32⟩
  | 39 => ⟨S4x4x128x128, .f32⟩
  | 40 => ⟨S2048, .f32⟩
  | 41 => ⟨S4x4x128, .f32⟩
  | 42 => ⟨S4096, .f32⟩
  | 43 => ⟨S4x1024, .f32⟩
  | 44 => ⟨S4096, .f32⟩
  | 45 => ⟨S4x1024, .f32⟩
  | 46 => ⟨S1024, .f32⟩
  | 47 => ⟨S557056, .f32⟩
  | 48 => ⟨S4096, .f32⟩
  | 49 => ⟨S4x1024, .f32⟩
  | 50 => ⟨S2048, .f32⟩
  | 51 => ⟨S4x512, .f32⟩
  | 52 => ⟨S2048, .f32⟩
  | 53 => ⟨S4x512, .f32⟩
  | 54 => ⟨S2048, .f32⟩
  | 55 => ⟨S4x512, .f32⟩
  | 56 => ⟨S262144, .f32⟩
  | 57 => ⟨S4x4x128x128, .f32⟩
  | 58 => ⟨S2048, .f32⟩
  | 59 => ⟨S4x512, .f32⟩
  | 60 => ⟨S2048, .f32⟩
  | 61 => ⟨S4x512, .f32⟩
  | 62 => ⟨S2048, .f32⟩
  | 63 => ⟨S4x512, .f32⟩
  | 64 => ⟨S262144, .f32⟩
  | 65 => ⟨S4x4x128x128, .f32⟩
  | 66 => ⟨S2048, .f32⟩
  | 67 => ⟨S4x4x128, .f32⟩
  | 68 => ⟨S4096, .f32⟩
  | 69 => ⟨S4x1024, .f32⟩
  | 70 => ⟨S4096, .f32⟩
  | 71 => ⟨S4x1024, .f32⟩
  | 72 => ⟨S1024, .f32⟩
  | _ => ⟨S4x1024, .f32⟩

abbrev hbmTy (i : Nat) : BufTy := match i / 128 with
  | 0 => hbmTy0_0 i
  | 1 => hbmTy0_1 i
  | _ => ⟨S4x1024, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_c : Ref sig .tc := ⟨.hbm, 65, rfl⟩
abbrev main_call0_v0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_c_0 : Ref sig .tc := ⟨.hbm, 82, rfl⟩
abbrev main_call1_v0 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_c_1 : Ref sig .tc := ⟨.hbm, 99, rfl⟩
abbrev main_call2_v0 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_c_2 : Ref sig .tc := ⟨.hbm, 116, rfl⟩
abbrev main_call3_v0 : Ref sig .tc := ⟨.hbm, 117, rfl⟩
abbrev main_v58 : Ref sig .tc := ⟨.hbm, 118, rfl⟩
abbrev main_v59 : Ref sig .tc := ⟨.hbm, 119, rfl⟩
abbrev main_v60_0 : Ref sig .tc := ⟨.hbm, 120, rfl⟩
abbrev main_v60_1 : Ref sig .tc := ⟨.hbm, 121, rfl⟩
abbrev main_v60_2 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallReferenceIdeal.lean ====
abbrev S4x1024 : Shape := ⟨2, ![4, 1024]⟩
abbrev S4x512 : Shape := ⟨2, ![4, 512]⟩
abbrev S4x4x128x128 : Shape := ⟨4, ![4, 4, 128, 128]⟩
abbrev S4x4x128 : Shape := ⟨3, ![4, 4, 128]⟩
abbrev S1024 : Shape := ⟨1, ![1024]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S4x1024, .f32⟩
  | 1 => ⟨S4x512, .f32⟩
  | 2 => ⟨S4x512, .f32⟩
  | 3 => ⟨S4x512, .f32⟩
  | 4 => ⟨S4x4x128x128, .f32⟩
  | 5 => ⟨S4x512, .f32⟩
  | 6 => ⟨S4x512, .f32⟩
  | 7 => ⟨S4x512, .f32⟩
  | 8 => ⟨S4x4x128x128, .f32⟩
  | 9 => ⟨S4x4x128, .f32⟩
  | 10 => ⟨S4x1024, .f32⟩
  | 11 => ⟨S4x1024, .f32⟩
  | 12 => ⟨S1024, .f32⟩
  | 13 => ⟨S4x1024, .f32⟩
  | 14 => ⟨S4x512, .f32⟩
  | 15 => ⟨S4x512, .f32⟩
  | 16 => ⟨S4x512, .f32⟩
  | 17 => ⟨S4x4x128x128, .f32⟩
  | 18 => ⟨S4x512, .f32⟩
  | 19 => ⟨S4x512, .f32⟩
  | 20 => ⟨S4x512, .f32⟩
  | 21 => ⟨S4x4x128x128, .f32⟩
  | 22 => ⟨S4x4x128, .f32⟩
  | 23 => ⟨S4x1024, .f32⟩
  | 24 => ⟨S4x1024, .f32⟩
  | 25 => ⟨S1024, .f32⟩
  | 26 => ⟨S4x1024, .f32⟩
  | 27 => ⟨S4x512, .f32⟩
  | 28 => ⟨S4x512, .f32⟩
  | 29 => ⟨S4x512, .f32⟩
  | 30 => ⟨S4x4x128x128, .f32⟩
  | 31 => ⟨S4x512, .f32⟩
  | 32 => ⟨S4x512, .f32⟩
  | 33 => ⟨S4x512, .f32⟩
  | 34 => ⟨S4x4x128x128, .f32⟩
  | 35 => ⟨S4x4x128, .f32⟩
  | 36 => ⟨S4x1024, .f32⟩
  | 37 => ⟨S4x1024, .f32⟩
  | 38 => ⟨S1024, .f32⟩
  | 39 => ⟨S4x1024, .f32⟩
  | 40 => ⟨S4x512, .f32⟩
  | 41 => ⟨S4x512, .f32⟩
  | 42 => ⟨S4x512, .f32⟩
  | 43 => ⟨S4x4x128x128, .f32⟩
  | 44 => ⟨S4x512, .f32⟩
  | 45 => ⟨S4x512, .f32⟩
  | 46 => ⟨S4x512, .f32⟩
  | 47 => ⟨S4x4x128x128, .f32⟩
  | 48 => ⟨S4x4x128, .f32⟩
  | 49 => ⟨S4x1024, .f32⟩
  | 50 => ⟨S4x1024, .f32⟩
  | 51 => ⟨S1024, .f32⟩
  | 52 => ⟨S_, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S4x1024, .f32⟩
  | 59 => ⟨S_, .f32⟩
  | 60 => ⟨S4x1024, .f32⟩
  | 61 => ⟨S4x1024, .f32⟩
  | 62 => ⟨S4x1024, .f32⟩
  | 63 => ⟨S_, .f32⟩
  | 64 => ⟨S4x1024, .f32⟩
  | 65 => ⟨S4x1024, .f32⟩
  | 66 => ⟨S4x1024, .f32⟩
  | 67 => ⟨S_, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S4x1024, .f32⟩
  | 74 => ⟨S_, .f32⟩
  | 75 => ⟨S4x1024, .f32⟩
  | 76 => ⟨S4x1024, .f32⟩
  | 77 => ⟨S4x1024, .f32⟩
  | 78 => ⟨S_, .f32⟩
  | 79 => ⟨S4x1024, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S_, .f32⟩
  | 86 => ⟨S4x512, .f32⟩
  | 87 => ⟨S4x512, .f32⟩
  | 88 => ⟨S_, .f32⟩
  | 89 => ⟨S4x512, .f32⟩
  | 90 => ⟨S4x512, .f32⟩
  | 91 => ⟨S4x512, .f32⟩
  | 92 => ⟨S_, .f32⟩
  | 93 => ⟨S4x512, .f32⟩
  | 94 => ⟨S4x512, .f32⟩
  | 95 => ⟨S4x512, .f32⟩
  | 96 => ⟨S_, .f32⟩
  | 97 => ⟨S4x512, .f32⟩
  | 98 => ⟨S4x512, .f32⟩
  | 99 => ⟨S4x512, .f32⟩
  | 100 => ⟨S_, .f32⟩
  | 101 => ⟨S4x512, .f32⟩
  | 102 => ⟨S4x512, .f32⟩
  | 103 => ⟨S_, .f32⟩
  | 104 => ⟨S4x512, .f32⟩
  | 105 => ⟨S4x512, .f32⟩
  | 106 => ⟨S4x512, .f32⟩
  | 107 => ⟨S_, .f32⟩
  | 108 => ⟨S4x512, .f32⟩
  | 109 => ⟨S4x512, .f32⟩
  | 110 => ⟨S4x512, .f32⟩
  | 111 => ⟨S_, .f32⟩
  | 112 => ⟨S4x512, .f32⟩
  | 113 => ⟨S4x512, .f32⟩
  | 114 => ⟨S4x512, .f32⟩
  | 115 => ⟨S_, .f32⟩
  | 116 => ⟨S4x512, .f32⟩
  | 117 => ⟨S4x512, .f32⟩
  | 118 => ⟨S_, .f32⟩
  | 119 => ⟨S4x512, .f32⟩
  | 120 => ⟨S4x512, .f32⟩
  | 121 => ⟨S_, .f32⟩
  | 122 => ⟨S4x512, .f32⟩
  | 123 => ⟨S4x512, .f32⟩
  | 124 => ⟨S4x512, .f32⟩
  | 125 => ⟨S_, .f32⟩
  | 126 => ⟨S4x512, .f32⟩
  | 127 => ⟨S4x512, .f32⟩
  | _ => ⟨S4x1024, .f32⟩

abbrev hbmTy0_1 (i : Nat) : BufTy := match i % 128 with
  | 0 => ⟨S4x512, .f32⟩
  | 1 => ⟨S_, .f32⟩
  | 2 => ⟨S4x512, .f32⟩
  | 3 => ⟨S4x512, .f32⟩
  | 4 => ⟨S4x512, .f32⟩
  | 5 => ⟨S_, .f32⟩
  | 6 => ⟨S4x512, .f32⟩
  | 7 => ⟨S4x512, .f32⟩
  | 8 => ⟨S_, .f32⟩
  | 9 => ⟨S4x512, .f32⟩
  | 10 => ⟨S4x512, .f32⟩
  | 11 => ⟨S4x512, .f32⟩
  | 12 => ⟨S_, .f32⟩
  | 13 => ⟨S4x512, .f32⟩
  | 14 => ⟨S4x512, .f32⟩
  | 15 => ⟨S4x512, .f32⟩
  | 16 => ⟨S_, .f32⟩
  | 17 => ⟨S4x512, .f32⟩
  | 18 => ⟨S4x512, .f32⟩
  | 19 => ⟨S4x512, .f32⟩
  | 20 => ⟨S_, .f32⟩
  | 21 => ⟨S4x512, .f32⟩
  | 22 => ⟨S4x512, .f32⟩
  | 23 => ⟨S_, .f32⟩
  | 24 => ⟨S4x512, .f32⟩
  | 25 => ⟨S4x512, .f32⟩
  | 26 => ⟨S_, .f32⟩
  | 27 => ⟨S4x512, .f32⟩
  | 28 => ⟨S4x512, .f32⟩
  | 29 => ⟨S4x512, .f32⟩
  | 30 => ⟨S_, .f32⟩
  | 31 => ⟨S4x512, .f32⟩
  | 32 => ⟨S4x512, .f32⟩
  | 33 => ⟨S4x512, .f32⟩
  | 34 => ⟨S_, .f32⟩
  | 35 => ⟨S4x512, .f32⟩
  | 36 => ⟨S4x512, .f32⟩
  | 37 => ⟨S4x512, .f32⟩
  | 38 => ⟨S_, .f32⟩
  | 39 => ⟨S4x512, .f32⟩
  | 40 => ⟨S4x512, .f32⟩
  | 41 => ⟨S_, .f32⟩
  | 42 => ⟨S4x512, .f32⟩
  | 43 => ⟨S4x512, .f32⟩
  | 44 => ⟨S4x512, .f32⟩
  | 45 => ⟨S_, .f32⟩
  | 46 => ⟨S4x512, .f32⟩
  | 47 => ⟨S4x512, .f32⟩
  | 48 => ⟨S4x512, .f32⟩
  | 49 => ⟨S_, .f32⟩
  | 50 => ⟨S4x512, .f32⟩
  | 51 => ⟨S4x512, .f32⟩
  | 52 => ⟨S4x512, .f32⟩
  | 53 => ⟨S_, .f32⟩
  | 54 => ⟨S4x512, .f32⟩
  | 55 => ⟨S4x512, .f32⟩
  | 56 => ⟨S_, .f32⟩
  | 57 => ⟨S4x4x128x128, .f32⟩
  | 58 => ⟨S4x4x128x128, .f32⟩
  | 59 => ⟨S_, .f32⟩
  | 60 => ⟨S4x4x128x128, .f32⟩
  | 61 => ⟨S4x4x128x128, .f32⟩
  | 62 => ⟨S4x4x128x128, .f32⟩
  | 63 => ⟨S_, .f32⟩
  | 64 => ⟨S4x4x128x128, .f32⟩
  | 65 => ⟨S4x4x128x128, .f32⟩
  | 66 => ⟨S4x4x128x128, .f32⟩
  | 67 => ⟨S_, .f32⟩
  | 68 => ⟨S4x4x128x128, .f32⟩
  | 69 => ⟨S4x4x128x128, .f32⟩
  | 70 => ⟨S4x4x128x128, .f32⟩
  | 71 => ⟨S_, .f32⟩
  | 72 => ⟨S4x4x128x128, .f32⟩
  | 73 => ⟨S4x4x128x128, .f32⟩
  | 74 => ⟨S_, .f32⟩
  | 75 => ⟨S4x4x128x128, .f32⟩
  | 76 => ⟨S4x4x128x128, .f32⟩
  | 77 => ⟨S4x4x128x128, .f32⟩
  | 78 => ⟨S_, .f32⟩
  | 79 => ⟨S4x4x128x128, .f32⟩
  | 80 => ⟨S4x4x128x128, .f32⟩
  | 81 => ⟨S4x4x128x128, .f32⟩
  | 82 => ⟨S_, .f32⟩
  | 83 => ⟨S4x4x128x128, .f32⟩
  | 84 => ⟨S4x4x128x128, .f32⟩
  | 85 => ⟨S4x4x128x128, .f32⟩
  | 86 => ⟨S_, .f32⟩
  | 87 => ⟨S4x4x128x128, .f32⟩
  | 88 => ⟨S4x4x128x128, .f32⟩
  | 89 => ⟨S_, .f32⟩
  | 90 => ⟨S4x512, .f32⟩
  | 91 => ⟨S4x512, .f32⟩
  | 92 => ⟨S_, .f32⟩
  | 93 => ⟨S4x512, .f32⟩
  | 94 => ⟨S4x512, .f32⟩
  | 95 => ⟨S4x512, .f32⟩
  | 96 => ⟨S_, .f32⟩
  | 97 => ⟨S4x512, .f32⟩
  | 98 => ⟨S4x512, .f32⟩
  | 99 => ⟨S4x512, .f32⟩
  | 100 => ⟨S_, .f32⟩
  | 101 => ⟨S4x512, .f32⟩
  | 102 => ⟨S4x512, .f32⟩
  | 103 => ⟨S4x512, .f32⟩
  | 104 => ⟨S_, .f32⟩
  | 105 => ⟨S4x512, .f32⟩
  | 106 => ⟨S4x512, .f32⟩
  | 107 => ⟨S_, .f32⟩
  | 108 => ⟨S4x512, .f32⟩
  | 109 => ⟨S4x512, .f32⟩
  | 110 => ⟨S4x512, .f32⟩
  | 111 => ⟨S_, .f32⟩
  | 112 => ⟨S4x512, .f32⟩
  | 113 => ⟨S4x512, .f32⟩
  | 114 => ⟨S4x512, .f32⟩
  | 115 => ⟨S_, .f32⟩
  | 116 => ⟨S4x512, .f32⟩
  | 117 => ⟨S4x512, .f32⟩
  | 118 => ⟨S4x512, .f32⟩
  | 119 => ⟨S_, .f32⟩
  | 120 => ⟨S4x512, .f32⟩
  | 121 => ⟨S4x512, .f32⟩
  | 122 => ⟨S_, .f32⟩
  | 123 => ⟨S4x512, .f32⟩
  | 124 => ⟨S4x512, .f32⟩
  | 125 => ⟨S_, .f32⟩
  | 126 => ⟨S4x512, .f32⟩
  | 127 => ⟨S4x512, .f32⟩
  | _ => ⟨S4x1024, .f32⟩

abbrev hbmTy0_2 (i : Nat) : BufTy := match i % 128 with
  | 0 => ⟨S4x512, .f32⟩
  | 1 => ⟨S_, .f32⟩
  | 2 => ⟨S4x512, .f32⟩
  | 3 => ⟨S4x512, .f32⟩
  | 4 => ⟨S4x512, .f32⟩
  | 5 => ⟨S_, .f32⟩
  | 6 => ⟨S4x512, .f32⟩
  | 7 => ⟨S4x512, .f32⟩
  | 8 => ⟨S4x512, .f32⟩
  | 9 => ⟨S_, .f32⟩
  | 10 => ⟨S4x512, .f32⟩
  | 11 => ⟨S4x512, .f32⟩
  | 12 => ⟨S_, .f32⟩
  | 13 => ⟨S4x512, .f32⟩
  | 14 => ⟨S4x512, .f32⟩
  | 15 => ⟨S4x512, .f32⟩
  | 16 => ⟨S_, .f32⟩
  | 17 => ⟨S4x512, .f32⟩
  | 18 => ⟨S4x512, .f32⟩
  | 19 => ⟨S4x512, .f32⟩
  | 20 => ⟨S_, .f32⟩
  | 21 => ⟨S4x512, .f32⟩
  | 22 => ⟨S4x512, .f32⟩
  | 23 => ⟨S4x512, .f32⟩
  | 24 => ⟨S_, .f32⟩
  | 25 => ⟨S4x512, .f32⟩
  | 26 => ⟨S4x512, .f32⟩
  | 27 => ⟨S_, .f32⟩
  | 28 => ⟨S4x512, .f32⟩
  | 29 => ⟨S4x512, .f32⟩
  | 30 => ⟨S_, .f32⟩
  | 31 => ⟨S4x512, .f32⟩
  | 32 => ⟨S4x512, .f32⟩
  | 33 => ⟨S4x512, .f32⟩
  | 34 => ⟨S_, .f32⟩
  | 35 => ⟨S4x512, .f32⟩
  | 36 => ⟨S4x512, .f32⟩
  | 37 => ⟨S4x512, .f32⟩
  | 38 => ⟨S_, .f32⟩
  | 39 => ⟨S4x512, .f32⟩
  | 40 => ⟨S4x512, .f32⟩
  | 41 => ⟨S4x512, .f32⟩
  | 42 => ⟨S_, .f32⟩
  | 43 => ⟨S4x512, .f32⟩
  | 44 => ⟨S4x512, .f32⟩
  | 45 => ⟨S_, .f32⟩
  | 46 => ⟨S4x512, .f32⟩
  | 47 => ⟨S4x512, .f32⟩
  | 48 => ⟨S4x512, .f32⟩
  | 49 => ⟨S_, .f32⟩
  | 50 => ⟨S4x512, .f32⟩
  | 51 => ⟨S4x512, .f32⟩
  | 52 => ⟨S4x512, .f32⟩
  | 53 => ⟨S_, .f32⟩
  | 54 => ⟨S4x512, .f32⟩
  | 55 => ⟨S4x512, .f32⟩
  | 56 => ⟨S4x512, .f32⟩
  | 57 => ⟨S_, .f32⟩
  | 58 => ⟨S4x512, .f32⟩
  | 59 => ⟨S4x512, .f32⟩
  | 60 => ⟨S_, .f32⟩
  | 61 => ⟨S4x4x128x128, .f32⟩
  | 62 => ⟨S4x4x128x128, .f32⟩
  | 63 => ⟨S_, .f32⟩
  | 64 => ⟨S4x4x128x128, .f32⟩
  | 65 => ⟨S4x4x128x128, .f32⟩
  | 66 => ⟨S4x4x128x128, .f32⟩
  | 67 => ⟨S_, .f32⟩
  | 68 => ⟨S4x4x128x128, .f32⟩
  | 69 => ⟨S4x4x128x128, .f32⟩
  | 70 => ⟨S4x4x128x128, .f32⟩
  | 71 => ⟨S_, .f32⟩
  | 72 => ⟨S4x4x128x128, .f32⟩
  | 73 => ⟨S4x4x128x128, .f32⟩
  | 74 => ⟨S4x4x128x128, .f32⟩
  | 75 => ⟨S_, .f32⟩
  | 76 => ⟨S4x4x128x128, .f32⟩
  | 77 => ⟨S4x4x128x128, .f32⟩
  | 78 => ⟨S_, .f32⟩
  | 79 => ⟨S4x4x128x128, .f32⟩
  | 80 => ⟨S4x4x128x128, .f32⟩
  | 81 => ⟨S4x4x128x128, .f32⟩
  | 82 => ⟨S_, .f32⟩
  | 83 => ⟨S4x4x128x128, .f32⟩
  | 84 => ⟨S4x4x128x128, .f32⟩
  | 85 => ⟨S4x4x128x128, .f32⟩
  | 86 => ⟨S_, .f32⟩
  | 87 => ⟨S4x4x128x128, .f32⟩
  | 88 => ⟨S4x4x128x128, .f32⟩
  | 89 => ⟨S4x4x128x128, .f32⟩
  | 90 => ⟨S_, .f32⟩
  | 91 => ⟨S4x4x128x128, .f32⟩
  | 92 => ⟨S4x4x128x128, .f32⟩
  | 93 => ⟨S_, .f32⟩
  | 94 => ⟨S4x4x128, .f32⟩
  | 95 => ⟨S4x4x128, .f32⟩
  | 96 => ⟨S_, .f32⟩
  | 97 => ⟨S4x4x128, .f32⟩
  | 98 => ⟨S4x4x128, .f32⟩
  | 99 => ⟨S4x4x128, .f32⟩
  | 100 => ⟨S_, .f32⟩
  | 101 => ⟨S4x4x128, .f32⟩
  | 102 => ⟨S4x4x128, .f32⟩
  | 103 => ⟨S4x4x128, .f32⟩
  | 104 => ⟨S_, .f32⟩
  | 105 => ⟨S4x4x128, .f32⟩
  | 106 => ⟨S4x4x128, .f32⟩
  | 107 => ⟨S4x4x128, .f32⟩
  | 108 => ⟨S_, .f32⟩
  | 109 => ⟨S4x4x128, .f32⟩
  | 110 => ⟨S4x4x128, .f32⟩
  | 111 => ⟨S_, .f32⟩
  | 112 => ⟨S4x4x128, .f32⟩
  | 113 => ⟨S4x4x128, .f32⟩
  | 114 => ⟨S4x4x128, .f32⟩
  | 115 => ⟨S_, .f32⟩
  | 116 => ⟨S4x4x128, .f32⟩
  | 117 => ⟨S4x4x128, .f32⟩
  | 118 => ⟨S4x4x128, .f32⟩
  | 119 => ⟨S_, .f32⟩
  | 120 => ⟨S4x4x128, .f32⟩
  | 121 => ⟨S4x4x128, .f32⟩
  | 122 => ⟨S4x4x128, .f32⟩
  | 123 => ⟨S_, .f32⟩
  | 124 => ⟨S4x4x128, .f32⟩
  | 125 => ⟨S4x4x128, .f32⟩
  | 126 => ⟨S_, .f32⟩
  | 127 => ⟨S4x1024, .f32⟩
  | _ => ⟨S4x1024, .f32⟩

abbrev hbmTy0_3 (i : Nat) : BufTy := match i % 128 with
  | 0 => ⟨S4x1024, .f32⟩
  | 1 => ⟨S_, .f32⟩
  | 2 => ⟨S4x1024, .f32⟩
  | 3 => ⟨S4x1024, .f32⟩
  | 4 => ⟨S4x1024, .f32⟩
  | 5 => ⟨S_, .f32⟩
  | 6 => ⟨S4x1024, .f32⟩
  | 7 => ⟨S4x1024, .f32⟩
  | 8 => ⟨S4x1024, .f32⟩
  | 9 => ⟨S_, .f32⟩
  | 10 => ⟨S4x1024, .f32⟩
  | 11 => ⟨S4x1024, .f32⟩
  | 12 => ⟨S4x1024, .f32⟩
  | 13 => ⟨S_, .f32⟩
  | 14 => ⟨S4x1024, .f32⟩
  | 15 => ⟨S4x1024, .f32⟩
  | 16 => ⟨S_, .f32⟩
  | 17 => ⟨S4x1024, .f32⟩
  | 18 => ⟨S4x1024, .f32⟩
  | 19 => ⟨S4x1024, .f32⟩
  | 20 => ⟨S_, .f32⟩
  | 21 => ⟨S4x1024, .f32⟩
  | 22 => ⟨S4x1024, .f32⟩
  | 23 => ⟨S4x1024, .f32⟩
  | 24 => ⟨S_, .f32⟩
  | 25 => ⟨S4x1024, .f32⟩
  | 26 => ⟨S4x1024, .f32⟩
  | 27 => ⟨S4x1024, .f32⟩
  | 28 => ⟨S_, .f32⟩
  | 29 => ⟨S4x1024, .f32⟩
  | 30 => ⟨S4x1024, .f32⟩
  | 31 => ⟨S_, .f32⟩
  | 32 => ⟨S4x1024, .f32⟩
  | 33 => ⟨S4x1024, .f32⟩
  | 34 => ⟨S_, .f32⟩
  | 35 => ⟨S4x1024, .f32⟩
  | 36 => ⟨S4x1024, .f32⟩
  | 37 => ⟨S4x1024, .f32⟩
  | 38 => ⟨S_, .f32⟩
  | 39 => ⟨S4x1024, .f32⟩
  | 40 => ⟨S4x1024, .f32⟩
  | 41 => ⟨S4x1024, .f32⟩
  | 42 => ⟨S_, .f32⟩
  | 43 => ⟨S4x1024, .f32⟩
  | 44 => ⟨S4x1024, .f32⟩
  | 45 => ⟨S4x1024, .f32⟩
  | 46 => ⟨S_, .f32⟩
  | 47 => ⟨S4x1024, .f32⟩
  | 48 => ⟨S4x1024, .f32⟩
  | 49 => ⟨S_, .f32⟩
  | 50 => ⟨S4x1024, .f32⟩
  | 51 => ⟨S4x1024, .f32⟩
  | 52 => ⟨S4x1024, .f32⟩
  | 53 => ⟨S_, .f32⟩
  | 54 => ⟨S4x1024, .f32⟩
  | 55 => ⟨S4x1024, .f32⟩
  | 56 => ⟨S4x1024, .f32⟩
  | 57 => ⟨S_, .f32⟩
  | 58 => ⟨S4x1024, .f32⟩
  | 59 => ⟨S4x1024, .f32⟩
  | 60 => ⟨S4x1024, .f32⟩
  | 61 => ⟨S_, .f32⟩
  | 62 => ⟨S4x1024, .f32⟩
  | 63 => ⟨S4x1024, .f32⟩
  | 64 => ⟨S_, .f32⟩
  | 65 => ⟨S1024, .f32⟩
  | 66 => ⟨S1024, .f32⟩
  | 67 => ⟨S_, .f32⟩
  | 68 => ⟨S1024, .f32⟩
  | 69 => ⟨S1024, .f32⟩
  | 70 => ⟨S1024, .f32⟩
  | 71 => ⟨S_, .f32⟩
  | 72 => ⟨S1024, .f32⟩
  | 73 => ⟨S1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S_, .f32⟩
  | 80 => ⟨S1024, .f32⟩
  | 81 => ⟨S1024, .f32⟩
  | 82 => ⟨S_, .f32⟩
  | 83 => ⟨S1024, .f32⟩
  | 84 => ⟨S1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S_, .f32⟩
  | 91 => ⟨S1024, .f32⟩
  | 92 => ⟨S1024, .f32⟩
  | 93 => ⟨S1024, .f32⟩
  | 94 => ⟨S_, .f32⟩
  | 95 => ⟨S1024, .f32⟩
  | 96 => ⟨S1024, .f32⟩
  | _ => ⟨S4x1024, .f32⟩

abbrev hbmTy (i : Nat) : BufTy := match i / 128 with
  | 0 => hbmTy0_0 i
  | 1 => hbmTy0_1 i
  | 2 => hbmTy0_2 i
  | 3 => hbmTy0_3 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== Proof.BranchBwd.lean ====
/-
  The derivative of the four branch products in their operand.
-/
module

public import proofs.«01_k».proof.Proof.Gen.BranchBwdIdeal.Frame
public import proofs.«01_k».proof.Proof.Gen.BranchBwdReferenceIdeal.Run
public import proofs.«01_k».proof.Proof.Gen.BranchBwdReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.BranchBwd

open Cert.BranchBwdIdeal Cert.BranchBwdIdeal.Gen Cert.BranchBwdReferenceIdeal.Read

variable (m : (ℓ : Loc nD τ sig) → Buf (Elt Ideal) ℓ)

/-- The block each window stands at, in the number of the grid point. -/
theorem idx_val : ∀ t : Fin cfg0.N, win0_0.index t = ![t.val / 2, t.val % 2, 0]
    ∧ win0_1.index t = ![t.val / 2, 0, 0]
    ∧ win0_2.index t = ![t.val / 2, t.val % 2, 0] :=
  (by decide +kernel : ∀ t : Fin grid0.N, _)

variable (c : Dev nD)

/-! The arguments on a device. -/
abbrev X0 : FVec Ideal S4x2048x1024 .f32 := m ((c : Thread nD τ).loc main_arg0)
abbrev X1 : FVec Ideal S4x512x1024 .f32 := m ((c : Thread nD τ).loc main_arg1)

/-- The body's product, read at a row and a column. -/
theorem pay_apply (v0 : FVec Ideal S1x1024x1024 .bf16) (v2 : FVec Ideal S1x512x1024 .bf16) (o : Fin 1) (a : Fin 1024) (b : Fin 512) :
    k0_pay1 (F := Ideal) v0 v2 (ix3 o a b) = ∑ k : Fin 1024, v0 (ix3 0 a k) * v2 (ix3 0 b k) := by
  pointwise [k0_pay1]

/-- The reference's product, read at a row and a column. -/
theorem ref_apply (x0 : FVec Ideal S4x2048x1024 .f32) (x1 : FVec Ideal S4x512x1024 .f32) (g : Fin 4) (a : Fin 2048) (b : Fin 512) :
    val_main_v7 (F := Ideal) x0 x1 (ix3 g a b) = ∑ k : Fin 1024, x0 (ix3 g a k) * x1 (ix3 g b k) := by
  pointwise [val_main_v7, val_main_v6, val_main_v5, val_main_v4, val_main_v3] <;> exact Finset.sum_congr rfl fun k _ => mul_comm _ _

/-- A row block of a branch's cotangent. -/
theorem l_read (t : Fin cfg0.N) (o : Fin 1) (a k : Fin 1024) (g : Fin 4) (r : Fin 2048) (hg : g.val = t.val / 2) (hr : r.val = t.val % 2 * 1024 + a.val) :
    @Eq EReal (iblk m c 0 t (ix3 o a k)) (X0 m c (ix3 g r k)) := by
  have ht : t.val < cfg0.N := t.isLt
  have e (G : S4x2048x1024.Idx → EReal) : G ((win0_0.blk t).view.emb (ix3 o a k)) = G (ix3 g r k) := by
    blk_ext [idx_val t]
  blk_simp [iblk, idx_val t]
  entry_read
  refine (e _).trans ?_
  pointwise []

/-- A branch's matrix. -/
theorem r_read (t : Fin cfg0.N) (o : Fin 1) (b : Fin 512) (k : Fin 1024) (g : Fin 4) (hg : g.val = t.val / 2) :
    @Eq EReal (iblk m c 1 t (ix3 o b k)) (X1 m c (ix3 g b k)) := by
  have ht : t.val < cfg0.N := t.isLt
  have e (G : S4x512x1024.Idx → EReal) : G ((win0_1.blk t).view.emb (ix3 o b k)) = G (ix3 g b k) := by
    blk_ext [idx_val t]
  blk_simp [iblk, idx_val t]
  entry_read
  refine (e _).trans ?_
  pointwise []

/-- The result array after the run. -/
theorem final : (dats m 0 c).arrAt 2 (cfgs 0).N
    = fun i : S4x2048x512.Idx => val_main_v7 (F := Ideal) (X0 m c) (X1 m c) i := by
  refine (dats m 0 c).arrAt_eq_of_covers 2 _ (by decide +kernel) fun t hf y => ?_
  blk_simp; rw [after0_2]
  unfold outsAt0
  frame_out
  obtain ⟨o, a, b, rfl⟩ : ∃ (o : Fin 1) (a : Fin 1024) (b : Fin 512), y = ix3 o a b := ⟨y 0, y 1, y 2, eq_ix3 y⟩
  have ht : t.val < 8 := lt_of_lt_of_eq t.isLt N_0
  have e (G : S4x2048x512.Idx → EReal) : G ((win0_2.blk t).view.emb (ix3 o a b)) = G (ix3 ⟨t.val / 2, by omega⟩ ⟨t.val % 2 * 1024 + a.val, by omega⟩ b) := by
    blk_ext [idx_val t]
  refine Eq.trans ?_ (e (fun i => val_main_v7 (F := Ideal) (X0 m c) (X1 m c) i)).symm
  refine (pay_apply _ _ o a b).trans ((ref_apply _ _ _ _ b).trans ?_).symm
  exact Finset.sum_congr rfl fun k _ => (congrArg₂ _ (l_read m c t 0 a k _ _ rfl rfl) (r_read m c t 0 b k _ rfl)).symm

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v2) = val_main_v7 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨((hr.1 c).1 2).trans (final m c), hr.2 c⟩)
    (θ_run_and (run_main m ρ) (unchanged m ρ))

end Cert.Proof.BranchBwd

end
-- ==== Proof.DwBranch.lean ====
/-
  The gradients of the four branches' matrices.
-/
module

public import proofs.«01_k».proof.Proof.Gen.DwBranchIdeal.Frame
public import proofs.«01_k».proof.Proof.Gen.DwBranchReferenceIdeal.Run
public import proofs.«01_k».proof.Proof.Gen.DwBranchReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.DwBranch

open Cert.DwBranchIdeal Cert.DwBranchIdeal.Gen Cert.DwBranchReferenceIdeal.Read

variable (m : (ℓ : Loc nD τ sig) → Buf (Elt Ideal) ℓ)

/-- The block each window stands at, in the number of the grid point. -/
theorem idx_val : ∀ t : Fin cfg0.N, win0_0.index t = ![0, t.val]
    ∧ win0_1.index t = ![t.val, 0, 0]
    ∧ win0_2.index t = ![t.val, 0, 0] :=
  (by decide +kernel : ∀ t : Fin grid0.N, _)

variable (c : Dev nD)

/-! The arguments on a device. -/
abbrev X0 : FVec Ideal S2048x2048 .f32 := m ((c : Thread nD τ).loc main_arg0)
abbrev X1 : FVec Ideal S4x2048x1024 .f32 := m ((c : Thread nD τ).loc main_arg1)

/-- The body's product, read at a row and a column. -/
theorem pay_apply (v0 : FVec Ideal S2048x512 .bf16) (v2 : FVec Ideal S1x2048x1024 .bf16) (o : Fin 1) (a : Fin 512) (b : Fin 1024) :
    k0_pay1 (F := Ideal) v0 v2 (ix3 o a b) = ∑ k : Fin 2048, v0 (ix2 k a) * v2 (ix3 0 k b) := by
  pointwise [k0_pay1]

/-- The reference's product, read at a row and a column. -/
theorem ref_apply (x0 : FVec Ideal S2048x2048 .f32) (x1 : FVec Ideal S4x2048x1024 .f32) (g : Fin 4) (a : Fin 512) (b : Fin 1024) :
    val_main_v8 (F := Ideal) x0 x1 (ix3 g a b) = ∑ k : Fin 2048, x0 (ix2 k ⟨g.val * 512 + a.val, by omega⟩) * x1 (ix3 g k b) := by
  pointwise [val_main_v8, val_main_v7, val_main_v6, val_main_v5, val_main_v4, val_main_v1] <;> exact Finset.sum_congr rfl fun k _ => mul_comm _ _

/-- A branch's columns of the mixer's output. -/
theorem l_read (t : Fin cfg0.N) (k : Fin 2048) (a : Fin 512) (j : Fin 2048) (hj : j.val = t.val * 512 + a.val) :
    @Eq EReal (iblk m c 0 t (ix2 k a)) (X0 m c (ix2 k j)) := by
  have ht : t.val < cfg0.N := t.isLt
  have e (G : S2048x2048.Idx → EReal) : G ((win0_0.blk t).view.emb (ix2 k a)) = G (ix2 k j) := by
    blk_ext [idx_val t]
  blk_simp [iblk, idx_val t]
  entry_read
  refine (e _).trans ?_
  pointwise []

/-- A branch's cotangent. -/
theorem r_read (t : Fin cfg0.N) (o : Fin 1) (k : Fin 2048) (b : Fin 1024) (g : Fin 4) (hg : g.val = t.val) :
    @Eq EReal (iblk m c 1 t (ix3 o k b)) (X1 m c (ix3 g k b)) := by
  have ht : t.val < cfg0.N := t.isLt
  have e (G : S4x2048x1024.Idx → EReal) : G ((win0_1.blk t).view.emb (ix3 o k b)) = G (ix3 g k b) := by
    blk_ext [idx_val t]
  blk_simp [iblk, idx_val t]
  entry_read
  refine (e _).trans ?_
  pointwise []

/-- The result array after the run. -/
theorem final : (dats m 0 c).arrAt 2 (cfgs 0).N
    = fun i : S4x512x1024.Idx => val_main_v8 (F := Ideal) (X0 m c) (X1 m c) i := by
  refine (dats m 0 c).arrAt_eq_of_covers 2 _ (by decide +kernel) fun t hf y => ?_
  blk_simp; rw [after0_2]
  unfold outsAt0
  frame_out
  obtain ⟨o, a, b, rfl⟩ : ∃ (o : Fin 1) (a : Fin 512) (b : Fin 1024), y = ix3 o a b := ⟨y 0, y 1, y 2, eq_ix3 y⟩
  have ht : t.val < 4 := lt_of_lt_of_eq t.isLt N_0
  have e (G : S4x512x1024.Idx → EReal) : G ((win0_2.blk t).view.emb (ix3 o a b)) = G (ix3 ⟨t.val, by omega⟩ a b) := by
    blk_ext [idx_val t]
  refine Eq.trans ?_ (e (fun i => val_main_v8 (F := Ideal) (X0 m c) (X1 m c) i)).symm
  refine (pay_apply _ _ o a b).trans ((ref_apply _ _ _ a b).trans ?_).symm
  exact Finset.sum_congr rfl fun k _ => (congrArg₂ _ (l_read m c t k a _ rfl) (r_read m c t 0 k b _ rfl)).symm

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v2) = val_main_v8 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨((hr.1 c).1 2).trans (final m c), hr.2 c⟩)
    (θ_run_and (run_main m ρ) (unchanged m ρ))

end Cert.Proof.DwBranch

end
-- ==== Proof.DwIn.lean ====
/-
  The gradient of the input projection's matrix: the product the kernel computes is the reference's.
-/
module

public import proofs.«01_k».proof.Proof.Gen.DwInIdeal.Frame
public import proofs.«01_k».proof.Proof.Gen.DwInReferenceIdeal.Run
public import proofs.«01_k».proof.Proof.Gen.DwInReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.DwIn

open Cert.DwInIdeal Cert.DwInIdeal.Gen Cert.DwInReferenceIdeal.Read

variable (m : (ℓ : Loc nD τ sig) → Buf (Elt Ideal) ℓ)

/-- The block each window stands at, in the number of the grid point. -/
theorem idx_val : ∀ t : Fin cfg0.N, win0_0.index t = ![0, 0, 0]
    ∧ win0_1.index t = ![0, 0, t.val]
    ∧ win0_2.index t = ![0, 0, t.val] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024 .f32 := m ((c : Thread nD τ).loc main_arg1)
abbrev X2 : FVec Ideal S2048x8192 .f32 := m ((c : Thread nD τ).loc main_arg2)

/-- The body's product, read at a row and a column. -/
theorem pay_apply (v0 : FVec Ideal S1x2048x1024 .bf16) (v2 : FVec Ideal S1x2048x1024 .bf16) (o : Fin 1) (a : Fin 1024) (b : Fin 1024) :
    k0_pay1 (F := Ideal) v0 v2 (ix3 o a b) = ∑ k : Fin 2048, v0 (ix3 0 k a) * v2 (ix3 0 k b) := by
  pointwise [k0_pay1]

/-- The reference's product, read at a row and a column. -/
theorem ref_apply (x0 : FVec Ideal S2048x1024 .f32) (x1 : FVec Ideal S1024 .f32) (x2 : FVec Ideal S2048x8192 .f32) (a : Fin 1024) (b : Fin 8192) :
    val_main_v17 (F := Ideal) x0 x1 x2 (ix2 a b) = ∑ k : Fin 2048, (val_main_v13 (F := Ideal) x0 x1) (ix2 k a) * x2 (ix2 k b) := by
  pointwise [val_main_v17, val_main_v16, val_main_v15] <;> exact Finset.sum_congr rfl fun k _ => mul_comm _ _

/-- A column block of the left operand. -/
theorem l_read (t : Fin cfg0.N) (o : Fin 1) (k : Fin 2048) (a : Fin 1024)  :
    @Eq EReal (iblk m c 0 t (ix3 o k a)) (val_main_v13 (F := Ideal) (X0 m c) (X1 m c) (ix2 k a)) := by
  have ht : t.val < cfg0.N := t.isLt
  have e (G : S1x2048x1024.Idx → EReal) : G ((win0_0.blk t).view.emb (ix3 o k a)) = G (ix3 0 k a) := by
    blk_ext [idx_val t]
  blk_simp [iblk, idx_val t]
  unfold V V0
  simp only [List.flatten_cons, List.flatten_nil, List.append_nil, StableHlo.after_append]
  entry_read
  refine (e _).trans ?_
  pointwise [val_main_v13, val_main_v10, val_main_v9, val_main_v8, val_main_v7, val_main_v5, val_main_v3, val_main_v2, val_main_v1, val_main_cst_0, val_main_v4, val_main_cst_1, val_main_v6, val_main_cst_2, val_main_v12, val_main_v11]

/-- A column block of the right operand. -/
theorem r_read (t : Fin cfg0.N) (o : Fin 1) (k : Fin 2048) (b : Fin 1024) (j : Fin 8192) (hj : j.val = t.val * 1024 + b.val) :
    @Eq EReal (iblk m c 1 t (ix3 o k b)) (X2 m c (ix2 k j)) := by
  have ht : t.val < cfg0.N := t.isLt
  have e (G : S1x2048x8192.Idx → EReal) : G ((win0_1.blk t).view.emb (ix3 o k b)) = G (ix3 0 k j) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final : (dats m 0 c).arrAt 2 (cfgs 0).N
    = fun i : S1x1024x8192.Idx => val_main_v17 (F := Ideal) (X0 m c) (X1 m c) (X2 m c) (ix2 (i 1) (i 2)) := by
  refine (dats m 0 c).arrAt_eq_of_covers 2 _ (by decide +kernel) fun t hf y => ?_
  blk_simp; rw [after0_2]
  unfold outsAt0
  frame_out
  obtain ⟨o, a, b, rfl⟩ : ∃ (o : Fin 1) (a : Fin 1024) (b : Fin 1024), y = ix3 o a b := ⟨y 0, y 1, y 2, eq_ix3 y⟩
  have ht : t.val < 8 := lt_of_lt_of_eq t.isLt N_0
  have e (G : S1x1024x8192.Idx → EReal) : G ((win0_2.blk t).view.emb (ix3 o a b)) = G (ix3 0 (show Fin 1024 from a) ⟨t.val * 1024 + b.val, by omega⟩) := by
    blk_ext [idx_val t]
  refine Eq.trans ?_ (e (fun i => val_main_v17 (F := Ideal) (X0 m c) (X1 m c) (X2 m c) (ix2 (i 1) (i 2)))).symm
  refine (pay_apply _ _ o a b).trans ((ref_apply _ _ _ _ _).trans ?_).symm
  exact Finset.sum_congr rfl fun k _ => (congrArg₂ _ (l_read m c t 0 k a) (r_read m c t 0 k b _ rfl)).symm

/-- The result is the array without its leading axis. -/
theorem tail : Pipeline.afterTail₀ cfgs (dats m) 0 (V0 m) [hostOps1] c main_v18
    = shapeCast S1024x8192 ((dats m 0 c).arrAt 2 (cfgs 0).N) shapeCasts_S1x1024x8192_S1024x8192 := by
  unfold Pipeline.afterTail₀
  show StableHlo.after hostOps1 _ _ = _
  after_results
  exact congrArg (fun x => shapeCast S1024x8192 x shapeCasts_S1x1024x8192_S1024x8192)
    (Pipeline.withArrays_arr (cfgs 0).spec (by decide) c (V0 m c) (fun w => (dats m 0 c).arrAt w (cfgs 0).N) 2)

/-- The result read off the array. -/
theorem result : shapeCast S1024x8192 ((dats m 0 c).arrAt 2 (cfgs 0).N) shapeCasts_S1x1024x8192_S1024x8192
    = val_main_v17 (F := Ideal) (X0 m c) (X1 m c) (X2 m c) := by
  have key (f : FVec Ideal S1x1024x8192 .bf16) (a : Fin 1024) (b : Fin 8192) :
      shapeCast S1024x8192 f shapeCasts_S1x1024x8192_S1024x8192 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v18) = val_main_v17 (F := Ideal) (X0 m c) (X1 m c) (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => ⟨((hr.1 c).2 main_v18 (by decide)).trans ((tail m c).trans (result m c)), hr.2 c⟩)
    (θ_run_and (run_main m ρ) (unchanged m ρ))

end Cert.Proof.DwIn

end
-- ==== Proof.Rms.lean ====
/-
  The derivative of the root-mean-square norm, read on one row.
-/
module

public import Idealize.ShloMosaic.Lib.Pipeline.ValueKit
public import Idealize.ShloMosaic.Lib.Claim

@[expose] public section

noncomputable section

open Idealize.ShloMosaic
open scoped BigOperators

namespace Cert.Proof.Rms

/-- The mean square of a row, with the norm's small constant. -/
def meanSq (x : Fin 1024 → EReal) : EReal := Ideal.div (∑ k, x k * x k) (Ideal.ofBits .f32 0x44800000#32) + Ideal.ofBits .f32 0x358637BD#32

/-- The row's scale. -/
def scale (x : Fin 1024 → EReal) : EReal := Ideal.rsqrt (meanSq x)

/-- The derivative of the scale by the mean square. -/
def slope (x : Fin 1024 → EReal) : EReal := Ideal.ofBits .f32 0xBF000000#32 * Ideal.div (scale x) (meanSq x)

/-- What the mean square passes back to each entry of the row, but for the entry itself: `dh` is the normed row's cotangent. -/
def back (x g dh : Fin 1024 → EReal) : EReal := Ideal.div ((∑ k, x k * (dh k * g k)) * slope x) (Ideal.ofBits .f32 0x44800000#32)

/-- The row's cotangent, added to what comes along the residual. -/
def dx (x g dh d : Fin 1024 → EReal) (j : Fin 1024) : EReal := d j + dh j * g j * scale x + x j * back x g dh + back x g dh * x j

/-- The kernel adds the residual's part last. -/
theorem dx_last (x g dh d : Fin 1024 → EReal) (j : Fin 1024) :
    dh j * g j * scale x + x j * back x g dh + back x g dh * x j + d j = dx x g dh d j := by
  unfold dx
  rw [add_comm _ (d j), ← add_assoc, ← add_assoc]

/-- One row's part of the gain's cotangent. -/
def gain (x dh : Fin 2048 → Fin 1024 → EReal) (b : Fin 1024) (r : Fin 2048) : EReal := x r b * scale (x r) * dh r b

/-- The gain's cotangent over the rows of one block. -/
def gainBlock (x dh : Fin 2048 → Fin 1024 → EReal) (b : Fin 1024) (q : Fin 2) : EReal :=
  ∑ a : Fin 1024, gain x dh b ⟨q.val * 1024 + a.val, by omega⟩

/-- The two blocks make up all rows. -/
theorem sum_gainBlock (x dh : Fin 2048 → Fin 1024 → EReal) (b : Fin 1024) : ∑ q : Fin 2, gainBlock x dh b q = ∑ r : Fin 2048, gain x dh b r :=
  Fin.sum_mul_add_congr fun _ _ _ => rfl

/-- The block a copy of a block's sum belongs to. -/
def half (n : Fin 16) : Fin 2 := ⟨n.val / 8, by omega⟩

end Cert.Proof.Rms

end
-- ==== Proof.ProjBwd.lean ====
/-
  The derivative of the norm before the input projection, with its product.
-/
module

public import proofs.«01_k».proof.Proof.Gen.ProjBwdIdeal.Frame
public import proofs.«01_k».proof.Proof.Gen.ProjBwdReferenceIdeal.Run
public import proofs.«01_k».proof.Proof.Gen.ProjBwdReferenceIdeal.Read
public import proofs.«01_k».proof.Proof.Rms
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.ProjBwd

open Cert.ProjBwdIdeal Cert.ProjBwdIdeal.Gen Cert.ProjBwdReferenceIdeal.Read

variable (m : (ℓ : Loc nD τ sig) → Buf (Elt Ideal) ℓ)

/-- The block each window stands at, in the number of the grid point. -/
theorem idx_val : ∀ t : Fin cfg0.N, win0_0.index t = ![0, t.val / 8, t.val % 8]
    ∧ win0_1.index t = ![0, t.val % 8 / 2, 0, t.val % 8 % 2]
    ∧ win0_2.index t = ![0, t.val / 8, 0]
    ∧ win0_3.index t = ![0, t.val / 8, 0]
    ∧ win0_4.index t = ![0, 0, 0]
    ∧ win0_5.index t = ![0, t.val / 8, 0]
    ∧ win0_6.index t = ![0, t.val / 8, 0] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024 .f32 := m ((c : Thread nD τ).loc main_arg1)
abbrev X2 : FVec Ideal S1024x8192 .f32 := m ((c : Thread nD τ).loc main_arg2)
abbrev X3 : FVec Ideal S2048x8192 .f32 := m ((c : Thread nD τ).loc main_arg3)
abbrev X4 : FVec Ideal S2048x1024 .f32 := m ((c : Thread nD τ).loc main_arg4)

/-- The rows of the residual stream, the gain, the normed rows' cotangent and the rows of the residual's cotangent. -/
abbrev xs (r : Fin 2048) (j : Fin 1024) : EReal := X0 m c (ix2 r j)
abbrev gs (j : Fin 1024) : EReal := X1 m c (ix1 j)
abbrev dhs (r : Fin 2048) (j : Fin 1024) : EReal := ∑ k : Fin 8192, (X3 m c (ix2 r k) : EReal) * X2 m c (ix2 j k)
abbrev ds (r : Fin 2048) (j : Fin 1024) : EReal := X4 m c (ix2 r j)

/-- The body's first value, of the sum `v16` and the blocks. -/
theorem pay_dx (v16 : FVec Ideal S1024x1024 .f32) (v17 v19 : FVec Ideal S1x1024x1024 .f32) (v21 : FVec Ideal S1x1x1024 .f32) (o : Fin 1) (a b : Fin 1024) :
    k0_pay3 (F := Ideal) (k0_pay9 v16 v17 v19 v21) (ix3 o a b)
      = Rms.dx (fun k => v17 (ix3 0 a k)) (fun k => v21 (ix3 0 0 k)) (fun j => v16 (ix2 a j)) (fun k => v19 (ix3 0 a k)) b := by
  rw [← Rms.dx_last]
  pointwise [k0_pay3, k0_pay5, k0_pay6, k0_pay7, k0_pay9, Rms.meanSq, Rms.scale, Rms.slope, Rms.back]
  simp only [Fin.sum_univ_one]

/-- The body's second value. -/
theorem pay_dg (v16 : FVec Ideal S1024x1024 .f32) (v17 : FVec Ideal S1x1024x1024 .f32) (o : Fin 1) (s : Fin 8) (b : Fin 1024) :
    k0_pay4 (F := Ideal) (k0_pay8 v16 v17) (ix3 o s b)
      = ∑ a : Fin 1024, v17 (ix3 0 a b) * Rms.scale (fun k => v17 (ix3 0 a k)) * v16 (ix2 a b) := by
  pointwise [k0_pay4, k0_pay8, k0_pay5, k0_pay6, k0_pay7, Rms.meanSq, Rms.scale]

/-- The sum starts at zero. -/
theorem pay_zero (a b : Fin 1024) : @Eq EReal (k0_pay1 (F := Ideal) (ix2 a b)) 0 := by pointwise [k0_pay1]

/-- One step of the sum. -/
theorem pay_step (v3 : FVec Ideal S1024x1024 .f32) (v4 : FVec Ideal S1x1024x1024 .bf16) (v6 : FVec Ideal S1x1x1024x1024 .bf16) (a b : Fin 1024) :
    @Eq EReal (k0_pay2 (F := Ideal) v3 v4 v6 (ix2 a b)) (v3 (ix2 a b) + ∑ k : Fin 1024, (v4 (ix3 0 a k) : EReal) * v6 (ix4 0 0 b k)) := by
  pointwise [k0_pay2]

/-- The reference's first result, read at a row and a column. -/
theorem ref_dx (x0 : FVec Ideal S2048x1024 .f32) (x1 : FVec Ideal S1024 .f32) (x2 : FVec Ideal S1024x8192 .f32) (x3 : FVec Ideal S2048x8192 .f32) (x4 : FVec Ideal S2048x1024 .f32) (a : Fin 2048) (b : Fin 1024) :
    val_main_v38 (F := Ideal) x0 x1 x2 x3 x4 (ix2 a b)
      = Rms.dx (fun k => x0 (ix2 a k)) (fun k => x1 (ix1 k)) (fun j => ∑ k : Fin 8192, x3 (ix2 a k) * x2 (ix2 j k)) (fun k => x4 (ix2 a k)) b := by
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v17, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7, Rms.dx, Rms.meanSq, Rms.scale, Rms.slope, Rms.back]
  simp only [Fin.sum_univ_one]

/-- The reference's second result. -/
theorem ref_dg (x0 : FVec Ideal S2048x1024 .f32) (x1 : FVec Ideal S1024 .f32) (x2 : FVec Ideal S1024x8192 .f32) (x3 : FVec Ideal S2048x8192 .f32) (x4 : FVec Ideal S2048x1024 .f32) (o : Fin 1) (b : Fin 1024) :
    val_main_v39 (F := Ideal) x0 x2 x3 (ix2 o b)
      = ∑ a : Fin 2048, Rms.gain (fun r k => x0 (ix2 r k)) (fun r j => ∑ k : Fin 8192, x3 (ix2 r k) * x2 (ix2 j k)) b a := by
  pointwise [val_main_v39, val_main_v23, val_main_v20, val_main_v19, val_main_v18, val_main_v12, val_main_v11, val_main_v17, val_main_v7, val_main_v6, val_main_v5, val_main_v4, val_main_v3, val_main_v2, val_main_v1, val_main_v0, val_main_cst, val_main_cst_0, val_main_cst_1, val_main_cst_3, val_main_cst_4, Rms.gain, Rms.meanSq, Rms.scale]
  simp only [Fin.sum_univ_one]

/-! The blocks at a grid point, read at an index. -/
abbrev lb (t : Fin cfg0.N) (a k : Fin 1024) : EReal := iblk m c 0 t (ix3 0 a k)
abbrev wb (t : Fin cfg0.N) (b k : Fin 1024) : EReal := iblk m c 1 t (ix4 0 0 b k)
abbrev xb (t : Fin cfg0.N) (a k : Fin 1024) : EReal := iblk m c 2 t (ix3 0 a k)
abbrev db (t : Fin cfg0.N) (a k : Fin 1024) : EReal := iblk m c 3 t (ix3 0 a k)
abbrev gb (t : Fin cfg0.N) (k : Fin 1024) : EReal := iblk m c 4 t (ix3 0 0 k)

/-- The scratch array after a grid point, read at an index. -/
abbrev sb (t : Fin cfg0.N) (a b : Fin 1024) : EReal := (outsAt0 m c t.val t.isLt).2.2 (ix2 a b)
abbrev sp (t : Fin cfg0.N) (a b : Fin 1024) : EReal := (outsAt0 m c (t.val - 1) (Nat.lt_of_le_of_lt (Nat.sub_le _ _) t.isLt)).2.2 (ix2 a b)

/-- A block of the cotangent. -/
theorem l_read (t : Fin cfg0.N) (o : Fin 1) (a k : Fin 1024) (r : Fin 2048) (q : Fin 8192) (hr : r.val = t.val / 8 * 1024 + a.val) (hq : q.val = t.val % 8 * 1024 + k.val) :
    @Eq EReal (iblk m c 0 t (ix3 o a k)) (X3 m c (ix2 r q)) := by
  have ht : t.val < cfg0.N := t.isLt
  have e (G : S1x2048x8192.Idx → EReal) : G ((win0_0.blk t).view.emb (ix3 o a k)) = G (ix3 0 r q) := by
    blk_ext [idx_val t]
  blk_simp [iblk, idx_val t]
  unfold V V0
  simp only [List.flatten_cons, List.flatten_nil, List.append_nil, StableHlo.after_append]
  entry_read
  refine (e _).trans ?_
  pointwise []

/-- A block of the matrix, which is kept by the chips' columns. -/
theorem w_read (t : Fin cfg0.N) (o p : Fin 1) (b k : Fin 1024) (q : Fin 8192) (hq : q.val = t.val % 8 * 1024 + k.val) :
    @Eq EReal (iblk m c 1 t (ix4 o p b k)) (X2 m c (ix2 b q)) := by
  have ht : t.val < cfg0.N := t.isLt
  have e (G : S1x4x1024x2048.Idx → EReal) : G ((win0_1.blk t).view.emb (ix4 o p b k)) = G (ix4 0 ⟨t.val % 8 / 2, by omega⟩ b ⟨t.val % 8 % 2 * 1024 + k.val, by omega⟩) := by
    blk_ext [idx_val t]
  blk_simp [iblk, idx_val t]
  unfold V V0
  simp only [List.flatten_cons, List.flatten_nil, List.append_nil, StableHlo.after_append]
  entry_read
  refine (e _).trans ?_
  pointwise []
  exact congrArg (fun z => X2 m c (ix2 b z)) (Fin.ext (by show _ = q.val; dsimp only; omega))

/-- A block of the residual stream. -/
theorem x_read (t : Fin cfg0.N) (o : Fin 1) (a k : Fin 1024) (r : Fin 2048) (hr : r.val = t.val / 8 * 1024 + a.val) :
    @Eq EReal (iblk m c 2 t (ix3 o a k)) (xs m c r k) := by
  have ht : t.val < cfg0.N := t.isLt
  have e (G : S1x2048x1024.Idx → EReal) : G ((win0_2.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- A block of the residual's cotangent. -/
theorem d_read (t : Fin cfg0.N) (o : Fin 1) (a k : Fin 1024) (r : Fin 2048) (hr : r.val = t.val / 8 * 1024 + a.val) :
    @Eq EReal (iblk m c 3 t (ix3 o a k)) (ds m c r k) := by
  have ht : t.val < cfg0.N := t.isLt
  have e (G : S1x2048x1024.Idx → EReal) : G ((win0_3.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- The gain. -/
theorem g_read (t : Fin cfg0.N) (o p : Fin 1) (k : Fin 1024)  :
    @Eq EReal (iblk m c 4 t (ix3 o p k)) (gs m c k) := by
  have ht : t.val < cfg0.N := t.isLt
  have e (G : S1x1x1024.Idx → EReal) : G ((win0_4.blk t).view.emb (ix3 o p k)) = G (ix3 0 0 k) := by
    blk_ext [idx_val t]
  blk_simp [iblk, idx_val t]
  unfold V V0
  simp only [List.flatten_cons, List.flatten_nil, List.append_nil, StableHlo.after_append]
  entry_read
  refine (e _).trans ?_
  pointwise []

/-- The scratch array is the sum over the blocks up to this one. -/
theorem sum_first (t : Fin cfg0.N) (h : t.val % 8 = 0) (a b : Fin 1024) :
    sb m c t a b = 0 + ∑ k : Fin 1024, lb m c t a k * wb m c t b k := by
  unfold sb
  rw [outsAt0_A m c t h (by omega)]
  frame_out
  refine (pay_step _ _ _ a b).trans ?_
  exact congrArg (fun z : EReal => z + _) (pay_zero a b)

theorem sum_next (t : Fin cfg0.N) (h : ¬t.val % 8 = 0) (a b : Fin 1024) :
    sb m c t a b = sp m c t a b + ∑ k : Fin 1024, lb m c t a k * wb m c t b k := by
  unfold sb
  by_cases h1 : t.val % 8 = 7
  · rw [outsAt0_C m c t h h1]
    frame_out
    exact (pay_step _ _ _ a b).trans (congrArg (fun z : FVec Ideal S1024x1024 .f32 => (z (ix2 a b) : EReal) + _) ((Memref.isWhole_whole cc0_scratch0).read_unread _))
  · rw [outsAt0_B m c t h h1]
    frame_out
    exact (pay_step _ _ _ a b).trans (congrArg (fun z : FVec Ideal S1024x1024 .f32 => (z (ix2 a b) : EReal) + _) ((Memref.isWhole_whole cc0_scratch0).read_unread _))

/-- At a row block's last point the scratch array holds the whole product. -/
theorem sum_val (t : Fin cfg0.N) (h : t.val % 8 = 7) (a b : Fin 1024) (r : Fin 2048) (hr : r.val = t.val / 8 * 1024 + a.val) :
    sb m c t a b = dhs m c r b := by
  have ht : t.val < 16 := lt_of_lt_of_eq t.isLt N_0
  have key (s : Fin 8) (k : Fin 1024) (hl : s.val * 1024 + k.val < 8192) (u : Fin cfg0.N) (hu : u.val = 8 * (t.val / 8) + s.val) :
      lb m c u a k * wb m c u b k = (X3 m c (ix2 r ⟨s.val * 1024 + k.val, hl⟩) : EReal) * X2 m c (ix2 b ⟨s.val * 1024 + k.val, hl⟩) := by
    have hs := s.isLt
    exact congrArg₂ (@HMul.hMul EReal EReal EReal _)
      (l_read m c u 0 a k r ⟨s.val * 1024 + k.val, hl⟩ (by rw [hr, hu]; omega) (by rw [hu]; show s.val * 1024 + k.val = _; omega))
      (w_read m c u 0 0 b k ⟨s.val * 1024 + k.val, hl⟩ (by rw [hu]; show s.val * 1024 + k.val = _; omega))
  refine (Pipeline.eq_sum_fin_of_reset_step_apply_of_flush (N := cfg0.N) (M := EReal) (ι := Fin 1024 × Fin 1024)
    (fun n h i => (outsAt0 m c n h).2.2 (ix2 i.1 i.2)) 8 (fun _ => 0) (fun t i => ∑ k : Fin 1024, lb m c t i.1 k * wb m c t i.2 k)
    (fun t h i => sum_first m c t h i.1 i.2) (fun t h i => sum_next m c t h i.1 i.2) t h (a, b)).trans ?_
  refine (zero_add _).trans ?_
  exact Fin.sum_mul_add_congr fun s k hl => key s k hl _ rfl

/-- What the two results hold at a row block's last point. -/
theorem outs_last (t : Fin cfg0.N) (h : t.val % 8 = 7) :
    (outsAt0 m c t.val t.isLt).1 = k0_pay3 (k0_pay9 (outsAt0 m c t.val t.isLt).2.2 (iblk m c 2 t) (iblk m c 3 t) (iblk m c 4 t))
    ∧ (outsAt0 m c t.val t.isLt).2.1 = k0_pay4 (k0_pay8 (outsAt0 m c t.val t.isLt).2.2 (iblk m c 2 t)) := by
  rw [outsAt0_C m c t (by omega) h]
  constructor <;> frame_out

/-- The rows' cotangents after the run. -/
theorem final_dx : (dats m 0 c).arrAt 5 (cfgs 0).N
    = fun i : S1x2048x1024.Idx => val_main_v38 (F := Ideal) (X0 m c) (X1 m c) (X2 m c) (X3 m c) (X4 m c) (ix2 (i 1) (i 2)) := by
  refine (dats m 0 c).arrAt_eq_of_covers 5 _ (by decide +kernel) fun t hf y => ?_
  blk_simp; rw [after0_5]
  obtain ⟨o, a, b, rfl⟩ : ∃ (o : Fin 1) (a : Fin 1024) (b : Fin 1024), y = ix3 o a b := ⟨y 0, y 1, y 2, eq_ix3 y⟩
  have ht : t.val < 16 := lt_of_lt_of_eq t.isLt N_0
  have e (G : S1x2048x1024.Idx → EReal) : G ((win0_5.blk t).view.emb (ix3 o a b)) = G (ix3 0 ⟨t.val / 8 * 1024 + a.val, by omega⟩ b) := by
    blk_ext [idx_val t]
  refine Eq.trans ?_ (e (fun i => val_main_v38 (F := Ideal) (X0 m c) (X1 m c) (X2 m c) (X3 m c) (X4 m c) (ix2 (i 1) (i 2)))).symm
  have hl := (flush0_5 t).mp hf
  rw [(outs_last m c t hl).1]
  refine (pay_dx _ _ _ _ o a b).trans (Eq.trans ?_ (ref_dx _ _ _ _ _ _ _).symm)
  have e0 : (fun k => xb m c t a k) = xs m c ⟨t.val / 8 * 1024 + a.val, by omega⟩ := funext fun k => x_read m c t 0 a k ⟨t.val / 8 * 1024 + a.val, by omega⟩ rfl
  have e1 : (fun k => gb m c t k) = gs m c := funext fun k => g_read m c t 0 0 k
  have e2 : (fun j => sb m c t a j) = dhs m c ⟨t.val / 8 * 1024 + a.val, by omega⟩ := funext fun j => sum_val m c t hl a j ⟨t.val / 8 * 1024 + a.val, by omega⟩ rfl
  have e3 : (fun k => db m c t a k) = ds m c ⟨t.val / 8 * 1024 + a.val, by omega⟩ := funext fun k => d_read m c t 0 a k ⟨t.val / 8 * 1024 + a.val, by omega⟩ rfl
  show Rms.dx (fun k => xb m c t a k) (fun k => gb m c t k) (fun j => sb m c t a j) (fun k => db m c t a k) b = _
  rw [e0, e1, e2, e3]
  rfl

/-- One row's part of the gain's cotangent, read off the blocks. -/
theorem gain_read (t : Fin cfg0.N) (hl : t.val % 8 = 7) (q : Fin 2) (hq : q.val = t.val / 8) (b : Fin 1024) :
    (∑ a : Fin 1024, xb m c t a b * Rms.scale (fun k => xb m c t a k) * sb m c t a b)
      = Rms.gainBlock (xs m c) (dhs m c) b q := by
  have ht : t.val < 16 := lt_of_lt_of_eq t.isLt N_0
  have hq' : q = ⟨t.val / 8, by omega⟩ := Fin.ext hq
  rw [hq']
  unfold Rms.gainBlock Rms.gain
  refine Finset.sum_congr rfl fun a _ => ?_
  have e0 : (fun k => xb m c t a k) = xs m c ⟨t.val / 8 * 1024 + a.val, by omega⟩ := funext fun k => x_read m c t 0 a k ⟨t.val / 8 * 1024 + a.val, by omega⟩ rfl
  have e2 : (fun j => sb m c t a j) = dhs m c ⟨t.val / 8 * 1024 + a.val, by omega⟩ := funext fun j => sum_val m c t hl a j ⟨t.val / 8 * 1024 + a.val, by omega⟩ rfl
  exact congrArg₂ (@HMul.hMul EReal EReal EReal _) (congrArg₂ (@HMul.hMul EReal EReal EReal _) (congrFun e0 b) (congrArg Rms.scale e0)) (congrFun e2 b)

/-- The gain's cotangent after the run: eight copies of each row block's sum. -/
theorem final_dg : (dats m 0 c).arrAt 6 (cfgs 0).N
    = fun i : S1x16x1024.Idx => Rms.gainBlock (xs m c) (dhs m c) (i 2) (Rms.half (i 1)) := by
  refine (dats m 0 c).arrAt_eq_of_covers 6 _ (by decide +kernel) fun t hf y => ?_
  blk_simp; rw [after0_6]
  obtain ⟨o, s, b, rfl⟩ : ∃ (o : Fin 1) (s : Fin 8) (b : Fin 1024), y = ix3 o s b := ⟨y 0, y 1, y 2, eq_ix3 y⟩
  have ht : t.val < 16 := lt_of_lt_of_eq t.isLt N_0
  have e (G : S1x16x1024.Idx → EReal) : G ((win0_6.blk t).view.emb (ix3 o s b)) = G (ix3 0 ⟨t.val / 8 * 8 + s.val, by omega⟩ b) := by
    blk_ext [idx_val t]
  refine Eq.trans ?_ (e (fun i : S1x16x1024.Idx => Rms.gainBlock (xs m c) (dhs m c) (i 2) (Rms.half (i 1)))).symm
  have hl := (flush0_6 t).mp hf
  rw [(outs_last m c t hl).2]
  refine (pay_dg _ _ o s b).trans ?_
  exact gain_read m c t hl _ (by show (t.val / 8 * 8 + s.val) / 8 = _; omega) b

/-- The first result is the rows' array without its leading axis. -/
theorem tail_dx : Pipeline.afterTail₀ cfgs (dats m) 0 (V0 m) [hostOps1] c main_v11
    = shapeCast S2048x1024 ((dats m 0 c).arrAt 5 (cfgs 0).N) shapeCasts_S1x2048x1024_S2048x1024 := by
  unfold Pipeline.afterTail₀
  show StableHlo.after hostOps1 _ _ = _
  after_results
  exact congrArg (fun x => shapeCast S2048x1024 x shapeCasts_S1x2048x1024_S2048x1024)
    (Pipeline.withArrays_arr (cfgs 0).spec (by decide) c (V0 m c) (fun w => (dats m 0 c).arrAt w (cfgs 0).N) 5)

theorem result_dx : shapeCast S2048x1024 ((dats m 0 c).arrAt 5 (cfgs 0).N) shapeCasts_S1x2048x1024_S2048x1024
    = val_main_v38 (F := Ideal) (X0 m c) (X1 m c) (X2 m c) (X3 m c) (X4 m c) := by
  have key (f : FVec Ideal S1x2048x1024 .f32) (a : Fin 2048) (b : Fin 1024) :
      shapeCast S2048x1024 f shapeCasts_S1x2048x1024_S2048x1024 (ix2 a b) = f (ix3 0 a b) := by pointwise []
  rw [final_dx]
  funext i
  rw [eq_ix2 i]
  exact key _ _ _

/-- What the host makes of the gain's array: every eighth row, summed. -/
abbrev rowSum (f : FVec Ideal S1x16x1024 .f32) : FVec Ideal S1x1024 .f32 :=
  broadcastInDim S1x1024 ![1] bcast_S1024_S1x1024_1
    (Host.reduceAdd (Host.slice S2x1024 ![0, 0] ![8, 1] (shapeCast S16x1024 f shapeCasts_S1x16x1024_S16x1024) slicesBy_S16x1024_S2x1024_0s8_0s1)
      (constant S_ .f32 0x00000000#32) reducesTo_S2x1024_S1024_d0 h_S_)

theorem tail_dg : Pipeline.afterTail₀ cfgs (dats m) 0 (V0 m) [hostOps1] c main_v15 = rowSum ((dats m 0 c).arrAt 6 (cfgs 0).N) := by
  unfold Pipeline.afterTail₀
  show StableHlo.after hostOps1 _ _ = _
  after_results
  exact congrArg rowSum
    (Pipeline.withArrays_arr (cfgs 0).spec (by decide) c (V0 m c) (fun w => (dats m 0 c).arrAt w (cfgs 0).N) 6)

theorem result_dg : rowSum ((dats m 0 c).arrAt 6 (cfgs 0).N) = val_main_v39 (F := Ideal) (X0 m c) (X2 m c) (X3 m c) := by
  have key (f : FVec Ideal S1x16x1024 .f32) (o : Fin 1) (b : Fin 1024) :
      rowSum f (ix2 o b) = ∑ q : Fin 2, f (ix3 0 ⟨8 * q.val, by omega⟩ b) := by pointwise [rowSum]
  rw [final_dg]
  funext i
  obtain ⟨o, b, rfl⟩ : ∃ (o : Fin 1) (b : Fin 1024), i = ix2 o b := ⟨i 0, i 1, eq_ix2 i⟩
  refine (key _ _ _).trans (Eq.trans ?_ (ref_dg _ (X1 m c) _ _ (X4 m c) _ _).symm)
  refine Eq.trans (Finset.sum_congr rfl fun q _ => ?_) (Rms.sum_gainBlock (xs m c) (dhs m c) b)
  exact congrArg (Rms.gainBlock (xs m c) (dhs m c) b) (Fin.ext (show 8 * q.val / 8 = q.val by omega))

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v11) = val_main_v38 (F := Ideal) (X0 m c) (X1 m c) (X2 m c) (X3 m c) (X4 m c)
      ∧ r.2.mem ((c.tc : Thread nD τ).loc main_v15) = val_main_v39 (F := Ideal) (X0 m c) (X2 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => ⟨((hr.1 c).2 main_v11 (by decide)).trans ((tail_dx m c).trans (result_dx m c)), ((hr.1 c).2 main_v15 (by decide)).trans ((tail_dg m c).trans (result_dg m c)), hr.2 c⟩)
    (θ_run_and (run_main m ρ) (unchanged m ρ))

end Cert.Proof.ProjBwd

end
-- ==== Proof.MlpDownBwd.lean ====
/-
  The derivative of the two-layer block's squared rectifier: the kernel takes it from the saved activation's root.
-/
module

public import proofs.«01_k».proof.Proof.Gen.MlpDownBwdIdeal.Frame
public import proofs.«01_k».proof.Proof.Gen.MlpDownBwdReferenceIdeal.Run
public import proofs.«01_k».proof.Proof.Gen.MlpDownBwdReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.MlpDownBwd

open Cert.MlpDownBwdIdeal Cert.MlpDownBwdIdeal.Gen Cert.MlpDownBwdReferenceIdeal.Read

variable (m : (ℓ : Loc nD τ sig) → Buf (Elt Ideal) ℓ)

/-- The block each window stands at, in the number of the grid point. -/
theorem idx_val : ∀ t : Fin cfg0.N, win0_0.index t = ![0, t.val / 4, 0]
    ∧ win0_1.index t = ![0, t.val % 4, 0]
    ∧ win0_2.index t = ![0, t.val / 4, t.val % 4]
    ∧ win0_3.index t = ![0, t.val / 4, t.val % 4] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024 .f32 := m ((c : Thread nD τ).loc main_arg1)
abbrev X2 : FVec Ideal S1024x4096 .f32 := m ((c : Thread nD τ).loc main_arg2)
abbrev X3 : FVec Ideal S4096x1024 .f32 := m ((c : Thread nD τ).loc main_arg3)
abbrev X4 : FVec Ideal S2048x1024 .f32 := m ((c : Thread nD τ).loc main_arg4)

/-- The root of the squared rectifier is the rectifier, at the infinities too. -/
theorem sqrt_sq_relu (u : EReal) : Ideal.sqrt (max u 0 * max u 0) = max u 0 := by
  induction u with
  | bot => rw [max_eq_right bot_le, mul_zero, ← EReal.coe_zero, Ideal.sqrt_coe, if_neg (lt_irrefl _), Real.sqrt_zero]
  | top => simp
  | coe r =>
    rw [← EReal.coe_zero, show max (r : EReal) ((0 : ℝ) : EReal) = ((max r 0 : ℝ) : EReal) from (EReal.coe_strictMono.monotone.map_max).symm, ← EReal.coe_mul, Ideal.sqrt_coe, if_neg (not_lt.mpr (mul_self_nonneg _)),
      Real.sqrt_mul_self (le_max_right _ _)]

/-- Where the rectifier's operand is not positive, both sides are zero; elsewhere the factors are the same. -/
theorem factor (d u z : EReal) : d * z * max u 0 = if u > 0 then d * (z * max u 0) else 0 := by
  split
  · exact mul_assoc _ _ _
  · rename_i h
    rw [max_eq_right (not_lt.mp h), mul_zero]

/-- The body's value, read at a row and a column. -/
theorem pay_apply (v0 : FVec Ideal S1x1024x1024 .f32) (v3 v6 : FVec Ideal S1x1024x1024 .bf16) (o : Fin 1) (a b : Fin 1024) :
    k0_pay1 (F := Ideal) v0 v3 v6 (ix3 o a b)
      = (∑ k : Fin 1024, v0 (ix3 0 a k) * v3 (ix3 0 b k)) * Ideal.ofBits .f32 0x40000000#32 * Ideal.sqrt (v6 (ix3 0 a b)) := by
  pointwise [k0_pay1]

/-- The activation before the rectifier, read at a row and a column. -/
abbrev u (a : Fin 2048) (b : Fin 4096) : EReal := val_main_v13 (F := Ideal) (X0 m c) (X1 m c) (X2 m c) (ix2 a b)

/-- The reference's value, read at a row and a column. -/
theorem ref_apply (x0 : FVec Ideal S2048x1024 .f32) (x1 : FVec Ideal S1024 .f32) (x2 : FVec Ideal S1024x4096 .f32) (x3 : FVec Ideal S4096x1024 .f32) (x4 : FVec Ideal S2048x1024 .f32) (a : Fin 2048) (b : Fin 4096) :
    val_main_v26 (F := Ideal) x0 x1 x2 x3 x4 (ix2 a b)
      = if val_main_v13 (F := Ideal) x0 x1 x2 (ix2 a b) > 0 then
          (∑ k : Fin 1024, x4 (ix2 a k) * x3 (ix2 b k)) * (Ideal.ofBits .f32 0x40000000#32 * max (val_main_v13 (F := Ideal) x0 x1 x2 (ix2 a b)) 0)
        else 0 := by
  pointwise [val_main_v26, val_main_v25, val_main_v23, val_main_v22, val_main_v20, val_main_v19, val_main_v16, val_main_v15, val_main_v14, val_main_cst_2, val_main_cst_4, val_main_cst_5, val_main_v24, val_main_call0_v0, val_main_call0_cst]

/-- A row block of the cotangent. -/
theorem l_read (t : Fin cfg0.N) (o : Fin 1) (a k : Fin 1024) (r : Fin 2048) (hr : r.val = t.val / 4 * 1024 + a.val) :
    @Eq EReal (iblk m c 0 t (ix3 o a k)) (X4 m c (ix2 r k)) := by
  have ht : t.val < cfg0.N := t.isLt
  have e (G : S1x2048x1024.Idx → EReal) : G ((win0_0.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- A row block of the matrix. -/
theorem r_read (t : Fin cfg0.N) (o : Fin 1) (b k : Fin 1024) (j : Fin 4096) (hj : j.val = t.val % 4 * 1024 + b.val) :
    @Eq EReal (iblk m c 1 t (ix3 o b k)) (X3 m c (ix2 j k)) := by
  have ht : t.val < cfg0.N := t.isLt
  have e (G : S1x4096x1024.Idx → EReal) : G ((win0_1.blk t).view.emb (ix3 o b k)) = G (ix3 0 j k) := by
    blk_ext [idx_val t]
  blk_simp [iblk, idx_val t]
  unfold V V0
  simp only [List.flatten_cons, List.flatten_nil, List.append_nil, StableHlo.after_append]
  entry_read
  refine (e _).trans ?_
  pointwise []

/-- A block of the saved activation. -/
theorem act_read (t : Fin cfg0.N) (o : Fin 1) (a b : Fin 1024) (r : Fin 2048) (j : Fin 4096) (hr : r.val = t.val / 4 * 1024 + a.val) (hj : j.val = t.val % 4 * 1024 + b.val) :
    @Eq EReal (iblk m c 2 t (ix3 o a b)) (max (u m c r j) 0 * max (u m c r j) 0) := by
  have ht : t.val < cfg0.N := t.isLt
  have e (G : S1x2048x4096.Idx → EReal) : G ((win0_2.blk t).view.emb (ix3 o a b)) = G (ix3 0 r j) := by
    blk_ext [idx_val t]
  blk_simp [iblk, idx_val t]
  unfold V V0
  simp only [List.flatten_cons, List.flatten_nil, List.append_nil, StableHlo.after_append]
  entry_read
  simp -implicitDefEqProofs only [StableHlo.TRef.toBuf, StableHlo.TRef.ofBuf, cast_cast, cast_eq]
  refine (e _).trans ?_
  unfold u
  pointwise [val_main_v13, val_main_v12, val_main_v9, val_main_v8, val_main_v7, val_main_v6, val_main_v4, val_main_v2, val_main_v1, val_main_v0, val_main_cst, val_main_v3, val_main_cst_0, val_main_v5, val_main_cst_1, val_main_v11, val_main_v10]

/-- The array of window 3 after the run. -/
theorem final : (dats m 0 c).arrAt 3 (cfgs 0).N
    = fun i : S1x2048x4096.Idx => val_main_v26 (F := Ideal) (X0 m c) (X1 m c) (X2 m c) (X3 m c) (X4 m c) (ix2 (i 1) (i 2)) := by
  refine (dats m 0 c).arrAt_eq_of_covers 3 _ (by decide +kernel) fun t hf y => ?_
  blk_simp; rw [after0_3]
  obtain ⟨o, a, b, rfl⟩ : ∃ (o : Fin 1) (a : Fin 1024) (b : Fin 1024), y = ix3 o a b := ⟨y 0, y 1, y 2, eq_ix3 y⟩
  have ht : t.val < 8 := lt_of_lt_of_eq t.isLt N_0
  have e (G : S1x2048x4096.Idx → EReal) : G ((win0_3.blk t).view.emb (ix3 o a b)) = G (ix3 0 ⟨t.val / 4 * 1024 + a.val, by omega⟩ ⟨t.val % 4 * 1024 + b.val, by omega⟩) := by
    blk_ext [idx_val t]
  refine Eq.trans ?_ (e (fun i => val_main_v26 (F := Ideal) (X0 m c) (X1 m c) (X2 m c) (X3 m c) (X4 m c) (ix2 (i 1) (i 2)))).symm
  unfold outsAt0
  frame_out
  refine (pay_apply _ _ _ o a b).trans ?_
  rw [act_read m c t 0 a b ⟨t.val / 4 * 1024 + a.val, by omega⟩ ⟨t.val % 4 * 1024 + b.val, by omega⟩ rfl rfl, sqrt_sq_relu, Finset.sum_congr rfl fun k _ => congrArg₂ (@HMul.hMul EReal EReal EReal _) (l_read m c t 0 a k ⟨t.val / 4 * 1024 + a.val, by omega⟩ rfl) (r_read m c t 0 b k ⟨t.val % 4 * 1024 + b.val, by omega⟩ rfl)]
  exact (factor _ _ _).trans (ref_apply _ _ _ _ _ _ _).symm

/-- The result is that array without its leading axis. -/
theorem tail : Pipeline.afterTail₀ cfgs (dats m) 0 (V0 m) [hostOps1] c main_v22
    = shapeCast S2048x4096 ((dats m 0 c).arrAt 3 (cfgs 0).N) shapeCasts_S1x2048x4096_S2048x4096 := by
  unfold Pipeline.afterTail₀
  show StableHlo.after hostOps1 _ _ = _
  after_results
  exact congrArg (fun x => shapeCast S2048x4096 x shapeCasts_S1x2048x4096_S2048x4096)
    (Pipeline.withArrays_arr (cfgs 0).spec (by decide) c (V0 m c) (fun w => (dats m 0 c).arrAt w (cfgs 0).N) 3)

/-- The result read off the array. -/
theorem result : shapeCast S2048x4096 ((dats m 0 c).arrAt 3 (cfgs 0).N) shapeCasts_S1x2048x4096_S2048x4096
    = val_main_v26 (F := Ideal) (X0 m c) (X1 m c) (X2 m c) (X3 m c) (X4 m c) := by
  have key (f : FVec Ideal S1x2048x4096 .bf16) (a : Fin 2048) (b : Fin 4096) :
      shapeCast S2048x4096 f shapeCasts_S1x2048x4096_S2048x4096 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v22) = val_main_v26 (F := Ideal) (X0 m c) (X1 m c) (X2 m c) (X3 m c) (X4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => ⟨((hr.1 c).2 main_v22 (by decide)).trans ((tail m c).trans (result m c)), hr.2 c⟩)
    (θ_run_and (run_main m ρ) (unchanged m ρ))

end Cert.Proof.MlpDownBwd

end
-- ==== Proof.DwDown.lean ====
/-
  The gradient of the second matrix of the two-layer block.
-/
module

public import proofs.«01_k».proof.Proof.Gen.DwDownIdeal.Frame
public import proofs.«01_k».proof.Proof.Gen.DwDownReferenceIdeal.Run
public import proofs.«01_k».proof.Proof.Gen.DwDownReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.DwDown

open Cert.DwDownIdeal Cert.DwDownIdeal.Gen Cert.DwDownReferenceIdeal.Read

variable (m : (ℓ : Loc nD τ sig) → Buf (Elt Ideal) ℓ)

/-- The block each window stands at, in the number of the grid point. -/
theorem idx_val : ∀ t : Fin cfg0.N, win0_0.index t = ![0, 0, t.val]
    ∧ win0_1.index t = ![0, 0, 0]
    ∧ win0_2.index t = ![0, t.val, 0] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024 .f32 := m ((c : Thread nD τ).loc main_arg1)
abbrev X2 : FVec Ideal S1024x4096 .f32 := m ((c : Thread nD τ).loc main_arg2)
abbrev X3 : FVec Ideal S2048x1024 .f32 := m ((c : Thread nD τ).loc main_arg3)

/-- The body's product, read at a row and a column. -/
theorem pay_apply (v0 : FVec Ideal S1x2048x1024 .bf16) (v2 : FVec Ideal S1x2048x1024 .f32) (o : Fin 1) (a : Fin 1024) (b : Fin 1024) :
    k0_pay1 (F := Ideal) v0 v2 (ix3 o a b) = ∑ k : Fin 2048, v0 (ix3 0 k a) * v2 (ix3 0 k b) := by
  pointwise [k0_pay1]

/-- The reference's product, read at a row and a column. -/
theorem ref_apply (x0 : FVec Ideal S2048x1024 .f32) (x1 : FVec Ideal S1024 .f32) (x2 : FVec Ideal S1024x4096 .f32) (x3 : FVec Ideal S2048x1024 .f32) (a : Fin 4096) (b : Fin 1024) :
    val_main_v20 (F := Ideal) x0 x1 x2 x3 (ix2 a b) = ∑ k : Fin 2048, (val_main_v15 (F := Ideal) x0 x1 x2) (ix2 k a) * x3 (ix2 k b) := by
  pointwise [val_main_v20, val_main_v19, val_main_v18] <;> exact Finset.sum_congr rfl fun k _ => mul_comm _ _

/-- A column block of the left operand. -/
theorem l_read (t : Fin cfg0.N) (o : Fin 1) (k : Fin 2048) (a : Fin 1024) (j : Fin 4096) (hj : j.val = t.val * 1024 + a.val) :
    @Eq EReal (iblk m c 0 t (ix3 o k a)) (val_main_v15 (F := Ideal) (X0 m c) (X1 m c) (X2 m c) (ix2 k j)) := by
  have ht : t.val < cfg0.N := t.isLt
  have e (G : S1x2048x4096.Idx → EReal) : G ((win0_0.blk t).view.emb (ix3 o k a)) = G (ix3 0 k j) := by
    blk_ext [idx_val t]
  blk_simp [iblk, idx_val t]
  unfold V V0
  simp only [List.flatten_cons, List.flatten_nil, List.append_nil, StableHlo.after_append]
  entry_read
  simp -implicitDefEqProofs only [StableHlo.TRef.toBuf, StableHlo.TRef.ofBuf, cast_cast, cast_eq]
  refine (e _).trans ?_
  pointwise [val_main_v15, val_main_v14, val_main_v13, val_main_v12, val_main_v9, val_main_v8, val_main_v7, val_main_v6, val_main_v4, val_main_v2, val_main_v1, val_main_v0, val_main_cst, val_main_v3, val_main_cst_0, val_main_v5, val_main_cst_1, val_main_v11, val_main_v10, val_main_call0_v0, val_main_call0_cst]

/-- A column block of the right operand. -/
theorem r_read (t : Fin cfg0.N) (o : Fin 1) (k : Fin 2048) (b : Fin 1024)  :
    @Eq EReal (iblk m c 1 t (ix3 o k b)) (X3 m c (ix2 k b)) := by
  have ht : t.val < cfg0.N := t.isLt
  have e (G : S1x2048x1024.Idx → EReal) : G ((win0_1.blk t).view.emb (ix3 o k b)) = G (ix3 0 k b) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final : (dats m 0 c).arrAt 2 (cfgs 0).N
    = fun i : S1x4096x1024.Idx => val_main_v20 (F := Ideal) (X0 m c) (X1 m c) (X2 m c) (X3 m c) (ix2 (i 1) (i 2)) := by
  refine (dats m 0 c).arrAt_eq_of_covers 2 _ (by decide +kernel) fun t hf y => ?_
  blk_simp; rw [after0_2]
  unfold outsAt0
  frame_out
  obtain ⟨o, a, b, rfl⟩ : ∃ (o : Fin 1) (a : Fin 1024) (b : Fin 1024), y = ix3 o a b := ⟨y 0, y 1, y 2, eq_ix3 y⟩
  have ht : t.val < 4 := lt_of_lt_of_eq t.isLt N_0
  have e (G : S1x4096x1024.Idx → EReal) : G ((win0_2.blk t).view.emb (ix3 o a b)) = G (ix3 0 ⟨t.val * 1024 + a.val, by omega⟩ (show Fin 1024 from b)) := by
    blk_ext [idx_val t]
  refine Eq.trans ?_ (e (fun i => val_main_v20 (F := Ideal) (X0 m c) (X1 m c) (X2 m c) (X3 m c) (ix2 (i 1) (i 2)))).symm
  refine (pay_apply _ _ o a b).trans ((ref_apply _ _ _ _ _ _).trans ?_).symm
  exact Finset.sum_congr rfl fun k _ => (congrArg₂ _ (l_read m c t 0 k a _ rfl) (r_read m c t 0 k b)).symm

/-- The result is the array without its leading axis. -/
theorem tail : Pipeline.afterTail₀ cfgs (dats m) 0 (V0 m) [hostOps1] c main_v20
    = shapeCast S4096x1024 ((dats m 0 c).arrAt 2 (cfgs 0).N) shapeCasts_S1x4096x1024_S4096x1024 := by
  unfold Pipeline.afterTail₀
  show StableHlo.after hostOps1 _ _ = _
  after_results
  exact congrArg (fun x => shapeCast S4096x1024 x shapeCasts_S1x4096x1024_S4096x1024)
    (Pipeline.withArrays_arr (cfgs 0).spec (by decide) c (V0 m c) (fun w => (dats m 0 c).arrAt w (cfgs 0).N) 2)

/-- The result read off the array. -/
theorem result : shapeCast S4096x1024 ((dats m 0 c).arrAt 2 (cfgs 0).N) shapeCasts_S1x4096x1024_S4096x1024
    = val_main_v20 (F := Ideal) (X0 m c) (X1 m c) (X2 m c) (X3 m c) := by
  have key (f : FVec Ideal S1x4096x1024 .bf16) (a : Fin 4096) (b : Fin 1024) :
      shapeCast S4096x1024 f shapeCasts_S1x4096x1024_S4096x1024 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v20) = val_main_v20 (F := Ideal) (X0 m c) (X1 m c) (X2 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr.1 c).2 main_v20 (by decide)).trans ((tail m c).trans (result m c)), hr.2 c⟩)
    (θ_run_and (run_main m ρ) (unchanged m ρ))

end Cert.Proof.DwDown

end
-- ==== Proof.DwUp.lean ====
/-
  The gradient of the first matrix of the two-layer block.
-/
module

public import proofs.«01_k».proof.Proof.Gen.DwUpIdeal.Frame
public import proofs.«01_k».proof.Proof.Gen.DwUpReferenceIdeal.Run
public import proofs.«01_k».proof.Proof.Gen.DwUpReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.DwUp

open Cert.DwUpIdeal Cert.DwUpIdeal.Gen Cert.DwUpReferenceIdeal.Read

variable (m : (ℓ : Loc nD τ sig) → Buf (Elt Ideal) ℓ)

/-- The block each window stands at, in the number of the grid point. -/
theorem idx_val : ∀ t : Fin cfg0.N, win0_0.index t = ![0, 0, 0]
    ∧ win0_1.index t = ![0, 0, t.val]
    ∧ win0_2.index t = ![0, 0, t.val] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024 .f32 := m ((c : Thread nD τ).loc main_arg1)
abbrev X2 : FVec Ideal S2048x4096 .f32 := m ((c : Thread nD τ).loc main_arg2)

/-- The body's product, read at a row and a column. -/
theorem pay_apply (v0 : FVec Ideal S1x2048x1024 .bf16) (v2 : FVec Ideal S1x2048x1024 .bf16) (o : Fin 1) (a : Fin 1024) (b : Fin 1024) :
    k0_pay1 (F := Ideal) v0 v2 (ix3 o a b) = ∑ k : Fin 2048, v0 (ix3 0 k a) * v2 (ix3 0 k b) := by
  pointwise [k0_pay1]

/-- The reference's product, read at a row and a column. -/
theorem ref_apply (x0 : FVec Ideal S2048x1024 .f32) (x1 : FVec Ideal S1024 .f32) (x2 : FVec Ideal S2048x4096 .f32) (a : Fin 1024) (b : Fin 4096) :
    val_main_v17 (F := Ideal) x0 x1 x2 (ix2 a b) = ∑ k : Fin 2048, (val_main_v13 (F := Ideal) x0 x1) (ix2 k a) * x2 (ix2 k b) := by
  pointwise [val_main_v17, val_main_v16, val_main_v15] <;> exact Finset.sum_congr rfl fun k _ => mul_comm _ _

/-- A column block of the left operand. -/
theorem l_read (t : Fin cfg0.N) (o : Fin 1) (k : Fin 2048) (a : Fin 1024)  :
    @Eq EReal (iblk m c 0 t (ix3 o k a)) (val_main_v13 (F := Ideal) (X0 m c) (X1 m c) (ix2 k a)) := by
  have ht : t.val < cfg0.N := t.isLt
  have e (G : S1x2048x1024.Idx → EReal) : G ((win0_0.blk t).view.emb (ix3 o k a)) = G (ix3 0 k a) := by
    blk_ext [idx_val t]
  blk_simp [iblk, idx_val t]
  unfold V V0
  simp only [List.flatten_cons, List.flatten_nil, List.append_nil, StableHlo.after_append]
  entry_read
  refine (e _).trans ?_
  pointwise [val_main_v13, val_main_v10, val_main_v9, val_main_v8, val_main_v7, val_main_v5, val_main_v3, val_main_v2, val_main_v1, val_main_cst_0, val_main_v4, val_main_cst_1, val_main_v6, val_main_cst_2, val_main_v12, val_main_v11]

/-- A column block of the right operand. -/
theorem r_read (t : Fin cfg0.N) (o : Fin 1) (k : Fin 2048) (b : Fin 1024) (j : Fin 4096) (hj : j.val = t.val * 1024 + b.val) :
    @Eq EReal (iblk m c 1 t (ix3 o k b)) (X2 m c (ix2 k j)) := by
  have ht : t.val < cfg0.N := t.isLt
  have e (G : S1x2048x4096.Idx → EReal) : G ((win0_1.blk t).view.emb (ix3 o k b)) = G (ix3 0 k j) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final : (dats m 0 c).arrAt 2 (cfgs 0).N
    = fun i : S1x1024x4096.Idx => val_main_v17 (F := Ideal) (X0 m c) (X1 m c) (X2 m c) (ix2 (i 1) (i 2)) := by
  refine (dats m 0 c).arrAt_eq_of_covers 2 _ (by decide +kernel) fun t hf y => ?_
  blk_simp; rw [after0_2]
  unfold outsAt0
  frame_out
  obtain ⟨o, a, b, rfl⟩ : ∃ (o : Fin 1) (a : Fin 1024) (b : Fin 1024), y = ix3 o a b := ⟨y 0, y 1, y 2, eq_ix3 y⟩
  have ht : t.val < 4 := lt_of_lt_of_eq t.isLt N_0
  have e (G : S1x1024x4096.Idx → EReal) : G ((win0_2.blk t).view.emb (ix3 o a b)) = G (ix3 0 (show Fin 1024 from a) ⟨t.val * 1024 + b.val, by omega⟩) := by
    blk_ext [idx_val t]
  refine Eq.trans ?_ (e (fun i => val_main_v17 (F := Ideal) (X0 m c) (X1 m c) (X2 m c) (ix2 (i 1) (i 2)))).symm
  refine (pay_apply _ _ o a b).trans ((ref_apply _ _ _ _ _).trans ?_).symm
  exact Finset.sum_congr rfl fun k _ => (congrArg₂ _ (l_read m c t 0 k a) (r_read m c t 0 k b _ rfl)).symm

/-- The result is the array without its leading axis. -/
theorem tail : Pipeline.afterTail₀ cfgs (dats m) 0 (V0 m) [hostOps1] c main_v18
    = shapeCast S1024x4096 ((dats m 0 c).arrAt 2 (cfgs 0).N) shapeCasts_S1x1024x4096_S1024x4096 := by
  unfold Pipeline.afterTail₀
  show StableHlo.after hostOps1 _ _ = _
  after_results
  exact congrArg (fun x => shapeCast S1024x4096 x shapeCasts_S1x1024x4096_S1024x4096)
    (Pipeline.withArrays_arr (cfgs 0).spec (by decide) c (V0 m c) (fun w => (dats m 0 c).arrAt w (cfgs 0).N) 2)

/-- The result read off the array. -/
theorem result : shapeCast S1024x4096 ((dats m 0 c).arrAt 2 (cfgs 0).N) shapeCasts_S1x1024x4096_S1024x4096
    = val_main_v17 (F := Ideal) (X0 m c) (X1 m c) (X2 m c) := by
  have key (f : FVec Ideal S1x1024x4096 .bf16) (a : Fin 1024) (b : Fin 4096) :
      shapeCast S1024x4096 f shapeCasts_S1x1024x4096_S1024x4096 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v18) = val_main_v17 (F := Ideal) (X0 m c) (X1 m c) (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => ⟨((hr.1 c).2 main_v18 (by decide)).trans ((tail m c).trans (result m c)), hr.2 c⟩)
    (θ_run_and (run_main m ρ) (unchanged m ρ))

end Cert.Proof.DwUp

end
-- ==== Proof.MlpUpBwd.lean ====
/-
  The derivative of the norm before the two-layer block, with its product.
-/
module

public import proofs.«01_k».proof.Proof.Gen.MlpUpBwdIdeal.Frame
public import proofs.«01_k».proof.Proof.Gen.MlpUpBwdReferenceIdeal.Run
public import proofs.«01_k».proof.Proof.Gen.MlpUpBwdReferenceIdeal.Read
public import proofs.«01_k».proof.Proof.Rms
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.MlpUpBwd

open Cert.MlpUpBwdIdeal Cert.MlpUpBwdIdeal.Gen Cert.MlpUpBwdReferenceIdeal.Read

variable (m : (ℓ : Loc nD τ sig) → Buf (Elt Ideal) ℓ)

/-- The block each window stands at, in the number of the grid point. -/
theorem idx_val : ∀ t : Fin cfg0.N, win0_0.index t = ![0, t.val / 4, t.val % 4]
    ∧ win0_1.index t = ![0, t.val % 4, 0, 0]
    ∧ win0_2.index t = ![0, t.val / 4, 0]
    ∧ win0_3.index t = ![0, t.val / 4, 0]
    ∧ win0_4.index t = ![0, 0, 0]
    ∧ win0_5.index t = ![0, t.val / 4, 0]
    ∧ win0_6.index t = ![0, t.val / 4, 0] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024 .f32 := m ((c : Thread nD τ).loc main_arg1)
abbrev X2 : FVec Ideal S1024x4096 .f32 := m ((c : Thread nD τ).loc main_arg2)
abbrev X3 : FVec Ideal S2048x4096 .f32 := m ((c : Thread nD τ).loc main_arg3)
abbrev X4 : FVec Ideal S2048x1024 .f32 := m ((c : Thread nD τ).loc main_arg4)

/-- The rows of the residual stream, the gain, the normed rows' cotangent and the rows of the residual's cotangent. -/
abbrev xs (r : Fin 2048) (j : Fin 1024) : EReal := X0 m c (ix2 r j)
abbrev gs (j : Fin 1024) : EReal := X1 m c (ix1 j)
abbrev dhs (r : Fin 2048) (j : Fin 1024) : EReal := ∑ k : Fin 4096, (X3 m c (ix2 r k) : EReal) * X2 m c (ix2 j k)
abbrev ds (r : Fin 2048) (j : Fin 1024) : EReal := X4 m c (ix2 r j)

/-- The body's first value, of the sum `v16` and the blocks. -/
theorem pay_dx (v16 : FVec Ideal S1024x1024 .f32) (v17 v19 : FVec Ideal S1x1024x1024 .f32) (v21 : FVec Ideal S1x1x1024 .f32) (o : Fin 1) (a b : Fin 1024) :
    k0_pay3 (F := Ideal) (k0_pay9 v16 v17 v19 v21) (ix3 o a b)
      = Rms.dx (fun k => v17 (ix3 0 a k)) (fun k => v21 (ix3 0 0 k)) (fun j => v16 (ix2 a j)) (fun k => v19 (ix3 0 a k)) b := by
  rw [← Rms.dx_last]
  pointwise [k0_pay3, k0_pay5, k0_pay6, k0_pay7, k0_pay9, Rms.meanSq, Rms.scale, Rms.slope, Rms.back]
  simp only [Fin.sum_univ_one]

/-- The body's second value. -/
theorem pay_dg (v16 : FVec Ideal S1024x1024 .f32) (v17 : FVec Ideal S1x1024x1024 .f32) (o : Fin 1) (s : Fin 8) (b : Fin 1024) :
    k0_pay4 (F := Ideal) (k0_pay8 v16 v17) (ix3 o s b)
      = ∑ a : Fin 1024, v17 (ix3 0 a b) * Rms.scale (fun k => v17 (ix3 0 a k)) * v16 (ix2 a b) := by
  pointwise [k0_pay4, k0_pay8, k0_pay5, k0_pay6, k0_pay7, Rms.meanSq, Rms.scale]

/-- The sum starts at zero. -/
theorem pay_zero (a b : Fin 1024) : @Eq EReal (k0_pay1 (F := Ideal) (ix2 a b)) 0 := by pointwise [k0_pay1]

/-- One step of the sum. -/
theorem pay_step (v3 : FVec Ideal S1024x1024 .f32) (v4 : FVec Ideal S1x1024x1024 .bf16) (v6 : FVec Ideal S1x1x1024x1024 .bf16) (a b : Fin 1024) :
    @Eq EReal (k0_pay2 (F := Ideal) v3 v4 v6 (ix2 a b)) (v3 (ix2 a b) + ∑ k : Fin 1024, (v4 (ix3 0 a k) : EReal) * v6 (ix4 0 0 b k)) := by
  pointwise [k0_pay2]

/-- The reference's first result, read at a row and a column. -/
theorem ref_dx (x0 : FVec Ideal S2048x1024 .f32) (x1 : FVec Ideal S1024 .f32) (x2 : FVec Ideal S1024x4096 .f32) (x3 : FVec Ideal S2048x4096 .f32) (x4 : FVec Ideal S2048x1024 .f32) (a : Fin 2048) (b : Fin 1024) :
    val_main_v38 (F := Ideal) x0 x1 x2 x3 x4 (ix2 a b)
      = Rms.dx (fun k => x0 (ix2 a k)) (fun k => x1 (ix1 k)) (fun j => ∑ k : Fin 4096, x3 (ix2 a k) * x2 (ix2 j k)) (fun k => x4 (ix2 a k)) b := by
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v17, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7, Rms.dx, Rms.meanSq, Rms.scale, Rms.slope, Rms.back]
  simp only [Fin.sum_univ_one]

/-- The reference's second result. -/
theorem ref_dg (x0 : FVec Ideal S2048x1024 .f32) (x1 : FVec Ideal S1024 .f32) (x2 : FVec Ideal S1024x4096 .f32) (x3 : FVec Ideal S2048x4096 .f32) (x4 : FVec Ideal S2048x1024 .f32) (o : Fin 1) (b : Fin 1024) :
    val_main_v39 (F := Ideal) x0 x2 x3 (ix2 o b)
      = ∑ a : Fin 2048, Rms.gain (fun r k => x0 (ix2 r k)) (fun r j => ∑ k : Fin 4096, x3 (ix2 r k) * x2 (ix2 j k)) b a := by
  pointwise [val_main_v39, val_main_v23, val_main_v20, val_main_v19, val_main_v18, val_main_v12, val_main_v11, val_main_v17, val_main_v7, val_main_v6, val_main_v5, val_main_v4, val_main_v3, val_main_v2, val_main_v1, val_main_v0, val_main_cst, val_main_cst_0, val_main_cst_1, val_main_cst_3, val_main_cst_4, Rms.gain, Rms.meanSq, Rms.scale]
  simp only [Fin.sum_univ_one]

/-! The blocks at a grid point, read at an index. -/
abbrev lb (t : Fin cfg0.N) (a k : Fin 1024) : EReal := iblk m c 0 t (ix3 0 a k)
abbrev wb (t : Fin cfg0.N) (b k : Fin 1024) : EReal := iblk m c 1 t (ix4 0 0 b k)
abbrev xb (t : Fin cfg0.N) (a k : Fin 1024) : EReal := iblk m c 2 t (ix3 0 a k)
abbrev db (t : Fin cfg0.N) (a k : Fin 1024) : EReal := iblk m c 3 t (ix3 0 a k)
abbrev gb (t : Fin cfg0.N) (k : Fin 1024) : EReal := iblk m c 4 t (ix3 0 0 k)

/-- The scratch array after a grid point, read at an index. -/
abbrev sb (t : Fin cfg0.N) (a b : Fin 1024) : EReal := (outsAt0 m c t.val t.isLt).2.2 (ix2 a b)
abbrev sp (t : Fin cfg0.N) (a b : Fin 1024) : EReal := (outsAt0 m c (t.val - 1) (Nat.lt_of_le_of_lt (Nat.sub_le _ _) t.isLt)).2.2 (ix2 a b)

/-- A block of the cotangent. -/
theorem l_read (t : Fin cfg0.N) (o : Fin 1) (a k : Fin 1024) (r : Fin 2048) (q : Fin 4096) (hr : r.val = t.val / 4 * 1024 + a.val) (hq : q.val = t.val % 4 * 1024 + k.val) :
    @Eq EReal (iblk m c 0 t (ix3 o a k)) (X3 m c (ix2 r q)) := by
  have ht : t.val < cfg0.N := t.isLt
  have e (G : S1x2048x4096.Idx → EReal) : G ((win0_0.blk t).view.emb (ix3 o a k)) = G (ix3 0 r q) := by
    blk_ext [idx_val t]
  blk_simp [iblk, idx_val t]
  unfold V V0
  simp only [List.flatten_cons, List.flatten_nil, List.append_nil, StableHlo.after_append]
  entry_read
  refine (e _).trans ?_
  pointwise []

/-- A block of the matrix, which is kept by the chips' columns. -/
theorem w_read (t : Fin cfg0.N) (o p : Fin 1) (b k : Fin 1024) (q : Fin 4096) (hq : q.val = t.val % 4 * 1024 + k.val) :
    @Eq EReal (iblk m c 1 t (ix4 o p b k)) (X2 m c (ix2 b q)) := by
  have ht : t.val < cfg0.N := t.isLt
  have e (G : S1x4x1024x1024.Idx → EReal) : G ((win0_1.blk t).view.emb (ix4 o p b k)) = G (ix4 0 ⟨t.val % 4, by omega⟩ b k) := by
    blk_ext [idx_val t]
  blk_simp [iblk, idx_val t]
  unfold V V0
  simp only [List.flatten_cons, List.flatten_nil, List.append_nil, StableHlo.after_append]
  entry_read
  refine (e _).trans ?_
  pointwise []
  exact congrArg (fun z => X2 m c (ix2 b z)) (Fin.ext (by show _ = q.val; dsimp only; omega))

/-- A block of the residual stream. -/
theorem x_read (t : Fin cfg0.N) (o : Fin 1) (a k : Fin 1024) (r : Fin 2048) (hr : r.val = t.val / 4 * 1024 + a.val) :
    @Eq EReal (iblk m c 2 t (ix3 o a k)) (xs m c r k) := by
  have ht : t.val < cfg0.N := t.isLt
  have e (G : S1x2048x1024.Idx → EReal) : G ((win0_2.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- A block of the residual's cotangent. -/
theorem d_read (t : Fin cfg0.N) (o : Fin 1) (a k : Fin 1024) (r : Fin 2048) (hr : r.val = t.val / 4 * 1024 + a.val) :
    @Eq EReal (iblk m c 3 t (ix3 o a k)) (ds m c r k) := by
  have ht : t.val < cfg0.N := t.isLt
  have e (G : S1x2048x1024.Idx → EReal) : G ((win0_3.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- The gain. -/
theorem g_read (t : Fin cfg0.N) (o p : Fin 1) (k : Fin 1024)  :
    @Eq EReal (iblk m c 4 t (ix3 o p k)) (gs m c k) := by
  have ht : t.val < cfg0.N := t.isLt
  have e (G : S1x1x1024.Idx → EReal) : G ((win0_4.blk t).view.emb (ix3 o p k)) = G (ix3 0 0 k) := by
    blk_ext [idx_val t]
  blk_simp [iblk, idx_val t]
  unfold V V0
  simp only [List.flatten_cons, List.flatten_nil, List.append_nil, StableHlo.after_append]
  entry_read
  refine (e _).trans ?_
  pointwise []

/-- The scratch array is the sum over the blocks up to this one. -/
theorem sum_first (t : Fin cfg0.N) (h : t.val % 4 = 0) (a b : Fin 1024) :
    sb m c t a b = 0 + ∑ k : Fin 1024, lb m c t a k * wb m c t b k := by
  unfold sb
  rw [outsAt0_A m c t h (by omega)]
  frame_out
  refine (pay_step _ _ _ a b).trans ?_
  exact congrArg (fun z : EReal => z + _) (pay_zero a b)

theorem sum_next (t : Fin cfg0.N) (h : ¬t.val % 4 = 0) (a b : Fin 1024) :
    sb m c t a b = sp m c t a b + ∑ k : Fin 1024, lb m c t a k * wb m c t b k := by
  unfold sb
  by_cases h1 : t.val % 4 = 3
  · rw [outsAt0_C m c t h h1]
    frame_out
    exact (pay_step _ _ _ a b).trans (congrArg (fun z : FVec Ideal S1024x1024 .f32 => (z (ix2 a b) : EReal) + _) ((Memref.isWhole_whole cc0_scratch0).read_unread _))
  · rw [outsAt0_B m c t h h1]
    frame_out
    exact (pay_step _ _ _ a b).trans (congrArg (fun z : FVec Ideal S1024x1024 .f32 => (z (ix2 a b) : EReal) + _) ((Memref.isWhole_whole cc0_scratch0).read_unread _))

/-- At a row block's last point the scratch array holds the whole product. -/
theorem sum_val (t : Fin cfg0.N) (h : t.val % 4 = 3) (a b : Fin 1024) (r : Fin 2048) (hr : r.val = t.val / 4 * 1024 + a.val) :
    sb m c t a b = dhs m c r b := by
  have ht : t.val < 8 := lt_of_lt_of_eq t.isLt N_0
  have key (s : Fin 4) (k : Fin 1024) (hl : s.val * 1024 + k.val < 4096) (u : Fin cfg0.N) (hu : u.val = 4 * (t.val / 4) + s.val) :
      lb m c u a k * wb m c u b k = (X3 m c (ix2 r ⟨s.val * 1024 + k.val, hl⟩) : EReal) * X2 m c (ix2 b ⟨s.val * 1024 + k.val, hl⟩) := by
    have hs := s.isLt
    exact congrArg₂ (@HMul.hMul EReal EReal EReal _)
      (l_read m c u 0 a k r ⟨s.val * 1024 + k.val, hl⟩ (by rw [hr, hu]; omega) (by rw [hu]; show s.val * 1024 + k.val = _; omega))
      (w_read m c u 0 0 b k ⟨s.val * 1024 + k.val, hl⟩ (by rw [hu]; show s.val * 1024 + k.val = _; omega))
  refine (Pipeline.eq_sum_fin_of_reset_step_apply_of_flush (N := cfg0.N) (M := EReal) (ι := Fin 1024 × Fin 1024)
    (fun n h i => (outsAt0 m c n h).2.2 (ix2 i.1 i.2)) 4 (fun _ => 0) (fun t i => ∑ k : Fin 1024, lb m c t i.1 k * wb m c t i.2 k)
    (fun t h i => sum_first m c t h i.1 i.2) (fun t h i => sum_next m c t h i.1 i.2) t h (a, b)).trans ?_
  refine (zero_add _).trans ?_
  exact Fin.sum_mul_add_congr fun s k hl => key s k hl _ rfl

/-- What the two results hold at a row block's last point. -/
theorem outs_last (t : Fin cfg0.N) (h : t.val % 4 = 3) :
    (outsAt0 m c t.val t.isLt).1 = k0_pay3 (k0_pay9 (outsAt0 m c t.val t.isLt).2.2 (iblk m c 2 t) (iblk m c 3 t) (iblk m c 4 t))
    ∧ (outsAt0 m c t.val t.isLt).2.1 = k0_pay4 (k0_pay8 (outsAt0 m c t.val t.isLt).2.2 (iblk m c 2 t)) := by
  rw [outsAt0_C m c t (by omega) h]
  constructor <;> frame_out

/-- The rows' cotangents after the run. -/
theorem final_dx : (dats m 0 c).arrAt 5 (cfgs 0).N
    = fun i : S1x2048x1024.Idx => val_main_v38 (F := Ideal) (X0 m c) (X1 m c) (X2 m c) (X3 m c) (X4 m c) (ix2 (i 1) (i 2)) := by
  refine (dats m 0 c).arrAt_eq_of_covers 5 _ (by decide +kernel) fun t hf y => ?_
  blk_simp; rw [after0_5]
  obtain ⟨o, a, b, rfl⟩ : ∃ (o : Fin 1) (a : Fin 1024) (b : Fin 1024), y = ix3 o a b := ⟨y 0, y 1, y 2, eq_ix3 y⟩
  have ht : t.val < 8 := lt_of_lt_of_eq t.isLt N_0
  have e (G : S1x2048x1024.Idx → EReal) : G ((win0_5.blk t).view.emb (ix3 o a b)) = G (ix3 0 ⟨t.val / 4 * 1024 + a.val, by omega⟩ b) := by
    blk_ext [idx_val t]
  refine Eq.trans ?_ (e (fun i => val_main_v38 (F := Ideal) (X0 m c) (X1 m c) (X2 m c) (X3 m c) (X4 m c) (ix2 (i 1) (i 2)))).symm
  have hl := (flush0_5 t).mp hf
  rw [(outs_last m c t hl).1]
  refine (pay_dx _ _ _ _ o a b).trans (Eq.trans ?_ (ref_dx _ _ _ _ _ _ _).symm)
  have e0 : (fun k => xb m c t a k) = xs m c ⟨t.val / 4 * 1024 + a.val, by omega⟩ := funext fun k => x_read m c t 0 a k ⟨t.val / 4 * 1024 + a.val, by omega⟩ rfl
  have e1 : (fun k => gb m c t k) = gs m c := funext fun k => g_read m c t 0 0 k
  have e2 : (fun j => sb m c t a j) = dhs m c ⟨t.val / 4 * 1024 + a.val, by omega⟩ := funext fun j => sum_val m c t hl a j ⟨t.val / 4 * 1024 + a.val, by omega⟩ rfl
  have e3 : (fun k => db m c t a k) = ds m c ⟨t.val / 4 * 1024 + a.val, by omega⟩ := funext fun k => d_read m c t 0 a k ⟨t.val / 4 * 1024 + a.val, by omega⟩ rfl
  show Rms.dx (fun k => xb m c t a k) (fun k => gb m c t k) (fun j => sb m c t a j) (fun k => db m c t a k) b = _
  rw [e0, e1, e2, e3]
  rfl

/-- One row's part of the gain's cotangent, read off the blocks. -/
theorem gain_read (t : Fin cfg0.N) (hl : t.val % 4 = 3) (q : Fin 2) (hq : q.val = t.val / 4) (b : Fin 1024) :
    (∑ a : Fin 1024, xb m c t a b * Rms.scale (fun k => xb m c t a k) * sb m c t a b)
      = Rms.gainBlock (xs m c) (dhs m c) b q := by
  have ht : t.val < 8 := lt_of_lt_of_eq t.isLt N_0
  have hq' : q = ⟨t.val / 4, by omega⟩ := Fin.ext hq
  rw [hq']
  unfold Rms.gainBlock Rms.gain
  refine Finset.sum_congr rfl fun a _ => ?_
  have e0 : (fun k => xb m c t a k) = xs m c ⟨t.val / 4 * 1024 + a.val, by omega⟩ := funext fun k => x_read m c t 0 a k ⟨t.val / 4 * 1024 + a.val, by omega⟩ rfl
  have e2 : (fun j => sb m c t a j) = dhs m c ⟨t.val / 4 * 1024 + a.val, by omega⟩ := funext fun j => sum_val m c t hl a j ⟨t.val / 4 * 1024 + a.val, by omega⟩ rfl
  exact congrArg₂ (@HMul.hMul EReal EReal EReal _) (congrArg₂ (@HMul.hMul EReal EReal EReal _) (congrFun e0 b) (congrArg Rms.scale e0)) (congrFun e2 b)

/-- The gain's cotangent after the run: eight copies of each row block's sum. -/
theorem final_dg : (dats m 0 c).arrAt 6 (cfgs 0).N
    = fun i : S1x16x1024.Idx => Rms.gainBlock (xs m c) (dhs m c) (i 2) (Rms.half (i 1)) := by
  refine (dats m 0 c).arrAt_eq_of_covers 6 _ (by decide +kernel) fun t hf y => ?_
  blk_simp; rw [after0_6]
  obtain ⟨o, s, b, rfl⟩ : ∃ (o : Fin 1) (s : Fin 8) (b : Fin 1024), y = ix3 o s b := ⟨y 0, y 1, y 2, eq_ix3 y⟩
  have ht : t.val < 8 := lt_of_lt_of_eq t.isLt N_0
  have e (G : S1x16x1024.Idx → EReal) : G ((win0_6.blk t).view.emb (ix3 o s b)) = G (ix3 0 ⟨t.val / 4 * 8 + s.val, by omega⟩ b) := by
    blk_ext [idx_val t]
  refine Eq.trans ?_ (e (fun i : S1x16x1024.Idx => Rms.gainBlock (xs m c) (dhs m c) (i 2) (Rms.half (i 1)))).symm
  have hl := (flush0_6 t).mp hf
  rw [(outs_last m c t hl).2]
  refine (pay_dg _ _ o s b).trans ?_
  exact gain_read m c t hl _ (by show (t.val / 4 * 8 + s.val) / 8 = _; omega) b

/-- The first result is the rows' array without its leading axis. -/
theorem tail_dx : Pipeline.afterTail₀ cfgs (dats m) 0 (V0 m) [hostOps1] c main_v11
    = shapeCast S2048x1024 ((dats m 0 c).arrAt 5 (cfgs 0).N) shapeCasts_S1x2048x1024_S2048x1024 := by
  unfold Pipeline.afterTail₀
  show StableHlo.after hostOps1 _ _ = _
  after_results
  exact congrArg (fun x => shapeCast S2048x1024 x shapeCasts_S1x2048x1024_S2048x1024)
    (Pipeline.withArrays_arr (cfgs 0).spec (by decide) c (V0 m c) (fun w => (dats m 0 c).arrAt w (cfgs 0).N) 5)

theorem result_dx : shapeCast S2048x1024 ((dats m 0 c).arrAt 5 (cfgs 0).N) shapeCasts_S1x2048x1024_S2048x1024
    = val_main_v38 (F := Ideal) (X0 m c) (X1 m c) (X2 m c) (X3 m c) (X4 m c) := by
  have key (f : FVec Ideal S1x2048x1024 .f32) (a : Fin 2048) (b : Fin 1024) :
      shapeCast S2048x1024 f shapeCasts_S1x2048x1024_S2048x1024 (ix2 a b) = f (ix3 0 a b) := by pointwise []
  rw [final_dx]
  funext i
  rw [eq_ix2 i]
  exact key _ _ _

/-- What the host makes of the gain's array: every eighth row, summed. -/
abbrev rowSum (f : FVec Ideal S1x16x1024 .f32) : FVec Ideal S1x1024 .f32 :=
  broadcastInDim S1x1024 ![1] bcast_S1024_S1x1024_1
    (Host.reduceAdd (Host.slice S2x1024 ![0, 0] ![8, 1] (shapeCast S16x1024 f shapeCasts_S1x16x1024_S16x1024) slicesBy_S16x1024_S2x1024_0s8_0s1)
      (constant S_ .f32 0x00000000#32) reducesTo_S2x1024_S1024_d0 h_S_)

theorem tail_dg : Pipeline.afterTail₀ cfgs (dats m) 0 (V0 m) [hostOps1] c main_v15 = rowSum ((dats m 0 c).arrAt 6 (cfgs 0).N) := by
  unfold Pipeline.afterTail₀
  show StableHlo.after hostOps1 _ _ = _
  after_results
  exact congrArg rowSum
    (Pipeline.withArrays_arr (cfgs 0).spec (by decide) c (V0 m c) (fun w => (dats m 0 c).arrAt w (cfgs 0).N) 6)

theorem result_dg : rowSum ((dats m 0 c).arrAt 6 (cfgs 0).N) = val_main_v39 (F := Ideal) (X0 m c) (X2 m c) (X3 m c) := by
  have key (f : FVec Ideal S1x16x1024 .f32) (o : Fin 1) (b : Fin 1024) :
      rowSum f (ix2 o b) = ∑ q : Fin 2, f (ix3 0 ⟨8 * q.val, by omega⟩ b) := by pointwise [rowSum]
  rw [final_dg]
  funext i
  obtain ⟨o, b, rfl⟩ : ∃ (o : Fin 1) (b : Fin 1024), i = ix2 o b := ⟨i 0, i 1, eq_ix2 i⟩
  refine (key _ _ _).trans (Eq.trans ?_ (ref_dg _ (X1 m c) _ _ (X4 m c) _ _).symm)
  refine Eq.trans (Finset.sum_congr rfl fun q _ => ?_) (Rms.sum_gainBlock (xs m c) (dhs m c) b)
  exact congrArg (Rms.gainBlock (xs m c) (dhs m c) b) (Fin.ext (show 8 * q.val / 8 = q.val by omega))

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v11) = val_main_v38 (F := Ideal) (X0 m c) (X1 m c) (X2 m c) (X3 m c) (X4 m c)
      ∧ r.2.mem ((c.tc : Thread nD τ).loc main_v15) = val_main_v39 (F := Ideal) (X0 m c) (X2 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => ⟨((hr.1 c).2 main_v11 (by decide)).trans ((tail_dx m c).trans (result_dx m c)), ((hr.1 c).2 main_v15 (by decide)).trans ((tail_dg m c).trans (result_dg m c)), hr.2 c⟩)
    (θ_run_and (run_main m ρ) (unchanged m ρ))

end Cert.Proof.MlpUpBwd

end
-- ==== Proof.OutProjBwd.lean ====
/-
  The derivative of the output projection in its operand.
-/
module

public import proofs.«01_k».proof.Proof.Gen.OutProjBwdIdeal.Frame
public import proofs.«01_k».proof.Proof.Gen.OutProjBwdReferenceIdeal.Run
public import proofs.«01_k».proof.Proof.Gen.OutProjBwdReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.OutProjBwd

open Cert.OutProjBwdIdeal Cert.OutProjBwdIdeal.Gen Cert.OutProjBwdReferenceIdeal.Read

variable (m : (ℓ : Loc nD τ sig) → Buf (Elt Ideal) ℓ)

/-- The block each window stands at, in the number of the grid point. -/
theorem idx_val : ∀ t : Fin cfg0.N, win0_0.index t = ![0, t.val, 0]
    ∧ win0_1.index t = ![0, 0, 0]
    ∧ win0_2.index t = ![0, t.val, 0] :=
  (by decide +kernel : ∀ t : Fin grid0.N, _)

variable (c : Dev nD)

/-! The arguments on a device. -/
abbrev X0 : FVec Ideal S1024x1024 .f32 := m ((c : Thread nD τ).loc main_arg0)
abbrev X1 : FVec Ideal S2048x1024 .f32 := m ((c : Thread nD τ).loc main_arg1)

/-- The body's product, read at a row and a column. -/
theorem pay_apply (v0 : FVec Ideal S1x1024x1024 .f32) (v3 : FVec Ideal S1x1024x1024 .bf16) (o : Fin 1) (a b : Fin 1024) :
    k0_pay1 (F := Ideal) v0 v3 (ix3 o a b) = ∑ k : Fin 1024, v0 (ix3 0 a k) * v3 (ix3 0 b k) := by
  pointwise [k0_pay1]

/-- The reference's product, read at a row and a column. -/
theorem ref_apply (x0 : FVec Ideal S1024x1024 .f32) (x1 : FVec Ideal S2048x1024 .f32) (a : Fin 2048) (b : Fin 1024) :
    val_main_v2 (F := Ideal) x0 x1 (ix2 a b) = ∑ k : Fin 1024, x1 (ix2 a k) * x0 (ix2 b k) := by
  pointwise [val_main_v2] <;> exact Finset.sum_congr rfl fun k _ => mul_comm _ _

/-- A row block of the cotangent. -/
theorem l_read (t : Fin cfg0.N) (o : Fin 1) (a k : Fin 1024) (r : Fin 2048) (hr : r.val = t.val * 1024 + a.val) :
    @Eq EReal (iblk m c 0 t (ix3 o a k)) (X1 m c (ix2 r k)) := by
  have ht : t.val < cfg0.N := t.isLt
  have e (G : S1x2048x1024.Idx → EReal) : G ((win0_0.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- The matrix. -/
theorem r_read (t : Fin cfg0.N) (o : Fin 1) (b k : Fin 1024)  :
    @Eq EReal (iblk m c 1 t (ix3 o b k)) (X0 m c (ix2 b k)) := by
  have ht : t.val < cfg0.N := t.isLt
  have e (G : S1x1024x1024.Idx → EReal) : G ((win0_1.blk t).view.emb (ix3 o b k)) = G (ix3 0 b k) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final : (dats m 0 c).arrAt 2 (cfgs 0).N
    = fun i : S1x2048x1024.Idx => val_main_v2 (F := Ideal) (X0 m c) (X1 m c) (ix2 (i 1) (i 2)) := by
  refine (dats m 0 c).arrAt_eq_of_covers 2 _ (by decide +kernel) fun t hf y => ?_
  blk_simp; rw [after0_2]
  unfold outsAt0
  frame_out
  obtain ⟨o, a, b, rfl⟩ : ∃ (o : Fin 1) (a b : Fin 1024), y = ix3 o a b := ⟨y 0, y 1, y 2, eq_ix3 y⟩
  have ht : t.val < 2 := lt_of_lt_of_eq t.isLt N_0
  have e (G : S1x2048x1024.Idx → EReal) : G ((win0_2.blk t).view.emb (ix3 o a b)) = G (ix3 0 ⟨t.val * 1024 + a.val, by omega⟩ b) := by
    blk_ext [idx_val t]
  refine Eq.trans ?_ (e (fun i => val_main_v2 (F := Ideal) (X0 m c) (X1 m c) (ix2 (i 1) (i 2)))).symm
  refine (pay_apply _ _ o a b).trans ((ref_apply _ _ _ b).trans ?_).symm
  exact Finset.sum_congr rfl fun k _ => (congrArg₂ _ (l_read m c t 0 a k _ rfl) (r_read m c t 0 b k)).symm

/-- The result is the array without its leading axis. -/
theorem tail : Pipeline.afterTail₀ cfgs (dats m) 0 (V0 m) [hostOps1] c main_v4
    = shapeCast S2048x1024 ((dats m 0 c).arrAt 2 (cfgs 0).N) shapeCasts_S1x2048x1024_S2048x1024 := by
  unfold Pipeline.afterTail₀
  show StableHlo.after hostOps1 _ _ = _
  after_results
  exact congrArg (fun x => shapeCast S2048x1024 x shapeCasts_S1x2048x1024_S2048x1024)
    (Pipeline.withArrays_arr (cfgs 0).spec (by decide) c (V0 m c) (fun w => (dats m 0 c).arrAt w (cfgs 0).N) 2)

/-- The result read off the array. -/
theorem result : shapeCast S2048x1024 ((dats m 0 c).arrAt 2 (cfgs 0).N) shapeCasts_S1x2048x1024_S2048x1024
    = val_main_v2 (F := Ideal) (X0 m c) (X1 m c) := by
  have key (f : FVec Ideal S1x2048x1024 .f32) (a : Fin 2048) (b : Fin 1024) :
      shapeCast S2048x1024 f shapeCasts_S1x2048x1024_S2048x1024 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v4) = val_main_v2 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨((hr.1 c).2 main_v4 (by decide)).trans ((tail m c).trans (result m c)), hr.2 c⟩)
    (θ_run_and (run_main m ρ) (unchanged m ρ))

end Cert.Proof.OutProjBwd

end
-- ==== Proof.DwOut.lean ====
/-
  The gradient of the output projection's matrix.
-/
module

public import proofs.«01_k».proof.Proof.Gen.DwOutIdeal.Frame
public import proofs.«01_k».proof.Proof.Gen.DwOutReferenceIdeal.Run
public import proofs.«01_k».proof.Proof.Gen.DwOutReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.DwOut

open Cert.DwOutIdeal Cert.DwOutIdeal.Gen Cert.DwOutReferenceIdeal.Read

variable (m : (ℓ : Loc nD τ sig) → Buf (Elt Ideal) ℓ)

/-- The block each window stands at, in the number of the grid point. -/
theorem idx_val : ∀ t : Fin cfg0.N, win0_0.index t = ![0, 0, 0]
    ∧ win0_1.index t = ![0, 0, 0]
    ∧ win0_2.index t = ![0, 0, 0] :=
  (by decide +kernel : ∀ t : Fin grid0.N, _)

variable (c : Dev nD)

/-! The arguments on a device. -/
abbrev X0 : FVec Ideal S2048x1024 .f32 := m ((c : Thread nD τ).loc main_arg0)
abbrev X1 : FVec Ideal S2048x1024 .f32 := m ((c : Thread nD τ).loc main_arg1)

/-- The body's product, read at a row and a column. -/
theorem pay_apply (v0 : FVec Ideal S1x2048x1024 .bf16) (v2 : FVec Ideal S1x2048x1024 .f32) (o : Fin 1) (a : Fin 1024) (b : Fin 1024) :
    k0_pay1 (F := Ideal) v0 v2 (ix3 o a b) = ∑ k : Fin 2048, v0 (ix3 0 k a) * v2 (ix3 0 k b) := by
  pointwise [k0_pay1]

/-- The reference's product, read at a row and a column. -/
theorem ref_apply (x0 x1 : FVec Ideal S2048x1024 .f32) (a : Fin 1024) (b : Fin 1024) :
    val_main_v4 (F := Ideal) x0 x1 (ix2 a b) = ∑ k : Fin 2048, (x0) (ix2 k a) * x1 (ix2 k b) := by
  pointwise [val_main_v4, val_main_v3, val_main_v2] <;> exact Finset.sum_congr rfl fun k _ => mul_comm _ _

/-- A column block of the left operand. -/
theorem l_read (t : Fin cfg0.N) (o : Fin 1) (k : Fin 2048) (a : Fin 1024)  :
    @Eq EReal (iblk m c 0 t (ix3 o k a)) (X0 m c (ix2 k a)) := by
  have ht : t.val < cfg0.N := t.isLt
  have e (G : S1x2048x1024.Idx → EReal) : G ((win0_0.blk t).view.emb (ix3 o k a)) = G (ix3 0 k a) := by
    blk_ext [idx_val t]
  blk_simp [iblk, idx_val t]
  unfold V V0
  simp only [List.flatten_cons, List.flatten_nil, List.append_nil, StableHlo.after_append]
  entry_read
  refine (e _).trans ?_
  pointwise []

/-- A column block of the right operand. -/
theorem r_read (t : Fin cfg0.N) (o : Fin 1) (k : Fin 2048) (b : Fin 1024)  :
    @Eq EReal (iblk m c 1 t (ix3 o k b)) (X1 m c (ix2 k b)) := by
  have ht : t.val < cfg0.N := t.isLt
  have e (G : S1x2048x1024.Idx → EReal) : G ((win0_1.blk t).view.emb (ix3 o k b)) = G (ix3 0 k b) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final : (dats m 0 c).arrAt 2 (cfgs 0).N
    = fun i : S1x1024x1024.Idx => val_main_v4 (F := Ideal) (X0 m c) (X1 m c) (ix2 (i 1) (i 2)) := by
  refine (dats m 0 c).arrAt_eq_of_covers 2 _ (by decide +kernel) fun t hf y => ?_
  blk_simp; rw [after0_2]
  unfold outsAt0
  frame_out
  obtain ⟨o, a, b, rfl⟩ : ∃ (o : Fin 1) (a : Fin 1024) (b : Fin 1024), y = ix3 o a b := ⟨y 0, y 1, y 2, eq_ix3 y⟩
  have ht : t.val < 1 := lt_of_lt_of_eq t.isLt N_0
  have e (G : S1x1024x1024.Idx → EReal) : G ((win0_2.blk t).view.emb (ix3 o a b)) = G (ix3 0 (show Fin 1024 from a) (show Fin 1024 from b)) := by
    blk_ext [idx_val t]
  refine Eq.trans ?_ (e (fun i => val_main_v4 (F := Ideal) (X0 m c) (X1 m c) (ix2 (i 1) (i 2)))).symm
  refine (pay_apply _ _ o a b).trans ((ref_apply _ _ _ _).trans ?_).symm
  exact Finset.sum_congr rfl fun k _ => (congrArg₂ _ (l_read m c t 0 k a) (r_read m c t 0 k b)).symm

/-- The result is the array without its leading axis. -/
theorem tail : Pipeline.afterTail₀ cfgs (dats m) 0 (V0 m) [hostOps1] c main_v4
    = shapeCast S1024x1024 ((dats m 0 c).arrAt 2 (cfgs 0).N) shapeCasts_S1x1024x1024_S1024x1024 := by
  unfold Pipeline.afterTail₀
  show StableHlo.after hostOps1 _ _ = _
  after_results
  exact congrArg (fun x => shapeCast S1024x1024 x shapeCasts_S1x1024x1024_S1024x1024)
    (Pipeline.withArrays_arr (cfgs 0).spec (by decide) c (V0 m c) (fun w => (dats m 0 c).arrAt w (cfgs 0).N) 2)

/-- The result read off the array. -/
theorem result : shapeCast S1024x1024 ((dats m 0 c).arrAt 2 (cfgs 0).N) shapeCasts_S1x1024x1024_S1024x1024
    = val_main_v4 (F := Ideal) (X0 m c) (X1 m c) := by
  have key (f : FVec Ideal S1x1024x1024 .bf16) (a : Fin 1024) (b : Fin 1024) :
      shapeCast S1024x1024 f shapeCasts_S1x1024x1024_S1024x1024 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v4) = val_main_v4 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨((hr.1 c).2 main_v4 (by decide)).trans ((tail m c).trans (result m c)), hr.2 c⟩)
    (θ_run_and (run_main m ρ) (unchanged m ρ))

end Cert.Proof.DwOut

end
-- ==== Proof.PleBwd.lean ====
/-
  The derivative of the gated per-layer embedding.
-/
module

public import proofs.«01_k».proof.Proof.Gen.PleBwdIdeal.Frame
public import proofs.«01_k».proof.Proof.Gen.PleBwdReferenceIdeal.Run
public import proofs.«01_k».proof.Proof.Gen.PleBwdReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.PleBwd

open Cert.PleBwdIdeal Cert.PleBwdIdeal.Gen Cert.PleBwdReferenceIdeal.Read

variable (m : (ℓ : Loc nD τ sig) → Buf (Elt Ideal) ℓ)

/-- The block each window stands at, in the number of the grid point. -/
theorem idx_val : ∀ t : Fin cfg0.N, win0_0.index t = ![0, t.val, 0]
    ∧ win0_1.index t = ![0, 0, 0]
    ∧ win0_2.index t = ![0, t.val, 0]
    ∧ win0_3.index t = ![0, t.val, 0]
    ∧ win0_4.index t = ![0, t.val, 0]
    ∧ win0_5.index t = ![0, t.val, 0] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024 .f32 := m ((c : Thread nD τ).loc main_arg1)
abbrev X2 : FVec Ideal S1024x1024 .f32 := m ((c : Thread nD τ).loc main_arg2)
abbrev X3 : FVec Ideal S2048x256 .f32 := m ((c : Thread nD τ).loc main_arg3)
abbrev X4 : FVec Ideal S256x1024 .f32 := m ((c : Thread nD τ).loc main_arg4)
abbrev X5 : FVec Ideal S2048x1024 .f32 := m ((c : Thread nD τ).loc main_arg5)

/-- The first result of the body, read at a row and a column. -/
theorem pay_pp (v6 v8 : FVec Ideal S1x1024x1024 .f32) (o : Fin 1) (a b : Fin 1024) :
    k0_pay3 (F := Ideal) v6 v8 (ix3 o a b) = v6 (ix3 0 a b) * Ideal.logistic (v8 (ix3 0 a b)) := by
  pointwise [k0_pay3, k0_pay2, k0_pay1]

/-- The second result of the body, read at a row and a column. -/
theorem pay_pg (v0 : FVec Ideal S1x1024x256 .f32) (v3 : FVec Ideal S1x256x1024 .bf16) (v6 v8 : FVec Ideal S1x1024x1024 .f32) (o : Fin 1) (a b : Fin 1024) :
    k0_pay4 (F := Ideal) v0 v3 v6 v8 (ix3 o a b)
      = (v6 (ix3 0 a b) * ∑ k : Fin 256, v0 (ix3 0 a k) * v3 (ix3 0 k b)) * Ideal.logistic (v8 (ix3 0 a b)) * (1 - Ideal.logistic (v8 (ix3 0 a b))) := by
  pointwise [k0_pay4, k0_pay2, k0_pay1]

/-- The reference's gate, read at a row and a column. -/
theorem ref_gate (x0 : FVec Ideal S2048x1024 .f32) (x1 : FVec Ideal S1024 .f32) (x2 : FVec Ideal S1024x1024 .f32) (x3 : FVec Ideal S2048x256 .f32) (x4 : FVec Ideal S256x1024 .f32) (x5 : FVec Ideal S2048x1024 .f32) (a : Fin 2048) (b : Fin 1024) :
    val_main_v20 (F := Ideal) x0 x1 x2 (ix2 a b) = Ideal.logistic (val_main_v14 (F := Ideal) x0 x1 x2 (ix2 a b)) := by
  pointwise [val_main_v20, val_main_v19, val_main_v18, val_main_v17, val_main_v16, val_main_v15, val_main_cst_2, val_main_cst_3, Ideal.logistic]

/-- The reference's first result, read at a row and a column. -/
theorem ref_pp (x0 : FVec Ideal S2048x1024 .f32) (x1 : FVec Ideal S1024 .f32) (x2 : FVec Ideal S1024x1024 .f32) (x3 : FVec Ideal S2048x256 .f32) (x4 : FVec Ideal S256x1024 .f32) (x5 : FVec Ideal S2048x1024 .f32) (a : Fin 2048) (b : Fin 1024) :
    val_main_v28 (F := Ideal) x0 x1 x2 x5 (ix2 a b) = x5 (ix2 a b) * Ideal.logistic (val_main_v14 (F := Ideal) x0 x1 x2 (ix2 a b)) := by
  rw [← ref_gate x0 x1 x2 x3 x4 x5]
  pointwise [val_main_v28, val_main_v26]

/-- The reference's second result, read at a row and a column. -/
theorem ref_pg (x0 : FVec Ideal S2048x1024 .f32) (x1 : FVec Ideal S1024 .f32) (x2 : FVec Ideal S1024x1024 .f32) (x3 : FVec Ideal S2048x256 .f32) (x4 : FVec Ideal S256x1024 .f32) (x5 : FVec Ideal S2048x1024 .f32) (a : Fin 2048) (b : Fin 1024) :
    val_main_v29 (F := Ideal) x0 x1 x2 x3 x4 x5 (ix2 a b)
      = ((∑ k : Fin 256, x3 (ix2 a k) * x4 (ix2 k b)) * x5 (ix2 a b))
        * (Ideal.logistic (val_main_v14 (F := Ideal) x0 x1 x2 (ix2 a b)) * (1 - Ideal.logistic (val_main_v14 (F := Ideal) x0 x1 x2 (ix2 a b)))) := by
  rw [← ref_gate x0 x1 x2 x3 x4 x5]
  pointwise [val_main_v29, val_main_v27, val_main_v25, val_main_v23, val_main_v22, val_main_v21, val_main_cst_4, val_main_v0]

/-- A row block of the embedding. -/
theorem p_read (t : Fin cfg0.N) (o : Fin 1) (a : Fin 1024) (k : Fin 256) (r : Fin 2048) (hr : r.val = t.val * 1024 + a.val) :
    @Eq EReal (iblk m c 0 t (ix3 o a k)) (X3 m c (ix2 r k)) := by
  have ht : t.val < cfg0.N := t.isLt
  have e (G : S1x2048x256.Idx → EReal) : G ((win0_0.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- The matrix. -/
theorem w_read (t : Fin cfg0.N) (o : Fin 1) (k : Fin 256) (b : Fin 1024)  :
    @Eq EReal (iblk m c 1 t (ix3 o k b)) (X4 m c (ix2 k b)) := by
  have ht : t.val < cfg0.N := t.isLt
  have e (G : S1x256x1024.Idx → EReal) : G ((win0_1.blk t).view.emb (ix3 o k b)) = G (ix3 0 k b) := by
    blk_ext [idx_val t]
  blk_simp [iblk, idx_val t]
  unfold V V0
  simp only [List.flatten_cons, List.flatten_nil, List.append_nil, StableHlo.after_append]
  entry_read
  refine (e _).trans ?_
  pointwise []

/-- A row block of the cotangent. -/
theorem d_read (t : Fin cfg0.N) (o : Fin 1) (a b : Fin 1024) (r : Fin 2048) (hr : r.val = t.val * 1024 + a.val) :
    @Eq EReal (iblk m c 2 t (ix3 o a b)) (X5 m c (ix2 r b)) := by
  have ht : t.val < cfg0.N := t.isLt
  have e (G : S1x2048x1024.Idx → EReal) : G ((win0_2.blk t).view.emb (ix3 o a b)) = G (ix3 0 r b) := by
    blk_ext [idx_val t]
  blk_simp [iblk, idx_val t]
  unfold V V0
  simp only [List.flatten_cons, List.flatten_nil, List.append_nil, StableHlo.after_append]
  entry_read
  refine (e _).trans ?_
  pointwise []

/-- A row block of the gate's operand. -/
theorem g_read (t : Fin cfg0.N) (o : Fin 1) (a b : Fin 1024) (r : Fin 2048) (hr : r.val = t.val * 1024 + a.val) :
    @Eq EReal (iblk m c 3 t (ix3 o a b)) (val_main_v14 (F := Ideal) (X0 m c) (X1 m c) (X2 m c) (ix2 r b)) := by
  have ht : t.val < cfg0.N := t.isLt
  have e (G : S1x2048x1024.Idx → EReal) : G ((win0_3.blk t).view.emb (ix3 o a b)) = G (ix3 0 r b) := by
    blk_ext [idx_val t]
  blk_simp [iblk, idx_val t]
  unfold V V0
  simp only [List.flatten_cons, List.flatten_nil, List.append_nil, StableHlo.after_append]
  entry_read
  refine (e _).trans ?_
  pointwise [val_main_v14, val_main_v13, val_main_v10, val_main_v9, val_main_v8, val_main_v7, val_main_v5, val_main_v3, val_main_v2, val_main_v1, val_main_cst, val_main_v4, val_main_cst_0, val_main_v6, val_main_cst_1, val_main_v12, val_main_v11]

/-- The array of window 4 after the run. -/
theorem final_pp : (dats m 0 c).arrAt 4 (cfgs 0).N
    = fun i : S1x2048x1024.Idx => val_main_v28 (F := Ideal) (X0 m c) (X1 m c) (X2 m c) (X5 m c) (ix2 (i 1) (i 2)) := by
  refine (dats m 0 c).arrAt_eq_of_covers 4 _ (by decide +kernel) fun t hf y => ?_
  blk_simp; rw [after0_4]
  obtain ⟨o, a, b, rfl⟩ : ∃ (o : Fin 1) (a : Fin 1024) (b : Fin 1024), y = ix3 o a b := ⟨y 0, y 1, y 2, eq_ix3 y⟩
  have ht : t.val < 2 := lt_of_lt_of_eq t.isLt N_0
  have e (G : S1x2048x1024.Idx → EReal) : G ((win0_4.blk t).view.emb (ix3 o a b)) = G (ix3 0 ⟨t.val * 1024 + a.val, by omega⟩ b) := by
    blk_ext [idx_val t]
  refine Eq.trans ?_ (e (fun i => val_main_v28 (F := Ideal) (X0 m c) (X1 m c) (X2 m c) (X5 m c) (ix2 (i 1) (i 2)))).symm
  unfold outsAt0
  frame_out
  refine (pay_pp _ _ o a b).trans ?_
  rw [d_read m c t 0 a b ⟨t.val * 1024 + a.val, by omega⟩ rfl, g_read m c t 0 a b ⟨t.val * 1024 + a.val, by omega⟩ rfl]
  exact (ref_pp _ _ _ (X3 m c) (X4 m c) _ _ _).symm

/-- The result is that array without its leading axis. -/
theorem tail_pp : Pipeline.afterTail₀ cfgs (dats m) 0 (V0 m) [hostOps1] c main_v20
    = shapeCast S2048x1024 ((dats m 0 c).arrAt 4 (cfgs 0).N) shapeCasts_S1x2048x1024_S2048x1024 := by
  unfold Pipeline.afterTail₀
  show StableHlo.after hostOps1 _ _ = _
  after_results
  exact congrArg (fun x => shapeCast S2048x1024 x shapeCasts_S1x2048x1024_S2048x1024)
    (Pipeline.withArrays_arr (cfgs 0).spec (by decide) c (V0 m c) (fun w => (dats m 0 c).arrAt w (cfgs 0).N) 4)

/-- The result read off the array. -/
theorem result_pp : shapeCast S2048x1024 ((dats m 0 c).arrAt 4 (cfgs 0).N) shapeCasts_S1x2048x1024_S2048x1024
    = val_main_v28 (F := Ideal) (X0 m c) (X1 m c) (X2 m c) (X5 m c) := by
  have key (f : FVec Ideal S1x2048x1024 .bf16) (a : Fin 2048) (b : Fin 1024) :
      shapeCast S2048x1024 f shapeCasts_S1x2048x1024_S2048x1024 (ix2 a b) = f (ix3 0 a b) := by pointwise []
  rw [final_pp]
  funext i
  rw [eq_ix2 i]
  exact key _ _ _

/-- The array of window 5 after the run. -/
theorem final_pg : (dats m 0 c).arrAt 5 (cfgs 0).N
    = fun i : S1x2048x1024.Idx => val_main_v29 (F := Ideal) (X0 m c) (X1 m c) (X2 m c) (X3 m c) (X4 m c) (X5 m c) (ix2 (i 1) (i 2)) := by
  refine (dats m 0 c).arrAt_eq_of_covers 5 _ (by decide +kernel) fun t hf y => ?_
  blk_simp; rw [after0_5]
  obtain ⟨o, a, b, rfl⟩ : ∃ (o : Fin 1) (a : Fin 1024) (b : Fin 1024), y = ix3 o a b := ⟨y 0, y 1, y 2, eq_ix3 y⟩
  have ht : t.val < 2 := lt_of_lt_of_eq t.isLt N_0
  have e (G : S1x2048x1024.Idx → EReal) : G ((win0_5.blk t).view.emb (ix3 o a b)) = G (ix3 0 ⟨t.val * 1024 + a.val, by omega⟩ b) := by
    blk_ext [idx_val t]
  refine Eq.trans ?_ (e (fun i => val_main_v29 (F := Ideal) (X0 m c) (X1 m c) (X2 m c) (X3 m c) (X4 m c) (X5 m c) (ix2 (i 1) (i 2)))).symm
  unfold outsAt0
  frame_out
  refine (pay_pg _ _ _ _ o a b).trans ?_
  rw [d_read m c t 0 a b ⟨t.val * 1024 + a.val, by omega⟩ rfl, g_read m c t 0 a b ⟨t.val * 1024 + a.val, by omega⟩ rfl, Finset.sum_congr rfl fun k _ => congrArg₂ (@HMul.hMul EReal EReal EReal _) (p_read m c t 0 a k ⟨t.val * 1024 + a.val, by omega⟩ rfl) (w_read m c t 0 k b)]
  refine Eq.trans ?_ (ref_pg _ _ _ _ _ _ _ _).symm
  rw [mul_assoc, mul_comm (X5 m c _)]
  rfl

/-- The result is that array without its leading axis. -/
theorem tail_pg : Pipeline.afterTail₀ cfgs (dats m) 0 (V0 m) [hostOps1] c main_v21
    = shapeCast S2048x1024 ((dats m 0 c).arrAt 5 (cfgs 0).N) shapeCasts_S1x2048x1024_S2048x1024 := by
  unfold Pipeline.afterTail₀
  show StableHlo.after hostOps1 _ _ = _
  after_results
  exact congrArg (fun x => shapeCast S2048x1024 x shapeCasts_S1x2048x1024_S2048x1024)
    (Pipeline.withArrays_arr (cfgs 0).spec (by decide) c (V0 m c) (fun w => (dats m 0 c).arrAt w (cfgs 0).N) 5)

/-- The result read off the array. -/
theorem result_pg : shapeCast S2048x1024 ((dats m 0 c).arrAt 5 (cfgs 0).N) shapeCasts_S1x2048x1024_S2048x1024
    = val_main_v29 (F := Ideal) (X0 m c) (X1 m c) (X2 m c) (X3 m c) (X4 m c) (X5 m c) := by
  have key (f : FVec Ideal S1x2048x1024 .bf16) (a : Fin 2048) (b : Fin 1024) :
      shapeCast S2048x1024 f shapeCasts_S1x2048x1024_S2048x1024 (ix2 a b) = f (ix3 0 a b) := by pointwise []
  rw [final_pg]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v20) = val_main_v28 (F := Ideal) (X0 m c) (X1 m c) (X2 m c) (X5 m c)
      ∧ r.2.mem ((c.tc : Thread nD τ).loc main_v21) = val_main_v29 (F := Ideal) (X0 m c) (X1 m c) (X2 m c) (X3 m c) (X4 m c) (X5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨((hr.1 c).2 main_v20 (by decide)).trans ((tail_pp m c).trans (result_pp m c)), ((hr.1 c).2 main_v21 (by decide)).trans ((tail_pg m c).trans (result_pg m c)), hr.2 c⟩)
    (θ_run_and (run_main m ρ) (unchanged m ρ))

end Cert.Proof.PleBwd

end
-- ==== Proof.DwPle.lean ====
/-
  The gradient of the per-layer embedding's matrix.
-/
module

public import proofs.«01_k».proof.Proof.Gen.DwPleIdeal.Frame
public import proofs.«01_k».proof.Proof.Gen.DwPleReferenceIdeal.Run
public import proofs.«01_k».proof.Proof.Gen.DwPleReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.DwPle

open Cert.DwPleIdeal Cert.DwPleIdeal.Gen Cert.DwPleReferenceIdeal.Read

variable (m : (ℓ : Loc nD τ sig) → Buf (Elt Ideal) ℓ)

/-- The block each window stands at, in the number of the grid point. -/
theorem idx_val : ∀ t : Fin cfg0.N, win0_0.index t = ![0, 0, 0]
    ∧ win0_1.index t = ![0, 0, 0]
    ∧ win0_2.index t = ![0, 0, 0] :=
  (by decide +kernel : ∀ t : Fin grid0.N, _)

variable (c : Dev nD)

/-! The arguments on a device. -/
abbrev X0 : FVec Ideal S2048x256 .f32 := m ((c : Thread nD τ).loc main_arg0)
abbrev X1 : FVec Ideal S2048x1024 .f32 := m ((c : Thread nD τ).loc main_arg1)

/-- The body's product, read at a row and a column. -/
theorem pay_apply (v0 : FVec Ideal S1x2048x256 .f32) (v2 : FVec Ideal S1x2048x1024 .bf16) (o : Fin 1) (a : Fin 256) (b : Fin 1024) :
    k0_pay1 (F := Ideal) v0 v2 (ix3 o a b) = ∑ k : Fin 2048, v0 (ix3 0 k a) * v2 (ix3 0 k b) := by
  pointwise [k0_pay1]

/-- The reference's product, read at a row and a column. -/
theorem ref_apply (x0 : FVec Ideal S2048x256 .f32) (x1 : FVec Ideal S2048x1024 .f32) (a : Fin 256) (b : Fin 1024) :
    val_main_v4 (F := Ideal) x0 x1 (ix2 a b) = ∑ k : Fin 2048, (x0) (ix2 k a) * x1 (ix2 k b) := by
  pointwise [val_main_v4, val_main_v3, val_main_v2] <;> exact Finset.sum_congr rfl fun k _ => mul_comm _ _

/-- A column block of the left operand. -/
theorem l_read (t : Fin cfg0.N) (o : Fin 1) (k : Fin 2048) (a : Fin 256)  :
    @Eq EReal (iblk m c 0 t (ix3 o k a)) (X0 m c (ix2 k a)) := by
  have ht : t.val < cfg0.N := t.isLt
  have e (G : S1x2048x256.Idx → EReal) : G ((win0_0.blk t).view.emb (ix3 o k a)) = G (ix3 0 k a) := by
    blk_ext [idx_val t]
  blk_simp [iblk, idx_val t]
  unfold V V0
  simp only [List.flatten_cons, List.flatten_nil, List.append_nil, StableHlo.after_append]
  entry_read
  refine (e _).trans ?_
  pointwise []

/-- A column block of the right operand. -/
theorem r_read (t : Fin cfg0.N) (o : Fin 1) (k : Fin 2048) (b : Fin 1024)  :
    @Eq EReal (iblk m c 1 t (ix3 o k b)) (X1 m c (ix2 k b)) := by
  have ht : t.val < cfg0.N := t.isLt
  have e (G : S1x2048x1024.Idx → EReal) : G ((win0_1.blk t).view.emb (ix3 o k b)) = G (ix3 0 k b) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final : (dats m 0 c).arrAt 2 (cfgs 0).N
    = fun i : S1x256x1024.Idx => val_main_v4 (F := Ideal) (X0 m c) (X1 m c) (ix2 (i 1) (i 2)) := by
  refine (dats m 0 c).arrAt_eq_of_covers 2 _ (by decide +kernel) fun t hf y => ?_
  blk_simp; rw [after0_2]
  unfold outsAt0
  frame_out
  obtain ⟨o, a, b, rfl⟩ : ∃ (o : Fin 1) (a : Fin 256) (b : Fin 1024), y = ix3 o a b := ⟨y 0, y 1, y 2, eq_ix3 y⟩
  have ht : t.val < 1 := lt_of_lt_of_eq t.isLt N_0
  have e (G : S1x256x1024.Idx → EReal) : G ((win0_2.blk t).view.emb (ix3 o a b)) = G (ix3 0 (show Fin 256 from a) (show Fin 1024 from b)) := by
    blk_ext [idx_val t]
  refine Eq.trans ?_ (e (fun i => val_main_v4 (F := Ideal) (X0 m c) (X1 m c) (ix2 (i 1) (i 2)))).symm
  refine (pay_apply _ _ o a b).trans ((ref_apply _ _ _ _).trans ?_).symm
  exact Finset.sum_congr rfl fun k _ => (congrArg₂ _ (l_read m c t 0 k a) (r_read m c t 0 k b)).symm

/-- The result is the array without its leading axis. -/
theorem tail : Pipeline.afterTail₀ cfgs (dats m) 0 (V0 m) [hostOps1] c main_v4
    = shapeCast S256x1024 ((dats m 0 c).arrAt 2 (cfgs 0).N) shapeCasts_S1x256x1024_S256x1024 := by
  unfold Pipeline.afterTail₀
  show StableHlo.after hostOps1 _ _ = _
  after_results
  exact congrArg (fun x => shapeCast S256x1024 x shapeCasts_S1x256x1024_S256x1024)
    (Pipeline.withArrays_arr (cfgs 0).spec (by decide) c (V0 m c) (fun w => (dats m 0 c).arrAt w (cfgs 0).N) 2)

/-- The result read off the array. -/
theorem result : shapeCast S256x1024 ((dats m 0 c).arrAt 2 (cfgs 0).N) shapeCasts_S1x256x1024_S256x1024
    = val_main_v4 (F := Ideal) (X0 m c) (X1 m c) := by
  have key (f : FVec Ideal S1x256x1024 .bf16) (a : Fin 256) (b : Fin 1024) :
      shapeCast S256x1024 f shapeCasts_S1x256x1024_S256x1024 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v4) = val_main_v4 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨((hr.1 c).2 main_v4 (by decide)).trans ((tail m c).trans (result m c)), hr.2 c⟩)
    (θ_run_and (run_main m ρ) (unchanged m ρ))

end Cert.Proof.DwPle

end
-- ==== Proof.DwPleGate.lean ====
/-
  The gradient of the gate's matrix of the per-layer embedding.
-/
module

public import proofs.«01_k».proof.Proof.Gen.DwPleGateIdeal.Frame
public import proofs.«01_k».proof.Proof.Gen.DwPleGateReferenceIdeal.Run
public import proofs.«01_k».proof.Proof.Gen.DwPleGateReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.DwPleGate

open Cert.DwPleGateIdeal Cert.DwPleGateIdeal.Gen Cert.DwPleGateReferenceIdeal.Read

variable (m : (ℓ : Loc nD τ sig) → Buf (Elt Ideal) ℓ)

/-- The block each window stands at, in the number of the grid point. -/
theorem idx_val : ∀ t : Fin cfg0.N, win0_0.index t = ![0, 0, 0]
    ∧ win0_1.index t = ![0, 0, 0]
    ∧ win0_2.index t = ![0, 0, 0] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024 .f32 := m ((c : Thread nD τ).loc main_arg1)
abbrev X2 : FVec Ideal S2048x1024 .f32 := m ((c : Thread nD τ).loc main_arg2)

/-- The body's product, read at a row and a column. -/
theorem pay_apply (v0 : FVec Ideal S1x2048x1024 .bf16) (v2 : FVec Ideal S1x2048x1024 .bf16) (o : Fin 1) (a : Fin 1024) (b : Fin 1024) :
    k0_pay1 (F := Ideal) v0 v2 (ix3 o a b) = ∑ k : Fin 2048, v0 (ix3 0 k a) * v2 (ix3 0 k b) := by
  pointwise [k0_pay1]

/-- The reference's product, read at a row and a column. -/
theorem ref_apply (x0 : FVec Ideal S2048x1024 .f32) (x1 : FVec Ideal S1024 .f32) (x2 : FVec Ideal S2048x1024 .f32) (a : Fin 1024) (b : Fin 1024) :
    val_main_v17 (F := Ideal) x0 x1 x2 (ix2 a b) = ∑ k : Fin 2048, (val_main_v13 (F := Ideal) x0 x1) (ix2 k a) * x2 (ix2 k b) := by
  pointwise [val_main_v17, val_main_v16, val_main_v15] <;> exact Finset.sum_congr rfl fun k _ => mul_comm _ _

/-- A column block of the left operand. -/
theorem l_read (t : Fin cfg0.N) (o : Fin 1) (k : Fin 2048) (a : Fin 1024)  :
    @Eq EReal (iblk m c 0 t (ix3 o k a)) (val_main_v13 (F := Ideal) (X0 m c) (X1 m c) (ix2 k a)) := by
  have ht : t.val < cfg0.N := t.isLt
  have e (G : S1x2048x1024.Idx → EReal) : G ((win0_0.blk t).view.emb (ix3 o k a)) = G (ix3 0 k a) := by
    blk_ext [idx_val t]
  blk_simp [iblk, idx_val t]
  unfold V V0
  simp only [List.flatten_cons, List.flatten_nil, List.append_nil, StableHlo.after_append]
  entry_read
  refine (e _).trans ?_
  pointwise [val_main_v13, val_main_v10, val_main_v9, val_main_v8, val_main_v7, val_main_v5, val_main_v3, val_main_v2, val_main_v1, val_main_cst_0, val_main_v4, val_main_cst_1, val_main_v6, val_main_cst_2, val_main_v12, val_main_v11]

/-- A column block of the right operand. -/
theorem r_read (t : Fin cfg0.N) (o : Fin 1) (k : Fin 2048) (b : Fin 1024)  :
    @Eq EReal (iblk m c 1 t (ix3 o k b)) (X2 m c (ix2 k b)) := by
  have ht : t.val < cfg0.N := t.isLt
  have e (G : S1x2048x1024.Idx → EReal) : G ((win0_1.blk t).view.emb (ix3 o k b)) = G (ix3 0 k b) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final : (dats m 0 c).arrAt 2 (cfgs 0).N
    = fun i : S1x1024x1024.Idx => val_main_v17 (F := Ideal) (X0 m c) (X1 m c) (X2 m c) (ix2 (i 1) (i 2)) := by
  refine (dats m 0 c).arrAt_eq_of_covers 2 _ (by decide +kernel) fun t hf y => ?_
  blk_simp; rw [after0_2]
  unfold outsAt0
  frame_out
  obtain ⟨o, a, b, rfl⟩ : ∃ (o : Fin 1) (a : Fin 1024) (b : Fin 1024), y = ix3 o a b := ⟨y 0, y 1, y 2, eq_ix3 y⟩
  have ht : t.val < 1 := lt_of_lt_of_eq t.isLt N_0
  have e (G : S1x1024x1024.Idx → EReal) : G ((win0_2.blk t).view.emb (ix3 o a b)) = G (ix3 0 (show Fin 1024 from a) (show Fin 1024 from b)) := by
    blk_ext [idx_val t]
  refine Eq.trans ?_ (e (fun i => val_main_v17 (F := Ideal) (X0 m c) (X1 m c) (X2 m c) (ix2 (i 1) (i 2)))).symm
  refine (pay_apply _ _ o a b).trans ((ref_apply _ _ _ _ _).trans ?_).symm
  exact Finset.sum_congr rfl fun k _ => (congrArg₂ _ (l_read m c t 0 k a) (r_read m c t 0 k b)).symm

/-- The result is the array without its leading axis. -/
theorem tail : Pipeline.afterTail₀ cfgs (dats m) 0 (V0 m) [hostOps1] c main_v18
    = shapeCast S1024x1024 ((dats m 0 c).arrAt 2 (cfgs 0).N) shapeCasts_S1x1024x1024_S1024x1024 := by
  unfold Pipeline.afterTail₀
  show StableHlo.after hostOps1 _ _ = _
  after_results
  exact congrArg (fun x => shapeCast S1024x1024 x shapeCasts_S1x1024x1024_S1024x1024)
    (Pipeline.withArrays_arr (cfgs 0).spec (by decide) c (V0 m c) (fun w => (dats m 0 c).arrAt w (cfgs 0).N) 2)

/-- The result read off the array. -/
theorem result : shapeCast S1024x1024 ((dats m 0 c).arrAt 2 (cfgs 0).N) shapeCasts_S1x1024x1024_S1024x1024
    = val_main_v17 (F := Ideal) (X0 m c) (X1 m c) (X2 m c) := by
  have key (f : FVec Ideal S1x1024x1024 .bf16) (a : Fin 1024) (b : Fin 1024) :
      shapeCast S1024x1024 f shapeCasts_S1x1024x1024_S1024x1024 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v18) = val_main_v17 (F := Ideal) (X0 m c) (X1 m c) (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => ⟨((hr.1 c).2 main_v18 (by decide)).trans ((tail m c).trans (result m c)), hr.2 c⟩)
    (θ_run_and (run_main m ρ) (unchanged m ρ))

end Cert.Proof.DwPleGate

end
-- ==== Proof.DhPle.lean ====
/-
  The derivative of the norm before the per-layer embedding's gate, with its product.
-/
module

public import proofs.«01_k».proof.Proof.Gen.DhPleIdeal.Frame
public import proofs.«01_k».proof.Proof.Gen.DhPleReferenceIdeal.Run
public import proofs.«01_k».proof.Proof.Gen.DhPleReferenceIdeal.Read
public import proofs.«01_k».proof.Proof.Rms
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.DhPle

open Cert.DhPleIdeal Cert.DhPleIdeal.Gen Cert.DhPleReferenceIdeal.Read

variable (m : (ℓ : Loc nD τ sig) → Buf (Elt Ideal) ℓ)

/-- The block each window stands at, in the number of the grid point. -/
theorem idx_val : ∀ t : Fin cfg0.N, win0_0.index t = ![0, t.val, 0]
    ∧ win0_1.index t = ![0, 0, 0]
    ∧ win0_2.index t = ![0, t.val, 0]
    ∧ win0_3.index t = ![0, t.val, 0]
    ∧ win0_4.index t = ![0, 0, 0]
    ∧ win0_5.index t = ![0, t.val, 0]
    ∧ win0_6.index t = ![0, t.val, 0] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024 .f32 := m ((c : Thread nD τ).loc main_arg1)
abbrev X2 : FVec Ideal S1024x1024 .f32 := m ((c : Thread nD τ).loc main_arg2)
abbrev X3 : FVec Ideal S2048x1024 .f32 := m ((c : Thread nD τ).loc main_arg3)
abbrev X4 : FVec Ideal S2048x1024 .f32 := m ((c : Thread nD τ).loc main_arg4)

/-- The rows of the residual stream, the gain, the normed rows' cotangent and the rows of the residual's cotangent. -/
abbrev xs (r : Fin 2048) (j : Fin 1024) : EReal := X0 m c (ix2 r j)
abbrev gs (j : Fin 1024) : EReal := X1 m c (ix1 j)
abbrev dhs (r : Fin 2048) (j : Fin 1024) : EReal := ∑ k : Fin 1024, (X3 m c (ix2 r k) : EReal) * X2 m c (ix2 j k)
abbrev ds (r : Fin 2048) (j : Fin 1024) : EReal := X4 m c (ix2 r j)

/-- The body's first value, of the blocks. -/
theorem pay_dx (v0 v2 : FVec Ideal S1x1024x1024 .bf16) (v5 v7 : FVec Ideal S1x1024x1024 .f32) (v9 : FVec Ideal S1x1x1024 .f32) (o : Fin 1) (a b : Fin 1024) :
    k0_pay1 (F := Ideal) (k0_pay4 v5) (k0_pay5 v7) (k0_pay8 v5) (k0_pay11 v0 v2 v5 v9) (k0_pay12 v0 v2 v5 v9) (ix3 o a b)
      = Rms.dx (fun k => v5 (ix3 0 a k)) (fun k => v9 (ix3 0 0 k)) (fun j => ∑ k : Fin 1024, v0 (ix3 0 a k) * v2 (ix3 0 j k)) (fun k => v7 (ix3 0 a k)) b := by
  rw [← Rms.dx_last]
  pointwise [k0_pay1, k0_pay3, k0_pay4, k0_pay5, k0_pay6, k0_pay7, k0_pay8, k0_pay10, k0_pay11, k0_pay12, Rms.meanSq, Rms.scale, Rms.slope, Rms.back]
  simp only [Fin.sum_univ_one]

/-- The body's second value. -/
theorem pay_dg (v0 v2 : FVec Ideal S1x1024x1024 .bf16) (v5 : FVec Ideal S1x1024x1024 .f32) (o : Fin 1) (s : Fin 8) (b : Fin 1024) :
    k0_pay2 (F := Ideal) (k0_pay9 v0 v2 v5) (ix3 o s b)
      = ∑ a : Fin 1024, v5 (ix3 0 a b) * Rms.scale (fun k => v5 (ix3 0 a k)) * ∑ k : Fin 1024, v0 (ix3 0 a k) * v2 (ix3 0 b k) := by
  pointwise [k0_pay2, k0_pay9, k0_pay3, k0_pay4, k0_pay6, k0_pay7, Rms.meanSq, Rms.scale]

/-- The reference's first result, read at a row and a column. -/
theorem ref_dx (x0 : FVec Ideal S2048x1024 .f32) (x1 : FVec Ideal S1024 .f32) (x2 : FVec Ideal S1024x1024 .f32) (x3 x4 : FVec Ideal S2048x1024 .f32) (a : Fin 2048) (b : Fin 1024) :
    val_main_v38 (F := Ideal) x0 x1 x2 x3 x4 (ix2 a b)
      = Rms.dx (fun k => x0 (ix2 a k)) (fun k => x1 (ix1 k)) (fun j => ∑ k : Fin 1024, x3 (ix2 a k) * x2 (ix2 j k)) (fun k => x4 (ix2 a k)) b := by
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v17, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7, Rms.dx, Rms.meanSq, Rms.scale, Rms.slope, Rms.back]
  simp only [Fin.sum_univ_one]

/-- The reference's second result. -/
theorem ref_dg (x0 : FVec Ideal S2048x1024 .f32) (x1 : FVec Ideal S1024 .f32) (x2 : FVec Ideal S1024x1024 .f32) (x3 x4 : FVec Ideal S2048x1024 .f32) (o : Fin 1) (b : Fin 1024) :
    val_main_v39 (F := Ideal) x0 x2 x3 (ix2 o b)
      = ∑ a : Fin 2048, Rms.gain (fun r k => x0 (ix2 r k)) (fun r j => ∑ k : Fin 1024, x3 (ix2 r k) * x2 (ix2 j k)) b a := by
  pointwise [val_main_v39, val_main_v23, val_main_v20, val_main_v19, val_main_v18, val_main_v12, val_main_v11, val_main_v17, val_main_v7, val_main_v6, val_main_v5, val_main_v4, val_main_v3, val_main_v2, val_main_v1, val_main_v0, val_main_cst, val_main_cst_0, val_main_cst_1, val_main_cst_3, val_main_cst_4, Rms.gain, Rms.meanSq, Rms.scale]
  simp only [Fin.sum_univ_one]

/-! The blocks at a grid point, read at an index. -/
abbrev lb (t : Fin cfg0.N) (a k : Fin 1024) : EReal := iblk m c 0 t (ix3 0 a k)
abbrev wb (t : Fin cfg0.N) (b k : Fin 1024) : EReal := iblk m c 1 t (ix3 0 b k)
abbrev xb (t : Fin cfg0.N) (a k : Fin 1024) : EReal := iblk m c 2 t (ix3 0 a k)
abbrev db (t : Fin cfg0.N) (a k : Fin 1024) : EReal := iblk m c 3 t (ix3 0 a k)
abbrev gb (t : Fin cfg0.N) (k : Fin 1024) : EReal := iblk m c 4 t (ix3 0 0 k)

/-- A block of the cotangent. -/
theorem l_read (t : Fin cfg0.N) (o : Fin 1) (a k : Fin 1024) (r : Fin 2048) (hr : r.val = t.val * 1024 + a.val) :
    @Eq EReal (iblk m c 0 t (ix3 o a k)) (X3 m c (ix2 r k)) := by
  have ht : t.val < cfg0.N := t.isLt
  have e (G : S1x2048x1024.Idx → EReal) : G ((win0_0.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- The matrix. -/
theorem w_read (t : Fin cfg0.N) (o : Fin 1) (b k : Fin 1024)  :
    @Eq EReal (iblk m c 1 t (ix3 o b k)) (X2 m c (ix2 b k)) := by
  have ht : t.val < cfg0.N := t.isLt
  have e (G : S1x1024x1024.Idx → EReal) : G ((win0_1.blk t).view.emb (ix3 o b k)) = G (ix3 0 b k) := by
    blk_ext [idx_val t]
  blk_simp [iblk, idx_val t]
  unfold V V0
  simp only [List.flatten_cons, List.flatten_nil, List.append_nil, StableHlo.after_append]
  entry_read
  refine (e _).trans ?_
  pointwise []

/-- A block of the residual stream. -/
theorem x_read (t : Fin cfg0.N) (o : Fin 1) (a k : Fin 1024) (r : Fin 2048) (hr : r.val = t.val * 1024 + a.val) :
    @Eq EReal (iblk m c 2 t (ix3 o a k)) (xs m c r k) := by
  have ht : t.val < cfg0.N := t.isLt
  have e (G : S1x2048x1024.Idx → EReal) : G ((win0_2.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- A block of the residual's cotangent. -/
theorem d_read (t : Fin cfg0.N) (o : Fin 1) (a k : Fin 1024) (r : Fin 2048) (hr : r.val = t.val * 1024 + a.val) :
    @Eq EReal (iblk m c 3 t (ix3 o a k)) (ds m c r k) := by
  have ht : t.val < cfg0.N := t.isLt
  have e (G : S1x2048x1024.Idx → EReal) : G ((win0_3.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- The gain. -/
theorem g_read (t : Fin cfg0.N) (o p : Fin 1) (k : Fin 1024)  :
    @Eq EReal (iblk m c 4 t (ix3 o p k)) (gs m c k) := by
  have ht : t.val < cfg0.N := t.isLt
  have e (G : S1x1x1024.Idx → EReal) : G ((win0_4.blk t).view.emb (ix3 o p k)) = G (ix3 0 0 k) := by
    blk_ext [idx_val t]
  blk_simp [iblk, idx_val t]
  unfold V V0
  simp only [List.flatten_cons, List.flatten_nil, List.append_nil, StableHlo.after_append]
  entry_read
  refine (e _).trans ?_
  pointwise []

/-- The rows' cotangents after the run. -/
theorem final_dx : (dats m 0 c).arrAt 5 (cfgs 0).N
    = fun i : S1x2048x1024.Idx => val_main_v38 (F := Ideal) (X0 m c) (X1 m c) (X2 m c) (X3 m c) (X4 m c) (ix2 (i 1) (i 2)) := by
  refine (dats m 0 c).arrAt_eq_of_covers 5 _ (by decide +kernel) fun t hf y => ?_
  blk_simp; rw [after0_5]
  obtain ⟨o, a, b, rfl⟩ : ∃ (o : Fin 1) (a : Fin 1024) (b : Fin 1024), y = ix3 o a b := ⟨y 0, y 1, y 2, eq_ix3 y⟩
  have ht : t.val < 2 := lt_of_lt_of_eq t.isLt N_0
  have e (G : S1x2048x1024.Idx → EReal) : G ((win0_5.blk t).view.emb (ix3 o a b)) = G (ix3 0 ⟨t.val * 1024 + a.val, by omega⟩ b) := by
    blk_ext [idx_val t]
  refine Eq.trans ?_ (e (fun i => val_main_v38 (F := Ideal) (X0 m c) (X1 m c) (X2 m c) (X3 m c) (X4 m c) (ix2 (i 1) (i 2)))).symm
  unfold outsAt0
  frame_out
  refine (pay_dx _ _ _ _ _ o a b).trans (Eq.trans ?_ (ref_dx _ _ _ _ _ _ _).symm)
  have e0 : (fun k => xb m c t a k) = xs m c ⟨t.val * 1024 + a.val, by omega⟩ := funext fun k => x_read m c t 0 a k ⟨t.val * 1024 + a.val, by omega⟩ rfl
  have e1 : (fun k => gb m c t k) = gs m c := funext fun k => g_read m c t 0 0 k
  have e2 : (fun j => ∑ k : Fin 1024, lb m c t a k * wb m c t j k) = dhs m c ⟨t.val * 1024 + a.val, by omega⟩ := funext fun j => Finset.sum_congr rfl fun k _ => congrArg₂ (@HMul.hMul EReal EReal EReal _) (l_read m c t 0 a k ⟨t.val * 1024 + a.val, by omega⟩ rfl) (w_read m c t 0 j k)
  have e3 : (fun k => db m c t a k) = ds m c ⟨t.val * 1024 + a.val, by omega⟩ := funext fun k => d_read m c t 0 a k ⟨t.val * 1024 + a.val, by omega⟩ rfl
  show Rms.dx (fun k => xb m c t a k) (fun k => gb m c t k) (fun j => ∑ k : Fin 1024, lb m c t a k * wb m c t j k) (fun k => db m c t a k) b = _
  rw [e0, e1, e2, e3]
  rfl

/-- One row's part of the gain's cotangent, read off the blocks. -/
theorem gain_read (t : Fin cfg0.N)  (q : Fin 2) (hq : q.val = t.val) (b : Fin 1024) :
    (∑ a : Fin 1024, xb m c t a b * Rms.scale (fun k => xb m c t a k) * ∑ k : Fin 1024, lb m c t a k * wb m c t b k)
      = Rms.gainBlock (xs m c) (dhs m c) b q := by
  have ht : t.val < 2 := lt_of_lt_of_eq t.isLt N_0
  have hq' : q = ⟨t.val, by omega⟩ := Fin.ext hq
  rw [hq']
  unfold Rms.gainBlock Rms.gain
  refine Finset.sum_congr rfl fun a _ => ?_
  have e0 : (fun k => xb m c t a k) = xs m c ⟨t.val * 1024 + a.val, by omega⟩ := funext fun k => x_read m c t 0 a k ⟨t.val * 1024 + a.val, by omega⟩ rfl
  have e2 : (fun j => ∑ k : Fin 1024, lb m c t a k * wb m c t j k) = dhs m c ⟨t.val * 1024 + a.val, by omega⟩ := funext fun j => Finset.sum_congr rfl fun k _ => congrArg₂ (@HMul.hMul EReal EReal EReal _) (l_read m c t 0 a k ⟨t.val * 1024 + a.val, by omega⟩ rfl) (w_read m c t 0 j k)
  exact congrArg₂ (@HMul.hMul EReal EReal EReal _) (congrArg₂ (@HMul.hMul EReal EReal EReal _) (congrFun e0 b) (congrArg Rms.scale e0)) (congrFun e2 b)

/-- The gain's cotangent after the run: eight copies of each row block's sum. -/
theorem final_dg : (dats m 0 c).arrAt 6 (cfgs 0).N
    = fun i : S1x16x1024.Idx => Rms.gainBlock (xs m c) (dhs m c) (i 2) (Rms.half (i 1)) := by
  refine (dats m 0 c).arrAt_eq_of_covers 6 _ (by decide +kernel) fun t hf y => ?_
  blk_simp; rw [after0_6]
  obtain ⟨o, s, b, rfl⟩ : ∃ (o : Fin 1) (s : Fin 8) (b : Fin 1024), y = ix3 o s b := ⟨y 0, y 1, y 2, eq_ix3 y⟩
  have ht : t.val < 2 := lt_of_lt_of_eq t.isLt N_0
  have e (G : S1x16x1024.Idx → EReal) : G ((win0_6.blk t).view.emb (ix3 o s b)) = G (ix3 0 ⟨t.val * 8 + s.val, by omega⟩ b) := by
    blk_ext [idx_val t]
  refine Eq.trans ?_ (e (fun i : S1x16x1024.Idx => Rms.gainBlock (xs m c) (dhs m c) (i 2) (Rms.half (i 1)))).symm
  unfold outsAt0
  frame_out
  refine (pay_dg _ _ _ o s b).trans ?_
  exact gain_read m c t _ (by show (t.val * 8 + s.val) / 8 = _; omega) b

/-- The first result is the rows' array without its leading axis. -/
theorem tail_dx : Pipeline.afterTail₀ cfgs (dats m) 0 (V0 m) [hostOps1] c main_v9
    = shapeCast S2048x1024 ((dats m 0 c).arrAt 5 (cfgs 0).N) shapeCasts_S1x2048x1024_S2048x1024 := by
  unfold Pipeline.afterTail₀
  show StableHlo.after hostOps1 _ _ = _
  after_results
  exact congrArg (fun x => shapeCast S2048x1024 x shapeCasts_S1x2048x1024_S2048x1024)
    (Pipeline.withArrays_arr (cfgs 0).spec (by decide) c (V0 m c) (fun w => (dats m 0 c).arrAt w (cfgs 0).N) 5)

theorem result_dx : shapeCast S2048x1024 ((dats m 0 c).arrAt 5 (cfgs 0).N) shapeCasts_S1x2048x1024_S2048x1024
    = val_main_v38 (F := Ideal) (X0 m c) (X1 m c) (X2 m c) (X3 m c) (X4 m c) := by
  have key (f : FVec Ideal S1x2048x1024 .f32) (a : Fin 2048) (b : Fin 1024) :
      shapeCast S2048x1024 f shapeCasts_S1x2048x1024_S2048x1024 (ix2 a b) = f (ix3 0 a b) := by pointwise []
  rw [final_dx]
  funext i
  rw [eq_ix2 i]
  exact key _ _ _

/-- What the host makes of the gain's array: every eighth row, summed. -/
abbrev rowSum (f : FVec Ideal S1x16x1024 .f32) : FVec Ideal S1x1024 .f32 :=
  broadcastInDim S1x1024 ![1] bcast_S1024_S1x1024_1
    (Host.reduceAdd (Host.slice S2x1024 ![0, 0] ![8, 1] (shapeCast S16x1024 f shapeCasts_S1x16x1024_S16x1024) slicesBy_S16x1024_S2x1024_0s8_0s1)
      (constant S_ .f32 0x00000000#32) reducesTo_S2x1024_S1024_d0 h_S_)

theorem tail_dg : Pipeline.afterTail₀ cfgs (dats m) 0 (V0 m) [hostOps1] c main_v13 = rowSum ((dats m 0 c).arrAt 6 (cfgs 0).N) := by
  unfold Pipeline.afterTail₀
  show StableHlo.after hostOps1 _ _ = _
  after_results
  exact congrArg rowSum
    (Pipeline.withArrays_arr (cfgs 0).spec (by decide) c (V0 m c) (fun w => (dats m 0 c).arrAt w (cfgs 0).N) 6)

theorem result_dg : rowSum ((dats m 0 c).arrAt 6 (cfgs 0).N) = val_main_v39 (F := Ideal) (X0 m c) (X2 m c) (X3 m c) := by
  have key (f : FVec Ideal S1x16x1024 .f32) (o : Fin 1) (b : Fin 1024) :
      rowSum f (ix2 o b) = ∑ q : Fin 2, f (ix3 0 ⟨8 * q.val, by omega⟩ b) := by pointwise [rowSum]
  rw [final_dg]
  funext i
  obtain ⟨o, b, rfl⟩ : ∃ (o : Fin 1) (b : Fin 1024), i = ix2 o b := ⟨i 0, i 1, eq_ix2 i⟩
  refine (key _ _ _).trans (Eq.trans ?_ (ref_dg _ (X1 m c) _ _ (X4 m c) _ _).symm)
  refine Eq.trans (Finset.sum_congr rfl fun q _ => ?_) (Rms.sum_gainBlock (xs m c) (dhs m c) b)
  exact congrArg (Rms.gainBlock (xs m c) (dhs m c) b) (Fin.ext (show 8 * q.val / 8 = q.val by omega))

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v9) = val_main_v38 (F := Ideal) (X0 m c) (X1 m c) (X2 m c) (X3 m c) (X4 m c)
      ∧ r.2.mem ((c.tc : Thread nD τ).loc main_v13) = val_main_v39 (F := Ideal) (X0 m c) (X2 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => ⟨((hr.1 c).2 main_v9 (by decide)).trans ((tail_dx m c).trans (result_dx m c)), ((hr.1 c).2 main_v13 (by decide)).trans ((tail_dg m c).trans (result_dg m c)), hr.2 c⟩)
    (θ_run_and (run_main m ρ) (unchanged m ρ))

end Cert.Proof.DhPle

end
-- ==== Proof.Fwd.lean ====
/-
  A normed row, and one step of the optimiser, entry by entry.
-/
module

public import proofs.«01_k».proof.Proof.Rms

@[expose] public section

noncomputable section

open Idealize.ShloMosaic
open scoped BigOperators

namespace Cert.Proof.Fwd

/-- An entry of a row divided by the row's root mean square, with the gain's entry `g`. -/
def normed (x : Fin 1024 → EReal) (g : EReal) (j : Fin 1024) : EReal := x j * Rms.scale x * g

/-- The first moment after a step with gradient `g`. -/
def first (g m : EReal) : EReal := Ideal.ofBits .f32 0x3F666666#32 * m + Ideal.ofBits .f32 0x3DCCCCCD#32 * g

/-- The second moment after a step with gradient `g`. -/
def second (g v : EReal) : EReal := Ideal.ofBits .f32 0x3F7FBE77#32 * v + Ideal.ofBits .f32 0x3A83126F#32 * (g * g)

/-- The change of a weight `w`. -/
def change (w g m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

theorem change_congr {w w' g g' m m' v v' : EReal} (hw : w = w') (hg : g = g') (hm : m = m') (hv : v = v') :
    change w g m v = change w' g' m' v' := by rw [hw, hg, hm, hv]

end Cert.Proof.Fwd

end
-- ==== Proof.RmsMix.lean ====
/-
  The norm before the mixers.
-/
module

public import proofs.«01_k».proof.Proof.Gen.RmsMixIdeal.Frame
public import proofs.«01_k».proof.Proof.Gen.RmsMixReferenceIdeal.Run
public import proofs.«01_k».proof.Proof.Gen.RmsMixReferenceIdeal.Read
public import proofs.«01_k».proof.Proof.Fwd
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.RmsMix

open Cert.RmsMixIdeal Cert.RmsMixIdeal.Gen Cert.RmsMixReferenceIdeal.Read

variable (m : (ℓ : Loc nD τ sig) → Buf (Elt Ideal) ℓ)

/-- The block each window stands at, in the number of the grid point. -/
theorem idx_val : ∀ t : Fin cfg0.N, win0_0.index t = ![t.val, 0]
    ∧ win0_1.index t = ![0, 0]
    ∧ win0_2.index t = ![t.val, 0] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024 .f32 := m ((c : Thread nD τ).loc main_arg1)

/-- The body's value, read at a row and a column. -/
theorem pay_apply (v0 : FVec Ideal S256x1024 .f32) (v1 : FVec Ideal S1x1024 .f32) (a : Fin 256) (b : Fin 1024) :
    @Eq EReal (k0_pay1 (F := Ideal) v0 v1 (ix2 a b)) (Fwd.normed (fun k => v0 (ix2 a k)) (v1 (ix2 0 b)) b) := by
  pointwise [k0_pay1, Fwd.normed, Rms.scale, Rms.meanSq]

/-- The reference's value, read at a row and a column. -/
theorem ref_apply (x0 : FVec Ideal S2048x1024 .f32) (x1 : FVec Ideal S1024 .f32) (a : Fin 2048) (b : Fin 1024) :
    @Eq EReal (val_main_v13 (F := Ideal) x0 x1 (ix2 a b)) (Fwd.normed (fun k => x0 (ix2 a k)) (x1 (ix1 b)) b) := by
  pointwise [val_main_v13, val_main_v12, val_main_v9, val_main_v8, val_main_v7, val_main_v6, val_main_v4, val_main_v2, val_main_v1, val_main_v0, val_main_cst, val_main_v3, val_main_cst_0, val_main_v5, val_main_cst_1, val_main_v11, val_main_v10, Fwd.normed, Rms.scale, Rms.meanSq]

/-- A row block of the residual stream. -/
theorem x_read (t : Fin cfg0.N) (a : Fin 256) (k : Fin 1024) (r : Fin 2048) (hr : r.val = t.val * 256 + a.val) :
    @Eq EReal (iblk m c 0 t (ix2 a k)) (X0 m c (ix2 r k)) := by
  have ht : t.val < cfg0.N := t.isLt
  have e (G : S2048x1024.Idx → EReal) : G ((win0_0.blk t).view.emb (ix2 a k)) = G (ix2 r k) := by
    blk_ext [idx_val t]
  blk_simp [iblk, idx_val t]
  entry_read
  refine (e _).trans ?_
  pointwise []

/-- The gain. -/
theorem g_read (t : Fin cfg0.N) (o : Fin 1) (k : Fin 1024)  :
    @Eq EReal (iblk m c 1 t (ix2 o k)) (X1 m c (ix1 k)) := by
  have ht : t.val < cfg0.N := t.isLt
  have e (G : S1x1024.Idx → EReal) : G ((win0_1.blk t).view.emb (ix2 o k)) = G (ix2 0 k) := by
    blk_ext [idx_val t]
  blk_simp [iblk, idx_val t]
  entry_read
  refine (e _).trans ?_
  pointwise []

/-- The result array after the run. -/
theorem final : (dats m 0 c).arrAt 2 (cfgs 0).N
    = fun i : S2048x1024.Idx => val_main_v13 (F := Ideal) (X0 m c) (X1 m c) i := by
  refine (dats m 0 c).arrAt_eq_of_covers 2 _ (by decide +kernel) fun t hf y => ?_
  blk_simp; rw [after0_2]
  obtain ⟨a, b, rfl⟩ : ∃ (a : Fin 256) (b : Fin 1024), y = ix2 a b := ⟨y 0, y 1, eq_ix2 y⟩
  have ht : t.val < 8 := lt_of_lt_of_eq t.isLt N_0
  have e (G : S2048x1024.Idx → EReal) : G ((win0_2.blk t).view.emb (ix2 a b)) = G (ix2 ⟨t.val * 256 + a.val, by omega⟩ b) := by
    blk_ext [idx_val t]
  refine Eq.trans ?_ (e (fun i => val_main_v13 (F := Ideal) (X0 m c) (X1 m c) i)).symm
  frame_out
  refine (pay_apply _ _ a b).trans (Eq.trans ?_ (ref_apply _ _ _ _).symm)
  exact congrArg₂ (fun (f : Fin 1024 → EReal) (g : EReal) => Fwd.normed f g b) (funext fun k => x_read m c t a k ⟨t.val * 256 + a.val, by omega⟩ rfl) (g_read m c t 0 b)

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v1) = val_main_v13 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨((hr.1 c).1 2).trans (final m c), hr.2 c⟩)
    (θ_run_and (run_main m ρ) (unchanged m ρ))

end Cert.Proof.RmsMix

end
-- ==== Proof.ProjFwd.lean ====
/-
  The input projection's first 4096 columns.
-/
module

public import proofs.«01_k».proof.Proof.Gen.ProjFwdIdeal.Frame
public import proofs.«01_k».proof.Proof.Gen.ProjFwdReferenceIdeal.Run
public import proofs.«01_k».proof.Proof.Gen.ProjFwdReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.ProjFwd

open Cert.ProjFwdIdeal Cert.ProjFwdIdeal.Gen Cert.ProjFwdReferenceIdeal.Read

variable (m : (ℓ : Loc nD τ sig) → Buf (Elt Ideal) ℓ)

/-- The block each window stands at, in the number of the grid point. -/
theorem idx_val : ∀ t : Fin cfg0.N, win0_0.index t = ![0, t.val / 4, 0]
    ∧ win0_1.index t = ![0, t.val % 4 / 2, 0, t.val % 2]
    ∧ win0_2.index t = ![0, t.val / 4, t.val % 4] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024x8192 .f32 := m ((c : Thread nD τ).loc main_arg1)

/-- The body's value, read at a row and a column. -/
theorem pay_apply (v0 : FVec Ideal S1x1024x1024 .bf16) (v2 : FVec Ideal S1x1x1024x1024 .bf16) (o : Fin 1) (a b : Fin 1024) :
    @Eq EReal (k0_pay1 (F := Ideal) v0 v2 (ix3 o a b)) ((∑ k : Fin 1024, (v0 (ix3 0 a k) : EReal) * v2 (ix4 0 0 k b))) := by
  pointwise [k0_pay1]

/-- The reference's value, read at a row and a column. -/
theorem ref_apply (x0 : FVec Ideal S2048x1024 .f32) (x1 : FVec Ideal S1024x8192 .f32) (a : Fin 2048) (b : Fin 4096) (q : Fin 8192) (hq : q.val = b.val) :
    @Eq EReal (val_main_v1 (F := Ideal) x0 x1 (ix2 a b)) ((∑ k : Fin 1024, (x0 (ix2 a k) : EReal) * x1 (ix2 k q))) := by
  have hb : q = ⟨b.val, by omega⟩ := Fin.ext hq
  rw [hb]
  pointwise [val_main_v1, val_main_v0]

/-- A row block of the left operand. -/
theorem l_read (t : Fin cfg0.N) (o : Fin 1) (a : Fin 1024) (k : Fin 1024) (r : Fin 2048) (hr : r.val = t.val / 4 * 1024 + a.val) :
    @Eq EReal (iblk m c 0 t (ix3 o a k)) (X0 m c (ix2 r k)) := by
  have ht : t.val < cfg0.N := t.isLt
  have e (G : S1x2048x1024.Idx → EReal) : G ((win0_0.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- A block of the matrix, which is kept by the chips' columns. -/
theorem w_read (t : Fin cfg0.N) (o p : Fin 1) (k b : Fin 1024) (q : Fin 8192) (hq : q.val = t.val % 4 * 1024 + b.val) :
    @Eq EReal (iblk m c 1 t (ix4 o p k b)) (X1 m c (ix2 k q)) := by
  have ht : t.val < 8 := lt_of_lt_of_eq t.isLt N_0
  have e (G : S1x4x1024x2048.Idx → EReal) : G ((win0_1.blk t).view.emb (ix4 o p k b)) = G (ix4 0 ⟨t.val % 4 / 2, by omega⟩ k ⟨t.val % 2 * 1024 + b.val, by omega⟩) := by
    blk_ext [idx_val t]
  blk_simp [iblk, idx_val t]
  unfold V V0
  simp only [List.flatten_cons, List.flatten_nil, List.append_nil, StableHlo.after_append]
  entry_read
  refine (e _).trans ?_
  pointwise []
  exact congrArg (fun z => X1 m c (ix2 k z)) (Fin.ext (by show _ = q.val; dsimp only; omega))

/-- The result array after the run. -/
theorem final : (dats m 0 c).arrAt 2 (cfgs 0).N
    = fun i : S1x2048x4096.Idx => val_main_v1 (F := Ideal) (X0 m c) (X1 m c) (ix2 (i 1) (i 2)) := by
  refine (dats m 0 c).arrAt_eq_of_covers 2 _ (by decide +kernel) fun t hf y => ?_
  blk_simp; rw [after0_2]
  obtain ⟨o, a, b, rfl⟩ : ∃ (o : Fin 1) (a b : Fin 1024), y = ix3 o a b := ⟨y 0, y 1, y 2, eq_ix3 y⟩
  have ht : t.val < 8 := lt_of_lt_of_eq t.isLt N_0
  have e (G : S1x2048x4096.Idx → EReal) : G ((win0_2.blk t).view.emb (ix3 o a b)) = G (ix3 0 ⟨t.val / 4 * 1024 + a.val, by omega⟩ ⟨t.val % 4 * 1024 + b.val, by omega⟩) := by
    blk_ext [idx_val t]
  refine Eq.trans ?_ (e (fun i => val_main_v1 (F := Ideal) (X0 m c) (X1 m c) (ix2 (i 1) (i 2)))).symm
  unfold outsAt0
  frame_out
  refine (pay_apply _ _ o a b).trans (Eq.trans ?_ (ref_apply _ _ _ _ ⟨t.val % 4 * 1024 + b.val, by omega⟩ rfl).symm)
  have hs := Finset.sum_congr (rfl : (Finset.univ : Finset (Fin 1024)) = _) fun k _ => congrArg₂ (@HMul.hMul EReal EReal EReal _) (l_read m c t 0 a k ⟨t.val / 4 * 1024 + a.val, by omega⟩ rfl) (w_read m c t 0 0 k b ⟨t.val % 4 * 1024 + b.val, by omega⟩ rfl)
  exact congrArg (fun z : EReal => z) hs

/-- The result is that array in the result's shape. -/
theorem tail : Pipeline.afterTail₀ cfgs (dats m) 0 (V0 m) [hostOps1] c main_v7
    = shapeCast S2048x4096 ((dats m 0 c).arrAt 2 (cfgs 0).N) shapeCasts_S1x2048x4096_S2048x4096 := by
  unfold Pipeline.afterTail₀
  show StableHlo.after hostOps1 _ _ = _
  after_results
  exact congrArg (fun x => shapeCast S2048x4096 x shapeCasts_S1x2048x4096_S2048x4096)
    (Pipeline.withArrays_arr (cfgs 0).spec (by decide) c (V0 m c) (fun w => (dats m 0 c).arrAt w (cfgs 0).N) 2)

/-- The result read off the array. -/
theorem result : shapeCast S2048x4096 ((dats m 0 c).arrAt 2 (cfgs 0).N) shapeCasts_S1x2048x4096_S2048x4096
    = val_main_v1 (F := Ideal) (X0 m c) (X1 m c) := by
  have key (f : FVec Ideal S1x2048x4096 .f32) (a : Fin 2048) (b : Fin 4096) :
      shapeCast S2048x4096 f shapeCasts_S1x2048x4096_S2048x4096 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v7) = val_main_v1 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨((hr.1 c).2 main_v7 (by decide)).trans ((tail m c).trans (result m c)), hr.2 c⟩)
    (θ_run_and (run_main m ρ) (unchanged m ρ))

end Cert.Proof.ProjFwd

end
-- ==== Proof.ProjGates.lean ====
/-
  The merge's gates: the logistic function of the input projection's last 4096 columns.
-/
module

public import proofs.«01_k».proof.Proof.Gen.ProjGatesIdeal.Frame
public import proofs.«01_k».proof.Proof.Gen.ProjGatesReferenceIdeal.Run
public import proofs.«01_k».proof.Proof.Gen.ProjGatesReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.ProjGates

open Cert.ProjGatesIdeal Cert.ProjGatesIdeal.Gen Cert.ProjGatesReferenceIdeal.Read

variable (m : (ℓ : Loc nD τ sig) → Buf (Elt Ideal) ℓ)

/-- The block each window stands at, in the number of the grid point. -/
theorem idx_val : ∀ t : Fin cfg0.N, win0_0.index t = ![0, t.val / 4, 0]
    ∧ win0_1.index t = ![0, (2 + t.val % 4 / 2), 0, t.val % 2]
    ∧ win0_2.index t = ![0, t.val / 4, t.val % 4] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024x8192 .f32 := m ((c : Thread nD τ).loc main_arg1)

/-- The body's value, read at a row and a column. -/
theorem pay_apply (v0 : FVec Ideal S1x1024x1024 .bf16) (v2 : FVec Ideal S1x1x1024x1024 .bf16) (o : Fin 1) (a b : Fin 1024) :
    @Eq EReal (k0_pay1 (F := Ideal) v0 v2 (ix3 o a b)) (Ideal.logistic (∑ k : Fin 1024, (v0 (ix3 0 a k) : EReal) * v2 (ix4 0 0 k b))) := by
  pointwise [k0_pay1]

/-- The reference's value, read at a row and a column. -/
theorem ref_apply (x0 : FVec Ideal S2048x1024 .f32) (x1 : FVec Ideal S1024x8192 .f32) (a : Fin 2048) (b : Fin 4096) (q : Fin 8192) (hq : q.val = 4096 + b.val) :
    @Eq EReal (val_main_v8 (F := Ideal) x0 x1 (ix2 a b)) (Ideal.logistic (∑ k : Fin 1024, (x0 (ix2 a k) : EReal) * x1 (ix2 k q))) := by
  have hb : q = ⟨4096 + b.val, by omega⟩ := Fin.ext hq
  rw [hb]
  pointwise [val_main_v8, val_main_v7, val_main_v6, val_main_cst_0, val_main_v5, val_main_v4, val_main_cst, val_main_v3, val_main_v2, val_main_v1, val_main_v0, Ideal.logistic]

/-- A row block of the left operand. -/
theorem l_read (t : Fin cfg0.N) (o : Fin 1) (a : Fin 1024) (k : Fin 1024) (r : Fin 2048) (hr : r.val = t.val / 4 * 1024 + a.val) :
    @Eq EReal (iblk m c 0 t (ix3 o a k)) (X0 m c (ix2 r k)) := by
  have ht : t.val < cfg0.N := t.isLt
  have e (G : S1x2048x1024.Idx → EReal) : G ((win0_0.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- A block of the matrix, which is kept by the chips' columns. -/
theorem w_read (t : Fin cfg0.N) (o p : Fin 1) (k b : Fin 1024) (q : Fin 8192) (hq : q.val = 4096 + t.val % 4 * 1024 + b.val) :
    @Eq EReal (iblk m c 1 t (ix4 o p k b)) (X1 m c (ix2 k q)) := by
  have ht : t.val < 8 := lt_of_lt_of_eq t.isLt N_0
  have e (G : S1x4x1024x2048.Idx → EReal) : G ((win0_1.blk t).view.emb (ix4 o p k b)) = G (ix4 0 ⟨(2 + t.val % 4 / 2), by omega⟩ k ⟨t.val % 2 * 1024 + b.val, by omega⟩) := by
    blk_ext [idx_val t]
  blk_simp [iblk, idx_val t]
  unfold V V0
  simp only [List.flatten_cons, List.flatten_nil, List.append_nil, StableHlo.after_append]
  entry_read
  refine (e _).trans ?_
  pointwise []
  exact congrArg (fun z => X1 m c (ix2 k z)) (Fin.ext (by show _ = q.val; dsimp only; omega))

/-- The result array after the run. -/
theorem final : (dats m 0 c).arrAt 2 (cfgs 0).N
    = fun i : S1x2048x4096.Idx => val_main_v8 (F := Ideal) (X0 m c) (X1 m c) (ix2 (i 1) (i 2)) := by
  refine (dats m 0 c).arrAt_eq_of_covers 2 _ (by decide +kernel) fun t hf y => ?_
  blk_simp; rw [after0_2]
  obtain ⟨o, a, b, rfl⟩ : ∃ (o : Fin 1) (a b : Fin 1024), y = ix3 o a b := ⟨y 0, y 1, y 2, eq_ix3 y⟩
  have ht : t.val < 8 := lt_of_lt_of_eq t.isLt N_0
  have e (G : S1x2048x4096.Idx → EReal) : G ((win0_2.blk t).view.emb (ix3 o a b)) = G (ix3 0 ⟨t.val / 4 * 1024 + a.val, by omega⟩ ⟨t.val % 4 * 1024 + b.val, by omega⟩) := by
    blk_ext [idx_val t]
  refine Eq.trans ?_ (e (fun i => val_main_v8 (F := Ideal) (X0 m c) (X1 m c) (ix2 (i 1) (i 2)))).symm
  unfold outsAt0
  frame_out
  refine (pay_apply _ _ o a b).trans (Eq.trans ?_ (ref_apply _ _ _ _ ⟨4096 + t.val % 4 * 1024 + b.val, by omega⟩ (by show 4096 + t.val % 4 * 1024 + b.val = 4096 + (t.val % 4 * 1024 + b.val); omega)).symm)
  have hs := Finset.sum_congr (rfl : (Finset.univ : Finset (Fin 1024)) = _) fun k _ => congrArg₂ (@HMul.hMul EReal EReal EReal _) (l_read m c t 0 a k ⟨t.val / 4 * 1024 + a.val, by omega⟩ rfl) (w_read m c t 0 0 k b ⟨4096 + t.val % 4 * 1024 + b.val, by omega⟩ rfl)
  exact congrArg (fun z : EReal => Ideal.logistic z) hs

/-- The result is that array in the result's shape. -/
theorem tail : Pipeline.afterTail₀ cfgs (dats m) 0 (V0 m) [hostOps1] c main_v7
    = shapeCast S2048x4096 ((dats m 0 c).arrAt 2 (cfgs 0).N) shapeCasts_S1x2048x4096_S2048x4096 := by
  unfold Pipeline.afterTail₀
  show StableHlo.after hostOps1 _ _ = _
  after_results
  exact congrArg (fun x => shapeCast S2048x4096 x shapeCasts_S1x2048x4096_S2048x4096)
    (Pipeline.withArrays_arr (cfgs 0).spec (by decide) c (V0 m c) (fun w => (dats m 0 c).arrAt w (cfgs 0).N) 2)

/-- The result read off the array. -/
theorem result : shapeCast S2048x4096 ((dats m 0 c).arrAt 2 (cfgs 0).N) shapeCasts_S1x2048x4096_S2048x4096
    = val_main_v8 (F := Ideal) (X0 m c) (X1 m c) := by
  have key (f : FVec Ideal S1x2048x4096 .bf16) (a : Fin 2048) (b : Fin 4096) :
      shapeCast S2048x4096 f shapeCasts_S1x2048x4096_S2048x4096 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v7) = val_main_v8 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨((hr.1 c).2 main_v7 (by decide)).trans ((tail m c).trans (result m c)), hr.2 c⟩)
    (θ_run_and (run_main m ρ) (unchanged m ρ))

end Cert.Proof.ProjGates

end
-- ==== Proof.Glu.lean ====
/-
  The gated products before the causal mixers.
-/
module

public import proofs.«01_k».proof.Proof.Gen.GluIdeal.Frame
public import proofs.«01_k».proof.Proof.Gen.GluReferenceIdeal.Run
public import proofs.«01_k».proof.Proof.Gen.GluReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Glu

open Cert.GluIdeal Cert.GluIdeal.Gen Cert.GluReferenceIdeal.Read

variable (m : (ℓ : Loc nD τ sig) → Buf (Elt Ideal) ℓ)

/-- The block each window stands at, in the number of the grid point. -/
theorem idx_val : ∀ t : Fin cfg0.N, win0_0.index t = ![t.val, 0]
    ∧ win0_1.index t = ![t.val, 1]
    ∧ win0_2.index t = ![t.val, 4]
    ∧ win0_3.index t = ![t.val, 5]
    ∧ win0_4.index t = ![t.val, 0]
    ∧ win0_5.index t = ![t.val, 0] :=
  (by decide +kernel : ∀ t : Fin grid0.N, _)

variable (c : Dev nD)

/-! The arguments on a device. -/
abbrev X0 : FVec Ideal S2048x4096 .f32 := m ((c : Thread nD τ).loc main_arg0)

/-- The body's first value. -/
theorem pay_a (v0 v1 : FVec Ideal S256x512 .f32) (a : Fin 256) (b : Fin 512) :
    @Eq EReal (k0_pay1 (F := Ideal) v0 v1 (ix2 a b)) ((v0 (ix2 a b) : EReal) * Ideal.logistic (v1 (ix2 a b))) := by
  pointwise [k0_pay1]

/-- The body's second value. -/
theorem pay_c (v2 v3 : FVec Ideal S256x512 .f32) (a : Fin 256) (b : Fin 512) :
    @Eq EReal (k0_pay2 (F := Ideal) v2 v3 (ix2 a b)) ((v2 (ix2 a b) : EReal) * v3 (ix2 a b)) := by
  pointwise [k0_pay2]

/-- The reference's first value. -/
theorem ref_a (x0 : FVec Ideal S2048x4096 .f32) (a : Fin 2048) (b : Fin 512) :
    @Eq EReal (val_main_v10 (F := Ideal) x0 (ix2 a b)) ((x0 (ix2 a ⟨0 + b.val, by omega⟩) : EReal) * Ideal.logistic (x0 (ix2 a ⟨512 + b.val, by omega⟩))) := by
  pointwise [val_main_v10, val_main_v0, val_main_v9, val_main_v8, val_main_cst_0, val_main_v7, val_main_v6, val_main_cst, val_main_v5, val_main_v4, val_main_v1, Ideal.logistic]

/-- The reference's second value. -/
theorem ref_c (x0 : FVec Ideal S2048x4096 .f32) (a : Fin 2048) (b : Fin 512) :
    @Eq EReal (val_main_v11 (F := Ideal) x0 (ix2 a b)) ((x0 (ix2 a ⟨2048 + b.val, by omega⟩) : EReal) * x0 (ix2 a ⟨2560 + b.val, by omega⟩)) := by
  pointwise [val_main_v11, val_main_v2, val_main_v3, Ideal.logistic]

/-- A row block of the projection's columns. -/
theorem r0 (t : Fin cfg0.N) (a : Fin 256) (k : Fin 512) (r : Fin 2048) (j : Fin 4096) (hr : r.val = t.val * 256 + a.val) (hj : j.val = 0 + k.val) :
    @Eq EReal (iblk m c 0 t (ix2 a k)) (X0 m c (ix2 r j)) := by
  have ht : t.val < cfg0.N := t.isLt
  have e (G : S2048x4096.Idx → EReal) : G ((win0_0.blk t).view.emb (ix2 a k)) = G (ix2 r j) := by
    blk_ext [idx_val t]
  blk_simp [iblk, idx_val t]
  entry_read
  refine (e _).trans ?_
  pointwise []

/-- A row block of the projection's columns. -/
theorem r1 (t : Fin cfg0.N) (a : Fin 256) (k : Fin 512) (r : Fin 2048) (j : Fin 4096) (hr : r.val = t.val * 256 + a.val) (hj : j.val = 512 + k.val) :
    @Eq EReal (iblk m c 1 t (ix2 a k)) (X0 m c (ix2 r j)) := by
  have ht : t.val < cfg0.N := t.isLt
  have e (G : S2048x4096.Idx → EReal) : G ((win0_1.blk t).view.emb (ix2 a k)) = G (ix2 r j) := by
    blk_ext [idx_val t]
  blk_simp [iblk, idx_val t]
  entry_read
  refine (e _).trans ?_
  pointwise []

/-- A row block of the projection's columns. -/
theorem r2 (t : Fin cfg0.N) (a : Fin 256) (k : Fin 512) (r : Fin 2048) (j : Fin 4096) (hr : r.val = t.val * 256 + a.val) (hj : j.val = 2048 + k.val) :
    @Eq EReal (iblk m c 2 t (ix2 a k)) (X0 m c (ix2 r j)) := by
  have ht : t.val < cfg0.N := t.isLt
  have e (G : S2048x4096.Idx → EReal) : G ((win0_2.blk t).view.emb (ix2 a k)) = G (ix2 r j) := by
    blk_ext [idx_val t]
  blk_simp [iblk, idx_val t]
  entry_read
  refine (e _).trans ?_
  pointwise []

/-- A row block of the projection's columns. -/
theorem r3 (t : Fin cfg0.N) (a : Fin 256) (k : Fin 512) (r : Fin 2048) (j : Fin 4096) (hr : r.val = t.val * 256 + a.val) (hj : j.val = 2560 + k.val) :
    @Eq EReal (iblk m c 3 t (ix2 a k)) (X0 m c (ix2 r j)) := by
  have ht : t.val < cfg0.N := t.isLt
  have e (G : S2048x4096.Idx → EReal) : G ((win0_3.blk t).view.emb (ix2 a k)) = G (ix2 r j) := by
    blk_ext [idx_val t]
  blk_simp [iblk, idx_val t]
  entry_read
  refine (e _).trans ?_
  pointwise []

/-- The result array after the run. -/
theorem final_a : (dats m 0 c).arrAt 4 (cfgs 0).N
    = fun i : S2048x512.Idx => val_main_v10 (F := Ideal) (X0 m c) i := by
  refine (dats m 0 c).arrAt_eq_of_covers 4 _ (by decide +kernel) fun t hf y => ?_
  blk_simp; rw [after0_4]
  obtain ⟨a, b, rfl⟩ : ∃ (a : Fin 256) (b : Fin 512), y = ix2 a b := ⟨y 0, y 1, eq_ix2 y⟩
  have ht : t.val < 8 := lt_of_lt_of_eq t.isLt N_0
  have e (G : S2048x512.Idx → EReal) : G ((win0_4.blk t).view.emb (ix2 a b)) = G (ix2 ⟨t.val * 256 + a.val, by omega⟩ b) := by
    blk_ext [idx_val t]
  refine Eq.trans ?_ (e (fun i => val_main_v10 (F := Ideal) (X0 m c) i)).symm
  frame_out
  refine (pay_a _ _ a b).trans (Eq.trans ?_ (ref_a _ _ _).symm)
  exact congrArg₂ (@HMul.hMul EReal EReal EReal _) (r0 m c t a b ⟨t.val * 256 + a.val, by omega⟩ ⟨0 + b.val, by omega⟩ rfl rfl) (congrArg Ideal.logistic (r1 m c t a b ⟨t.val * 256 + a.val, by omega⟩ ⟨512 + b.val, by omega⟩ rfl rfl))

/-- The result array after the run. -/
theorem final_c : (dats m 0 c).arrAt 5 (cfgs 0).N
    = fun i : S2048x512.Idx => val_main_v11 (F := Ideal) (X0 m c) i := by
  refine (dats m 0 c).arrAt_eq_of_covers 5 _ (by decide +kernel) fun t hf y => ?_
  blk_simp; rw [after0_5]
  obtain ⟨a, b, rfl⟩ : ∃ (a : Fin 256) (b : Fin 512), y = ix2 a b := ⟨y 0, y 1, eq_ix2 y⟩
  have ht : t.val < 8 := lt_of_lt_of_eq t.isLt N_0
  have e (G : S2048x512.Idx → EReal) : G ((win0_5.blk t).view.emb (ix2 a b)) = G (ix2 ⟨t.val * 256 + a.val, by omega⟩ b) := by
    blk_ext [idx_val t]
  refine Eq.trans ?_ (e (fun i => val_main_v11 (F := Ideal) (X0 m c) i)).symm
  frame_out
  refine (pay_c _ _ a b).trans (Eq.trans ?_ (ref_c _ _ _).symm)
  exact congrArg₂ (@HMul.hMul EReal EReal EReal _) (r2 m c t a b ⟨t.val * 256 + a.val, by omega⟩ ⟨2048 + b.val, by omega⟩ rfl rfl) (r3 m c t a b ⟨t.val * 256 + a.val, by omega⟩ ⟨2560 + b.val, by omega⟩ rfl rfl)

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = val_main_v10 (F := Ideal) (X0 m c)
      ∧ r.2.mem ((c.tc : Thread nD τ).loc main_v0_1) = val_main_v11 (F := Ideal) (X0 m c)
      ∧ r.2.mem ((c.tc : Thread nD τ).loc main_arg0) = m ((c.tc : Thread nD τ).loc main_arg0)) :=
  (θ_run defs _ _).mono (fun r hr c => ⟨((hr.1 c).1 4).trans (final_a m c), ((hr.1 c).1 5).trans (final_c m c), hr.2 c⟩)
    (θ_run_and (run_main m ρ) (unchanged m ρ))

end Cert.Proof.Glu

end
-- ==== Proof.MergeFwd.lean ====
/-
  The gated merge of the four branches.
-/
module

public import proofs.«01_k».proof.Proof.Gen.MergeFwdIdeal.Frame
public import proofs.«01_k».proof.Proof.Gen.MergeFwdReferenceIdeal.Run
public import proofs.«01_k».proof.Proof.Gen.MergeFwdReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.MergeFwd

open Cert.MergeFwdIdeal Cert.MergeFwdIdeal.Gen Cert.MergeFwdReferenceIdeal.Read

variable (m : (ℓ : Loc nD τ sig) → Buf (Elt Ideal) ℓ)

/-- The block each window stands at, in the number of the grid point. -/
theorem idx_val : ∀ t : Fin cfg0.N, win0_0.index t = ![t.val / 4, t.val % 4]
    ∧ win0_1.index t = ![t.val % 4, 0, 0]
    ∧ win0_2.index t = ![t.val / 4, t.val % 4]
    ∧ win0_3.index t = ![t.val / 4, 0] :=
  (by decide +kernel : ∀ t : Fin grid0.N, _)

variable (c : Dev nD)

/-! The arguments on a device. -/
abbrev X0 : FVec Ideal S2048x2048 .f32 := m ((c : Thread nD τ).loc main_arg0)
abbrev X1 : FVec Ideal S4x512x1024 .f32 := m ((c : Thread nD τ).loc main_arg1)
abbrev X2 : FVec Ideal S2048x4096 .f32 := m ((c : Thread nD τ).loc main_arg2)

/-- The sum starts at zero. -/
theorem pay_zero (a b : Fin 1024) : @Eq EReal (k0_pay1 (F := Ideal) (ix2 a b)) 0 := by pointwise [k0_pay1]

/-- One step of the sum: a branch's product with its gate. -/
theorem pay_step (v3 : FVec Ideal S1024x512 .bf16) (v5 : FVec Ideal S1x512x1024 .bf16) (v8 : FVec Ideal S1024x1024 .f32) (v9 : FVec Ideal S1024x1024 .bf16) (a b : Fin 1024) :
    @Eq EReal (k0_pay2 (F := Ideal) v3 v5 v8 v9 (ix2 a b)) (v8 (ix2 a b) + (v9 (ix2 a b) : EReal) * ∑ k : Fin 512, (v3 (ix2 a k) : EReal) * v5 (ix3 0 k b)) := by
  pointwise [k0_pay2]

/-- The result is the sum. -/
theorem pay_out (v20 : FVec Ideal S1024x1024 .f32) (a b : Fin 1024) : @Eq EReal (k0_pay3 (F := Ideal) v20 (ix2 a b)) (v20 (ix2 a b)) := by
  pointwise [k0_pay3]

/-- The reference's merge, read at a row and a column. -/
theorem ref_apply (x0 : FVec Ideal S2048x2048 .f32) (x1 : FVec Ideal S4x512x1024 .f32) (x2 : FVec Ideal S2048x4096 .f32) (a : Fin 2048) (b : Fin 1024) :
    @Eq EReal (val_main_v12 (F := Ideal) x0 x1 x2 (ix2 a b))
      (∑ g : Fin 4, Ideal.logistic (x2 (ix2 a ⟨g.val * 1024 + b.val, by omega⟩)) * ∑ k : Fin 512, (x1 (ix3 g k b) : EReal) * x0 (ix2 a ⟨g.val * 512 + k.val, by omega⟩)) := by
  pointwise [val_main_v12, val_main_v11, val_main_v10, val_main_v9, val_main_v8, val_main_cst_0, val_main_v7, val_main_v6, val_main_cst, val_main_v5, val_main_v4, val_main_v3, val_main_v2, val_main_v1, val_main_v0, val_main_cst_1, Ideal.logistic]

/-- A branch's columns of the mixers' outputs. -/
theorem y_read (t : Fin cfg0.N) (a : Fin 1024) (k : Fin 512) (r : Fin 2048) (q : Fin 2048) (hr : r.val = t.val / 4 * 1024 + a.val) (hq : q.val = t.val % 4 * 512 + k.val) :
    @Eq EReal (iblk m c 0 t (ix2 a k)) (X0 m c (ix2 r q)) := by
  have ht : t.val < cfg0.N := t.isLt
  have e (G : S2048x2048.Idx → EReal) : G ((win0_0.blk t).view.emb (ix2 a k)) = G (ix2 r q) := by
    blk_ext [idx_val t]
  blk_simp [iblk, idx_val t]
  entry_read
  refine (e _).trans ?_
  pointwise [Ideal.logistic]

/-- A branch's matrix. -/
theorem w_read (t : Fin cfg0.N) (o : Fin 1) (k : Fin 512) (b : Fin 1024) (g : Fin 4) (hg : g.val = t.val % 4) :
    @Eq EReal (iblk m c 1 t (ix3 o k b)) (X1 m c (ix3 g k b)) := by
  have ht : t.val < cfg0.N := t.isLt
  have e (G : S4x512x1024.Idx → EReal) : G ((win0_1.blk t).view.emb (ix3 o k b)) = G (ix3 g k b) := by
    blk_ext [idx_val t]
  blk_simp [iblk, idx_val t]
  entry_read
  refine (e _).trans ?_
  pointwise [Ideal.logistic]

/-- A branch's gates. -/
theorem g_read (t : Fin cfg0.N) (a b : Fin 1024) (r : Fin 2048) (q : Fin 4096) (hr : r.val = t.val / 4 * 1024 + a.val) (hq : q.val = t.val % 4 * 1024 + b.val) :
    @Eq EReal (iblk m c 2 t (ix2 a b)) (Ideal.logistic (X2 m c (ix2 r q))) := by
  have ht : t.val < cfg0.N := t.isLt
  have e (G : S2048x4096.Idx → EReal) : G ((win0_2.blk t).view.emb (ix2 a b)) = G (ix2 r q) := by
    blk_ext [idx_val t]
  blk_simp [iblk, idx_val t]
  entry_read
  refine (e _).trans ?_
  pointwise [Ideal.logistic]

/-! The blocks at a grid point, read at an index, and the scratch array after one. -/
abbrev yb (t : Fin cfg0.N) (a : Fin 1024) (k : Fin 512) : EReal := iblk m c 0 t (ix2 a k)
abbrev wb (t : Fin cfg0.N) (k : Fin 512) (b : Fin 1024) : EReal := iblk m c 1 t (ix3 0 k b)
abbrev gb (t : Fin cfg0.N) (a b : Fin 1024) : EReal := iblk m c 2 t (ix2 a b)
abbrev sb (t : Fin cfg0.N) (a b : Fin 1024) : EReal := (outsAt0 m c t.val t.isLt).2 (ix2 a b)
abbrev sp (t : Fin cfg0.N) (a b : Fin 1024) : EReal := (outsAt0 m c (t.val - 1) (Nat.lt_of_le_of_lt (Nat.sub_le _ _) t.isLt)).2 (ix2 a b)

/-- The scratch array is the sum over the blocks up to this one. -/
theorem sum_first (t : Fin cfg0.N) (h : t.val % 4 = 0) (a b : Fin 1024) :
    sb m c t a b = 0 + gb m c t a b * ∑ k : Fin 512, yb m c t a k * wb m c t k b := by
  unfold sb
  rw [outsAt0_A m c t h (by omega)]
  frame_out
  refine (pay_step _ _ _ _ a b).trans ?_
  exact congrArg (fun z : EReal => z + _) (pay_zero a b)

theorem sum_next (t : Fin cfg0.N) (h : ¬t.val % 4 = 0) (a b : Fin 1024) :
    sb m c t a b = sp m c t a b + gb m c t a b * ∑ k : Fin 512, yb m c t a k * wb m c t k b := by
  unfold sb
  by_cases h1 : t.val % 4 = 3
  · rw [outsAt0_C m c t h h1]
    frame_out
    exact (pay_step _ _ _ _ a b).trans (congrArg (fun z : FVec Ideal S1024x1024 .f32 => (z (ix2 a b) : EReal) + _) ((Memref.isWhole_whole cc0_scratch0).read_unread _))
  · rw [outsAt0_B m c t h h1]
    frame_out
    exact (pay_step _ _ _ _ a b).trans (congrArg (fun z : FVec Ideal S1024x1024 .f32 => (z (ix2 a b) : EReal) + _) ((Memref.isWhole_whole cc0_scratch0).read_unread _))

/-- At a row block's last point the scratch array holds the whole merge. -/
theorem sum_val (t : Fin cfg0.N) (h : t.val % 4 = 3) (a b : Fin 1024) (r : Fin 2048) (hr : r.val = t.val / 4 * 1024 + a.val) :
    sb m c t a b = ∑ g : Fin 4, Ideal.logistic (X2 m c (ix2 r ⟨g.val * 1024 + b.val, by omega⟩)) * ∑ k : Fin 512, (X1 m c (ix3 g k b) : EReal) * X0 m c (ix2 r ⟨g.val * 512 + k.val, by omega⟩) := by
  have ht : t.val < 8 := lt_of_lt_of_eq t.isLt N_0
  have key (s : Fin 4) (u : Fin cfg0.N) (hu : u.val = 4 * (t.val / 4) + s.val) :
      gb m c u a b * ∑ k : Fin 512, yb m c u a k * wb m c u k b
        = Ideal.logistic (X2 m c (ix2 r ⟨s.val * 1024 + b.val, by omega⟩)) * ∑ k : Fin 512, (X1 m c (ix3 s k b) : EReal) * X0 m c (ix2 r ⟨s.val * 512 + k.val, by omega⟩) := by
    have hs := s.isLt
    refine congrArg₂ (@HMul.hMul EReal EReal EReal _) (g_read m c u a b r _ (by rw [hr, hu]; omega) (by rw [hu]; show s.val * 1024 + b.val = _; omega)) ?_
    refine Finset.sum_congr rfl fun k _ => Eq.trans ?_ (mul_comm _ _)
    exact congrArg₂ (@HMul.hMul EReal EReal EReal _) (y_read m c u a k r ⟨s.val * 512 + k.val, by omega⟩ (by rw [hr, hu]; omega) (by rw [hu]; show s.val * 512 + k.val = _; omega))
      (w_read m c u 0 k b s (by rw [hu]; omega))
  refine (Pipeline.eq_sum_fin_of_reset_step_apply_of_flush (N := cfg0.N) (M := EReal) (ι := Fin 1024 × Fin 1024)
    (fun n h i => (outsAt0 m c n h).2 (ix2 i.1 i.2)) 4 (fun _ => 0) (fun t i => gb m c t i.1 i.2 * ∑ k : Fin 512, yb m c t i.1 k * wb m c t k i.2)
    (fun t h i => sum_first m c t h i.1 i.2) (fun t h i => sum_next m c t h i.1 i.2) t h (a, b)).trans ?_
  refine (zero_add _).trans ?_
  exact Finset.sum_congr rfl fun s _ => key s _ rfl

/-- What the result holds at a row block's last point. -/
theorem outs_last (t : Fin cfg0.N) (h : t.val % 4 = 3) :
    (outsAt0 m c t.val t.isLt).1 = k0_pay3 (outsAt0 m c t.val t.isLt).2 := by
  rw [outsAt0_C m c t (by omega) h]
  frame_out

/-- The result array after the run. -/
theorem final : (dats m 0 c).arrAt 3 (cfgs 0).N
    = fun i : S2048x1024.Idx => val_main_v12 (F := Ideal) (X0 m c) (X1 m c) (X2 m c) i := by
  refine (dats m 0 c).arrAt_eq_of_covers 3 _ (by decide +kernel) fun t hf y => ?_
  blk_simp; rw [after0_3]
  obtain ⟨a, b, rfl⟩ : ∃ (a b : Fin 1024), y = ix2 a b := ⟨y 0, y 1, eq_ix2 y⟩
  have ht : t.val < 8 := lt_of_lt_of_eq t.isLt N_0
  have e (G : S2048x1024.Idx → EReal) : G ((win0_3.blk t).view.emb (ix2 a b)) = G (ix2 ⟨t.val / 4 * 1024 + a.val, by omega⟩ b) := by
    blk_ext [idx_val t]
  refine Eq.trans ?_ (e (fun i => val_main_v12 (F := Ideal) (X0 m c) (X1 m c) (X2 m c) i)).symm
  have hl := (flush0_3 t).mp hf
  rw [outs_last m c t hl]
  exact (pay_out _ a b).trans ((sum_val m c t hl a b ⟨t.val / 4 * 1024 + a.val, by omega⟩ rfl).trans (ref_apply _ _ _ _ _).symm)

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v9) = val_main_v12 (F := Ideal) (X0 m c) (X1 m c) (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => ⟨((hr.1 c).1 3).trans (final m c), hr.2 c⟩)
    (θ_run_and (run_main m ρ) (unchanged m ρ))

end Cert.Proof.MergeFwd

end
-- ==== Proof.OutProj.lean ====
/-
  The output projection, added to the residual stream, and the norm after it.
-/
module

public import proofs.«01_k».proof.Proof.Gen.OutProjIdeal.Frame
public import proofs.«01_k».proof.Proof.Gen.OutProjReferenceIdeal.Run
public import proofs.«01_k».proof.Proof.Gen.OutProjReferenceIdeal.Read
public import proofs.«01_k».proof.Proof.Fwd
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.OutProj

open Cert.OutProjIdeal Cert.OutProjIdeal.Gen Cert.OutProjReferenceIdeal.Read

variable (m : (ℓ : Loc nD τ sig) → Buf (Elt Ideal) ℓ)

/-- The block each window stands at, in the number of the grid point. -/
theorem idx_val : ∀ t : Fin cfg0.N, win0_0.index t = ![0, t.val, 0]
    ∧ win0_1.index t = ![0, 0, 0]
    ∧ win0_2.index t = ![0, t.val, 0]
    ∧ win0_3.index t = ![0, 0, 0]
    ∧ win0_4.index t = ![0, t.val, 0]
    ∧ win0_5.index t = ![0, t.val, 0] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024x1024 .f32 := m ((c : Thread nD τ).loc main_arg1)
abbrev X2 : FVec Ideal S2048x1024 .f32 := m ((c : Thread nD τ).loc main_arg2)
abbrev X3 : FVec Ideal S1024 .f32 := m ((c : Thread nD τ).loc main_arg3)

/-- The body's sum, read at a row and a column. -/
theorem pay_sum (v0 v2 : FVec Ideal S1x1024x1024 .bf16) (v5 : FVec Ideal S1x1024x1024 .f32) (a b : Fin 1024) :
    @Eq EReal (k0_pay1 (F := Ideal) v0 v2 v5 (ix2 a b)) ((∑ k : Fin 1024, (v0 (ix3 0 a k) : EReal) * v2 (ix3 0 k b)) + v5 (ix3 0 a b)) := by
  pointwise [k0_pay1]

/-- The body's first result is the sum. -/
theorem pay_x (v0 v2 : FVec Ideal S1x1024x1024 .bf16) (v5 : FVec Ideal S1x1024x1024 .f32) (o : Fin 1) (a b : Fin 1024) :
    @Eq EReal (k0_pay2 (F := Ideal) v0 v2 v5 (ix3 o a b)) (k0_pay1 (F := Ideal) v0 v2 v5 (ix2 a b)) := by
  pointwise [k0_pay2]

/-- The body's second result is the sum's normed row. -/
theorem pay_h (v0 v2 : FVec Ideal S1x1024x1024 .bf16) (v5 : FVec Ideal S1x1024x1024 .f32) (v7 : FVec Ideal S1x1x1024 .f32) (o : Fin 1) (a b : Fin 1024) :
    @Eq EReal (k0_pay3 (F := Ideal) v0 v2 v5 v7 (ix3 o a b)) (Fwd.normed (fun k => k0_pay1 (F := Ideal) v0 v2 v5 (ix2 a k)) (v7 (ix3 0 0 b)) b) := by
  pointwise [k0_pay3, Fwd.normed, Rms.scale, Rms.meanSq]

/-- The reference's sum, read at a row and a column. -/
theorem ref_sum (x0 : FVec Ideal S2048x1024 .f32) (x1 : FVec Ideal S1024x1024 .f32) (x2 : FVec Ideal S2048x1024 .f32) (a : Fin 2048) (b : Fin 1024) :
    @Eq EReal (val_main_v1 (F := Ideal) x0 x1 x2 (ix2 a b)) (x2 (ix2 a b) + ∑ k : Fin 1024, (x0 (ix2 a k) : EReal) * x1 (ix2 k b)) := by
  pointwise [val_main_v1, val_main_v0]

/-- The reference's normed row. -/
theorem ref_norm (x0 : FVec Ideal S2048x1024 .f32) (x1 : FVec Ideal S1024x1024 .f32) (x2 : FVec Ideal S2048x1024 .f32) (x3 : FVec Ideal S1024 .f32) (a : Fin 2048) (b : Fin 1024) :
    @Eq EReal (val_main_v15 (F := Ideal) x0 x1 x2 x3 (ix2 a b)) (Fwd.normed (fun k => val_main_v1 (F := Ideal) x0 x1 x2 (ix2 a k)) (x3 (ix1 b)) b) := by
  pointwise [val_main_v15, val_main_v14, val_main_v11, val_main_v10, val_main_v9, val_main_v8, val_main_v6, val_main_v4, val_main_v3, val_main_v2, val_main_cst, val_main_v5, val_main_cst_0, val_main_v7, val_main_cst_1, val_main_v13, val_main_v12, Fwd.normed, Rms.scale, Rms.meanSq]

/-- A row block of the left operand. -/
theorem l_read (t : Fin cfg0.N) (o : Fin 1) (a : Fin 1024) (k : Fin 1024) (r : Fin 2048) (hr : r.val = t.val * 1024 + a.val) :
    @Eq EReal (iblk m c 0 t (ix3 o a k)) (X0 m c (ix2 r k)) := by
  have ht : t.val < cfg0.N := t.isLt
  have e (G : S1x2048x1024.Idx → EReal) : G ((win0_0.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- The matrix. -/
theorem w_read (t : Fin cfg0.N) (o : Fin 1) (k b : Fin 1024)  :
    @Eq EReal (iblk m c 1 t (ix3 o k b)) (X1 m c (ix2 k b)) := by
  have ht : t.val < cfg0.N := t.isLt
  have e (G : S1x1024x1024.Idx → EReal) : G ((win0_1.blk t).view.emb (ix3 o k b)) = G (ix3 0 k b) := by
    blk_ext [idx_val t]
  blk_simp [iblk, idx_val t]
  unfold V V0
  simp only [List.flatten_cons, List.flatten_nil, List.append_nil, StableHlo.after_append]
  entry_read
  refine (e _).trans ?_
  pointwise []

/-- A row block of the residual stream. -/
theorem x_read (t : Fin cfg0.N) (o : Fin 1) (a : Fin 1024) (k : Fin 1024) (r : Fin 2048) (hr : r.val = t.val * 1024 + a.val) :
    @Eq EReal (iblk m c 2 t (ix3 o a k)) (X2 m c (ix2 r k)) := by
  have ht : t.val < cfg0.N := t.isLt
  have e (G : S1x2048x1024.Idx → EReal) : G ((win0_2.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- The gain. -/
theorem g_read (t : Fin cfg0.N) (o p : Fin 1) (k : Fin 1024)  :
    @Eq EReal (iblk m c 3 t (ix3 o p k)) (X3 m c (ix1 k)) := by
  have ht : t.val < cfg0.N := t.isLt
  have e (G : S1x1x1024.Idx → EReal) : G ((win0_3.blk t).view.emb (ix3 o p k)) = G (ix3 0 0 k) := by
    blk_ext [idx_val t]
  blk_simp [iblk, idx_val t]
  unfold V V0
  simp only [List.flatten_cons, List.flatten_nil, List.append_nil, StableHlo.after_append]
  entry_read
  refine (e _).trans ?_
  pointwise []

/-- The sum at a grid point is the reference's. -/
theorem sum_val (t : Fin cfg0.N) (a b : Fin 1024) (r : Fin 2048) (hr : r.val = t.val * 1024 + a.val) :
    @Eq EReal (k0_pay1 (F := Ideal) (iblk m c 0 t) (iblk m c 1 t) (iblk m c 2 t) (ix2 a b)) (val_main_v1 (F := Ideal) (X0 m c) (X1 m c) (X2 m c) (ix2 r b)) := by
  refine (pay_sum _ _ _ a b).trans (Eq.trans ?_ (ref_sum _ _ _ _ _).symm)
  refine Eq.trans ?_ (add_comm _ _)
  refine congrArg₂ (@HAdd.hAdd EReal EReal EReal _) ?_ (x_read m c t 0 a b r hr)
  exact Finset.sum_congr rfl fun k _ => congrArg₂ (@HMul.hMul EReal EReal EReal _) (l_read m c t 0 a k r hr) (w_read m c t 0 k b)

/-- The result array after the run. -/
theorem final_x : (dats m 0 c).arrAt 4 (cfgs 0).N
    = fun i : S1x2048x1024.Idx => val_main_v1 (F := Ideal) (X0 m c) (X1 m c) (X2 m c) (ix2 (i 1) (i 2)) := by
  refine (dats m 0 c).arrAt_eq_of_covers 4 _ (by decide +kernel) fun t hf y => ?_
  blk_simp; rw [after0_4]
  obtain ⟨o, a, b, rfl⟩ : ∃ (o : Fin 1) (a b : Fin 1024), y = ix3 o a b := ⟨y 0, y 1, y 2, eq_ix3 y⟩
  have ht : t.val < 2 := lt_of_lt_of_eq t.isLt N_0
  have e (G : S1x2048x1024.Idx → EReal) : G ((win0_4.blk t).view.emb (ix3 o a b)) = G (ix3 0 ⟨t.val * 1024 + a.val, by omega⟩ b) := by
    blk_ext [idx_val t]
  refine Eq.trans ?_ (e (fun i => val_main_v1 (F := Ideal) (X0 m c) (X1 m c) (X2 m c) (ix2 (i 1) (i 2)))).symm
  unfold outsAt0
  frame_out
  exact (pay_x _ _ _ o a b).trans (sum_val m c t a b ⟨t.val * 1024 + a.val, by omega⟩ rfl)

/-- The result is that array in the result's shape. -/
theorem tail_x : Pipeline.afterTail₀ cfgs (dats m) 0 (V0 m) [hostOps1] c main_v8
    = shapeCast S2048x1024 ((dats m 0 c).arrAt 4 (cfgs 0).N) shapeCasts_S1x2048x1024_S2048x1024 := by
  unfold Pipeline.afterTail₀
  show StableHlo.after hostOps1 _ _ = _
  after_results
  exact congrArg (fun x => shapeCast S2048x1024 x shapeCasts_S1x2048x1024_S2048x1024)
    (Pipeline.withArrays_arr (cfgs 0).spec (by decide) c (V0 m c) (fun w => (dats m 0 c).arrAt w (cfgs 0).N) 4)

/-- The result read off the array. -/
theorem result_x : shapeCast S2048x1024 ((dats m 0 c).arrAt 4 (cfgs 0).N) shapeCasts_S1x2048x1024_S2048x1024
    = val_main_v1 (F := Ideal) (X0 m c) (X1 m c) (X2 m c) := by
  have key (f : FVec Ideal S1x2048x1024 .f32) (a : Fin 2048) (b : Fin 1024) :
      shapeCast S2048x1024 f shapeCasts_S1x2048x1024_S2048x1024 (ix2 a b) = f (ix3 0 a b) := by pointwise []
  rw [final_x]
  funext i
  rw [eq_ix2 i]
  exact key _ _ _

/-- The result array after the run. -/
theorem final_h : (dats m 0 c).arrAt 5 (cfgs 0).N
    = fun i : S1x2048x1024.Idx => val_main_v15 (F := Ideal) (X0 m c) (X1 m c) (X2 m c) (X3 m c) (ix2 (i 1) (i 2)) := by
  refine (dats m 0 c).arrAt_eq_of_covers 5 _ (by decide +kernel) fun t hf y => ?_
  blk_simp; rw [after0_5]
  obtain ⟨o, a, b, rfl⟩ : ∃ (o : Fin 1) (a b : Fin 1024), y = ix3 o a b := ⟨y 0, y 1, y 2, eq_ix3 y⟩
  have ht : t.val < 2 := lt_of_lt_of_eq t.isLt N_0
  have e (G : S1x2048x1024.Idx → EReal) : G ((win0_5.blk t).view.emb (ix3 o a b)) = G (ix3 0 ⟨t.val * 1024 + a.val, by omega⟩ b) := by
    blk_ext [idx_val t]
  refine Eq.trans ?_ (e (fun i => val_main_v15 (F := Ideal) (X0 m c) (X1 m c) (X2 m c) (X3 m c) (ix2 (i 1) (i 2)))).symm
  unfold outsAt0
  frame_out
  refine (pay_h _ _ _ _ o a b).trans (Eq.trans ?_ (ref_norm _ _ _ _ _ _).symm)
  exact congrArg₂ (fun (f : Fin 1024 → EReal) (g : EReal) => Fwd.normed f g b) (funext fun k => sum_val m c t a k ⟨t.val * 1024 + a.val, by omega⟩ rfl) (g_read m c t 0 0 b)

/-- The result is that array in the result's shape. -/
theorem tail_h : Pipeline.afterTail₀ cfgs (dats m) 0 (V0 m) [hostOps1] c main_v9
    = shapeCast S2048x1024 ((dats m 0 c).arrAt 5 (cfgs 0).N) shapeCasts_S1x2048x1024_S2048x1024 := by
  unfold Pipeline.afterTail₀
  show StableHlo.after hostOps1 _ _ = _
  after_results
  exact congrArg (fun x => shapeCast S2048x1024 x shapeCasts_S1x2048x1024_S2048x1024)
    (Pipeline.withArrays_arr (cfgs 0).spec (by decide) c (V0 m c) (fun w => (dats m 0 c).arrAt w (cfgs 0).N) 5)

/-- The result read off the array. -/
theorem result_h : shapeCast S2048x1024 ((dats m 0 c).arrAt 5 (cfgs 0).N) shapeCasts_S1x2048x1024_S2048x1024
    = val_main_v15 (F := Ideal) (X0 m c) (X1 m c) (X2 m c) (X3 m c) := by
  have key (f : FVec Ideal S1x2048x1024 .bf16) (a : Fin 2048) (b : Fin 1024) :
      shapeCast S2048x1024 f shapeCasts_S1x2048x1024_S2048x1024 (ix2 a b) = f (ix3 0 a b) := by pointwise []
  rw [final_h]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v8) = val_main_v1 (F := Ideal) (X0 m c) (X1 m c) (X2 m c)
      ∧ r.2.mem ((c.tc : Thread nD τ).loc main_v9) = val_main_v15 (F := Ideal) (X0 m c) (X1 m c) (X2 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr.1 c).2 main_v8 (by decide)).trans ((tail_x m c).trans (result_x m c)), ((hr.1 c).2 main_v9 (by decide)).trans ((tail_h m c).trans (result_h m c)), hr.2 c⟩)
    (θ_run_and (run_main m ρ) (unchanged m ρ))

end Cert.Proof.OutProj

end
-- ==== Proof.MlpUp.lean ====
/-
  The first product of the two-layer block, with its squared relu.
-/
module

public import proofs.«01_k».proof.Proof.Gen.MlpUpIdeal.Frame
public import proofs.«01_k».proof.Proof.Gen.MlpUpReferenceIdeal.Run
public import proofs.«01_k».proof.Proof.Gen.MlpUpReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.MlpUp

open Cert.MlpUpIdeal Cert.MlpUpIdeal.Gen Cert.MlpUpReferenceIdeal.Read

variable (m : (ℓ : Loc nD τ sig) → Buf (Elt Ideal) ℓ)

/-- The block each window stands at, in the number of the grid point. -/
theorem idx_val : ∀ t : Fin cfg0.N, win0_0.index t = ![0, t.val / 4, 0]
    ∧ win0_1.index t = ![0, t.val % 4, 0, 0]
    ∧ win0_2.index t = ![0, t.val / 4, t.val % 4] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024x4096 .f32 := m ((c : Thread nD τ).loc main_arg1)

/-- The body's value, read at a row and a column. -/
theorem pay_apply (v0 : FVec Ideal S1x1024x1024 .bf16) (v2 : FVec Ideal S1x1x1024x1024 .bf16) (o : Fin 1) (a b : Fin 1024) :
    @Eq EReal (k0_pay1 (F := Ideal) v0 v2 (ix3 o a b)) (max (∑ k : Fin 1024, (v0 (ix3 0 a k) : EReal) * v2 (ix4 0 0 k b)) 0 * max (∑ k : Fin 1024, (v0 (ix3 0 a k) : EReal) * v2 (ix4 0 0 k b)) 0) := by
  pointwise [k0_pay1]

/-- The reference's value, read at a row and a column. -/
theorem ref_apply (x0 : FVec Ideal S2048x1024 .f32) (x1 : FVec Ideal S1024x4096 .f32) (a : Fin 2048) (b : Fin 4096) (q : Fin 4096) (hq : q.val = b.val) :
    @Eq EReal (val_main_v3 (F := Ideal) x0 x1 (ix2 a b)) (max (∑ k : Fin 1024, (x0 (ix2 a k) : EReal) * x1 (ix2 k q)) 0 * max (∑ k : Fin 1024, (x0 (ix2 a k) : EReal) * x1 (ix2 k q)) 0) := by
  have hb : q = ⟨b.val, by omega⟩ := Fin.ext hq
  rw [hb]
  pointwise [val_main_v3, val_main_v2, val_main_v1, val_main_v0, val_main_call0_v0, val_main_call0_cst]

/-- A row block of the left operand. -/
theorem l_read (t : Fin cfg0.N) (o : Fin 1) (a : Fin 1024) (k : Fin 1024) (r : Fin 2048) (hr : r.val = t.val / 4 * 1024 + a.val) :
    @Eq EReal (iblk m c 0 t (ix3 o a k)) (X0 m c (ix2 r k)) := by
  have ht : t.val < cfg0.N := t.isLt
  have e (G : S1x2048x1024.Idx → EReal) : G ((win0_0.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- A block of the matrix, which is kept by the chips' columns. -/
theorem w_read (t : Fin cfg0.N) (o p : Fin 1) (k b : Fin 1024) (q : Fin 4096) (hq : q.val = t.val % 4 * 1024 + b.val) :
    @Eq EReal (iblk m c 1 t (ix4 o p k b)) (X1 m c (ix2 k q)) := by
  have ht : t.val < 8 := lt_of_lt_of_eq t.isLt N_0
  have e (G : S1x4x1024x1024.Idx → EReal) : G ((win0_1.blk t).view.emb (ix4 o p k b)) = G (ix4 0 ⟨t.val % 4, by omega⟩ k b) := by
    blk_ext [idx_val t]
  blk_simp [iblk, idx_val t]
  unfold V V0
  simp only [List.flatten_cons, List.flatten_nil, List.append_nil, StableHlo.after_append]
  entry_read
  refine (e _).trans ?_
  pointwise []
  exact congrArg (fun z => X1 m c (ix2 k z)) (Fin.ext (by show _ = q.val; dsimp only; omega))

/-- The result array after the run. -/
theorem final : (dats m 0 c).arrAt 2 (cfgs 0).N
    = fun i : S1x2048x4096.Idx => val_main_v3 (F := Ideal) (X0 m c) (X1 m c) (ix2 (i 1) (i 2)) := by
  refine (dats m 0 c).arrAt_eq_of_covers 2 _ (by decide +kernel) fun t hf y => ?_
  blk_simp; rw [after0_2]
  obtain ⟨o, a, b, rfl⟩ : ∃ (o : Fin 1) (a b : Fin 1024), y = ix3 o a b := ⟨y 0, y 1, y 2, eq_ix3 y⟩
  have ht : t.val < 8 := lt_of_lt_of_eq t.isLt N_0
  have e (G : S1x2048x4096.Idx → EReal) : G ((win0_2.blk t).view.emb (ix3 o a b)) = G (ix3 0 ⟨t.val / 4 * 1024 + a.val, by omega⟩ ⟨t.val % 4 * 1024 + b.val, by omega⟩) := by
    blk_ext [idx_val t]
  refine Eq.trans ?_ (e (fun i => val_main_v3 (F := Ideal) (X0 m c) (X1 m c) (ix2 (i 1) (i 2)))).symm
  unfold outsAt0
  frame_out
  refine (pay_apply _ _ o a b).trans (Eq.trans ?_ (ref_apply _ _ _ _ ⟨t.val % 4 * 1024 + b.val, by omega⟩ rfl).symm)
  have hs := Finset.sum_congr (rfl : (Finset.univ : Finset (Fin 1024)) = _) fun k _ => congrArg₂ (@HMul.hMul EReal EReal EReal _) (l_read m c t 0 a k ⟨t.val / 4 * 1024 + a.val, by omega⟩ rfl) (w_read m c t 0 0 k b ⟨t.val % 4 * 1024 + b.val, by omega⟩ rfl)
  exact congrArg (fun z : EReal => max z 0 * max z 0) hs

/-- The result is that array in the result's shape. -/
theorem tail : Pipeline.afterTail₀ cfgs (dats m) 0 (V0 m) [hostOps1] c main_v7
    = shapeCast S2048x4096 ((dats m 0 c).arrAt 2 (cfgs 0).N) shapeCasts_S1x2048x4096_S2048x4096 := by
  unfold Pipeline.afterTail₀
  show StableHlo.after hostOps1 _ _ = _
  after_results
  exact congrArg (fun x => shapeCast S2048x4096 x shapeCasts_S1x2048x4096_S2048x4096)
    (Pipeline.withArrays_arr (cfgs 0).spec (by decide) c (V0 m c) (fun w => (dats m 0 c).arrAt w (cfgs 0).N) 2)

/-- The result read off the array. -/
theorem result : shapeCast S2048x4096 ((dats m 0 c).arrAt 2 (cfgs 0).N) shapeCasts_S1x2048x4096_S2048x4096
    = val_main_v3 (F := Ideal) (X0 m c) (X1 m c) := by
  have key (f : FVec Ideal S1x2048x4096 .bf16) (a : Fin 2048) (b : Fin 4096) :
      shapeCast S2048x4096 f shapeCasts_S1x2048x4096_S2048x4096 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v7) = val_main_v3 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨((hr.1 c).2 main_v7 (by decide)).trans ((tail m c).trans (result m c)), hr.2 c⟩)
    (θ_run_and (run_main m ρ) (unchanged m ρ))

end Cert.Proof.MlpUp

end
-- ==== Proof.MlpDown.lean ====
/-
  The second product of the two-layer block, added to the residual stream, and the norm after it.
-/
module

public import proofs.«01_k».proof.Proof.Gen.MlpDownIdeal.Frame
public import proofs.«01_k».proof.Proof.Gen.MlpDownReferenceIdeal.Run
public import proofs.«01_k».proof.Proof.Gen.MlpDownReferenceIdeal.Read
public import proofs.«01_k».proof.Proof.Fwd
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.MlpDown

open Cert.MlpDownIdeal Cert.MlpDownIdeal.Gen Cert.MlpDownReferenceIdeal.Read

variable (m : (ℓ : Loc nD τ sig) → Buf (Elt Ideal) ℓ)

/-- The block each window stands at, in the number of the grid point. -/
theorem idx_val : ∀ t : Fin cfg0.N, win0_0.index t = ![0, t.val / 4, t.val % 4]
    ∧ win0_1.index t = ![0, t.val % 4, 0]
    ∧ win0_2.index t = ![0, t.val / 4, 0]
    ∧ win0_3.index t = ![0, 0, 0]
    ∧ win0_4.index t = ![0, t.val / 4, 0]
    ∧ win0_5.index t = ![0, t.val / 4, 0] :=
  (by decide +kernel : ∀ t : Fin grid0.N, _)

variable (c : Dev nD)

/-! The arguments on a device. -/
abbrev X0 : FVec Ideal S2048x4096 .f32 := m ((c : Thread nD τ).loc main_arg0)
abbrev X1 : FVec Ideal S4096x1024 .f32 := m ((c : Thread nD τ).loc main_arg1)
abbrev X2 : FVec Ideal S2048x1024 .f32 := m ((c : Thread nD τ).loc main_arg2)
abbrev X3 : FVec Ideal S1024 .f32 := m ((c : Thread nD τ).loc main_arg3)

/-- The sum starts at zero. -/
theorem pay_zero (a b : Fin 1024) : @Eq EReal (k0_pay1 (F := Ideal) (ix2 a b)) 0 := by pointwise [k0_pay1]

/-- One step of the sum. -/
theorem pay_step (v3 : FVec Ideal S1024x1024 .f32) (v4 v6 : FVec Ideal S1x1024x1024 .bf16) (a b : Fin 1024) :
    @Eq EReal (k0_pay2 (F := Ideal) v3 v4 v6 (ix2 a b)) (v3 (ix2 a b) + ∑ k : Fin 1024, (v4 (ix3 0 a k) : EReal) * v6 (ix3 0 k b)) := by
  pointwise [k0_pay2]

/-- The sum with the residual. -/
theorem pay_sum (v16 : FVec Ideal S1024x1024 .f32) (v17 : FVec Ideal S1x1024x1024 .f32) (a b : Fin 1024) :
    @Eq EReal (k0_pay3 (F := Ideal) v16 v17 (ix2 a b)) ((v16 (ix2 a b) : EReal) + v17 (ix3 0 a b)) := by
  pointwise [k0_pay3]

/-- The body's first result is that sum. -/
theorem pay_x (v16 : FVec Ideal S1024x1024 .f32) (v17 : FVec Ideal S1x1024x1024 .f32) (o : Fin 1) (a b : Fin 1024) :
    @Eq EReal (k0_pay4 (F := Ideal) v16 v17 (ix3 o a b)) (k0_pay3 (F := Ideal) v16 v17 (ix2 a b)) := by
  pointwise [k0_pay4]

/-- The body's second result is the sum's normed row. -/
theorem pay_h (v16 : FVec Ideal S1024x1024 .f32) (v17 : FVec Ideal S1x1024x1024 .f32) (v19 : FVec Ideal S1x1x1024 .f32) (o : Fin 1) (a b : Fin 1024) :
    @Eq EReal (k0_pay5 (F := Ideal) v16 v17 v19 (ix3 o a b)) (Fwd.normed (fun k => k0_pay3 (F := Ideal) v16 v17 (ix2 a k)) (v19 (ix3 0 0 b)) b) := by
  pointwise [k0_pay5, Fwd.normed, Rms.scale, Rms.meanSq]

/-- The reference's sum, read at a row and a column. -/
theorem ref_sum (x0 : FVec Ideal S2048x4096 .f32) (x1 : FVec Ideal S4096x1024 .f32) (x2 : FVec Ideal S2048x1024 .f32) (a : Fin 2048) (b : Fin 1024) :
    @Eq EReal (val_main_v1 (F := Ideal) x0 x1 x2 (ix2 a b)) (x2 (ix2 a b) + ∑ k : Fin 4096, (x0 (ix2 a k) : EReal) * x1 (ix2 k b)) := by
  pointwise [val_main_v1, val_main_v0]

/-- The reference's normed row. -/
theorem ref_norm (x0 : FVec Ideal S2048x4096 .f32) (x1 : FVec Ideal S4096x1024 .f32) (x2 : FVec Ideal S2048x1024 .f32) (x3 : FVec Ideal S1024 .f32) (a : Fin 2048) (b : Fin 1024) :
    @Eq EReal (val_main_v15 (F := Ideal) x0 x1 x2 x3 (ix2 a b)) (Fwd.normed (fun k => val_main_v1 (F := Ideal) x0 x1 x2 (ix2 a k)) (x3 (ix1 b)) b) := by
  pointwise [val_main_v15, val_main_v14, val_main_v11, val_main_v10, val_main_v9, val_main_v8, val_main_v6, val_main_v4, val_main_v3, val_main_v2, val_main_cst, val_main_v5, val_main_cst_0, val_main_v7, val_main_cst_1, val_main_v13, val_main_v12, Fwd.normed, Rms.scale, Rms.meanSq]

/-- A block of the activation. -/
theorem l_read (t : Fin cfg0.N) (o : Fin 1) (a k : Fin 1024) (r : Fin 2048) (q : Fin 4096) (hr : r.val = t.val / 4 * 1024 + a.val) (hq : q.val = t.val % 4 * 1024 + k.val) :
    @Eq EReal (iblk m c 0 t (ix3 o a k)) (X0 m c (ix2 r q)) := by
  have ht : t.val < cfg0.N := t.isLt
  have e (G : S1x2048x4096.Idx → EReal) : G ((win0_0.blk t).view.emb (ix3 o a k)) = G (ix3 0 r q) := by
    blk_ext [idx_val t]
  blk_simp [iblk, idx_val t]
  unfold V V0
  simp only [List.flatten_cons, List.flatten_nil, List.append_nil, StableHlo.after_append]
  entry_read
  refine (e _).trans ?_
  pointwise []

/-- A block of the matrix. -/
theorem w_read (t : Fin cfg0.N) (o : Fin 1) (k b : Fin 1024) (q : Fin 4096) (hq : q.val = t.val % 4 * 1024 + k.val) :
    @Eq EReal (iblk m c 1 t (ix3 o k b)) (X1 m c (ix2 q b)) := by
  have ht : t.val < cfg0.N := t.isLt
  have e (G : S1x4096x1024.Idx → EReal) : G ((win0_1.blk t).view.emb (ix3 o k b)) = G (ix3 0 q b) := by
    blk_ext [idx_val t]
  blk_simp [iblk, idx_val t]
  unfold V V0
  simp only [List.flatten_cons, List.flatten_nil, List.append_nil, StableHlo.after_append]
  entry_read
  refine (e _).trans ?_
  pointwise []

/-- A row block of the residual stream. -/
theorem x_read (t : Fin cfg0.N) (o : Fin 1) (a : Fin 1024) (k : Fin 1024) (r : Fin 2048) (hr : r.val = t.val / 4 * 1024 + a.val) :
    @Eq EReal (iblk m c 2 t (ix3 o a k)) (X2 m c (ix2 r k)) := by
  have ht : t.val < cfg0.N := t.isLt
  have e (G : S1x2048x1024.Idx → EReal) : G ((win0_2.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- The gain. -/
theorem g_read (t : Fin cfg0.N) (o p : Fin 1) (k : Fin 1024)  :
    @Eq EReal (iblk m c 3 t (ix3 o p k)) (X3 m c (ix1 k)) := by
  have ht : t.val < cfg0.N := t.isLt
  have e (G : S1x1x1024.Idx → EReal) : G ((win0_3.blk t).view.emb (ix3 o p k)) = G (ix3 0 0 k) := by
    blk_ext [idx_val t]
  blk_simp [iblk, idx_val t]
  unfold V V0
  simp only [List.flatten_cons, List.flatten_nil, List.append_nil, StableHlo.after_append]
  entry_read
  refine (e _).trans ?_
  pointwise []

/-! The blocks at a grid point, read at an index, and the scratch array after one. -/
abbrev lb (t : Fin cfg0.N) (a k : Fin 1024) : EReal := iblk m c 0 t (ix3 0 a k)
abbrev wb (t : Fin cfg0.N) (k b : Fin 1024) : EReal := iblk m c 1 t (ix3 0 k b)
abbrev sb (t : Fin cfg0.N) (a b : Fin 1024) : EReal := (outsAt0 m c t.val t.isLt).2.2 (ix2 a b)
abbrev sp (t : Fin cfg0.N) (a b : Fin 1024) : EReal := (outsAt0 m c (t.val - 1) (Nat.lt_of_le_of_lt (Nat.sub_le _ _) t.isLt)).2.2 (ix2 a b)

/-- The scratch array is the sum over the blocks up to this one. -/
theorem sum_first (t : Fin cfg0.N) (h : t.val % 4 = 0) (a b : Fin 1024) :
    sb m c t a b = 0 + ∑ k : Fin 1024, lb m c t a k * wb m c t k b := by
  unfold sb
  rw [outsAt0_A m c t h (by omega)]
  frame_out
  refine (pay_step _ _ _ a b).trans ?_
  exact congrArg (fun z : EReal => z + _) (pay_zero a b)

theorem sum_next (t : Fin cfg0.N) (h : ¬t.val % 4 = 0) (a b : Fin 1024) :
    sb m c t a b = sp m c t a b + ∑ k : Fin 1024, lb m c t a k * wb m c t k b := by
  unfold sb
  by_cases h1 : t.val % 4 = 3
  · rw [outsAt0_C m c t h h1]
    frame_out
    exact (pay_step _ _ _ a b).trans (congrArg (fun z : FVec Ideal S1024x1024 .f32 => (z (ix2 a b) : EReal) + _) ((Memref.isWhole_whole cc0_scratch0).read_unread _))
  · rw [outsAt0_B m c t h h1]
    frame_out
    exact (pay_step _ _ _ a b).trans (congrArg (fun z : FVec Ideal S1024x1024 .f32 => (z (ix2 a b) : EReal) + _) ((Memref.isWhole_whole cc0_scratch0).read_unread _))

/-- At a row block's last point the scratch array holds the whole product. -/
theorem prod_val (t : Fin cfg0.N) (h : t.val % 4 = 3) (a b : Fin 1024) (r : Fin 2048) (hr : r.val = t.val / 4 * 1024 + a.val) :
    sb m c t a b = ∑ k : Fin 4096, (X0 m c (ix2 r k) : EReal) * X1 m c (ix2 k b) := by
  have ht : t.val < 8 := lt_of_lt_of_eq t.isLt N_0
  have key (s : Fin 4) (k : Fin 1024) (hl : s.val * 1024 + k.val < 4096) (u : Fin cfg0.N) (hu : u.val = 4 * (t.val / 4) + s.val) :
      lb m c u a k * wb m c u k b = (X0 m c (ix2 r ⟨s.val * 1024 + k.val, hl⟩) : EReal) * X1 m c (ix2 ⟨s.val * 1024 + k.val, hl⟩ b) := by
    have hs := s.isLt
    exact congrArg₂ (@HMul.hMul EReal EReal EReal _)
      (l_read m c u 0 a k r ⟨s.val * 1024 + k.val, hl⟩ (by rw [hr, hu]; omega) (by rw [hu]; show s.val * 1024 + k.val = _; omega))
      (w_read m c u 0 k b ⟨s.val * 1024 + k.val, hl⟩ (by rw [hu]; show s.val * 1024 + k.val = _; omega))
  refine (Pipeline.eq_sum_fin_of_reset_step_apply_of_flush (N := cfg0.N) (M := EReal) (ι := Fin 1024 × Fin 1024)
    (fun n h i => (outsAt0 m c n h).2.2 (ix2 i.1 i.2)) 4 (fun _ => 0) (fun t i => ∑ k : Fin 1024, lb m c t i.1 k * wb m c t k i.2)
    (fun t h i => sum_first m c t h i.1 i.2) (fun t h i => sum_next m c t h i.1 i.2) t h (a, b)).trans ?_
  refine (zero_add _).trans ?_
  exact Fin.sum_mul_add_congr fun s k hl => key s k hl _ rfl

/-- The sum at a row block's last point is the reference's. -/
theorem sum_val (t : Fin cfg0.N) (h : t.val % 4 = 3) (a b : Fin 1024) (r : Fin 2048) (hr : r.val = t.val / 4 * 1024 + a.val) :
    @Eq EReal (k0_pay3 (F := Ideal) (outsAt0 m c t.val t.isLt).2.2 (iblk m c 2 t) (ix2 a b)) (val_main_v1 (F := Ideal) (X0 m c) (X1 m c) (X2 m c) (ix2 r b)) := by
  refine (pay_sum _ _ a b).trans (Eq.trans ?_ (ref_sum _ _ _ _ _).symm)
  refine Eq.trans ?_ (add_comm _ _)
  exact congrArg₂ (@HAdd.hAdd EReal EReal EReal _) (prod_val m c t h a b r hr) (x_read m c t 0 a b r hr)

/-- What the two results hold at a row block's last point. -/
theorem outs_last (t : Fin cfg0.N) (h : t.val % 4 = 3) :
    (outsAt0 m c t.val t.isLt).1 = k0_pay4 (outsAt0 m c t.val t.isLt).2.2 (iblk m c 2 t)
    ∧ (outsAt0 m c t.val t.isLt).2.1 = k0_pay5 (outsAt0 m c t.val t.isLt).2.2 (iblk m c 2 t) (iblk m c 3 t) := by
  rw [outsAt0_C m c t (by omega) h]
  constructor <;> frame_out

/-- The result array after the run. -/
theorem final_x : (dats m 0 c).arrAt 4 (cfgs 0).N
    = fun i : S1x2048x1024.Idx => val_main_v1 (F := Ideal) (X0 m c) (X1 m c) (X2 m c) (ix2 (i 1) (i 2)) := by
  refine (dats m 0 c).arrAt_eq_of_covers 4 _ (by decide +kernel) fun t hf y => ?_
  blk_simp; rw [after0_4]
  obtain ⟨o, a, b, rfl⟩ : ∃ (o : Fin 1) (a b : Fin 1024), y = ix3 o a b := ⟨y 0, y 1, y 2, eq_ix3 y⟩
  have ht : t.val < 8 := lt_of_lt_of_eq t.isLt N_0
  have e (G : S1x2048x1024.Idx → EReal) : G ((win0_4.blk t).view.emb (ix3 o a b)) = G (ix3 0 ⟨t.val / 4 * 1024 + a.val, by omega⟩ b) := by
    blk_ext [idx_val t]
  refine Eq.trans ?_ (e (fun i => val_main_v1 (F := Ideal) (X0 m c) (X1 m c) (X2 m c) (ix2 (i 1) (i 2)))).symm
  have hl := (flush0_4 t).mp hf
  rw [(outs_last m c t hl).1]
  exact (pay_x _ _ o a b).trans (sum_val m c t hl a b ⟨t.val / 4 * 1024 + a.val, by omega⟩ rfl)

/-- The result is that array in the result's shape. -/
theorem tail_x : Pipeline.afterTail₀ cfgs (dats m) 0 (V0 m) [hostOps1] c main_v8
    = shapeCast S2048x1024 ((dats m 0 c).arrAt 4 (cfgs 0).N) shapeCasts_S1x2048x1024_S2048x1024 := by
  unfold Pipeline.afterTail₀
  show StableHlo.after hostOps1 _ _ = _
  after_results
  exact congrArg (fun x => shapeCast S2048x1024 x shapeCasts_S1x2048x1024_S2048x1024)
    (Pipeline.withArrays_arr (cfgs 0).spec (by decide) c (V0 m c) (fun w => (dats m 0 c).arrAt w (cfgs 0).N) 4)

/-- The result read off the array. -/
theorem result_x : shapeCast S2048x1024 ((dats m 0 c).arrAt 4 (cfgs 0).N) shapeCasts_S1x2048x1024_S2048x1024
    = val_main_v1 (F := Ideal) (X0 m c) (X1 m c) (X2 m c) := by
  have key (f : FVec Ideal S1x2048x1024 .f32) (a : Fin 2048) (b : Fin 1024) :
      shapeCast S2048x1024 f shapeCasts_S1x2048x1024_S2048x1024 (ix2 a b) = f (ix3 0 a b) := by pointwise []
  rw [final_x]
  funext i
  rw [eq_ix2 i]
  exact key _ _ _

/-- The result array after the run. -/
theorem final_h : (dats m 0 c).arrAt 5 (cfgs 0).N
    = fun i : S1x2048x1024.Idx => val_main_v15 (F := Ideal) (X0 m c) (X1 m c) (X2 m c) (X3 m c) (ix2 (i 1) (i 2)) := by
  refine (dats m 0 c).arrAt_eq_of_covers 5 _ (by decide +kernel) fun t hf y => ?_
  blk_simp; rw [after0_5]
  obtain ⟨o, a, b, rfl⟩ : ∃ (o : Fin 1) (a b : Fin 1024), y = ix3 o a b := ⟨y 0, y 1, y 2, eq_ix3 y⟩
  have ht : t.val < 8 := lt_of_lt_of_eq t.isLt N_0
  have e (G : S1x2048x1024.Idx → EReal) : G ((win0_5.blk t).view.emb (ix3 o a b)) = G (ix3 0 ⟨t.val / 4 * 1024 + a.val, by omega⟩ b) := by
    blk_ext [idx_val t]
  refine Eq.trans ?_ (e (fun i => val_main_v15 (F := Ideal) (X0 m c) (X1 m c) (X2 m c) (X3 m c) (ix2 (i 1) (i 2)))).symm
  have hl := (flush0_5 t).mp hf
  rw [(outs_last m c t hl).2]
  refine (pay_h _ _ _ o a b).trans (Eq.trans ?_ (ref_norm _ _ _ _ _ _).symm)
  exact congrArg₂ (fun (f : Fin 1024 → EReal) (g : EReal) => Fwd.normed f g b) (funext fun k => sum_val m c t hl a k ⟨t.val / 4 * 1024 + a.val, by omega⟩ rfl) (g_read m c t 0 0 b)

/-- The result is that array in the result's shape. -/
theorem tail_h : Pipeline.afterTail₀ cfgs (dats m) 0 (V0 m) [hostOps1] c main_v9
    = shapeCast S2048x1024 ((dats m 0 c).arrAt 5 (cfgs 0).N) shapeCasts_S1x2048x1024_S2048x1024 := by
  unfold Pipeline.afterTail₀
  show StableHlo.after hostOps1 _ _ = _
  after_results
  exact congrArg (fun x => shapeCast S2048x1024 x shapeCasts_S1x2048x1024_S2048x1024)
    (Pipeline.withArrays_arr (cfgs 0).spec (by decide) c (V0 m c) (fun w => (dats m 0 c).arrAt w (cfgs 0).N) 5)

/-- The result read off the array. -/
theorem result_h : shapeCast S2048x1024 ((dats m 0 c).arrAt 5 (cfgs 0).N) shapeCasts_S1x2048x1024_S2048x1024
    = val_main_v15 (F := Ideal) (X0 m c) (X1 m c) (X2 m c) (X3 m c) := by
  have key (f : FVec Ideal S1x2048x1024 .bf16) (a : Fin 2048) (b : Fin 1024) :
      shapeCast S2048x1024 f shapeCasts_S1x2048x1024_S2048x1024 (ix2 a b) = f (ix3 0 a b) := by pointwise []
  rw [final_h]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v8) = val_main_v1 (F := Ideal) (X0 m c) (X1 m c) (X2 m c)
      ∧ r.2.mem ((c.tc : Thread nD τ).loc main_v9) = val_main_v15 (F := Ideal) (X0 m c) (X1 m c) (X2 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr.1 c).2 main_v8 (by decide)).trans ((tail_x m c).trans (result_x m c)), ((hr.1 c).2 main_v9 (by decide)).trans ((tail_h m c).trans (result_h m c)), hr.2 c⟩)
    (θ_run_and (run_main m ρ) (unchanged m ρ))

end Cert.Proof.MlpDown

end
-- ==== Proof.PleGate.lean ====
/-
  The gate's product of the per-layer embedding.
-/
module

public import proofs.«01_k».proof.Proof.Gen.PleGateIdeal.Frame
public import proofs.«01_k».proof.Proof.Gen.PleGateReferenceIdeal.Run
public import proofs.«01_k».proof.Proof.Gen.PleGateReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.PleGate

open Cert.PleGateIdeal Cert.PleGateIdeal.Gen Cert.PleGateReferenceIdeal.Read

variable (m : (ℓ : Loc nD τ sig) → Buf (Elt Ideal) ℓ)

/-- The block each window stands at, in the number of the grid point. -/
theorem idx_val : ∀ t : Fin cfg0.N, win0_0.index t = ![0, t.val, 0]
    ∧ win0_1.index t = ![0, 0, 0]
    ∧ win0_2.index t = ![0, t.val, 0] :=
  (by decide +kernel : ∀ t : Fin grid0.N, _)

variable (c : Dev nD)

/-! The arguments on a device. -/
abbrev X0 : FVec Ideal S2048x1024 .f32 := m ((c : Thread nD τ).loc main_arg0)
abbrev X1 : FVec Ideal S1024x1024 .f32 := m ((c : Thread nD τ).loc main_arg1)

/-- The body's product, read at a row and a column. -/
theorem pay_apply (v0 v2 : FVec Ideal S1x1024x1024 .bf16) (o : Fin 1) (a b : Fin 1024) :
    @Eq EReal (k0_pay1 (F := Ideal) v0 v2 (ix3 o a b)) (∑ k : Fin 1024, (v0 (ix3 0 a k) : EReal) * v2 (ix3 0 k b)) := by
  pointwise [k0_pay1]

/-- The reference's product, read at a row and a column. -/
theorem ref_apply (x0 : FVec Ideal S2048x1024 .f32) (x1 : FVec Ideal S1024x1024 .f32) (a : Fin 2048) (b : Fin 1024) :
    @Eq EReal (val_main_v0 (F := Ideal) x0 x1 (ix2 a b)) (∑ k : Fin 1024, (x0 (ix2 a k) : EReal) * x1 (ix2 k b)) := by
  pointwise [val_main_v0]

/-- A row block of the left operand. -/
theorem l_read (t : Fin cfg0.N) (o : Fin 1) (a : Fin 1024) (k : Fin 1024) (r : Fin 2048) (hr : r.val = t.val * 1024 + a.val) :
    @Eq EReal (iblk m c 0 t (ix3 o a k)) (X0 m c (ix2 r k)) := by
  have ht : t.val < cfg0.N := t.isLt
  have e (G : S1x2048x1024.Idx → EReal) : G ((win0_0.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- The matrix. -/
theorem w_read (t : Fin cfg0.N) (o : Fin 1) (k b : Fin 1024)  :
    @Eq EReal (iblk m c 1 t (ix3 o k b)) (X1 m c (ix2 k b)) := by
  have ht : t.val < cfg0.N := t.isLt
  have e (G : S1x1024x1024.Idx → EReal) : G ((win0_1.blk t).view.emb (ix3 o k b)) = G (ix3 0 k b) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final : (dats m 0 c).arrAt 2 (cfgs 0).N
    = fun i : S1x2048x1024.Idx => val_main_v0 (F := Ideal) (X0 m c) (X1 m c) (ix2 (i 1) (i 2)) := by
  refine (dats m 0 c).arrAt_eq_of_covers 2 _ (by decide +kernel) fun t hf y => ?_
  blk_simp; rw [after0_2]
  obtain ⟨o, a, b, rfl⟩ : ∃ (o : Fin 1) (a b : Fin 1024), y = ix3 o a b := ⟨y 0, y 1, y 2, eq_ix3 y⟩
  have ht : t.val < 2 := lt_of_lt_of_eq t.isLt N_0
  have e (G : S1x2048x1024.Idx → EReal) : G ((win0_2.blk t).view.emb (ix3 o a b)) = G (ix3 0 ⟨t.val * 1024 + a.val, by omega⟩ b) := by
    blk_ext [idx_val t]
  refine Eq.trans ?_ (e (fun i => val_main_v0 (F := Ideal) (X0 m c) (X1 m c) (ix2 (i 1) (i 2)))).symm
  unfold outsAt0
  frame_out
  refine (pay_apply _ _ o a b).trans (Eq.trans ?_ (ref_apply _ _ _ _).symm)
  exact Finset.sum_congr rfl fun k _ => congrArg₂ (@HMul.hMul EReal EReal EReal _) (l_read m c t 0 a k ⟨t.val * 1024 + a.val, by omega⟩ rfl) (w_read m c t 0 k b)

/-- The result is that array in the result's shape. -/
theorem tail : Pipeline.afterTail₀ cfgs (dats m) 0 (V0 m) [hostOps1] c main_v5
    = shapeCast S2048x1024 ((dats m 0 c).arrAt 2 (cfgs 0).N) shapeCasts_S1x2048x1024_S2048x1024 := by
  unfold Pipeline.afterTail₀
  show StableHlo.after hostOps1 _ _ = _
  after_results
  exact congrArg (fun x => shapeCast S2048x1024 x shapeCasts_S1x2048x1024_S2048x1024)
    (Pipeline.withArrays_arr (cfgs 0).spec (by decide) c (V0 m c) (fun w => (dats m 0 c).arrAt w (cfgs 0).N) 2)

/-- The result read off the array. -/
theorem result : shapeCast S2048x1024 ((dats m 0 c).arrAt 2 (cfgs 0).N) shapeCasts_S1x2048x1024_S2048x1024
    = val_main_v0 (F := Ideal) (X0 m c) (X1 m c) := by
  have key (f : FVec Ideal S1x2048x1024 .f32) (a : Fin 2048) (b : Fin 1024) :
      shapeCast S2048x1024 f shapeCasts_S1x2048x1024_S2048x1024 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v5) = val_main_v0 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨((hr.1 c).2 main_v5 (by decide)).trans ((tail m c).trans (result m c)), hr.2 c⟩)
    (θ_run_and (run_main m ρ) (unchanged m ρ))

end Cert.Proof.PleGate

end
-- ==== Proof.Ple.lean ====
/-
  The gated per-layer embedding, added to the residual stream.
-/
module

public import proofs.«01_k».proof.Proof.Gen.PleIdeal.Frame
public import proofs.«01_k».proof.Proof.Gen.PleReferenceIdeal.Run
public import proofs.«01_k».proof.Proof.Gen.PleReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.Ple

open Cert.PleIdeal Cert.PleIdeal.Gen Cert.PleReferenceIdeal.Read

variable (m : (ℓ : Loc nD τ sig) → Buf (Elt Ideal) ℓ)

/-- The block each window stands at, in the number of the grid point. -/
theorem idx_val : ∀ t : Fin cfg0.N, win0_0.index t = ![0, t.val, 0]
    ∧ win0_1.index t = ![0, 0, 0]
    ∧ win0_2.index t = ![0, t.val, 0]
    ∧ win0_3.index t = ![0, t.val, 0]
    ∧ win0_4.index t = ![0, t.val, 0] :=
  (by decide +kernel : ∀ t : Fin grid0.N, _)

variable (c : Dev nD)

/-! The arguments on a device. -/
abbrev X0 : FVec Ideal S2048x256 .f32 := m ((c : Thread nD τ).loc main_arg0)
abbrev X1 : FVec Ideal S256x1024 .f32 := m ((c : Thread nD τ).loc main_arg1)
abbrev X2 : FVec Ideal S2048x1024 .f32 := m ((c : Thread nD τ).loc main_arg2)
abbrev X3 : FVec Ideal S2048x1024 .f32 := m ((c : Thread nD τ).loc main_arg3)

/-- The body's value, read at a row and a column. -/
theorem pay_apply (v0 : FVec Ideal S1x1024x256 .f32) (v3 : FVec Ideal S1x256x1024 .bf16) (v6 v8 : FVec Ideal S1x1024x1024 .f32) (o : Fin 1) (a b : Fin 1024) :
    @Eq EReal (k0_pay1 (F := Ideal) v0 v3 v6 v8 (ix3 o a b)) ((∑ k : Fin 256, (v0 (ix3 0 a k) : EReal) * v3 (ix3 0 k b)) * Ideal.logistic (v6 (ix3 0 a b)) + v8 (ix3 0 a b)) := by
  pointwise [k0_pay1]

/-- The reference's value, read at a row and a column. -/
theorem ref_apply (x0 : FVec Ideal S2048x256 .f32) (x1 : FVec Ideal S256x1024 .f32) (x2 x3 : FVec Ideal S2048x1024 .f32) (a : Fin 2048) (b : Fin 1024) :
    @Eq EReal (val_main_v8 (F := Ideal) x0 x1 x2 x3 (ix2 a b)) (x3 (ix2 a b) + (∑ k : Fin 256, (x0 (ix2 a k) : EReal) * x1 (ix2 k b)) * Ideal.logistic (x2 (ix2 a b))) := by
  pointwise [val_main_v8, val_main_v7, val_main_v0, val_main_v6, val_main_v5, val_main_cst_0, val_main_v4, val_main_v3, val_main_cst, val_main_v2, val_main_v1, Ideal.logistic]

/-- A row block of the embedding. -/
theorem p_read (t : Fin cfg0.N) (o : Fin 1) (a : Fin 1024) (k : Fin 256) (r : Fin 2048) (hr : r.val = t.val * 1024 + a.val) :
    @Eq EReal (iblk m c 0 t (ix3 o a k)) (X0 m c (ix2 r k)) := by
  have ht : t.val < cfg0.N := t.isLt
  have e (G : S1x2048x256.Idx → EReal) : G ((win0_0.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- The matrix. -/
theorem w_read (t : Fin cfg0.N) (o : Fin 1) (k : Fin 256) (b : Fin 1024)  :
    @Eq EReal (iblk m c 1 t (ix3 o k b)) (X1 m c (ix2 k b)) := by
  have ht : t.val < cfg0.N := t.isLt
  have e (G : S1x256x1024.Idx → EReal) : G ((win0_1.blk t).view.emb (ix3 o k b)) = G (ix3 0 k b) := by
    blk_ext [idx_val t]
  blk_simp [iblk, idx_val t]
  unfold V V0
  simp only [List.flatten_cons, List.flatten_nil, List.append_nil, StableHlo.after_append]
  entry_read
  refine (e _).trans ?_
  pointwise []

/-- A row block of the gate. -/
theorem g_read (t : Fin cfg0.N) (o : Fin 1) (a : Fin 1024) (k : Fin 1024) (r : Fin 2048) (hr : r.val = t.val * 1024 + a.val) :
    @Eq EReal (iblk m c 2 t (ix3 o a k)) (X2 m c (ix2 r k)) := by
  have ht : t.val < cfg0.N := t.isLt
  have e (G : S1x2048x1024.Idx → EReal) : G ((win0_2.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- A row block of the residual stream. -/
theorem x_read (t : Fin cfg0.N) (o : Fin 1) (a : Fin 1024) (k : Fin 1024) (r : Fin 2048) (hr : r.val = t.val * 1024 + a.val) :
    @Eq EReal (iblk m c 3 t (ix3 o a k)) (X3 m c (ix2 r k)) := by
  have ht : t.val < cfg0.N := t.isLt
  have e (G : S1x2048x1024.Idx → EReal) : G ((win0_3.blk t).view.emb (ix3 o a k)) = G (ix3 0 r k) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final : (dats m 0 c).arrAt 4 (cfgs 0).N
    = fun i : S1x2048x1024.Idx => val_main_v8 (F := Ideal) (X0 m c) (X1 m c) (X2 m c) (X3 m c) (ix2 (i 1) (i 2)) := by
  refine (dats m 0 c).arrAt_eq_of_covers 4 _ (by decide +kernel) fun t hf y => ?_
  blk_simp; rw [after0_4]
  obtain ⟨o, a, b, rfl⟩ : ∃ (o : Fin 1) (a b : Fin 1024), y = ix3 o a b := ⟨y 0, y 1, y 2, eq_ix3 y⟩
  have ht : t.val < 2 := lt_of_lt_of_eq t.isLt N_0
  have e (G : S1x2048x1024.Idx → EReal) : G ((win0_4.blk t).view.emb (ix3 o a b)) = G (ix3 0 ⟨t.val * 1024 + a.val, by omega⟩ b) := by
    blk_ext [idx_val t]
  refine Eq.trans ?_ (e (fun i => val_main_v8 (F := Ideal) (X0 m c) (X1 m c) (X2 m c) (X3 m c) (ix2 (i 1) (i 2)))).symm
  unfold outsAt0
  frame_out
  refine (pay_apply _ _ _ _ o a b).trans (Eq.trans ?_ (ref_apply _ _ _ _ _ _).symm)
  refine Eq.trans ?_ (add_comm _ _)
  refine congrArg₂ (@HAdd.hAdd EReal EReal EReal _) (congrArg₂ (@HMul.hMul EReal EReal EReal _) ?_ ?_) (x_read m c t 0 a b ⟨t.val * 1024 + a.val, by omega⟩ rfl)
  · exact Finset.sum_congr rfl fun k _ => congrArg₂ (@HMul.hMul EReal EReal EReal _) (p_read m c t 0 a k ⟨t.val * 1024 + a.val, by omega⟩ rfl) (w_read m c t 0 k b)
  · exact congrArg Ideal.logistic (g_read m c t 0 a b ⟨t.val * 1024 + a.val, by omega⟩ rfl)

/-- The result is that array in the result's shape. -/
theorem tail : Pipeline.afterTail₀ cfgs (dats m) 0 (V0 m) [hostOps1] c main_v6
    = shapeCast S2048x1024 ((dats m 0 c).arrAt 4 (cfgs 0).N) shapeCasts_S1x2048x1024_S2048x1024 := by
  unfold Pipeline.afterTail₀
  show StableHlo.after hostOps1 _ _ = _
  after_results
  exact congrArg (fun x => shapeCast S2048x1024 x shapeCasts_S1x2048x1024_S2048x1024)
    (Pipeline.withArrays_arr (cfgs 0).spec (by decide) c (V0 m c) (fun w => (dats m 0 c).arrAt w (cfgs 0).N) 4)

/-- The result read off the array. -/
theorem result : shapeCast S2048x1024 ((dats m 0 c).arrAt 4 (cfgs 0).N) shapeCasts_S1x2048x1024_S2048x1024
    = val_main_v8 (F := Ideal) (X0 m c) (X1 m c) (X2 m c) (X3 m c) := by
  have key (f : FVec Ideal S1x2048x1024 .f32) (a : Fin 2048) (b : Fin 1024) :
      shapeCast S2048x1024 f shapeCasts_S1x2048x1024_S2048x1024 (ix2 a b) = f (ix3 0 a b) := by pointwise []
  rw [final]
  funext i
  rw [eq_ix2 i]
  exact key _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v6) = val_main_v8 (F := Ideal) (X0 m c) (X1 m c) (X2 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr.1 c).2 main_v6 (by decide)).trans ((tail m c).trans (result m c)), hr.2 c⟩)
    (θ_run_and (run_main m ρ) (unchanged m ρ))

end Cert.Proof.Ple

end
-- ==== Proof.AdamIn.lean ====
/-
  The optimiser's step of w_in.
-/
module

public import proofs.«01_k».proof.Proof.Gen.AdamInIdeal.Frame
public import proofs.«01_k».proof.Proof.Gen.AdamInReferenceIdeal.Run
public import proofs.«01_k».proof.Proof.Gen.AdamInReferenceIdeal.Read
public import proofs.«01_k».proof.Proof.Fwd
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.AdamIn

open Cert.AdamInIdeal Cert.AdamInIdeal.Gen Cert.AdamInReferenceIdeal.Read

variable (m : (ℓ : Loc nD τ sig) → Buf (Elt Ideal) ℓ)

/-- The block each window stands at, in the number of the grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

variable (c : Dev nD)

/-! The arguments on a device. -/
abbrev X0 : FVec Ideal S4x1024x2048 .f32 := m ((c : Thread nD τ).loc main_arg0)
abbrev X1 : FVec Ideal S4x1024x2048 .f32 := m ((c : Thread nD τ).loc main_arg1)
abbrev X2 : FVec Ideal S4x1024x2048 .f32 := m ((c : Thread nD τ).loc main_arg2)
abbrev X3 : FVec Ideal S4x1024x2048 .f32 := m ((c : Thread nD τ).loc main_arg3)

/-- The body's first value: the weight's change. -/
theorem pay_d (v0 v2 v4 v6 : FVec Ideal S128x2048 .f32) (a : Fin 128) (b : Fin 2048) :
    @Eq EReal (k0_pay4 (F := Ideal) v0 v2 v4 v6 (ix2 a b)) (Fwd.change (v0 (ix2 a b)) (v2 (ix2 a b)) (v4 (ix2 a b)) (v6 (ix2 a b))) := by
  pointwise [k0_pay4, k0_pay3, k0_pay2, k0_pay1, Fwd.change, Fwd.first, Fwd.second]

/-- The body's second value: the first moment. -/
theorem pay_m (v2 v4 : FVec Ideal S128x2048 .f32) (a : Fin 128) (b : Fin 2048) :
    @Eq EReal (k0_pay2 (F := Ideal) v2 v4 (ix2 a b)) (Fwd.first (v2 (ix2 a b)) (v4 (ix2 a b))) := by
  pointwise [k0_pay2, k0_pay1, Fwd.first]

/-- The body's third value: the second moment. -/
theorem pay_v (v2 v6 : FVec Ideal S128x2048 .f32) (a : Fin 128) (b : Fin 2048) :
    @Eq EReal (k0_pay3 (F := Ideal) v2 v6 (ix2 a b)) (Fwd.second (v2 (ix2 a b)) (v6 (ix2 a b))) := by
  pointwise [k0_pay3, k0_pay1, Fwd.second]

/-- The reference's change of the weight, by rows. -/
theorem ref_d (x0 x1 : FVec Ideal S4x1024x2048 .f32) (x2 x3 : FVec Ideal S4x1024x2048 .f32) (r : Fin 4096) (b : Fin 2048) :
    @Eq EReal (shapeCast S4096x2048 (val_main_v23 (F := Ideal) x0 x1 x2 x3) shapeCasts_S4x1024x2048_S4096x2048 (ix2 r b)) (Fwd.change (shapeCast S4096x2048 x0 shapeCasts_S4x1024x2048_S4096x2048 (ix2 r b)) (shapeCast S4096x2048 x1 shapeCasts_S4x1024x2048_S4096x2048 (ix2 r b)) (shapeCast S4096x2048 x2 shapeCasts_S4x1024x2048_S4096x2048 (ix2 r b)) (shapeCast S4096x2048 x3 shapeCasts_S4x1024x2048_S4096x2048 (ix2 r b))) := by
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6, Fwd.change, Fwd.first, Fwd.second]

/-- The reference's first moment, by rows. -/
theorem ref_m (x0 x1 : FVec Ideal S4x1024x2048 .f32) (x2 x3 : FVec Ideal S4x1024x2048 .f32) (r : Fin 4096) (b : Fin 2048) :
    @Eq EReal (shapeCast S4096x2048 (val_main_v4 (F := Ideal) x1 x2) shapeCasts_S4x1024x2048_S4096x2048 (ix2 r b)) (Fwd.first (shapeCast S4096x2048 x1 shapeCasts_S4x1024x2048_S4096x2048 (ix2 r b)) (shapeCast S4096x2048 x2 shapeCasts_S4x1024x2048_S4096x2048 (ix2 r b))) := by
  pointwise [val_main_v4, val_main_v1, val_main_v0, val_main_cst, val_main_v3, val_main_v2, val_main_cst_0, Fwd.first]

/-- The reference's second moment, by rows. -/
theorem ref_v (x0 x1 : FVec Ideal S4x1024x2048 .f32) (x2 x3 : FVec Ideal S4x1024x2048 .f32) (r : Fin 4096) (b : Fin 2048) :
    @Eq EReal (shapeCast S4096x2048 (val_main_v10 (F := Ideal) x1 x3) shapeCasts_S4x1024x2048_S4096x2048 (ix2 r b)) (Fwd.second (shapeCast S4096x2048 x1 shapeCasts_S4x1024x2048_S4096x2048 (ix2 r b)) (shapeCast S4096x2048 x3 shapeCasts_S4x1024x2048_S4096x2048 (ix2 r b))) := by
  pointwise [val_main_v10, val_main_v6, val_main_v5, val_main_cst_1, val_main_v9, val_main_v8, val_main_cst_2, val_main_v7, Fwd.second]

/-- A row block of an argument. -/
theorem r0 (t : Fin cfg0.N) (a : Fin 128) (b : Fin 2048) (r : Fin 4096) (hr : r.val = t.val * 128 + a.val) :
    @Eq EReal (iblk m c 0 t (ix2 a b)) (shapeCast S4096x2048 (X0 m c) shapeCasts_S4x1024x2048_S4096x2048 (ix2 r b)) := by
  have ht : t.val < cfg0.N := t.isLt
  have e (G : S4096x2048.Idx → EReal) : G ((win0_0.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r1 (t : Fin cfg0.N) (a : Fin 128) (b : Fin 2048) (r : Fin 4096) (hr : r.val = t.val * 128 + a.val) :
    @Eq EReal (iblk m c 1 t (ix2 a b)) (shapeCast S4096x2048 (X1 m c) shapeCasts_S4x1024x2048_S4096x2048 (ix2 r b)) := by
  have ht : t.val < cfg0.N := t.isLt
  have e (G : S4096x2048.Idx → EReal) : G ((win0_1.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r2 (t : Fin cfg0.N) (a : Fin 128) (b : Fin 2048) (r : Fin 4096) (hr : r.val = t.val * 128 + a.val) :
    @Eq EReal (iblk m c 2 t (ix2 a b)) (shapeCast S4096x2048 (X2 m c) shapeCasts_S4x1024x2048_S4096x2048 (ix2 r b)) := by
  have ht : t.val < cfg0.N := t.isLt
  have e (G : S4096x2048.Idx → EReal) : G ((win0_2.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r3 (t : Fin cfg0.N) (a : Fin 128) (b : Fin 2048) (r : Fin 4096) (hr : r.val = t.val * 128 + a.val) :
    @Eq EReal (iblk m c 3 t (ix2 a b)) (shapeCast S4096x2048 (X3 m c) shapeCasts_S4x1024x2048_S4096x2048 (ix2 r b)) := by
  have ht : t.val < cfg0.N := t.isLt
  have e (G : S4096x2048.Idx → EReal) : G ((win0_3.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final_d : (dats m 0 c).arrAt 4 (cfgs 0).N
    = fun i : S4096x2048.Idx => shapeCast S4096x2048 (val_main_v23 (F := Ideal) (X0 m c) (X1 m c) (X2 m c) (X3 m c)) shapeCasts_S4x1024x2048_S4096x2048 i := by
  refine (dats m 0 c).arrAt_eq_of_covers 4 _ (by decide +kernel) fun t hf y => ?_
  blk_simp; rw [after0_4]
  obtain ⟨a, b, rfl⟩ : ∃ (a : Fin 128) (b : Fin 2048), y = ix2 a b := ⟨y 0, y 1, eq_ix2 y⟩
  have ht : t.val < 32 := lt_of_lt_of_eq t.isLt N_0
  have e (G : S4096x2048.Idx → EReal) : G ((win0_4.blk t).view.emb (ix2 a b)) = G (ix2 ⟨t.val * 128 + a.val, by omega⟩ b) := by
    blk_ext [idx_val t]
  refine Eq.trans ?_ (e (fun i => shapeCast S4096x2048 (val_main_v23 (F := Ideal) (X0 m c) (X1 m c) (X2 m c) (X3 m c)) shapeCasts_S4x1024x2048_S4096x2048 i)).symm
  frame_out
  refine (pay_d _ _ _ _ a b).trans (Eq.trans ?_ (ref_d (X0 m c) (X1 m c) (X2 m c) (X3 m c) _ _).symm)
  exact Fwd.change_congr (r0 m c t a b ⟨t.val * 128 + a.val, by omega⟩ rfl) (r1 m c t a b ⟨t.val * 128 + a.val, by omega⟩ rfl) (r2 m c t a b ⟨t.val * 128 + a.val, by omega⟩ rfl) (r3 m c t a b ⟨t.val * 128 + a.val, by omega⟩ rfl)

/-- The result is that array in the result's shape. -/
theorem tail_d : Pipeline.afterTail₀ cfgs (dats m) 0 (V0 m) [hostOps1] c main_v5
    = shapeCast S4x1024x2048 ((dats m 0 c).arrAt 4 (cfgs 0).N) shapeCasts_S4096x2048_S4x1024x2048 := by
  unfold Pipeline.afterTail₀
  show StableHlo.after hostOps1 _ _ = _
  after_results
  exact congrArg (fun x => shapeCast S4x1024x2048 x shapeCasts_S4096x2048_S4x1024x2048)
    (Pipeline.withArrays_arr (cfgs 0).spec (by decide) c (V0 m c) (fun w => (dats m 0 c).arrAt w (cfgs 0).N) 4)

/-- The result read off the array. -/
theorem result_d : shapeCast S4x1024x2048 ((dats m 0 c).arrAt 4 (cfgs 0).N) shapeCasts_S4096x2048_S4x1024x2048
    = val_main_v23 (F := Ideal) (X0 m c) (X1 m c) (X2 m c) (X3 m c) := by
  rw [final_d]
  exact shapeCast_shapeCast _ _ _

/-- The result array after the run. -/
theorem final_m : (dats m 0 c).arrAt 5 (cfgs 0).N
    = fun i : S4096x2048.Idx => shapeCast S4096x2048 (val_main_v4 (F := Ideal) (X1 m c) (X2 m c)) shapeCasts_S4x1024x2048_S4096x2048 i := by
  refine (dats m 0 c).arrAt_eq_of_covers 5 _ (by decide +kernel) fun t hf y => ?_
  blk_simp; rw [after0_5]
  obtain ⟨a, b, rfl⟩ : ∃ (a : Fin 128) (b : Fin 2048), y = ix2 a b := ⟨y 0, y 1, eq_ix2 y⟩
  have ht : t.val < 32 := lt_of_lt_of_eq t.isLt N_0
  have e (G : S4096x2048.Idx → EReal) : G ((win0_5.blk t).view.emb (ix2 a b)) = G (ix2 ⟨t.val * 128 + a.val, by omega⟩ b) := by
    blk_ext [idx_val t]
  refine Eq.trans ?_ (e (fun i => shapeCast S4096x2048 (val_main_v4 (F := Ideal) (X1 m c) (X2 m c)) shapeCasts_S4x1024x2048_S4096x2048 i)).symm
  frame_out
  refine (pay_m _ _ a b).trans (Eq.trans ?_ (ref_m (X0 m c) (X1 m c) (X2 m c) (X3 m c) _ _).symm)
  exact congrArg₂ Fwd.first (r1 m c t a b ⟨t.val * 128 + a.val, by omega⟩ rfl) (r2 m c t a b ⟨t.val * 128 + a.val, by omega⟩ rfl)

/-- The result is that array in the result's shape. -/
theorem tail_m : Pipeline.afterTail₀ cfgs (dats m) 0 (V0 m) [hostOps1] c main_v6
    = shapeCast S4x1024x2048 ((dats m 0 c).arrAt 5 (cfgs 0).N) shapeCasts_S4096x2048_S4x1024x2048 := by
  unfold Pipeline.afterTail₀
  show StableHlo.after hostOps1 _ _ = _
  after_results
  exact congrArg (fun x => shapeCast S4x1024x2048 x shapeCasts_S4096x2048_S4x1024x2048)
    (Pipeline.withArrays_arr (cfgs 0).spec (by decide) c (V0 m c) (fun w => (dats m 0 c).arrAt w (cfgs 0).N) 5)

/-- The result read off the array. -/
theorem result_m : shapeCast S4x1024x2048 ((dats m 0 c).arrAt 5 (cfgs 0).N) shapeCasts_S4096x2048_S4x1024x2048
    = val_main_v4 (F := Ideal) (X1 m c) (X2 m c) := by
  rw [final_m]
  exact shapeCast_shapeCast _ _ _

/-- The result array after the run. -/
theorem final_v : (dats m 0 c).arrAt 6 (cfgs 0).N
    = fun i : S4096x2048.Idx => shapeCast S4096x2048 (val_main_v10 (F := Ideal) (X1 m c) (X3 m c)) shapeCasts_S4x1024x2048_S4096x2048 i := by
  refine (dats m 0 c).arrAt_eq_of_covers 6 _ (by decide +kernel) fun t hf y => ?_
  blk_simp; rw [after0_6]
  obtain ⟨a, b, rfl⟩ : ∃ (a : Fin 128) (b : Fin 2048), y = ix2 a b := ⟨y 0, y 1, eq_ix2 y⟩
  have ht : t.val < 32 := lt_of_lt_of_eq t.isLt N_0
  have e (G : S4096x2048.Idx → EReal) : G ((win0_6.blk t).view.emb (ix2 a b)) = G (ix2 ⟨t.val * 128 + a.val, by omega⟩ b) := by
    blk_ext [idx_val t]
  refine Eq.trans ?_ (e (fun i => shapeCast S4096x2048 (val_main_v10 (F := Ideal) (X1 m c) (X3 m c)) shapeCasts_S4x1024x2048_S4096x2048 i)).symm
  frame_out
  refine (pay_v _ _ a b).trans (Eq.trans ?_ (ref_v (X0 m c) (X1 m c) (X2 m c) (X3 m c) _ _).symm)
  exact congrArg₂ Fwd.second (r1 m c t a b ⟨t.val * 128 + a.val, by omega⟩ rfl) (r3 m c t a b ⟨t.val * 128 + a.val, by omega⟩ rfl)

/-- The result is that array in the result's shape. -/
theorem tail_v : Pipeline.afterTail₀ cfgs (dats m) 0 (V0 m) [hostOps1] c main_v7
    = shapeCast S4x1024x2048 ((dats m 0 c).arrAt 6 (cfgs 0).N) shapeCasts_S4096x2048_S4x1024x2048 := by
  unfold Pipeline.afterTail₀
  show StableHlo.after hostOps1 _ _ = _
  after_results
  exact congrArg (fun x => shapeCast S4x1024x2048 x shapeCasts_S4096x2048_S4x1024x2048)
    (Pipeline.withArrays_arr (cfgs 0).spec (by decide) c (V0 m c) (fun w => (dats m 0 c).arrAt w (cfgs 0).N) 6)

/-- The result read off the array. -/
theorem result_v : shapeCast S4x1024x2048 ((dats m 0 c).arrAt 6 (cfgs 0).N) shapeCasts_S4096x2048_S4x1024x2048
    = val_main_v10 (F := Ideal) (X1 m c) (X3 m c) := by
  rw [final_v]
  exact shapeCast_shapeCast _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v5) = val_main_v23 (F := Ideal) (X0 m c) (X1 m c) (X2 m c) (X3 m c)
      ∧ r.2.mem ((c.tc : Thread nD τ).loc main_v6) = val_main_v4 (F := Ideal) (X1 m c) (X2 m c)
      ∧ r.2.mem ((c.tc : Thread nD τ).loc main_v7) = val_main_v10 (F := Ideal) (X1 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr.1 c).2 main_v5 (by decide)).trans ((tail_d m c).trans (result_d m c)), ((hr.1 c).2 main_v6 (by decide)).trans ((tail_m m c).trans (result_m m c)), ((hr.1 c).2 main_v7 (by decide)).trans ((tail_v m c).trans (result_v m c)), hr.2 c⟩)
    (θ_run_and (run_main m ρ) (unchanged m ρ))

end Cert.Proof.AdamIn

end
-- ==== Proof.AdamBranch.lean ====
/-
  The optimiser's step of w_branch.
-/
module

public import proofs.«01_k».proof.Proof.Gen.AdamBranchIdeal.Frame
public import proofs.«01_k».proof.Proof.Gen.AdamBranchReferenceIdeal.Run
public import proofs.«01_k».proof.Proof.Gen.AdamBranchReferenceIdeal.Read
public import proofs.«01_k».proof.Proof.Fwd
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.AdamBranch

open Cert.AdamBranchIdeal Cert.AdamBranchIdeal.Gen Cert.AdamBranchReferenceIdeal.Read

variable (m : (ℓ : Loc nD τ sig) → Buf (Elt Ideal) ℓ)

/-- The block each window stands at, in the number of the grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

variable (c : Dev nD)

/-! The arguments on a device. -/
abbrev X0 : FVec Ideal S4x4x512x256 .f32 := m ((c : Thread nD τ).loc main_arg0)
abbrev X1 : FVec Ideal S4x4x512x256 .f32 := m ((c : Thread nD τ).loc main_arg1)
abbrev X2 : FVec Ideal S4x4x512x256 .f32 := m ((c : Thread nD τ).loc main_arg2)
abbrev X3 : FVec Ideal S4x4x512x256 .f32 := m ((c : Thread nD τ).loc main_arg3)

/-- The body's first value: the weight's change. -/
theorem pay_d (v0 v2 v4 v6 : FVec Ideal S1024x256 .f32) (a : Fin 1024) (b : Fin 256) :
    @Eq EReal (k0_pay4 (F := Ideal) v0 v2 v4 v6 (ix2 a b)) (Fwd.change (v0 (ix2 a b)) (v2 (ix2 a b)) (v4 (ix2 a b)) (v6 (ix2 a b))) := by
  pointwise [k0_pay4, k0_pay3, k0_pay2, k0_pay1, Fwd.change, Fwd.first, Fwd.second]

/-- The body's second value: the first moment. -/
theorem pay_m (v2 v4 : FVec Ideal S1024x256 .f32) (a : Fin 1024) (b : Fin 256) :
    @Eq EReal (k0_pay2 (F := Ideal) v2 v4 (ix2 a b)) (Fwd.first (v2 (ix2 a b)) (v4 (ix2 a b))) := by
  pointwise [k0_pay2, k0_pay1, Fwd.first]

/-- The body's third value: the second moment. -/
theorem pay_v (v2 v6 : FVec Ideal S1024x256 .f32) (a : Fin 1024) (b : Fin 256) :
    @Eq EReal (k0_pay3 (F := Ideal) v2 v6 (ix2 a b)) (Fwd.second (v2 (ix2 a b)) (v6 (ix2 a b))) := by
  pointwise [k0_pay3, k0_pay1, Fwd.second]

/-- The reference's change of the weight, by rows. -/
theorem ref_d (x0 x1 : FVec Ideal S4x4x512x256 .f32) (x2 x3 : FVec Ideal S4x4x512x256 .f32) (r : Fin 8192) (b : Fin 256) :
    @Eq EReal (shapeCast S8192x256 (val_main_v23 (F := Ideal) x0 x1 x2 x3) shapeCasts_S4x4x512x256_S8192x256 (ix2 r b)) (Fwd.change (shapeCast S8192x256 x0 shapeCasts_S4x4x512x256_S8192x256 (ix2 r b)) (shapeCast S8192x256 x1 shapeCasts_S4x4x512x256_S8192x256 (ix2 r b)) (shapeCast S8192x256 x2 shapeCasts_S4x4x512x256_S8192x256 (ix2 r b)) (shapeCast S8192x256 x3 shapeCasts_S4x4x512x256_S8192x256 (ix2 r b))) := by
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6, Fwd.change, Fwd.first, Fwd.second]

/-- The reference's first moment, by rows. -/
theorem ref_m (x0 x1 : FVec Ideal S4x4x512x256 .f32) (x2 x3 : FVec Ideal S4x4x512x256 .f32) (r : Fin 8192) (b : Fin 256) :
    @Eq EReal (shapeCast S8192x256 (val_main_v4 (F := Ideal) x1 x2) shapeCasts_S4x4x512x256_S8192x256 (ix2 r b)) (Fwd.first (shapeCast S8192x256 x1 shapeCasts_S4x4x512x256_S8192x256 (ix2 r b)) (shapeCast S8192x256 x2 shapeCasts_S4x4x512x256_S8192x256 (ix2 r b))) := by
  pointwise [val_main_v4, val_main_v1, val_main_v0, val_main_cst, val_main_v3, val_main_v2, val_main_cst_0, Fwd.first]

/-- The reference's second moment, by rows. -/
theorem ref_v (x0 x1 : FVec Ideal S4x4x512x256 .f32) (x2 x3 : FVec Ideal S4x4x512x256 .f32) (r : Fin 8192) (b : Fin 256) :
    @Eq EReal (shapeCast S8192x256 (val_main_v10 (F := Ideal) x1 x3) shapeCasts_S4x4x512x256_S8192x256 (ix2 r b)) (Fwd.second (shapeCast S8192x256 x1 shapeCasts_S4x4x512x256_S8192x256 (ix2 r b)) (shapeCast S8192x256 x3 shapeCasts_S4x4x512x256_S8192x256 (ix2 r b))) := by
  pointwise [val_main_v10, val_main_v6, val_main_v5, val_main_cst_1, val_main_v9, val_main_v8, val_main_cst_2, val_main_v7, Fwd.second]

/-- A row block of an argument. -/
theorem r0 (t : Fin cfg0.N) (a : Fin 1024) (b : Fin 256) (r : Fin 8192) (hr : r.val = t.val * 1024 + a.val) :
    @Eq EReal (iblk m c 0 t (ix2 a b)) (shapeCast S8192x256 (X0 m c) shapeCasts_S4x4x512x256_S8192x256 (ix2 r b)) := by
  have ht : t.val < cfg0.N := t.isLt
  have e (G : S8192x256.Idx → EReal) : G ((win0_0.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r1 (t : Fin cfg0.N) (a : Fin 1024) (b : Fin 256) (r : Fin 8192) (hr : r.val = t.val * 1024 + a.val) :
    @Eq EReal (iblk m c 1 t (ix2 a b)) (shapeCast S8192x256 (X1 m c) shapeCasts_S4x4x512x256_S8192x256 (ix2 r b)) := by
  have ht : t.val < cfg0.N := t.isLt
  have e (G : S8192x256.Idx → EReal) : G ((win0_1.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r2 (t : Fin cfg0.N) (a : Fin 1024) (b : Fin 256) (r : Fin 8192) (hr : r.val = t.val * 1024 + a.val) :
    @Eq EReal (iblk m c 2 t (ix2 a b)) (shapeCast S8192x256 (X2 m c) shapeCasts_S4x4x512x256_S8192x256 (ix2 r b)) := by
  have ht : t.val < cfg0.N := t.isLt
  have e (G : S8192x256.Idx → EReal) : G ((win0_2.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r3 (t : Fin cfg0.N) (a : Fin 1024) (b : Fin 256) (r : Fin 8192) (hr : r.val = t.val * 1024 + a.val) :
    @Eq EReal (iblk m c 3 t (ix2 a b)) (shapeCast S8192x256 (X3 m c) shapeCasts_S4x4x512x256_S8192x256 (ix2 r b)) := by
  have ht : t.val < cfg0.N := t.isLt
  have e (G : S8192x256.Idx → EReal) : G ((win0_3.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final_d : (dats m 0 c).arrAt 4 (cfgs 0).N
    = fun i : S8192x256.Idx => shapeCast S8192x256 (val_main_v23 (F := Ideal) (X0 m c) (X1 m c) (X2 m c) (X3 m c)) shapeCasts_S4x4x512x256_S8192x256 i := by
  refine (dats m 0 c).arrAt_eq_of_covers 4 _ (by decide +kernel) fun t hf y => ?_
  blk_simp; rw [after0_4]
  obtain ⟨a, b, rfl⟩ : ∃ (a : Fin 1024) (b : Fin 256), y = ix2 a b := ⟨y 0, y 1, eq_ix2 y⟩
  have ht : t.val < 8 := lt_of_lt_of_eq t.isLt N_0
  have e (G : S8192x256.Idx → EReal) : G ((win0_4.blk t).view.emb (ix2 a b)) = G (ix2 ⟨t.val * 1024 + a.val, by omega⟩ b) := by
    blk_ext [idx_val t]
  refine Eq.trans ?_ (e (fun i => shapeCast S8192x256 (val_main_v23 (F := Ideal) (X0 m c) (X1 m c) (X2 m c) (X3 m c)) shapeCasts_S4x4x512x256_S8192x256 i)).symm
  frame_out
  refine (pay_d _ _ _ _ a b).trans (Eq.trans ?_ (ref_d (X0 m c) (X1 m c) (X2 m c) (X3 m c) _ _).symm)
  exact Fwd.change_congr (r0 m c t a b ⟨t.val * 1024 + a.val, by omega⟩ rfl) (r1 m c t a b ⟨t.val * 1024 + a.val, by omega⟩ rfl) (r2 m c t a b ⟨t.val * 1024 + a.val, by omega⟩ rfl) (r3 m c t a b ⟨t.val * 1024 + a.val, by omega⟩ rfl)

/-- The result is that array in the result's shape. -/
theorem tail_d : Pipeline.afterTail₀ cfgs (dats m) 0 (V0 m) [hostOps1] c main_v5
    = shapeCast S4x4x512x256 ((dats m 0 c).arrAt 4 (cfgs 0).N) shapeCasts_S8192x256_S4x4x512x256 := by
  unfold Pipeline.afterTail₀
  show StableHlo.after hostOps1 _ _ = _
  after_results
  exact congrArg (fun x => shapeCast S4x4x512x256 x shapeCasts_S8192x256_S4x4x512x256)
    (Pipeline.withArrays_arr (cfgs 0).spec (by decide) c (V0 m c) (fun w => (dats m 0 c).arrAt w (cfgs 0).N) 4)

/-- The result read off the array. -/
theorem result_d : shapeCast S4x4x512x256 ((dats m 0 c).arrAt 4 (cfgs 0).N) shapeCasts_S8192x256_S4x4x512x256
    = val_main_v23 (F := Ideal) (X0 m c) (X1 m c) (X2 m c) (X3 m c) := by
  rw [final_d]
  exact shapeCast_shapeCast _ _ _

/-- The result array after the run. -/
theorem final_m : (dats m 0 c).arrAt 5 (cfgs 0).N
    = fun i : S8192x256.Idx => shapeCast S8192x256 (val_main_v4 (F := Ideal) (X1 m c) (X2 m c)) shapeCasts_S4x4x512x256_S8192x256 i := by
  refine (dats m 0 c).arrAt_eq_of_covers 5 _ (by decide +kernel) fun t hf y => ?_
  blk_simp; rw [after0_5]
  obtain ⟨a, b, rfl⟩ : ∃ (a : Fin 1024) (b : Fin 256), y = ix2 a b := ⟨y 0, y 1, eq_ix2 y⟩
  have ht : t.val < 8 := lt_of_lt_of_eq t.isLt N_0
  have e (G : S8192x256.Idx → EReal) : G ((win0_5.blk t).view.emb (ix2 a b)) = G (ix2 ⟨t.val * 1024 + a.val, by omega⟩ b) := by
    blk_ext [idx_val t]
  refine Eq.trans ?_ (e (fun i => shapeCast S8192x256 (val_main_v4 (F := Ideal) (X1 m c) (X2 m c)) shapeCasts_S4x4x512x256_S8192x256 i)).symm
  frame_out
  refine (pay_m _ _ a b).trans (Eq.trans ?_ (ref_m (X0 m c) (X1 m c) (X2 m c) (X3 m c) _ _).symm)
  exact congrArg₂ Fwd.first (r1 m c t a b ⟨t.val * 1024 + a.val, by omega⟩ rfl) (r2 m c t a b ⟨t.val * 1024 + a.val, by omega⟩ rfl)

/-- The result is that array in the result's shape. -/
theorem tail_m : Pipeline.afterTail₀ cfgs (dats m) 0 (V0 m) [hostOps1] c main_v6
    = shapeCast S4x4x512x256 ((dats m 0 c).arrAt 5 (cfgs 0).N) shapeCasts_S8192x256_S4x4x512x256 := by
  unfold Pipeline.afterTail₀
  show StableHlo.after hostOps1 _ _ = _
  after_results
  exact congrArg (fun x => shapeCast S4x4x512x256 x shapeCasts_S8192x256_S4x4x512x256)
    (Pipeline.withArrays_arr (cfgs 0).spec (by decide) c (V0 m c) (fun w => (dats m 0 c).arrAt w (cfgs 0).N) 5)

/-- The result read off the array. -/
theorem result_m : shapeCast S4x4x512x256 ((dats m 0 c).arrAt 5 (cfgs 0).N) shapeCasts_S8192x256_S4x4x512x256
    = val_main_v4 (F := Ideal) (X1 m c) (X2 m c) := by
  rw [final_m]
  exact shapeCast_shapeCast _ _ _

/-- The result array after the run. -/
theorem final_v : (dats m 0 c).arrAt 6 (cfgs 0).N
    = fun i : S8192x256.Idx => shapeCast S8192x256 (val_main_v10 (F := Ideal) (X1 m c) (X3 m c)) shapeCasts_S4x4x512x256_S8192x256 i := by
  refine (dats m 0 c).arrAt_eq_of_covers 6 _ (by decide +kernel) fun t hf y => ?_
  blk_simp; rw [after0_6]
  obtain ⟨a, b, rfl⟩ : ∃ (a : Fin 1024) (b : Fin 256), y = ix2 a b := ⟨y 0, y 1, eq_ix2 y⟩
  have ht : t.val < 8 := lt_of_lt_of_eq t.isLt N_0
  have e (G : S8192x256.Idx → EReal) : G ((win0_6.blk t).view.emb (ix2 a b)) = G (ix2 ⟨t.val * 1024 + a.val, by omega⟩ b) := by
    blk_ext [idx_val t]
  refine Eq.trans ?_ (e (fun i => shapeCast S8192x256 (val_main_v10 (F := Ideal) (X1 m c) (X3 m c)) shapeCasts_S4x4x512x256_S8192x256 i)).symm
  frame_out
  refine (pay_v _ _ a b).trans (Eq.trans ?_ (ref_v (X0 m c) (X1 m c) (X2 m c) (X3 m c) _ _).symm)
  exact congrArg₂ Fwd.second (r1 m c t a b ⟨t.val * 1024 + a.val, by omega⟩ rfl) (r3 m c t a b ⟨t.val * 1024 + a.val, by omega⟩ rfl)

/-- The result is that array in the result's shape. -/
theorem tail_v : Pipeline.afterTail₀ cfgs (dats m) 0 (V0 m) [hostOps1] c main_v7
    = shapeCast S4x4x512x256 ((dats m 0 c).arrAt 6 (cfgs 0).N) shapeCasts_S8192x256_S4x4x512x256 := by
  unfold Pipeline.afterTail₀
  show StableHlo.after hostOps1 _ _ = _
  after_results
  exact congrArg (fun x => shapeCast S4x4x512x256 x shapeCasts_S8192x256_S4x4x512x256)
    (Pipeline.withArrays_arr (cfgs 0).spec (by decide) c (V0 m c) (fun w => (dats m 0 c).arrAt w (cfgs 0).N) 6)

/-- The result read off the array. -/
theorem result_v : shapeCast S4x4x512x256 ((dats m 0 c).arrAt 6 (cfgs 0).N) shapeCasts_S8192x256_S4x4x512x256
    = val_main_v10 (F := Ideal) (X1 m c) (X3 m c) := by
  rw [final_v]
  exact shapeCast_shapeCast _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v5) = val_main_v23 (F := Ideal) (X0 m c) (X1 m c) (X2 m c) (X3 m c)
      ∧ r.2.mem ((c.tc : Thread nD τ).loc main_v6) = val_main_v4 (F := Ideal) (X1 m c) (X2 m c)
      ∧ r.2.mem ((c.tc : Thread nD τ).loc main_v7) = val_main_v10 (F := Ideal) (X1 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr.1 c).2 main_v5 (by decide)).trans ((tail_d m c).trans (result_d m c)), ((hr.1 c).2 main_v6 (by decide)).trans ((tail_m m c).trans (result_m m c)), ((hr.1 c).2 main_v7 (by decide)).trans ((tail_v m c).trans (result_v m c)), hr.2 c⟩)
    (θ_run_and (run_main m ρ) (unchanged m ρ))

end Cert.Proof.AdamBranch

end
-- ==== Proof.AdamOut.lean ====
/-
  The optimiser's step of w_out.
-/
module

public import proofs.«01_k».proof.Proof.Gen.AdamOutIdeal.Frame
public import proofs.«01_k».proof.Proof.Gen.AdamOutReferenceIdeal.Run
public import proofs.«01_k».proof.Proof.Gen.AdamOutReferenceIdeal.Read
public import proofs.«01_k».proof.Proof.Fwd
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.AdamOut

open Cert.AdamOutIdeal Cert.AdamOutIdeal.Gen Cert.AdamOutReferenceIdeal.Read

variable (m : (ℓ : Loc nD τ sig) → Buf (Elt Ideal) ℓ)

/-- The block each window stands at, in the number of the grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

variable (c : Dev nD)

/-! The arguments on a device. -/
abbrev X0 : FVec Ideal S4x256x1024 .f32 := m ((c : Thread nD τ).loc main_arg0)
abbrev X1 : FVec Ideal S4x256x1024 .f32 := m ((c : Thread nD τ).loc main_arg1)
abbrev X2 : FVec Ideal S4x256x1024 .f32 := m ((c : Thread nD τ).loc main_arg2)
abbrev X3 : FVec Ideal S4x256x1024 .f32 := m ((c : Thread nD τ).loc main_arg3)

/-- The body's first value: the weight's change. -/
theorem pay_d (v0 v2 v4 v6 : FVec Ideal S256x1024 .f32) (a : Fin 256) (b : Fin 1024) :
    @Eq EReal (k0_pay4 (F := Ideal) v0 v2 v4 v6 (ix2 a b)) (Fwd.change (v0 (ix2 a b)) (v2 (ix2 a b)) (v4 (ix2 a b)) (v6 (ix2 a b))) := by
  pointwise [k0_pay4, k0_pay3, k0_pay2, k0_pay1, Fwd.change, Fwd.first, Fwd.second]

/-- The body's second value: the first moment. -/
theorem pay_m (v2 v4 : FVec Ideal S256x1024 .f32) (a : Fin 256) (b : Fin 1024) :
    @Eq EReal (k0_pay2 (F := Ideal) v2 v4 (ix2 a b)) (Fwd.first (v2 (ix2 a b)) (v4 (ix2 a b))) := by
  pointwise [k0_pay2, k0_pay1, Fwd.first]

/-- The body's third value: the second moment. -/
theorem pay_v (v2 v6 : FVec Ideal S256x1024 .f32) (a : Fin 256) (b : Fin 1024) :
    @Eq EReal (k0_pay3 (F := Ideal) v2 v6 (ix2 a b)) (Fwd.second (v2 (ix2 a b)) (v6 (ix2 a b))) := by
  pointwise [k0_pay3, k0_pay1, Fwd.second]

/-- The reference's change of the weight, by rows. -/
theorem ref_d (x0 x1 : FVec Ideal S4x256x1024 .f32) (x2 x3 : FVec Ideal S4x256x1024 .f32) (r : Fin 1024) (b : Fin 1024) :
    @Eq EReal (shapeCast S1024x1024 (val_main_v23 (F := Ideal) x0 x1 x2 x3) shapeCasts_S4x256x1024_S1024x1024 (ix2 r b)) (Fwd.change (shapeCast S1024x1024 x0 shapeCasts_S4x256x1024_S1024x1024 (ix2 r b)) (shapeCast S1024x1024 x1 shapeCasts_S4x256x1024_S1024x1024 (ix2 r b)) (shapeCast S1024x1024 x2 shapeCasts_S4x256x1024_S1024x1024 (ix2 r b)) (shapeCast S1024x1024 x3 shapeCasts_S4x256x1024_S1024x1024 (ix2 r b))) := by
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6, Fwd.change, Fwd.first, Fwd.second]

/-- The reference's first moment, by rows. -/
theorem ref_m (x0 x1 : FVec Ideal S4x256x1024 .f32) (x2 x3 : FVec Ideal S4x256x1024 .f32) (r : Fin 1024) (b : Fin 1024) :
    @Eq EReal (shapeCast S1024x1024 (val_main_v4 (F := Ideal) x1 x2) shapeCasts_S4x256x1024_S1024x1024 (ix2 r b)) (Fwd.first (shapeCast S1024x1024 x1 shapeCasts_S4x256x1024_S1024x1024 (ix2 r b)) (shapeCast S1024x1024 x2 shapeCasts_S4x256x1024_S1024x1024 (ix2 r b))) := by
  pointwise [val_main_v4, val_main_v1, val_main_v0, val_main_cst, val_main_v3, val_main_v2, val_main_cst_0, Fwd.first]

/-- The reference's second moment, by rows. -/
theorem ref_v (x0 x1 : FVec Ideal S4x256x1024 .f32) (x2 x3 : FVec Ideal S4x256x1024 .f32) (r : Fin 1024) (b : Fin 1024) :
    @Eq EReal (shapeCast S1024x1024 (val_main_v10 (F := Ideal) x1 x3) shapeCasts_S4x256x1024_S1024x1024 (ix2 r b)) (Fwd.second (shapeCast S1024x1024 x1 shapeCasts_S4x256x1024_S1024x1024 (ix2 r b)) (shapeCast S1024x1024 x3 shapeCasts_S4x256x1024_S1024x1024 (ix2 r b))) := by
  pointwise [val_main_v10, val_main_v6, val_main_v5, val_main_cst_1, val_main_v9, val_main_v8, val_main_cst_2, val_main_v7, Fwd.second]

/-- A row block of an argument. -/
theorem r0 (t : Fin cfg0.N) (a : Fin 256) (b : Fin 1024) (r : Fin 1024) (hr : r.val = t.val * 256 + a.val) :
    @Eq EReal (iblk m c 0 t (ix2 a b)) (shapeCast S1024x1024 (X0 m c) shapeCasts_S4x256x1024_S1024x1024 (ix2 r b)) := by
  have ht : t.val < cfg0.N := t.isLt
  have e (G : S1024x1024.Idx → EReal) : G ((win0_0.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r1 (t : Fin cfg0.N) (a : Fin 256) (b : Fin 1024) (r : Fin 1024) (hr : r.val = t.val * 256 + a.val) :
    @Eq EReal (iblk m c 1 t (ix2 a b)) (shapeCast S1024x1024 (X1 m c) shapeCasts_S4x256x1024_S1024x1024 (ix2 r b)) := by
  have ht : t.val < cfg0.N := t.isLt
  have e (G : S1024x1024.Idx → EReal) : G ((win0_1.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r2 (t : Fin cfg0.N) (a : Fin 256) (b : Fin 1024) (r : Fin 1024) (hr : r.val = t.val * 256 + a.val) :
    @Eq EReal (iblk m c 2 t (ix2 a b)) (shapeCast S1024x1024 (X2 m c) shapeCasts_S4x256x1024_S1024x1024 (ix2 r b)) := by
  have ht : t.val < cfg0.N := t.isLt
  have e (G : S1024x1024.Idx → EReal) : G ((win0_2.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r3 (t : Fin cfg0.N) (a : Fin 256) (b : Fin 1024) (r : Fin 1024) (hr : r.val = t.val * 256 + a.val) :
    @Eq EReal (iblk m c 3 t (ix2 a b)) (shapeCast S1024x1024 (X3 m c) shapeCasts_S4x256x1024_S1024x1024 (ix2 r b)) := by
  have ht : t.val < cfg0.N := t.isLt
  have e (G : S1024x1024.Idx → EReal) : G ((win0_3.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final_d : (dats m 0 c).arrAt 4 (cfgs 0).N
    = fun i : S1024x1024.Idx => shapeCast S1024x1024 (val_main_v23 (F := Ideal) (X0 m c) (X1 m c) (X2 m c) (X3 m c)) shapeCasts_S4x256x1024_S1024x1024 i := by
  refine (dats m 0 c).arrAt_eq_of_covers 4 _ (by decide +kernel) fun t hf y => ?_
  blk_simp; rw [after0_4]
  obtain ⟨a, b, rfl⟩ : ∃ (a : Fin 256) (b : Fin 1024), y = ix2 a b := ⟨y 0, y 1, eq_ix2 y⟩
  have ht : t.val < 4 := lt_of_lt_of_eq t.isLt N_0
  have e (G : S1024x1024.Idx → EReal) : G ((win0_4.blk t).view.emb (ix2 a b)) = G (ix2 ⟨t.val * 256 + a.val, by omega⟩ b) := by
    blk_ext [idx_val t]
  refine Eq.trans ?_ (e (fun i => shapeCast S1024x1024 (val_main_v23 (F := Ideal) (X0 m c) (X1 m c) (X2 m c) (X3 m c)) shapeCasts_S4x256x1024_S1024x1024 i)).symm
  frame_out
  refine (pay_d _ _ _ _ a b).trans (Eq.trans ?_ (ref_d (X0 m c) (X1 m c) (X2 m c) (X3 m c) _ _).symm)
  exact Fwd.change_congr (r0 m c t a b ⟨t.val * 256 + a.val, by omega⟩ rfl) (r1 m c t a b ⟨t.val * 256 + a.val, by omega⟩ rfl) (r2 m c t a b ⟨t.val * 256 + a.val, by omega⟩ rfl) (r3 m c t a b ⟨t.val * 256 + a.val, by omega⟩ rfl)

/-- The result is that array in the result's shape. -/
theorem tail_d : Pipeline.afterTail₀ cfgs (dats m) 0 (V0 m) [hostOps1] c main_v5
    = shapeCast S4x256x1024 ((dats m 0 c).arrAt 4 (cfgs 0).N) shapeCasts_S1024x1024_S4x256x1024 := by
  unfold Pipeline.afterTail₀
  show StableHlo.after hostOps1 _ _ = _
  after_results
  exact congrArg (fun x => shapeCast S4x256x1024 x shapeCasts_S1024x1024_S4x256x1024)
    (Pipeline.withArrays_arr (cfgs 0).spec (by decide) c (V0 m c) (fun w => (dats m 0 c).arrAt w (cfgs 0).N) 4)

/-- The result read off the array. -/
theorem result_d : shapeCast S4x256x1024 ((dats m 0 c).arrAt 4 (cfgs 0).N) shapeCasts_S1024x1024_S4x256x1024
    = val_main_v23 (F := Ideal) (X0 m c) (X1 m c) (X2 m c) (X3 m c) := by
  rw [final_d]
  exact shapeCast_shapeCast _ _ _

/-- The result array after the run. -/
theorem final_m : (dats m 0 c).arrAt 5 (cfgs 0).N
    = fun i : S1024x1024.Idx => shapeCast S1024x1024 (val_main_v4 (F := Ideal) (X1 m c) (X2 m c)) shapeCasts_S4x256x1024_S1024x1024 i := by
  refine (dats m 0 c).arrAt_eq_of_covers 5 _ (by decide +kernel) fun t hf y => ?_
  blk_simp; rw [after0_5]
  obtain ⟨a, b, rfl⟩ : ∃ (a : Fin 256) (b : Fin 1024), y = ix2 a b := ⟨y 0, y 1, eq_ix2 y⟩
  have ht : t.val < 4 := lt_of_lt_of_eq t.isLt N_0
  have e (G : S1024x1024.Idx → EReal) : G ((win0_5.blk t).view.emb (ix2 a b)) = G (ix2 ⟨t.val * 256 + a.val, by omega⟩ b) := by
    blk_ext [idx_val t]
  refine Eq.trans ?_ (e (fun i => shapeCast S1024x1024 (val_main_v4 (F := Ideal) (X1 m c) (X2 m c)) shapeCasts_S4x256x1024_S1024x1024 i)).symm
  frame_out
  refine (pay_m _ _ a b).trans (Eq.trans ?_ (ref_m (X0 m c) (X1 m c) (X2 m c) (X3 m c) _ _).symm)
  exact congrArg₂ Fwd.first (r1 m c t a b ⟨t.val * 256 + a.val, by omega⟩ rfl) (r2 m c t a b ⟨t.val * 256 + a.val, by omega⟩ rfl)

/-- The result is that array in the result's shape. -/
theorem tail_m : Pipeline.afterTail₀ cfgs (dats m) 0 (V0 m) [hostOps1] c main_v6
    = shapeCast S4x256x1024 ((dats m 0 c).arrAt 5 (cfgs 0).N) shapeCasts_S1024x1024_S4x256x1024 := by
  unfold Pipeline.afterTail₀
  show StableHlo.after hostOps1 _ _ = _
  after_results
  exact congrArg (fun x => shapeCast S4x256x1024 x shapeCasts_S1024x1024_S4x256x1024)
    (Pipeline.withArrays_arr (cfgs 0).spec (by decide) c (V0 m c) (fun w => (dats m 0 c).arrAt w (cfgs 0).N) 5)

/-- The result read off the array. -/
theorem result_m : shapeCast S4x256x1024 ((dats m 0 c).arrAt 5 (cfgs 0).N) shapeCasts_S1024x1024_S4x256x1024
    = val_main_v4 (F := Ideal) (X1 m c) (X2 m c) := by
  rw [final_m]
  exact shapeCast_shapeCast _ _ _

/-- The result array after the run. -/
theorem final_v : (dats m 0 c).arrAt 6 (cfgs 0).N
    = fun i : S1024x1024.Idx => shapeCast S1024x1024 (val_main_v10 (F := Ideal) (X1 m c) (X3 m c)) shapeCasts_S4x256x1024_S1024x1024 i := by
  refine (dats m 0 c).arrAt_eq_of_covers 6 _ (by decide +kernel) fun t hf y => ?_
  blk_simp; rw [after0_6]
  obtain ⟨a, b, rfl⟩ : ∃ (a : Fin 256) (b : Fin 1024), y = ix2 a b := ⟨y 0, y 1, eq_ix2 y⟩
  have ht : t.val < 4 := lt_of_lt_of_eq t.isLt N_0
  have e (G : S1024x1024.Idx → EReal) : G ((win0_6.blk t).view.emb (ix2 a b)) = G (ix2 ⟨t.val * 256 + a.val, by omega⟩ b) := by
    blk_ext [idx_val t]
  refine Eq.trans ?_ (e (fun i => shapeCast S1024x1024 (val_main_v10 (F := Ideal) (X1 m c) (X3 m c)) shapeCasts_S4x256x1024_S1024x1024 i)).symm
  frame_out
  refine (pay_v _ _ a b).trans (Eq.trans ?_ (ref_v (X0 m c) (X1 m c) (X2 m c) (X3 m c) _ _).symm)
  exact congrArg₂ Fwd.second (r1 m c t a b ⟨t.val * 256 + a.val, by omega⟩ rfl) (r3 m c t a b ⟨t.val * 256 + a.val, by omega⟩ rfl)

/-- The result is that array in the result's shape. -/
theorem tail_v : Pipeline.afterTail₀ cfgs (dats m) 0 (V0 m) [hostOps1] c main_v7
    = shapeCast S4x256x1024 ((dats m 0 c).arrAt 6 (cfgs 0).N) shapeCasts_S1024x1024_S4x256x1024 := by
  unfold Pipeline.afterTail₀
  show StableHlo.after hostOps1 _ _ = _
  after_results
  exact congrArg (fun x => shapeCast S4x256x1024 x shapeCasts_S1024x1024_S4x256x1024)
    (Pipeline.withArrays_arr (cfgs 0).spec (by decide) c (V0 m c) (fun w => (dats m 0 c).arrAt w (cfgs 0).N) 6)

/-- The result read off the array. -/
theorem result_v : shapeCast S4x256x1024 ((dats m 0 c).arrAt 6 (cfgs 0).N) shapeCasts_S1024x1024_S4x256x1024
    = val_main_v10 (F := Ideal) (X1 m c) (X3 m c) := by
  rw [final_v]
  exact shapeCast_shapeCast _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v5) = val_main_v23 (F := Ideal) (X0 m c) (X1 m c) (X2 m c) (X3 m c)
      ∧ r.2.mem ((c.tc : Thread nD τ).loc main_v6) = val_main_v4 (F := Ideal) (X1 m c) (X2 m c)
      ∧ r.2.mem ((c.tc : Thread nD τ).loc main_v7) = val_main_v10 (F := Ideal) (X1 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr.1 c).2 main_v5 (by decide)).trans ((tail_d m c).trans (result_d m c)), ((hr.1 c).2 main_v6 (by decide)).trans ((tail_m m c).trans (result_m m c)), ((hr.1 c).2 main_v7 (by decide)).trans ((tail_v m c).trans (result_v m c)), hr.2 c⟩)
    (θ_run_and (run_main m ρ) (unchanged m ρ))

end Cert.Proof.AdamOut

end
-- ==== Proof.AdamUp.lean ====
/-
  The optimiser's step of w_up.
-/
module

public import proofs.«01_k».proof.Proof.Gen.AdamUpIdeal.Frame
public import proofs.«01_k».proof.Proof.Gen.AdamUpReferenceIdeal.Run
public import proofs.«01_k».proof.Proof.Gen.AdamUpReferenceIdeal.Read
public import proofs.«01_k».proof.Proof.Fwd
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.AdamUp

open Cert.AdamUpIdeal Cert.AdamUpIdeal.Gen Cert.AdamUpReferenceIdeal.Read

variable (m : (ℓ : Loc nD τ sig) → Buf (Elt Ideal) ℓ)

/-- The block each window stands at, in the number of the grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

variable (c : Dev nD)

/-! The arguments on a device. -/
abbrev X0 : FVec Ideal S4x1024x1024 .f32 := m ((c : Thread nD τ).loc main_arg0)
abbrev X1 : FVec Ideal S4x1024x1024 .f32 := m ((c : Thread nD τ).loc main_arg1)
abbrev X2 : FVec Ideal S4x1024x1024 .f32 := m ((c : Thread nD τ).loc main_arg2)
abbrev X3 : FVec Ideal S4x1024x1024 .f32 := m ((c : Thread nD τ).loc main_arg3)

/-- The body's first value: the weight's change. -/
theorem pay_d (v0 v2 v4 v6 : FVec Ideal S256x1024 .f32) (a : Fin 256) (b : Fin 1024) :
    @Eq EReal (k0_pay4 (F := Ideal) v0 v2 v4 v6 (ix2 a b)) (Fwd.change (v0 (ix2 a b)) (v2 (ix2 a b)) (v4 (ix2 a b)) (v6 (ix2 a b))) := by
  pointwise [k0_pay4, k0_pay3, k0_pay2, k0_pay1, Fwd.change, Fwd.first, Fwd.second]

/-- The body's second value: the first moment. -/
theorem pay_m (v2 v4 : FVec Ideal S256x1024 .f32) (a : Fin 256) (b : Fin 1024) :
    @Eq EReal (k0_pay2 (F := Ideal) v2 v4 (ix2 a b)) (Fwd.first (v2 (ix2 a b)) (v4 (ix2 a b))) := by
  pointwise [k0_pay2, k0_pay1, Fwd.first]

/-- The body's third value: the second moment. -/
theorem pay_v (v2 v6 : FVec Ideal S256x1024 .f32) (a : Fin 256) (b : Fin 1024) :
    @Eq EReal (k0_pay3 (F := Ideal) v2 v6 (ix2 a b)) (Fwd.second (v2 (ix2 a b)) (v6 (ix2 a b))) := by
  pointwise [k0_pay3, k0_pay1, Fwd.second]

/-- The reference's change of the weight, by rows. -/
theorem ref_d (x0 x1 : FVec Ideal S4x1024x1024 .f32) (x2 x3 : FVec Ideal S4x1024x1024 .f32) (r : Fin 4096) (b : Fin 1024) :
    @Eq EReal (shapeCast S4096x1024 (val_main_v23 (F := Ideal) x0 x1 x2 x3) shapeCasts_S4x1024x1024_S4096x1024 (ix2 r b)) (Fwd.change (shapeCast S4096x1024 x0 shapeCasts_S4x1024x1024_S4096x1024 (ix2 r b)) (shapeCast S4096x1024 x1 shapeCasts_S4x1024x1024_S4096x1024 (ix2 r b)) (shapeCast S4096x1024 x2 shapeCasts_S4x1024x1024_S4096x1024 (ix2 r b)) (shapeCast S4096x1024 x3 shapeCasts_S4x1024x1024_S4096x1024 (ix2 r b))) := by
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6, Fwd.change, Fwd.first, Fwd.second]

/-- The reference's first moment, by rows. -/
theorem ref_m (x0 x1 : FVec Ideal S4x1024x1024 .f32) (x2 x3 : FVec Ideal S4x1024x1024 .f32) (r : Fin 4096) (b : Fin 1024) :
    @Eq EReal (shapeCast S4096x1024 (val_main_v4 (F := Ideal) x1 x2) shapeCasts_S4x1024x1024_S4096x1024 (ix2 r b)) (Fwd.first (shapeCast S4096x1024 x1 shapeCasts_S4x1024x1024_S4096x1024 (ix2 r b)) (shapeCast S4096x1024 x2 shapeCasts_S4x1024x1024_S4096x1024 (ix2 r b))) := by
  pointwise [val_main_v4, val_main_v1, val_main_v0, val_main_cst, val_main_v3, val_main_v2, val_main_cst_0, Fwd.first]

/-- The reference's second moment, by rows. -/
theorem ref_v (x0 x1 : FVec Ideal S4x1024x1024 .f32) (x2 x3 : FVec Ideal S4x1024x1024 .f32) (r : Fin 4096) (b : Fin 1024) :
    @Eq EReal (shapeCast S4096x1024 (val_main_v10 (F := Ideal) x1 x3) shapeCasts_S4x1024x1024_S4096x1024 (ix2 r b)) (Fwd.second (shapeCast S4096x1024 x1 shapeCasts_S4x1024x1024_S4096x1024 (ix2 r b)) (shapeCast S4096x1024 x3 shapeCasts_S4x1024x1024_S4096x1024 (ix2 r b))) := by
  pointwise [val_main_v10, val_main_v6, val_main_v5, val_main_cst_1, val_main_v9, val_main_v8, val_main_cst_2, val_main_v7, Fwd.second]

/-- A row block of an argument. -/
theorem r0 (t : Fin cfg0.N) (a : Fin 256) (b : Fin 1024) (r : Fin 4096) (hr : r.val = t.val * 256 + a.val) :
    @Eq EReal (iblk m c 0 t (ix2 a b)) (shapeCast S4096x1024 (X0 m c) shapeCasts_S4x1024x1024_S4096x1024 (ix2 r b)) := by
  have ht : t.val < cfg0.N := t.isLt
  have e (G : S4096x1024.Idx → EReal) : G ((win0_0.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r1 (t : Fin cfg0.N) (a : Fin 256) (b : Fin 1024) (r : Fin 4096) (hr : r.val = t.val * 256 + a.val) :
    @Eq EReal (iblk m c 1 t (ix2 a b)) (shapeCast S4096x1024 (X1 m c) shapeCasts_S4x1024x1024_S4096x1024 (ix2 r b)) := by
  have ht : t.val < cfg0.N := t.isLt
  have e (G : S4096x1024.Idx → EReal) : G ((win0_1.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r2 (t : Fin cfg0.N) (a : Fin 256) (b : Fin 1024) (r : Fin 4096) (hr : r.val = t.val * 256 + a.val) :
    @Eq EReal (iblk m c 2 t (ix2 a b)) (shapeCast S4096x1024 (X2 m c) shapeCasts_S4x1024x1024_S4096x1024 (ix2 r b)) := by
  have ht : t.val < cfg0.N := t.isLt
  have e (G : S4096x1024.Idx → EReal) : G ((win0_2.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r3 (t : Fin cfg0.N) (a : Fin 256) (b : Fin 1024) (r : Fin 4096) (hr : r.val = t.val * 256 + a.val) :
    @Eq EReal (iblk m c 3 t (ix2 a b)) (shapeCast S4096x1024 (X3 m c) shapeCasts_S4x1024x1024_S4096x1024 (ix2 r b)) := by
  have ht : t.val < cfg0.N := t.isLt
  have e (G : S4096x1024.Idx → EReal) : G ((win0_3.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final_d : (dats m 0 c).arrAt 4 (cfgs 0).N
    = fun i : S4096x1024.Idx => shapeCast S4096x1024 (val_main_v23 (F := Ideal) (X0 m c) (X1 m c) (X2 m c) (X3 m c)) shapeCasts_S4x1024x1024_S4096x1024 i := by
  refine (dats m 0 c).arrAt_eq_of_covers 4 _ (by decide +kernel) fun t hf y => ?_
  blk_simp; rw [after0_4]
  obtain ⟨a, b, rfl⟩ : ∃ (a : Fin 256) (b : Fin 1024), y = ix2 a b := ⟨y 0, y 1, eq_ix2 y⟩
  have ht : t.val < 16 := lt_of_lt_of_eq t.isLt N_0
  have e (G : S4096x1024.Idx → EReal) : G ((win0_4.blk t).view.emb (ix2 a b)) = G (ix2 ⟨t.val * 256 + a.val, by omega⟩ b) := by
    blk_ext [idx_val t]
  refine Eq.trans ?_ (e (fun i => shapeCast S4096x1024 (val_main_v23 (F := Ideal) (X0 m c) (X1 m c) (X2 m c) (X3 m c)) shapeCasts_S4x1024x1024_S4096x1024 i)).symm
  frame_out
  refine (pay_d _ _ _ _ a b).trans (Eq.trans ?_ (ref_d (X0 m c) (X1 m c) (X2 m c) (X3 m c) _ _).symm)
  exact Fwd.change_congr (r0 m c t a b ⟨t.val * 256 + a.val, by omega⟩ rfl) (r1 m c t a b ⟨t.val * 256 + a.val, by omega⟩ rfl) (r2 m c t a b ⟨t.val * 256 + a.val, by omega⟩ rfl) (r3 m c t a b ⟨t.val * 256 + a.val, by omega⟩ rfl)

/-- The result is that array in the result's shape. -/
theorem tail_d : Pipeline.afterTail₀ cfgs (dats m) 0 (V0 m) [hostOps1] c main_v5
    = shapeCast S4x1024x1024 ((dats m 0 c).arrAt 4 (cfgs 0).N) shapeCasts_S4096x1024_S4x1024x1024 := by
  unfold Pipeline.afterTail₀
  show StableHlo.after hostOps1 _ _ = _
  after_results
  exact congrArg (fun x => shapeCast S4x1024x1024 x shapeCasts_S4096x1024_S4x1024x1024)
    (Pipeline.withArrays_arr (cfgs 0).spec (by decide) c (V0 m c) (fun w => (dats m 0 c).arrAt w (cfgs 0).N) 4)

/-- The result read off the array. -/
theorem result_d : shapeCast S4x1024x1024 ((dats m 0 c).arrAt 4 (cfgs 0).N) shapeCasts_S4096x1024_S4x1024x1024
    = val_main_v23 (F := Ideal) (X0 m c) (X1 m c) (X2 m c) (X3 m c) := by
  rw [final_d]
  exact shapeCast_shapeCast _ _ _

/-- The result array after the run. -/
theorem final_m : (dats m 0 c).arrAt 5 (cfgs 0).N
    = fun i : S4096x1024.Idx => shapeCast S4096x1024 (val_main_v4 (F := Ideal) (X1 m c) (X2 m c)) shapeCasts_S4x1024x1024_S4096x1024 i := by
  refine (dats m 0 c).arrAt_eq_of_covers 5 _ (by decide +kernel) fun t hf y => ?_
  blk_simp; rw [after0_5]
  obtain ⟨a, b, rfl⟩ : ∃ (a : Fin 256) (b : Fin 1024), y = ix2 a b := ⟨y 0, y 1, eq_ix2 y⟩
  have ht : t.val < 16 := lt_of_lt_of_eq t.isLt N_0
  have e (G : S4096x1024.Idx → EReal) : G ((win0_5.blk t).view.emb (ix2 a b)) = G (ix2 ⟨t.val * 256 + a.val, by omega⟩ b) := by
    blk_ext [idx_val t]
  refine Eq.trans ?_ (e (fun i => shapeCast S4096x1024 (val_main_v4 (F := Ideal) (X1 m c) (X2 m c)) shapeCasts_S4x1024x1024_S4096x1024 i)).symm
  frame_out
  refine (pay_m _ _ a b).trans (Eq.trans ?_ (ref_m (X0 m c) (X1 m c) (X2 m c) (X3 m c) _ _).symm)
  exact congrArg₂ Fwd.first (r1 m c t a b ⟨t.val * 256 + a.val, by omega⟩ rfl) (r2 m c t a b ⟨t.val * 256 + a.val, by omega⟩ rfl)

/-- The result is that array in the result's shape. -/
theorem tail_m : Pipeline.afterTail₀ cfgs (dats m) 0 (V0 m) [hostOps1] c main_v6
    = shapeCast S4x1024x1024 ((dats m 0 c).arrAt 5 (cfgs 0).N) shapeCasts_S4096x1024_S4x1024x1024 := by
  unfold Pipeline.afterTail₀
  show StableHlo.after hostOps1 _ _ = _
  after_results
  exact congrArg (fun x => shapeCast S4x1024x1024 x shapeCasts_S4096x1024_S4x1024x1024)
    (Pipeline.withArrays_arr (cfgs 0).spec (by decide) c (V0 m c) (fun w => (dats m 0 c).arrAt w (cfgs 0).N) 5)

/-- The result read off the array. -/
theorem result_m : shapeCast S4x1024x1024 ((dats m 0 c).arrAt 5 (cfgs 0).N) shapeCasts_S4096x1024_S4x1024x1024
    = val_main_v4 (F := Ideal) (X1 m c) (X2 m c) := by
  rw [final_m]
  exact shapeCast_shapeCast _ _ _

/-- The result array after the run. -/
theorem final_v : (dats m 0 c).arrAt 6 (cfgs 0).N
    = fun i : S4096x1024.Idx => shapeCast S4096x1024 (val_main_v10 (F := Ideal) (X1 m c) (X3 m c)) shapeCasts_S4x1024x1024_S4096x1024 i := by
  refine (dats m 0 c).arrAt_eq_of_covers 6 _ (by decide +kernel) fun t hf y => ?_
  blk_simp; rw [after0_6]
  obtain ⟨a, b, rfl⟩ : ∃ (a : Fin 256) (b : Fin 1024), y = ix2 a b := ⟨y 0, y 1, eq_ix2 y⟩
  have ht : t.val < 16 := lt_of_lt_of_eq t.isLt N_0
  have e (G : S4096x1024.Idx → EReal) : G ((win0_6.blk t).view.emb (ix2 a b)) = G (ix2 ⟨t.val * 256 + a.val, by omega⟩ b) := by
    blk_ext [idx_val t]
  refine Eq.trans ?_ (e (fun i => shapeCast S4096x1024 (val_main_v10 (F := Ideal) (X1 m c) (X3 m c)) shapeCasts_S4x1024x1024_S4096x1024 i)).symm
  frame_out
  refine (pay_v _ _ a b).trans (Eq.trans ?_ (ref_v (X0 m c) (X1 m c) (X2 m c) (X3 m c) _ _).symm)
  exact congrArg₂ Fwd.second (r1 m c t a b ⟨t.val * 256 + a.val, by omega⟩ rfl) (r3 m c t a b ⟨t.val * 256 + a.val, by omega⟩ rfl)

/-- The result is that array in the result's shape. -/
theorem tail_v : Pipeline.afterTail₀ cfgs (dats m) 0 (V0 m) [hostOps1] c main_v7
    = shapeCast S4x1024x1024 ((dats m 0 c).arrAt 6 (cfgs 0).N) shapeCasts_S4096x1024_S4x1024x1024 := by
  unfold Pipeline.afterTail₀
  show StableHlo.after hostOps1 _ _ = _
  after_results
  exact congrArg (fun x => shapeCast S4x1024x1024 x shapeCasts_S4096x1024_S4x1024x1024)
    (Pipeline.withArrays_arr (cfgs 0).spec (by decide) c (V0 m c) (fun w => (dats m 0 c).arrAt w (cfgs 0).N) 6)

/-- The result read off the array. -/
theorem result_v : shapeCast S4x1024x1024 ((dats m 0 c).arrAt 6 (cfgs 0).N) shapeCasts_S4096x1024_S4x1024x1024
    = val_main_v10 (F := Ideal) (X1 m c) (X3 m c) := by
  rw [final_v]
  exact shapeCast_shapeCast _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v5) = val_main_v23 (F := Ideal) (X0 m c) (X1 m c) (X2 m c) (X3 m c)
      ∧ r.2.mem ((c.tc : Thread nD τ).loc main_v6) = val_main_v4 (F := Ideal) (X1 m c) (X2 m c)
      ∧ r.2.mem ((c.tc : Thread nD τ).loc main_v7) = val_main_v10 (F := Ideal) (X1 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr.1 c).2 main_v5 (by decide)).trans ((tail_d m c).trans (result_d m c)), ((hr.1 c).2 main_v6 (by decide)).trans ((tail_m m c).trans (result_m m c)), ((hr.1 c).2 main_v7 (by decide)).trans ((tail_v m c).trans (result_v m c)), hr.2 c⟩)
    (θ_run_and (run_main m ρ) (unchanged m ρ))

end Cert.Proof.AdamUp

end
-- ==== Proof.AdamPle.lean ====
/-
  The optimiser's step of w_ple.
-/
module

public import proofs.«01_k».proof.Proof.Gen.AdamPleIdeal.Frame
public import proofs.«01_k».proof.Proof.Gen.AdamPleReferenceIdeal.Run
public import proofs.«01_k».proof.Proof.Gen.AdamPleReferenceIdeal.Read
public import proofs.«01_k».proof.Proof.Fwd
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.AdamPle

open Cert.AdamPleIdeal Cert.AdamPleIdeal.Gen Cert.AdamPleReferenceIdeal.Read

variable (m : (ℓ : Loc nD τ sig) → Buf (Elt Ideal) ℓ)

/-- The block each window stands at, in the number of the grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

variable (c : Dev nD)

/-! The arguments on a device. -/
abbrev X0 : FVec Ideal S4x256x256 .f32 := m ((c : Thread nD τ).loc main_arg0)
abbrev X1 : FVec Ideal S4x256x256 .f32 := m ((c : Thread nD τ).loc main_arg1)
abbrev X2 : FVec Ideal S4x256x256 .f32 := m ((c : Thread nD τ).loc main_arg2)
abbrev X3 : FVec Ideal S4x256x256 .f32 := m ((c : Thread nD τ).loc main_arg3)

/-- The body's first value: the weight's change. -/
theorem pay_d (v0 v2 v4 v6 : FVec Ideal S1024x256 .f32) (a : Fin 1024) (b : Fin 256) :
    @Eq EReal (k0_pay4 (F := Ideal) v0 v2 v4 v6 (ix2 a b)) (Fwd.change (v0 (ix2 a b)) (v2 (ix2 a b)) (v4 (ix2 a b)) (v6 (ix2 a b))) := by
  pointwise [k0_pay4, k0_pay3, k0_pay2, k0_pay1, Fwd.change, Fwd.first, Fwd.second]

/-- The body's second value: the first moment. -/
theorem pay_m (v2 v4 : FVec Ideal S1024x256 .f32) (a : Fin 1024) (b : Fin 256) :
    @Eq EReal (k0_pay2 (F := Ideal) v2 v4 (ix2 a b)) (Fwd.first (v2 (ix2 a b)) (v4 (ix2 a b))) := by
  pointwise [k0_pay2, k0_pay1, Fwd.first]

/-- The body's third value: the second moment. -/
theorem pay_v (v2 v6 : FVec Ideal S1024x256 .f32) (a : Fin 1024) (b : Fin 256) :
    @Eq EReal (k0_pay3 (F := Ideal) v2 v6 (ix2 a b)) (Fwd.second (v2 (ix2 a b)) (v6 (ix2 a b))) := by
  pointwise [k0_pay3, k0_pay1, Fwd.second]

/-- The reference's change of the weight, by rows. -/
theorem ref_d (x0 x1 : FVec Ideal S4x256x256 .f32) (x2 x3 : FVec Ideal S4x256x256 .f32) (r : Fin 1024) (b : Fin 256) :
    @Eq EReal (shapeCast S1024x256 (val_main_v23 (F := Ideal) x0 x1 x2 x3) shapeCasts_S4x256x256_S1024x256 (ix2 r b)) (Fwd.change (shapeCast S1024x256 x0 shapeCasts_S4x256x256_S1024x256 (ix2 r b)) (shapeCast S1024x256 x1 shapeCasts_S4x256x256_S1024x256 (ix2 r b)) (shapeCast S1024x256 x2 shapeCasts_S4x256x256_S1024x256 (ix2 r b)) (shapeCast S1024x256 x3 shapeCasts_S4x256x256_S1024x256 (ix2 r b))) := by
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6, Fwd.change, Fwd.first, Fwd.second]

/-- The reference's first moment, by rows. -/
theorem ref_m (x0 x1 : FVec Ideal S4x256x256 .f32) (x2 x3 : FVec Ideal S4x256x256 .f32) (r : Fin 1024) (b : Fin 256) :
    @Eq EReal (shapeCast S1024x256 (val_main_v4 (F := Ideal) x1 x2) shapeCasts_S4x256x256_S1024x256 (ix2 r b)) (Fwd.first (shapeCast S1024x256 x1 shapeCasts_S4x256x256_S1024x256 (ix2 r b)) (shapeCast S1024x256 x2 shapeCasts_S4x256x256_S1024x256 (ix2 r b))) := by
  pointwise [val_main_v4, val_main_v1, val_main_v0, val_main_cst, val_main_v3, val_main_v2, val_main_cst_0, Fwd.first]

/-- The reference's second moment, by rows. -/
theorem ref_v (x0 x1 : FVec Ideal S4x256x256 .f32) (x2 x3 : FVec Ideal S4x256x256 .f32) (r : Fin 1024) (b : Fin 256) :
    @Eq EReal (shapeCast S1024x256 (val_main_v10 (F := Ideal) x1 x3) shapeCasts_S4x256x256_S1024x256 (ix2 r b)) (Fwd.second (shapeCast S1024x256 x1 shapeCasts_S4x256x256_S1024x256 (ix2 r b)) (shapeCast S1024x256 x3 shapeCasts_S4x256x256_S1024x256 (ix2 r b))) := by
  pointwise [val_main_v10, val_main_v6, val_main_v5, val_main_cst_1, val_main_v9, val_main_v8, val_main_cst_2, val_main_v7, Fwd.second]

/-- A row block of an argument. -/
theorem r0 (t : Fin cfg0.N) (a : Fin 1024) (b : Fin 256) (r : Fin 1024) (hr : r.val = t.val * 1024 + a.val) :
    @Eq EReal (iblk m c 0 t (ix2 a b)) (shapeCast S1024x256 (X0 m c) shapeCasts_S4x256x256_S1024x256 (ix2 r b)) := by
  have ht : t.val < cfg0.N := t.isLt
  have e (G : S1024x256.Idx → EReal) : G ((win0_0.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r1 (t : Fin cfg0.N) (a : Fin 1024) (b : Fin 256) (r : Fin 1024) (hr : r.val = t.val * 1024 + a.val) :
    @Eq EReal (iblk m c 1 t (ix2 a b)) (shapeCast S1024x256 (X1 m c) shapeCasts_S4x256x256_S1024x256 (ix2 r b)) := by
  have ht : t.val < cfg0.N := t.isLt
  have e (G : S1024x256.Idx → EReal) : G ((win0_1.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r2 (t : Fin cfg0.N) (a : Fin 1024) (b : Fin 256) (r : Fin 1024) (hr : r.val = t.val * 1024 + a.val) :
    @Eq EReal (iblk m c 2 t (ix2 a b)) (shapeCast S1024x256 (X2 m c) shapeCasts_S4x256x256_S1024x256 (ix2 r b)) := by
  have ht : t.val < cfg0.N := t.isLt
  have e (G : S1024x256.Idx → EReal) : G ((win0_2.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- A row block of an argument. -/
theorem r3 (t : Fin cfg0.N) (a : Fin 1024) (b : Fin 256) (r : Fin 1024) (hr : r.val = t.val * 1024 + a.val) :
    @Eq EReal (iblk m c 3 t (ix2 a b)) (shapeCast S1024x256 (X3 m c) shapeCasts_S4x256x256_S1024x256 (ix2 r b)) := by
  have ht : t.val < cfg0.N := t.isLt
  have e (G : S1024x256.Idx → EReal) : G ((win0_3.blk t).view.emb (ix2 a b)) = G (ix2 r b) := by
    blk_ext [idx_val t]
  blk_simp [iblk, idx_val t]
  unfold V V0
  simp only [List.flatten_cons, List.flatten_nil, List.append_nil, StableHlo.after_append]
  entry_read
  refine (e _).trans ?_
  pointwise []

/-- The result array after the run. -/
theorem final_d : (dats m 0 c).arrAt 4 (cfgs 0).N
    = fun i : S1024x256.Idx => shapeCast S1024x256 (val_main_v23 (F := Ideal) (X0 m c) (X1 m c) (X2 m c) (X3 m c)) shapeCasts_S4x256x256_S1024x256 i := by
  refine (dats m 0 c).arrAt_eq_of_covers 4 _ (by decide +kernel) fun t hf y => ?_
  blk_simp; rw [after0_4]
  obtain ⟨a, b, rfl⟩ : ∃ (a : Fin 1024) (b : Fin 256), y = ix2 a b := ⟨y 0, y 1, eq_ix2 y⟩
  have ht : t.val < 1 := lt_of_lt_of_eq t.isLt N_0
  have e (G : S1024x256.Idx → EReal) : G ((win0_4.blk t).view.emb (ix2 a b)) = G (ix2 ⟨t.val * 1024 + a.val, by omega⟩ b) := by
    blk_ext [idx_val t]
  refine Eq.trans ?_ (e (fun i => shapeCast S1024x256 (val_main_v23 (F := Ideal) (X0 m c) (X1 m c) (X2 m c) (X3 m c)) shapeCasts_S4x256x256_S1024x256 i)).symm
  frame_out
  refine (pay_d _ _ _ _ a b).trans (Eq.trans ?_ (ref_d (X0 m c) (X1 m c) (X2 m c) (X3 m c) _ _).symm)
  exact Fwd.change_congr (r0 m c t a b ⟨t.val * 1024 + a.val, by omega⟩ rfl) (r1 m c t a b ⟨t.val * 1024 + a.val, by omega⟩ rfl) (r2 m c t a b ⟨t.val * 1024 + a.val, by omega⟩ rfl) (r3 m c t a b ⟨t.val * 1024 + a.val, by omega⟩ rfl)

/-- The result is that array in the result's shape. -/
theorem tail_d : Pipeline.afterTail₀ cfgs (dats m) 0 (V0 m) [hostOps1] c main_v5
    = shapeCast S4x256x256 ((dats m 0 c).arrAt 4 (cfgs 0).N) shapeCasts_S1024x256_S4x256x256 := by
  unfold Pipeline.afterTail₀
  show StableHlo.after hostOps1 _ _ = _
  after_results
  exact congrArg (fun x => shapeCast S4x256x256 x shapeCasts_S1024x256_S4x256x256)
    (Pipeline.withArrays_arr (cfgs 0).spec (by decide) c (V0 m c) (fun w => (dats m 0 c).arrAt w (cfgs 0).N) 4)

/-- The result read off the array. -/
theorem result_d : shapeCast S4x256x256 ((dats m 0 c).arrAt 4 (cfgs 0).N) shapeCasts_S1024x256_S4x256x256
    = val_main_v23 (F := Ideal) (X0 m c) (X1 m c) (X2 m c) (X3 m c) := by
  rw [final_d]
  exact shapeCast_shapeCast _ _ _

/-- The result array after the run. -/
theorem final_m : (dats m 0 c).arrAt 5 (cfgs 0).N
    = fun i : S1024x256.Idx => shapeCast S1024x256 (val_main_v4 (F := Ideal) (X1 m c) (X2 m c)) shapeCasts_S4x256x256_S1024x256 i := by
  refine (dats m 0 c).arrAt_eq_of_covers 5 _ (by decide +kernel) fun t hf y => ?_
  blk_simp; rw [after0_5]
  obtain ⟨a, b, rfl⟩ : ∃ (a : Fin 1024) (b : Fin 256), y = ix2 a b := ⟨y 0, y 1, eq_ix2 y⟩
  have ht : t.val < 1 := lt_of_lt_of_eq t.isLt N_0
  have e (G : S1024x256.Idx → EReal) : G ((win0_5.blk t).view.emb (ix2 a b)) = G (ix2 ⟨t.val * 1024 + a.val, by omega⟩ b) := by
    blk_ext [idx_val t]
  refine Eq.trans ?_ (e (fun i => shapeCast S1024x256 (val_main_v4 (F := Ideal) (X1 m c) (X2 m c)) shapeCasts_S4x256x256_S1024x256 i)).symm
  frame_out
  refine (pay_m _ _ a b).trans (Eq.trans ?_ (ref_m (X0 m c) (X1 m c) (X2 m c) (X3 m c) _ _).symm)
  exact congrArg₂ Fwd.first (r1 m c t a b ⟨t.val * 1024 + a.val, by omega⟩ rfl) (r2 m c t a b ⟨t.val * 1024 + a.val, by omega⟩ rfl)

/-- The result is that array in the result's shape. -/
theorem tail_m : Pipeline.afterTail₀ cfgs (dats m) 0 (V0 m) [hostOps1] c main_v6
    = shapeCast S4x256x256 ((dats m 0 c).arrAt 5 (cfgs 0).N) shapeCasts_S1024x256_S4x256x256 := by
  unfold Pipeline.afterTail₀
  show StableHlo.after hostOps1 _ _ = _
  after_results
  exact congrArg (fun x => shapeCast S4x256x256 x shapeCasts_S1024x256_S4x256x256)
    (Pipeline.withArrays_arr (cfgs 0).spec (by decide) c (V0 m c) (fun w => (dats m 0 c).arrAt w (cfgs 0).N) 5)

/-- The result read off the array. -/
theorem result_m : shapeCast S4x256x256 ((dats m 0 c).arrAt 5 (cfgs 0).N) shapeCasts_S1024x256_S4x256x256
    = val_main_v4 (F := Ideal) (X1 m c) (X2 m c) := by
  rw [final_m]
  exact shapeCast_shapeCast _ _ _

/-- The result array after the run. -/
theorem final_v : (dats m 0 c).arrAt 6 (cfgs 0).N
    = fun i : S1024x256.Idx => shapeCast S1024x256 (val_main_v10 (F := Ideal) (X1 m c) (X3 m c)) shapeCasts_S4x256x256_S1024x256 i := by
  refine (dats m 0 c).arrAt_eq_of_covers 6 _ (by decide +kernel) fun t hf y => ?_
  blk_simp; rw [after0_6]
  obtain ⟨a, b, rfl⟩ : ∃ (a : Fin 1024) (b : Fin 256), y = ix2 a b := ⟨y 0, y 1, eq_ix2 y⟩
  have ht : t.val < 1 := lt_of_lt_of_eq t.isLt N_0
  have e (G : S1024x256.Idx → EReal) : G ((win0_6.blk t).view.emb (ix2 a b)) = G (ix2 ⟨t.val * 1024 + a.val, by omega⟩ b) := by
    blk_ext [idx_val t]
  refine Eq.trans ?_ (e (fun i => shapeCast S1024x256 (val_main_v10 (F := Ideal) (X1 m c) (X3 m c)) shapeCasts_S4x256x256_S1024x256 i)).symm
  frame_out
  refine (pay_v _ _ a b).trans (Eq.trans ?_ (ref_v (X0 m c) (X1 m c) (X2 m c) (X3 m c) _ _).symm)
  exact congrArg₂ Fwd.second (r1 m c t a b ⟨t.val * 1024 + a.val, by omega⟩ rfl) (r3 m c t a b ⟨t.val * 1024 + a.val, by omega⟩ rfl)

/-- The result is that array in the result's shape. -/
theorem tail_v : Pipeline.afterTail₀ cfgs (dats m) 0 (V0 m) [hostOps1] c main_v7
    = shapeCast S4x256x256 ((dats m 0 c).arrAt 6 (cfgs 0).N) shapeCasts_S1024x256_S4x256x256 := by
  unfold Pipeline.afterTail₀
  show StableHlo.after hostOps1 _ _ = _
  after_results
  exact congrArg (fun x => shapeCast S4x256x256 x shapeCasts_S1024x256_S4x256x256)
    (Pipeline.withArrays_arr (cfgs 0).spec (by decide) c (V0 m c) (fun w => (dats m 0 c).arrAt w (cfgs 0).N) 6)

/-- The result read off the array. -/
theorem result_v : shapeCast S4x256x256 ((dats m 0 c).arrAt 6 (cfgs 0).N) shapeCasts_S1024x256_S4x256x256
    = val_main_v10 (F := Ideal) (X1 m c) (X3 m c) := by
  rw [final_v]
  exact shapeCast_shapeCast _ _ _

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v5) = val_main_v23 (F := Ideal) (X0 m c) (X1 m c) (X2 m c) (X3 m c)
      ∧ r.2.mem ((c.tc : Thread nD τ).loc main_v6) = val_main_v4 (F := Ideal) (X1 m c) (X2 m c)
      ∧ r.2.mem ((c.tc : Thread nD τ).loc main_v7) = val_main_v10 (F := Ideal) (X1 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr.1 c).2 main_v5 (by decide)).trans ((tail_d m c).trans (result_d m c)), ((hr.1 c).2 main_v6 (by decide)).trans ((tail_m m c).trans (result_m m c)), ((hr.1 c).2 main_v7 (by decide)).trans ((tail_v m c).trans (result_v m c)), hr.2 c⟩)
    (θ_run_and (run_main m ρ) (unchanged m ρ))

end Cert.Proof.AdamPle

end
-- ==== Proof.GluBwd.lean ====
/-
  The gradient of the gated products before the causal mixers.
-/
module

public import proofs.«01_k».proof.Proof.Gen.GluBwdIdeal.Frame
public import proofs.«01_k».proof.Proof.Gen.GluBwdReferenceIdeal.Run
public import proofs.«01_k».proof.Proof.Gen.GluBwdReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.GluBwd

open Cert.GluBwdIdeal Cert.GluBwdIdeal.Gen Cert.GluBwdReferenceIdeal.Read

variable (m : (ℓ : Loc nD τ sig) → Buf (Elt Ideal) ℓ)

/-- The block each window stands at, in the number of the grid point. -/
theorem idx_val : ∀ t : Fin cfg0.N, win0_0.index t = ![t.val, 0]
    ∧ win0_1.index t = ![t.val, 1]
    ∧ win0_2.index t = ![t.val, 4]
    ∧ win0_3.index t = ![t.val, 5]
    ∧ win0_4.index t = ![t.val, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

variable (c : Dev nD)

/-! The arguments on a device. -/
abbrev X0 : FVec Ideal S2048x4096 .f32 := m ((c : Thread nD τ).loc main_arg0)
abbrev X1 : FVec Ideal S2048x512 .f32 := m ((c : Thread nD τ).loc main_arg1)
abbrev X2 : FVec Ideal S2048x512 .f32 := m ((c : Thread nD τ).loc main_arg2)
abbrev X3 : FVec Ideal S2048x512 .f32 := m ((c : Thread nD τ).loc main_arg3)
abbrev X4 : FVec Ideal S2048x512 .f32 := m ((c : Thread nD τ).loc main_arg4)
abbrev X5 : FVec Ideal S2048x8192 .f32 := m ((c : Thread nD τ).loc main_arg5)

/-- The sigmoid's derivative times the gate's cotangent. -/
def slope (x y z : EReal) : EReal := x * y * (Ideal.logistic z * (1 - Ideal.logistic z))

/-- Column group 0 of what the body writes. -/
theorem pay_0 (v0 v1 v2 v3 v4 v5 : FVec Ideal S256x512 .f32) (v6 v8 : FVec Ideal S256x512 .bf16) (a : Fin 256) (b : Fin 512) :
    @Eq EReal (k0_pay1 (F := Ideal) v0 v1 v2 v3 v4 v5 v6 v8 (ix2 a ⟨0 + b.val, by omega⟩)) (v4 (ix2 a b) * Ideal.logistic (v1 (ix2 a b))) := by
  pointwise [k0_pay1, slope, Ideal.logistic]
  all_goals simp (disch := omega) only [dif_pos, dif_neg, if_pos, if_neg, Nat.add_sub_cancel_left, Fin.eta, Nat.zero_add]

/-- Column group 0 of the reference. -/
theorem ref_0 (x0 : FVec Ideal S2048x4096 .f32) (x1 x2 x3 x4 : FVec Ideal S2048x512 .f32) (x5 : FVec Ideal S2048x8192 .f32) (r : Fin 2048) (b : Fin 512) :
    @Eq EReal (val_main_v36 (F := Ideal) x0 x1 x2 x3 x4 x5 (ix2 r ⟨0 + b.val, by omega⟩)) (x1 (ix2 r b) * Ideal.logistic (x0 (ix2 r ⟨512 + b.val, by omega⟩))) := by
  pointwise [val_main_v36, val_main_v35, val_main_v33, val_main_v31, val_main_v29, val_main_v27, val_main_v25, val_main_v23, val_main_v18, val_main_v5, val_main_v0, val_main_cst_2, val_main_v24, val_main_v19, val_main_v6, val_main_cst_3, val_main_v26, val_main_cst_4, val_main_v28, val_main_cst_5, val_main_v30, val_main_v22, val_main_v20, val_main_v1, val_main_v15, val_main_v12, val_main_v11, val_main_cst_0, val_main_v10, val_main_v9, val_main_cst, val_main_v8, val_main_v7, val_main_v2, val_main_v14, val_main_v13, val_main_cst_1, val_main_cst_6, val_main_v32, val_main_v21, val_main_cst_7, val_main_v34, slope, Ideal.logistic]
  all_goals simp (disch := omega) only [dif_pos, dif_neg, if_pos, if_neg, Nat.add_sub_cancel_left, Fin.eta, false_and, and_false, reduceDIte, zero_add, add_zero]

/-- Column group 1 of what the body writes. -/
theorem pay_1 (v0 v1 v2 v3 v4 v5 : FVec Ideal S256x512 .f32) (v6 v8 : FVec Ideal S256x512 .bf16) (a : Fin 256) (b : Fin 512) :
    @Eq EReal (k0_pay1 (F := Ideal) v0 v1 v2 v3 v4 v5 v6 v8 (ix2 a ⟨512 + b.val, by omega⟩)) (slope (v0 (ix2 a b)) (v4 (ix2 a b)) (v1 (ix2 a b))) := by
  pointwise [k0_pay1, slope, Ideal.logistic]
  all_goals simp (disch := omega) only [dif_pos, dif_neg, if_pos, if_neg, Nat.add_sub_cancel_left, Fin.eta, show 512 + b.val - 512 = 0 + b.val from by omega, Nat.zero_add]

/-- Column group 1 of the reference. -/
theorem ref_1 (x0 : FVec Ideal S2048x4096 .f32) (x1 x2 x3 x4 : FVec Ideal S2048x512 .f32) (x5 : FVec Ideal S2048x8192 .f32) (r : Fin 2048) (b : Fin 512) :
    @Eq EReal (val_main_v36 (F := Ideal) x0 x1 x2 x3 x4 x5 (ix2 r ⟨512 + b.val, by omega⟩)) (slope (x0 (ix2 r ⟨b.val, by omega⟩)) (x1 (ix2 r b)) (x0 (ix2 r ⟨512 + b.val, by omega⟩))) := by
  pointwise [val_main_v36, val_main_v35, val_main_v33, val_main_v31, val_main_v29, val_main_v27, val_main_v25, val_main_v23, val_main_v18, val_main_v5, val_main_v0, val_main_cst_2, val_main_v24, val_main_v19, val_main_v6, val_main_cst_3, val_main_v26, val_main_cst_4, val_main_v28, val_main_cst_5, val_main_v30, val_main_v22, val_main_v20, val_main_v1, val_main_v15, val_main_v12, val_main_v11, val_main_cst_0, val_main_v10, val_main_v9, val_main_cst, val_main_v8, val_main_v7, val_main_v2, val_main_v14, val_main_v13, val_main_cst_1, val_main_cst_6, val_main_v32, val_main_v21, val_main_cst_7, val_main_v34, slope, Ideal.logistic]
  all_goals simp (disch := omega) only [dif_pos, dif_neg, if_pos, if_neg, Nat.add_sub_cancel_left, Fin.eta, false_and, and_false, reduceDIte, zero_add, add_zero]

/-- Column group 2 of what the body writes. -/
theorem pay_2 (v0 v1 v2 v3 v4 v5 : FVec Ideal S256x512 .f32) (v6 v8 : FVec Ideal S256x512 .bf16) (a : Fin 256) (b : Fin 512) :
    @Eq EReal (k0_pay1 (F := Ideal) v0 v1 v2 v3 v4 v5 v6 v8 (ix2 a ⟨1024 + b.val, by omega⟩)) (v6 (ix2 a b)) := by
  pointwise [k0_pay1, slope, Ideal.logistic]
  all_goals simp (disch := omega) only [dif_pos, dif_neg, if_pos, if_neg, Nat.add_sub_cancel_left, Fin.eta, show 512 + b.val - 512 = 0 + b.val from by omega, show 1024 + b.val - 512 = 512 + b.val from by omega, Nat.zero_add]

/-- Column group 2 of the reference. -/
theorem ref_2 (x0 : FVec Ideal S2048x4096 .f32) (x1 x2 x3 x4 : FVec Ideal S2048x512 .f32) (x5 : FVec Ideal S2048x8192 .f32) (r : Fin 2048) (b : Fin 512) :
    @Eq EReal (val_main_v36 (F := Ideal) x0 x1 x2 x3 x4 x5 (ix2 r ⟨1024 + b.val, by omega⟩)) (x3 (ix2 r b)) := by
  pointwise [val_main_v36, val_main_v35, val_main_v33, val_main_v31, val_main_v29, val_main_v27, val_main_v25, val_main_v23, val_main_v18, val_main_v5, val_main_v0, val_main_cst_2, val_main_v24, val_main_v19, val_main_v6, val_main_cst_3, val_main_v26, val_main_cst_4, val_main_v28, val_main_cst_5, val_main_v30, val_main_v22, val_main_v20, val_main_v1, val_main_v15, val_main_v12, val_main_v11, val_main_cst_0, val_main_v10, val_main_v9, val_main_cst, val_main_v8, val_main_v7, val_main_v2, val_main_v14, val_main_v13, val_main_cst_1, val_main_cst_6, val_main_v32, val_main_v21, val_main_cst_7, val_main_v34, slope, Ideal.logistic]
  all_goals simp (disch := omega) only [dif_pos, dif_neg, if_pos, if_neg, Nat.add_sub_cancel_left, Fin.eta, false_and, and_false, reduceDIte, zero_add, add_zero]

/-- Column group 3 of what the body writes. -/
theorem pay_3 (v0 v1 v2 v3 v4 v5 : FVec Ideal S256x512 .f32) (v6 v8 : FVec Ideal S256x512 .bf16) (a : Fin 256) (b : Fin 512) :
    @Eq EReal (k0_pay1 (F := Ideal) v0 v1 v2 v3 v4 v5 v6 v8 (ix2 a ⟨1536 + b.val, by omega⟩)) (v8 (ix2 a b)) := by
  pointwise [k0_pay1, slope, Ideal.logistic]
  all_goals simp (disch := omega) only [dif_pos, dif_neg, if_pos, if_neg, Nat.add_sub_cancel_left, Fin.eta, show 512 + b.val - 512 = 0 + b.val from by omega, show 1024 + b.val - 512 = 512 + b.val from by omega, show 1536 + b.val - 512 = 1024 + b.val from by omega, Nat.zero_add]

/-- Column group 3 of the reference. -/
theorem ref_3 (x0 : FVec Ideal S2048x4096 .f32) (x1 x2 x3 x4 : FVec Ideal S2048x512 .f32) (x5 : FVec Ideal S2048x8192 .f32) (r : Fin 2048) (b : Fin 512) :
    @Eq EReal (val_main_v36 (F := Ideal) x0 x1 x2 x3 x4 x5 (ix2 r ⟨1536 + b.val, by omega⟩)) (x4 (ix2 r b)) := by
  pointwise [val_main_v36, val_main_v35, val_main_v33, val_main_v31, val_main_v29, val_main_v27, val_main_v25, val_main_v23, val_main_v18, val_main_v5, val_main_v0, val_main_cst_2, val_main_v24, val_main_v19, val_main_v6, val_main_cst_3, val_main_v26, val_main_cst_4, val_main_v28, val_main_cst_5, val_main_v30, val_main_v22, val_main_v20, val_main_v1, val_main_v15, val_main_v12, val_main_v11, val_main_cst_0, val_main_v10, val_main_v9, val_main_cst, val_main_v8, val_main_v7, val_main_v2, val_main_v14, val_main_v13, val_main_cst_1, val_main_cst_6, val_main_v32, val_main_v21, val_main_cst_7, val_main_v34, slope, Ideal.logistic]
  all_goals simp (disch := omega) only [dif_pos, dif_neg, if_pos, if_neg, Nat.add_sub_cancel_left, Fin.eta, false_and, and_false, reduceDIte, zero_add, add_zero]

/-- Column group 4 of what the body writes. -/
theorem pay_4 (v0 v1 v2 v3 v4 v5 : FVec Ideal S256x512 .f32) (v6 v8 : FVec Ideal S256x512 .bf16) (a : Fin 256) (b : Fin 512) :
    @Eq EReal (k0_pay1 (F := Ideal) v0 v1 v2 v3 v4 v5 v6 v8 (ix2 a ⟨2048 + b.val, by omega⟩)) (v5 (ix2 a b) * v3 (ix2 a b)) := by
  pointwise [k0_pay1, slope, Ideal.logistic]
  all_goals simp (disch := omega) only [dif_pos, dif_neg, if_pos, if_neg, Nat.add_sub_cancel_left, Fin.eta, show 512 + b.val - 512 = 0 + b.val from by omega, show 1024 + b.val - 512 = 512 + b.val from by omega, show 1536 + b.val - 512 = 1024 + b.val from by omega, show 2048 + b.val - 512 = 1536 + b.val from by omega, Nat.zero_add]

/-- Column group 4 of the reference. -/
theorem ref_4 (x0 : FVec Ideal S2048x4096 .f32) (x1 x2 x3 x4 : FVec Ideal S2048x512 .f32) (x5 : FVec Ideal S2048x8192 .f32) (r : Fin 2048) (b : Fin 512) :
    @Eq EReal (val_main_v36 (F := Ideal) x0 x1 x2 x3 x4 x5 (ix2 r ⟨2048 + b.val, by omega⟩)) (x2 (ix2 r b) * x0 (ix2 r ⟨2560 + b.val, by omega⟩)) := by
  pointwise [val_main_v36, val_main_v35, val_main_v33, val_main_v31, val_main_v29, val_main_v27, val_main_v25, val_main_v23, val_main_v18, val_main_v5, val_main_v0, val_main_cst_2, val_main_v24, val_main_v19, val_main_v6, val_main_cst_3, val_main_v26, val_main_cst_4, val_main_v28, val_main_cst_5, val_main_v30, val_main_v22, val_main_v20, val_main_v1, val_main_v15, val_main_v12, val_main_v11, val_main_cst_0, val_main_v10, val_main_v9, val_main_cst, val_main_v8, val_main_v7, val_main_v2, val_main_v14, val_main_v13, val_main_cst_1, val_main_cst_6, val_main_v32, val_main_v21, val_main_cst_7, val_main_v34, slope, Ideal.logistic]
  all_goals simp (disch := omega) only [dif_pos, dif_neg, if_pos, if_neg, Nat.add_sub_cancel_left, Fin.eta, false_and, and_false, reduceDIte, zero_add, add_zero]

/-- Column group 5 of what the body writes. -/
theorem pay_5 (v0 v1 v2 v3 v4 v5 : FVec Ideal S256x512 .f32) (v6 v8 : FVec Ideal S256x512 .bf16) (a : Fin 256) (b : Fin 512) :
    @Eq EReal (k0_pay1 (F := Ideal) v0 v1 v2 v3 v4 v5 v6 v8 (ix2 a ⟨2560 + b.val, by omega⟩)) (v2 (ix2 a b) * v5 (ix2 a b)) := by
  pointwise [k0_pay1, slope, Ideal.logistic]
  all_goals simp (disch := omega) only [dif_pos, dif_neg, if_pos, if_neg, Nat.add_sub_cancel_left, Fin.eta, show 512 + b.val - 512 = 0 + b.val from by omega, show 1024 + b.val - 512 = 512 + b.val from by omega, show 1536 + b.val - 512 = 1024 + b.val from by omega, show 2048 + b.val - 512 = 1536 + b.val from by omega, show 2560 + b.val - 512 = 2048 + b.val from by omega, Nat.zero_add]

/-- Column group 5 of the reference. -/
theorem ref_5 (x0 : FVec Ideal S2048x4096 .f32) (x1 x2 x3 x4 : FVec Ideal S2048x512 .f32) (x5 : FVec Ideal S2048x8192 .f32) (r : Fin 2048) (b : Fin 512) :
    @Eq EReal (val_main_v36 (F := Ideal) x0 x1 x2 x3 x4 x5 (ix2 r ⟨2560 + b.val, by omega⟩)) (x0 (ix2 r ⟨2048 + b.val, by omega⟩) * x2 (ix2 r b)) := by
  pointwise [val_main_v36, val_main_v35, val_main_v33, val_main_v31, val_main_v29, val_main_v27, val_main_v25, val_main_v23, val_main_v18, val_main_v5, val_main_v0, val_main_cst_2, val_main_v24, val_main_v19, val_main_v6, val_main_cst_3, val_main_v26, val_main_cst_4, val_main_v28, val_main_cst_5, val_main_v30, val_main_v22, val_main_v20, val_main_v1, val_main_v15, val_main_v12, val_main_v11, val_main_cst_0, val_main_v10, val_main_v9, val_main_cst, val_main_v8, val_main_v7, val_main_v2, val_main_v14, val_main_v13, val_main_cst_1, val_main_cst_6, val_main_v32, val_main_v21, val_main_cst_7, val_main_v34, slope, Ideal.logistic]
  all_goals simp (disch := omega) only [dif_pos, dif_neg, if_pos, if_neg, Nat.add_sub_cancel_left, Fin.eta, false_and, and_false, reduceDIte, zero_add, add_zero]

/-- The reference keeps the other columns. -/
theorem ref_rest (x0 : FVec Ideal S2048x4096 .f32) (x1 x2 x3 x4 : FVec Ideal S2048x512 .f32) (x5 : FVec Ideal S2048x8192 .f32) (r : Fin 2048) (b : Fin 8192) (hb : 3072 ≤ b.val) :
    @Eq EReal (val_main_v36 (F := Ideal) x0 x1 x2 x3 x4 x5 (ix2 r b)) (x5 (ix2 r b)) := by
  pointwise [val_main_v36, val_main_v35, val_main_v33, val_main_v31, val_main_v29, val_main_v27, val_main_v25, val_main_v23, val_main_v18, val_main_v5, val_main_v0, val_main_cst_2, val_main_v24, val_main_v19, val_main_v6, val_main_cst_3, val_main_v26, val_main_cst_4, val_main_v28, val_main_cst_5, val_main_v30, val_main_v22, val_main_v20, val_main_v1, val_main_v15, val_main_v12, val_main_v11, val_main_cst_0, val_main_v10, val_main_v9, val_main_cst, val_main_v8, val_main_v7, val_main_v2, val_main_v14, val_main_v13, val_main_cst_1, val_main_cst_6, val_main_v32, val_main_v21, val_main_cst_7, val_main_v34]
  all_goals simp (disch := omega) only [dif_pos, dif_neg, if_pos, if_neg, Nat.add_sub_cancel_left, Fin.eta, show 3072 + (b.val - 3072) = b.val from by omega]

/-- A row block of an operand. -/
theorem r0 (t : Fin cfg0.N) (a : Fin 256) (b : Fin 512) (r : Fin 2048) (hr : r.val = t.val * 256 + a.val) :
    @Eq EReal (iblk m c 0 t (ix2 a b)) (X0 m c (ix2 r ⟨b.val, by omega⟩)) := by
  have ht : t.val < 8 := lt_of_lt_of_eq t.isLt N_0
  have e (G : S2048x4096.Idx → EReal) : G ((win0_0.blk t).view.emb (ix2 a b)) = G (ix2 r ⟨b.val, by omega⟩) := by
    blk_ext [idx_val t]
  blk_simp [iblk, idx_val t]
  unfold V
  simp only [List.flatten_cons, List.flatten_nil, List.append_nil, StableHlo.after_append]
  entry_read
  exact e _

/-- A row block of an operand. -/
theorem r1 (t : Fin cfg0.N) (a : Fin 256) (b : Fin 512) (r : Fin 2048) (hr : r.val = t.val * 256 + a.val) :
    @Eq EReal (iblk m c 1 t (ix2 a b)) (X0 m c (ix2 r ⟨512 + b.val, by omega⟩)) := by
  have ht : t.val < 8 := lt_of_lt_of_eq t.isLt N_0
  have e (G : S2048x4096.Idx → EReal) : G ((win0_1.blk t).view.emb (ix2 a b)) = G (ix2 r ⟨512 + b.val, by omega⟩) := by
    blk_ext [idx_val t]
  blk_simp [iblk, idx_val t]
  unfold V
  simp only [List.flatten_cons, List.flatten_nil, List.append_nil, StableHlo.after_append]
  entry_read
  exact e _

/-- A row block of an operand. -/
theorem r2 (t : Fin cfg0.N) (a : Fin 256) (b : Fin 512) (r : Fin 2048) (hr : r.val = t.val * 256 + a.val) :
    @Eq EReal (iblk m c 2 t (ix2 a b)) (X0 m c (ix2 r ⟨2048 + b.val, by omega⟩)) := by
  have ht : t.val < 8 := lt_of_lt_of_eq t.isLt N_0
  have e (G : S2048x4096.Idx → EReal) : G ((win0_2.blk t).view.emb (ix2 a b)) = G (ix2 r ⟨2048 + b.val, by omega⟩) := by
    blk_ext [idx_val t]
  blk_simp [iblk, idx_val t]
  unfold V
  simp only [List.flatten_cons, List.flatten_nil, List.append_nil, StableHlo.after_append]
  entry_read
  exact e _

/-- A row block of an operand. -/
theorem r3 (t : Fin cfg0.N) (a : Fin 256) (b : Fin 512) (r : Fin 2048) (hr : r.val = t.val * 256 + a.val) :
    @Eq EReal (iblk m c 3 t (ix2 a b)) (X0 m c (ix2 r ⟨2560 + b.val, by omega⟩)) := by
  have ht : t.val < 8 := lt_of_lt_of_eq t.isLt N_0
  have e (G : S2048x4096.Idx → EReal) : G ((win0_3.blk t).view.emb (ix2 a b)) = G (ix2 r ⟨2560 + b.val, by omega⟩) := by
    blk_ext [idx_val t]
  blk_simp [iblk, idx_val t]
  unfold V
  simp only [List.flatten_cons, List.flatten_nil, List.append_nil, StableHlo.after_append]
  entry_read
  exact e _

/-- A row block of an operand. -/
theorem r4 (t : Fin cfg0.N) (a : Fin 256) (b : Fin 512) (r : Fin 2048) (hr : r.val = t.val * 256 + a.val) :
    @Eq EReal (iblk m c 4 t (ix2 a b)) (X1 m c (ix2 r b)) := by
  have ht : t.val < 8 := lt_of_lt_of_eq t.isLt N_0
  have e (G : S2048x512.Idx → EReal) : G ((win0_4.blk t).view.emb (ix2 a b)) = G (ix2 r b) := by
    blk_ext [idx_val t]
  blk_simp [iblk, idx_val t]
  unfold V
  simp only [List.flatten_cons, List.flatten_nil, List.append_nil, StableHlo.after_append]
  entry_read
  exact e _

/-- A row block of an operand. -/
theorem r5 (t : Fin cfg0.N) (a : Fin 256) (b : Fin 512) (r : Fin 2048) (hr : r.val = t.val * 256 + a.val) :
    @Eq EReal (iblk m c 5 t (ix2 a b)) (X2 m c (ix2 r b)) := by
  have ht : t.val < 8 := lt_of_lt_of_eq t.isLt N_0
  have e (G : S2048x512.Idx → EReal) : G ((win0_5.blk t).view.emb (ix2 a b)) = G (ix2 r b) := by
    blk_ext [idx_val t]
  blk_simp [iblk, idx_val t]
  unfold V
  simp only [List.flatten_cons, List.flatten_nil, List.append_nil, StableHlo.after_append]
  entry_read
  exact e _

/-- A row block of an operand. -/
theorem r6 (t : Fin cfg0.N) (a : Fin 256) (b : Fin 512) (r : Fin 2048) (hr : r.val = t.val * 256 + a.val) :
    @Eq EReal (iblk m c 6 t (ix2 a b)) (X3 m c (ix2 r b)) := by
  have ht : t.val < 8 := lt_of_lt_of_eq t.isLt N_0
  have e (G : S2048x512.Idx → EReal) : G ((win0_6.blk t).view.emb (ix2 a b)) = G (ix2 r b) := by
    blk_ext [idx_val t]
  blk_simp [iblk, idx_val t]
  unfold V
  simp only [List.flatten_cons, List.flatten_nil, List.append_nil, StableHlo.after_append]
  entry_read
  exact e _

/-- A row block of an operand. -/
theorem r7 (t : Fin cfg0.N) (a : Fin 256) (b : Fin 512) (r : Fin 2048) (hr : r.val = t.val * 256 + a.val) :
    @Eq EReal (iblk m c 7 t (ix2 a b)) (X4 m c (ix2 r b)) := by
  have ht : t.val < 8 := lt_of_lt_of_eq t.isLt N_0
  have e (G : S2048x512.Idx → EReal) : G ((win0_7.blk t).view.emb (ix2 a b)) = G (ix2 r b) := by
    blk_ext [idx_val t]
  blk_simp [iblk, idx_val t]
  unfold V
  simp only [List.flatten_cons, List.flatten_nil, List.append_nil, StableHlo.after_append]
  entry_read
  exact e _

/-- What a grid point writes is the reference's. -/
theorem point (t : Fin cfg0.N) (a : Fin 256) (b : Fin 3072) (r : Fin 2048) (hr : r.val = t.val * 256 + a.val) :
    @Eq EReal (k0_pay1 (F := Ideal) (iblk m c 0 t) (iblk m c 1 t) (iblk m c 2 t) (iblk m c 3 t) (iblk m c 4 t) (iblk m c 5 t) (iblk m c 6 t) (iblk m c 7 t) (ix2 a b)) (val_main_v36 (F := Ideal) (X0 m c) (X1 m c) (X2 m c) (X3 m c) (X4 m c) (X5 m c) (ix2 r ⟨b.val, by omega⟩)) := by
  have q0 (b : Fin 512) := r0 m c t a b r hr
  have q1 (b : Fin 512) := r1 m c t a b r hr
  have q2 (b : Fin 512) := r2 m c t a b r hr
  have q3 (b : Fin 512) := r3 m c t a b r hr
  have q4 (b : Fin 512) := r4 m c t a b r hr
  have q5 (b : Fin 512) := r5 m c t a b r hr
  have q6 (b : Fin 512) := r6 m c t a b r hr
  have q7 (b : Fin 512) := r7 m c t a b r hr
  have hb := b.isLt
  by_cases h0 : b.val < 512
  · obtain ⟨d, hd⟩ : ∃ d : Fin 512, b.val = 0 + d.val := ⟨⟨b.val - 0, by omega⟩, by dsimp only; omega⟩
    obtain rfl : b = ⟨0 + d.val, Nat.lt_of_lt_of_le (Nat.add_lt_add_left d.isLt 0) (by decide)⟩ := Fin.ext hd
    refine (pay_0 _ _ _ _ _ _ _ _ a d).trans (Eq.trans ?_ (ref_0 _ _ _ _ _ _ r d).symm)
    rw [q4 d, q1 d]
  by_cases h1 : b.val < 1024
  · obtain ⟨d, hd⟩ : ∃ d : Fin 512, b.val = 512 + d.val := ⟨⟨b.val - 512, by omega⟩, by dsimp only; omega⟩
    obtain rfl : b = ⟨512 + d.val, Nat.lt_of_lt_of_le (Nat.add_lt_add_left d.isLt 512) (by decide)⟩ := Fin.ext hd
    refine (pay_1 _ _ _ _ _ _ _ _ a d).trans (Eq.trans ?_ (ref_1 _ _ _ _ _ _ r d).symm)
    rw [q0 d, q4 d, q1 d]
  by_cases h2 : b.val < 1536
  · obtain ⟨d, hd⟩ : ∃ d : Fin 512, b.val = 1024 + d.val := ⟨⟨b.val - 1024, by omega⟩, by dsimp only; omega⟩
    obtain rfl : b = ⟨1024 + d.val, Nat.lt_of_lt_of_le (Nat.add_lt_add_left d.isLt 1024) (by decide)⟩ := Fin.ext hd
    refine (pay_2 _ _ _ _ _ _ _ _ a d).trans (Eq.trans ?_ (ref_2 _ _ _ _ _ _ r d).symm)
    rw [q6 d]
  by_cases h3 : b.val < 2048
  · obtain ⟨d, hd⟩ : ∃ d : Fin 512, b.val = 1536 + d.val := ⟨⟨b.val - 1536, by omega⟩, by dsimp only; omega⟩
    obtain rfl : b = ⟨1536 + d.val, Nat.lt_of_lt_of_le (Nat.add_lt_add_left d.isLt 1536) (by decide)⟩ := Fin.ext hd
    refine (pay_3 _ _ _ _ _ _ _ _ a d).trans (Eq.trans ?_ (ref_3 _ _ _ _ _ _ r d).symm)
    rw [q7 d]
  by_cases h4 : b.val < 2560
  · obtain ⟨d, hd⟩ : ∃ d : Fin 512, b.val = 2048 + d.val := ⟨⟨b.val - 2048, by omega⟩, by dsimp only; omega⟩
    obtain rfl : b = ⟨2048 + d.val, Nat.lt_of_lt_of_le (Nat.add_lt_add_left d.isLt 2048) (by decide)⟩ := Fin.ext hd
    refine (pay_4 _ _ _ _ _ _ _ _ a d).trans (Eq.trans ?_ (ref_4 _ _ _ _ _ _ r d).symm)
    rw [q5 d, q3 d]
  · obtain ⟨d, hd⟩ : ∃ d : Fin 512, b.val = 2560 + d.val := ⟨⟨b.val - 2560, by omega⟩, by dsimp only; omega⟩
    obtain rfl : b = ⟨2560 + d.val, Nat.lt_of_lt_of_le (Nat.add_lt_add_left d.isLt 2560) (by decide)⟩ := Fin.ext hd
    refine (pay_5 _ _ _ _ _ _ _ _ a d).trans (Eq.trans ?_ (ref_5 _ _ _ _ _ _ r d).symm)
    rw [q2 d, q5 d]

/-- The result array after the run. -/
theorem final : (dats m 0 c).arrAt 8 (cfgs 0).N = val_main_v36 (F := Ideal) (X0 m c) (X1 m c) (X2 m c) (X3 m c) (X4 m c) (X5 m c) := by
  have h : (dats m 0 c).arrAt 8 (cfgs 0).N
      = fun i => if (i 1).val < 3072 then val_main_v36 (F := Ideal) (X0 m c) (X1 m c) (X2 m c) (X3 m c) (X4 m c) (X5 m c) i else V m c main_v3 i := by
    refine (dats m 0 c).arrAt_eq_of_coversWhere 8 _ (fun β => β (1 : Fin 2) = 0) (by decide +kernel) (fun t hf y => ?_)
      (fun j => by blk_simp [Pipeline.Window.cell_apply]; omega)
    blk_simp; rw [after0_8]; unfold outsAt0; frame_out
    obtain ⟨a, b, hj⟩ : ∃ (a : Fin 256) (b : Fin 3072), (win0 8).xinj (grid0.coords t) y = ix2 a b := ⟨_, _, eq_ix2 _⟩
    have ha : a.val = (y 0).val := (congrArg (fun j : S256x3072.Idx => (j 0).val) hj).symm
    have hb : b.val = (y 1).val := (congrArg (fun j : S256x3072.Idx => (j 1).val) hj).symm
    have ht : t.val < 8 := lt_of_lt_of_eq t.isLt N_0
    refine (congrArg _ hj).trans ((point m c t a b ⟨t.val * 256 + a.val, by omega⟩ rfl).trans ?_)
    refine congrArg _ (Eq.trans ?_ (eq_ix2 _).symm)
    refine congrArg₂ ix2 (Fin.ext ?_) (Fin.ext ?_)
    · dsimp only
      rw [ha]
      blk_simp [idx_val t]
    · dsimp only
      rw [hb]
      blk_simp [idx_val t]
  rw [h]
  funext i
  by_cases hi : (i 1).val < 3072
  · exact if_pos hi
  · refine (if_neg hi).trans ?_
    obtain ⟨r, b, rfl⟩ : ∃ (r : Fin 2048) (b : Fin 8192), i = ix2 r b := ⟨i 0, i 1, eq_ix2 i⟩
    refine Eq.trans ?_ (ref_rest _ _ _ _ _ _ r b (Nat.le_of_not_lt hi)).symm
    unfold V
    simp only [List.flatten_cons, List.flatten_nil, List.append_nil, StableHlo.after_append]
    entry_read
    rfl

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v3) = val_main_v36 (F := Ideal) (X0 m c) (X1 m c) (X2 m c) (X3 m c) (X4 m c) (X5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨((hr.1 c).1 8).trans (final m c), hr.2 c⟩)
    (θ_run_and (run_main m ρ) (unchanged m ρ))

end Cert.Proof.GluBwd

end
-- ==== Proof.LossHead.lean ====
/-
  The loss and its gradient.
-/
module

public import proofs.«01_k».proof.Proof.Gen.LossHeadIdeal.Frame
public import proofs.«01_k».proof.Proof.Gen.LossHeadReferenceIdeal.Run
public import proofs.«01_k».proof.Proof.Gen.LossHeadReferenceIdeal.Read
public import proofs.«01_k».proof.Proof.Rms
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.LossHead

open Cert.LossHeadIdeal Cert.LossHeadIdeal.Gen Cert.LossHeadReferenceIdeal.Read

variable (m : (ℓ : Loc nD τ sig) → Buf (Elt Ideal) ℓ)

/-- The block each window stands at, in the number of the grid point. -/
theorem idx_val : ∀ t : Fin cfg0.N, win0_0.index t = ![t.val, 0]
    ∧ win0_1.index t = ![t.val, 0]
    ∧ win0_2.index t = ![0, 0]
    ∧ win0_3.index t = ![t.val, 0]
    ∧ win0_4.index t = ![0, 0]
    ∧ win0_5.index t = ![0, 0] :=
  (by decide +kernel : ∀ t : Fin grid0.N, _)

variable (c : Dev nD)

/-! The arguments on a device. -/
abbrev X0 : FVec Ideal S2048x1024 .f32 := m ((c : Thread nD τ).loc main_arg0)
abbrev X1 : FVec Ideal S2048x1024 .f32 := m ((c : Thread nD τ).loc main_arg1)
abbrev X2 : FVec Ideal S1024 .f32 := m ((c : Thread nD τ).loc main_arg2)

/-- The normed row's distance from its target. -/
def err (x y g : Fin 1024 → EReal) (j : Fin 1024) : EReal := x j * Rms.scale x * g j - y j

/-- The cotangent of the normed row. -/
def ct (x y g : Fin 1024 → EReal) (j : Fin 1024) : EReal := Ideal.div ((Ideal.ofBits .f32 0x3F000000#32 : EReal) * 1) (Ideal.ofBits .f32 0x44800000#32 : EReal) * ((Ideal.ofBits .f32 0x40000000#32 : EReal) * err x y g j)

/-- The row's cotangent. -/
def dloss (x y g : Fin 1024 → EReal) (j : Fin 1024) : EReal :=
  ct x y g j * g j * Rms.scale x + x j * Rms.back x g (ct x y g) + Rms.back x g (ct x y g) * x j

/-- A row's part of the gain's cotangent. -/
def gainPart (x y g : Fin 1024 → EReal) (j : Fin 1024) : EReal := x j * Rms.scale x * ct x y g j

/-- A row's mean square distance. -/
def rowLoss (x y g : Fin 1024 → EReal) : EReal := Ideal.div (∑ j, err x y g j * err x y g j) (Ideal.ofBits .f32 0x44800000#32 : EReal)

/-- The constant one half. -/
theorem half_val : (Ideal.ofBits .f32 0x3F000000#32 : EReal) = (((1:ℝ)/2 : ℝ) : EReal) := by
  simp [Ideal.ofBits, Ideal.ieee]
  rw [← EReal.coe_mul]
  norm_num

/-- A finite factor that is not negative goes into a sum. -/
theorem factor_sum (h : EReal) (h0 : 0 ≤ h) (h1 : h ≠ ⊤) {n : ℕ} (f : Fin n → EReal) : h * ∑ i, f i = ∑ i, h * f i :=
  map_sum (⟨⟨fun z => h * z, mul_zero _⟩, fun y z => EReal.left_distrib_of_nonneg_of_ne_top h0 h1 y z⟩ : EReal →+ EReal) f Finset.univ

/-- One half goes into a sum. -/
theorem half_sum {n : ℕ} (f : Fin n → EReal) : (Ideal.ofBits .f32 0x3F000000#32 : EReal) * ∑ i, f i = ∑ i, (Ideal.ofBits .f32 0x3F000000#32 : EReal) * f i :=
  factor_sum _ (by rw [half_val]; exact EReal.coe_nonneg.mpr (by norm_num)) (by rw [half_val]; exact EReal.coe_ne_top _) f

/-- The factor of the rows' cotangents. -/
theorem pay_unit (a : Fin 256) (o : Fin 1) : @Eq EReal (k0_pay9 (F := Ideal) (ix2 a o)) ((Ideal.ofBits .f32 0x3F000000#32 : EReal) * 1) := by
  pointwise [k0_pay9]
  simp only [Fin.sum_univ_one]

/-- The rows' cotangents as the body writes them. -/
theorem pay_dx (v0 v1 : FVec Ideal S256x1024 .f32) (v2 : FVec Ideal S1x1024 .f32) (a : Fin 256) (b : Fin 1024) :
    @Eq EReal (k0_pay12 (F := Ideal) v0 (k0_pay1 v2) (k0_pay3 v0) (k0_pay4 v0) (k0_pay7 v0 v1 v2) k0_pay9 (ix2 a b))
      (dloss (fun k => v0 (ix2 a k)) (fun k => v1 (ix2 a k)) (fun k => v2 (ix2 0 k)) b) := by
  pointwise [k0_pay1, k0_pay2, k0_pay3, k0_pay4, k0_pay5, k0_pay6, k0_pay7, k0_pay9, k0_pay10, k0_pay12, Rms.meanSq, Rms.scale, Rms.slope, Rms.back, err, ct, dloss, gainPart, rowLoss]
  simp only [Fin.sum_univ_one]

/-- A block's part of the gain's cotangent as the body sums it. -/
theorem pay_dg (v0 v1 : FVec Ideal S256x1024 .f32) (v2 : FVec Ideal S1x1024 .f32) (b : Fin 1024) :
    @Eq EReal (k0_pay11 (F := Ideal) (k0_pay5 v0) (k0_pay7 v0 v1 v2) k0_pay9 (ix2 0 b))
      (∑ a : Fin 256, gainPart (fun k => v0 (ix2 a k)) (fun k => v1 (ix2 a k)) (fun k => v2 (ix2 0 k)) b) := by
  pointwise [k0_pay1, k0_pay2, k0_pay3, k0_pay5, k0_pay6, k0_pay7, k0_pay9, k0_pay10, k0_pay11, Rms.meanSq, Rms.scale, Rms.slope, Rms.back, err, ct, dloss, gainPart, rowLoss]
  simp only [Fin.sum_univ_one]

/-- The body adds its part to the gain's cotangent so far. -/
theorem pay_dg_next (v16 v22 : FVec Ideal S256x1024 .f32) (v40 : FVec Ideal S256x1 .f32) (v81 : FVec Ideal S1x1024 .f32) (b : Fin 1024) :
    @Eq EReal (k0_pay14 (F := Ideal) v16 v22 v40 v81 (ix2 0 b)) (v81 (ix2 0 b) + k0_pay11 v16 v22 v40 (ix2 0 b)) := by
  pointwise [k0_pay14]

/-- A block's part of the loss as the body sums it. -/
theorem pay_loss (v0 v1 : FVec Ideal S256x1024 .f32) (v2 : FVec Ideal S1x1024 .f32) (b : Fin 128) :
    @Eq EReal (k0_pay13 (F := Ideal) (k0_pay8 v0 v1 v2) (ix2 0 b))
      ((Ideal.ofBits .f32 0x3F000000#32 : EReal) * ∑ a : Fin 256, rowLoss (fun k => v0 (ix2 a k)) (fun k => v1 (ix2 a k)) (fun k => v2 (ix2 0 k))) := by
  pointwise [k0_pay1, k0_pay2, k0_pay3, k0_pay5, k0_pay6, k0_pay8, k0_pay13, Rms.meanSq, Rms.scale, Rms.slope, Rms.back, err, ct, dloss, gainPart, rowLoss]

/-- The body adds its part to the loss so far. -/
theorem pay_loss_next (v30 : FVec Ideal S1x1 .f32) (v81 : FVec Ideal S1x128 .f32) (b : Fin 128) :
    @Eq EReal (k0_pay15 (F := Ideal) v30 v81 (ix2 0 b)) (v81 (ix2 0 b) + k0_pay13 v30 (ix2 0 b)) := by
  pointwise [k0_pay15]

/-- The reference's rows' cotangents. -/
theorem ref_dx (x0 x1 : FVec Ideal S2048x1024 .f32) (x2 : FVec Ideal S1024 .f32) (r : Fin 2048) (b : Fin 1024) :
    @Eq EReal (val_main_v50 (F := Ideal) x0 x1 x2 (ix2 r b)) (dloss (fun k => x0 (ix2 r k)) (fun k => x1 (ix2 r k)) (fun k => x2 (ix1 k)) b) := by
  pointwise [val_main_v50, val_main_v48, val_main_v41, val_main_v35, val_main_v30, val_main_v29, val_main_v28, val_main_v26, val_main_v25, val_main_cst_8, val_main_cst_9, val_main_v27, val_main_cst_10, val_main_v19, val_main_v18, val_main_cst_3, val_main_v16, val_main_v15, val_main_v12, val_main_v11, val_main_v7, val_main_v6, val_main_v4, val_main_v2, val_main_v1, val_main_v0, val_main_cst, val_main_v3, val_main_cst_0, val_main_v5, val_main_cst_1, val_main_v14, val_main_v13, val_main_v34, val_main_v40, val_main_v47, val_main_v46, val_main_v45, val_main_v44, val_main_v42, val_main_v39, val_main_v38, val_main_v37, val_main_cst_13, val_main_v10, val_main_v9, val_main_cst_2, val_main_v8, val_main_v43, val_main_cst_14, val_main_cst_15, val_main_v49, Rms.meanSq, Rms.scale, Rms.slope, Rms.back, err, ct, dloss, gainPart, rowLoss]
  all_goals simp only [Fin.sum_univ_one]

/-- The reference's gain's cotangent. -/
theorem ref_dg (x0 x1 : FVec Ideal S2048x1024 .f32) (x2 : FVec Ideal S1024 .f32) (b : Fin 1024) :
    @Eq EReal (val_main_v36 (F := Ideal) x0 x1 x2 (ix1 b)) (∑ r : Fin 2048, gainPart (fun k => x0 (ix2 r k)) (fun k => x1 (ix2 r k)) (fun k => x2 (ix1 k)) b) := by
  pointwise [val_main_v36, val_main_v33, val_main_v32, val_main_v31, val_main_v12, val_main_v11, val_main_v7, val_main_v6, val_main_v4, val_main_v2, val_main_v1, val_main_v0, val_main_cst, val_main_v3, val_main_cst_0, val_main_v5, val_main_cst_1, val_main_v30, val_main_v29, val_main_v28, val_main_v26, val_main_v25, val_main_cst_8, val_main_cst_9, val_main_v27, val_main_cst_10, val_main_v19, val_main_v18, val_main_cst_3, val_main_v16, val_main_v15, val_main_v14, val_main_v13, val_main_cst_11, val_main_cst_12, Rms.meanSq, Rms.scale, Rms.slope, Rms.back, err, ct, dloss, gainPart, rowLoss]
  all_goals simp only [Fin.sum_univ_one]

/-- The reference's loss. -/
theorem ref_loss (x0 x1 : FVec Ideal S2048x1024 .f32) (x2 : FVec Ideal S1024 .f32) (i : S_.Idx) :
    @Eq EReal (val_main_v24 (F := Ideal) x0 x1 x2 i) (∑ r : Fin 2048, (Ideal.ofBits .f32 0x3F000000#32 : EReal) * rowLoss (fun k => x0 (ix2 r k)) (fun k => x1 (ix2 r k)) (fun k => x2 (ix1 k))) := by
  rw [← half_sum]
  pointwise [val_main_v24, val_main_cst_7, val_main_v23, val_main_v22, val_main_v20, val_main_v17, val_main_v16, val_main_v15, val_main_v12, val_main_v11, val_main_v7, val_main_v6, val_main_v4, val_main_v2, val_main_v1, val_main_v0, val_main_cst, val_main_v3, val_main_cst_0, val_main_v5, val_main_cst_1, val_main_v14, val_main_v13, val_main_cst_4, val_main_v21, val_main_cst_5, val_main_cst_6, Rms.meanSq, Rms.scale, Rms.slope, Rms.back, err, ct, dloss, gainPart, rowLoss]

/-- A row block of an operand. -/
theorem r0 (t : Fin cfg0.N) (a : Fin 256) (b : Fin 1024) (r : Fin 2048) (hr : r.val = t.val * 256 + a.val) :
    @Eq EReal (iblk m c 0 t (ix2 a b)) (X0 m c (ix2 r b)) := by
  have ht : t.val < 8 := lt_of_lt_of_eq t.isLt N_0
  have e (G : S2048x1024.Idx → EReal) : G ((win0_0.blk t).view.emb (ix2 a b)) = G (ix2 r b) := by
    blk_ext [idx_val t]
  blk_simp [iblk, idx_val t]
  unfold V V0
  simp only [List.flatten_cons, List.flatten_nil, List.append_nil, StableHlo.after_append]
  entry_read
  exact e _

/-- A row block of an operand. -/
theorem r1 (t : Fin cfg0.N) (a : Fin 256) (b : Fin 1024) (r : Fin 2048) (hr : r.val = t.val * 256 + a.val) :
    @Eq EReal (iblk m c 1 t (ix2 a b)) (X1 m c (ix2 r b)) := by
  have ht : t.val < 8 := lt_of_lt_of_eq t.isLt N_0
  have e (G : S2048x1024.Idx → EReal) : G ((win0_1.blk t).view.emb (ix2 a b)) = G (ix2 r b) := by
    blk_ext [idx_val t]
  blk_simp [iblk, idx_val t]
  unfold V V0
  simp only [List.flatten_cons, List.flatten_nil, List.append_nil, StableHlo.after_append]
  entry_read
  exact e _

/-- The norm's gain. -/
theorem r2 (t : Fin cfg0.N) (b : Fin 1024) : @Eq EReal (iblk m c 2 t (ix2 0 b)) (X2 m c (ix1 b)) := by
  have ht : t.val < 8 := lt_of_lt_of_eq t.isLt N_0
  have e (G : S1x1024.Idx → EReal) : G ((win0_2.blk t).view.emb (ix2 0 b)) = G (ix2 0 b) := by
    blk_ext [idx_val t]
  blk_simp [iblk, idx_val t]
  unfold V V0
  simp only [List.flatten_cons, List.flatten_nil, List.append_nil, StableHlo.after_append]
  entry_read
  refine (e _).trans ?_
  pointwise []

/-- A row of the operands. -/
abbrev xr (r : Fin 2048) : Fin 1024 → EReal := fun k => X0 m c (ix2 r k)
abbrev yr (r : Fin 2048) : Fin 1024 → EReal := fun k => X1 m c (ix2 r k)
abbrev gr : Fin 1024 → EReal := fun k => X2 m c (ix1 k)

/-- A block's row is the operands' row. -/
theorem row (t : Fin cfg0.N) (a : Fin 256) (r : Fin 2048) (hr : r.val = t.val * 256 + a.val) :
    ((fun k => iblk m c 0 t (ix2 a k)) : Fin 1024 → EReal) = xr m c r ∧ ((fun k => iblk m c 1 t (ix2 a k)) : Fin 1024 → EReal) = yr m c r
    ∧ ((fun k => iblk m c 2 t (ix2 0 k)) : Fin 1024 → EReal) = gr m c :=
  ⟨funext fun k => r0 m c t a k r hr, funext fun k => r1 m c t a k r hr, funext fun k => r2 m c t k⟩

/-- The outputs' blocks at the first grid point and at a later one. -/
theorem outs_first (t : Fin cfg0.N) (h : t.val % 8 = 0) :
    (outsAt0 m c t.val t.isLt).1 = k0_pay12 (iblk m c 0 t) (k0_pay1 (iblk m c 2 t)) (k0_pay3 (iblk m c 0 t)) (k0_pay4 (iblk m c 0 t)) (k0_pay7 (iblk m c 0 t) (iblk m c 1 t) (iblk m c 2 t)) k0_pay9
    ∧ (outsAt0 m c t.val t.isLt).2.1 = k0_pay11 (k0_pay5 (iblk m c 0 t)) (k0_pay7 (iblk m c 0 t) (iblk m c 1 t) (iblk m c 2 t)) k0_pay9
    ∧ (outsAt0 m c t.val t.isLt).2.2 = k0_pay13 (k0_pay8 (iblk m c 0 t) (iblk m c 1 t) (iblk m c 2 t)) := by
  have ht : t.val < 8 := lt_of_lt_of_eq t.isLt N_0
  rw [outsAt0_A m c t h (by omega) h (by omega)]
  refine ⟨?_, ?_, ?_⟩ <;> frame_out

theorem outs_next (t : Fin cfg0.N) (h : ¬t.val % 8 = 0) :
    (outsAt0 m c t.val t.isLt).1 = k0_pay12 (iblk m c 0 t) (k0_pay1 (iblk m c 2 t)) (k0_pay3 (iblk m c 0 t)) (k0_pay4 (iblk m c 0 t)) (k0_pay7 (iblk m c 0 t) (iblk m c 1 t) (iblk m c 2 t)) k0_pay9
    ∧ (outsAt0 m c t.val t.isLt).2.1 = k0_pay14 (k0_pay5 (iblk m c 0 t)) (k0_pay7 (iblk m c 0 t) (iblk m c 1 t) (iblk m c 2 t)) k0_pay9 (outsAt0 m c (t.val - 1) (by omega)).2.1
    ∧ (outsAt0 m c t.val t.isLt).2.2 = k0_pay15 (k0_pay8 (iblk m c 0 t) (iblk m c 1 t) (iblk m c 2 t)) (outsAt0 m c (t.val - 1) (by omega)).2.2 := by
  have ht : t.val < 8 := lt_of_lt_of_eq t.isLt N_0
  rw [outsAt0_B m c t h (by omega) h (by omega)]
  refine ⟨?_, ?_, ?_⟩ <;> frame_out

/-- The rows' cotangents at a grid point. -/
theorem point_dx (t : Fin cfg0.N) (a : Fin 256) (b : Fin 1024) (r : Fin 2048) (hr : r.val = t.val * 256 + a.val) :
    @Eq EReal ((outsAt0 m c t.val t.isLt).1 (ix2 a b)) (dloss (xr m c r) (yr m c r) (gr m c) b) := by
  obtain ⟨e0, e1, e2⟩ := row m c t a r hr
  rw [← e0, ← e1, ← e2]
  by_cases h : t.val % 8 = 0
  · rw [(outs_first m c t h).1]
    exact pay_dx _ _ _ a b
  · rw [(outs_next m c t h).1]
    exact pay_dx _ _ _ a b

/-- A block's part of the gain's cotangent, and of the loss. -/
abbrev gb (t : Fin cfg0.N) (b : Fin 1024) : EReal :=
  ∑ a : Fin 256, gainPart (fun k => iblk m c 0 t (ix2 a k)) (fun k => iblk m c 1 t (ix2 a k)) (fun k => iblk m c 2 t (ix2 0 k)) b
abbrev lb (t : Fin cfg0.N) : EReal :=
  ∑ a : Fin 256, (Ideal.ofBits .f32 0x3F000000#32 : EReal) * rowLoss (fun k => iblk m c 0 t (ix2 a k)) (fun k => iblk m c 1 t (ix2 a k)) (fun k => iblk m c 2 t (ix2 0 k))

theorem dg_first (t : Fin cfg0.N) (h : t.val % 8 = 0) (b : Fin 1024) :
    @Eq EReal ((outsAt0 m c t.val t.isLt).2.1 (ix2 0 b)) (0 + gb m c t b) := by
  rw [(outs_first m c t h).2.1]
  exact (pay_dg _ _ _ b).trans (zero_add _).symm

theorem dg_next (t : Fin cfg0.N) (h : ¬t.val % 8 = 0) (b : Fin 1024) :
    @Eq EReal ((outsAt0 m c t.val t.isLt).2.1 (ix2 0 b)) ((outsAt0 m c (t.val - 1) (by omega)).2.1 (ix2 0 b) + gb m c t b) := by
  rw [(outs_next m c t h).2.1]
  exact (pay_dg_next _ _ _ _ b).trans (congrArg (fun z : EReal => _ + z) (pay_dg _ _ _ b))

theorem loss_first (t : Fin cfg0.N) (h : t.val % 8 = 0) (b : Fin 128) :
    @Eq EReal ((outsAt0 m c t.val t.isLt).2.2 (ix2 0 b)) (0 + lb m c t) := by
  rw [(outs_first m c t h).2.2]
  exact (pay_loss _ _ _ b).trans ((half_sum _).trans (zero_add _).symm)

theorem loss_next (t : Fin cfg0.N) (h : ¬t.val % 8 = 0) (b : Fin 128) :
    @Eq EReal ((outsAt0 m c t.val t.isLt).2.2 (ix2 0 b)) ((outsAt0 m c (t.val - 1) (by omega)).2.2 (ix2 0 b) + lb m c t) := by
  rw [(outs_next m c t h).2.2]
  exact (pay_loss_next _ _ b).trans (congrArg (fun z : EReal => _ + z) ((pay_loss _ _ _ b).trans (half_sum _)))

/-- At the last grid point the gain's cotangent is summed over all rows. -/
theorem dg_val (t : Fin cfg0.N) (h : t.val % 8 = 7) (b : Fin 1024) :
    @Eq EReal ((outsAt0 m c t.val t.isLt).2.1 (ix2 0 b)) (∑ r : Fin 2048, gainPart (xr m c r) (yr m c r) (gr m c) b) := by
  have ht : t.val < 8 := lt_of_lt_of_eq t.isLt N_0
  have key (s : Fin 8) (a : Fin 256) (hl : s.val * 256 + a.val < 2048) (u : Fin cfg0.N) (hu : u.val = 8 * (t.val / 8) + s.val) :
      gainPart (fun k => iblk m c 0 u (ix2 a k)) (fun k => iblk m c 1 u (ix2 a k)) (fun k => iblk m c 2 u (ix2 0 k)) b
        = gainPart (xr m c ⟨s.val * 256 + a.val, hl⟩) (yr m c ⟨s.val * 256 + a.val, hl⟩) (gr m c) b := by
    obtain ⟨e0, e1, e2⟩ := row m c u a ⟨s.val * 256 + a.val, hl⟩ (by rw [hu]; show s.val * 256 + a.val = _; omega)
    rw [← e0, ← e1, ← e2]
  refine (Pipeline.eq_sum_fin_of_reset_step_apply_of_flush (N := cfg0.N) (M := EReal) (ι := Fin 1024)
    (fun n h i => (outsAt0 m c n h).2.1 (ix2 0 i)) 8 (fun _ => 0) (fun t i => gb m c t i)
    (fun t h i => dg_first m c t h i) (fun t h i => dg_next m c t h i) t h b).trans ?_
  refine (zero_add _).trans ?_
  exact Fin.sum_mul_add_congr fun s a hl => key s a hl _ rfl

/-- At the last grid point the loss is summed over all rows. -/
theorem loss_val (t : Fin cfg0.N) (h : t.val % 8 = 7) (b : Fin 128) :
    @Eq EReal ((outsAt0 m c t.val t.isLt).2.2 (ix2 0 b)) (∑ r : Fin 2048, (Ideal.ofBits .f32 0x3F000000#32 : EReal) * rowLoss (xr m c r) (yr m c r) (gr m c)) := by
  have ht : t.val < 8 := lt_of_lt_of_eq t.isLt N_0
  have key (s : Fin 8) (a : Fin 256) (hl : s.val * 256 + a.val < 2048) (u : Fin cfg0.N) (hu : u.val = 8 * (t.val / 8) + s.val) :
      (Ideal.ofBits .f32 0x3F000000#32 : EReal) * rowLoss (fun k => iblk m c 0 u (ix2 a k)) (fun k => iblk m c 1 u (ix2 a k)) (fun k => iblk m c 2 u (ix2 0 k))
        = (Ideal.ofBits .f32 0x3F000000#32 : EReal) * rowLoss (xr m c ⟨s.val * 256 + a.val, hl⟩) (yr m c ⟨s.val * 256 + a.val, hl⟩) (gr m c) := by
    obtain ⟨e0, e1, e2⟩ := row m c u a ⟨s.val * 256 + a.val, hl⟩ (by rw [hu]; show s.val * 256 + a.val = _; omega)
    rw [← e0, ← e1, ← e2]
  refine (Pipeline.eq_sum_fin_of_reset_step_apply_of_flush (N := cfg0.N) (M := EReal) (ι := Fin 128)
    (fun n h i => (outsAt0 m c n h).2.2 (ix2 0 i)) 8 (fun _ => 0) (fun t _ => lb m c t)
    (fun t h i => loss_first m c t h i) (fun t h i => loss_next m c t h i) t h b).trans ?_
  refine (zero_add _).trans ?_
  exact Fin.sum_mul_add_congr fun s a hl => key s a hl _ rfl

/-- The rows' cotangents after the run. -/
theorem final_dx : (dats m 0 c).arrAt 3 (cfgs 0).N = val_main_v50 (F := Ideal) (X0 m c) (X1 m c) (X2 m c) := by
  refine (dats m 0 c).arrAt_eq_of_covers 3 _ (by decide +kernel) fun t hf y => ?_
  blk_simp; rw [after0_3]
  obtain ⟨a, b, rfl⟩ : ∃ (a : Fin 256) (b : Fin 1024), y = ix2 a b := ⟨y 0, y 1, eq_ix2 y⟩
  have ht : t.val < 8 := lt_of_lt_of_eq t.isLt N_0
  have e (G : S2048x1024.Idx → EReal) : G ((win0_3.blk t).view.emb (ix2 a b)) = G (ix2 ⟨t.val * 256 + a.val, by omega⟩ b) := by
    blk_ext [idx_val t]
  refine Eq.trans ?_ (e (val_main_v50 (F := Ideal) (X0 m c) (X1 m c) (X2 m c))).symm
  exact (point_dx m c t a b _ rfl).trans (ref_dx _ _ _ _ b).symm

/-- The gain's cotangent after the run. -/
theorem final_dg : (dats m 0 c).arrAt 4 (cfgs 0).N = fun i : S1x1024.Idx => val_main_v36 (F := Ideal) (X0 m c) (X1 m c) (X2 m c) (ix1 (i 1)) := by
  refine (dats m 0 c).arrAt_eq_of_covers 4 _ (by decide +kernel) fun t hf y => ?_
  have hl : t.val % 8 = 7 := (by decide +kernel : ∀ t : Fin cfg0.N, (cfg0.win 4).flush t = true → t.val % 8 = 7) t hf
  blk_simp; rw [after0_4]
  obtain ⟨a, b, rfl⟩ : ∃ (a : Fin 1) (b : Fin 1024), y = ix2 a b := ⟨y 0, y 1, eq_ix2 y⟩
  obtain rfl : a = 0 := Subsingleton.elim _ _
  have e (G : S1x1024.Idx → EReal) : G ((win0_4.blk t).view.emb (ix2 0 b)) = G (ix2 0 b) := by
    blk_ext [idx_val t]
  refine Eq.trans ?_ (e (fun i => val_main_v36 (F := Ideal) (X0 m c) (X1 m c) (X2 m c) (ix1 (i 1)))).symm
  exact (dg_val m c t hl b).trans (ref_dg _ _ _ b).symm

/-- The loss after the run. -/
theorem final_loss : (dats m 0 c).arrAt 5 (cfgs 0).N = fun _ : S1x128.Idx => val_main_v24 (F := Ideal) (X0 m c) (X1 m c) (X2 m c) ix0 := by
  refine (dats m 0 c).arrAt_eq_of_covers 5 _ (by decide +kernel) fun t hf y => ?_
  have hl : t.val % 8 = 7 := (by decide +kernel : ∀ t : Fin cfg0.N, (cfg0.win 5).flush t = true → t.val % 8 = 7) t hf
  blk_simp; rw [after0_5]
  obtain ⟨a, b, rfl⟩ : ∃ (a : Fin 1) (b : Fin 128), y = ix2 a b := ⟨y 0, y 1, eq_ix2 y⟩
  obtain rfl : a = 0 := Subsingleton.elim _ _
  exact (loss_val m c t hl b).trans (ref_loss _ _ _ _).symm

/-- The results are cut from the kernel's. -/
theorem tail_dg : Pipeline.afterTail₀ cfgs (dats m) 0 (V0 m) [hostOps1] c main_v2 = shapeCast S1024 ((dats m 0 c).arrAt 4 (cfgs 0).N) shapeCasts_S1x1024_S1024 := by
  unfold Pipeline.afterTail₀
  show StableHlo.after hostOps1 _ _ = _
  after_results
  exact congrArg (fun x => shapeCast S1024 x shapeCasts_S1x1024_S1024) (Pipeline.withArrays_arr (cfgs 0).spec (by decide) c (V0 m c) (fun w => (dats m 0 c).arrAt w (cfgs 0).N) 4)

theorem tail_loss : Pipeline.afterTail₀ cfgs (dats m) 0 (V0 m) [hostOps1] c main_v4
    = shapeCast S_ (extractStridedSlice S1x1 ![0, 0] ((dats m 0 c).arrAt 5 (cfgs 0).N) slices_S1x128_S1x1_0_0) shapeCasts_S1x1_S_ := by
  unfold Pipeline.afterTail₀
  show StableHlo.after hostOps1 _ _ = _
  after_results
  rw [show Pipeline.withArrays (cfgs 0).spec c (V0 m c) (fun w => (dats m 0 c).arrAt w (cfgs 0).N) (Proc.tc.devRef main_v1_2) = (dats m 0 c).arrAt 5 (cfgs 0).N
    from (Pipeline.withArrays_arr (cfgs 0).spec (by decide) c (V0 m c) (fun w => (dats m 0 c).arrAt w (cfgs 0).N) 5)]
  generalize (dats m 0 c).arrAt 5 (cfgs 0).N = f
  rfl

/-- The gain's cotangent is the reference's. -/
theorem result_dg : shapeCast S1024 ((dats m 0 c).arrAt 4 (cfgs 0).N) shapeCasts_S1x1024_S1024 = val_main_v36 (F := Ideal) (X0 m c) (X1 m c) (X2 m c) := by
  have key (f : FVec Ideal S1x1024 .f32) (i : Fin 1024) : shapeCast S1024 f shapeCasts_S1x1024_S1024 (ix1 i) = f (ix2 0 i) := by
    pointwise []
  rw [final_dg]
  funext i
  obtain ⟨b, rfl⟩ : ∃ b : Fin 1024, i = ix1 b := ⟨i 0, eq_ix1 i⟩
  exact key _ b

/-- The loss is the reference's. -/
theorem result_loss : shapeCast S_ (extractStridedSlice S1x1 ![0, 0] ((dats m 0 c).arrAt 5 (cfgs 0).N) slices_S1x128_S1x1_0_0) shapeCasts_S1x1_S_
    = val_main_v24 (F := Ideal) (X0 m c) (X1 m c) (X2 m c) := by
  rw [final_loss]
  funext i
  exact congrArg (val_main_v24 (F := Ideal) (X0 m c) (X1 m c) (X2 m c)) (Subsingleton.elim ix0 i)

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = val_main_v50 (F := Ideal) (X0 m c) (X1 m c) (X2 m c)
      ∧ r.2.mem ((c.tc : Thread nD τ).loc main_v2) = val_main_v36 (F := Ideal) (X0 m c) (X1 m c) (X2 m c)
      ∧ r.2.mem ((c.tc : Thread nD τ).loc main_v4) = val_main_v24 (F := Ideal) (X0 m c) (X1 m c) (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => ⟨((hr.1 c).1 3).trans (final_dx m c), ((hr.1 c).2 main_v2 (by decide)).trans ((tail_dg m c).trans (result_dg m c)),
      ((hr.1 c).2 main_v4 (by decide)).trans ((tail_loss m c).trans (result_loss m c)), hr.2 c⟩)
    (θ_run_and (run_main m ρ) (unchanged m ρ))

end Cert.Proof.LossHead

end
-- ==== Proof.AdamSharded.lean ====
/-
  The optimiser's step of the two convolutions' weights, packed.
-/
module

public import proofs.«01_k».proof.Proof.Gen.AdamShardedIdeal.Frame
public import proofs.«01_k».proof.Proof.Gen.AdamShardedReferenceIdeal.Run
public import proofs.«01_k».proof.Proof.Gen.AdamShardedReferenceIdeal.Read
public import proofs.«01_k».proof.Proof.Fwd
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.AdamSharded

open Cert.AdamShardedIdeal Cert.AdamShardedIdeal.Gen Cert.AdamShardedReferenceIdeal.Read

variable (m : (ℓ : Loc nD τ sig) → Buf (Elt Ideal) ℓ)

/-- The block each window stands at, in the number of the grid point. -/
theorem idx_val : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

variable (c : Dev nD)

/-! The arguments on a device. -/
abbrev X0 : FVec Ideal S4x31x128 .f32 := m ((c : Thread nD τ).loc main_arg0)
abbrev X1 : FVec Ideal S4x3x128 .f32 := m ((c : Thread nD τ).loc main_arg1)
abbrev X2 : FVec Ideal S4x31x128 .f32 := m ((c : Thread nD τ).loc main_arg2)
abbrev X3 : FVec Ideal S4x3x128 .f32 := m ((c : Thread nD τ).loc main_arg3)
abbrev X4 : FVec Ideal S4x31x128 .f32 := m ((c : Thread nD τ).loc main_arg4)
abbrev X5 : FVec Ideal S4x3x128 .f32 := m ((c : Thread nD τ).loc main_arg5)
abbrev X6 : FVec Ideal S4x31x128 .f32 := m ((c : Thread nD τ).loc main_arg6)
abbrev X7 : FVec Ideal S4x3x128 .f32 := m ((c : Thread nD τ).loc main_arg7)

/-- The small arrays in one packed array. -/
def packed (x0 : FVec Ideal S4x31x128 .f32) (x1 : FVec Ideal S4x3x128 .f32) : FVec Ideal S256x128 .f32 :=
  shapeCast S256x128 (pad S32768 ![0] ![15360] ![0] (concatenate S17408 0 [⟨S15872, shapeCast S15872 x0 shapeCasts_S4x31x128_S15872⟩, ⟨S1536, shapeCast S1536 x1 shapeCasts_S4x3x128_S1536⟩] concatenates_S15872_S1536_S17408_d0)
    (sitofp (F := Ideal) .f32 (constantI S_ 32 0#32)) pads_S17408_S32768_0153600 h_S_) shapeCasts_S32768_S256x128

abbrev p0 : FVec Ideal S256x128 .f32 := packed (X0 m c) (X1 m c)
abbrev p1 : FVec Ideal S256x128 .f32 := packed (X2 m c) (X3 m c)
abbrev p2 : FVec Ideal S256x128 .f32 := packed (X4 m c) (X5 m c)
abbrev p3 : FVec Ideal S256x128 .f32 := packed (X6 m c) (X7 m c)
/-- Equal places hold equal entries. -/
theorem same_p (x : FVec Ideal S256x128 .f32) {a a' : Fin 256} {b b' : Fin 128} (ha : a.val = a'.val) (hb : b.val = b'.val) : @Eq EReal (x (ix2 a b)) (x (ix2 a' b')) := by
  obtain rfl := Fin.ext ha
  obtain rfl := Fin.ext hb
  rfl

/-- Equal places hold equal entries. -/
theorem same_0 (x : FVec Ideal S4x31x128 .f32) {a a' : Fin 4} {b b' : Fin 31} {d d' : Fin 128} (ha : a.val = a'.val) (hb : b.val = b'.val) (hd : d.val = d'.val) : @Eq EReal (x (ix3 a b d)) (x (ix3 a' b' d')) := by
  obtain rfl := Fin.ext ha
  obtain rfl := Fin.ext hb
  obtain rfl := Fin.ext hd
  rfl

/-- Where an entry of a small array stands in the packed one. -/
theorem packed_0 (x0 : FVec Ideal S4x31x128 .f32) (x1 : FVec Ideal S4x3x128 .f32) (a : Fin 4) (b : Fin 31) (d : Fin 128) :
    @Eq EReal (packed x0 x1 (ix2 ⟨0 + (a.val * 31 + b.val), by omega⟩ d)) (x0 (ix3 a b d)) := by
  pointwise [packed]
  all_goals
    repeat' split
    all_goals first
      | (exfalso; omega)
      | exact same_0 _ (by (try dsimp only) <;> omega) (by (try dsimp only) <;> omega) (by (try dsimp only) <;> omega)

/-- A small array cut from a packed one. -/
def cut_0 (f : FVec Ideal S256x128 .f32) : FVec Ideal S4x31x128 .f32 :=
  shapeCast S4x31x128 (extractStridedSlice S15872 ![0] (shapeCast S32768 f shapeCasts_S256x128_S32768) slices_S32768_S15872_0) shapeCasts_S15872_S4x31x128

/-- An entry of a small array read back from a packed one. -/
theorem unpacked_0 (f : FVec Ideal S256x128 .f32) (a : Fin 4) (b : Fin 31) (d : Fin 128) :
    cut_0 f (ix3 a b d)
      = f (ix2 ⟨0 + (a.val * 31 + b.val), by omega⟩ d) := by
  pointwise [cut_0]
  all_goals exact same_p _ (by (try dsimp only) <;> omega) (by (try dsimp only) <;> omega)

/-- Equal places hold equal entries. -/
theorem same_1 (x : FVec Ideal S4x3x128 .f32) {a a' : Fin 4} {b b' : Fin 3} {d d' : Fin 128} (ha : a.val = a'.val) (hb : b.val = b'.val) (hd : d.val = d'.val) : @Eq EReal (x (ix3 a b d)) (x (ix3 a' b' d')) := by
  obtain rfl := Fin.ext ha
  obtain rfl := Fin.ext hb
  obtain rfl := Fin.ext hd
  rfl

/-- Where an entry of a small array stands in the packed one. -/
theorem packed_1 (x0 : FVec Ideal S4x31x128 .f32) (x1 : FVec Ideal S4x3x128 .f32) (a : Fin 4) (b : Fin 3) (d : Fin 128) :
    @Eq EReal (packed x0 x1 (ix2 ⟨124 + (a.val * 3 + b.val), by omega⟩ d)) (x1 (ix3 a b d)) := by
  pointwise [packed]
  all_goals
    repeat' split
    all_goals first
      | (exfalso; omega)
      | exact same_1 _ (by (try dsimp only) <;> omega) (by (try dsimp only) <;> omega) (by (try dsimp only) <;> omega)

/-- A small array cut from a packed one. -/
def cut_1 (f : FVec Ideal S256x128 .f32) : FVec Ideal S4x3x128 .f32 :=
  shapeCast S4x3x128 (extractStridedSlice S1536 ![15872] (shapeCast S32768 f shapeCasts_S256x128_S32768) slices_S32768_S1536_15872) shapeCasts_S1536_S4x3x128

/-- An entry of a small array read back from a packed one. -/
theorem unpacked_1 (f : FVec Ideal S256x128 .f32) (a : Fin 4) (b : Fin 3) (d : Fin 128) :
    cut_1 f (ix3 a b d)
      = f (ix2 ⟨124 + (a.val * 3 + b.val), by omega⟩ d) := by
  pointwise [cut_1]
  all_goals exact same_p _ (by (try dsimp only) <;> omega) (by (try dsimp only) <;> omega)

/-- The body's first value: the weights' change. -/
theorem pay_d (v0 v2 v4 v6 : FVec Ideal S256x128 .f32) (a : Fin 256) (b : Fin 128) :
    @Eq EReal (k0_pay4 (F := Ideal) v0 v2 v4 v6 (ix2 a b)) (Fwd.change (v0 (ix2 a b)) (v2 (ix2 a b)) (v4 (ix2 a b)) (v6 (ix2 a b))) := by
  pointwise [k0_pay4, k0_pay3, k0_pay2, k0_pay1, Fwd.change, Fwd.first, Fwd.second]

/-- The body's second value: the first moment. -/
theorem pay_m (v2 v4 : FVec Ideal S256x128 .f32) (a : Fin 256) (b : Fin 128) :
    @Eq EReal (k0_pay2 (F := Ideal) v2 v4 (ix2 a b)) (Fwd.first (v2 (ix2 a b)) (v4 (ix2 a b))) := by
  pointwise [k0_pay2, k0_pay1, Fwd.first]

/-- The body's third value: the second moment. -/
theorem pay_v (v2 v6 : FVec Ideal S256x128 .f32) (a : Fin 256) (b : Fin 128) :
    @Eq EReal (k0_pay3 (F := Ideal) v2 v6 (ix2 a b)) (Fwd.second (v2 (ix2 a b)) (v6 (ix2 a b))) := by
  pointwise [k0_pay3, k0_pay1, Fwd.second]

/-- A row block of a packed array. -/
theorem r0 (t : Fin cfg0.N) (a : Fin 256) (b : Fin 128) (r : Fin 256) (hr : r.val = t.val * 256 + a.val) :
    @Eq EReal (iblk m c 0 t (ix2 a b)) (p0 m c (ix2 r b)) := by
  have ht : t.val < 1 := lt_of_lt_of_eq t.isLt N_0
  have e (G : S256x128.Idx → EReal) : G ((win0_0.blk t).view.emb (ix2 a b)) = G (ix2 r b) := by
    blk_ext [idx_val t]
  blk_simp [iblk, idx_val t]
  unfold V V0
  simp only [List.flatten_cons, List.flatten_nil, List.append_nil, StableHlo.after_append]
  entry_read
  simp -implicitDefEqProofs only [StableHlo.TRef.toBuf, StableHlo.TRef.ofBuf, cast_cast, cast_eq]
  exact e _

/-- A row block of a packed array. -/
theorem r1 (t : Fin cfg0.N) (a : Fin 256) (b : Fin 128) (r : Fin 256) (hr : r.val = t.val * 256 + a.val) :
    @Eq EReal (iblk m c 1 t (ix2 a b)) (p1 m c (ix2 r b)) := by
  have ht : t.val < 1 := lt_of_lt_of_eq t.isLt N_0
  have e (G : S256x128.Idx → EReal) : G ((win0_1.blk t).view.emb (ix2 a b)) = G (ix2 r b) := by
    blk_ext [idx_val t]
  blk_simp [iblk, idx_val t]
  unfold V V0
  simp only [List.flatten_cons, List.flatten_nil, List.append_nil, StableHlo.after_append]
  entry_read
  simp -implicitDefEqProofs only [StableHlo.TRef.toBuf, StableHlo.TRef.ofBuf, cast_cast, cast_eq]
  exact e _

/-- A row block of a packed array. -/
theorem r2 (t : Fin cfg0.N) (a : Fin 256) (b : Fin 128) (r : Fin 256) (hr : r.val = t.val * 256 + a.val) :
    @Eq EReal (iblk m c 2 t (ix2 a b)) (p2 m c (ix2 r b)) := by
  have ht : t.val < 1 := lt_of_lt_of_eq t.isLt N_0
  have e (G : S256x128.Idx → EReal) : G ((win0_2.blk t).view.emb (ix2 a b)) = G (ix2 r b) := by
    blk_ext [idx_val t]
  blk_simp [iblk, idx_val t]
  unfold V V0
  simp only [List.flatten_cons, List.flatten_nil, List.append_nil, StableHlo.after_append]
  entry_read
  simp -implicitDefEqProofs only [StableHlo.TRef.toBuf, StableHlo.TRef.ofBuf, cast_cast, cast_eq]
  exact e _

/-- A row block of a packed array. -/
theorem r3 (t : Fin cfg0.N) (a : Fin 256) (b : Fin 128) (r : Fin 256) (hr : r.val = t.val * 256 + a.val) :
    @Eq EReal (iblk m c 3 t (ix2 a b)) (p3 m c (ix2 r b)) := by
  have ht : t.val < 1 := lt_of_lt_of_eq t.isLt N_0
  have e (G : S256x128.Idx → EReal) : G ((win0_3.blk t).view.emb (ix2 a b)) = G (ix2 r b) := by
    blk_ext [idx_val t]
  blk_simp [iblk, idx_val t]
  unfold V V0
  simp only [List.flatten_cons, List.flatten_nil, List.append_nil, StableHlo.after_append]
  entry_read
  simp -implicitDefEqProofs only [StableHlo.TRef.toBuf, StableHlo.TRef.ofBuf, cast_cast, cast_eq]
  exact e _

/-- A packed result's array after the run. -/
theorem arr_d : Pipeline.withArrays (cfgs 0).spec c (V0 m c) (fun w => (dats m 0 c).arrAt w (cfgs 0).N) (Proc.tc.devRef main_v20_0) = (dats m 0 c).arrAt 4 (cfgs 0).N :=
  Pipeline.withArrays_arr (cfgs 0).spec (by decide) c (V0 m c) (fun w => (dats m 0 c).arrAt w (cfgs 0).N) 4

/-- A packed result after the run. -/
theorem final_d : (dats m 0 c).arrAt 4 (cfgs 0).N = fun i : S256x128.Idx => Fwd.change (p0 m c i) (p1 m c i) (p2 m c i) (p3 m c i) := by
  refine (dats m 0 c).arrAt_eq_of_covers 4 _ (by decide +kernel) fun t hf y => ?_
  blk_simp; rw [after0_4]
  obtain ⟨a, b, rfl⟩ : ∃ (a : Fin 256) (b : Fin 128), y = ix2 a b := ⟨y 0, y 1, eq_ix2 y⟩
  have ht : t.val < 1 := lt_of_lt_of_eq t.isLt N_0
  have e (G : S256x128.Idx → EReal) : G ((win0_4.blk t).view.emb (ix2 a b)) = G (ix2 ⟨t.val * 256 + a.val, by omega⟩ b) := by
    blk_ext [idx_val t]
  refine Eq.trans ?_ (e (fun i => Fwd.change (p0 m c i) (p1 m c i) (p2 m c i) (p3 m c i))).symm
  frame_out
  exact (pay_d _ _ _ _ a b).trans (Fwd.change_congr (r0 m c t a b ⟨t.val * 256 + a.val, by omega⟩ rfl) (r1 m c t a b ⟨t.val * 256 + a.val, by omega⟩ rfl) (r2 m c t a b ⟨t.val * 256 + a.val, by omega⟩ rfl) (r3 m c t a b ⟨t.val * 256 + a.val, by omega⟩ rfl))

/-- The reference's value, entry by entry. -/
theorem ref_d0 (x0 x2 : FVec Ideal S4x31x128 .f32) (x4 x6 : FVec Ideal S4x31x128 .f32) (a : Fin 4) (b : Fin 31) (d : Fin 128) :
    @Eq EReal (val_main_v23 (F := Ideal) x0 x2 x4 x6 (ix3 a b d)) (Fwd.change (x0 (ix3 a b d)) (x2 (ix3 a b d)) (x4 (ix3 a b d)) (x6 (ix3 a b d))) := by
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6, Fwd.change, Fwd.first, Fwd.second]

/-- A result is cut from the packed one. -/
theorem tail_d0 : Pipeline.afterTail₀ cfgs (dats m) 0 (V0 m) [hostOps1] c main_v23
    = cut_0 ((dats m 0 c).arrAt 4 (cfgs 0).N) := by
  unfold Pipeline.afterTail₀
  show StableHlo.after hostOps1 _ _ = _
  after_results
  rw [arr_d m c]
  generalize (dats m 0 c).arrAt 4 (cfgs 0).N = f
  rfl

/-- A result is the reference's. -/
theorem result_d0 : cut_0 ((dats m 0 c).arrAt 4 (cfgs 0).N)
    = val_main_v23 (F := Ideal) (X0 m c) (X2 m c) (X4 m c) (X6 m c) := by
  rw [final_d]
  funext i
  obtain ⟨a, b, d, rfl⟩ : ∃ (a : Fin 4) (b : Fin 31) (d : Fin 128), i = ix3 a b d := ⟨i 0, i 1, i 2, eq_ix3 i⟩
  refine (unpacked_0 _ a b d).trans (Eq.trans ?_ (ref_d0 _ _ _ _ a b d).symm)
  exact Fwd.change_congr (packed_0 _ _ a b d) (packed_0 _ _ a b d) (packed_0 _ _ a b d) (packed_0 _ _ a b d)

/-- The reference's value, entry by entry. -/
theorem ref_d1 (x1 x3 : FVec Ideal S4x3x128 .f32) (x5 x7 : FVec Ideal S4x3x128 .f32) (a : Fin 4) (b : Fin 3) (d : Fin 128) :
    @Eq EReal (val_main_v47 (F := Ideal) x1 x3 x5 x7 (ix3 a b d)) (Fwd.change (x1 (ix3 a b d)) (x3 (ix3 a b d)) (x5 (ix3 a b d)) (x7 (ix3 a b d))) := by
  pointwise [val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15, Fwd.change, Fwd.first, Fwd.second]

/-- A result is cut from the packed one. -/
theorem tail_d1 : Pipeline.afterTail₀ cfgs (dats m) 0 (V0 m) [hostOps1] c main_v25
    = cut_1 ((dats m 0 c).arrAt 4 (cfgs 0).N) := by
  unfold Pipeline.afterTail₀
  show StableHlo.after hostOps1 _ _ = _
  after_results
  rw [arr_d m c]
  generalize (dats m 0 c).arrAt 4 (cfgs 0).N = f
  rfl

/-- A result is the reference's. -/
theorem result_d1 : cut_1 ((dats m 0 c).arrAt 4 (cfgs 0).N)
    = val_main_v47 (F := Ideal) (X1 m c) (X3 m c) (X5 m c) (X7 m c) := by
  rw [final_d]
  funext i
  obtain ⟨a, b, d, rfl⟩ : ∃ (a : Fin 4) (b : Fin 3) (d : Fin 128), i = ix3 a b d := ⟨i 0, i 1, i 2, eq_ix3 i⟩
  refine (unpacked_1 _ a b d).trans (Eq.trans ?_ (ref_d1 _ _ _ _ a b d).symm)
  exact Fwd.change_congr (packed_1 _ _ a b d) (packed_1 _ _ a b d) (packed_1 _ _ a b d) (packed_1 _ _ a b d)

/-- A packed result's array after the run. -/
theorem arr_m : Pipeline.withArrays (cfgs 0).spec c (V0 m c) (fun w => (dats m 0 c).arrAt w (cfgs 0).N) (Proc.tc.devRef main_v20_1) = (dats m 0 c).arrAt 5 (cfgs 0).N :=
  Pipeline.withArrays_arr (cfgs 0).spec (by decide) c (V0 m c) (fun w => (dats m 0 c).arrAt w (cfgs 0).N) 5

/-- A packed result after the run. -/
theorem final_m : (dats m 0 c).arrAt 5 (cfgs 0).N = fun i : S256x128.Idx => Fwd.first (p1 m c i) (p2 m c i) := by
  refine (dats m 0 c).arrAt_eq_of_covers 5 _ (by decide +kernel) fun t hf y => ?_
  blk_simp; rw [after0_5]
  obtain ⟨a, b, rfl⟩ : ∃ (a : Fin 256) (b : Fin 128), y = ix2 a b := ⟨y 0, y 1, eq_ix2 y⟩
  have ht : t.val < 1 := lt_of_lt_of_eq t.isLt N_0
  have e (G : S256x128.Idx → EReal) : G ((win0_5.blk t).view.emb (ix2 a b)) = G (ix2 ⟨t.val * 256 + a.val, by omega⟩ b) := by
    blk_ext [idx_val t]
  refine Eq.trans ?_ (e (fun i => Fwd.first (p1 m c i) (p2 m c i))).symm
  frame_out
  exact (pay_m _ _ a b).trans (congrArg₂ Fwd.first (r1 m c t a b ⟨t.val * 256 + a.val, by omega⟩ rfl) (r2 m c t a b ⟨t.val * 256 + a.val, by omega⟩ rfl))

/-- The reference's value, entry by entry. -/
theorem ref_m0 (x2 x4 : FVec Ideal S4x31x128 .f32) (a : Fin 4) (b : Fin 31) (d : Fin 128) :
    @Eq EReal (val_main_v4 (F := Ideal) x2 x4 (ix3 a b d)) (Fwd.first (x2 (ix3 a b d)) (x4 (ix3 a b d))) := by
  pointwise [val_main_v4, val_main_v1, val_main_v0, val_main_cst, val_main_v3, val_main_v2, val_main_cst_0, Fwd.change, Fwd.first, Fwd.second]

/-- A result is cut from the packed one. -/
theorem tail_m0 : Pipeline.afterTail₀ cfgs (dats m) 0 (V0 m) [hostOps1] c main_v28
    = cut_0 ((dats m 0 c).arrAt 5 (cfgs 0).N) := by
  unfold Pipeline.afterTail₀
  show StableHlo.after hostOps1 _ _ = _
  after_results
  rw [arr_m m c]
  generalize (dats m 0 c).arrAt 5 (cfgs 0).N = f
  rfl

/-- A result is the reference's. -/
theorem result_m0 : cut_0 ((dats m 0 c).arrAt 5 (cfgs 0).N)
    = val_main_v4 (F := Ideal) (X2 m c) (X4 m c) := by
  rw [final_m]
  funext i
  obtain ⟨a, b, d, rfl⟩ : ∃ (a : Fin 4) (b : Fin 31) (d : Fin 128), i = ix3 a b d := ⟨i 0, i 1, i 2, eq_ix3 i⟩
  refine (unpacked_0 _ a b d).trans (Eq.trans ?_ (ref_m0 _ _ a b d).symm)
  exact congrArg₂ Fwd.first (packed_0 _ _ a b d) (packed_0 _ _ a b d)

/-- The reference's value, entry by entry. -/
theorem ref_m1 (x3 x5 : FVec Ideal S4x3x128 .f32) (a : Fin 4) (b : Fin 3) (d : Fin 128) :
    @Eq EReal (val_main_v28 (F := Ideal) x3 x5 (ix3 a b d)) (Fwd.first (x3 (ix3 a b d)) (x5 (ix3 a b d))) := by
  pointwise [val_main_v28, val_main_v25, val_main_v24, val_main_cst_8, val_main_v27, val_main_v26, val_main_cst_9, Fwd.change, Fwd.first, Fwd.second]

/-- A result is cut from the packed one. -/
theorem tail_m1 : Pipeline.afterTail₀ cfgs (dats m) 0 (V0 m) [hostOps1] c main_v30
    = cut_1 ((dats m 0 c).arrAt 5 (cfgs 0).N) := by
  unfold Pipeline.afterTail₀
  show StableHlo.after hostOps1 _ _ = _
  after_results
  rw [arr_m m c]
  generalize (dats m 0 c).arrAt 5 (cfgs 0).N = f
  rfl

/-- A result is the reference's. -/
theorem result_m1 : cut_1 ((dats m 0 c).arrAt 5 (cfgs 0).N)
    = val_main_v28 (F := Ideal) (X3 m c) (X5 m c) := by
  rw [final_m]
  funext i
  obtain ⟨a, b, d, rfl⟩ : ∃ (a : Fin 4) (b : Fin 3) (d : Fin 128), i = ix3 a b d := ⟨i 0, i 1, i 2, eq_ix3 i⟩
  refine (unpacked_1 _ a b d).trans (Eq.trans ?_ (ref_m1 _ _ a b d).symm)
  exact congrArg₂ Fwd.first (packed_1 _ _ a b d) (packed_1 _ _ a b d)

/-- A packed result's array after the run. -/
theorem arr_v : Pipeline.withArrays (cfgs 0).spec c (V0 m c) (fun w => (dats m 0 c).arrAt w (cfgs 0).N) (Proc.tc.devRef main_v20_2) = (dats m 0 c).arrAt 6 (cfgs 0).N :=
  Pipeline.withArrays_arr (cfgs 0).spec (by decide) c (V0 m c) (fun w => (dats m 0 c).arrAt w (cfgs 0).N) 6

/-- A packed result after the run. -/
theorem final_v : (dats m 0 c).arrAt 6 (cfgs 0).N = fun i : S256x128.Idx => Fwd.second (p1 m c i) (p3 m c i) := by
  refine (dats m 0 c).arrAt_eq_of_covers 6 _ (by decide +kernel) fun t hf y => ?_
  blk_simp; rw [after0_6]
  obtain ⟨a, b, rfl⟩ : ∃ (a : Fin 256) (b : Fin 128), y = ix2 a b := ⟨y 0, y 1, eq_ix2 y⟩
  have ht : t.val < 1 := lt_of_lt_of_eq t.isLt N_0
  have e (G : S256x128.Idx → EReal) : G ((win0_6.blk t).view.emb (ix2 a b)) = G (ix2 ⟨t.val * 256 + a.val, by omega⟩ b) := by
    blk_ext [idx_val t]
  refine Eq.trans ?_ (e (fun i => Fwd.second (p1 m c i) (p3 m c i))).symm
  frame_out
  exact (pay_v _ _ a b).trans (congrArg₂ Fwd.second (r1 m c t a b ⟨t.val * 256 + a.val, by omega⟩ rfl) (r3 m c t a b ⟨t.val * 256 + a.val, by omega⟩ rfl))

/-- The reference's value, entry by entry. -/
theorem ref_v0 (x2 x6 : FVec Ideal S4x31x128 .f32) (a : Fin 4) (b : Fin 31) (d : Fin 128) :
    @Eq EReal (val_main_v10 (F := Ideal) x2 x6 (ix3 a b d)) (Fwd.second (x2 (ix3 a b d)) (x6 (ix3 a b d))) := by
  pointwise [val_main_v10, val_main_v6, val_main_v5, val_main_cst_1, val_main_v9, val_main_v8, val_main_cst_2, val_main_v7, Fwd.change, Fwd.first, Fwd.second]

/-- A result is cut from the packed one. -/
theorem tail_v0 : Pipeline.afterTail₀ cfgs (dats m) 0 (V0 m) [hostOps1] c main_v33
    = cut_0 ((dats m 0 c).arrAt 6 (cfgs 0).N) := by
  unfold Pipeline.afterTail₀
  show StableHlo.after hostOps1 _ _ = _
  after_results
  rw [arr_v m c]
  generalize (dats m 0 c).arrAt 6 (cfgs 0).N = f
  rfl

/-- A result is the reference's. -/
theorem result_v0 : cut_0 ((dats m 0 c).arrAt 6 (cfgs 0).N)
    = val_main_v10 (F := Ideal) (X2 m c) (X6 m c) := by
  rw [final_v]
  funext i
  obtain ⟨a, b, d, rfl⟩ : ∃ (a : Fin 4) (b : Fin 31) (d : Fin 128), i = ix3 a b d := ⟨i 0, i 1, i 2, eq_ix3 i⟩
  refine (unpacked_0 _ a b d).trans (Eq.trans ?_ (ref_v0 _ _ a b d).symm)
  exact congrArg₂ Fwd.second (packed_0 _ _ a b d) (packed_0 _ _ a b d)

/-- The reference's value, entry by entry. -/
theorem ref_v1 (x3 x7 : FVec Ideal S4x3x128 .f32) (a : Fin 4) (b : Fin 3) (d : Fin 128) :
    @Eq EReal (val_main_v34 (F := Ideal) x3 x7 (ix3 a b d)) (Fwd.second (x3 (ix3 a b d)) (x7 (ix3 a b d))) := by
  pointwise [val_main_v34, val_main_v30, val_main_v29, val_main_cst_10, val_main_v33, val_main_v32, val_main_cst_11, val_main_v31, Fwd.change, Fwd.first, Fwd.second]

/-- A result is cut from the packed one. -/
theorem tail_v1 : Pipeline.afterTail₀ cfgs (dats m) 0 (V0 m) [hostOps1] c main_v35
    = cut_1 ((dats m 0 c).arrAt 6 (cfgs 0).N) := by
  unfold Pipeline.afterTail₀
  show StableHlo.after hostOps1 _ _ = _
  after_results
  rw [arr_v m c]
  generalize (dats m 0 c).arrAt 6 (cfgs 0).N = f
  rfl

/-- A result is the reference's. -/
theorem result_v1 : cut_1 ((dats m 0 c).arrAt 6 (cfgs 0).N)
    = val_main_v34 (F := Ideal) (X3 m c) (X7 m c) := by
  rw [final_v]
  funext i
  obtain ⟨a, b, d, rfl⟩ : ∃ (a : Fin 4) (b : Fin 3) (d : Fin 128), i = ix3 a b d := ⟨i 0, i 1, i 2, eq_ix3 i⟩
  refine (unpacked_1 _ a b d).trans (Eq.trans ?_ (ref_v1 _ _ a b d).symm)
  exact congrArg₂ Fwd.second (packed_1 _ _ a b d) (packed_1 _ _ a b d)

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v23) = val_main_v23 (F := Ideal) (X0 m c) (X2 m c) (X4 m c) (X6 m c)
      ∧ r.2.mem ((c.tc : Thread nD τ).loc main_v25) = val_main_v47 (F := Ideal) (X1 m c) (X3 m c) (X5 m c) (X7 m c)
      ∧ r.2.mem ((c.tc : Thread nD τ).loc main_v28) = val_main_v4 (F := Ideal) (X2 m c) (X4 m c)
      ∧ r.2.mem ((c.tc : Thread nD τ).loc main_v30) = val_main_v28 (F := Ideal) (X3 m c) (X5 m c)
      ∧ r.2.mem ((c.tc : Thread nD τ).loc main_v33) = val_main_v10 (F := Ideal) (X2 m c) (X6 m c)
      ∧ r.2.mem ((c.tc : Thread nD τ).loc main_v35) = val_main_v34 (F := Ideal) (X3 m c) (X7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r hr c => ⟨((hr.1 c).2 main_v23 (by decide)).trans ((tail_d0 m c).trans (result_d0 m c)), ((hr.1 c).2 main_v25 (by decide)).trans ((tail_d1 m c).trans (result_d1 m c)), ((hr.1 c).2 main_v28 (by decide)).trans ((tail_m0 m c).trans (result_m0 m c)), ((hr.1 c).2 main_v30 (by decide)).trans ((tail_m1 m c).trans (result_m1 m c)), ((hr.1 c).2 main_v33 (by decide)).trans ((tail_v0 m c).trans (result_v0 m c)), ((hr.1 c).2 main_v35 (by decide)).trans ((tail_v1 m c).trans (result_v1 m c)), hr.2 c⟩)
    (θ_run_and (run_main m ρ) (unchanged m ρ))

end Cert.Proof.AdamSharded

end
-- ==== Proof.AdamSmall.lean ====
/-
  The optimiser's step of the small weights, packed.
-/
module

public import proofs.«01_k».proof.Proof.Gen.AdamSmallIdeal.Frame
public import proofs.«01_k».proof.Proof.Gen.AdamSmallReferenceIdeal.Run
public import proofs.«01_k».proof.Proof.Gen.AdamSmallReferenceIdeal.Read
public import proofs.«01_k».proof.Proof.Fwd
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.AdamSmall

open Cert.AdamSmallIdeal Cert.AdamSmallIdeal.Gen Cert.AdamSmallReferenceIdeal.Read

variable (m : (ℓ : Loc nD τ sig) → Buf (Elt Ideal) ℓ)

/-- The block each window stands at, in the number of the grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

variable (c : Dev nD)

/-! The arguments on a device. -/
abbrev X0 : FVec Ideal S4x1024 .f32 := m (c.tc.loc main_arg0)
abbrev X1 : FVec Ideal S4x512 .f32 := m (c.tc.loc main_arg1)
abbrev X2 : FVec Ideal S4x512 .f32 := m (c.tc.loc main_arg2)
abbrev X3 : FVec Ideal S4x512 .f32 := m (c.tc.loc main_arg3)
abbrev X4 : FVec Ideal S4x4x128x128 .f32 := m (c.tc.loc main_arg4)
abbrev X5 : FVec Ideal S4x512 .f32 := m (c.tc.loc main_arg5)
abbrev X6 : FVec Ideal S4x512 .f32 := m (c.tc.loc main_arg6)
abbrev X7 : FVec Ideal S4x512 .f32 := m (c.tc.loc main_arg7)
abbrev X8 : FVec Ideal S4x4x128x128 .f32 := m (c.tc.loc main_arg8)
abbrev X9 : FVec Ideal S4x4x128 .f32 := m (c.tc.loc main_arg9)
abbrev X10 : FVec Ideal S4x1024 .f32 := m (c.tc.loc main_arg10)
abbrev X11 : FVec Ideal S4x1024 .f32 := m (c.tc.loc main_arg11)
abbrev X12 : FVec Ideal S1024 .f32 := m (c.tc.loc main_arg12)
abbrev X13 : FVec Ideal S4x1024 .f32 := m (c.tc.loc main_arg13)
abbrev X14 : FVec Ideal S4x512 .f32 := m (c.tc.loc main_arg14)
abbrev X15 : FVec Ideal S4x512 .f32 := m (c.tc.loc main_arg15)
abbrev X16 : FVec Ideal S4x512 .f32 := m (c.tc.loc main_arg16)
abbrev X17 : FVec Ideal S4x4x128x128 .f32 := m (c.tc.loc main_arg17)
abbrev X18 : FVec Ideal S4x512 .f32 := m (c.tc.loc main_arg18)
abbrev X19 : FVec Ideal S4x512 .f32 := m (c.tc.loc main_arg19)
abbrev X20 : FVec Ideal S4x512 .f32 := m (c.tc.loc main_arg20)
abbrev X21 : FVec Ideal S4x4x128x128 .f32 := m (c.tc.loc main_arg21)
abbrev X22 : FVec Ideal S4x4x128 .f32 := m (c.tc.loc main_arg22)
abbrev X23 : FVec Ideal S4x1024 .f32 := m (c.tc.loc main_arg23)
abbrev X24 : FVec Ideal S4x1024 .f32 := m (c.tc.loc main_arg24)
abbrev X25 : FVec Ideal S1024 .f32 := m (c.tc.loc main_arg25)
abbrev X26 : FVec Ideal S4x1024 .f32 := m (c.tc.loc main_arg26)
abbrev X27 : FVec Ideal S4x512 .f32 := m (c.tc.loc main_arg27)
abbrev X28 : FVec Ideal S4x512 .f32 := m (c.tc.loc main_arg28)
abbrev X29 : FVec Ideal S4x512 .f32 := m (c.tc.loc main_arg29)
abbrev X30 : FVec Ideal S4x4x128x128 .f32 := m (c.tc.loc main_arg30)
abbrev X31 : FVec Ideal S4x512 .f32 := m (c.tc.loc main_arg31)
abbrev X32 : FVec Ideal S4x512 .f32 := m (c.tc.loc main_arg32)
abbrev X33 : FVec Ideal S4x512 .f32 := m (c.tc.loc main_arg33)
abbrev X34 : FVec Ideal S4x4x128x128 .f32 := m (c.tc.loc main_arg34)
abbrev X35 : FVec Ideal S4x4x128 .f32 := m (c.tc.loc main_arg35)
abbrev X36 : FVec Ideal S4x1024 .f32 := m (c.tc.loc main_arg36)
abbrev X37 : FVec Ideal S4x1024 .f32 := m (c.tc.loc main_arg37)
abbrev X38 : FVec Ideal S1024 .f32 := m (c.tc.loc main_arg38)
abbrev X39 : FVec Ideal S4x1024 .f32 := m (c.tc.loc main_arg39)
abbrev X40 : FVec Ideal S4x512 .f32 := m (c.tc.loc main_arg40)
abbrev X41 : FVec Ideal S4x512 .f32 := m (c.tc.loc main_arg41)
abbrev X42 : FVec Ideal S4x512 .f32 := m (c.tc.loc main_arg42)
abbrev X43 : FVec Ideal S4x4x128x128 .f32 := m (c.tc.loc main_arg43)
abbrev X44 : FVec Ideal S4x512 .f32 := m (c.tc.loc main_arg44)
abbrev X45 : FVec Ideal S4x512 .f32 := m (c.tc.loc main_arg45)
abbrev X46 : FVec Ideal S4x512 .f32 := m (c.tc.loc main_arg46)
abbrev X47 : FVec Ideal S4x4x128x128 .f32 := m (c.tc.loc main_arg47)
abbrev X48 : FVec Ideal S4x4x128 .f32 := m (c.tc.loc main_arg48)
abbrev X49 : FVec Ideal S4x1024 .f32 := m (c.tc.loc main_arg49)
abbrev X50 : FVec Ideal S4x1024 .f32 := m (c.tc.loc main_arg50)
abbrev X51 : FVec Ideal S1024 .f32 := m (c.tc.loc main_arg51)

section

variable (f0 : FVec Ideal S4096 .f32) (f1 f2 f3 : FVec Ideal S2048 .f32) (f4 : FVec Ideal S262144 .f32) (f5 f6 f7 : FVec Ideal S2048 .f32) (f8 : FVec Ideal S262144 .f32) (f9 : FVec Ideal S2048 .f32) (f10 f11 : FVec Ideal S4096 .f32) (f12 : FVec Ideal S1024 .f32)

/-- The flat arrays. -/
abbrev parts : List ((s : Shape) × (s.Idx → EReal)) := [⟨S4096, f0⟩, ⟨S2048, f1⟩, ⟨S2048, f2⟩, ⟨S2048, f3⟩, ⟨S262144, f4⟩, ⟨S2048, f5⟩, ⟨S2048, f6⟩, ⟨S2048, f7⟩, ⟨S262144, f8⟩, ⟨S2048, f9⟩, ⟨S4096, f10⟩, ⟨S4096, f11⟩, ⟨S1024, f12⟩]

/-- Flat arrays one after the other. -/
def flats : FVec Ideal S551936 .f32 := concatenate S551936 0 [⟨S4096, f0⟩, ⟨S2048, f1⟩, ⟨S2048, f2⟩, ⟨S2048, f3⟩, ⟨S262144, f4⟩, ⟨S2048, f5⟩, ⟨S2048, f6⟩, ⟨S2048, f7⟩, ⟨S262144, f8⟩, ⟨S2048, f9⟩, ⟨S4096, f10⟩, ⟨S4096, f11⟩, ⟨S1024, f12⟩] concatenates_S4096_S2048_S2048_S2048_S262144_S2048_S2048_S2048_S262144_S2048_S4096_S4096_S1024_S551936_d0

/-- Flat arrays in one packed array. -/
def joined : FVec Ideal S4352x128 .f32 :=
  shapeCast S4352x128 (pad S557056 ![0] ![5120] ![0] (flats f0 f1 f2 f3 f4 f5 f6 f7 f8 f9 f10 f11 f12) (sitofp (F := Ideal) .f32 (constantI S_ 32 0#32)) pads_S551936_S557056_051200 h_S_) shapeCasts_S557056_S4352x128

variable {f0 f1 f2 f3 f4 f5 f6 f7 f8 f9 f10 f11 f12}

/-- Where an entry of the flat arrays stands in the packed one. -/
theorem joined_at (p : Fin 551936) (r : Fin 4352) (q : Fin 128) (h : r.val * 128 + q.val = p.val) :
    @Eq EReal (joined f0 f1 f2 f3 f4 f5 f6 f7 f8 f9 f10 f11 f12 (ix2 r q)) (flats f0 f1 f2 f3 f4 f5 f6 f7 f8 f9 f10 f11 f12 (ix1 p)) := by
  pointwise [joined]
  repeat' split
  all_goals first
    | (exfalso; omega)
    | exact congrArg (fun p => flats f0 f1 f2 f3 f4 f5 f6 f7 f8 f9 f10 f11 f12 (ix1 p)) (Fin.ext (by (try dsimp only) <;> omega))

/-! Where an entry of a flat array stands in the packed one. -/

theorem join_0 (k : Fin 4096) (r : Fin 4352) (q : Fin 128) (h : r.val * 128 + q.val = 0 + k.val) :
    @Eq EReal (joined f0 f1 f2 f3 f4 f5 f6 f7 f8 f9 f10 f11 f12 (ix2 r q)) (f0 (ix1 k)) :=
  (joined_at ⟨0 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨0 + k.val, by omega⟩) 0 (by show 0 < 13; omega) S4096 f0 rfl rfl 0 (by show List.sum ([] : List ℕ) = 0; decide) (ix1 k)
      (fun b hb => absurd (Subsingleton.elim (α := Fin 1) _ _) hb) rfl)

theorem join_1 (k : Fin 2048) (r : Fin 4352) (q : Fin 128) (h : r.val * 128 + q.val = 4096 + k.val) :
    @Eq EReal (joined f0 f1 f2 f3 f4 f5 f6 f7 f8 f9 f10 f11 f12 (ix2 r q)) (f1 (ix1 k)) :=
  (joined_at ⟨4096 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨4096 + k.val, by omega⟩) 1 (by show 1 < 13; omega) S2048 f1 rfl rfl 4096 (by show List.sum ([4096] : List ℕ) = 4096; decide) (ix1 k)
      (fun b hb => absurd (Subsingleton.elim (α := Fin 1) _ _) hb) rfl)

theorem join_2 (k : Fin 2048) (r : Fin 4352) (q : Fin 128) (h : r.val * 128 + q.val = 6144 + k.val) :
    @Eq EReal (joined f0 f1 f2 f3 f4 f5 f6 f7 f8 f9 f10 f11 f12 (ix2 r q)) (f2 (ix1 k)) :=
  (joined_at ⟨6144 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨6144 + k.val, by omega⟩) 2 (by show 2 < 13; omega) S2048 f2 rfl rfl 6144 (by show List.sum ([4096, 2048] : List ℕ) = 6144; decide) (ix1 k)
      (fun b hb => absurd (Subsingleton.elim (α := Fin 1) _ _) hb) rfl)

theorem join_3 (k : Fin 2048) (r : Fin 4352) (q : Fin 128) (h : r.val * 128 + q.val = 8192 + k.val) :
    @Eq EReal (joined f0 f1 f2 f3 f4 f5 f6 f7 f8 f9 f10 f11 f12 (ix2 r q)) (f3 (ix1 k)) :=
  (joined_at ⟨8192 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨8192 + k.val, by omega⟩) 3 (by show 3 < 13; omega) S2048 f3 rfl rfl 8192 (by show List.sum ([4096, 2048, 2048] : List ℕ) = 8192; decide) (ix1 k)
      (fun b hb => absurd (Subsingleton.elim (α := Fin 1) _ _) hb) rfl)

theorem join_4 (k : Fin 262144) (r : Fin 4352) (q : Fin 128) (h : r.val * 128 + q.val = 10240 + k.val) :
    @Eq EReal (joined f0 f1 f2 f3 f4 f5 f6 f7 f8 f9 f10 f11 f12 (ix2 r q)) (f4 (ix1 k)) :=
  (joined_at ⟨10240 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨10240 + k.val, by omega⟩) 4 (by show 4 < 13; omega) S262144 f4 rfl rfl 10240 (by show List.sum ([4096, 2048, 2048, 2048] : List ℕ) = 10240; decide) (ix1 k)
      (fun b hb => absurd (Subsingleton.elim (α := Fin 1) _ _) hb) rfl)

theorem join_5 (k : Fin 2048) (r : Fin 4352) (q : Fin 128) (h : r.val * 128 + q.val = 272384 + k.val) :
    @Eq EReal (joined f0 f1 f2 f3 f4 f5 f6 f7 f8 f9 f10 f11 f12 (ix2 r q)) (f5 (ix1 k)) :=
  (joined_at ⟨272384 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨272384 + k.val, by omega⟩) 5 (by show 5 < 13; omega) S2048 f5 rfl rfl 272384 (by show List.sum ([4096, 2048, 2048, 2048, 262144] : List ℕ) = 272384; decide) (ix1 k)
      (fun b hb => absurd (Subsingleton.elim (α := Fin 1) _ _) hb) rfl)

theorem join_6 (k : Fin 2048) (r : Fin 4352) (q : Fin 128) (h : r.val * 128 + q.val = 274432 + k.val) :
    @Eq EReal (joined f0 f1 f2 f3 f4 f5 f6 f7 f8 f9 f10 f11 f12 (ix2 r q)) (f6 (ix1 k)) :=
  (joined_at ⟨274432 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨274432 + k.val, by omega⟩) 6 (by show 6 < 13; omega) S2048 f6 rfl rfl 274432 (by show List.sum ([4096, 2048, 2048, 2048, 262144, 2048] : List ℕ) = 274432; decide) (ix1 k)
      (fun b hb => absurd (Subsingleton.elim (α := Fin 1) _ _) hb) rfl)

theorem join_7 (k : Fin 2048) (r : Fin 4352) (q : Fin 128) (h : r.val * 128 + q.val = 276480 + k.val) :
    @Eq EReal (joined f0 f1 f2 f3 f4 f5 f6 f7 f8 f9 f10 f11 f12 (ix2 r q)) (f7 (ix1 k)) :=
  (joined_at ⟨276480 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨276480 + k.val, by omega⟩) 7 (by show 7 < 13; omega) S2048 f7 rfl rfl 276480 (by show List.sum ([4096, 2048, 2048, 2048, 262144, 2048, 2048] : List ℕ) = 276480; decide) (ix1 k)
      (fun b hb => absurd (Subsingleton.elim (α := Fin 1) _ _) hb) rfl)

theorem join_8 (k : Fin 262144) (r : Fin 4352) (q : Fin 128) (h : r.val * 128 + q.val = 278528 + k.val) :
    @Eq EReal (joined f0 f1 f2 f3 f4 f5 f6 f7 f8 f9 f10 f11 f12 (ix2 r q)) (f8 (ix1 k)) :=
  (joined_at ⟨278528 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨278528 + k.val, by omega⟩) 8 (by show 8 < 13; omega) S262144 f8 rfl rfl 278528 (by show List.sum ([4096, 2048, 2048, 2048, 262144, 2048, 2048, 2048] : List ℕ) = 278528; decide) (ix1 k)
      (fun b hb => absurd (Subsingleton.elim (α := Fin 1) _ _) hb) rfl)

theorem join_9 (k : Fin 2048) (r : Fin 4352) (q : Fin 128) (h : r.val * 128 + q.val = 540672 + k.val) :
    @Eq EReal (joined f0 f1 f2 f3 f4 f5 f6 f7 f8 f9 f10 f11 f12 (ix2 r q)) (f9 (ix1 k)) :=
  (joined_at ⟨540672 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨540672 + k.val, by omega⟩) 9 (by show 9 < 13; omega) S2048 f9 rfl rfl 540672 (by show List.sum ([4096, 2048, 2048, 2048, 262144, 2048, 2048, 2048, 262144] : List ℕ) = 540672; decide) (ix1 k)
      (fun b hb => absurd (Subsingleton.elim (α := Fin 1) _ _) hb) rfl)

theorem join_10 (k : Fin 4096) (r : Fin 4352) (q : Fin 128) (h : r.val * 128 + q.val = 542720 + k.val) :
    @Eq EReal (joined f0 f1 f2 f3 f4 f5 f6 f7 f8 f9 f10 f11 f12 (ix2 r q)) (f10 (ix1 k)) :=
  (joined_at ⟨542720 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨542720 + k.val, by omega⟩) 10 (by show 10 < 13; omega) S4096 f10 rfl rfl 542720 (by show List.sum ([4096, 2048, 2048, 2048, 262144, 2048, 2048, 2048, 262144, 2048] : List ℕ) = 542720; decide) (ix1 k)
      (fun b hb => absurd (Subsingleton.elim (α := Fin 1) _ _) hb) rfl)

theorem join_11 (k : Fin 4096) (r : Fin 4352) (q : Fin 128) (h : r.val * 128 + q.val = 546816 + k.val) :
    @Eq EReal (joined f0 f1 f2 f3 f4 f5 f6 f7 f8 f9 f10 f11 f12 (ix2 r q)) (f11 (ix1 k)) :=
  (joined_at ⟨546816 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨546816 + k.val, by omega⟩) 11 (by show 11 < 13; omega) S4096 f11 rfl rfl 546816 (by show List.sum ([4096, 2048, 2048, 2048, 262144, 2048, 2048, 2048, 262144, 2048, 4096] : List ℕ) = 546816; decide) (ix1 k)
      (fun b hb => absurd (Subsingleton.elim (α := Fin 1) _ _) hb) rfl)

theorem join_12 (k : Fin 1024) (r : Fin 4352) (q : Fin 128) (h : r.val * 128 + q.val = 550912 + k.val) :
    @Eq EReal (joined f0 f1 f2 f3 f4 f5 f6 f7 f8 f9 f10 f11 f12 (ix2 r q)) (f12 (ix1 k)) :=
  (joined_at ⟨550912 + k.val, by omega⟩ r q h).trans
    (concatenate_apply_piece (t := S551936) 0 (parts f0 f1 f2 f3 f4 f5 f6 f7 f8 f9 f10 f11 f12) concatenates_S4096_S2048_S2048_S2048_S262144_S2048_S2048_S2048_S262144_S2048_S4096_S4096_S1024_S551936_d0 (ix1 ⟨550912 + k.val, by omega⟩) 12 (by show 12 < 13; omega) S1024 f12 rfl rfl 550912 (by show List.sum ([4096, 2048, 2048, 2048, 262144, 2048, 2048, 2048, 262144, 2048, 4096, 4096] : List ℕ) = 550912; decide) (ix1 k)
      (fun b hb => absurd (Subsingleton.elim (α := Fin 1) _ _) hb) rfl)

end

section

variable (x0 : FVec Ideal S4x1024 .f32) (x1 x2 x3 : FVec Ideal S4x512 .f32) (x4 : FVec Ideal S4x4x128x128 .f32) (x5 x6 x7 : FVec Ideal S4x512 .f32) (x8 : FVec Ideal S4x4x128x128 .f32) (x9 : FVec Ideal S4x4x128 .f32) (x10 x11 : FVec Ideal S4x1024 .f32) (x12 : FVec Ideal S1024 .f32)

/-- The small arrays in one packed array. -/
def packed : FVec Ideal S4352x128 .f32 := joined (shapeCast S4096 x0 shapeCasts_S4x1024_S4096) (shapeCast S2048 x1 shapeCasts_S4x512_S2048) (shapeCast S2048 x2 shapeCasts_S4x512_S2048) (shapeCast S2048 x3 shapeCasts_S4x512_S2048) (shapeCast S262144 x4 shapeCasts_S4x4x128x128_S262144) (shapeCast S2048 x5 shapeCasts_S4x512_S2048) (shapeCast S2048 x6 shapeCasts_S4x512_S2048) (shapeCast S2048 x7 shapeCasts_S4x512_S2048) (shapeCast S262144 x8 shapeCasts_S4x4x128x128_S262144) (shapeCast S2048 x9 shapeCasts_S4x4x128_S2048) (shapeCast S4096 x10 shapeCasts_S4x1024_S4096) (shapeCast S4096 x11 shapeCasts_S4x1024_S4096) x12

abbrev p0 : FVec Ideal S4352x128 .f32 := packed (X0 m c) (X1 m c) (X2 m c) (X3 m c) (X4 m c) (X5 m c) (X6 m c) (X7 m c) (X8 m c) (X9 m c) (X10 m c) (X11 m c) (X12 m c)
abbrev p1 : FVec Ideal S4352x128 .f32 := packed (X13 m c) (X14 m c) (X15 m c) (X16 m c) (X17 m c) (X18 m c) (X19 m c) (X20 m c) (X21 m c) (X22 m c) (X23 m c) (X24 m c) (X25 m c)
abbrev p2 : FVec Ideal S4352x128 .f32 := packed (X26 m c) (X27 m c) (X28 m c) (X29 m c) (X30 m c) (X31 m c) (X32 m c) (X33 m c) (X34 m c) (X35 m c) (X36 m c) (X37 m c) (X38 m c)
abbrev p3 : FVec Ideal S4352x128 .f32 := packed (X39 m c) (X40 m c) (X41 m c) (X42 m c) (X43 m c) (X44 m c) (X45 m c) (X46 m c) (X47 m c) (X48 m c) (X49 m c) (X50 m c) (X51 m c)

variable {x0 x1 x2 x3 x4 x5 x6 x7 x8 x9 x10 x11 x12}

/-- Equal places hold equal entries. -/
theorem same_p (x : FVec Ideal S4352x128 .f32) {a a' : Fin 4352} {b b' : Fin 128} (ha : a.val = a'.val) (hb : b.val = b'.val) : @Eq EReal (x (ix2 a b)) (x (ix2 a' b')) := by
  obtain rfl := Fin.ext ha
  obtain rfl := Fin.ext hb
  rfl

theorem same_0 (x : FVec Ideal S4x1024 .f32) {a a' : Fin 4} {b b' : Fin 1024} (ha : a.val = a'.val) (hb : b.val = b'.val) : @Eq EReal (x (ix2 a b)) (x (ix2 a' b')) := by
  obtain rfl := Fin.ext ha
  obtain rfl := Fin.ext hb
  rfl

/-- An entry of a small array made flat. -/
theorem flat_0 (x : FVec Ideal S4x1024 .f32) (a : Fin 4) (b : Fin 1024) : @Eq EReal (shapeCast S4096 x shapeCasts_S4x1024_S4096 (ix1 ⟨a.val * 1024 + b.val, by omega⟩)) (x (ix2 a b)) := by
  pointwise []
  all_goals exact same_0 _ (by (try dsimp only) <;> omega) (by (try dsimp only) <;> omega)

/-- Where an entry of a small array stands in the packed one. -/
theorem packed_0 (a : Fin 4) (b : Fin 1024) :
    @Eq EReal (packed x0 x1 x2 x3 x4 x5 x6 x7 x8 x9 x10 x11 x12 (ix2 ⟨0 + (a.val * 8 + b.val / 128), by omega⟩ ⟨b.val % 128, by omega⟩)) (x0 (ix2 a b)) :=
  (join_0 ⟨a.val * 1024 + b.val, by omega⟩ _ _ (by dsimp only; omega)).trans (flat_0 x0 a b)

/-- A small array cut from a packed one. -/
def cut_0 (f : FVec Ideal S4352x128 .f32) : FVec Ideal S4x1024 .f32 :=
  shapeCast S4x1024 (extractStridedSlice S4096 ![0] (shapeCast S557056 f shapeCasts_S4352x128_S557056) slices_S557056_S4096_0) shapeCasts_S4096_S4x1024

/-- An entry of a small array read back from a packed one. -/
theorem unpacked_0 (f : FVec Ideal S4352x128 .f32) (a : Fin 4) (b : Fin 1024) :
    cut_0 f (ix2 a b)
      = f (ix2 ⟨0 + (a.val * 8 + b.val / 128), by omega⟩ ⟨b.val % 128, by omega⟩) := by
  pointwise [cut_0]
  all_goals exact same_p _ (by (try dsimp only) <;> omega) (by (try dsimp only) <;> omega)

theorem same_1 (x : FVec Ideal S4x512 .f32) {a a' : Fin 4} {b b' : Fin 512} (ha : a.val = a'.val) (hb : b.val = b'.val) : @Eq EReal (x (ix2 a b)) (x (ix2 a' b')) := by
  obtain rfl := Fin.ext ha
  obtain rfl := Fin.ext hb
  rfl

theorem flat_1 (x : FVec Ideal S4x512 .f32) (a : Fin 4) (b : Fin 512) : @Eq EReal (shapeCast S2048 x shapeCasts_S4x512_S2048 (ix1 ⟨a.val * 512 + b.val, by omega⟩)) (x (ix2 a b)) := by
  pointwise []
  all_goals exact same_1 _ (by (try dsimp only) <;> omega) (by (try dsimp only) <;> omega)

theorem packed_1 (a : Fin 4) (b : Fin 512) :
    @Eq EReal (packed x0 x1 x2 x3 x4 x5 x6 x7 x8 x9 x10 x11 x12 (ix2 ⟨32 + (a.val * 4 + b.val / 128), by omega⟩ ⟨b.val % 128, by omega⟩)) (x1 (ix2 a b)) :=
  (join_1 ⟨a.val * 512 + b.val, by omega⟩ _ _ (by dsimp only; omega)).trans (flat_1 x1 a b)

def cut_1 (f : FVec Ideal S4352x128 .f32) : FVec Ideal S4x512 .f32 :=
  shapeCast S4x512 (extractStridedSlice S2048 ![4096] (shapeCast S557056 f shapeCasts_S4352x128_S557056) slices_S557056_S2048_4096) shapeCasts_S2048_S4x512

theorem unpacked_1 (f : FVec Ideal S4352x128 .f32) (a : Fin 4) (b : Fin 512) :
    cut_1 f (ix2 a b)
      = f (ix2 ⟨32 + (a.val * 4 + b.val / 128), by omega⟩ ⟨b.val % 128, by omega⟩) := by
  pointwise [cut_1]
  all_goals exact same_p _ (by (try dsimp only) <;> omega) (by (try dsimp only) <;> omega)

theorem same_2 (x : FVec Ideal S4x512 .f32) {a a' : Fin 4} {b b' : Fin 512} (ha : a.val = a'.val) (hb : b.val = b'.val) : @Eq EReal (x (ix2 a b)) (x (ix2 a' b')) := by
  obtain rfl := Fin.ext ha
  obtain rfl := Fin.ext hb
  rfl

theorem flat_2 (x : FVec Ideal S4x512 .f32) (a : Fin 4) (b : Fin 512) : @Eq EReal (shapeCast S2048 x shapeCasts_S4x512_S2048 (ix1 ⟨a.val * 512 + b.val, by omega⟩)) (x (ix2 a b)) := by
  pointwise []
  all_goals exact same_2 _ (by (try dsimp only) <;> omega) (by (try dsimp only) <;> omega)

theorem packed_2 (a : Fin 4) (b : Fin 512) :
    @Eq EReal (packed x0 x1 x2 x3 x4 x5 x6 x7 x8 x9 x10 x11 x12 (ix2 ⟨48 + (a.val * 4 + b.val / 128), by omega⟩ ⟨b.val % 128, by omega⟩)) (x2 (ix2 a b)) :=
  (join_2 ⟨a.val * 512 + b.val, by omega⟩ _ _ (by dsimp only; omega)).trans (flat_2 x2 a b)

def cut_2 (f : FVec Ideal S4352x128 .f32) : FVec Ideal S4x512 .f32 :=
  shapeCast S4x512 (extractStridedSlice S2048 ![6144] (shapeCast S557056 f shapeCasts_S4352x128_S557056) slices_S557056_S2048_6144) shapeCasts_S2048_S4x512

theorem unpacked_2 (f : FVec Ideal S4352x128 .f32) (a : Fin 4) (b : Fin 512) :
    cut_2 f (ix2 a b)
      = f (ix2 ⟨48 + (a.val * 4 + b.val / 128), by omega⟩ ⟨b.val % 128, by omega⟩) := by
  pointwise [cut_2]
  all_goals exact same_p _ (by (try dsimp only) <;> omega) (by (try dsimp only) <;> omega)

theorem same_3 (x : FVec Ideal S4x512 .f32) {a a' : Fin 4} {b b' : Fin 512} (ha : a.val = a'.val) (hb : b.val = b'.val) : @Eq EReal (x (ix2 a b)) (x (ix2 a' b')) := by
  obtain rfl := Fin.ext ha
  obtain rfl := Fin.ext hb
  rfl

theorem flat_3 (x : FVec Ideal S4x512 .f32) (a : Fin 4) (b : Fin 512) : @Eq EReal (shapeCast S2048 x shapeCasts_S4x512_S2048 (ix1 ⟨a.val * 512 + b.val, by omega⟩)) (x (ix2 a b)) := by
  pointwise []
  all_goals exact same_3 _ (by (try dsimp only) <;> omega) (by (try dsimp only) <;> omega)

theorem packed_3 (a : Fin 4) (b : Fin 512) :
    @Eq EReal (packed x0 x1 x2 x3 x4 x5 x6 x7 x8 x9 x10 x11 x12 (ix2 ⟨64 + (a.val * 4 + b.val / 128), by omega⟩ ⟨b.val % 128, by omega⟩)) (x3 (ix2 a b)) :=
  (join_3 ⟨a.val * 512 + b.val, by omega⟩ _ _ (by dsimp only; omega)).trans (flat_3 x3 a b)

def cut_3 (f : FVec Ideal S4352x128 .f32) : FVec Ideal S4x512 .f32 :=
  shapeCast S4x512 (extractStridedSlice S2048 ![8192] (shapeCast S557056 f shapeCasts_S4352x128_S557056) slices_S557056_S2048_8192) shapeCasts_S2048_S4x512

theorem unpacked_3 (f : FVec Ideal S4352x128 .f32) (a : Fin 4) (b : Fin 512) :
    cut_3 f (ix2 a b)
      = f (ix2 ⟨64 + (a.val * 4 + b.val / 128), by omega⟩ ⟨b.val % 128, by omega⟩) := by
  pointwise [cut_3]
  all_goals exact same_p _ (by (try dsimp only) <;> omega) (by (try dsimp only) <;> omega)

theorem same_4 (x : FVec Ideal S4x4x128x128 .f32) {a a' : Fin 4} {b b' : Fin 4} {d d' : Fin 128} {e e' : Fin 128} (ha : a.val = a'.val) (hb : b.val = b'.val) (hd : d.val = d'.val) (he : e.val = e'.val) : @Eq EReal (x (ix4 a b d e)) (x (ix4 a' b' d' e')) := by
  obtain rfl := Fin.ext ha
  obtain rfl := Fin.ext hb
  obtain rfl := Fin.ext hd
  obtain rfl := Fin.ext he
  rfl

theorem flat_4 (x : FVec Ideal S4x4x128x128 .f32) (a : Fin 4) (b : Fin 4) (d : Fin 128) (e : Fin 128) : @Eq EReal (shapeCast S262144 x shapeCasts_S4x4x128x128_S262144 (ix1 ⟨((a.val * 4 + b.val) * 128 + d.val) * 128 + e.val, by omega⟩)) (x (ix4 a b d e)) := by
  pointwise []
  all_goals exact same_4 _ (by (try dsimp only) <;> omega) (by (try dsimp only) <;> omega) (by (try dsimp only) <;> omega) (by (try dsimp only) <;> omega)

theorem packed_4 (a : Fin 4) (b : Fin 4) (d : Fin 128) (e : Fin 128) :
    @Eq EReal (packed x0 x1 x2 x3 x4 x5 x6 x7 x8 x9 x10 x11 x12 (ix2 ⟨80 + ((a.val * 4 + b.val) * 128 + d.val), by omega⟩ e)) (x4 (ix4 a b d e)) :=
  (join_4 ⟨((a.val * 4 + b.val) * 128 + d.val) * 128 + e.val, by omega⟩ _ _ (by dsimp only; omega)).trans (flat_4 x4 a b d e)

def cut_4 (f : FVec Ideal S4352x128 .f32) : FVec Ideal S4x4x128x128 .f32 :=
  shapeCast S4x4x128x128 (extractStridedSlice S262144 ![10240] (shapeCast S557056 f shapeCasts_S4352x128_S557056) slices_S557056_S262144_10240) shapeCasts_S262144_S4x4x128x128

theorem unpacked_4 (f : FVec Ideal S4352x128 .f32) (a : Fin 4) (b : Fin 4) (d : Fin 128) (e : Fin 128) :
    cut_4 f (ix4 a b d e)
      = f (ix2 ⟨80 + ((a.val * 4 + b.val) * 128 + d.val), by omega⟩ e) := by
  pointwise [cut_4]
  all_goals exact same_p _ (by (try dsimp only) <;> omega) (by (try dsimp only) <;> omega)

theorem same_5 (x : FVec Ideal S4x512 .f32) {a a' : Fin 4} {b b' : Fin 512} (ha : a.val = a'.val) (hb : b.val = b'.val) : @Eq EReal (x (ix2 a b)) (x (ix2 a' b')) := by
  obtain rfl := Fin.ext ha
  obtain rfl := Fin.ext hb
  rfl

theorem flat_5 (x : FVec Ideal S4x512 .f32) (a : Fin 4) (b : Fin 512) : @Eq EReal (shapeCast S2048 x shapeCasts_S4x512_S2048 (ix1 ⟨a.val * 512 + b.val, by omega⟩)) (x (ix2 a b)) := by
  pointwise []
  all_goals exact same_5 _ (by (try dsimp only) <;> omega) (by (try dsimp only) <;> omega)

theorem packed_5 (a : Fin 4) (b : Fin 512) :
    @Eq EReal (packed x0 x1 x2 x3 x4 x5 x6 x7 x8 x9 x10 x11 x12 (ix2 ⟨2128 + (a.val * 4 + b.val / 128), by omega⟩ ⟨b.val % 128, by omega⟩)) (x5 (ix2 a b)) :=
  (join_5 ⟨a.val * 512 + b.val, by omega⟩ _ _ (by dsimp only; omega)).trans (flat_5 x5 a b)

def cut_5 (f : FVec Ideal S4352x128 .f32) : FVec Ideal S4x512 .f32 :=
  shapeCast S4x512 (extractStridedSlice S2048 ![272384] (shapeCast S557056 f shapeCasts_S4352x128_S557056) slices_S557056_S2048_272384) shapeCasts_S2048_S4x512

theorem unpacked_5 (f : FVec Ideal S4352x128 .f32) (a : Fin 4) (b : Fin 512) :
    cut_5 f (ix2 a b)
      = f (ix2 ⟨2128 + (a.val * 4 + b.val / 128), by omega⟩ ⟨b.val % 128, by omega⟩) := by
  pointwise [cut_5]
  all_goals exact same_p _ (by (try dsimp only) <;> omega) (by (try dsimp only) <;> omega)

theorem same_6 (x : FVec Ideal S4x512 .f32) {a a' : Fin 4} {b b' : Fin 512} (ha : a.val = a'.val) (hb : b.val = b'.val) : @Eq EReal (x (ix2 a b)) (x (ix2 a' b')) := by
  obtain rfl := Fin.ext ha
  obtain rfl := Fin.ext hb
  rfl

theorem flat_6 (x : FVec Ideal S4x512 .f32) (a : Fin 4) (b : Fin 512) : @Eq EReal (shapeCast S2048 x shapeCasts_S4x512_S2048 (ix1 ⟨a.val * 512 + b.val, by omega⟩)) (x (ix2 a b)) := by
  pointwise []
  all_goals exact same_6 _ (by (try dsimp only) <;> omega) (by (try dsimp only) <;> omega)

theorem packed_6 (a : Fin 4) (b : Fin 512) :
    @Eq EReal (packed x0 x1 x2 x3 x4 x5 x6 x7 x8 x9 x10 x11 x12 (ix2 ⟨2144 + (a.val * 4 + b.val / 128), by omega⟩ ⟨b.val % 128, by omega⟩)) (x6 (ix2 a b)) :=
  (join_6 ⟨a.val * 512 + b.val, by omega⟩ _ _ (by dsimp only; omega)).trans (flat_6 x6 a b)

def cut_6 (f : FVec Ideal S4352x128 .f32) : FVec Ideal S4x512 .f32 :=
  shapeCast S4x512 (extractStridedSlice S2048 ![274432] (shapeCast S557056 f shapeCasts_S4352x128_S557056) slices_S557056_S2048_274432) shapeCasts_S2048_S4x512

theorem unpacked_6 (f : FVec Ideal S4352x128 .f32) (a : Fin 4) (b : Fin 512) :
    cut_6 f (ix2 a b)
      = f (ix2 ⟨2144 + (a.val * 4 + b.val / 128), by omega⟩ ⟨b.val % 128, by omega⟩) := by
  pointwise [cut_6]
  all_goals exact same_p _ (by (try dsimp only) <;> omega) (by (try dsimp only) <;> omega)

theorem same_7 (x : FVec Ideal S4x512 .f32) {a a' : Fin 4} {b b' : Fin 512} (ha : a.val = a'.val) (hb : b.val = b'.val) : @Eq EReal (x (ix2 a b)) (x (ix2 a' b')) := by
  obtain rfl := Fin.ext ha
  obtain rfl := Fin.ext hb
  rfl

theorem flat_7 (x : FVec Ideal S4x512 .f32) (a : Fin 4) (b : Fin 512) : @Eq EReal (shapeCast S2048 x shapeCasts_S4x512_S2048 (ix1 ⟨a.val * 512 + b.val, by omega⟩)) (x (ix2 a b)) := by
  pointwise []
  all_goals exact same_7 _ (by (try dsimp only) <;> omega) (by (try dsimp only) <;> omega)

theorem packed_7 (a : Fin 4) (b : Fin 512) :
    @Eq EReal (packed x0 x1 x2 x3 x4 x5 x6 x7 x8 x9 x10 x11 x12 (ix2 ⟨2160 + (a.val * 4 + b.val / 128), by omega⟩ ⟨b.val % 128, by omega⟩)) (x7 (ix2 a b)) :=
  (join_7 ⟨a.val * 512 + b.val, by omega⟩ _ _ (by dsimp only; omega)).trans (flat_7 x7 a b)

def cut_7 (f : FVec Ideal S4352x128 .f32) : FVec Ideal S4x512 .f32 :=
  shapeCast S4x512 (extractStridedSlice S2048 ![276480] (shapeCast S557056 f shapeCasts_S4352x128_S557056) slices_S557056_S2048_276480) shapeCasts_S2048_S4x512

theorem unpacked_7 (f : FVec Ideal S4352x128 .f32) (a : Fin 4) (b : Fin 512) :
    cut_7 f (ix2 a b)
      = f (ix2 ⟨2160 + (a.val * 4 + b.val / 128), by omega⟩ ⟨b.val % 128, by omega⟩) := by
  pointwise [cut_7]
  all_goals exact same_p _ (by (try dsimp only) <;> omega) (by (try dsimp only) <;> omega)

theorem same_8 (x : FVec Ideal S4x4x128x128 .f32) {a a' : Fin 4} {b b' : Fin 4} {d d' : Fin 128} {e e' : Fin 128} (ha : a.val = a'.val) (hb : b.val = b'.val) (hd : d.val = d'.val) (he : e.val = e'.val) : @Eq EReal (x (ix4 a b d e)) (x (ix4 a' b' d' e')) := by
  obtain rfl := Fin.ext ha
  obtain rfl := Fin.ext hb
  obtain rfl := Fin.ext hd
  obtain rfl := Fin.ext he
  rfl

theorem flat_8 (x : FVec Ideal S4x4x128x128 .f32) (a : Fin 4) (b : Fin 4) (d : Fin 128) (e : Fin 128) : @Eq EReal (shapeCast S262144 x shapeCasts_S4x4x128x128_S262144 (ix1 ⟨((a.val * 4 + b.val) * 128 + d.val) * 128 + e.val, by omega⟩)) (x (ix4 a b d e)) := by
  pointwise []
  all_goals exact same_8 _ (by (try dsimp only) <;> omega) (by (try dsimp only) <;> omega) (by (try dsimp only) <;> omega) (by (try dsimp only) <;> omega)

theorem packed_8 (a : Fin 4) (b : Fin 4) (d : Fin 128) (e : Fin 128) :
    @Eq EReal (packed x0 x1 x2 x3 x4 x5 x6 x7 x8 x9 x10 x11 x12 (ix2 ⟨2176 + ((a.val * 4 + b.val) * 128 + d.val), by omega⟩ e)) (x8 (ix4 a b d e)) :=
  (join_8 ⟨((a.val * 4 + b.val) * 128 + d.val) * 128 + e.val, by omega⟩ _ _ (by dsimp only; omega)).trans (flat_8 x8 a b d e)

def cut_8 (f : FVec Ideal S4352x128 .f32) : FVec Ideal S4x4x128x128 .f32 :=
  shapeCast S4x4x128x128 (extractStridedSlice S262144 ![278528] (shapeCast S557056 f shapeCasts_S4352x128_S557056) slices_S557056_S262144_278528) shapeCasts_S262144_S4x4x128x128

theorem unpacked_8 (f : FVec Ideal S4352x128 .f32) (a : Fin 4) (b : Fin 4) (d : Fin 128) (e : Fin 128) :
    cut_8 f (ix4 a b d e)
      = f (ix2 ⟨2176 + ((a.val * 4 + b.val) * 128 + d.val), by omega⟩ e) := by
  pointwise [cut_8]
  all_goals exact same_p _ (by (try dsimp only) <;> omega) (by (try dsimp only) <;> omega)

theorem same_9 (x : FVec Ideal S4x4x128 .f32) {a a' : Fin 4} {b b' : Fin 4} {d d' : Fin 128} (ha : a.val = a'.val) (hb : b.val = b'.val) (hd : d.val = d'.val) : @Eq EReal (x (ix3 a b d)) (x (ix3 a' b' d')) := by
  obtain rfl := Fin.ext ha
  obtain rfl := Fin.ext hb
  obtain rfl := Fin.ext hd
  rfl

theorem flat_9 (x : FVec Ideal S4x4x128 .f32) (a : Fin 4) (b : Fin 4) (d : Fin 128) : @Eq EReal (shapeCast S2048 x shapeCasts_S4x4x128_S2048 (ix1 ⟨(a.val * 4 + b.val) * 128 + d.val, by omega⟩)) (x (ix3 a b d)) := by
  pointwise []
  all_goals exact same_9 _ (by (try dsimp only) <;> omega) (by (try dsimp only) <;> omega) (by (try dsimp only) <;> omega)

theorem packed_9 (a : Fin 4) (b : Fin 4) (d : Fin 128) :
    @Eq EReal (packed x0 x1 x2 x3 x4 x5 x6 x7 x8 x9 x10 x11 x12 (ix2 ⟨4224 + (a.val * 4 + b.val), by omega⟩ d)) (x9 (ix3 a b d)) :=
  (join_9 ⟨(a.val * 4 + b.val) * 128 + d.val, by omega⟩ _ _ (by dsimp only; omega)).trans (flat_9 x9 a b d)

def cut_9 (f : FVec Ideal S4352x128 .f32) : FVec Ideal S4x4x128 .f32 :=
  shapeCast S4x4x128 (extractStridedSlice S2048 ![540672] (shapeCast S557056 f shapeCasts_S4352x128_S557056) slices_S557056_S2048_540672) shapeCasts_S2048_S4x4x128

theorem unpacked_9 (f : FVec Ideal S4352x128 .f32) (a : Fin 4) (b : Fin 4) (d : Fin 128) :
    cut_9 f (ix3 a b d)
      = f (ix2 ⟨4224 + (a.val * 4 + b.val), by omega⟩ d) := by
  pointwise [cut_9]
  all_goals exact same_p _ (by (try dsimp only) <;> omega) (by (try dsimp only) <;> omega)

theorem same_10 (x : FVec Ideal S4x1024 .f32) {a a' : Fin 4} {b b' : Fin 1024} (ha : a.val = a'.val) (hb : b.val = b'.val) : @Eq EReal (x (ix2 a b)) (x (ix2 a' b')) := by
  obtain rfl := Fin.ext ha
  obtain rfl := Fin.ext hb
  rfl

theorem flat_10 (x : FVec Ideal S4x1024 .f32) (a : Fin 4) (b : Fin 1024) : @Eq EReal (shapeCast S4096 x shapeCasts_S4x1024_S4096 (ix1 ⟨a.val * 1024 + b.val, by omega⟩)) (x (ix2 a b)) := by
  pointwise []
  all_goals exact same_10 _ (by (try dsimp only) <;> omega) (by (try dsimp only) <;> omega)

theorem packed_10 (a : Fin 4) (b : Fin 1024) :
    @Eq EReal (packed x0 x1 x2 x3 x4 x5 x6 x7 x8 x9 x10 x11 x12 (ix2 ⟨4240 + (a.val * 8 + b.val / 128), by omega⟩ ⟨b.val % 128, by omega⟩)) (x10 (ix2 a b)) :=
  (join_10 ⟨a.val * 1024 + b.val, by omega⟩ _ _ (by dsimp only; omega)).trans (flat_10 x10 a b)

def cut_10 (f : FVec Ideal S4352x128 .f32) : FVec Ideal S4x1024 .f32 :=
  shapeCast S4x1024 (extractStridedSlice S4096 ![542720] (shapeCast S557056 f shapeCasts_S4352x128_S557056) slices_S557056_S4096_542720) shapeCasts_S4096_S4x1024

theorem unpacked_10 (f : FVec Ideal S4352x128 .f32) (a : Fin 4) (b : Fin 1024) :
    cut_10 f (ix2 a b)
      = f (ix2 ⟨4240 + (a.val * 8 + b.val / 128), by omega⟩ ⟨b.val % 128, by omega⟩) := by
  pointwise [cut_10]
  all_goals exact same_p _ (by (try dsimp only) <;> omega) (by (try dsimp only) <;> omega)

theorem same_11 (x : FVec Ideal S4x1024 .f32) {a a' : Fin 4} {b b' : Fin 1024} (ha : a.val = a'.val) (hb : b.val = b'.val) : @Eq EReal (x (ix2 a b)) (x (ix2 a' b')) := by
  obtain rfl := Fin.ext ha
  obtain rfl := Fin.ext hb
  rfl

theorem flat_11 (x : FVec Ideal S4x1024 .f32) (a : Fin 4) (b : Fin 1024) : @Eq EReal (shapeCast S4096 x shapeCasts_S4x1024_S4096 (ix1 ⟨a.val * 1024 + b.val, by omega⟩)) (x (ix2 a b)) := by
  pointwise []
  all_goals exact same_11 _ (by (try dsimp only) <;> omega) (by (try dsimp only) <;> omega)

theorem packed_11 (a : Fin 4) (b : Fin 1024) :
    @Eq EReal (packed x0 x1 x2 x3 x4 x5 x6 x7 x8 x9 x10 x11 x12 (ix2 ⟨4272 + (a.val * 8 + b.val / 128), by omega⟩ ⟨b.val % 128, by omega⟩)) (x11 (ix2 a b)) :=
  (join_11 ⟨a.val * 1024 + b.val, by omega⟩ _ _ (by dsimp only; omega)).trans (flat_11 x11 a b)

def cut_11 (f : FVec Ideal S4352x128 .f32) : FVec Ideal S4x1024 .f32 :=
  shapeCast S4x1024 (extractStridedSlice S4096 ![546816] (shapeCast S557056 f shapeCasts_S4352x128_S557056) slices_S557056_S4096_546816) shapeCasts_S4096_S4x1024

theorem unpacked_11 (f : FVec Ideal S4352x128 .f32) (a : Fin 4) (b : Fin 1024) :
    cut_11 f (ix2 a b)
      = f (ix2 ⟨4272 + (a.val * 8 + b.val / 128), by omega⟩ ⟨b.val % 128, by omega⟩) := by
  pointwise [cut_11]
  all_goals exact same_p _ (by (try dsimp only) <;> omega) (by (try dsimp only) <;> omega)

theorem same_12 (x : FVec Ideal S1024 .f32) {a a' : Fin 1024} (ha : a.val = a'.val) : @Eq EReal (x (ix1 a)) (x (ix1 a')) := by
  obtain rfl := Fin.ext ha
  rfl

theorem packed_12 (a : Fin 1024) :
    @Eq EReal (packed x0 x1 x2 x3 x4 x5 x6 x7 x8 x9 x10 x11 x12 (ix2 ⟨4304 + (0 * 8 + a.val / 128), by omega⟩ ⟨a.val % 128, by omega⟩)) (x12 (ix1 a)) :=
  join_12 a _ _ (by dsimp only; omega)

end

def cut_12 (f : FVec Ideal S4352x128 .f32) : FVec Ideal S1024 .f32 :=
  extractStridedSlice S1024 ![550912] (shapeCast S557056 f shapeCasts_S4352x128_S557056) slices_S557056_S1024_550912

theorem unpacked_12 (f : FVec Ideal S4352x128 .f32) (a : Fin 1024) :
    cut_12 f (ix1 a)
      = f (ix2 ⟨4304 + (0 * 8 + a.val / 128), by omega⟩ ⟨a.val % 128, by omega⟩) := by
  pointwise [cut_12]
  all_goals exact same_p _ (by (try dsimp only) <;> omega) (by (try dsimp only) <;> omega)

/-- The body's first value: the weights' change. -/
theorem pay_d (v0 v2 v4 v6 : FVec Ideal S256x128 .f32) (a : Fin 256) (b : Fin 128) :
    @Eq EReal (k0_pay4 (F := Ideal) v0 v2 v4 v6 (ix2 a b)) (Fwd.change (v0 (ix2 a b)) (v2 (ix2 a b)) (v4 (ix2 a b)) (v6 (ix2 a b))) := by
  pointwise [k0_pay4, k0_pay3, k0_pay2, k0_pay1, Fwd.change, Fwd.first, Fwd.second]

/-- The body's second value: the first moment. -/
theorem pay_m (v2 v4 : FVec Ideal S256x128 .f32) (a : Fin 256) (b : Fin 128) :
    @Eq EReal (k0_pay2 (F := Ideal) v2 v4 (ix2 a b)) (Fwd.first (v2 (ix2 a b)) (v4 (ix2 a b))) := by
  pointwise [k0_pay2, k0_pay1, Fwd.first]

/-- The body's third value: the second moment. -/
theorem pay_v (v2 v6 : FVec Ideal S256x128 .f32) (a : Fin 256) (b : Fin 128) :
    @Eq EReal (k0_pay3 (F := Ideal) v2 v6 (ix2 a b)) (Fwd.second (v2 (ix2 a b)) (v6 (ix2 a b))) := by
  pointwise [k0_pay3, k0_pay1, Fwd.second]

/-- A packed array as the host leaves it. -/
theorem entry_0 (σ : Valuation τ sig (Elt Ideal)) : StableHlo.after (List.flatten [hostOps0 (F := Ideal), hostOps0_1, hostOps0_2, hostOps0_3, hostOps0_4, hostOps0_5, hostOps0_6, hostOps0_7, hostOps0_8]) σ (Proc.devRef .tc main_v14)
    = packed (σ (Proc.devRef .tc main_arg0)) (σ (Proc.devRef .tc main_arg1)) (σ (Proc.devRef .tc main_arg2)) (σ (Proc.devRef .tc main_arg3)) (σ (Proc.devRef .tc main_arg4)) (σ (Proc.devRef .tc main_arg5)) (σ (Proc.devRef .tc main_arg6)) (σ (Proc.devRef .tc main_arg7)) (σ (Proc.devRef .tc main_arg8)) (σ (Proc.devRef .tc main_arg9)) (σ (Proc.devRef .tc main_arg10)) (σ (Proc.devRef .tc main_arg11)) (σ (Proc.devRef .tc main_arg12)) := by
  simp only [List.flatten_cons, List.flatten_nil, List.append_nil, StableHlo.after_append]
  after_results
  rfl

/-- A row block of a packed array. -/
theorem r0 (t : Fin cfg0.N) (a : Fin 256) (b : Fin 128) (r : Fin 4352) (hr : r.val = t.val * 256 + a.val) :
    @Eq EReal (iblk m c 0 t (ix2 a b)) (p0 m c (ix2 r b)) := by
  have ht : t.val < 17 := lt_of_lt_of_eq t.isLt N_0
  have e (G : S4352x128.Idx → EReal) : G ((win0_0.blk t).view.emb (ix2 a b)) = G (ix2 r b) := by
    blk_ext [idx_val t]
  blk_simp [iblk, idx_val t]
  exact (congrFun (entry_0 fun b => m (c, b)) _).trans (e _)

theorem entry_1 (σ : Valuation τ sig (Elt Ideal)) : StableHlo.after (List.flatten [hostOps0 (F := Ideal), hostOps0_1, hostOps0_2, hostOps0_3, hostOps0_4, hostOps0_5, hostOps0_6, hostOps0_7, hostOps0_8]) σ (Proc.devRef .tc main_v29)
    = packed (σ (Proc.devRef .tc main_arg13)) (σ (Proc.devRef .tc main_arg14)) (σ (Proc.devRef .tc main_arg15)) (σ (Proc.devRef .tc main_arg16)) (σ (Proc.devRef .tc main_arg17)) (σ (Proc.devRef .tc main_arg18)) (σ (Proc.devRef .tc main_arg19)) (σ (Proc.devRef .tc main_arg20)) (σ (Proc.devRef .tc main_arg21)) (σ (Proc.devRef .tc main_arg22)) (σ (Proc.devRef .tc main_arg23)) (σ (Proc.devRef .tc main_arg24)) (σ (Proc.devRef .tc main_arg25)) := by
  simp only [List.flatten_cons, List.flatten_nil, List.append_nil, StableHlo.after_append]
  after_results
  rfl

theorem r1 (t : Fin cfg0.N) (a : Fin 256) (b : Fin 128) (r : Fin 4352) (hr : r.val = t.val * 256 + a.val) :
    @Eq EReal (iblk m c 1 t (ix2 a b)) (p1 m c (ix2 r b)) := by
  have ht : t.val < 17 := lt_of_lt_of_eq t.isLt N_0
  have e (G : S4352x128.Idx → EReal) : G ((win0_1.blk t).view.emb (ix2 a b)) = G (ix2 r b) := by
    blk_ext [idx_val t]
  blk_simp [iblk, idx_val t]
  exact (congrFun (entry_1 fun b => m (c, b)) _).trans (e _)

theorem entry_2 (σ : Valuation τ sig (Elt Ideal)) : StableHlo.after (List.flatten [hostOps0 (F := Ideal), hostOps0_1, hostOps0_2, hostOps0_3, hostOps0_4, hostOps0_5, hostOps0_6, hostOps0_7, hostOps0_8]) σ (Proc.devRef .tc main_v44)
    = packed (σ (Proc.devRef .tc main_arg26)) (σ (Proc.devRef .tc main_arg27)) (σ (Proc.devRef .tc main_arg28)) (σ (Proc.devRef .tc main_arg29)) (σ (Proc.devRef .tc main_arg30)) (σ (Proc.devRef .tc main_arg31)) (σ (Proc.devRef .tc main_arg32)) (σ (Proc.devRef .tc main_arg33)) (σ (Proc.devRef .tc main_arg34)) (σ (Proc.devRef .tc main_arg35)) (σ (Proc.devRef .tc main_arg36)) (σ (Proc.devRef .tc main_arg37)) (σ (Proc.devRef .tc main_arg38)) := by
  simp only [List.flatten_cons, List.flatten_nil, List.append_nil, StableHlo.after_append]
  after_results
  rfl

theorem r2 (t : Fin cfg0.N) (a : Fin 256) (b : Fin 128) (r : Fin 4352) (hr : r.val = t.val * 256 + a.val) :
    @Eq EReal (iblk m c 2 t (ix2 a b)) (p2 m c (ix2 r b)) := by
  have ht : t.val < 17 := lt_of_lt_of_eq t.isLt N_0
  have e (G : S4352x128.Idx → EReal) : G ((win0_2.blk t).view.emb (ix2 a b)) = G (ix2 r b) := by
    blk_ext [idx_val t]
  blk_simp [iblk, idx_val t]
  exact (congrFun (entry_2 fun b => m (c, b)) _).trans (e _)

theorem entry_3 (σ : Valuation τ sig (Elt Ideal)) : StableHlo.after (List.flatten [hostOps0 (F := Ideal), hostOps0_1, hostOps0_2, hostOps0_3, hostOps0_4, hostOps0_5, hostOps0_6, hostOps0_7, hostOps0_8]) σ (Proc.devRef .tc main_v59)
    = packed (σ (Proc.devRef .tc main_arg39)) (σ (Proc.devRef .tc main_arg40)) (σ (Proc.devRef .tc main_arg41)) (σ (Proc.devRef .tc main_arg42)) (σ (Proc.devRef .tc main_arg43)) (σ (Proc.devRef .tc main_arg44)) (σ (Proc.devRef .tc main_arg45)) (σ (Proc.devRef .tc main_arg46)) (σ (Proc.devRef .tc main_arg47)) (σ (Proc.devRef .tc main_arg48)) (σ (Proc.devRef .tc main_arg49)) (σ (Proc.devRef .tc main_arg50)) (σ (Proc.devRef .tc main_arg51)) := by
  simp only [List.flatten_cons, List.flatten_nil, List.append_nil, StableHlo.after_append]
  after_results
  rfl

theorem r3 (t : Fin cfg0.N) (a : Fin 256) (b : Fin 128) (r : Fin 4352) (hr : r.val = t.val * 256 + a.val) :
    @Eq EReal (iblk m c 3 t (ix2 a b)) (p3 m c (ix2 r b)) := by
  have ht : t.val < 17 := lt_of_lt_of_eq t.isLt N_0
  have e (G : S4352x128.Idx → EReal) : G ((win0_3.blk t).view.emb (ix2 a b)) = G (ix2 r b) := by
    blk_ext [idx_val t]
  blk_simp [iblk, idx_val t]
  exact (congrFun (entry_3 fun b => m (c, b)) _).trans (e _)

/-- A packed result's array after the run. -/
theorem arr_d : Pipeline.withArrays (cfgs 0).spec c (V0 m c) (fun w => (dats m 0 c).arrAt w (cfgs 0).N) (Proc.tc.devRef main_v60_0) = (dats m 0 c).arrAt 4 (cfgs 0).N :=
  Pipeline.withArrays_arr (cfgs 0).spec (by decide) c (V0 m c) (fun w => (dats m 0 c).arrAt w (cfgs 0).N) 4

/-- A packed result after the run. -/
theorem final_d : (dats m 0 c).arrAt 4 (cfgs 0).N = fun i : S4352x128.Idx => Fwd.change (p0 m c i) (p1 m c i) (p2 m c i) (p3 m c i) := by
  refine (dats m 0 c).arrAt_eq_of_covers 4 _ (by decide +kernel) fun t hf y => ?_
  blk_simp; rw [after0_4]
  obtain ⟨a, b, rfl⟩ : ∃ (a : Fin 256) (b : Fin 128), y = ix2 a b := ⟨y 0, y 1, eq_ix2 y⟩
  have ht : t.val < 17 := lt_of_lt_of_eq t.isLt N_0
  have e (G : S4352x128.Idx → EReal) : G ((win0_4.blk t).view.emb (ix2 a b)) = G (ix2 ⟨t.val * 256 + a.val, by omega⟩ b) := by
    blk_ext [idx_val t]
  refine Eq.trans ?_ (e (fun i => Fwd.change (p0 m c i) (p1 m c i) (p2 m c i) (p3 m c i))).symm
  frame_out
  exact (pay_d _ _ _ _ a b).trans (Fwd.change_congr (r0 m c t a b ⟨t.val * 256 + a.val, by omega⟩ rfl) (r1 m c t a b ⟨t.val * 256 + a.val, by omega⟩ rfl) (r2 m c t a b ⟨t.val * 256 + a.val, by omega⟩ rfl) (r3 m c t a b ⟨t.val * 256 + a.val, by omega⟩ rfl))

/-- The reference's value, entry by entry. -/
theorem ref_d0 (x0 x13 : FVec Ideal S4x1024 .f32) (x26 x39 : FVec Ideal S4x1024 .f32) (a : Fin 4) (b : Fin 1024) :
    @Eq EReal (val_main_v23 (F := Ideal) x0 x13 x26 x39 (ix2 a b)) (Fwd.change (x0 (ix2 a b)) (x13 (ix2 a b)) (x26 (ix2 a b)) (x39 (ix2 a b))) := by
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6, Fwd.change, Fwd.first, Fwd.second]

/-- A result is cut from the packed one. -/
theorem tail_d0 : Pipeline.afterTail₀ cfgs (dats m) 0 (V0 m) [hostOps1] c main_v63
    = cut_0 ((dats m 0 c).arrAt 4 (cfgs 0).N) := by
  unfold Pipeline.afterTail₀
  show StableHlo.after hostOps1 _ _ = _
  after_results
  rw [arr_d m c]
  generalize (dats m 0 c).arrAt 4 (cfgs 0).N = f
  rfl

/-- A result is the reference's. -/
theorem result_d0 : cut_0 ((dats m 0 c).arrAt 4 (cfgs 0).N)
    = val_main_v23 (F := Ideal) (X0 m c) (X13 m c) (X26 m c) (X39 m c) := by
  rw [final_d]
  funext i
  obtain ⟨a, b, rfl⟩ : ∃ (a : Fin 4) (b : Fin 1024), i = ix2 a b := ⟨i 0, i 1, eq_ix2 i⟩
  refine (unpacked_0 _ a b).trans (Eq.trans ?_ (ref_d0 _ _ _ _ a b).symm)
  exact Fwd.change_congr (packed_0 a b) (packed_0 a b) (packed_0 a b) (packed_0 a b)

theorem ref_d1 (x1 x14 : FVec Ideal S4x512 .f32) (x27 x40 : FVec Ideal S4x512 .f32) (a : Fin 4) (b : Fin 512) :
    @Eq EReal (val_main_v47 (F := Ideal) x1 x14 x27 x40 (ix2 a b)) (Fwd.change (x1 (ix2 a b)) (x14 (ix2 a b)) (x27 (ix2 a b)) (x40 (ix2 a b))) := by
  pointwise [val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15, Fwd.change, Fwd.first, Fwd.second]

theorem tail_d1 : Pipeline.afterTail₀ cfgs (dats m) 0 (V0 m) [hostOps1] c main_v65
    = cut_1 ((dats m 0 c).arrAt 4 (cfgs 0).N) := by
  unfold Pipeline.afterTail₀
  show StableHlo.after hostOps1 _ _ = _
  after_results
  rw [arr_d m c]
  generalize (dats m 0 c).arrAt 4 (cfgs 0).N = f
  rfl

theorem result_d1 : cut_1 ((dats m 0 c).arrAt 4 (cfgs 0).N)
    = val_main_v47 (F := Ideal) (X1 m c) (X14 m c) (X27 m c) (X40 m c) := by
  rw [final_d]
  funext i
  obtain ⟨a, b, rfl⟩ : ∃ (a : Fin 4) (b : Fin 512), i = ix2 a b := ⟨i 0, i 1, eq_ix2 i⟩
  refine (unpacked_1 _ a b).trans (Eq.trans ?_ (ref_d1 _ _ _ _ a b).symm)
  exact Fwd.change_congr (packed_1 a b) (packed_1 a b) (packed_1 a b) (packed_1 a b)

theorem ref_d2 (x2 x15 : FVec Ideal S4x512 .f32) (x28 x41 : FVec Ideal S4x512 .f32) (a : Fin 4) (b : Fin 512) :
    @Eq EReal (val_main_v71 (F := Ideal) x2 x15 x28 x41 (ix2 a b)) (Fwd.change (x2 (ix2 a b)) (x15 (ix2 a b)) (x28 (ix2 a b)) (x41 (ix2 a b))) := by
  pointwise [val_main_v71, val_main_v70, val_main_cst_25, val_main_v69, val_main_v66, val_main_v60, val_main_v52, val_main_v49, val_main_v48, val_main_cst_17, val_main_v51, val_main_v50, val_main_cst_18, val_main_v59, val_main_cst_21, val_main_v65, val_main_v63, val_main_v62, val_main_v58, val_main_v54, val_main_v53, val_main_cst_19, val_main_v57, val_main_v56, val_main_cst_20, val_main_v55, val_main_v61, val_main_cst_22, val_main_v64, val_main_cst_23, val_main_v68, val_main_v67, val_main_cst_24, Fwd.change, Fwd.first, Fwd.second]

theorem tail_d2 : Pipeline.afterTail₀ cfgs (dats m) 0 (V0 m) [hostOps1] c main_v67
    = cut_2 ((dats m 0 c).arrAt 4 (cfgs 0).N) := by
  unfold Pipeline.afterTail₀
  show StableHlo.after hostOps1 _ _ = _
  after_results
  rw [arr_d m c]
  generalize (dats m 0 c).arrAt 4 (cfgs 0).N = f
  rfl

theorem result_d2 : cut_2 ((dats m 0 c).arrAt 4 (cfgs 0).N)
    = val_main_v71 (F := Ideal) (X2 m c) (X15 m c) (X28 m c) (X41 m c) := by
  rw [final_d]
  funext i
  obtain ⟨a, b, rfl⟩ : ∃ (a : Fin 4) (b : Fin 512), i = ix2 a b := ⟨i 0, i 1, eq_ix2 i⟩
  refine (unpacked_2 _ a b).trans (Eq.trans ?_ (ref_d2 _ _ _ _ a b).symm)
  exact Fwd.change_congr (packed_2 a b) (packed_2 a b) (packed_2 a b) (packed_2 a b)

theorem ref_d3 (x3 x16 : FVec Ideal S4x512 .f32) (x29 x42 : FVec Ideal S4x512 .f32) (a : Fin 4) (b : Fin 512) :
    @Eq EReal (val_main_v95 (F := Ideal) x3 x16 x29 x42 (ix2 a b)) (Fwd.change (x3 (ix2 a b)) (x16 (ix2 a b)) (x29 (ix2 a b)) (x42 (ix2 a b))) := by
  pointwise [val_main_v95, val_main_v94, val_main_cst_34, val_main_v93, val_main_v90, val_main_v84, val_main_v76, val_main_v73, val_main_v72, val_main_cst_26, val_main_v75, val_main_v74, val_main_cst_27, val_main_v83, val_main_cst_30, val_main_v89, val_main_v87, val_main_v86, val_main_v82, val_main_v78, val_main_v77, val_main_cst_28, val_main_v81, val_main_v80, val_main_cst_29, val_main_v79, val_main_v85, val_main_cst_31, val_main_v88, val_main_cst_32, val_main_v92, val_main_v91, val_main_cst_33, Fwd.change, Fwd.first, Fwd.second]

theorem tail_d3 : Pipeline.afterTail₀ cfgs (dats m) 0 (V0 m) [hostOps1] c main_v69
    = cut_3 ((dats m 0 c).arrAt 4 (cfgs 0).N) := by
  unfold Pipeline.afterTail₀
  show StableHlo.after hostOps1 _ _ = _
  after_results
  rw [arr_d m c]
  generalize (dats m 0 c).arrAt 4 (cfgs 0).N = f
  rfl

theorem result_d3 : cut_3 ((dats m 0 c).arrAt 4 (cfgs 0).N)
    = val_main_v95 (F := Ideal) (X3 m c) (X16 m c) (X29 m c) (X42 m c) := by
  rw [final_d]
  funext i
  obtain ⟨a, b, rfl⟩ : ∃ (a : Fin 4) (b : Fin 512), i = ix2 a b := ⟨i 0, i 1, eq_ix2 i⟩
  refine (unpacked_3 _ a b).trans (Eq.trans ?_ (ref_d3 _ _ _ _ a b).symm)
  exact Fwd.change_congr (packed_3 a b) (packed_3 a b) (packed_3 a b) (packed_3 a b)

theorem ref_d4 (x4 x17 : FVec Ideal S4x4x128x128 .f32) (x30 x43 : FVec Ideal S4x4x128x128 .f32) (a : Fin 4) (b : Fin 4) (d : Fin 128) (e : Fin 128) :
    @Eq EReal (val_main_v119 (F := Ideal) x4 x17 x30 x43 (ix4 a b d e)) (Fwd.change (x4 (ix4 a b d e)) (x17 (ix4 a b d e)) (x30 (ix4 a b d e)) (x43 (ix4 a b d e))) := by
  pointwise [val_main_v119, val_main_v118, val_main_cst_43, val_main_v117, val_main_v114, val_main_v108, val_main_v100, val_main_v97, val_main_v96, val_main_cst_35, val_main_v99, val_main_v98, val_main_cst_36, val_main_v107, val_main_cst_39, val_main_v113, val_main_v111, val_main_v110, val_main_v106, val_main_v102, val_main_v101, val_main_cst_37, val_main_v105, val_main_v104, val_main_cst_38, val_main_v103, val_main_v109, val_main_cst_40, val_main_v112, val_main_cst_41, val_main_v116, val_main_v115, val_main_cst_42, Fwd.change, Fwd.first, Fwd.second]

theorem tail_d4 : Pipeline.afterTail₀ cfgs (dats m) 0 (V0 m) [hostOps1] c main_v71
    = cut_4 ((dats m 0 c).arrAt 4 (cfgs 0).N) := by
  unfold Pipeline.afterTail₀
  show StableHlo.after hostOps1 _ _ = _
  after_results
  rw [arr_d m c]
  generalize (dats m 0 c).arrAt 4 (cfgs 0).N = f
  rfl

theorem result_d4 : cut_4 ((dats m 0 c).arrAt 4 (cfgs 0).N)
    = val_main_v119 (F := Ideal) (X4 m c) (X17 m c) (X30 m c) (X43 m c) := by
  rw [final_d]
  funext i
  obtain ⟨a, b, d, e, rfl⟩ : ∃ (a : Fin 4) (b : Fin 4) (d : Fin 128) (e : Fin 128), i = ix4 a b d e := ⟨i 0, i 1, i 2, i 3, eq_ix4 i⟩
  refine (unpacked_4 _ a b d e).trans (Eq.trans ?_ (ref_d4 _ _ _ _ a b d e).symm)
  exact Fwd.change_congr (packed_4 a b d e) (packed_4 a b d e) (packed_4 a b d e) (packed_4 a b d e)

theorem ref_d5 (x5 x18 : FVec Ideal S4x512 .f32) (x31 x44 : FVec Ideal S4x512 .f32) (a : Fin 4) (b : Fin 512) :
    @Eq EReal (val_main_v143 (F := Ideal) x5 x18 x31 x44 (ix2 a b)) (Fwd.change (x5 (ix2 a b)) (x18 (ix2 a b)) (x31 (ix2 a b)) (x44 (ix2 a b))) := by
  pointwise [val_main_v143, val_main_v142, val_main_cst_52, val_main_v141, val_main_v138, val_main_v132, val_main_v124, val_main_v121, val_main_v120, val_main_cst_44, val_main_v123, val_main_v122, val_main_cst_45, val_main_v131, val_main_cst_48, val_main_v137, val_main_v135, val_main_v134, val_main_v130, val_main_v126, val_main_v125, val_main_cst_46, val_main_v129, val_main_v128, val_main_cst_47, val_main_v127, val_main_v133, val_main_cst_49, val_main_v136, val_main_cst_50, val_main_v140, val_main_v139, val_main_cst_51, Fwd.change, Fwd.first, Fwd.second]

theorem tail_d5 : Pipeline.afterTail₀ cfgs (dats m) 0 (V0 m) [hostOps1] c main_v73
    = cut_5 ((dats m 0 c).arrAt 4 (cfgs 0).N) := by
  unfold Pipeline.afterTail₀
  show StableHlo.after hostOps1 _ _ = _
  after_results
  rw [arr_d m c]
  generalize (dats m 0 c).arrAt 4 (cfgs 0).N = f
  rfl

theorem result_d5 : cut_5 ((dats m 0 c).arrAt 4 (cfgs 0).N)
    = val_main_v143 (F := Ideal) (X5 m c) (X18 m c) (X31 m c) (X44 m c) := by
  rw [final_d]
  funext i
  obtain ⟨a, b, rfl⟩ : ∃ (a : Fin 4) (b : Fin 512), i = ix2 a b := ⟨i 0, i 1, eq_ix2 i⟩
  refine (unpacked_5 _ a b).trans (Eq.trans ?_ (ref_d5 _ _ _ _ a b).symm)
  exact Fwd.change_congr (packed_5 a b) (packed_5 a b) (packed_5 a b) (packed_5 a b)

theorem ref_d6 (x6 x19 : FVec Ideal S4x512 .f32) (x32 x45 : FVec Ideal S4x512 .f32) (a : Fin 4) (b : Fin 512) :
    @Eq EReal (val_main_v167 (F := Ideal) x6 x19 x32 x45 (ix2 a b)) (Fwd.change (x6 (ix2 a b)) (x19 (ix2 a b)) (x32 (ix2 a b)) (x45 (ix2 a b))) := by
  pointwise [val_main_v167, val_main_v166, val_main_cst_61, val_main_v165, val_main_v162, val_main_v156, val_main_v148, val_main_v145, val_main_v144, val_main_cst_53, val_main_v147, val_main_v146, val_main_cst_54, val_main_v155, val_main_cst_57, val_main_v161, val_main_v159, val_main_v158, val_main_v154, val_main_v150, val_main_v149, val_main_cst_55, val_main_v153, val_main_v152, val_main_cst_56, val_main_v151, val_main_v157, val_main_cst_58, val_main_v160, val_main_cst_59, val_main_v164, val_main_v163, val_main_cst_60, Fwd.change, Fwd.first, Fwd.second]

theorem tail_d6 : Pipeline.afterTail₀ cfgs (dats m) 0 (V0 m) [hostOps1] c main_v75
    = cut_6 ((dats m 0 c).arrAt 4 (cfgs 0).N) := by
  unfold Pipeline.afterTail₀
  show StableHlo.after hostOps1 _ _ = _
  after_results
  rw [arr_d m c]
  generalize (dats m 0 c).arrAt 4 (cfgs 0).N = f
  rfl

theorem result_d6 : cut_6 ((dats m 0 c).arrAt 4 (cfgs 0).N)
    = val_main_v167 (F := Ideal) (X6 m c) (X19 m c) (X32 m c) (X45 m c) := by
  rw [final_d]
  funext i
  obtain ⟨a, b, rfl⟩ : ∃ (a : Fin 4) (b : Fin 512), i = ix2 a b := ⟨i 0, i 1, eq_ix2 i⟩
  refine (unpacked_6 _ a b).trans (Eq.trans ?_ (ref_d6 _ _ _ _ a b).symm)
  exact Fwd.change_congr (packed_6 a b) (packed_6 a b) (packed_6 a b) (packed_6 a b)

theorem ref_d7 (x7 x20 : FVec Ideal S4x512 .f32) (x33 x46 : FVec Ideal S4x512 .f32) (a : Fin 4) (b : Fin 512) :
    @Eq EReal (val_main_v191 (F := Ideal) x7 x20 x33 x46 (ix2 a b)) (Fwd.change (x7 (ix2 a b)) (x20 (ix2 a b)) (x33 (ix2 a b)) (x46 (ix2 a b))) := by
  pointwise [val_main_v191, val_main_v190, val_main_cst_70, val_main_v189, val_main_v186, val_main_v180, val_main_v172, val_main_v169, val_main_v168, val_main_cst_62, val_main_v171, val_main_v170, val_main_cst_63, val_main_v179, val_main_cst_66, val_main_v185, val_main_v183, val_main_v182, val_main_v178, val_main_v174, val_main_v173, val_main_cst_64, val_main_v177, val_main_v176, val_main_cst_65, val_main_v175, val_main_v181, val_main_cst_67, val_main_v184, val_main_cst_68, val_main_v188, val_main_v187, val_main_cst_69, Fwd.change, Fwd.first, Fwd.second]

theorem tail_d7 : Pipeline.afterTail₀ cfgs (dats m) 0 (V0 m) [hostOps1] c main_v77
    = cut_7 ((dats m 0 c).arrAt 4 (cfgs 0).N) := by
  unfold Pipeline.afterTail₀
  show StableHlo.after hostOps1 _ _ = _
  after_results
  rw [arr_d m c]
  generalize (dats m 0 c).arrAt 4 (cfgs 0).N = f
  rfl

theorem result_d7 : cut_7 ((dats m 0 c).arrAt 4 (cfgs 0).N)
    = val_main_v191 (F := Ideal) (X7 m c) (X20 m c) (X33 m c) (X46 m c) := by
  rw [final_d]
  funext i
  obtain ⟨a, b, rfl⟩ : ∃ (a : Fin 4) (b : Fin 512), i = ix2 a b := ⟨i 0, i 1, eq_ix2 i⟩
  refine (unpacked_7 _ a b).trans (Eq.trans ?_ (ref_d7 _ _ _ _ a b).symm)
  exact Fwd.change_congr (packed_7 a b) (packed_7 a b) (packed_7 a b) (packed_7 a b)

theorem ref_d8 (x8 x21 : FVec Ideal S4x4x128x128 .f32) (x34 x47 : FVec Ideal S4x4x128x128 .f32) (a : Fin 4) (b : Fin 4) (d : Fin 128) (e : Fin 128) :
    @Eq EReal (val_main_v215 (F := Ideal) x8 x21 x34 x47 (ix4 a b d e)) (Fwd.change (x8 (ix4 a b d e)) (x21 (ix4 a b d e)) (x34 (ix4 a b d e)) (x47 (ix4 a b d e))) := by
  pointwise [val_main_v215, val_main_v214, val_main_cst_79, val_main_v213, val_main_v210, val_main_v204, val_main_v196, val_main_v193, val_main_v192, val_main_cst_71, val_main_v195, val_main_v194, val_main_cst_72, val_main_v203, val_main_cst_75, val_main_v209, val_main_v207, val_main_v206, val_main_v202, val_main_v198, val_main_v197, val_main_cst_73, val_main_v201, val_main_v200, val_main_cst_74, val_main_v199, val_main_v205, val_main_cst_76, val_main_v208, val_main_cst_77, val_main_v212, val_main_v211, val_main_cst_78, Fwd.change, Fwd.first, Fwd.second]

theorem tail_d8 : Pipeline.afterTail₀ cfgs (dats m) 0 (V0 m) [hostOps1] c main_v79
    = cut_8 ((dats m 0 c).arrAt 4 (cfgs 0).N) := by
  unfold Pipeline.afterTail₀
  show StableHlo.after hostOps1 _ _ = _
  after_results
  rw [arr_d m c]
  generalize (dats m 0 c).arrAt 4 (cfgs 0).N = f
  rfl

theorem result_d8 : cut_8 ((dats m 0 c).arrAt 4 (cfgs 0).N)
    = val_main_v215 (F := Ideal) (X8 m c) (X21 m c) (X34 m c) (X47 m c) := by
  rw [final_d]
  funext i
  obtain ⟨a, b, d, e, rfl⟩ : ∃ (a : Fin 4) (b : Fin 4) (d : Fin 128) (e : Fin 128), i = ix4 a b d e := ⟨i 0, i 1, i 2, i 3, eq_ix4 i⟩
  refine (unpacked_8 _ a b d e).trans (Eq.trans ?_ (ref_d8 _ _ _ _ a b d e).symm)
  exact Fwd.change_congr (packed_8 a b d e) (packed_8 a b d e) (packed_8 a b d e) (packed_8 a b d e)

theorem ref_d9 (x9 x22 : FVec Ideal S4x4x128 .f32) (x35 x48 : FVec Ideal S4x4x128 .f32) (a : Fin 4) (b : Fin 4) (d : Fin 128) :
    @Eq EReal (val_main_v239 (F := Ideal) x9 x22 x35 x48 (ix3 a b d)) (Fwd.change (x9 (ix3 a b d)) (x22 (ix3 a b d)) (x35 (ix3 a b d)) (x48 (ix3 a b d))) := by
  pointwise [val_main_v239, val_main_v238, val_main_cst_88, val_main_v237, val_main_v234, val_main_v228, val_main_v220, val_main_v217, val_main_v216, val_main_cst_80, val_main_v219, val_main_v218, val_main_cst_81, val_main_v227, val_main_cst_84, val_main_v233, val_main_v231, val_main_v230, val_main_v226, val_main_v222, val_main_v221, val_main_cst_82, val_main_v225, val_main_v224, val_main_cst_83, val_main_v223, val_main_v229, val_main_cst_85, val_main_v232, val_main_cst_86, val_main_v236, val_main_v235, val_main_cst_87, Fwd.change, Fwd.first, Fwd.second]

theorem tail_d9 : Pipeline.afterTail₀ cfgs (dats m) 0 (V0 m) [hostOps1] c main_v81
    = cut_9 ((dats m 0 c).arrAt 4 (cfgs 0).N) := by
  unfold Pipeline.afterTail₀
  show StableHlo.after hostOps1 _ _ = _
  after_results
  rw [arr_d m c]
  generalize (dats m 0 c).arrAt 4 (cfgs 0).N = f
  rfl

theorem result_d9 : cut_9 ((dats m 0 c).arrAt 4 (cfgs 0).N)
    = val_main_v239 (F := Ideal) (X9 m c) (X22 m c) (X35 m c) (X48 m c) := by
  rw [final_d]
  funext i
  obtain ⟨a, b, d, rfl⟩ : ∃ (a : Fin 4) (b : Fin 4) (d : Fin 128), i = ix3 a b d := ⟨i 0, i 1, i 2, eq_ix3 i⟩
  refine (unpacked_9 _ a b d).trans (Eq.trans ?_ (ref_d9 _ _ _ _ a b d).symm)
  exact Fwd.change_congr (packed_9 a b d) (packed_9 a b d) (packed_9 a b d) (packed_9 a b d)

theorem ref_d10 (x10 x23 : FVec Ideal S4x1024 .f32) (x36 x49 : FVec Ideal S4x1024 .f32) (a : Fin 4) (b : Fin 1024) :
    @Eq EReal (val_main_v263 (F := Ideal) x10 x23 x36 x49 (ix2 a b)) (Fwd.change (x10 (ix2 a b)) (x23 (ix2 a b)) (x36 (ix2 a b)) (x49 (ix2 a b))) := by
  pointwise [val_main_v263, val_main_v262, val_main_cst_97, val_main_v261, val_main_v258, val_main_v252, val_main_v244, val_main_v241, val_main_v240, val_main_cst_89, val_main_v243, val_main_v242, val_main_cst_90, val_main_v251, val_main_cst_93, val_main_v257, val_main_v255, val_main_v254, val_main_v250, val_main_v246, val_main_v245, val_main_cst_91, val_main_v249, val_main_v248, val_main_cst_92, val_main_v247, val_main_v253, val_main_cst_94, val_main_v256, val_main_cst_95, val_main_v260, val_main_v259, val_main_cst_96, Fwd.change, Fwd.first, Fwd.second]

theorem tail_d10 : Pipeline.afterTail₀ cfgs (dats m) 0 (V0 m) [hostOps1] c main_v83
    = cut_10 ((dats m 0 c).arrAt 4 (cfgs 0).N) := by
  unfold Pipeline.afterTail₀
  show StableHlo.after hostOps1 _ _ = _
  after_results
  rw [arr_d m c]
  generalize (dats m 0 c).arrAt 4 (cfgs 0).N = f
  rfl

theorem result_d10 : cut_10 ((dats m 0 c).arrAt 4 (cfgs 0).N)
    = val_main_v263 (F := Ideal) (X10 m c) (X23 m c) (X36 m c) (X49 m c) := by
  rw [final_d]
  funext i
  obtain ⟨a, b, rfl⟩ : ∃ (a : Fin 4) (b : Fin 1024), i = ix2 a b := ⟨i 0, i 1, eq_ix2 i⟩
  refine (unpacked_10 _ a b).trans (Eq.trans ?_ (ref_d10 _ _ _ _ a b).symm)
  exact Fwd.change_congr (packed_10 a b) (packed_10 a b) (packed_10 a b) (packed_10 a b)

theorem ref_d11 (x11 x24 : FVec Ideal S4x1024 .f32) (x37 x50 : FVec Ideal S4x1024 .f32) (a : Fin 4) (b : Fin 1024) :
    @Eq EReal (val_main_v287 (F := Ideal) x11 x24 x37 x50 (ix2 a b)) (Fwd.change (x11 (ix2 a b)) (x24 (ix2 a b)) (x37 (ix2 a b)) (x50 (ix2 a b))) := by
  pointwise [val_main_v287, val_main_v286, val_main_cst_106, val_main_v285, val_main_v282, val_main_v276, val_main_v268, val_main_v265, val_main_v264, val_main_cst_98, val_main_v267, val_main_v266, val_main_cst_99, val_main_v275, val_main_cst_102, val_main_v281, val_main_v279, val_main_v278, val_main_v274, val_main_v270, val_main_v269, val_main_cst_100, val_main_v273, val_main_v272, val_main_cst_101, val_main_v271, val_main_v277, val_main_cst_103, val_main_v280, val_main_cst_104, val_main_v284, val_main_v283, val_main_cst_105, Fwd.change, Fwd.first, Fwd.second]

theorem tail_d11 : Pipeline.afterTail₀ cfgs (dats m) 0 (V0 m) [hostOps1] c main_v85
    = cut_11 ((dats m 0 c).arrAt 4 (cfgs 0).N) := by
  unfold Pipeline.afterTail₀
  show StableHlo.after hostOps1 _ _ = _
  after_results
  rw [arr_d m c]
  generalize (dats m 0 c).arrAt 4 (cfgs 0).N = f
  rfl

theorem result_d11 : cut_11 ((dats m 0 c).arrAt 4 (cfgs 0).N)
    = val_main_v287 (F := Ideal) (X11 m c) (X24 m c) (X37 m c) (X50 m c) := by
  rw [final_d]
  funext i
  obtain ⟨a, b, rfl⟩ : ∃ (a : Fin 4) (b : Fin 1024), i = ix2 a b := ⟨i 0, i 1, eq_ix2 i⟩
  refine (unpacked_11 _ a b).trans (Eq.trans ?_ (ref_d11 _ _ _ _ a b).symm)
  exact Fwd.change_congr (packed_11 a b) (packed_11 a b) (packed_11 a b) (packed_11 a b)

theorem ref_d12 (x12 x25 : FVec Ideal S1024 .f32) (x38 x51 : FVec Ideal S1024 .f32) (a : Fin 1024) :
    @Eq EReal (val_main_v311 (F := Ideal) x12 x25 x38 x51 (ix1 a)) (Fwd.change (x12 (ix1 a)) (x25 (ix1 a)) (x38 (ix1 a)) (x51 (ix1 a))) := by
  pointwise [val_main_v311, val_main_v310, val_main_cst_115, val_main_v309, val_main_v306, val_main_v300, val_main_v292, val_main_v289, val_main_v288, val_main_cst_107, val_main_v291, val_main_v290, val_main_cst_108, val_main_v299, val_main_cst_111, val_main_v305, val_main_v303, val_main_v302, val_main_v298, val_main_v294, val_main_v293, val_main_cst_109, val_main_v297, val_main_v296, val_main_cst_110, val_main_v295, val_main_v301, val_main_cst_112, val_main_v304, val_main_cst_113, val_main_v308, val_main_v307, val_main_cst_114, Fwd.change, Fwd.first, Fwd.second]

theorem tail_d12 : Pipeline.afterTail₀ cfgs (dats m) 0 (V0 m) [hostOps1] c main_v86
    = cut_12 ((dats m 0 c).arrAt 4 (cfgs 0).N) := by
  unfold Pipeline.afterTail₀
  show StableHlo.after hostOps1 _ _ = _
  after_results
  rw [arr_d m c]
  generalize (dats m 0 c).arrAt 4 (cfgs 0).N = f
  rfl

theorem result_d12 : cut_12 ((dats m 0 c).arrAt 4 (cfgs 0).N)
    = val_main_v311 (F := Ideal) (X12 m c) (X25 m c) (X38 m c) (X51 m c) := by
  rw [final_d]
  funext i
  obtain ⟨a, rfl⟩ : ∃ (a : Fin 1024), i = ix1 a := ⟨i 0, eq_ix1 i⟩
  refine (unpacked_12 _ a).trans (Eq.trans ?_ (ref_d12 _ _ _ _ a).symm)
  exact Fwd.change_congr (packed_12 a) (packed_12 a) (packed_12 a) (packed_12 a)

theorem arr_m : Pipeline.withArrays (cfgs 0).spec c (V0 m c) (fun w => (dats m 0 c).arrAt w (cfgs 0).N) (Proc.tc.devRef main_v60_1) = (dats m 0 c).arrAt 5 (cfgs 0).N :=
  Pipeline.withArrays_arr (cfgs 0).spec (by decide) c (V0 m c) (fun w => (dats m 0 c).arrAt w (cfgs 0).N) 5

theorem final_m : (dats m 0 c).arrAt 5 (cfgs 0).N = fun i : S4352x128.Idx => Fwd.first (p1 m c i) (p2 m c i) := by
  refine (dats m 0 c).arrAt_eq_of_covers 5 _ (by decide +kernel) fun t hf y => ?_
  blk_simp; rw [after0_5]
  obtain ⟨a, b, rfl⟩ : ∃ (a : Fin 256) (b : Fin 128), y = ix2 a b := ⟨y 0, y 1, eq_ix2 y⟩
  have ht : t.val < 17 := lt_of_lt_of_eq t.isLt N_0
  have e (G : S4352x128.Idx → EReal) : G ((win0_5.blk t).view.emb (ix2 a b)) = G (ix2 ⟨t.val * 256 + a.val, by omega⟩ b) := by
    blk_ext [idx_val t]
  refine Eq.trans ?_ (e (fun i => Fwd.first (p1 m c i) (p2 m c i))).symm
  frame_out
  exact (pay_m _ _ a b).trans (congrArg₂ Fwd.first (r1 m c t a b ⟨t.val * 256 + a.val, by omega⟩ rfl) (r2 m c t a b ⟨t.val * 256 + a.val, by omega⟩ rfl))

theorem ref_m0 (x13 x26 : FVec Ideal S4x1024 .f32) (a : Fin 4) (b : Fin 1024) :
    @Eq EReal (val_main_v4 (F := Ideal) x13 x26 (ix2 a b)) (Fwd.first (x13 (ix2 a b)) (x26 (ix2 a b))) := by
  pointwise [val_main_v4, val_main_v1, val_main_v0, val_main_cst, val_main_v3, val_main_v2, val_main_cst_0, Fwd.change, Fwd.first, Fwd.second]

theorem tail_m0 : Pipeline.afterTail₀ cfgs (dats m) 0 (V0 m) [hostOps1] c main_v89
    = cut_0 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m0 : cut_0 ((dats m 0 c).arrAt 5 (cfgs 0).N)
    = val_main_v4 (F := Ideal) (X13 m c) (X26 m c) := by
  rw [final_m]
  funext i
  obtain ⟨a, b, rfl⟩ : ∃ (a : Fin 4) (b : Fin 1024), i = ix2 a b := ⟨i 0, i 1, eq_ix2 i⟩
  refine (unpacked_0 _ a b).trans (Eq.trans ?_ (ref_m0 _ _ a b).symm)
  exact congrArg₂ Fwd.first (packed_0 a b) (packed_0 a b)

theorem ref_m1 (x14 x27 : FVec Ideal S4x512 .f32) (a : Fin 4) (b : Fin 512) :
    @Eq EReal (val_main_v28 (F := Ideal) x14 x27 (ix2 a b)) (Fwd.first (x14 (ix2 a b)) (x27 (ix2 a b))) := by
  pointwise [val_main_v28, val_main_v25, val_main_v24, val_main_cst_8, val_main_v27, val_main_v26, val_main_cst_9, Fwd.change, Fwd.first, Fwd.second]

theorem tail_m1 : Pipeline.afterTail₀ cfgs (dats m) 0 (V0 m) [hostOps1] c main_v91
    = cut_1 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m1 : cut_1 ((dats m 0 c).arrAt 5 (cfgs 0).N)
    = val_main_v28 (F := Ideal) (X14 m c) (X27 m c) := by
  rw [final_m]
  funext i
  obtain ⟨a, b, rfl⟩ : ∃ (a : Fin 4) (b : Fin 512), i = ix2 a b := ⟨i 0, i 1, eq_ix2 i⟩
  refine (unpacked_1 _ a b).trans (Eq.trans ?_ (ref_m1 _ _ a b).symm)
  exact congrArg₂ Fwd.first (packed_1 a b) (packed_1 a b)

theorem ref_m2 (x15 x28 : FVec Ideal S4x512 .f32) (a : Fin 4) (b : Fin 512) :
    @Eq EReal (val_main_v52 (F := Ideal) x15 x28 (ix2 a b)) (Fwd.first (x15 (ix2 a b)) (x28 (ix2 a b))) := by
  pointwise [val_main_v52, val_main_v49, val_main_v48, val_main_cst_17, val_main_v51, val_main_v50, val_main_cst_18, Fwd.change, Fwd.first, Fwd.second]

theorem tail_m2 : Pipeline.afterTail₀ cfgs (dats m) 0 (V0 m) [hostOps1] c main_v93
    = cut_2 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m2 : cut_2 ((dats m 0 c).arrAt 5 (cfgs 0).N)
    = val_main_v52 (F := Ideal) (X15 m c) (X28 m c) := by
  rw [final_m]
  funext i
  obtain ⟨a, b, rfl⟩ : ∃ (a : Fin 4) (b : Fin 512), i = ix2 a b := ⟨i 0, i 1, eq_ix2 i⟩
  refine (unpacked_2 _ a b).trans (Eq.trans ?_ (ref_m2 _ _ a b).symm)
  exact congrArg₂ Fwd.first (packed_2 a b) (packed_2 a b)

theorem ref_m3 (x16 x29 : FVec Ideal S4x512 .f32) (a : Fin 4) (b : Fin 512) :
    @Eq EReal (val_main_v76 (F := Ideal) x16 x29 (ix2 a b)) (Fwd.first (x16 (ix2 a b)) (x29 (ix2 a b))) := by
  pointwise [val_main_v76, val_main_v73, val_main_v72, val_main_cst_26, val_main_v75, val_main_v74, val_main_cst_27, Fwd.change, Fwd.first, Fwd.second]

theorem tail_m3 : Pipeline.afterTail₀ cfgs (dats m) 0 (V0 m) [hostOps1] c main_v95
    = cut_3 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m3 : cut_3 ((dats m 0 c).arrAt 5 (cfgs 0).N)
    = val_main_v76 (F := Ideal) (X16 m c) (X29 m c) := by
  rw [final_m]
  funext i
  obtain ⟨a, b, rfl⟩ : ∃ (a : Fin 4) (b : Fin 512), i = ix2 a b := ⟨i 0, i 1, eq_ix2 i⟩
  refine (unpacked_3 _ a b).trans (Eq.trans ?_ (ref_m3 _ _ a b).symm)
  exact congrArg₂ Fwd.first (packed_3 a b) (packed_3 a b)

theorem ref_m4 (x17 x30 : FVec Ideal S4x4x128x128 .f32) (a : Fin 4) (b : Fin 4) (d : Fin 128) (e : Fin 128) :
    @Eq EReal (val_main_v100 (F := Ideal) x17 x30 (ix4 a b d e)) (Fwd.first (x17 (ix4 a b d e)) (x30 (ix4 a b d e))) := by
  pointwise [val_main_v100, val_main_v97, val_main_v96, val_main_cst_35, val_main_v99, val_main_v98, val_main_cst_36, Fwd.change, Fwd.first, Fwd.second]

theorem tail_m4 : Pipeline.afterTail₀ cfgs (dats m) 0 (V0 m) [hostOps1] c main_v97
    = cut_4 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m4 : cut_4 ((dats m 0 c).arrAt 5 (cfgs 0).N)
    = val_main_v100 (F := Ideal) (X17 m c) (X30 m c) := by
  rw [final_m]
  funext i
  obtain ⟨a, b, d, e, rfl⟩ : ∃ (a : Fin 4) (b : Fin 4) (d : Fin 128) (e : Fin 128), i = ix4 a b d e := ⟨i 0, i 1, i 2, i 3, eq_ix4 i⟩
  refine (unpacked_4 _ a b d e).trans (Eq.trans ?_ (ref_m4 _ _ a b d e).symm)
  exact congrArg₂ Fwd.first (packed_4 a b d e) (packed_4 a b d e)

theorem ref_m5 (x18 x31 : FVec Ideal S4x512 .f32) (a : Fin 4) (b : Fin 512) :
    @Eq EReal (val_main_v124 (F := Ideal) x18 x31 (ix2 a b)) (Fwd.first (x18 (ix2 a b)) (x31 (ix2 a b))) := by
  pointwise [val_main_v124, val_main_v121, val_main_v120, val_main_cst_44, val_main_v123, val_main_v122, val_main_cst_45, Fwd.change, Fwd.first, Fwd.second]

theorem tail_m5 : Pipeline.afterTail₀ cfgs (dats m) 0 (V0 m) [hostOps1] c main_v99
    = cut_5 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m5 : cut_5 ((dats m 0 c).arrAt 5 (cfgs 0).N)
    = val_main_v124 (F := Ideal) (X18 m c) (X31 m c) := by
  rw [final_m]
  funext i
  obtain ⟨a, b, rfl⟩ : ∃ (a : Fin 4) (b : Fin 512), i = ix2 a b := ⟨i 0, i 1, eq_ix2 i⟩
  refine (unpacked_5 _ a b).trans (Eq.trans ?_ (ref_m5 _ _ a b).symm)
  exact congrArg₂ Fwd.first (packed_5 a b) (packed_5 a b)

theorem ref_m6 (x19 x32 : FVec Ideal S4x512 .f32) (a : Fin 4) (b : Fin 512) :
    @Eq EReal (val_main_v148 (F := Ideal) x19 x32 (ix2 a b)) (Fwd.first (x19 (ix2 a b)) (x32 (ix2 a b))) := by
  pointwise [val_main_v148, val_main_v145, val_main_v144, val_main_cst_53, val_main_v147, val_main_v146, val_main_cst_54, Fwd.change, Fwd.first, Fwd.second]

theorem tail_m6 : Pipeline.afterTail₀ cfgs (dats m) 0 (V0 m) [hostOps1] c main_v101
    = cut_6 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m6 : cut_6 ((dats m 0 c).arrAt 5 (cfgs 0).N)
    = val_main_v148 (F := Ideal) (X19 m c) (X32 m c) := by
  rw [final_m]
  funext i
  obtain ⟨a, b, rfl⟩ : ∃ (a : Fin 4) (b : Fin 512), i = ix2 a b := ⟨i 0, i 1, eq_ix2 i⟩
  refine (unpacked_6 _ a b).trans (Eq.trans ?_ (ref_m6 _ _ a b).symm)
  exact congrArg₂ Fwd.first (packed_6 a b) (packed_6 a b)

theorem ref_m7 (x20 x33 : FVec Ideal S4x512 .f32) (a : Fin 4) (b : Fin 512) :
    @Eq EReal (val_main_v172 (F := Ideal) x20 x33 (ix2 a b)) (Fwd.first (x20 (ix2 a b)) (x33 (ix2 a b))) := by
  pointwise [val_main_v172, val_main_v169, val_main_v168, val_main_cst_62, val_main_v171, val_main_v170, val_main_cst_63, Fwd.change, Fwd.first, Fwd.second]

theorem tail_m7 : Pipeline.afterTail₀ cfgs (dats m) 0 (V0 m) [hostOps1] c main_v103
    = cut_7 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m7 : cut_7 ((dats m 0 c).arrAt 5 (cfgs 0).N)
    = val_main_v172 (F := Ideal) (X20 m c) (X33 m c) := by
  rw [final_m]
  funext i
  obtain ⟨a, b, rfl⟩ : ∃ (a : Fin 4) (b : Fin 512), i = ix2 a b := ⟨i 0, i 1, eq_ix2 i⟩
  refine (unpacked_7 _ a b).trans (Eq.trans ?_ (ref_m7 _ _ a b).symm)
  exact congrArg₂ Fwd.first (packed_7 a b) (packed_7 a b)

theorem ref_m8 (x21 x34 : FVec Ideal S4x4x128x128 .f32) (a : Fin 4) (b : Fin 4) (d : Fin 128) (e : Fin 128) :
    @Eq EReal (val_main_v196 (F := Ideal) x21 x34 (ix4 a b d e)) (Fwd.first (x21 (ix4 a b d e)) (x34 (ix4 a b d e))) := by
  pointwise [val_main_v196, val_main_v193, val_main_v192, val_main_cst_71, val_main_v195, val_main_v194, val_main_cst_72, Fwd.change, Fwd.first, Fwd.second]

theorem tail_m8 : Pipeline.afterTail₀ cfgs (dats m) 0 (V0 m) [hostOps1] c main_v105
    = cut_8 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m8 : cut_8 ((dats m 0 c).arrAt 5 (cfgs 0).N)
    = val_main_v196 (F := Ideal) (X21 m c) (X34 m c) := by
  rw [final_m]
  funext i
  obtain ⟨a, b, d, e, rfl⟩ : ∃ (a : Fin 4) (b : Fin 4) (d : Fin 128) (e : Fin 128), i = ix4 a b d e := ⟨i 0, i 1, i 2, i 3, eq_ix4 i⟩
  refine (unpacked_8 _ a b d e).trans (Eq.trans ?_ (ref_m8 _ _ a b d e).symm)
  exact congrArg₂ Fwd.first (packed_8 a b d e) (packed_8 a b d e)

theorem ref_m9 (x22 x35 : FVec Ideal S4x4x128 .f32) (a : Fin 4) (b : Fin 4) (d : Fin 128) :
    @Eq EReal (val_main_v220 (F := Ideal) x22 x35 (ix3 a b d)) (Fwd.first (x22 (ix3 a b d)) (x35 (ix3 a b d))) := by
  pointwise [val_main_v220, val_main_v217, val_main_v216, val_main_cst_80, val_main_v219, val_main_v218, val_main_cst_81, Fwd.change, Fwd.first, Fwd.second]

theorem tail_m9 : Pipeline.afterTail₀ cfgs (dats m) 0 (V0 m) [hostOps1] c main_v107
    = cut_9 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m9 : cut_9 ((dats m 0 c).arrAt 5 (cfgs 0).N)
    = val_main_v220 (F := Ideal) (X22 m c) (X35 m c) := by
  rw [final_m]
  funext i
  obtain ⟨a, b, d, rfl⟩ : ∃ (a : Fin 4) (b : Fin 4) (d : Fin 128), i = ix3 a b d := ⟨i 0, i 1, i 2, eq_ix3 i⟩
  refine (unpacked_9 _ a b d).trans (Eq.trans ?_ (ref_m9 _ _ a b d).symm)
  exact congrArg₂ Fwd.first (packed_9 a b d) (packed_9 a b d)

theorem ref_m10 (x23 x36 : FVec Ideal S4x1024 .f32) (a : Fin 4) (b : Fin 1024) :
    @Eq EReal (val_main_v244 (F := Ideal) x23 x36 (ix2 a b)) (Fwd.first (x23 (ix2 a b)) (x36 (ix2 a b))) := by
  pointwise [val_main_v244, val_main_v241, val_main_v240, val_main_cst_89, val_main_v243, val_main_v242, val_main_cst_90, Fwd.change, Fwd.first, Fwd.second]

theorem tail_m10 : Pipeline.afterTail₀ cfgs (dats m) 0 (V0 m) [hostOps1] c main_v109
    = cut_10 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m10 : cut_10 ((dats m 0 c).arrAt 5 (cfgs 0).N)
    = val_main_v244 (F := Ideal) (X23 m c) (X36 m c) := by
  rw [final_m]
  funext i
  obtain ⟨a, b, rfl⟩ : ∃ (a : Fin 4) (b : Fin 1024), i = ix2 a b := ⟨i 0, i 1, eq_ix2 i⟩
  refine (unpacked_10 _ a b).trans (Eq.trans ?_ (ref_m10 _ _ a b).symm)
  exact congrArg₂ Fwd.first (packed_10 a b) (packed_10 a b)

theorem ref_m11 (x24 x37 : FVec Ideal S4x1024 .f32) (a : Fin 4) (b : Fin 1024) :
    @Eq EReal (val_main_v268 (F := Ideal) x24 x37 (ix2 a b)) (Fwd.first (x24 (ix2 a b)) (x37 (ix2 a b))) := by
  pointwise [val_main_v268, val_main_v265, val_main_v264, val_main_cst_98, val_main_v267, val_main_v266, val_main_cst_99, Fwd.change, Fwd.first, Fwd.second]

theorem tail_m11 : Pipeline.afterTail₀ cfgs (dats m) 0 (V0 m) [hostOps1] c main_v111
    = cut_11 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m11 : cut_11 ((dats m 0 c).arrAt 5 (cfgs 0).N)
    = val_main_v268 (F := Ideal) (X24 m c) (X37 m c) := by
  rw [final_m]
  funext i
  obtain ⟨a, b, rfl⟩ : ∃ (a : Fin 4) (b : Fin 1024), i = ix2 a b := ⟨i 0, i 1, eq_ix2 i⟩
  refine (unpacked_11 _ a b).trans (Eq.trans ?_ (ref_m11 _ _ a b).symm)
  exact congrArg₂ Fwd.first (packed_11 a b) (packed_11 a b)

theorem ref_m12 (x25 x38 : FVec Ideal S1024 .f32) (a : Fin 1024) :
    @Eq EReal (val_main_v292 (F := Ideal) x25 x38 (ix1 a)) (Fwd.first (x25 (ix1 a)) (x38 (ix1 a))) := by
  pointwise [val_main_v292, val_main_v289, val_main_v288, val_main_cst_107, val_main_v291, val_main_v290, val_main_cst_108, Fwd.change, Fwd.first, Fwd.second]

theorem tail_m12 : Pipeline.afterTail₀ cfgs (dats m) 0 (V0 m) [hostOps1] c main_v112
    = cut_12 ((dats m 0 c).arrAt 5 (cfgs 0).N) := by
  unfold Pipeline.afterTail₀
  show StableHlo.after hostOps1 _ _ = _
  after_results
  rw [arr_m m c]
  generalize (dats m 0 c).arrAt 5 (cfgs 0).N = f
  rfl

theorem result_m12 : cut_12 ((dats m 0 c).arrAt 5 (cfgs 0).N)
    = val_main_v292 (F := Ideal) (X25 m c) (X38 m c) := by
  rw [final_m]
  funext i
  obtain ⟨a, rfl⟩ : ∃ (a : Fin 1024), i = ix1 a := ⟨i 0, eq_ix1 i⟩
  refine (unpacked_12 _ a).trans (Eq.trans ?_ (ref_m12 _ _ a).symm)
  exact congrArg₂ Fwd.first (packed_12 a) (packed_12 a)

theorem arr_v : Pipeline.withArrays (cfgs 0).spec c (V0 m c) (fun w => (dats m 0 c).arrAt w (cfgs 0).N) (Proc.tc.devRef main_v60_2) = (dats m 0 c).arrAt 6 (cfgs 0).N :=
  Pipeline.withArrays_arr (cfgs 0).spec (by decide) c (V0 m c) (fun w => (dats m 0 c).arrAt w (cfgs 0).N) 6

theorem final_v : (dats m 0 c).arrAt 6 (cfgs 0).N = fun i : S4352x128.Idx => Fwd.second (p1 m c i) (p3 m c i) := by
  refine (dats m 0 c).arrAt_eq_of_covers 6 _ (by decide +kernel) fun t hf y => ?_
  blk_simp; rw [after0_6]
  obtain ⟨a, b, rfl⟩ : ∃ (a : Fin 256) (b : Fin 128), y = ix2 a b := ⟨y 0, y 1, eq_ix2 y⟩
  have ht : t.val < 17 := lt_of_lt_of_eq t.isLt N_0
  have e (G : S4352x128.Idx → EReal) : G ((win0_6.blk t).view.emb (ix2 a b)) = G (ix2 ⟨t.val * 256 + a.val, by omega⟩ b) := by
    blk_ext [idx_val t]
  refine Eq.trans ?_ (e (fun i => Fwd.second (p1 m c i) (p3 m c i))).symm
  frame_out
  exact (pay_v _ _ a b).trans (congrArg₂ Fwd.second (r1 m c t a b ⟨t.val * 256 + a.val, by omega⟩ rfl) (r3 m c t a b ⟨t.val * 256 + a.val, by omega⟩ rfl))

theorem ref_v0 (x13 x39 : FVec Ideal S4x1024 .f32) (a : Fin 4) (b : Fin 1024) :
    @Eq EReal (val_main_v10 (F := Ideal) x13 x39 (ix2 a b)) (Fwd.second (x13 (ix2 a b)) (x39 (ix2 a b))) := by
  pointwise [val_main_v10, val_main_v6, val_main_v5, val_main_cst_1, val_main_v9, val_main_v8, val_main_cst_2, val_main_v7, Fwd.change, Fwd.first, Fwd.second]

theorem tail_v0 : Pipeline.afterTail₀ cfgs (dats m) 0 (V0 m) [hostOps1] c main_v115
    = cut_0 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v0 : cut_0 ((dats m 0 c).arrAt 6 (cfgs 0).N)
    = val_main_v10 (F := Ideal) (X13 m c) (X39 m c) := by
  rw [final_v]
  funext i
  obtain ⟨a, b, rfl⟩ : ∃ (a : Fin 4) (b : Fin 1024), i = ix2 a b := ⟨i 0, i 1, eq_ix2 i⟩
  refine (unpacked_0 _ a b).trans (Eq.trans ?_ (ref_v0 _ _ a b).symm)
  exact congrArg₂ Fwd.second (packed_0 a b) (packed_0 a b)

theorem ref_v1 (x14 x40 : FVec Ideal S4x512 .f32) (a : Fin 4) (b : Fin 512) :
    @Eq EReal (val_main_v34 (F := Ideal) x14 x40 (ix2 a b)) (Fwd.second (x14 (ix2 a b)) (x40 (ix2 a b))) := by
  pointwise [val_main_v34, val_main_v30, val_main_v29, val_main_cst_10, val_main_v33, val_main_v32, val_main_cst_11, val_main_v31, Fwd.change, Fwd.first, Fwd.second]

theorem tail_v1 : Pipeline.afterTail₀ cfgs (dats m) 0 (V0 m) [hostOps1] c main_v117
    = cut_1 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v1 : cut_1 ((dats m 0 c).arrAt 6 (cfgs 0).N)
    = val_main_v34 (F := Ideal) (X14 m c) (X40 m c) := by
  rw [final_v]
  funext i
  obtain ⟨a, b, rfl⟩ : ∃ (a : Fin 4) (b : Fin 512), i = ix2 a b := ⟨i 0, i 1, eq_ix2 i⟩
  refine (unpacked_1 _ a b).trans (Eq.trans ?_ (ref_v1 _ _ a b).symm)
  exact congrArg₂ Fwd.second (packed_1 a b) (packed_1 a b)

theorem ref_v2 (x15 x41 : FVec Ideal S4x512 .f32) (a : Fin 4) (b : Fin 512) :
    @Eq EReal (val_main_v58 (F := Ideal) x15 x41 (ix2 a b)) (Fwd.second (x15 (ix2 a b)) (x41 (ix2 a b))) := by
  pointwise [val_main_v58, val_main_v54, val_main_v53, val_main_cst_19, val_main_v57, val_main_v56, val_main_cst_20, val_main_v55, Fwd.change, Fwd.first, Fwd.second]

theorem tail_v2 : Pipeline.afterTail₀ cfgs (dats m) 0 (V0 m) [hostOps1] c main_v119
    = cut_2 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v2 : cut_2 ((dats m 0 c).arrAt 6 (cfgs 0).N)
    = val_main_v58 (F := Ideal) (X15 m c) (X41 m c) := by
  rw [final_v]
  funext i
  obtain ⟨a, b, rfl⟩ : ∃ (a : Fin 4) (b : Fin 512), i = ix2 a b := ⟨i 0, i 1, eq_ix2 i⟩
  refine (unpacked_2 _ a b).trans (Eq.trans ?_ (ref_v2 _ _ a b).symm)
  exact congrArg₂ Fwd.second (packed_2 a b) (packed_2 a b)

theorem ref_v3 (x16 x42 : FVec Ideal S4x512 .f32) (a : Fin 4) (b : Fin 512) :
    @Eq EReal (val_main_v82 (F := Ideal) x16 x42 (ix2 a b)) (Fwd.second (x16 (ix2 a b)) (x42 (ix2 a b))) := by
  pointwise [val_main_v82, val_main_v78, val_main_v77, val_main_cst_28, val_main_v81, val_main_v80, val_main_cst_29, val_main_v79, Fwd.change, Fwd.first, Fwd.second]

theorem tail_v3 : Pipeline.afterTail₀ cfgs (dats m) 0 (V0 m) [hostOps1] c main_v121
    = cut_3 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v3 : cut_3 ((dats m 0 c).arrAt 6 (cfgs 0).N)
    = val_main_v82 (F := Ideal) (X16 m c) (X42 m c) := by
  rw [final_v]
  funext i
  obtain ⟨a, b, rfl⟩ : ∃ (a : Fin 4) (b : Fin 512), i = ix2 a b := ⟨i 0, i 1, eq_ix2 i⟩
  refine (unpacked_3 _ a b).trans (Eq.trans ?_ (ref_v3 _ _ a b).symm)
  exact congrArg₂ Fwd.second (packed_3 a b) (packed_3 a b)

theorem ref_v4 (x17 x43 : FVec Ideal S4x4x128x128 .f32) (a : Fin 4) (b : Fin 4) (d : Fin 128) (e : Fin 128) :
    @Eq EReal (val_main_v106 (F := Ideal) x17 x43 (ix4 a b d e)) (Fwd.second (x17 (ix4 a b d e)) (x43 (ix4 a b d e))) := by
  pointwise [val_main_v106, val_main_v102, val_main_v101, val_main_cst_37, val_main_v105, val_main_v104, val_main_cst_38, val_main_v103, Fwd.change, Fwd.first, Fwd.second]

theorem tail_v4 : Pipeline.afterTail₀ cfgs (dats m) 0 (V0 m) [hostOps1] c main_v123
    = cut_4 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v4 : cut_4 ((dats m 0 c).arrAt 6 (cfgs 0).N)
    = val_main_v106 (F := Ideal) (X17 m c) (X43 m c) := by
  rw [final_v]
  funext i
  obtain ⟨a, b, d, e, rfl⟩ : ∃ (a : Fin 4) (b : Fin 4) (d : Fin 128) (e : Fin 128), i = ix4 a b d e := ⟨i 0, i 1, i 2, i 3, eq_ix4 i⟩
  refine (unpacked_4 _ a b d e).trans (Eq.trans ?_ (ref_v4 _ _ a b d e).symm)
  exact congrArg₂ Fwd.second (packed_4 a b d e) (packed_4 a b d e)

theorem ref_v5 (x18 x44 : FVec Ideal S4x512 .f32) (a : Fin 4) (b : Fin 512) :
    @Eq EReal (val_main_v130 (F := Ideal) x18 x44 (ix2 a b)) (Fwd.second (x18 (ix2 a b)) (x44 (ix2 a b))) := by
  pointwise [val_main_v130, val_main_v126, val_main_v125, val_main_cst_46, val_main_v129, val_main_v128, val_main_cst_47, val_main_v127, Fwd.change, Fwd.first, Fwd.second]

theorem tail_v5 : Pipeline.afterTail₀ cfgs (dats m) 0 (V0 m) [hostOps1] c main_v125
    = cut_5 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v5 : cut_5 ((dats m 0 c).arrAt 6 (cfgs 0).N)
    = val_main_v130 (F := Ideal) (X18 m c) (X44 m c) := by
  rw [final_v]
  funext i
  obtain ⟨a, b, rfl⟩ : ∃ (a : Fin 4) (b : Fin 512), i = ix2 a b := ⟨i 0, i 1, eq_ix2 i⟩
  refine (unpacked_5 _ a b).trans (Eq.trans ?_ (ref_v5 _ _ a b).symm)
  exact congrArg₂ Fwd.second (packed_5 a b) (packed_5 a b)

theorem ref_v6 (x19 x45 : FVec Ideal S4x512 .f32) (a : Fin 4) (b : Fin 512) :
    @Eq EReal (val_main_v154 (F := Ideal) x19 x45 (ix2 a b)) (Fwd.second (x19 (ix2 a b)) (x45 (ix2 a b))) := by
  pointwise [val_main_v154, val_main_v150, val_main_v149, val_main_cst_55, val_main_v153, val_main_v152, val_main_cst_56, val_main_v151, Fwd.change, Fwd.first, Fwd.second]

theorem tail_v6 : Pipeline.afterTail₀ cfgs (dats m) 0 (V0 m) [hostOps1] c main_v127
    = cut_6 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v6 : cut_6 ((dats m 0 c).arrAt 6 (cfgs 0).N)
    = val_main_v154 (F := Ideal) (X19 m c) (X45 m c) := by
  rw [final_v]
  funext i
  obtain ⟨a, b, rfl⟩ : ∃ (a : Fin 4) (b : Fin 512), i = ix2 a b := ⟨i 0, i 1, eq_ix2 i⟩
  refine (unpacked_6 _ a b).trans (Eq.trans ?_ (ref_v6 _ _ a b).symm)
  exact congrArg₂ Fwd.second (packed_6 a b) (packed_6 a b)

theorem ref_v7 (x20 x46 : FVec Ideal S4x512 .f32) (a : Fin 4) (b : Fin 512) :
    @Eq EReal (val_main_v178 (F := Ideal) x20 x46 (ix2 a b)) (Fwd.second (x20 (ix2 a b)) (x46 (ix2 a b))) := by
  pointwise [val_main_v178, val_main_v174, val_main_v173, val_main_cst_64, val_main_v177, val_main_v176, val_main_cst_65, val_main_v175, Fwd.change, Fwd.first, Fwd.second]

theorem tail_v7 : Pipeline.afterTail₀ cfgs (dats m) 0 (V0 m) [hostOps1] c main_v129
    = cut_7 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v7 : cut_7 ((dats m 0 c).arrAt 6 (cfgs 0).N)
    = val_main_v178 (F := Ideal) (X20 m c) (X46 m c) := by
  rw [final_v]
  funext i
  obtain ⟨a, b, rfl⟩ : ∃ (a : Fin 4) (b : Fin 512), i = ix2 a b := ⟨i 0, i 1, eq_ix2 i⟩
  refine (unpacked_7 _ a b).trans (Eq.trans ?_ (ref_v7 _ _ a b).symm)
  exact congrArg₂ Fwd.second (packed_7 a b) (packed_7 a b)

theorem ref_v8 (x21 x47 : FVec Ideal S4x4x128x128 .f32) (a : Fin 4) (b : Fin 4) (d : Fin 128) (e : Fin 128) :
    @Eq EReal (val_main_v202 (F := Ideal) x21 x47 (ix4 a b d e)) (Fwd.second (x21 (ix4 a b d e)) (x47 (ix4 a b d e))) := by
  pointwise [val_main_v202, val_main_v198, val_main_v197, val_main_cst_73, val_main_v201, val_main_v200, val_main_cst_74, val_main_v199, Fwd.change, Fwd.first, Fwd.second]

theorem tail_v8 : Pipeline.afterTail₀ cfgs (dats m) 0 (V0 m) [hostOps1] c main_v131
    = cut_8 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v8 : cut_8 ((dats m 0 c).arrAt 6 (cfgs 0).N)
    = val_main_v202 (F := Ideal) (X21 m c) (X47 m c) := by
  rw [final_v]
  funext i
  obtain ⟨a, b, d, e, rfl⟩ : ∃ (a : Fin 4) (b : Fin 4) (d : Fin 128) (e : Fin 128), i = ix4 a b d e := ⟨i 0, i 1, i 2, i 3, eq_ix4 i⟩
  refine (unpacked_8 _ a b d e).trans (Eq.trans ?_ (ref_v8 _ _ a b d e).symm)
  exact congrArg₂ Fwd.second (packed_8 a b d e) (packed_8 a b d e)

theorem ref_v9 (x22 x48 : FVec Ideal S4x4x128 .f32) (a : Fin 4) (b : Fin 4) (d : Fin 128) :
    @Eq EReal (val_main_v226 (F := Ideal) x22 x48 (ix3 a b d)) (Fwd.second (x22 (ix3 a b d)) (x48 (ix3 a b d))) := by
  pointwise [val_main_v226, val_main_v222, val_main_v221, val_main_cst_82, val_main_v225, val_main_v224, val_main_cst_83, val_main_v223, Fwd.change, Fwd.first, Fwd.second]

theorem tail_v9 : Pipeline.afterTail₀ cfgs (dats m) 0 (V0 m) [hostOps1] c main_v133
    = cut_9 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v9 : cut_9 ((dats m 0 c).arrAt 6 (cfgs 0).N)
    = val_main_v226 (F := Ideal) (X22 m c) (X48 m c) := by
  rw [final_v]
  funext i
  obtain ⟨a, b, d, rfl⟩ : ∃ (a : Fin 4) (b : Fin 4) (d : Fin 128), i = ix3 a b d := ⟨i 0, i 1, i 2, eq_ix3 i⟩
  refine (unpacked_9 _ a b d).trans (Eq.trans ?_ (ref_v9 _ _ a b d).symm)
  exact congrArg₂ Fwd.second (packed_9 a b d) (packed_9 a b d)

theorem ref_v10 (x23 x49 : FVec Ideal S4x1024 .f32) (a : Fin 4) (b : Fin 1024) :
    @Eq EReal (val_main_v250 (F := Ideal) x23 x49 (ix2 a b)) (Fwd.second (x23 (ix2 a b)) (x49 (ix2 a b))) := by
  pointwise [val_main_v250, val_main_v246, val_main_v245, val_main_cst_91, val_main_v249, val_main_v248, val_main_cst_92, val_main_v247, Fwd.change, Fwd.first, Fwd.second]

theorem tail_v10 : Pipeline.afterTail₀ cfgs (dats m) 0 (V0 m) [hostOps1] c main_v135
    = cut_10 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v10 : cut_10 ((dats m 0 c).arrAt 6 (cfgs 0).N)
    = val_main_v250 (F := Ideal) (X23 m c) (X49 m c) := by
  rw [final_v]
  funext i
  obtain ⟨a, b, rfl⟩ : ∃ (a : Fin 4) (b : Fin 1024), i = ix2 a b := ⟨i 0, i 1, eq_ix2 i⟩
  refine (unpacked_10 _ a b).trans (Eq.trans ?_ (ref_v10 _ _ a b).symm)
  exact congrArg₂ Fwd.second (packed_10 a b) (packed_10 a b)

theorem ref_v11 (x24 x50 : FVec Ideal S4x1024 .f32) (a : Fin 4) (b : Fin 1024) :
    @Eq EReal (val_main_v274 (F := Ideal) x24 x50 (ix2 a b)) (Fwd.second (x24 (ix2 a b)) (x50 (ix2 a b))) := by
  pointwise [val_main_v274, val_main_v270, val_main_v269, val_main_cst_100, val_main_v273, val_main_v272, val_main_cst_101, val_main_v271, Fwd.change, Fwd.first, Fwd.second]

theorem tail_v11 : Pipeline.afterTail₀ cfgs (dats m) 0 (V0 m) [hostOps1] c main_v137
    = cut_11 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v11 : cut_11 ((dats m 0 c).arrAt 6 (cfgs 0).N)
    = val_main_v274 (F := Ideal) (X24 m c) (X50 m c) := by
  rw [final_v]
  funext i
  obtain ⟨a, b, rfl⟩ : ∃ (a : Fin 4) (b : Fin 1024), i = ix2 a b := ⟨i 0, i 1, eq_ix2 i⟩
  refine (unpacked_11 _ a b).trans (Eq.trans ?_ (ref_v11 _ _ a b).symm)
  exact congrArg₂ Fwd.second (packed_11 a b) (packed_11 a b)

theorem ref_v12 (x25 x51 : FVec Ideal S1024 .f32) (a : Fin 1024) :
    @Eq EReal (val_main_v298 (F := Ideal) x25 x51 (ix1 a)) (Fwd.second (x25 (ix1 a)) (x51 (ix1 a))) := by
  pointwise [val_main_v298, val_main_v294, val_main_v293, val_main_cst_109, val_main_v297, val_main_v296, val_main_cst_110, val_main_v295, Fwd.change, Fwd.first, Fwd.second]

theorem tail_v12 : Pipeline.afterTail₀ cfgs (dats m) 0 (V0 m) [hostOps1] c main_v138
    = cut_12 ((dats m 0 c).arrAt 6 (cfgs 0).N) := by
  unfold Pipeline.afterTail₀
  show StableHlo.after hostOps1 _ _ = _
  after_results
  rw [arr_v m c]
  generalize (dats m 0 c).arrAt 6 (cfgs 0).N = f
  rfl

theorem result_v12 : cut_12 ((dats m 0 c).arrAt 6 (cfgs 0).N)
    = val_main_v298 (F := Ideal) (X25 m c) (X51 m c) := by
  rw [final_v]
  funext i
  obtain ⟨a, rfl⟩ : ∃ (a : Fin 1024), i = ix1 a := ⟨i 0, eq_ix1 i⟩
  refine (unpacked_12 _ a).trans (Eq.trans ?_ (ref_v12 _ _ a).symm)
  exact congrArg₂ Fwd.second (packed_12 a) (packed_12 a)

/-- The kernel's run and what it leaves. -/
theorem run (ρ : Dev nD → PrngReg) : θ_run defs (onTc (τ := τ) (main (F := Ideal))) ⟨m, fun _ => 0, ρ⟩ (fun r => ∀ c : Dev nD,
      r.2.mem (c.tc.loc main_v63) = val_main_v23 (F := Ideal) (X0 m c) (X13 m c) (X26 m c) (X39 m c)
      ∧ r.2.mem (c.tc.loc main_v65) = val_main_v47 (F := Ideal) (X1 m c) (X14 m c) (X27 m c) (X40 m c)
      ∧ r.2.mem (c.tc.loc main_v67) = val_main_v71 (F := Ideal) (X2 m c) (X15 m c) (X28 m c) (X41 m c)
      ∧ r.2.mem (c.tc.loc main_v69) = val_main_v95 (F := Ideal) (X3 m c) (X16 m c) (X29 m c) (X42 m c)
      ∧ r.2.mem (c.tc.loc main_v71) = val_main_v119 (F := Ideal) (X4 m c) (X17 m c) (X30 m c) (X43 m c)
      ∧ r.2.mem (c.tc.loc main_v73) = val_main_v143 (F := Ideal) (X5 m c) (X18 m c) (X31 m c) (X44 m c)
      ∧ r.2.mem (c.tc.loc main_v75) = val_main_v167 (F := Ideal) (X6 m c) (X19 m c) (X32 m c) (X45 m c)
      ∧ r.2.mem (c.tc.loc main_v77) = val_main_v191 (F := Ideal) (X7 m c) (X20 m c) (X33 m c) (X46 m c)
      ∧ r.2.mem (c.tc.loc main_v79) = val_main_v215 (F := Ideal) (X8 m c) (X21 m c) (X34 m c) (X47 m c)
      ∧ r.2.mem (c.tc.loc main_v81) = val_main_v239 (F := Ideal) (X9 m c) (X22 m c) (X35 m c) (X48 m c)
      ∧ r.2.mem (c.tc.loc main_v83) = val_main_v263 (F := Ideal) (X10 m c) (X23 m c) (X36 m c) (X49 m c)
      ∧ r.2.mem (c.tc.loc main_v85) = val_main_v287 (F := Ideal) (X11 m c) (X24 m c) (X37 m c) (X50 m c)
      ∧ r.2.mem (c.tc.loc main_v86) = val_main_v311 (F := Ideal) (X12 m c) (X25 m c) (X38 m c) (X51 m c)
      ∧ r.2.mem (c.tc.loc main_v89) = val_main_v4 (F := Ideal) (X13 m c) (X26 m c)
      ∧ r.2.mem (c.tc.loc main_v91) = val_main_v28 (F := Ideal) (X14 m c) (X27 m c)
      ∧ r.2.mem (c.tc.loc main_v93) = val_main_v52 (F := Ideal) (X15 m c) (X28 m c)
      ∧ r.2.mem (c.tc.loc main_v95) = val_main_v76 (F := Ideal) (X16 m c) (X29 m c)
      ∧ r.2.mem (c.tc.loc main_v97) = val_main_v100 (F := Ideal) (X17 m c) (X30 m c)
      ∧ r.2.mem (c.tc.loc main_v99) = val_main_v124 (F := Ideal) (X18 m c) (X31 m c)
      ∧ r.2.mem (c.tc.loc main_v101) = val_main_v148 (F := Ideal) (X19 m c) (X32 m c)
      ∧ r.2.mem (c.tc.loc main_v103) = val_main_v172 (F := Ideal) (X20 m c) (X33 m c)
      ∧ r.2.mem (c.tc.loc main_v105) = val_main_v196 (F := Ideal) (X21 m c) (X34 m c)
      ∧ r.2.mem (c.tc.loc main_v107) = val_main_v220 (F := Ideal) (X22 m c) (X35 m c)
      ∧ r.2.mem (c.tc.loc main_v109) = val_main_v244 (F := Ideal) (X23 m c) (X36 m c)
      ∧ r.2.mem (c.tc.loc main_v111) = val_main_v268 (F := Ideal) (X24 m c) (X37 m c)
      ∧ r.2.mem (c.tc.loc main_v112) = val_main_v292 (F := Ideal) (X25 m c) (X38 m c)
      ∧ r.2.mem (c.tc.loc main_v115) = val_main_v10 (F := Ideal) (X13 m c) (X39 m c)
      ∧ r.2.mem (c.tc.loc main_v117) = val_main_v34 (F := Ideal) (X14 m c) (X40 m c)
      ∧ r.2.mem (c.tc.loc main_v119) = val_main_v58 (F := Ideal) (X15 m c) (X41 m c)
      ∧ r.2.mem (c.tc.loc main_v121) = val_main_v82 (F := Ideal) (X16 m c) (X42 m c)
      ∧ r.2.mem (c.tc.loc main_v123) = val_main_v106 (F := Ideal) (X17 m c) (X43 m c)
      ∧ r.2.mem (c.tc.loc main_v125) = val_main_v130 (F := Ideal) (X18 m c) (X44 m c)
      ∧ r.2.mem (c.tc.loc main_v127) = val_main_v154 (F := Ideal) (X19 m c) (X45 m c)
      ∧ r.2.mem (c.tc.loc main_v129) = val_main_v178 (F := Ideal) (X20 m c) (X46 m c)
      ∧ r.2.mem (c.tc.loc main_v131) = val_main_v202 (F := Ideal) (X21 m c) (X47 m c)
      ∧ r.2.mem (c.tc.loc main_v133) = val_main_v226 (F := Ideal) (X22 m c) (X48 m c)
      ∧ r.2.mem (c.tc.loc main_v135) = val_main_v250 (F := Ideal) (X23 m c) (X49 m c)
      ∧ r.2.mem (c.tc.loc main_v137) = val_main_v274 (F := Ideal) (X24 m c) (X50 m c)
      ∧ r.2.mem (c.tc.loc main_v138) = val_main_v298 (F := Ideal) (X25 m c) (X51 m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16)
      ∧ r.2.mem (c.tc.loc main_arg17) = m (c.tc.loc main_arg17)
      ∧ r.2.mem (c.tc.loc main_arg18) = m (c.tc.loc main_arg18)
      ∧ r.2.mem (c.tc.loc main_arg19) = m (c.tc.loc main_arg19)
      ∧ r.2.mem (c.tc.loc main_arg20) = m (c.tc.loc main_arg20)
      ∧ r.2.mem (c.tc.loc main_arg21) = m (c.tc.loc main_arg21)
      ∧ r.2.mem (c.tc.loc main_arg22) = m (c.tc.loc main_arg22)
      ∧ r.2.mem (c.tc.loc main_arg23) = m (c.tc.loc main_arg23)
      ∧ r.2.mem (c.tc.loc main_arg24) = m (c.tc.loc main_arg24)
      ∧ r.2.mem (c.tc.loc main_arg25) = m (c.tc.loc main_arg25)
      ∧ r.2.mem (c.tc.loc main_arg26) = m (c.tc.loc main_arg26)
      ∧ r.2.mem (c.tc.loc main_arg27) = m (c.tc.loc main_arg27)
      ∧ r.2.mem (c.tc.loc main_arg28) = m (c.tc.loc main_arg28)
      ∧ r.2.mem (c.tc.loc main_arg29) = m (c.tc.loc main_arg29)
      ∧ r.2.mem (c.tc.loc main_arg30) = m (c.tc.loc main_arg30)
      ∧ r.2.mem (c.tc.loc main_arg31) = m (c.tc.loc main_arg31)
      ∧ r.2.mem (c.tc.loc main_arg32) = m (c.tc.loc main_arg32)
      ∧ r.2.mem (c.tc.loc main_arg33) = m (c.tc.loc main_arg33)
      ∧ r.2.mem (c.tc.loc main_arg34) = m (c.tc.loc main_arg34)
      ∧ r.2.mem (c.tc.loc main_arg35) = m (c.tc.loc main_arg35)
      ∧ r.2.mem (c.tc.loc main_arg36) = m (c.tc.loc main_arg36)
      ∧ r.2.mem (c.tc.loc main_arg37) = m (c.tc.loc main_arg37)
      ∧ r.2.mem (c.tc.loc main_arg38) = m (c.tc.loc main_arg38)
      ∧ r.2.mem (c.tc.loc main_arg39) = m (c.tc.loc main_arg39)
      ∧ r.2.mem (c.tc.loc main_arg40) = m (c.tc.loc main_arg40)
      ∧ r.2.mem (c.tc.loc main_arg41) = m (c.tc.loc main_arg41)
      ∧ r.2.mem (c.tc.loc main_arg42) = m (c.tc.loc main_arg42)
      ∧ r.2.mem (c.tc.loc main_arg43) = m (c.tc.loc main_arg43)
      ∧ r.2.mem (c.tc.loc main_arg44) = m (c.tc.loc main_arg44)
      ∧ r.2.mem (c.tc.loc main_arg45) = m (c.tc.loc main_arg45)
      ∧ r.2.mem (c.tc.loc main_arg46) = m (c.tc.loc main_arg46)
      ∧ r.2.mem (c.tc.loc main_arg47) = m (c.tc.loc main_arg47)
      ∧ r.2.mem (c.tc.loc main_arg48) = m (c.tc.loc main_arg48)
      ∧ r.2.mem (c.tc.loc main_arg49) = m (c.tc.loc main_arg49)
      ∧ r.2.mem (c.tc.loc main_arg50) = m (c.tc.loc main_arg50)
      ∧ r.2.mem (c.tc.loc main_arg51) = m (c.tc.loc main_arg51)) :=
  (θ_run defs _ _).mono (fun r hr c => ⟨((hr.1 c).2 main_v63 (by decide)).trans ((tail_d0 m c).trans (result_d0 m c)), ((hr.1 c).2 main_v65 (by decide)).trans ((tail_d1 m c).trans (result_d1 m c)), ((hr.1 c).2 main_v67 (by decide)).trans ((tail_d2 m c).trans (result_d2 m c)), ((hr.1 c).2 main_v69 (by decide)).trans ((tail_d3 m c).trans (result_d3 m c)), ((hr.1 c).2 main_v71 (by decide)).trans ((tail_d4 m c).trans (result_d4 m c)), ((hr.1 c).2 main_v73 (by decide)).trans ((tail_d5 m c).trans (result_d5 m c)), ((hr.1 c).2 main_v75 (by decide)).trans ((tail_d6 m c).trans (result_d6 m c)), ((hr.1 c).2 main_v77 (by decide)).trans ((tail_d7 m c).trans (result_d7 m c)), ((hr.1 c).2 main_v79 (by decide)).trans ((tail_d8 m c).trans (result_d8 m c)), ((hr.1 c).2 main_v81 (by decide)).trans ((tail_d9 m c).trans (result_d9 m c)), ((hr.1 c).2 main_v83 (by decide)).trans ((tail_d10 m c).trans (result_d10 m c)), ((hr.1 c).2 main_v85 (by decide)).trans ((tail_d11 m c).trans (result_d11 m c)), ((hr.1 c).2 main_v86 (by decide)).trans ((tail_d12 m c).trans (result_d12 m c)), ((hr.1 c).2 main_v89 (by decide)).trans ((tail_m0 m c).trans (result_m0 m c)), ((hr.1 c).2 main_v91 (by decide)).trans ((tail_m1 m c).trans (result_m1 m c)), ((hr.1 c).2 main_v93 (by decide)).trans ((tail_m2 m c).trans (result_m2 m c)), ((hr.1 c).2 main_v95 (by decide)).trans ((tail_m3 m c).trans (result_m3 m c)), ((hr.1 c).2 main_v97 (by decide)).trans ((tail_m4 m c).trans (result_m4 m c)), ((hr.1 c).2 main_v99 (by decide)).trans ((tail_m5 m c).trans (result_m5 m c)), ((hr.1 c).2 main_v101 (by decide)).trans ((tail_m6 m c).trans (result_m6 m c)), ((hr.1 c).2 main_v103 (by decide)).trans ((tail_m7 m c).trans (result_m7 m c)), ((hr.1 c).2 main_v105 (by decide)).trans ((tail_m8 m c).trans (result_m8 m c)), ((hr.1 c).2 main_v107 (by decide)).trans ((tail_m9 m c).trans (result_m9 m c)), ((hr.1 c).2 main_v109 (by decide)).trans ((tail_m10 m c).trans (result_m10 m c)), ((hr.1 c).2 main_v111 (by decide)).trans ((tail_m11 m c).trans (result_m11 m c)), ((hr.1 c).2 main_v112 (by decide)).trans ((tail_m12 m c).trans (result_m12 m c)), ((hr.1 c).2 main_v115 (by decide)).trans ((tail_v0 m c).trans (result_v0 m c)), ((hr.1 c).2 main_v117 (by decide)).trans ((tail_v1 m c).trans (result_v1 m c)), ((hr.1 c).2 main_v119 (by decide)).trans ((tail_v2 m c).trans (result_v2 m c)), ((hr.1 c).2 main_v121 (by decide)).trans ((tail_v3 m c).trans (result_v3 m c)), ((hr.1 c).2 main_v123 (by decide)).trans ((tail_v4 m c).trans (result_v4 m c)), ((hr.1 c).2 main_v125 (by decide)).trans ((tail_v5 m c).trans (result_v5 m c)), ((hr.1 c).2 main_v127 (by decide)).trans ((tail_v6 m c).trans (result_v6 m c)), ((hr.1 c).2 main_v129 (by decide)).trans ((tail_v7 m c).trans (result_v7 m c)), ((hr.1 c).2 main_v131 (by decide)).trans ((tail_v8 m c).trans (result_v8 m c)), ((hr.1 c).2 main_v133 (by decide)).trans ((tail_v9 m c).trans (result_v9 m c)), ((hr.1 c).2 main_v135 (by decide)).trans ((tail_v10 m c).trans (result_v10 m c)), ((hr.1 c).2 main_v137 (by decide)).trans ((tail_v11 m c).trans (result_v11 m c)), ((hr.1 c).2 main_v138 (by decide)).trans ((tail_v12 m c).trans (result_v12 m c)), hr.2 c⟩)
    (θ_run_and (run_main m ρ) (unchanged m ρ))

end Cert.Proof.AdamSmall

end
-- ==== Proof.SeqFwd.lean ====
/-
  The causal token mixers: the convolutions and the pooling.
-/
module

public import proofs.«01_k».proof.Proof.Gen.SeqFwdIdeal.Frame
public import proofs.«01_k».proof.Proof.Gen.SeqFwdReferenceIdeal.Run
public import proofs.«01_k».proof.Proof.Gen.SeqFwdReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Proof.SeqFwd

open Cert.SeqFwdIdeal Cert.SeqFwdIdeal.Gen Cert.SeqFwdReferenceIdeal.Read

variable (m : (ℓ : Loc nD τ sig) → Buf (Elt Ideal) ℓ)

/-- The block each window stands at, in the number of the grid point. -/
theorem idx_val : ∀ t : Fin cfg0.N, win0_0.index t = ![t.val % 4, t.val / 4]
    ∧ win0_1.index t = ![t.val % 4 * 16 - 1, t.val / 4]
    ∧ win0_2.index t = ![t.val % 4, 8 + t.val / 4]
    ∧ win0_3.index t = ![t.val % 4 * 16 - 1, 8 + t.val / 4]
    ∧ win0_4.index t = ![t.val % 4, t.val / 4]
    ∧ win0_5.index t = ![t.val % 4 * 16 - 1, t.val / 4]
    ∧ win0_6.index t = ![0, t.val / 4]
    ∧ win0_7.index t = ![0, t.val / 4]
    ∧ win0_8.index t = ![t.val % 4, t.val / 4]
    ∧ win0_9.index t = ![t.val % 4, t.val / 4]
    ∧ win0_10.index t = ![t.val % 4, t.val / 4] :=
  (by decide +kernel : ∀ t : Fin grid0.N, _)

variable (c : Dev nD)

/-! The arguments on a device. -/
abbrev X0 : FVec Ideal S2048x512 .f32 := m ((c : Thread nD τ).loc main_arg0)
abbrev X1 : FVec Ideal S2048x4096 .f32 := m ((c : Thread nD τ).loc main_arg1)
abbrev X2 : FVec Ideal S2048x512 .f32 := m ((c : Thread nD τ).loc main_arg2)
abbrev X3 : FVec Ideal S31x512 .f32 := m ((c : Thread nD τ).loc main_arg3)
abbrev X4 : FVec Ideal S3x512 .f32 := m ((c : Thread nD τ).loc main_arg4)

/-- A row a number of steps before, and zero before the first. -/
def back (x : Fin 2048 → EReal) (r d : ℕ) : EReal := if h : d ≤ r ∧ r - d < 2048 then x ⟨r - d, h.2⟩ else 0

/-- No steps before. -/
theorem back_zero (x : Fin 2048 → EReal) (r : Fin 2048) : back x r.val 0 = x r := by
  unfold back
  rw [dif_pos ⟨Nat.zero_le _, r.isLt⟩]
  rfl

/-- A tile with the rows before it. -/
def ext (hh : Fin 32 → EReal) (k : EReal) (v : Fin 512 → EReal) (y : ℕ) (hy : y < 544) : EReal := if h : y < 32 then hh ⟨y, h⟩ * k else v ⟨y - 32, by omega⟩

/-- A rotated row's place. -/
theorem rot_idx (y r : ℕ) (hr : r ≤ y) (hy : y < 544) : (y + 544 - r) % 544 = y - r := by omega

/-- The value of a small integer. -/
theorem int_val (n : ℕ) (h : n < 1048576) : (FloatOps.sitofp (F := Ideal) .f32 (BitVec.ofNat 32 n) : EReal) = ((n : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat]
    omega
  rw [e]
  norm_cast

/-- Zero as a number. -/
theorem zero_val : (FloatOps.sitofp (F := Ideal) .f32 0#32 : EReal) = 0 := by
  have := int_val 0 (by decide)
  simpa using this

/-- A tile with the rows before it, in the whole array's rows. -/
theorem ext_back (hh : Fin 32 → EReal) (k : EReal) (v : Fin 512 → EReal) (x : Fin 2048 → EReal) (i : ℕ) (hi : i < 4)
    (hk : k = if i = 0 then 0 else 1)
    (hh_read : i ≠ 0 → ∀ (y : Fin 32) (r : Fin 2048), r.val = (i * 16 - 1) * 32 + y.val → hh y = x r)
    (v_read : ∀ (a : Fin 512) (r : Fin 2048), r.val = i * 512 + a.val → v a = x r)
    (a : Fin 512) (d y : ℕ) (hy : y < 544) (hd : y + d = 32 + a.val) : ext hh k v y hy = back x (i * 512 + a.val) d := by
  unfold ext back
  by_cases h : y < 32
  · rw [dif_pos h]
    by_cases h0 : i = 0
    · rw [hk, if_pos h0, mul_zero, dif_neg (by omega)]
    · rw [hk, if_neg h0, mul_one, dif_pos (by omega)]
      exact hh_read h0 _ _ (by dsimp only; omega)
  · rw [dif_neg h, dif_pos (by omega)]
    exact v_read _ _ (by dsimp only; omega)

/-- Whether there are rows before a tile. -/
theorem keep_val (t : Fin cfg0.N) : (k0_pay2 (F := Ideal) (grid0.coords t) : EReal) = if t.val % 4 = 0 then 0 else 1 := by
  have key : ∀ t : Fin grid0.N, (Scalar.extui (Scalar.cmpi .sgt (BitVec.ofNat 32 ((grid0.coords t) 1).val) 0#32) : BitVec 32) = BitVec.ofNat 32 (if t.val % 4 = 0 then 0 else 1) := by
    decide +kernel
  refine (congrArg (fun z : BitVec 32 => (FloatOps.sitofp (F := Ideal) .f32 z : EReal)) (key t)).trans ?_
  by_cases h : t.val % 4 = 0
  · rw [if_pos h, if_pos h]
    refine (int_val 0 (by decide)).trans ?_
    norm_cast
  · rw [if_neg h, if_neg h]
    refine (int_val 1 (by decide)).trans ?_
    norm_cast

set_option maxHeartbeats 1000000 in
/-- The long convolution as the body sums it. -/
theorem pay_ca (i : grid0.Coords) (v3 : FVec Ideal S32x128 .f32) (v6 : FVec Ideal S512x128 .f32) (w0 w1 w2 w3 w4 w5 w6 w7 w8 w9 w10 w11 w12 w13 w14 w15 w16 w17 w18 w19 w20 w21 w22 w23 w24 w25 w26 w27 w28 w29 w30 : FVec Ideal S1x128 .f32) (a : Fin 512) (b : Fin 128) :
    @Eq EReal (k0_pay16 (F := Ideal) (k0_pay14 (k0_pay3 i v3 v6) (k0_pay10 (k0_pay3 i v3 v6)) (k0_pay11 (k0_pay3 i v3 v6) (k0_pay7 (k0_pay3 i v3 v6)) (k0_pay8 (k0_pay3 i v3 v6) (k0_pay4 i v3 v6) (k0_pay5 i v3 v6 w0 w1 w2 w3 w4 w5) (k0_pay6 i v3 v6) w6 w7 w8 w9 w10 w11 w12 w13) (k0_pay9 (k0_pay3 i v3 v6)) w14 w15 w16 w17 w18 w19 w20 w21) (k0_pay12 (k0_pay3 i v3 v6)) w22 w23 w24 w25 w26 w27 w28 w29) (k0_pay15 (k0_pay3 i v3 v6)) w30 (ix2 a b))
      (v6 (ix2 a b) * w0 (ix2 0 b) + ext (fun y => v3 (ix2 y b)) (k0_pay2 (F := Ideal) i) (fun y => v6 (ix2 y b)) (24 + a.val) (by omega) * w1 (ix2 0 b) + ext (fun y => v3 (ix2 y b)) (k0_pay2 (F := Ideal) i) (fun y => v6 (ix2 y b)) (16 + a.val) (by omega) * w2 (ix2 0 b) + ext (fun y => v3 (ix2 y b)) (k0_pay2 (F := Ideal) i) (fun y => v6 (ix2 y b)) (8 + a.val) (by omega) * w3 (ix2 0 b) + ext (fun y => v3 (ix2 y b)) (k0_pay2 (F := Ideal) i) (fun y => v6 (ix2 y b)) (32 + a.val - 1) (by omega) * w4 (ix2 0 b) + ext (fun y => v3 (ix2 y b)) (k0_pay2 (F := Ideal) i) (fun y => v6 (ix2 y b)) (24 + a.val - 1) (by omega) * w5 (ix2 0 b) + ext (fun y => v3 (ix2 y b)) (k0_pay2 (F := Ideal) i) (fun y => v6 (ix2 y b)) (16 + a.val - 1) (by omega) * w6 (ix2 0 b) + ext (fun y => v3 (ix2 y b)) (k0_pay2 (F := Ideal) i) (fun y => v6 (ix2 y b)) (8 + a.val - 1) (by omega) * w7 (ix2 0 b) + ext (fun y => v3 (ix2 y b)) (k0_pay2 (F := Ideal) i) (fun y => v6 (ix2 y b)) (32 + a.val - 2) (by omega) * w8 (ix2 0 b) + ext (fun y => v3 (ix2 y b)) (k0_pay2 (F := Ideal) i) (fun y => v6 (ix2 y b)) (24 + a.val - 2) (by omega) * w9 (ix2 0 b) + ext (fun y => v3 (ix2 y b)) (k0_pay2 (F := Ideal) i) (fun y => v6 (ix2 y b)) (16 + a.val - 2) (by omega) * w10 (ix2 0 b) + ext (fun y => v3 (ix2 y b)) (k0_pay2 (F := Ideal) i) (fun y => v6 (ix2 y b)) (8 + a.val - 2) (by omega) * w11 (ix2 0 b) + ext (fun y => v3 (ix2 y b)) (k0_pay2 (F := Ideal) i) (fun y => v6 (ix2 y b)) (32 + a.val - 3) (by omega) * w12 (ix2 0 b) + ext (fun y => v3 (ix2 y b)) (k0_pay2 (F := Ideal) i) (fun y => v6 (ix2 y b)) (24 + a.val - 3) (by omega) * w13 (ix2 0 b) + ext (fun y => v3 (ix2 y b)) (k0_pay2 (F := Ideal) i) (fun y => v6 (ix2 y b)) (16 + a.val - 3) (by omega) * w14 (ix2 0 b) + ext (fun y => v3 (ix2 y b)) (k0_pay2 (F := Ideal) i) (fun y => v6 (ix2 y b)) (8 + a.val - 3) (by omega) * w15 (ix2 0 b) + ext (fun y => v3 (ix2 y b)) (k0_pay2 (F := Ideal) i) (fun y => v6 (ix2 y b)) (32 + a.val - 4) (by omega) * w16 (ix2 0 b) + ext (fun y => v3 (ix2 y b)) (k0_pay2 (F := Ideal) i) (fun y => v6 (ix2 y b)) (24 + a.val - 4) (by omega) * w17 (ix2 0 b) + ext (fun y => v3 (ix2 y b)) (k0_pay2 (F := Ideal) i) (fun y => v6 (ix2 y b)) (16 + a.val - 4) (by omega) * w18 (ix2 0 b) + ext (fun y => v3 (ix2 y b)) (k0_pay2 (F := Ideal) i) (fun y => v6 (ix2 y b)) (8 + a.val - 4) (by omega) * w19 (ix2 0 b) + ext (fun y => v3 (ix2 y b)) (k0_pay2 (F := Ideal) i) (fun y => v6 (ix2 y b)) (32 + a.val - 5) (by omega) * w20 (ix2 0 b) + ext (fun y => v3 (ix2 y b)) (k0_pay2 (F := Ideal) i) (fun y => v6 (ix2 y b)) (24 + a.val - 5) (by omega) * w21 (ix2 0 b) + ext (fun y => v3 (ix2 y b)) (k0_pay2 (F := Ideal) i) (fun y => v6 (ix2 y b)) (16 + a.val - 5) (by omega) * w22 (ix2 0 b) + ext (fun y => v3 (ix2 y b)) (k0_pay2 (F := Ideal) i) (fun y => v6 (ix2 y b)) (8 + a.val - 5) (by omega) * w23 (ix2 0 b) + ext (fun y => v3 (ix2 y b)) (k0_pay2 (F := Ideal) i) (fun y => v6 (ix2 y b)) (32 + a.val - 6) (by omega) * w24 (ix2 0 b) + ext (fun y => v3 (ix2 y b)) (k0_pay2 (F := Ideal) i) (fun y => v6 (ix2 y b)) (24 + a.val - 6) (by omega) * w25 (ix2 0 b) + ext (fun y => v3 (ix2 y b)) (k0_pay2 (F := Ideal) i) (fun y => v6 (ix2 y b)) (16 + a.val - 6) (by omega) * w26 (ix2 0 b) + ext (fun y => v3 (ix2 y b)) (k0_pay2 (F := Ideal) i) (fun y => v6 (ix2 y b)) (8 + a.val - 6) (by omega) * w27 (ix2 0 b) + ext (fun y => v3 (ix2 y b)) (k0_pay2 (F := Ideal) i) (fun y => v6 (ix2 y b)) (32 + a.val - 7) (by omega) * w28 (ix2 0 b) + ext (fun y => v3 (ix2 y b)) (k0_pay2 (F := Ideal) i) (fun y => v6 (ix2 y b)) (24 + a.val - 7) (by omega) * w29 (ix2 0 b) + ext (fun y => v3 (ix2 y b)) (k0_pay2 (F := Ideal) i) (fun y => v6 (ix2 y b)) (16 + a.val - 7) (by omega) * w30 (ix2 0 b)) := by
  pointwise [k0_pay3, k0_pay4, k0_pay5, k0_pay6, k0_pay7, k0_pay8, k0_pay9, k0_pay10, k0_pay11, k0_pay12, k0_pay13, k0_pay14, k0_pay15, k0_pay16]
  simp (disch := omega) only [rot_idx, ext]

/-- The short convolution as the body sums it. -/
theorem pay_cc (keep : Ideal .f32) (v3 : FVec Ideal S32x128 .f32) (v6 : FVec Ideal S512x128 .f32) (w0 w1 w2 : FVec Ideal S1x128 .f32) (a : Fin 512) (b : Fin 128) :
    @Eq EReal (k0_pay17 (F := Ideal) keep v3 v6 w0 w1 w2 (ix2 a b))
      (v6 (ix2 a b) * w0 (ix2 0 b) + ext (fun y => v3 (ix2 y b)) keep (fun y => v6 (ix2 y b)) (32 + a.val - 1) (by omega) * w1 (ix2 0 b) + ext (fun y => v3 (ix2 y b)) keep (fun y => v6 (ix2 y b)) (32 + a.val - 2) (by omega) * w2 (ix2 0 b)) := by
  pointwise [k0_pay17]
  simp (disch := omega) only [rot_idx, ext]

/-- The reference's long convolution. -/
theorem ref_ca (x0 : FVec Ideal S2048x512 .f32) (x3 : FVec Ideal S31x512 .f32) (r : Fin 2048) (b : Fin 512) :
    @Eq EReal (val_main_v375 (F := Ideal) x0 x3 (ix2 r b)) (back (fun r => x0 (ix2 r b)) r.val 30 * x3 (ix2 0 b) + back (fun r => x0 (ix2 r b)) r.val 29 * x3 (ix2 1 b) + back (fun r => x0 (ix2 r b)) r.val 28 * x3 (ix2 2 b) + back (fun r => x0 (ix2 r b)) r.val 27 * x3 (ix2 3 b) + back (fun r => x0 (ix2 r b)) r.val 26 * x3 (ix2 4 b) + back (fun r => x0 (ix2 r b)) r.val 25 * x3 (ix2 5 b) + back (fun r => x0 (ix2 r b)) r.val 24 * x3 (ix2 6 b) + back (fun r => x0 (ix2 r b)) r.val 23 * x3 (ix2 7 b) + back (fun r => x0 (ix2 r b)) r.val 22 * x3 (ix2 8 b) + back (fun r => x0 (ix2 r b)) r.val 21 * x3 (ix2 9 b) + back (fun r => x0 (ix2 r b)) r.val 20 * x3 (ix2 10 b) + back (fun r => x0 (ix2 r b)) r.val 19 * x3 (ix2 11 b) + back (fun r => x0 (ix2 r b)) r.val 18 * x3 (ix2 12 b) + back (fun r => x0 (ix2 r b)) r.val 17 * x3 (ix2 13 b) + back (fun r => x0 (ix2 r b)) r.val 16 * x3 (ix2 14 b) + back (fun r => x0 (ix2 r b)) r.val 15 * x3 (ix2 15 b) + back (fun r => x0 (ix2 r b)) r.val 14 * x3 (ix2 16 b) + back (fun r => x0 (ix2 r b)) r.val 13 * x3 (ix2 17 b) + back (fun r => x0 (ix2 r b)) r.val 12 * x3 (ix2 18 b) + back (fun r => x0 (ix2 r b)) r.val 11 * x3 (ix2 19 b) + back (fun r => x0 (ix2 r b)) r.val 10 * x3 (ix2 20 b) + back (fun r => x0 (ix2 r b)) r.val 9 * x3 (ix2 21 b) + back (fun r => x0 (ix2 r b)) r.val 8 * x3 (ix2 22 b) + back (fun r => x0 (ix2 r b)) r.val 7 * x3 (ix2 23 b) + back (fun r => x0 (ix2 r b)) r.val 6 * x3 (ix2 24 b) + back (fun r => x0 (ix2 r b)) r.val 5 * x3 (ix2 25 b) + back (fun r => x0 (ix2 r b)) r.val 4 * x3 (ix2 26 b) + back (fun r => x0 (ix2 r b)) r.val 3 * x3 (ix2 27 b) + back (fun r => x0 (ix2 r b)) r.val 2 * x3 (ix2 28 b) + back (fun r => x0 (ix2 r b)) r.val 1 * x3 (ix2 29 b) + back (fun r => x0 (ix2 r b)) r.val 0 * x3 (ix2 30 b)) := by
  pointwise [val_main_v375, val_main_v368, val_main_v360, val_main_v352, val_main_v344, val_main_v336, val_main_v328, val_main_v320, val_main_v312, val_main_v304, val_main_v296, val_main_v288, val_main_v280, val_main_v272, val_main_v264, val_main_v256, val_main_v248, val_main_v240, val_main_v232, val_main_v224, val_main_v216, val_main_v208, val_main_v200, val_main_v192, val_main_v184, val_main_v176, val_main_v168, val_main_v160, val_main_v152, val_main_v144, val_main_v136, val_main_v135, val_main_cst_41, val_main_v134, val_main_v133, val_main_v132, val_main_v129, val_main_v128, val_main_v131, val_main_v130, val_main_call30_v0, val_main_c_40, val_main_v143, val_main_v142, val_main_v141, val_main_v138, val_main_v137, val_main_v140, val_main_v139, val_main_call31_v0, val_main_c_42, val_main_v151, val_main_v150, val_main_v149, val_main_v146, val_main_v145, val_main_v148, val_main_v147, val_main_call32_v0, val_main_c_43, val_main_v159, val_main_v158, val_main_v157, val_main_v154, val_main_v153, val_main_v156, val_main_v155, val_main_call33_v0, val_main_c_44, val_main_v167, val_main_v166, val_main_v165, val_main_v162, val_main_v161, val_main_v164, val_main_v163, val_main_call34_v0, val_main_c_45, val_main_v175, val_main_v174, val_main_v173, val_main_v170, val_main_v169, val_main_v172, val_main_v171, val_main_call35_v0, val_main_c_46, val_main_v183, val_main_v182, val_main_v181, val_main_v178, val_main_v177, val_main_v180, val_main_v179, val_main_call36_v0, val_main_c_47, val_main_v191, val_main_v190, val_main_v189, val_main_v186, val_main_v185, val_main_v188, val_main_v187, val_main_call37_v0, val_main_c_48, val_main_v199, val_main_v198, val_main_v197, val_main_v194, val_main_v193, val_main_v196, val_main_v195, val_main_call38_v0, val_main_c_49, val_main_v207, val_main_v206, val_main_v205, val_main_v202, val_main_v201, val_main_v204, val_main_v203, val_main_call39_v0, val_main_c_50, val_main_v215, val_main_v214, val_main_v213, val_main_v210, val_main_v209, val_main_v212, val_main_v211, val_main_call40_v0, val_main_c_51, val_main_v223, val_main_v222, val_main_v221, val_main_v218, val_main_v217, val_main_v220, val_main_v219, val_main_call41_v0, val_main_c_52, val_main_v231, val_main_v230, val_main_v229, val_main_v226, val_main_v225, val_main_v228, val_main_v227, val_main_call42_v0, val_main_c_53, val_main_v239, val_main_v238, val_main_v237, val_main_v234, val_main_v233, val_main_v236, val_main_v235, val_main_call43_v0, val_main_c_54, val_main_v247, val_main_v246, val_main_v245, val_main_v242, val_main_v241, val_main_v244, val_main_v243, val_main_call44_v0, val_main_c_55, val_main_v255, val_main_v254, val_main_v253, val_main_v250, val_main_v249, val_main_v252, val_main_v251, val_main_call45_v0, val_main_c_56, val_main_v263, val_main_v262, val_main_v261, val_main_v258, val_main_v257, val_main_v260, val_main_v259, val_main_call46_v0, val_main_c_57, val_main_v271, val_main_v270, val_main_v269, val_main_v266, val_main_v265, val_main_v268, val_main_v267, val_main_call47_v0, val_main_c_58, val_main_v279, val_main_v278, val_main_v277, val_main_v274, val_main_v273, val_main_v276, val_main_v275, val_main_call48_v0, val_main_c_59, val_main_v287, val_main_v286, val_main_v285, val_main_v282, val_main_v281, val_main_v284, val_main_v283, val_main_call49_v0, val_main_c_60, val_main_v295, val_main_v294, val_main_v293, val_main_v290, val_main_v289, val_main_v292, val_main_v291, val_main_call50_v0, val_main_c_61, val_main_v303, val_main_v302, val_main_v301, val_main_v298, val_main_v297, val_main_v300, val_main_v299, val_main_call51_v0, val_main_c_62, val_main_v311, val_main_v310, val_main_v309, val_main_v306, val_main_v305, val_main_v308, val_main_v307, val_main_call52_v0, val_main_c_63, val_main_v319, val_main_v318, val_main_v317, val_main_v314, val_main_v313, val_main_v316, val_main_v315, val_main_call53_v0, val_main_c_64, val_main_v327, val_main_v326, val_main_v325, val_main_v322, val_main_v321, val_main_v324, val_main_v323, val_main_call54_v0, val_main_c_65, val_main_v335, val_main_v334, val_main_v333, val_main_v330, val_main_v329, val_main_v332, val_main_v331, val_main_call55_v0, val_main_c_66, val_main_v343, val_main_v342, val_main_v341, val_main_v338, val_main_v337, val_main_v340, val_main_v339, val_main_call56_v0, val_main_c_67, val_main_v351, val_main_v350, val_main_v349, val_main_v346, val_main_v345, val_main_v348, val_main_v347, val_main_call57_v0, val_main_c_68, val_main_v359, val_main_v358, val_main_v357, val_main_v354, val_main_v353, val_main_v356, val_main_v355, val_main_call58_v0, val_main_c_69, val_main_v367, val_main_v366, val_main_v365, val_main_v362, val_main_v361, val_main_v364, val_main_v363, val_main_call59_v0, val_main_c_70, val_main_v374, val_main_v373, val_main_v372, val_main_v370, val_main_v369, val_main_v371, val_main_call60_v0, val_main_c_71]
  simp only [zero_val, back, Nat.sub_zero, Nat.zero_le, true_and, Fin.is_lt, ↓reduceDIte, Fin.eta, mul_comm]

/-- The reference's short convolution. -/
theorem ref_cc (x2 : FVec Ideal S2048x512 .f32) (x4 : FVec Ideal S3x512 .f32) (r : Fin 2048) (b : Fin 512) :
    @Eq EReal (val_main_v399 (F := Ideal) x2 x4 (ix2 r b)) (back (fun r => x2 (ix2 r b)) r.val 2 * x4 (ix2 0 b) + back (fun r => x2 (ix2 r b)) r.val 1 * x4 (ix2 1 b) + back (fun r => x2 (ix2 r b)) r.val 0 * x4 (ix2 2 b)) := by
  pointwise [val_main_v399, val_main_v392, val_main_v384, val_main_v383, val_main_cst_73, val_main_v382, val_main_v381, val_main_v380, val_main_v377, val_main_v376, val_main_v379, val_main_v378, val_main_call61_v0, val_main_c_72, val_main_v391, val_main_v390, val_main_v389, val_main_v386, val_main_v385, val_main_v388, val_main_v387, val_main_call62_v0, val_main_c_74, val_main_v398, val_main_v397, val_main_v396, val_main_v394, val_main_v393, val_main_v395, val_main_call63_v0, val_main_c_75]
  simp only [zero_val, back, Nat.sub_zero, Nat.zero_le, true_and, Fin.is_lt, ↓reduceDIte, Fin.eta, mul_comm]

/-- The two orders of the long convolution's terms. -/
theorem order_ca (f : ℕ → EReal) : f 0 + f 8 + f 16 + f 24 + f 1 + f 9 + f 17 + f 25 + f 2 + f 10 + f 18 + f 26 + f 3 + f 11 + f 19 + f 27 + f 4 + f 12 + f 20 + f 28 + f 5 + f 13 + f 21 + f 29 + f 6 + f 14 + f 22 + f 30 + f 7 + f 15 + f 23 = f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 := by
  abel

theorem order_cc (f : ℕ → EReal) : f 0 + f 1 + f 2 = f 2 + f 1 + f 0 := by
  abel

set_option maxHeartbeats 2000000 in
/-- The trailing sums as the body forms them, each times whether its channels are the tile's. -/
theorem pay_sums (i0 : BitVec 32) (keep : Ideal .f32) (v3 : FVec Ideal S32x128 .f32) (v6 : FVec Ideal S512x128 .f32) (a : Fin 512) (b : Fin 128)
    (u : FVec Ideal S544x128 .f32) (hu : k0_pay18 (F := Ideal) keep v3 v6 = u) :
    @Eq EReal (k0_pay25 (F := Ideal) i0 (k0_pay19 keep v3 v6) (k0_pay20 keep v3 v6) (ix2 ⟨32 + a.val, by omega⟩ b))
      ((u (ix2 ⟨32 + a.val, by omega⟩ b) + u (ix2 ⟨32 + a.val - 1, by omega⟩ b)) * k0_pay21 (F := Ideal) i0 + ((u (ix2 ⟨32 + a.val, by omega⟩ b) + u (ix2 ⟨32 + a.val - 1, by omega⟩ b)) + (u (ix2 ⟨32 + a.val - 2, by omega⟩ b) + u (ix2 ⟨32 + a.val - 3, by omega⟩ b))) * k0_pay22 (F := Ideal) i0 + (((u (ix2 ⟨32 + a.val, by omega⟩ b) + u (ix2 ⟨32 + a.val - 1, by omega⟩ b)) + (u (ix2 ⟨32 + a.val - 2, by omega⟩ b) + u (ix2 ⟨32 + a.val - 3, by omega⟩ b))) + ((u (ix2 ⟨32 + a.val - 4, by omega⟩ b) + u (ix2 ⟨32 + a.val - 5, by omega⟩ b)) + (u (ix2 ⟨32 + a.val - 6, by omega⟩ b) + u (ix2 ⟨32 + a.val - 7, by omega⟩ b)))) * k0_pay23 (F := Ideal) i0 + ((((u (ix2 ⟨32 + a.val, by omega⟩ b) + u (ix2 ⟨32 + a.val - 1, by omega⟩ b)) + (u (ix2 ⟨32 + a.val - 2, by omega⟩ b) + u (ix2 ⟨32 + a.val - 3, by omega⟩ b))) + ((u (ix2 ⟨32 + a.val - 4, by omega⟩ b) + u (ix2 ⟨32 + a.val - 5, by omega⟩ b)) + (u (ix2 ⟨32 + a.val - 6, by omega⟩ b) + u (ix2 ⟨32 + a.val - 7, by omega⟩ b)))) + (((u (ix2 ⟨32 + a.val - 8, by omega⟩ b) + u (ix2 ⟨32 + a.val - 9, by omega⟩ b)) + (u (ix2 ⟨32 + a.val - 10, by omega⟩ b) + u (ix2 ⟨32 + a.val - 11, by omega⟩ b))) + ((u (ix2 ⟨32 + a.val - 12, by omega⟩ b) + u (ix2 ⟨32 + a.val - 13, by omega⟩ b)) + (u (ix2 ⟨32 + a.val - 14, by omega⟩ b) + u (ix2 ⟨32 + a.val - 15, by omega⟩ b))))) * k0_pay24 (F := Ideal) i0) := by
  pointwise [k0_pay25, k0_pay20, k0_pay19, hu]
  simp (disch := omega) only [rot_idx, Nat.sub_sub, Nat.reduceAdd]

/-- The rows of a tile with those before it. -/
theorem pay_rows (keep : Ideal .f32) (v3 : FVec Ideal S32x128 .f32) (v6 : FVec Ideal S512x128 .f32) (y : Fin 544) (b : Fin 128) :
    @Eq EReal (k0_pay18 (F := Ideal) keep v3 v6 (ix2 y b)) (ext (fun y => v3 (ix2 y b)) keep (fun y => v6 (ix2 y b)) y.val y.isLt) := by
  pointwise [k0_pay18]
  rfl

/-- A row of the pooled tile. -/
theorem pay_pool (u s : FVec Ideal S544x128 .f32) (n : FVec Ideal S544x1 .f32) (one : Ideal .f32) (a : Fin 512) (b : Fin 128) :
    @Eq EReal (k0_pay1 (F := Ideal) u s n one (ix2 a b)) (Ideal.div (s (ix2 ⟨32 + a.val, by omega⟩ b)) (max (n (ix2 ⟨32 + a.val, by omega⟩ 0)) one) - u (ix2 ⟨32 + a.val, by omega⟩ b)) := by
  pointwise [k0_pay1]

/-- Whether a group of channels is the tile's. -/
theorem pick_val (j g : ℕ) (hj : j < 4) (hg : g < 4) :
    (FloatOps.sitofp (F := Ideal) .f32 (Scalar.extui (Scalar.cmpi .eq (BitVec.ofNat 32 j) (BitVec.ofNat 32 g)) : BitVec 32) : EReal) = if j = g then 1 else 0 := by
  have key : ∀ j g : Fin 4, (Scalar.extui (Scalar.cmpi .eq (BitVec.ofNat 32 j.val) (BitVec.ofNat 32 g.val)) : BitVec 32) = BitVec.ofNat 32 (if j.val = g.val then 1 else 0) := by
    decide +kernel
  refine (congrArg (fun z : BitVec 32 => (FloatOps.sitofp (F := Ideal) .f32 z : EReal)) (key ⟨j, hj⟩ ⟨g, hg⟩)).trans ?_
  by_cases h : j = g
  · simp only [if_pos h]
    refine (int_val 1 (by decide)).trans ?_
    norm_cast
  · simp only [if_neg h]
    refine (int_val 0 (by decide)).trans ?_
    norm_cast

/-- A row's number, from one. -/
theorem pos_val (i y n : ℕ) (hi : i < 4) (hy : y < 544) (hn : n + 32 = i * 512 + y + 1) :
    (FloatOps.sitofp (F := Ideal) .f32 (IntOp.addi (BitVec.ofNat 32 y) (Scalar.addi (Scalar.subi (Scalar.muli (BitVec.ofNat 32 i) 512#32) 32#32) 1#32)) : EReal) = ((n : ℝ) : EReal) := by
  refine Eq.trans (congrArg (fun z : BitVec 32 => (FloatOps.sitofp (F := Ideal) .f32 z : EReal)) ?_) (int_val n (by omega))
  show BitVec.ofNat 32 y + (BitVec.ofNat 32 i * 512#32 - 32#32 + 1#32) = BitVec.ofNat 32 n
  apply BitVec.eq_of_toNat_eq
  simp only [BitVec.toNat_add, BitVec.toNat_sub, BitVec.toNat_mul, BitVec.toNat_ofNat]
  omega

/-- The number of rows a row's window holds, as the body finds it. -/
theorem pay_count (i0 i1 : BitVec 32) (y : Fin 544) :
    @Eq EReal (k0_pay26 (F := Ideal) i0 i1 (ix2 y 0))
      (min (FloatOps.sitofp (F := Ideal) .f32 (IntOp.addi (BitVec.ofNat 32 y.val) (Scalar.addi (Scalar.subi (Scalar.muli i1 512#32) 32#32) 1#32)))
        (Ideal.ofBits .f32 1073741824#32 * k0_pay21 (F := Ideal) i0 + Ideal.ofBits .f32 1082130432#32 * k0_pay22 (F := Ideal) i0 + Ideal.ofBits .f32 1090519040#32 * k0_pay23 (F := Ideal) i0
          + Ideal.ofBits .f32 1098907648#32 * k0_pay24 (F := Ideal) i0)) := by
  pointwise [k0_pay26]

/-- A window of 2 rows. -/
theorem val_2 : Ideal.ofBits .f32 1073741824#32 = ((2 : ℝ) : EReal) := by
  simp [Ideal.ofBits, Ideal.ieee]
  try rw [← EReal.coe_mul]
  try norm_num

/-- A window of 4 rows. -/
theorem val_4 : Ideal.ofBits .f32 1082130432#32 = ((4 : ℝ) : EReal) := by
  simp [Ideal.ofBits, Ideal.ieee]
  try rw [← EReal.coe_mul]
  try norm_num

/-- A window of 8 rows. -/
theorem val_8 : Ideal.ofBits .f32 1090519040#32 = ((8 : ℝ) : EReal) := by
  simp [Ideal.ofBits, Ideal.ieee]
  try rw [← EReal.coe_mul]
  try norm_num

/-- A window of 16 rows. -/
theorem val_16 : Ideal.ofBits .f32 1098907648#32 = ((16 : ℝ) : EReal) := by
  simp [Ideal.ofBits, Ideal.ieee]
  try rw [← EReal.coe_mul]
  try norm_num

/-- The two orders of a window's sum of 2 rows. -/
theorem order_2 (f : ℕ → EReal) : (f 0 + f 1) = f 0 + f 1 := by
  abel

/-- The reference's means over 2 rows. -/
theorem ref_pool_2 (x1 : FVec Ideal S2048x4096 .f32) (r : Fin 2048) (b : Fin 128) :
    @Eq EReal (val_main_v127 (F := Ideal) x1 (ix2 r ⟨b.val, by omega⟩))
      (Ideal.div (x1 (ix2 r ⟨1024 + b.val, by omega⟩) + back (fun r => x1 (ix2 r ⟨1024 + b.val, by omega⟩)) r.val 1) (min (FloatOps.sitofp (F := Ideal) .f32 (BitVec.ofNat 32 r.val) + 1) (Ideal.ofBits .f32 1073741824#32)) - x1 (ix2 r ⟨1024 + b.val, by omega⟩)) := by
  pointwise [val_main_v127, val_main_v15, val_main_v14, val_main_v11, val_main_v8, val_main_v7, val_main_cst_0, val_main_v6, val_main_v1, val_main_v0, val_main_call0_v0, val_main_c, val_main_v10, val_main_v9, val_main_call1_v0, val_main_c_1, val_main_v13, val_main_v5, val_main_v3, val_main_v2, val_main_v4, val_main_cst, val_main_v12, val_main_cst_2, val_main_v36, val_main_v35, val_main_v32, val_main_v29, val_main_v26, val_main_v23, val_main_v22, val_main_cst_5, val_main_v21, val_main_v16, val_main_call2_v0, val_main_c_4, val_main_v25, val_main_v24, val_main_call3_v0, val_main_c_6, val_main_v28, val_main_v27, val_main_call4_v0, val_main_c_7, val_main_v31, val_main_v30, val_main_call5_v0, val_main_c_8, val_main_v34, val_main_v20, val_main_v18, val_main_v17, val_main_v19, val_main_cst_3, val_main_v33, val_main_cst_9, val_main_v69, val_main_v68, val_main_v65, val_main_v62, val_main_v59, val_main_v56, val_main_v53, val_main_v50, val_main_v47, val_main_v44, val_main_v43, val_main_cst_12, val_main_v42, val_main_v37, val_main_call6_v0, val_main_c_11, val_main_v46, val_main_v45, val_main_call7_v0, val_main_c_13, val_main_v49, val_main_v48, val_main_call8_v0, val_main_c_14, val_main_v52, val_main_v51, val_main_call9_v0, val_main_c_15, val_main_v55, val_main_v54, val_main_call10_v0, val_main_c_16, val_main_v58, val_main_v57, val_main_call11_v0, val_main_c_17, val_main_v61, val_main_v60, val_main_call12_v0, val_main_c_18, val_main_v64, val_main_v63, val_main_call13_v0, val_main_c_19, val_main_v67, val_main_v41, val_main_v39, val_main_v38, val_main_v40, val_main_cst_10, val_main_v66, val_main_cst_20, val_main_v126, val_main_v125, val_main_v122, val_main_v119, val_main_v116, val_main_v113, val_main_v110, val_main_v107, val_main_v104, val_main_v101, val_main_v98, val_main_v95, val_main_v92, val_main_v89, val_main_v86, val_main_v83, val_main_v80, val_main_v77, val_main_v76, val_main_cst_23, val_main_v75, val_main_v70, val_main_call14_v0, val_main_c_22, val_main_v79, val_main_v78, val_main_call15_v0, val_main_c_24, val_main_v82, val_main_v81, val_main_call16_v0, val_main_c_25, val_main_v85, val_main_v84, val_main_call17_v0, val_main_c_26, val_main_v88, val_main_v87, val_main_call18_v0, val_main_c_27, val_main_v91, val_main_v90, val_main_call19_v0, val_main_c_28, val_main_v94, val_main_v93, val_main_call20_v0, val_main_c_29, val_main_v97, val_main_v96, val_main_call21_v0, val_main_c_30, val_main_v100, val_main_v99, val_main_call22_v0, val_main_c_31, val_main_v103, val_main_v102, val_main_call23_v0, val_main_c_32, val_main_v106, val_main_v105, val_main_call24_v0, val_main_c_33, val_main_v109, val_main_v108, val_main_call25_v0, val_main_c_34, val_main_v112, val_main_v111, val_main_call26_v0, val_main_c_35, val_main_v115, val_main_v114, val_main_call27_v0, val_main_c_36, val_main_v118, val_main_v117, val_main_call28_v0, val_main_c_37, val_main_v121, val_main_v120, val_main_call29_v0, val_main_c_38, val_main_v124, val_main_v74, val_main_v72, val_main_v71, val_main_v73, val_main_cst_21, val_main_v123, val_main_cst_39]
  simp only [zero_val]
  simp (disch := omega) only [dif_neg, dif_pos, b.isLt, and_true, back, ↓reduceDIte]

/-- A row of the pooled tile in the channels of 2 rows. -/
theorem point_pool_2 (i1 : BitVec 32) (keep : Ideal .f32) (v3 : FVec Ideal S32x128 .f32) (v6 : FVec Ideal S512x128 .f32) (i : ℕ) (hi : i < 4) (h1 : i1 = BitVec.ofNat 32 i)
    (x1 : FVec Ideal S2048x4096 .f32) (a : Fin 512) (b : Fin 128) (r : Fin 2048) (hr : r.val = i * 512 + a.val)
    (hu : ∀ d (hd : d < 32), k0_pay18 (F := Ideal) keep v3 v6 (ix2 ⟨32 + a.val - d, by omega⟩ b) = back (fun r => x1 (ix2 r ⟨1024 + b.val, by omega⟩)) r.val d) :
    @Eq EReal (k0_pay1 (F := Ideal) (k0_pay18 keep v3 v6) (k0_pay25 (BitVec.ofNat 32 0) (k0_pay19 keep v3 v6) (k0_pay20 keep v3 v6)) (k0_pay26 (BitVec.ofNat 32 0) i1) (Scalar.ofBits .f32 0x3F800000#32) (ix2 a b))
      (val_main_v127 (F := Ideal) x1 (ix2 r ⟨b.val, by omega⟩)) := by
  rw [ref_pool_2]
  refine (pay_pool _ _ _ _ a b).trans ?_
  rw [pay_sums _ keep v3 v6 a b _ rfl, pay_count]
  have p1 : @Eq EReal (k0_pay21 (F := Ideal) (BitVec.ofNat 32 0)) (if 0 = 0 then 1 else 0) := pick_val 0 0 (by decide) (by decide)
  have p2 : @Eq EReal (k0_pay22 (F := Ideal) (BitVec.ofNat 32 0)) (if 0 = 1 then 1 else 0) := pick_val 0 1 (by decide) (by decide)
  have p3 : @Eq EReal (k0_pay23 (F := Ideal) (BitVec.ofNat 32 0)) (if 0 = 2 then 1 else 0) := pick_val 0 2 (by decide) (by decide)
  have p4 : @Eq EReal (k0_pay24 (F := Ideal) (BitVec.ofNat 32 0)) (if 0 = 3 then 1 else 0) := pick_val 0 3 (by decide) (by decide)
  have b0 : @Eq EReal (k0_pay18 (F := Ideal) keep v3 v6 (ix2 ⟨32 + a.val, by omega⟩ b)) (x1 (ix2 r ⟨1024 + b.val, by omega⟩)) := (hu 0 (by decide)).trans (back_zero _ r)
  rw [p1, p2, p3, p4, b0, hu 1 (by decide)]
  have hp := pos_val i (32 + a.val) (r.val + 1) hi (by omega) (by omega)
  have hq := int_val r.val (by omega)
  rw [h1, hp, hq, val_2, val_4, val_8, val_16]
  have h0 : (1 : EReal) ≤ min ((((r.val + 1 : ℕ) : ℝ)) : EReal) ((2 : ℝ) : EReal) := by
    refine le_min ?_ ?_
    · exact_mod_cast Nat.le_add_left 1 r.val
    · exact_mod_cast (by norm_num : (1 : ℝ) ≤ 2)
  have h2 : (((r.val + 1 : ℕ) : ℝ) : EReal) = ((r.val : ℝ) : EReal) + 1 := by
    push_cast
    rfl
  have ho : (Scalar.ofBits (F := Ideal) .f32 0x3F800000#32 : EReal) = 1 := by pointwise []
  simp only [mul_one, mul_zero, zero_add, add_zero, if_true, if_false, one_ne_zero, zero_ne_one, OfNat.ofNat_ne_zero, OfNat.zero_ne_ofNat, OfNat.ofNat_ne_one, OfNat.one_ne_ofNat, Nat.reduceEqDiff]
  rw [ho, max_eq_left h0, h2]

/-- The two orders of a window's sum of 4 rows. -/
theorem order_4 (f : ℕ → EReal) : ((f 0 + f 1) + (f 2 + f 3)) = f 0 + f 1 + f 2 + f 3 := by
  abel

/-- The reference's means over 4 rows. -/
theorem ref_pool_4 (x1 : FVec Ideal S2048x4096 .f32) (r : Fin 2048) (b : Fin 128) :
    @Eq EReal (val_main_v127 (F := Ideal) x1 (ix2 r ⟨128 + b.val, by omega⟩))
      (Ideal.div (x1 (ix2 r ⟨1024 + (128 + b.val), by omega⟩) + back (fun r => x1 (ix2 r ⟨1024 + (128 + b.val), by omega⟩)) r.val 1 + back (fun r => x1 (ix2 r ⟨1024 + (128 + b.val), by omega⟩)) r.val 2 + back (fun r => x1 (ix2 r ⟨1024 + (128 + b.val), by omega⟩)) r.val 3) (min (FloatOps.sitofp (F := Ideal) .f32 (BitVec.ofNat 32 r.val) + 1) (Ideal.ofBits .f32 1082130432#32)) - x1 (ix2 r ⟨1024 + (128 + b.val), by omega⟩)) := by
  pointwise [val_main_v127, val_main_v15, val_main_v14, val_main_v11, val_main_v8, val_main_v7, val_main_cst_0, val_main_v6, val_main_v1, val_main_v0, val_main_call0_v0, val_main_c, val_main_v10, val_main_v9, val_main_call1_v0, val_main_c_1, val_main_v13, val_main_v5, val_main_v3, val_main_v2, val_main_v4, val_main_cst, val_main_v12, val_main_cst_2, val_main_v36, val_main_v35, val_main_v32, val_main_v29, val_main_v26, val_main_v23, val_main_v22, val_main_cst_5, val_main_v21, val_main_v16, val_main_call2_v0, val_main_c_4, val_main_v25, val_main_v24, val_main_call3_v0, val_main_c_6, val_main_v28, val_main_v27, val_main_call4_v0, val_main_c_7, val_main_v31, val_main_v30, val_main_call5_v0, val_main_c_8, val_main_v34, val_main_v20, val_main_v18, val_main_v17, val_main_v19, val_main_cst_3, val_main_v33, val_main_cst_9, val_main_v69, val_main_v68, val_main_v65, val_main_v62, val_main_v59, val_main_v56, val_main_v53, val_main_v50, val_main_v47, val_main_v44, val_main_v43, val_main_cst_12, val_main_v42, val_main_v37, val_main_call6_v0, val_main_c_11, val_main_v46, val_main_v45, val_main_call7_v0, val_main_c_13, val_main_v49, val_main_v48, val_main_call8_v0, val_main_c_14, val_main_v52, val_main_v51, val_main_call9_v0, val_main_c_15, val_main_v55, val_main_v54, val_main_call10_v0, val_main_c_16, val_main_v58, val_main_v57, val_main_call11_v0, val_main_c_17, val_main_v61, val_main_v60, val_main_call12_v0, val_main_c_18, val_main_v64, val_main_v63, val_main_call13_v0, val_main_c_19, val_main_v67, val_main_v41, val_main_v39, val_main_v38, val_main_v40, val_main_cst_10, val_main_v66, val_main_cst_20, val_main_v126, val_main_v125, val_main_v122, val_main_v119, val_main_v116, val_main_v113, val_main_v110, val_main_v107, val_main_v104, val_main_v101, val_main_v98, val_main_v95, val_main_v92, val_main_v89, val_main_v86, val_main_v83, val_main_v80, val_main_v77, val_main_v76, val_main_cst_23, val_main_v75, val_main_v70, val_main_call14_v0, val_main_c_22, val_main_v79, val_main_v78, val_main_call15_v0, val_main_c_24, val_main_v82, val_main_v81, val_main_call16_v0, val_main_c_25, val_main_v85, val_main_v84, val_main_call17_v0, val_main_c_26, val_main_v88, val_main_v87, val_main_call18_v0, val_main_c_27, val_main_v91, val_main_v90, val_main_call19_v0, val_main_c_28, val_main_v94, val_main_v93, val_main_call20_v0, val_main_c_29, val_main_v97, val_main_v96, val_main_call21_v0, val_main_c_30, val_main_v100, val_main_v99, val_main_call22_v0, val_main_c_31, val_main_v103, val_main_v102, val_main_call23_v0, val_main_c_32, val_main_v106, val_main_v105, val_main_call24_v0, val_main_c_33, val_main_v109, val_main_v108, val_main_call25_v0, val_main_c_34, val_main_v112, val_main_v111, val_main_call26_v0, val_main_c_35, val_main_v115, val_main_v114, val_main_call27_v0, val_main_c_36, val_main_v118, val_main_v117, val_main_call28_v0, val_main_c_37, val_main_v121, val_main_v120, val_main_call29_v0, val_main_c_38, val_main_v124, val_main_v74, val_main_v72, val_main_v71, val_main_v73, val_main_cst_21, val_main_v123, val_main_cst_39]
  simp only [zero_val]
  simp (disch := omega) only [dif_neg, dif_pos, show 128 + b.val - 128 = b.val by omega, b.isLt, and_true, back, ↓reduceDIte]

/-- A row of the pooled tile in the channels of 4 rows. -/
theorem point_pool_4 (i1 : BitVec 32) (keep : Ideal .f32) (v3 : FVec Ideal S32x128 .f32) (v6 : FVec Ideal S512x128 .f32) (i : ℕ) (hi : i < 4) (h1 : i1 = BitVec.ofNat 32 i)
    (x1 : FVec Ideal S2048x4096 .f32) (a : Fin 512) (b : Fin 128) (r : Fin 2048) (hr : r.val = i * 512 + a.val)
    (hu : ∀ d (hd : d < 32), k0_pay18 (F := Ideal) keep v3 v6 (ix2 ⟨32 + a.val - d, by omega⟩ b) = back (fun r => x1 (ix2 r ⟨1024 + (128 + b.val), by omega⟩)) r.val d) :
    @Eq EReal (k0_pay1 (F := Ideal) (k0_pay18 keep v3 v6) (k0_pay25 (BitVec.ofNat 32 1) (k0_pay19 keep v3 v6) (k0_pay20 keep v3 v6)) (k0_pay26 (BitVec.ofNat 32 1) i1) (Scalar.ofBits .f32 0x3F800000#32) (ix2 a b))
      (val_main_v127 (F := Ideal) x1 (ix2 r ⟨128 + b.val, by omega⟩)) := by
  rw [ref_pool_4]
  refine (pay_pool _ _ _ _ a b).trans ?_
  rw [pay_sums _ keep v3 v6 a b _ rfl, pay_count]
  have p1 : @Eq EReal (k0_pay21 (F := Ideal) (BitVec.ofNat 32 1)) (if 1 = 0 then 1 else 0) := pick_val 1 0 (by decide) (by decide)
  have p2 : @Eq EReal (k0_pay22 (F := Ideal) (BitVec.ofNat 32 1)) (if 1 = 1 then 1 else 0) := pick_val 1 1 (by decide) (by decide)
  have p3 : @Eq EReal (k0_pay23 (F := Ideal) (BitVec.ofNat 32 1)) (if 1 = 2 then 1 else 0) := pick_val 1 2 (by decide) (by decide)
  have p4 : @Eq EReal (k0_pay24 (F := Ideal) (BitVec.ofNat 32 1)) (if 1 = 3 then 1 else 0) := pick_val 1 3 (by decide) (by decide)
  have b0 : @Eq EReal (k0_pay18 (F := Ideal) keep v3 v6 (ix2 ⟨32 + a.val, by omega⟩ b)) (x1 (ix2 r ⟨1024 + (128 + b.val), by omega⟩)) := (hu 0 (by decide)).trans (back_zero _ r)
  rw [p1, p2, p3, p4, b0, hu 1 (by decide), hu 2 (by decide), hu 3 (by decide)]
  have hp := pos_val i (32 + a.val) (r.val + 1) hi (by omega) (by omega)
  have hq := int_val r.val (by omega)
  rw [h1, hp, hq, val_2, val_4, val_8, val_16]
  have h0 : (1 : EReal) ≤ min ((((r.val + 1 : ℕ) : ℝ)) : EReal) ((4 : ℝ) : EReal) := by
    refine le_min ?_ ?_
    · exact_mod_cast Nat.le_add_left 1 r.val
    · exact_mod_cast (by norm_num : (1 : ℝ) ≤ 4)
  have h2 : (((r.val + 1 : ℕ) : ℝ) : EReal) = ((r.val : ℝ) : EReal) + 1 := by
    push_cast
    rfl
  have ho : (Scalar.ofBits (F := Ideal) .f32 0x3F800000#32 : EReal) = 1 := by pointwise []
  have s := order_4 fun d => if d = 0 then x1 (ix2 r ⟨1024 + (128 + b.val), by omega⟩) else back (fun r => x1 (ix2 r ⟨1024 + (128 + b.val), by omega⟩)) r.val d
  simp only [OfNat.ofNat_ne_zero, one_ne_zero, if_true, if_false] at s
  simp only [mul_one, mul_zero, zero_add, add_zero, if_true, if_false, one_ne_zero, zero_ne_one, OfNat.ofNat_ne_zero, OfNat.zero_ne_ofNat, OfNat.ofNat_ne_one, OfNat.one_ne_ofNat, Nat.reduceEqDiff]
  rw [ho, max_eq_left h0, h2, s]

/-- The two orders of a window's sum of 8 rows. -/
theorem order_8 (f : ℕ → EReal) : (((f 0 + f 1) + (f 2 + f 3)) + ((f 4 + f 5) + (f 6 + f 7))) = f 0 + f 1 + f 2 + f 3 + f 4 + f 5 + f 6 + f 7 := by
  abel

/-- The reference's means over 8 rows. -/
theorem ref_pool_8 (x1 : FVec Ideal S2048x4096 .f32) (r : Fin 2048) (b : Fin 128) :
    @Eq EReal (val_main_v127 (F := Ideal) x1 (ix2 r ⟨256 + b.val, by omega⟩))
      (Ideal.div (x1 (ix2 r ⟨1024 + (256 + b.val), by omega⟩) + back (fun r => x1 (ix2 r ⟨1024 + (256 + b.val), by omega⟩)) r.val 1 + back (fun r => x1 (ix2 r ⟨1024 + (256 + b.val), by omega⟩)) r.val 2 + back (fun r => x1 (ix2 r ⟨1024 + (256 + b.val), by omega⟩)) r.val 3 + back (fun r => x1 (ix2 r ⟨1024 + (256 + b.val), by omega⟩)) r.val 4 + back (fun r => x1 (ix2 r ⟨1024 + (256 + b.val), by omega⟩)) r.val 5 + back (fun r => x1 (ix2 r ⟨1024 + (256 + b.val), by omega⟩)) r.val 6 + back (fun r => x1 (ix2 r ⟨1024 + (256 + b.val), by omega⟩)) r.val 7) (min (FloatOps.sitofp (F := Ideal) .f32 (BitVec.ofNat 32 r.val) + 1) (Ideal.ofBits .f32 1090519040#32)) - x1 (ix2 r ⟨1024 + (256 + b.val), by omega⟩)) := by
  pointwise [val_main_v127, val_main_v15, val_main_v14, val_main_v11, val_main_v8, val_main_v7, val_main_cst_0, val_main_v6, val_main_v1, val_main_v0, val_main_call0_v0, val_main_c, val_main_v10, val_main_v9, val_main_call1_v0, val_main_c_1, val_main_v13, val_main_v5, val_main_v3, val_main_v2, val_main_v4, val_main_cst, val_main_v12, val_main_cst_2, val_main_v36, val_main_v35, val_main_v32, val_main_v29, val_main_v26, val_main_v23, val_main_v22, val_main_cst_5, val_main_v21, val_main_v16, val_main_call2_v0, val_main_c_4, val_main_v25, val_main_v24, val_main_call3_v0, val_main_c_6, val_main_v28, val_main_v27, val_main_call4_v0, val_main_c_7, val_main_v31, val_main_v30, val_main_call5_v0, val_main_c_8, val_main_v34, val_main_v20, val_main_v18, val_main_v17, val_main_v19, val_main_cst_3, val_main_v33, val_main_cst_9, val_main_v69, val_main_v68, val_main_v65, val_main_v62, val_main_v59, val_main_v56, val_main_v53, val_main_v50, val_main_v47, val_main_v44, val_main_v43, val_main_cst_12, val_main_v42, val_main_v37, val_main_call6_v0, val_main_c_11, val_main_v46, val_main_v45, val_main_call7_v0, val_main_c_13, val_main_v49, val_main_v48, val_main_call8_v0, val_main_c_14, val_main_v52, val_main_v51, val_main_call9_v0, val_main_c_15, val_main_v55, val_main_v54, val_main_call10_v0, val_main_c_16, val_main_v58, val_main_v57, val_main_call11_v0, val_main_c_17, val_main_v61, val_main_v60, val_main_call12_v0, val_main_c_18, val_main_v64, val_main_v63, val_main_call13_v0, val_main_c_19, val_main_v67, val_main_v41, val_main_v39, val_main_v38, val_main_v40, val_main_cst_10, val_main_v66, val_main_cst_20, val_main_v126, val_main_v125, val_main_v122, val_main_v119, val_main_v116, val_main_v113, val_main_v110, val_main_v107, val_main_v104, val_main_v101, val_main_v98, val_main_v95, val_main_v92, val_main_v89, val_main_v86, val_main_v83, val_main_v80, val_main_v77, val_main_v76, val_main_cst_23, val_main_v75, val_main_v70, val_main_call14_v0, val_main_c_22, val_main_v79, val_main_v78, val_main_call15_v0, val_main_c_24, val_main_v82, val_main_v81, val_main_call16_v0, val_main_c_25, val_main_v85, val_main_v84, val_main_call17_v0, val_main_c_26, val_main_v88, val_main_v87, val_main_call18_v0, val_main_c_27, val_main_v91, val_main_v90, val_main_call19_v0, val_main_c_28, val_main_v94, val_main_v93, val_main_call20_v0, val_main_c_29, val_main_v97, val_main_v96, val_main_call21_v0, val_main_c_30, val_main_v100, val_main_v99, val_main_call22_v0, val_main_c_31, val_main_v103, val_main_v102, val_main_call23_v0, val_main_c_32, val_main_v106, val_main_v105, val_main_call24_v0, val_main_c_33, val_main_v109, val_main_v108, val_main_call25_v0, val_main_c_34, val_main_v112, val_main_v111, val_main_call26_v0, val_main_c_35, val_main_v115, val_main_v114, val_main_call27_v0, val_main_c_36, val_main_v118, val_main_v117, val_main_call28_v0, val_main_c_37, val_main_v121, val_main_v120, val_main_call29_v0, val_main_c_38, val_main_v124, val_main_v74, val_main_v72, val_main_v71, val_main_v73, val_main_cst_21, val_main_v123, val_main_cst_39]
  simp only [zero_val]
  simp (disch := omega) only [dif_neg, dif_pos, show 256 + b.val - 128 - 128 = b.val by omega, b.isLt, and_true, back, ↓reduceDIte]

/-- A row of the pooled tile in the channels of 8 rows. -/
theorem point_pool_8 (i1 : BitVec 32) (keep : Ideal .f32) (v3 : FVec Ideal S32x128 .f32) (v6 : FVec Ideal S512x128 .f32) (i : ℕ) (hi : i < 4) (h1 : i1 = BitVec.ofNat 32 i)
    (x1 : FVec Ideal S2048x4096 .f32) (a : Fin 512) (b : Fin 128) (r : Fin 2048) (hr : r.val = i * 512 + a.val)
    (hu : ∀ d (hd : d < 32), k0_pay18 (F := Ideal) keep v3 v6 (ix2 ⟨32 + a.val - d, by omega⟩ b) = back (fun r => x1 (ix2 r ⟨1024 + (256 + b.val), by omega⟩)) r.val d) :
    @Eq EReal (k0_pay1 (F := Ideal) (k0_pay18 keep v3 v6) (k0_pay25 (BitVec.ofNat 32 2) (k0_pay19 keep v3 v6) (k0_pay20 keep v3 v6)) (k0_pay26 (BitVec.ofNat 32 2) i1) (Scalar.ofBits .f32 0x3F800000#32) (ix2 a b))
      (val_main_v127 (F := Ideal) x1 (ix2 r ⟨256 + b.val, by omega⟩)) := by
  rw [ref_pool_8]
  refine (pay_pool _ _ _ _ a b).trans ?_
  rw [pay_sums _ keep v3 v6 a b _ rfl, pay_count]
  have p1 : @Eq EReal (k0_pay21 (F := Ideal) (BitVec.ofNat 32 2)) (if 2 = 0 then 1 else 0) := pick_val 2 0 (by decide) (by decide)
  have p2 : @Eq EReal (k0_pay22 (F := Ideal) (BitVec.ofNat 32 2)) (if 2 = 1 then 1 else 0) := pick_val 2 1 (by decide) (by decide)
  have p3 : @Eq EReal (k0_pay23 (F := Ideal) (BitVec.ofNat 32 2)) (if 2 = 2 then 1 else 0) := pick_val 2 2 (by decide) (by decide)
  have p4 : @Eq EReal (k0_pay24 (F := Ideal) (BitVec.ofNat 32 2)) (if 2 = 3 then 1 else 0) := pick_val 2 3 (by decide) (by decide)
  have b0 : @Eq EReal (k0_pay18 (F := Ideal) keep v3 v6 (ix2 ⟨32 + a.val, by omega⟩ b)) (x1 (ix2 r ⟨1024 + (256 + b.val), by omega⟩)) := (hu 0 (by decide)).trans (back_zero _ r)
  rw [p1, p2, p3, p4, b0, hu 1 (by decide), hu 2 (by decide), hu 3 (by decide), hu 4 (by decide), hu 5 (by decide), hu 6 (by decide), hu 7 (by decide)]
  have hp := pos_val i (32 + a.val) (r.val + 1) hi (by omega) (by omega)
  have hq := int_val r.val (by omega)
  rw [h1, hp, hq, val_2, val_4, val_8, val_16]
  have h0 : (1 : EReal) ≤ min ((((r.val + 1 : ℕ) : ℝ)) : EReal) ((8 : ℝ) : EReal) := by
    refine le_min ?_ ?_
    · exact_mod_cast Nat.le_add_left 1 r.val
    · exact_mod_cast (by norm_num : (1 : ℝ) ≤ 8)
  have h2 : (((r.val + 1 : ℕ) : ℝ) : EReal) = ((r.val : ℝ) : EReal) + 1 := by
    push_cast
    rfl
  have ho : (Scalar.ofBits (F := Ideal) .f32 0x3F800000#32 : EReal) = 1 := by pointwise []
  have s := order_8 fun d => if d = 0 then x1 (ix2 r ⟨1024 + (256 + b.val), by omega⟩) else back (fun r => x1 (ix2 r ⟨1024 + (256 + b.val), by omega⟩)) r.val d
  simp only [OfNat.ofNat_ne_zero, one_ne_zero, if_true, if_false] at s
  simp only [mul_one, mul_zero, zero_add, add_zero, if_true, if_false, one_ne_zero, zero_ne_one, OfNat.ofNat_ne_zero, OfNat.zero_ne_ofNat, OfNat.ofNat_ne_one, OfNat.one_ne_ofNat, Nat.reduceEqDiff]
  rw [ho, max_eq_left h0, h2, s]

/-- The two orders of a window's sum of 16 rows. -/
theorem order_16 (f : ℕ → EReal) : ((((f 0 + f 1) + (f 2 + f 3)) + ((f 4 + f 5) + (f 6 + f 7))) + (((f 8 + f 9) + (f 10 + f 11)) + ((f 12 + f 13) + (f 14 + f 15)))) = f 0 + f 1 + f 2 + f 3 + f 4 + f 5 + f 6 + f 7 + f 8 + f 9 + f 10 + f 11 + f 12 + f 13 + f 14 + f 15 := by
  abel

/-- The reference's means over 16 rows. -/
theorem ref_pool_16 (x1 : FVec Ideal S2048x4096 .f32) (r : Fin 2048) (b : Fin 128) :
    @Eq EReal (val_main_v127 (F := Ideal) x1 (ix2 r ⟨384 + b.val, by omega⟩))
      (Ideal.div (x1 (ix2 r ⟨1024 + (384 + b.val), by omega⟩) + back (fun r => x1 (ix2 r ⟨1024 + (384 + b.val), by omega⟩)) r.val 1 + back (fun r => x1 (ix2 r ⟨1024 + (384 + b.val), by omega⟩)) r.val 2 + back (fun r => x1 (ix2 r ⟨1024 + (384 + b.val), by omega⟩)) r.val 3 + back (fun r => x1 (ix2 r ⟨1024 + (384 + b.val), by omega⟩)) r.val 4 + back (fun r => x1 (ix2 r ⟨1024 + (384 + b.val), by omega⟩)) r.val 5 + back (fun r => x1 (ix2 r ⟨1024 + (384 + b.val), by omega⟩)) r.val 6 + back (fun r => x1 (ix2 r ⟨1024 + (384 + b.val), by omega⟩)) r.val 7 + back (fun r => x1 (ix2 r ⟨1024 + (384 + b.val), by omega⟩)) r.val 8 + back (fun r => x1 (ix2 r ⟨1024 + (384 + b.val), by omega⟩)) r.val 9 + back (fun r => x1 (ix2 r ⟨1024 + (384 + b.val), by omega⟩)) r.val 10 + back (fun r => x1 (ix2 r ⟨1024 + (384 + b.val), by omega⟩)) r.val 11 + back (fun r => x1 (ix2 r ⟨1024 + (384 + b.val), by omega⟩)) r.val 12 + back (fun r => x1 (ix2 r ⟨1024 + (384 + b.val), by omega⟩)) r.val 13 + back (fun r => x1 (ix2 r ⟨1024 + (384 + b.val), by omega⟩)) r.val 14 + back (fun r => x1 (ix2 r ⟨1024 + (384 + b.val), by omega⟩)) r.val 15) (min (FloatOps.sitofp (F := Ideal) .f32 (BitVec.ofNat 32 r.val) + 1) (Ideal.ofBits .f32 1098907648#32)) - x1 (ix2 r ⟨1024 + (384 + b.val), by omega⟩)) := by
  pointwise [val_main_v127, val_main_v15, val_main_v14, val_main_v11, val_main_v8, val_main_v7, val_main_cst_0, val_main_v6, val_main_v1, val_main_v0, val_main_call0_v0, val_main_c, val_main_v10, val_main_v9, val_main_call1_v0, val_main_c_1, val_main_v13, val_main_v5, val_main_v3, val_main_v2, val_main_v4, val_main_cst, val_main_v12, val_main_cst_2, val_main_v36, val_main_v35, val_main_v32, val_main_v29, val_main_v26, val_main_v23, val_main_v22, val_main_cst_5, val_main_v21, val_main_v16, val_main_call2_v0, val_main_c_4, val_main_v25, val_main_v24, val_main_call3_v0, val_main_c_6, val_main_v28, val_main_v27, val_main_call4_v0, val_main_c_7, val_main_v31, val_main_v30, val_main_call5_v0, val_main_c_8, val_main_v34, val_main_v20, val_main_v18, val_main_v17, val_main_v19, val_main_cst_3, val_main_v33, val_main_cst_9, val_main_v69, val_main_v68, val_main_v65, val_main_v62, val_main_v59, val_main_v56, val_main_v53, val_main_v50, val_main_v47, val_main_v44, val_main_v43, val_main_cst_12, val_main_v42, val_main_v37, val_main_call6_v0, val_main_c_11, val_main_v46, val_main_v45, val_main_call7_v0, val_main_c_13, val_main_v49, val_main_v48, val_main_call8_v0, val_main_c_14, val_main_v52, val_main_v51, val_main_call9_v0, val_main_c_15, val_main_v55, val_main_v54, val_main_call10_v0, val_main_c_16, val_main_v58, val_main_v57, val_main_call11_v0, val_main_c_17, val_main_v61, val_main_v60, val_main_call12_v0, val_main_c_18, val_main_v64, val_main_v63, val_main_call13_v0, val_main_c_19, val_main_v67, val_main_v41, val_main_v39, val_main_v38, val_main_v40, val_main_cst_10, val_main_v66, val_main_cst_20, val_main_v126, val_main_v125, val_main_v122, val_main_v119, val_main_v116, val_main_v113, val_main_v110, val_main_v107, val_main_v104, val_main_v101, val_main_v98, val_main_v95, val_main_v92, val_main_v89, val_main_v86, val_main_v83, val_main_v80, val_main_v77, val_main_v76, val_main_cst_23, val_main_v75, val_main_v70, val_main_call14_v0, val_main_c_22, val_main_v79, val_main_v78, val_main_call15_v0, val_main_c_24, val_main_v82, val_main_v81, val_main_call16_v0, val_main_c_25, val_main_v85, val_main_v84, val_main_call17_v0, val_main_c_26, val_main_v88, val_main_v87, val_main_call18_v0, val_main_c_27, val_main_v91, val_main_v90, val_main_call19_v0, val_main_c_28, val_main_v94, val_main_v93, val_main_call20_v0, val_main_c_29, val_main_v97, val_main_v96, val_main_call21_v0, val_main_c_30, val_main_v100, val_main_v99, val_main_call22_v0, val_main_c_31, val_main_v103, val_main_v102, val_main_call23_v0, val_main_c_32, val_main_v106, val_main_v105, val_main_call24_v0, val_main_c_33, val_main_v109, val_main_v108, val_main_call25_v0, val_main_c_34, val_main_v112, val_main_v111, val_main_call26_v0, val_main_c_35, val_main_v115, val_main_v114, val_main_call27_v0, val_main_c_36, val_main_v118, val_main_v117, val_main_call28_v0, val_main_c_37, val_main_v121, val_main_v120, val_main_call29_v0, val_main_c_38, val_main_v124, val_main_v74, val_main_v72, val_main_v71, val_main_v73, val_main_cst_21, val_main_v123, val_main_cst_39]
  simp only [zero_val]
  simp (disch := omega) only [dif_neg, dif_pos, show 384 + b.val - 128 - 128 - 128 = b.val by omega, b.isLt, and_true, back, ↓reduceDIte]

/-- A row of the pooled tile in the channels of 16 rows. -/
theorem point_pool_16 (i1 : BitVec 32) (keep : Ideal .f32) (v3 : FVec Ideal S32x128 .f32) (v6 : FVec Ideal S512x128 .f32) (i : ℕ) (hi : i < 4) (h1 : i1 = BitVec.ofNat 32 i)
    (x1 : FVec Ideal S2048x4096 .f32) (a : Fin 512) (b : Fin 128) (r : Fin 2048) (hr : r.val = i * 512 + a.val)
    (hu : ∀ d (hd : d < 32), k0_pay18 (F := Ideal) keep v3 v6 (ix2 ⟨32 + a.val - d, by omega⟩ b) = back (fun r => x1 (ix2 r ⟨1024 + (384 + b.val), by omega⟩)) r.val d) :
    @Eq EReal (k0_pay1 (F := Ideal) (k0_pay18 keep v3 v6) (k0_pay25 (BitVec.ofNat 32 3) (k0_pay19 keep v3 v6) (k0_pay20 keep v3 v6)) (k0_pay26 (BitVec.ofNat 32 3) i1) (Scalar.ofBits .f32 0x3F800000#32) (ix2 a b))
      (val_main_v127 (F := Ideal) x1 (ix2 r ⟨384 + b.val, by omega⟩)) := by
  rw [ref_pool_16]
  refine (pay_pool _ _ _ _ a b).trans ?_
  rw [pay_sums _ keep v3 v6 a b _ rfl, pay_count]
  have p1 : @Eq EReal (k0_pay21 (F := Ideal) (BitVec.ofNat 32 3)) (if 3 = 0 then 1 else 0) := pick_val 3 0 (by decide) (by decide)
  have p2 : @Eq EReal (k0_pay22 (F := Ideal) (BitVec.ofNat 32 3)) (if 3 = 1 then 1 else 0) := pick_val 3 1 (by decide) (by decide)
  have p3 : @Eq EReal (k0_pay23 (F := Ideal) (BitVec.ofNat 32 3)) (if 3 = 2 then 1 else 0) := pick_val 3 2 (by decide) (by decide)
  have p4 : @Eq EReal (k0_pay24 (F := Ideal) (BitVec.ofNat 32 3)) (if 3 = 3 then 1 else 0) := pick_val 3 3 (by decide) (by decide)
  have b0 : @Eq EReal (k0_pay18 (F := Ideal) keep v3 v6 (ix2 ⟨32 + a.val, by omega⟩ b)) (x1 (ix2 r ⟨1024 + (384 + b.val), by omega⟩)) := (hu 0 (by decide)).trans (back_zero _ r)
  rw [p1, p2, p3, p4, b0, hu 1 (by decide), hu 2 (by decide), hu 3 (by decide), hu 4 (by decide), hu 5 (by decide), hu 6 (by decide), hu 7 (by decide), hu 8 (by decide), hu 9 (by decide), hu 10 (by decide), hu 11 (by decide), hu 12 (by decide), hu 13 (by decide), hu 14 (by decide), hu 15 (by decide)]
  have hp := pos_val i (32 + a.val) (r.val + 1) hi (by omega) (by omega)
  have hq := int_val r.val (by omega)
  rw [h1, hp, hq, val_2, val_4, val_8, val_16]
  have h0 : (1 : EReal) ≤ min ((((r.val + 1 : ℕ) : ℝ)) : EReal) ((16 : ℝ) : EReal) := by
    refine le_min ?_ ?_
    · exact_mod_cast Nat.le_add_left 1 r.val
    · exact_mod_cast (by norm_num : (1 : ℝ) ≤ 16)
  have h2 : (((r.val + 1 : ℕ) : ℝ) : EReal) = ((r.val : ℝ) : EReal) + 1 := by
    push_cast
    rfl
  have ho : (Scalar.ofBits (F := Ideal) .f32 0x3F800000#32 : EReal) = 1 := by pointwise []
  have s := order_16 fun d => if d = 0 then x1 (ix2 r ⟨1024 + (384 + b.val), by omega⟩) else back (fun r => x1 (ix2 r ⟨1024 + (384 + b.val), by omega⟩)) r.val d
  simp only [OfNat.ofNat_ne_zero, one_ne_zero, if_true, if_false] at s
  simp only [mul_one, mul_zero, zero_add, add_zero, if_true, if_false, one_ne_zero, zero_ne_one, OfNat.ofNat_ne_zero, OfNat.zero_ne_ofNat, OfNat.ofNat_ne_one, OfNat.one_ne_ofNat, Nat.reduceEqDiff]
  rw [ho, max_eq_left h0, h2, s]

/-- A tile of the long convolution's operand. -/
theorem r0 (t : Fin cfg0.N) (a : Fin 512) (b : Fin 128) (r : Fin 2048) (q : Fin 512) (hr : r.val = t.val % 4 * 512 + a.val) (hq : q.val = t.val / 4 * 128 + b.val) :
    @Eq EReal (iblk m c 0 t (ix2 a b)) (X0 m c (ix2 r q)) := by
  have ht : t.val < 16 := lt_of_lt_of_eq t.isLt N_0
  have e (G : S2048x512.Idx → EReal) : G ((win0_0.blk t).view.emb (ix2 a b)) = G (ix2 r q) := by
    blk_ext [idx_val t]
  blk_simp [iblk, idx_val t]
  entry_read
  refine (e _).trans ?_
  pointwise []

/-- The rows before it. -/
theorem r1 (t : Fin cfg0.N) (a : Fin 32) (b : Fin 128) (r : Fin 2048) (q : Fin 512) (hr : r.val = (t.val % 4 * 16 - 1) * 32 + a.val) (hq : q.val = t.val / 4 * 128 + b.val) :
    @Eq EReal (iblk m c 1 t (ix2 a b)) (X0 m c (ix2 r q)) := by
  have ht : t.val < 16 := lt_of_lt_of_eq t.isLt N_0
  have e (G : S2048x512.Idx → EReal) : G ((win0_1.blk t).view.emb (ix2 a b)) = G (ix2 r q) := by
    blk_ext [idx_val t]
  blk_simp [iblk, idx_val t]
  entry_read
  refine (e _).trans ?_
  pointwise []

/-- A tile of the pooling's operand. -/
theorem r2 (t : Fin cfg0.N) (a : Fin 512) (b : Fin 128) (r : Fin 2048) (q : Fin 4096) (hr : r.val = t.val % 4 * 512 + a.val) (hq : q.val = (8 + t.val / 4) * 128 + b.val) :
    @Eq EReal (iblk m c 2 t (ix2 a b)) (X1 m c (ix2 r q)) := by
  have ht : t.val < 16 := lt_of_lt_of_eq t.isLt N_0
  have e (G : S2048x4096.Idx → EReal) : G ((win0_2.blk t).view.emb (ix2 a b)) = G (ix2 r q) := by
    blk_ext [idx_val t]
  blk_simp [iblk, idx_val t]
  entry_read
  refine (e _).trans ?_
  pointwise []

/-- The rows before it. -/
theorem r3 (t : Fin cfg0.N) (a : Fin 32) (b : Fin 128) (r : Fin 2048) (q : Fin 4096) (hr : r.val = (t.val % 4 * 16 - 1) * 32 + a.val) (hq : q.val = (8 + t.val / 4) * 128 + b.val) :
    @Eq EReal (iblk m c 3 t (ix2 a b)) (X1 m c (ix2 r q)) := by
  have ht : t.val < 16 := lt_of_lt_of_eq t.isLt N_0
  have e (G : S2048x4096.Idx → EReal) : G ((win0_3.blk t).view.emb (ix2 a b)) = G (ix2 r q) := by
    blk_ext [idx_val t]
  blk_simp [iblk, idx_val t]
  entry_read
  refine (e _).trans ?_
  pointwise []

/-- A tile of the short convolution's operand. -/
theorem r4 (t : Fin cfg0.N) (a : Fin 512) (b : Fin 128) (r : Fin 2048) (q : Fin 512) (hr : r.val = t.val % 4 * 512 + a.val) (hq : q.val = t.val / 4 * 128 + b.val) :
    @Eq EReal (iblk m c 4 t (ix2 a b)) (X2 m c (ix2 r q)) := by
  have ht : t.val < 16 := lt_of_lt_of_eq t.isLt N_0
  have e (G : S2048x512.Idx → EReal) : G ((win0_4.blk t).view.emb (ix2 a b)) = G (ix2 r q) := by
    blk_ext [idx_val t]
  blk_simp [iblk, idx_val t]
  entry_read
  refine (e _).trans ?_
  pointwise []

/-- The rows before it. -/
theorem r5 (t : Fin cfg0.N) (a : Fin 32) (b : Fin 128) (r : Fin 2048) (q : Fin 512) (hr : r.val = (t.val % 4 * 16 - 1) * 32 + a.val) (hq : q.val = t.val / 4 * 128 + b.val) :
    @Eq EReal (iblk m c 5 t (ix2 a b)) (X2 m c (ix2 r q)) := by
  have ht : t.val < 16 := lt_of_lt_of_eq t.isLt N_0
  have e (G : S2048x512.Idx → EReal) : G ((win0_5.blk t).view.emb (ix2 a b)) = G (ix2 r q) := by
    blk_ext [idx_val t]
  blk_simp [iblk, idx_val t]
  entry_read
  refine (e _).trans ?_
  pointwise []

/-- A tile of the long convolution's weights. -/
theorem r6 (t : Fin cfg0.N) (a : Fin 31) (b : Fin 128) (r : Fin 31) (q : Fin 512) (hr : r.val = a.val) (hq : q.val = t.val / 4 * 128 + b.val) :
    @Eq EReal (iblk m c 6 t (ix2 a b)) (X3 m c (ix2 r q)) := by
  have ht : t.val < 16 := lt_of_lt_of_eq t.isLt N_0
  have e (G : S31x512.Idx → EReal) : G ((win0_6.blk t).view.emb (ix2 a b)) = G (ix2 r q) := by
    blk_ext [idx_val t]
  blk_simp [iblk, idx_val t]
  entry_read
  refine (e _).trans ?_
  pointwise []

/-- A tile of the short convolution's weights. -/
theorem r7 (t : Fin cfg0.N) (a : Fin 3) (b : Fin 128) (r : Fin 3) (q : Fin 512) (hr : r.val = a.val) (hq : q.val = t.val / 4 * 128 + b.val) :
    @Eq EReal (iblk m c 7 t (ix2 a b)) (X4 m c (ix2 r q)) := by
  have ht : t.val < 16 := lt_of_lt_of_eq t.isLt N_0
  have e (G : S3x512.Idx → EReal) : G ((win0_7.blk t).view.emb (ix2 a b)) = G (ix2 r q) := by
    blk_ext [idx_val t]
  blk_simp [iblk, idx_val t]
  entry_read
  refine (e _).trans ?_
  pointwise []

/-- The grid point's channel group and time tile. -/
theorem coords_val : ∀ t : Fin cfg0.N, ((grid0.coords t) 0).val = t.val / 4 ∧ ((grid0.coords t) 1).val = t.val % 4 :=
  (by decide +kernel : ∀ t : Fin grid0.N, _)

section

variable (x : Vec Ideal S31x128 .f32) (b : Fin 128)

/-! The weights' rows. -/
theorem w0 : View.ld x r0_2 (ix2 0 b) = (x (ix2 30 b)) := by pointwise [View.ld]
theorem w1 : View.ld x r0_3 (ix2 0 b) = (x (ix2 22 b)) := by pointwise [View.ld]
theorem w2 : View.ld x r0_4 (ix2 0 b) = (x (ix2 14 b)) := by pointwise [View.ld]
theorem w3 : View.ld x r0_5 (ix2 0 b) = (x (ix2 6 b)) := by pointwise [View.ld]
theorem w4 : View.ld x r0_6 (ix2 0 b) = (x (ix2 29 b)) := by pointwise [View.ld]
theorem w5 : View.ld x r0_7 (ix2 0 b) = (x (ix2 21 b)) := by pointwise [View.ld]
theorem w6 : View.ld x r0_8 (ix2 0 b) = (x (ix2 13 b)) := by pointwise [View.ld]
theorem w7 : View.ld x r0_9 (ix2 0 b) = (x (ix2 5 b)) := by pointwise [View.ld]
theorem w8 : View.ld x r0_10 (ix2 0 b) = (x (ix2 28 b)) := by pointwise [View.ld]
theorem w9 : View.ld x r0_11 (ix2 0 b) = (x (ix2 20 b)) := by pointwise [View.ld]
theorem w10 : View.ld x r0_12 (ix2 0 b) = (x (ix2 12 b)) := by pointwise [View.ld]
theorem w11 : View.ld x r0_13 (ix2 0 b) = (x (ix2 4 b)) := by pointwise [View.ld]
theorem w12 : View.ld x r0_14 (ix2 0 b) = (x (ix2 27 b)) := by pointwise [View.ld]
theorem w13 : View.ld x r0_15 (ix2 0 b) = (x (ix2 19 b)) := by pointwise [View.ld]
theorem w14 : View.ld x r0_16 (ix2 0 b) = (x (ix2 11 b)) := by pointwise [View.ld]
theorem w15 : View.ld x r0_17 (ix2 0 b) = (x (ix2 3 b)) := by pointwise [View.ld]
theorem w16 : View.ld x r0_18 (ix2 0 b) = (x (ix2 26 b)) := by pointwise [View.ld]
theorem w17 : View.ld x r0_19 (ix2 0 b) = (x (ix2 18 b)) := by pointwise [View.ld]
theorem w18 : View.ld x r0_20 (ix2 0 b) = (x (ix2 10 b)) := by pointwise [View.ld]
theorem w19 : View.ld x r0_21 (ix2 0 b) = (x (ix2 2 b)) := by pointwise [View.ld]
theorem w20 : View.ld x r0_22 (ix2 0 b) = (x (ix2 25 b)) := by pointwise [View.ld]
theorem w21 : View.ld x r0_23 (ix2 0 b) = (x (ix2 17 b)) := by pointwise [View.ld]
theorem w22 : View.ld x r0_24 (ix2 0 b) = (x (ix2 9 b)) := by pointwise [View.ld]
theorem w23 : View.ld x r0_25 (ix2 0 b) = (x (ix2 1 b)) := by pointwise [View.ld]
theorem w24 : View.ld x r0_26 (ix2 0 b) = (x (ix2 24 b)) := by pointwise [View.ld]
theorem w25 : View.ld x r0_27 (ix2 0 b) = (x (ix2 16 b)) := by pointwise [View.ld]
theorem w26 : View.ld x r0_28 (ix2 0 b) = (x (ix2 8 b)) := by pointwise [View.ld]
theorem w27 : View.ld x r0_29 (ix2 0 b) = (x (ix2 0 b)) := by pointwise [View.ld]
theorem w28 : View.ld x r0_30 (ix2 0 b) = (x (ix2 23 b)) := by pointwise [View.ld]
theorem w29 : View.ld x r0_31 (ix2 0 b) = (x (ix2 15 b)) := by pointwise [View.ld]
theorem w30 : View.ld x r0_32 (ix2 0 b) = (x (ix2 7 b)) := by pointwise [View.ld]

end
theorem s0 (x : Vec Ideal S3x128 .f32) (b : Fin 128) : View.ld x r0_33 (ix2 0 b) = (x (ix2 2 b)) := by pointwise [View.ld]
theorem s1 (x : Vec Ideal S3x128 .f32) (b : Fin 128) : View.ld x r0_34 (ix2 0 b) = (x (ix2 1 b)) := by pointwise [View.ld]
theorem s2 (x : Vec Ideal S3x128 .f32) (b : Fin 128) : View.ld x r0_35 (ix2 0 b) = (x (ix2 0 b)) := by pointwise [View.ld]

/-- The long convolution's tile. -/
theorem point_ca (t : Fin cfg0.N) (a : Fin 512) (b : Fin 128) (r : Fin 2048) (q : Fin 512) (hr : r.val = t.val % 4 * 512 + a.val) (hq : q.val = t.val / 4 * 128 + b.val) :
    @Eq EReal (out0_8 (F := Ideal) (grid0.coords t) (iblk m c 0 t) (iblk m c 1 t) (iblk m c 2 t) (iblk m c 3 t) (iblk m c 4 t) (iblk m c 5 t) (iblk m c 6 t) (iblk m c 7 t) (ix2 a b)) (val_main_v375 (F := Ideal) (X0 m c) (X3 m c) (ix2 r q)) := by
  have ht : t.val < 16 := lt_of_lt_of_eq t.isLt N_0
  have E : ∀ (d y : ℕ) (hy : y < 544), y + d = 32 + a.val → ext (fun y => iblk m c 1 t (ix2 y b)) (k0_pay2 (F := Ideal) (grid0.coords t)) (fun y => iblk m c 0 t (ix2 y b)) y hy
      = back (fun r => X0 m c (ix2 r q)) r.val d := fun d y hy hd => by
    rw [hr]
    exact ext_back _ _ _ (fun r => X0 m c (ix2 r q)) (t.val % 4) (by omega) (keep_val t) (fun _ y r h => r1 m c t y b r q h hq)
      (fun a r h => r0 m c t a b r q h hq) a d y hy hd
  have Z : iblk m c 0 t (ix2 a b) = back (fun r => X0 m c (ix2 r q)) r.val 0 :=
    (r0 m c t a b r q hr hq).trans (back_zero (fun r => X0 m c (ix2 r q)) r).symm
  have W : ∀ k : Fin 31, iblk m c 6 t (ix2 k b) = X3 m c (ix2 k q) := fun k => r6 m c t k b k q rfl hq
  frame_out
  simp only [k0_pay27]
  frame_out
  refine (pay_ca _ _ _ _ _ _ _ _ _ _ _ _ _ _ _ _ _ _ _ _ _ _ _ _ _ _ _ _ _ _ _ _ _ _ a b).trans ?_
  rw [Z, E 8 (24 + a.val) _ (by omega), E 16 (16 + a.val) _ (by omega), E 24 (8 + a.val) _ (by omega), E 1 (32 + a.val - 1) _ (by omega), E 9 (24 + a.val - 1) _ (by omega), E 17 (16 + a.val - 1) _ (by omega), E 25 (8 + a.val - 1) _ (by omega), E 2 (32 + a.val - 2) _ (by omega), E 10 (24 + a.val - 2) _ (by omega), E 18 (16 + a.val - 2) _ (by omega), E 26 (8 + a.val - 2) _ (by omega), E 3 (32 + a.val - 3) _ (by omega), E 11 (24 + a.val - 3) _ (by omega), E 19 (16 + a.val - 3) _ (by omega), E 27 (8 + a.val - 3) _ (by omega), E 4 (32 + a.val - 4) _ (by omega), E 12 (24 + a.val - 4) _ (by omega), E 20 (16 + a.val - 4) _ (by omega), E 28 (8 + a.val - 4) _ (by omega), E 5 (32 + a.val - 5) _ (by omega), E 13 (24 + a.val - 5) _ (by omega), E 21 (16 + a.val - 5) _ (by omega), E 29 (8 + a.val - 5) _ (by omega), E 6 (32 + a.val - 6) _ (by omega), E 14 (24 + a.val - 6) _ (by omega), E 22 (16 + a.val - 6) _ (by omega), E 30 (8 + a.val - 6) _ (by omega), E 7 (32 + a.val - 7) _ (by omega), E 15 (24 + a.val - 7) _ (by omega), E 23 (16 + a.val - 7) _ (by omega)]
  rw [w0, w1, w2, w3, w4, w5, w6, w7, w8, w9, w10, w11, w12, w13, w14, w15, w16, w17, w18, w19, w20, w21, w22, w23, w24, w25, w26, w27, w28, w29, w30]
  rw [W 30, W 22, W 14, W 6, W 29, W 21, W 13, W 5, W 28, W 20, W 12, W 4, W 27, W 19, W 11, W 3, W 26, W 18, W 10, W 2, W 25, W 17, W 9, W 1, W 24, W 16, W 8, W 0, W 23, W 15, W 7]
  refine Eq.trans ?_ (ref_ca _ _ r q).symm
  exact order_ca fun d => back (fun r => X0 m c (ix2 r q)) r.val d * X3 m c (ix2 ⟨30 - d, by omega⟩ q)

/-- The short convolution's tile. -/
theorem point_cc (t : Fin cfg0.N) (a : Fin 512) (b : Fin 128) (r : Fin 2048) (q : Fin 512) (hr : r.val = t.val % 4 * 512 + a.val) (hq : q.val = t.val / 4 * 128 + b.val) :
    @Eq EReal (out0_10 (F := Ideal) (grid0.coords t) (iblk m c 0 t) (iblk m c 1 t) (iblk m c 2 t) (iblk m c 3 t) (iblk m c 4 t) (iblk m c 5 t) (iblk m c 6 t) (iblk m c 7 t) (ix2 a b)) (val_main_v399 (F := Ideal) (X2 m c) (X4 m c) (ix2 r q)) := by
  have ht : t.val < 16 := lt_of_lt_of_eq t.isLt N_0
  have E : ∀ (d y : ℕ) (hy : y < 544), y + d = 32 + a.val → ext (fun y => iblk m c 5 t (ix2 y b)) (k0_pay2 (F := Ideal) (grid0.coords t)) (fun y => iblk m c 4 t (ix2 y b)) y hy
      = back (fun r => X2 m c (ix2 r q)) r.val d := fun d y hy hd => by
    rw [hr]
    exact ext_back _ _ _ (fun r => X2 m c (ix2 r q)) (t.val % 4) (by omega) (keep_val t) (fun _ y r h => r5 m c t y b r q h hq)
      (fun a r h => r4 m c t a b r q h hq) a d y hy hd
  have Z : iblk m c 4 t (ix2 a b) = back (fun r => X2 m c (ix2 r q)) r.val 0 :=
    (r4 m c t a b r q hr hq).trans (back_zero (fun r => X2 m c (ix2 r q)) r).symm
  have W : ∀ k : Fin 3, iblk m c 7 t (ix2 k b) = X4 m c (ix2 k q) := fun k => r7 m c t k b k q rfl hq
  frame_out
  refine (pay_cc _ _ _ _ _ _ a b).trans ?_
  rw [Z, E 1 (32 + a.val - 1) _ (by omega), E 2 (32 + a.val - 2) _ (by omega)]
  rw [s0, s1, s2]
  rw [W 2, W 1, W 0]
  refine Eq.trans ?_ (ref_cc _ _ r q).symm
  exact order_cc fun d => back (fun r => X2 m c (ix2 r q)) r.val d * X4 m c (ix2 ⟨2 - d, by omega⟩ q)

/-- The pooled tile. -/
theorem point_po (t : Fin cfg0.N) (a : Fin 512) (b : Fin 128) (r : Fin 2048) (q : Fin 512) (hr : r.val = t.val % 4 * 512 + a.val) (hq : q.val = t.val / 4 * 128 + b.val) :
    @Eq EReal (out0_9 (F := Ideal) (grid0.coords t) (iblk m c 0 t) (iblk m c 1 t) (iblk m c 2 t) (iblk m c 3 t) (iblk m c 4 t) (iblk m c 5 t) (iblk m c 6 t) (iblk m c 7 t) (ix2 a b)) (val_main_v127 (F := Ideal) (X1 m c) (ix2 r q)) := by
  have ht : t.val < 16 := lt_of_lt_of_eq t.isLt N_0
  have U : ∀ (k : Fin 4096), k.val = (8 + t.val / 4) * 128 + b.val → ∀ d (hd : d < 32), k0_pay18 (F := Ideal) (k0_pay2 (grid0.coords t)) (iblk m c 3 t) (iblk m c 2 t) (ix2 ⟨32 + a.val - d, by omega⟩ b)
      = back (fun r => X1 m c (ix2 r k)) r.val d := fun k hk d hd => by
    rw [hr]
    exact (pay_rows _ _ _ _ b).trans (ext_back _ _ _ (fun r => X1 m c (ix2 r k)) (t.val % 4) (by omega) (keep_val t) (fun _ y r h => r3 m c t y b r k h hk)
      (fun a r h => r2 m c t a b r k h hk) a d _ _ (by dsimp only; omega))
  frame_out
  rw [(coords_val t).1]
  have h4 : t.val / 4 = 0 ∨ t.val / 4 = 1 ∨ t.val / 4 = 2 ∨ t.val / 4 = 3 := by omega
  rcases h4 with h | h | h | h
  · rw [h]
    exact (point_pool_2 _ _ _ _ (t.val % 4) (by omega) (by rw [(coords_val t).2]) (X1 m c) a b r hr (U ⟨1024 + b.val, by omega⟩ (by dsimp only; omega))).trans
      (congrArg (fun q => val_main_v127 (F := Ideal) (X1 m c) (ix2 r q)) (Fin.ext (by dsimp only; omega)))
  · rw [h]
    exact (point_pool_4 _ _ _ _ (t.val % 4) (by omega) (by rw [(coords_val t).2]) (X1 m c) a b r hr (U ⟨1024 + (128 + b.val), by omega⟩ (by dsimp only; omega))).trans
      (congrArg (fun q => val_main_v127 (F := Ideal) (X1 m c) (ix2 r q)) (Fin.ext (by dsimp only; omega)))
  · rw [h]
    exact (point_pool_8 _ _ _ _ (t.val % 4) (by omega) (by rw [(coords_val t).2]) (X1 m c) a b r hr (U ⟨1024 + (256 + b.val), by omega⟩ (by dsimp only; omega))).trans
      (congrArg (fun q => val_main_v127 (F := Ideal) (X1 m c) (ix2 r q)) (Fin.ext (by dsimp only; omega)))
  · rw [h]
    exact (point_pool_16 _ _ _ _ (t.val % 4) (by omega) (by rw [(coords_val t).2]) (X1 m c) a b r hr (U ⟨1024 + (384 + b.val), by omega⟩ (by dsimp only; omega))).trans
      (congrArg (fun q => val_main_v127 (F := Ideal) (X1 m c) (ix2 r q)) (Fin.ext (by dsimp only; omega)))

/-- The result array after the run. -/
theorem final_ca : (dats m 0 c).arrAt 8 (cfgs 0).N
    = fun i : S2048x512.Idx => val_main_v375 (F := Ideal) (X0 m c) (X3 m c) i := by
  refine (dats m 0 c).arrAt_eq_of_covers 8 _ (by decide +kernel) fun t hf y => ?_
  blk_simp; rw [after0_8]
  obtain ⟨a, b, rfl⟩ : ∃ (a : Fin 512) (b : Fin 128), y = ix2 a b := ⟨y 0, y 1, eq_ix2 y⟩
  have ht : t.val < 16 := lt_of_lt_of_eq t.isLt N_0
  have e (G : S2048x512.Idx → EReal) : G ((win0_8.blk t).view.emb (ix2 a b)) = G (ix2 ⟨t.val % 4 * 512 + a.val, by omega⟩ ⟨t.val / 4 * 128 + b.val, by omega⟩) := by
    blk_ext [idx_val t]
  refine Eq.trans ?_ (e (fun i => val_main_v375 (F := Ideal) (X0 m c) (X3 m c) i)).symm
  exact point_ca m c t a b _ _ rfl rfl

/-- The result array after the run. -/
theorem final_po : (dats m 0 c).arrAt 9 (cfgs 0).N
    = fun i : S2048x512.Idx => val_main_v127 (F := Ideal) (X1 m c) i := by
  refine (dats m 0 c).arrAt_eq_of_covers 9 _ (by decide +kernel) fun t hf y => ?_
  blk_simp; rw [after0_9]
  obtain ⟨a, b, rfl⟩ : ∃ (a : Fin 512) (b : Fin 128), y = ix2 a b := ⟨y 0, y 1, eq_ix2 y⟩
  have ht : t.val < 16 := lt_of_lt_of_eq t.isLt N_0
  have e (G : S2048x512.Idx → EReal) : G ((win0_9.blk t).view.emb (ix2 a b)) = G (ix2 ⟨t.val % 4 * 512 + a.val, by omega⟩ ⟨t.val / 4 * 128 + b.val, by omega⟩) := by
    blk_ext [idx_val t]
  refine Eq.trans ?_ (e (fun i => val_main_v127 (F := Ideal) (X1 m c) i)).symm
  exact point_po m c t a b _ _ rfl rfl

/-- The result array after the run. -/
theorem final_cc : (dats m 0 c).arrAt 10 (cfgs 0).N
    = fun i : S2048x512.Idx => val_main_v399 (F := Ideal) (X2 m c) (X4 m c) i := by
  refine (dats m 0 c).arrAt_eq_of_covers 10 _ (by decide +kernel) fun t hf y => ?_
  blk_simp; rw [after0_10]
  obtain ⟨a, b, rfl⟩ : ∃ (a : Fin 512) (b : Fin 128), y = ix2 a b := ⟨y 0, y 1, eq_ix2 y⟩
  have ht : t.val < 16 := lt_of_lt_of_eq t.isLt N_0
  have e (G : S2048x512.Idx → EReal) : G ((win0_10.blk t).view.emb (ix2 a b)) = G (ix2 ⟨t.val % 4 * 512 + a.val, by omega⟩ ⟨t.val / 4 * 128 + b.val, by omega⟩) := by
    blk_ext [idx_val t]
  refine Eq.trans ?_ (e (fun i => val_main_v399 (F := Ideal) (X2 m c) (X4 m c) i)).symm
  exact point_cc m c t a b _ _ rfl rfl

/-- The kernel's run and what it leaves. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = val_main_v375 (F := Ideal) (X0 m c) (X3 m c)
      ∧ r.2.mem ((c.tc : Thread nD τ).loc main_v0_1) = val_main_v127 (F := Ideal) (X1 m c)
      ∧ r.2.mem ((c.tc : Thread nD τ).loc main_v0_2) = val_main_v399 (F := Ideal) (X2 m c) (X4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => ⟨((hr.1 c).1 8).trans (final_ca m c), ((hr.1 c).1 9).trans (final_po m c), ((hr.1 c).1 10).trans (final_cc m c), hr.2 c⟩)
    (θ_run_and (run_main m ρ) (unchanged m ρ))

end Cert.Proof.SeqFwd

end
-- ==== Proof.Merge.lean ====
/-
  What the gated-merge backward kernel leaves in its two result arrays: the reference's two results, the second on the
  columns of the gates.
-/
module

public import proofs.«01_k».proof.Proof.Gen.KernelIdeal.Frame
public import proofs.«01_k».proof.Proof.Gen.ReferenceIdeal.Run
public import proofs.«01_k».proof.Proof.Gen.ReferenceIdeal.Read
public import Idealize.ShloMosaic.Lib.Pipeline.ValueKit
public import proofs.«01_k».proof.Defs
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)
open scoped BigOperators

namespace Cert.Proof.Merge

open Cert.KernelIdeal Cert.KernelIdeal.Gen

variable (m : (ℓ : Loc nD τ sig) → Buf (Elt Ideal) ℓ)

/-- The block each window stands at, in the number of the grid point. -/
theorem idx_val : ∀ t : Fin cfg0.N, win0_0.index t = ![t.val / 4, t.val % 4]
    ∧ win0_1.index t = ![t.val % 4, 0, 0]
    ∧ win0_2.index t = ![t.val / 4, t.val % 4]
    ∧ win0_3.index t = ![t.val / 4, 0]
    ∧ win0_4.index t = ![t.val % 4, t.val / 4, 0]
    ∧ win0_5.index t = ![t.val / 4, 4 + (t.val % 4)] :=
  (by decide +kernel : ∀ t : Fin grid0.N, _)

/-- The logistic function. -/
def logistic (x : EReal) : EReal := Ideal.div 1 (1 + Ideal.exp (-x))

/-- The gates of a grid point's block are the logistic function of the pre-activations there. -/
theorem gate_read (c : Dev nD) (t : Fin cfg0.N) (a b : Fin 1024) (r : Fin 2048) (j : Fin 4096)
    (hr : r.val = t.val / 4 * 1024 + a.val) (hj : j.val = t.val % 4 * 1024 + b.val) :
    (show EReal from iblk m c 2 t (ix2 a b)) = logistic ((show FVec Ideal S2048x4096 .f32 from m ((c : Thread nD τ).loc main_arg2)) (ix2 r j)) := by
  blk_simp [iblk, idx_val t]
  entry_read
  pointwise [logistic]
  congr 4
  blk_ext [idx_val t]

open Cert.ReferenceIdeal.Read in
/-- The reference's gates: the logistic function of the pre-activations, by gate. -/
theorem ref_sig (X2 : FVec Ideal S2048x4096 .f32) (r : Fin 2048) (k : Fin 4) (d : Fin 1024) :
    val_main_v9 (F := Ideal) X2 (ix3 r k d) = logistic (X2 (ix2 r ⟨k.val * 1024 + d.val, by omega⟩)) := by
  pointwise [val_main_v9, val_main_v8, val_main_cst_0, val_main_v7, val_main_v6, val_main_cst, val_main_v5, val_main_v4, val_main_v3, logistic]

open Cert.ReferenceIdeal.Read in
/-- The reference's cotangent of the branches' products: the merged cotangent times the gate. -/
theorem ref_dz (X2 : FVec Ideal S2048x4096 .f32) (X3 : FVec Ideal S2048x1024 .f32) (r : Fin 2048) (k : Fin 4) (d : Fin 1024) :
    val_main_v23 (F := Ideal) X2 X3 (ix3 k r d) = X3 (ix2 r d) * logistic (X2 (ix2 r ⟨k.val * 1024 + d.val, by omega⟩)) := by
  pointwise [val_main_v23, val_main_v22, val_main_v16, val_main_v15, ref_sig]
  exact mul_comm _ _

open Cert.ReferenceIdeal.Read in
/-- The reference's branch products: per gate, a branch's 512 channels against its matrix. -/
theorem ref_z (X0 : FVec Ideal S2048x2048 .f32) (X1 : FVec Ideal S4x512x1024 .f32) (r : Fin 2048) (k : Fin 4) (d : Fin 1024) :
    val_main_v2 (F := Ideal) X0 X1 (ix3 r k d) = ∑ w : Fin 512, X0 (ix2 r ⟨k.val * 512 + w.val, by omega⟩) * X1 (ix3 k w d) := by
  pointwise [val_main_v2, val_main_v1, val_main_v0]
  exact Finset.sum_congr rfl fun w _ => mul_comm _ _

open Cert.ReferenceIdeal.Read in
/-- The reference's cotangent of the pre-activations: cotangent, branch product, derivative of the logistic function. -/
theorem ref_dgate (X0 : FVec Ideal S2048x2048 .f32) (X1 : FVec Ideal S4x512x1024 .f32) (X2 : FVec Ideal S2048x4096 .f32) (X3 : FVec Ideal S2048x1024 .f32)
    (r : Fin 2048) (k : Fin 4) (d : Fin 1024) :
    val_main_v18 (F := Ideal) X0 X1 X2 X3 (ix3 r k d) =
      (X3 (ix2 r d) * ∑ w : Fin 512, X0 (ix2 r ⟨k.val * 512 + w.val, by omega⟩) * X1 (ix3 k w d))
        * (logistic (X2 (ix2 r ⟨k.val * 1024 + d.val, by omega⟩)) * (1 - logistic (X2 (ix2 r ⟨k.val * 1024 + d.val, by omega⟩)))) := by
  pointwise [val_main_v18, val_main_v17, val_main_v12, val_main_v11, val_main_v10, val_main_cst_1, val_main_v15, ref_sig, ref_z]

open Cert.ReferenceIdeal.Read in
/-- The gates' columns of the reference's second result, read at a gate and a channel. -/
theorem ref_dproj (X0 : FVec Ideal S2048x2048 .f32) (X1 : FVec Ideal S4x512x1024 .f32) (X2 : FVec Ideal S2048x4096 .f32) (X3 : FVec Ideal S2048x1024 .f32)
    (r : Fin 2048) (k : Fin 4) (d : Fin 1024) (j : Fin 8192) (hj : j.val = 4096 + (k.val * 1024 + d.val)) :
    val_main_v24 (F := Ideal) X0 X1 X2 X3 (ix2 r j) = val_main_v18 (F := Ideal) X0 X1 X2 X3 (ix3 r k d) := by
  pointwise [val_main_v24, val_main_v21, val_main_v20, val_main_cst_3, val_main_v19]
  rw [dif_neg (by omega)]
  congr 1
  blk_ext []

/-- What the body stores of the second result, read at a row and a column. -/
theorem pay3_apply (v0 : FVec Ideal S1024x512 .bf16) (v2 : FVec Ideal S1x512x1024 .bf16) (v5 : FVec Ideal S1024x1024 .bf16) (v8 : FVec Ideal S1024x1024 .f32) (a b : Fin 1024) :
    k0_pay3 (F := Ideal) v0 v2 v5 v8 (ix2 a b) = (v8 (ix2 a b) * ∑ w : Fin 512, v0 (ix2 a w) * v2 (ix3 0 w b)) * (v5 (ix2 a b) * (1 - v5 (ix2 a b))) := by
  pointwise [k0_pay3, k0_pay1]
  rw [mul_assoc]

/-- What the body stores of the first result, read at a row and a column. -/
theorem pay2_apply (v5 : FVec Ideal S1024x1024 .bf16) (v8 : FVec Ideal S1024x1024 .f32) (o : Fin 1) (a b : Fin 1024) :
    k0_pay2 (F := Ideal) v5 v8 (ix3 o a b) = v8 (ix2 a b) * v5 (ix2 a b) := by
  pointwise [k0_pay2, k0_pay1]

variable (c : Dev nD)

/-- The four arguments on a device. -/
abbrev X0 : FVec Ideal S2048x2048 .f32 := m ((c : Thread nD τ).loc main_arg0)
abbrev X1 : FVec Ideal S4x512x1024 .f32 := m ((c : Thread nD τ).loc main_arg1)
abbrev X2 : FVec Ideal S2048x4096 .f32 := m ((c : Thread nD τ).loc main_arg2)
abbrev X3 : FVec Ideal S2048x1024 .f32 := m ((c : Thread nD τ).loc main_arg3)

/-- A grid point's block of the merged cotangent. -/
theorem dm_read (t : Fin cfg0.N) (a b : Fin 1024) (r : Fin 2048) (hr : r.val = t.val / 4 * 1024 + a.val) :
    (show EReal from iblk m c 3 t (ix2 a b)) = X3 m c (ix2 r b) := by
  blk_ext [iblk, V, idx_val t]

/-- A grid point's block of the branches' activations. -/
theorem y_read (t : Fin cfg0.N) (a : Fin 1024) (w : Fin 512) (r : Fin 2048) (j : Fin 2048)
    (hr : r.val = t.val / 4 * 1024 + a.val) (hj : j.val = t.val % 4 * 512 + w.val) :
    (show EReal from iblk m c 0 t (ix2 a w)) = X0 m c (ix2 r j) := by
  blk_simp [iblk, idx_val t]
  entry_read
  pointwise []
  blk_ext [idx_val t]

/-- A grid point's branch matrix. -/
theorem w_read (t : Fin cfg0.N) (w : Fin 512) (b : Fin 1024) (k : Fin 4) (hk : k.val = t.val % 4) :
    (show EReal from iblk m c 1 t (ix3 0 w b)) = X1 m c (ix3 k w b) := by
  blk_simp [iblk, idx_val t]
  entry_read
  pointwise []
  blk_ext [idx_val t]

open Cert.ReferenceIdeal.Read in
/-- What a grid point stores of the first result is the reference there. -/
theorem point_dz (t : Fin cfg0.N) (o : Fin 1) (a b : Fin 1024) (k : Fin 4) (r : Fin 2048)
    (hk : k.val = t.val % 4) (hr : r.val = t.val / 4 * 1024 + a.val) :
    k0_pay2 (F := Ideal) (iblk m c 2 t) (iblk m c 3 t) (ix3 o a b) = val_main_v23 (F := Ideal) (X2 m c) (X3 m c) (ix3 k r b) := by
  refine (pay2_apply _ _ o a b).trans ((ref_dz _ _ r k b).trans ?_).symm
  exact congrArg₂ (· * ·) (dm_read m c t a b r hr).symm (gate_read m c t a b r _ hr (by simp only [hk])).symm

open Cert.ReferenceIdeal.Read in
/-- What a grid point stores of the second result is the reference there. -/
theorem point_dproj (t : Fin cfg0.N) (a b : Fin 1024) (r : Fin 2048) (j : Fin 8192)
    (hr : r.val = t.val / 4 * 1024 + a.val) (hj : j.val = (4 + t.val % 4) * 1024 + b.val) :
    k0_pay3 (F := Ideal) (iblk m c 0 t) (iblk m c 1 t) (iblk m c 2 t) (iblk m c 3 t) (ix2 a b)
      = val_main_v24 (F := Ideal) (X0 m c) (X1 m c) (X2 m c) (X3 m c) (ix2 r j) := by
  have hk : t.val % 4 < 4 := Nat.mod_lt _ (by omega)
  refine (pay3_apply _ _ _ _ a b).trans (((ref_dproj _ _ _ _ r ⟨t.val % 4, hk⟩ b j (by simp only []; omega)).trans (ref_dgate _ _ _ _ r _ b)).trans ?_).symm
  have hg := (gate_read m c t a b r ⟨t.val % 4 * 1024 + b.val, by omega⟩ hr rfl).symm
  refine congrArg₂ (· * ·) (congrArg₂ (· * ·) (dm_read m c t a b r hr).symm (Finset.sum_congr rfl fun w _ =>
    congrArg₂ (· * ·) (y_read m c t a w r _ hr rfl).symm (w_read m c t w b ⟨t.val % 4, hk⟩ rfl).symm)) ?_
  exact congrArg (fun g : EReal => g * (1 - g)) hg

open Cert.ReferenceIdeal.Read in
/-- The first result array after the run. -/
theorem final_dz : (dats m 0 c).arrAt 4 (cfgs 0).N = val_main_v23 (F := Ideal) (X2 m c) (X3 m c) := by
  refine (dats m 0 c).arrAt_eq_of_covers 4 _ (by decide +kernel) fun t hf y => ?_
  blk_simp; rw [after0_4]; frame_out
  obtain ⟨o, a, b, rfl⟩ : ∃ (o : Fin 1) (a b : Fin 1024), y = ix3 o a b := ⟨y 0, y 1, y 2, eq_ix3 y⟩
  have ht : t.val < 8 := lt_of_lt_of_eq t.isLt N_0
  refine (point_dz m c t o a b ⟨t.val % 4, Nat.mod_lt _ (by omega)⟩ ⟨t.val / 4 * 1024 + a.val, by omega⟩ rfl rfl).trans ?_
  blk_ext [idx_val t]

open Cert.ReferenceIdeal.Read in
/-- The second result array after the run, on the gates' columns. -/
theorem final_dproj (i : S2048x8192.Idx) (hi : 4096 ≤ (i 1).val) :
    (dats m 0 c).arrAt 5 (cfgs 0).N i = val_main_v24 (F := Ideal) (X0 m c) (X1 m c) (X2 m c) (X3 m c) i := by
  have h : (dats m 0 c).arrAt 5 (cfgs 0).N
      = fun i => if 4096 ≤ (i 1).val then val_main_v24 (F := Ideal) (X0 m c) (X1 m c) (X2 m c) (X3 m c) i else V m c main_v9_1 i := by
    refine (dats m 0 c).arrAt_eq_of_coversWhere 5 _ (fun β => 4 ≤ β (1 : Fin 2)) (by decide +kernel) (fun t hf y => ?_)
      (fun j => by blk_simp [Pipeline.Window.cell_apply]; omega)
    blk_simp; rw [after0_5]; frame_out
    obtain ⟨a, b, rfl⟩ : ∃ (a b : Fin 1024), y = ix2 a b := ⟨y 0, y 1, eq_ix2 y⟩
    have ht : t.val < 8 := lt_of_lt_of_eq t.isLt N_0
    refine (point_dproj m c t a b ⟨t.val / 4 * 1024 + a.val, by omega⟩ ⟨(4 + t.val % 4) * 1024 + b.val, by omega⟩ rfl rfl).trans ?_
    blk_ext [idx_val t]
  rw [h]
  exact if_pos hi

/-- The mask is set on the second result exactly at the gates' columns. -/
theorem mask_columns (h : Cert.On_gate_columns.Facts) (x0 : FVec Ideal S2048x2048 .f32) (x1 : FVec Ideal S4x512x1024 .f32) (x2 : FVec Ideal S2048x4096 .f32)
    (x3 : FVec Ideal S2048x1024 .f32) (i : S2048x8192.Idx)
    (hi : (Cert.On_gate_columns.fn (F := Ideal) x0 x1 x2 x3).2 i = 1#1) : 4096 ≤ (i 1).val := by
  have key : ∀ r : Fin 8192, IntOp.cmpi .sge (BitVec.ofNat 32 r.val) 4096#32 = 1#1 → 4096 ≤ r.val := by decide +kernel
  exact key (i 1) hi

/-- The kernel's two results are the reference's, the second on the gates' columns. -/
theorem algebraic (h : Cert.On_gate_columns.Facts) : Cert.algebraic_KernelIdeal_ReferenceIdeal_on_gate_columns := by
  intro m g m' g' _ hagree
  refine ⟨fun c => Cert.ReferenceIdeal.Read.val_main_v23 (F := Ideal) (X2 m c) (X3 m c),
    fun c => Cert.ReferenceIdeal.Read.val_main_v24 (F := Ideal) (X0 m c) (X1 m c) (X2 m c) (X3 m c), ?_, ?_⟩
  · refine (θ_run Cert.KernelIdeal.defs _ _).mono (fun r hr c => ?_) (Cert.KernelIdeal.Value.run_blocks (F := Ideal) m g)
    have h0 := (hr c).1; have h1 := (hr c).2.1
    exact ⟨fun i _ => congrFun (h0.trans (final_dz m c)) i,
      fun i hi => (congrFun h1 i).trans (final_dproj m c i (mask_columns h _ _ _ _ i hi)), (hr c).2.2⟩
  · refine (θ_run Cert.ReferenceIdeal.defs _ _).mono (fun r hr c => ?_) (Cert.ReferenceIdeal.Value.run (F := Ideal) m' g')
    obtain ⟨e0, e1, e2, e3⟩ := hagree c
    refine ⟨fun i _ => congrFun ((hr c).1.trans ?_) i, fun i _ => congrFun ((hr c).2.1.trans ?_) i, (hr c).2.2⟩
    · rw [Cert.ReferenceIdeal.Read.val_main_v23_eq, e2, e3]
    · rw [Cert.ReferenceIdeal.Read.val_main_v24_eq, e0, e1, e2, e3]

end Cert.Proof.Merge

end
-- ==== Proof.lean ====
/- The claims about the calls of the training step: their frames, their ideal readings and their values. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.BranchBwd.Frame
public import proofs.«01_k».proof.Proof.Gen.DwBranch.Frame
public import proofs.«01_k».proof.Proof.Gen.DwIn.Frame
public import proofs.«01_k».proof.Proof.Gen.ProjBwd.Frame
public import proofs.«01_k».proof.Proof.Gen.MlpDownBwd.Frame
public import proofs.«01_k».proof.Proof.Gen.DwDown.Frame
public import proofs.«01_k».proof.Proof.Gen.DwUp.Frame
public import proofs.«01_k».proof.Proof.Gen.MlpUpBwd.Frame
public import proofs.«01_k».proof.Proof.Gen.OutProjBwd.Frame
public import proofs.«01_k».proof.Proof.Gen.DwOut.Frame
public import proofs.«01_k».proof.Proof.Gen.PleBwd.Frame
public import proofs.«01_k».proof.Proof.Gen.DwPle.Frame
public import proofs.«01_k».proof.Proof.Gen.DwPleGate.Frame
public import proofs.«01_k».proof.Proof.Gen.DhPle.Frame
public import proofs.«01_k».proof.Proof.Gen.RmsMix.Frame
public import proofs.«01_k».proof.Proof.Gen.ProjFwd.Frame
public import proofs.«01_k».proof.Proof.Gen.ProjGates.Frame
public import proofs.«01_k».proof.Proof.Gen.Glu.Frame
public import proofs.«01_k».proof.Proof.Gen.MergeFwd.Frame
public import proofs.«01_k».proof.Proof.Gen.OutProj.Frame
public import proofs.«01_k».proof.Proof.Gen.MlpUp.Frame
public import proofs.«01_k».proof.Proof.Gen.MlpDown.Frame
public import proofs.«01_k».proof.Proof.Gen.PleGate.Frame
public import proofs.«01_k».proof.Proof.Gen.Ple.Frame
public import proofs.«01_k».proof.Proof.Gen.AdamIn.Frame
public import proofs.«01_k».proof.Proof.Gen.AdamBranch.Frame
public import proofs.«01_k».proof.Proof.Gen.AdamOut.Frame
public import proofs.«01_k».proof.Proof.Gen.AdamUp.Frame
public import proofs.«01_k».proof.Proof.Gen.AdamPle.Frame
public import proofs.«01_k».proof.Proof.Gen.SeqFwd.Frame
public import proofs.«01_k».proof.Proof.Gen.GluBwd.Frame
public import proofs.«01_k».proof.Proof.Gen.LossHead.Frame
public import proofs.«01_k».proof.Proof.Gen.AdamSharded.Frame
public import proofs.«01_k».proof.Proof.Gen.AdamSmall.Frame
public import proofs.«01_k».proof.Proof.Gen.On_gate_columns
public import Idealize.ShloMosaic.Adequacy
public import Idealize.ShloMosaic.Init
public import proofs.«01_k».proof.Proof.BranchBwd
public import proofs.«01_k».proof.Proof.DwBranch
public import proofs.«01_k».proof.Proof.DwIn
public import proofs.«01_k».proof.Proof.ProjBwd
public import proofs.«01_k».proof.Proof.MlpDownBwd
public import proofs.«01_k».proof.Proof.DwDown
public import proofs.«01_k».proof.Proof.DwUp
public import proofs.«01_k».proof.Proof.MlpUpBwd
public import proofs.«01_k».proof.Proof.OutProjBwd
public import proofs.«01_k».proof.Proof.DwOut
public import proofs.«01_k».proof.Proof.PleBwd
public import proofs.«01_k».proof.Proof.DwPle
public import proofs.«01_k».proof.Proof.DwPleGate
public import proofs.«01_k».proof.Proof.DhPle
public import proofs.«01_k».proof.Proof.RmsMix
public import proofs.«01_k».proof.Proof.ProjFwd
public import proofs.«01_k».proof.Proof.ProjGates
public import proofs.«01_k».proof.Proof.Glu
public import proofs.«01_k».proof.Proof.MergeFwd
public import proofs.«01_k».proof.Proof.OutProj
public import proofs.«01_k».proof.Proof.MlpUp
public import proofs.«01_k».proof.Proof.MlpDown
public import proofs.«01_k».proof.Proof.PleGate
public import proofs.«01_k».proof.Proof.Ple
public import proofs.«01_k».proof.Proof.AdamIn
public import proofs.«01_k».proof.Proof.AdamBranch
public import proofs.«01_k».proof.Proof.AdamOut
public import proofs.«01_k».proof.Proof.AdamUp
public import proofs.«01_k».proof.Proof.AdamPle
public import proofs.«01_k».proof.Proof.GluBwd
public import proofs.«01_k».proof.Proof.LossHead
public import proofs.«01_k».proof.Proof.AdamSharded
public import proofs.«01_k».proof.Proof.AdamSmall
public import proofs.«01_k».proof.Proof.SeqFwd
public import proofs.«01_k».proof.Proof.Gen.KernelIdeal.Value
public import proofs.«01_k».proof.Proof.Gen.ReferenceIdeal.Run
public import proofs.«01_k».proof.Proof.Gen.ReferenceIdeal.Read
public import proofs.«01_k».proof.Proof.Merge

@[expose] public section

noncomputable section

namespace Cert.Proof

open Idealize.ShloMosaic Idealize.SL.Sem Cert.Kernel

/-- The reference of the gated merge runs on the host alone, keeps its arguments and declares no semaphore. -/
theorem frame_reference : quiescent_ReferenceIdeal := fun m ρ _ =>
  (θ_run ReferenceIdeal.defs _ _).mono (fun r h => ⟨fun c => (h c).2.2, sem_eq_zero_of_no_sems (by decide) r.2⟩)
    (ReferenceIdeal.Value.run (F := Ideal) m ρ)

/-- The reference of `branch_bwd` runs on the host alone. -/
theorem frame_BranchBwdReference : quiescent_BranchBwdReferenceIdeal := fun m ρ _ =>
  (θ_run BranchBwdReferenceIdeal.defs _ _).mono (fun r h => ⟨fun c => (h c).2, sem_eq_zero_of_no_sems (by decide) r.2⟩)
    (BranchBwdReferenceIdeal.Value.run (F := Ideal) m ρ)

/-- The results of `branch_bwd` are its reference's. -/
theorem algebraic_BranchBwd : algebraic_BranchBwdIdeal_BranchBwdReferenceIdeal := by
  intro m g m' g' _ hagree
  exact ⟨fun c => BranchBwdReferenceIdeal.Read.val_main_v7 (F := Ideal) (BranchBwd.X0 m c) (BranchBwd.X1 m c), BranchBwd.run m g,
    (θ_run BranchBwdReferenceIdeal.defs _ _).mono (fun r hr c => ⟨(hr c).1.trans (by obtain ⟨e0, e1⟩ := hagree c; rw [BranchBwdReferenceIdeal.Read.val_main_v7_eq, e0, e1]), (hr c).2⟩)
      (BranchBwdReferenceIdeal.Value.run (F := Ideal) m' g')⟩

/-- The reference of `dw_branch` runs on the host alone. -/
theorem frame_DwBranchReference : quiescent_DwBranchReferenceIdeal := fun m ρ _ =>
  (θ_run DwBranchReferenceIdeal.defs _ _).mono (fun r h => ⟨fun c => (h c).2, sem_eq_zero_of_no_sems (by decide) r.2⟩)
    (DwBranchReferenceIdeal.Value.run (F := Ideal) m ρ)

/-- The results of `dw_branch` are its reference's. -/
theorem algebraic_DwBranch : algebraic_DwBranchIdeal_DwBranchReferenceIdeal := by
  intro m g m' g' _ hagree
  exact ⟨fun c => DwBranchReferenceIdeal.Read.val_main_v8 (F := Ideal) (DwBranch.X0 m c) (DwBranch.X1 m c), DwBranch.run m g,
    (θ_run DwBranchReferenceIdeal.defs _ _).mono (fun r hr c => ⟨(hr c).1.trans (by obtain ⟨e0, e1⟩ := hagree c; rw [DwBranchReferenceIdeal.Read.val_main_v8_eq, e0, e1]), (hr c).2⟩)
      (DwBranchReferenceIdeal.Value.run (F := Ideal) m' g')⟩

/-- The reference of `dw_in` runs on the host alone. -/
theorem frame_DwInReference : quiescent_DwInReferenceIdeal := fun m ρ _ =>
  (θ_run DwInReferenceIdeal.defs _ _).mono (fun r h => ⟨fun c => (h c).2, sem_eq_zero_of_no_sems (by decide) r.2⟩)
    (DwInReferenceIdeal.Value.run (F := Ideal) m ρ)

/-- The results of `dw_in` are its reference's. -/
theorem algebraic_DwIn : algebraic_DwInIdeal_DwInReferenceIdeal := by
  intro m g m' g' _ hagree
  exact ⟨fun c => DwInReferenceIdeal.Read.val_main_v17 (F := Ideal) (DwIn.X0 m c) (DwIn.X1 m c) (DwIn.X2 m c), DwIn.run m g,
    (θ_run DwInReferenceIdeal.defs _ _).mono (fun r hr c => ⟨(hr c).1.trans (by obtain ⟨e0, e1, e2⟩ := hagree c; rw [DwInReferenceIdeal.Read.val_main_v17_eq, e0, e1, e2]), (hr c).2⟩)
      (DwInReferenceIdeal.Value.run (F := Ideal) m' g')⟩

/-- The reference of `proj_bwd` runs on the host alone. -/
theorem frame_ProjBwdReference : quiescent_ProjBwdReferenceIdeal := fun m ρ _ =>
  (θ_run ProjBwdReferenceIdeal.defs _ _).mono (fun r h => ⟨fun c => (h c).2.2, sem_eq_zero_of_no_sems (by decide) r.2⟩)
    (ProjBwdReferenceIdeal.Value.run (F := Ideal) m ρ)

/-- The results of `proj_bwd` are its reference's. -/
theorem algebraic_ProjBwd : algebraic_ProjBwdIdeal_ProjBwdReferenceIdeal := by
  intro m g m' g' _ hagree
  exact ⟨fun c => ProjBwdReferenceIdeal.Read.val_main_v38 (F := Ideal) (ProjBwd.X0 m c) (ProjBwd.X1 m c) (ProjBwd.X2 m c) (ProjBwd.X3 m c) (ProjBwd.X4 m c), fun c => ProjBwdReferenceIdeal.Read.val_main_v39 (F := Ideal) (ProjBwd.X0 m c) (ProjBwd.X2 m c) (ProjBwd.X3 m c), ProjBwd.run m g,
    (θ_run ProjBwdReferenceIdeal.defs _ _).mono (fun r hr c => ⟨(hr c).1.trans (by obtain ⟨e0, e1, e2, e3, e4⟩ := hagree c; rw [ProjBwdReferenceIdeal.Read.val_main_v38_eq, e0, e1, e2, e3, e4]), (hr c).2.1.trans (by obtain ⟨e0, e1, e2, e3, e4⟩ := hagree c; rw [ProjBwdReferenceIdeal.Read.val_main_v39_eq, e0, e2, e3]), (hr c).2.2⟩)
      (ProjBwdReferenceIdeal.Value.run (F := Ideal) m' g')⟩

/-- The reference of `mlp_down_bwd` runs on the host alone. -/
theorem frame_MlpDownBwdReference : quiescent_MlpDownBwdReferenceIdeal := fun m ρ _ =>
  (θ_run MlpDownBwdReferenceIdeal.defs _ _).mono (fun r h => ⟨fun c => (h c).2, sem_eq_zero_of_no_sems (by decide) r.2⟩)
    (MlpDownBwdReferenceIdeal.Value.run (F := Ideal) m ρ)

/-- The results of `mlp_down_bwd` are its reference's. -/
theorem algebraic_MlpDownBwd : algebraic_MlpDownBwdIdeal_MlpDownBwdReferenceIdeal := by
  intro m g m' g' _ hagree
  exact ⟨fun c => MlpDownBwdReferenceIdeal.Read.val_main_v26 (F := Ideal) (MlpDownBwd.X0 m c) (MlpDownBwd.X1 m c) (MlpDownBwd.X2 m c) (MlpDownBwd.X3 m c) (MlpDownBwd.X4 m c), MlpDownBwd.run m g,
    (θ_run MlpDownBwdReferenceIdeal.defs _ _).mono (fun r hr c => ⟨(hr c).1.trans (by obtain ⟨e0, e1, e2, e3, e4⟩ := hagree c; rw [MlpDownBwdReferenceIdeal.Read.val_main_v26_eq, e0, e1, e2, e3, e4]), (hr c).2⟩)
      (MlpDownBwdReferenceIdeal.Value.run (F := Ideal) m' g')⟩

/-- The reference of `dw_down` runs on the host alone. -/
theorem frame_DwDownReference : quiescent_DwDownReferenceIdeal := fun m ρ _ =>
  (θ_run DwDownReferenceIdeal.defs _ _).mono (fun r h => ⟨fun c => (h c).2, sem_eq_zero_of_no_sems (by decide) r.2⟩)
    (DwDownReferenceIdeal.Value.run (F := Ideal) m ρ)

/-- The results of `dw_down` are its reference's. -/
theorem algebraic_DwDown : algebraic_DwDownIdeal_DwDownReferenceIdeal := by
  intro m g m' g' _ hagree
  exact ⟨fun c => DwDownReferenceIdeal.Read.val_main_v20 (F := Ideal) (DwDown.X0 m c) (DwDown.X1 m c) (DwDown.X2 m c) (DwDown.X3 m c), DwDown.run m g,
    (θ_run DwDownReferenceIdeal.defs _ _).mono (fun r hr c => ⟨(hr c).1.trans (by obtain ⟨e0, e1, e2, e3⟩ := hagree c; rw [DwDownReferenceIdeal.Read.val_main_v20_eq, e0, e1, e2, e3]), (hr c).2⟩)
      (DwDownReferenceIdeal.Value.run (F := Ideal) m' g')⟩

/-- The reference of `dw_up` runs on the host alone. -/
theorem frame_DwUpReference : quiescent_DwUpReferenceIdeal := fun m ρ _ =>
  (θ_run DwUpReferenceIdeal.defs _ _).mono (fun r h => ⟨fun c => (h c).2, sem_eq_zero_of_no_sems (by decide) r.2⟩)
    (DwUpReferenceIdeal.Value.run (F := Ideal) m ρ)

/-- The results of `dw_up` are its reference's. -/
theorem algebraic_DwUp : algebraic_DwUpIdeal_DwUpReferenceIdeal := by
  intro m g m' g' _ hagree
  exact ⟨fun c => DwUpReferenceIdeal.Read.val_main_v17 (F := Ideal) (DwUp.X0 m c) (DwUp.X1 m c) (DwUp.X2 m c), DwUp.run m g,
    (θ_run DwUpReferenceIdeal.defs _ _).mono (fun r hr c => ⟨(hr c).1.trans (by obtain ⟨e0, e1, e2⟩ := hagree c; rw [DwUpReferenceIdeal.Read.val_main_v17_eq, e0, e1, e2]), (hr c).2⟩)
      (DwUpReferenceIdeal.Value.run (F := Ideal) m' g')⟩

/-- The reference of `mlp_up_bwd` runs on the host alone. -/
theorem frame_MlpUpBwdReference : quiescent_MlpUpBwdReferenceIdeal := fun m ρ _ =>
  (θ_run MlpUpBwdReferenceIdeal.defs _ _).mono (fun r h => ⟨fun c => (h c).2.2, sem_eq_zero_of_no_sems (by decide) r.2⟩)
    (MlpUpBwdReferenceIdeal.Value.run (F := Ideal) m ρ)

/-- The results of `mlp_up_bwd` are its reference's. -/
theorem algebraic_MlpUpBwd : algebraic_MlpUpBwdIdeal_MlpUpBwdReferenceIdeal := by
  intro m g m' g' _ hagree
  exact ⟨fun c => MlpUpBwdReferenceIdeal.Read.val_main_v38 (F := Ideal) (MlpUpBwd.X0 m c) (MlpUpBwd.X1 m c) (MlpUpBwd.X2 m c) (MlpUpBwd.X3 m c) (MlpUpBwd.X4 m c), fun c => MlpUpBwdReferenceIdeal.Read.val_main_v39 (F := Ideal) (MlpUpBwd.X0 m c) (MlpUpBwd.X2 m c) (MlpUpBwd.X3 m c), MlpUpBwd.run m g,
    (θ_run MlpUpBwdReferenceIdeal.defs _ _).mono (fun r hr c => ⟨(hr c).1.trans (by obtain ⟨e0, e1, e2, e3, e4⟩ := hagree c; rw [MlpUpBwdReferenceIdeal.Read.val_main_v38_eq, e0, e1, e2, e3, e4]), (hr c).2.1.trans (by obtain ⟨e0, e1, e2, e3, e4⟩ := hagree c; rw [MlpUpBwdReferenceIdeal.Read.val_main_v39_eq, e0, e2, e3]), (hr c).2.2⟩)
      (MlpUpBwdReferenceIdeal.Value.run (F := Ideal) m' g')⟩

/-- The reference of `out_proj_bwd` runs on the host alone. -/
theorem frame_OutProjBwdReference : quiescent_OutProjBwdReferenceIdeal := fun m ρ _ =>
  (θ_run OutProjBwdReferenceIdeal.defs _ _).mono (fun r h => ⟨fun c => (h c).2, sem_eq_zero_of_no_sems (by decide) r.2⟩)
    (OutProjBwdReferenceIdeal.Value.run (F := Ideal) m ρ)

/-- The results of `out_proj_bwd` are its reference's. -/
theorem algebraic_OutProjBwd : algebraic_OutProjBwdIdeal_OutProjBwdReferenceIdeal := by
  intro m g m' g' _ hagree
  exact ⟨fun c => OutProjBwdReferenceIdeal.Read.val_main_v2 (F := Ideal) (OutProjBwd.X0 m c) (OutProjBwd.X1 m c), OutProjBwd.run m g,
    (θ_run OutProjBwdReferenceIdeal.defs _ _).mono (fun r hr c => ⟨(hr c).1.trans (by obtain ⟨e0, e1⟩ := hagree c; rw [OutProjBwdReferenceIdeal.Read.val_main_v2_eq, e0, e1]), (hr c).2⟩)
      (OutProjBwdReferenceIdeal.Value.run (F := Ideal) m' g')⟩

/-- The reference of `dw_out` runs on the host alone. -/
theorem frame_DwOutReference : quiescent_DwOutReferenceIdeal := fun m ρ _ =>
  (θ_run DwOutReferenceIdeal.defs _ _).mono (fun r h => ⟨fun c => (h c).2, sem_eq_zero_of_no_sems (by decide) r.2⟩)
    (DwOutReferenceIdeal.Value.run (F := Ideal) m ρ)

/-- The results of `dw_out` are its reference's. -/
theorem algebraic_DwOut : algebraic_DwOutIdeal_DwOutReferenceIdeal := by
  intro m g m' g' _ hagree
  exact ⟨fun c => DwOutReferenceIdeal.Read.val_main_v4 (F := Ideal) (DwOut.X0 m c) (DwOut.X1 m c), DwOut.run m g,
    (θ_run DwOutReferenceIdeal.defs _ _).mono (fun r hr c => ⟨(hr c).1.trans (by obtain ⟨e0, e1⟩ := hagree c; rw [DwOutReferenceIdeal.Read.val_main_v4_eq, e0, e1]), (hr c).2⟩)
      (DwOutReferenceIdeal.Value.run (F := Ideal) m' g')⟩

/-- The reference of `ple_bwd` runs on the host alone. -/
theorem frame_PleBwdReference : quiescent_PleBwdReferenceIdeal := fun m ρ _ =>
  (θ_run PleBwdReferenceIdeal.defs _ _).mono (fun r h => ⟨fun c => (h c).2.2, sem_eq_zero_of_no_sems (by decide) r.2⟩)
    (PleBwdReferenceIdeal.Value.run (F := Ideal) m ρ)

/-- The results of `ple_bwd` are its reference's. -/
theorem algebraic_PleBwd : algebraic_PleBwdIdeal_PleBwdReferenceIdeal := by
  intro m g m' g' _ hagree
  exact ⟨fun c => PleBwdReferenceIdeal.Read.val_main_v28 (F := Ideal) (PleBwd.X0 m c) (PleBwd.X1 m c) (PleBwd.X2 m c) (PleBwd.X5 m c), fun c => PleBwdReferenceIdeal.Read.val_main_v29 (F := Ideal) (PleBwd.X0 m c) (PleBwd.X1 m c) (PleBwd.X2 m c) (PleBwd.X3 m c) (PleBwd.X4 m c) (PleBwd.X5 m c), PleBwd.run m g,
    (θ_run PleBwdReferenceIdeal.defs _ _).mono (fun r hr c => ⟨(hr c).1.trans (by obtain ⟨e0, e1, e2, e3, e4, e5⟩ := hagree c; rw [PleBwdReferenceIdeal.Read.val_main_v28_eq, e0, e1, e2, e5]), (hr c).2.1.trans (by obtain ⟨e0, e1, e2, e3, e4, e5⟩ := hagree c; rw [PleBwdReferenceIdeal.Read.val_main_v29_eq, e0, e1, e2, e3, e4, e5]), (hr c).2.2⟩)
      (PleBwdReferenceIdeal.Value.run (F := Ideal) m' g')⟩

/-- The reference of `dw_ple` runs on the host alone. -/
theorem frame_DwPleReference : quiescent_DwPleReferenceIdeal := fun m ρ _ =>
  (θ_run DwPleReferenceIdeal.defs _ _).mono (fun r h => ⟨fun c => (h c).2, sem_eq_zero_of_no_sems (by decide) r.2⟩)
    (DwPleReferenceIdeal.Value.run (F := Ideal) m ρ)

/-- The results of `dw_ple` are its reference's. -/
theorem algebraic_DwPle : algebraic_DwPleIdeal_DwPleReferenceIdeal := by
  intro m g m' g' _ hagree
  exact ⟨fun c => DwPleReferenceIdeal.Read.val_main_v4 (F := Ideal) (DwPle.X0 m c) (DwPle.X1 m c), DwPle.run m g,
    (θ_run DwPleReferenceIdeal.defs _ _).mono (fun r hr c => ⟨(hr c).1.trans (by obtain ⟨e0, e1⟩ := hagree c; rw [DwPleReferenceIdeal.Read.val_main_v4_eq, e0, e1]), (hr c).2⟩)
      (DwPleReferenceIdeal.Value.run (F := Ideal) m' g')⟩

/-- The reference of `dw_ple_gate` runs on the host alone. -/
theorem frame_DwPleGateReference : quiescent_DwPleGateReferenceIdeal := fun m ρ _ =>
  (θ_run DwPleGateReferenceIdeal.defs _ _).mono (fun r h => ⟨fun c => (h c).2, sem_eq_zero_of_no_sems (by decide) r.2⟩)
    (DwPleGateReferenceIdeal.Value.run (F := Ideal) m ρ)

/-- The results of `dw_ple_gate` are its reference's. -/
theorem algebraic_DwPleGate : algebraic_DwPleGateIdeal_DwPleGateReferenceIdeal := by
  intro m g m' g' _ hagree
  exact ⟨fun c => DwPleGateReferenceIdeal.Read.val_main_v17 (F := Ideal) (DwPleGate.X0 m c) (DwPleGate.X1 m c) (DwPleGate.X2 m c), DwPleGate.run m g,
    (θ_run DwPleGateReferenceIdeal.defs _ _).mono (fun r hr c => ⟨(hr c).1.trans (by obtain ⟨e0, e1, e2⟩ := hagree c; rw [DwPleGateReferenceIdeal.Read.val_main_v17_eq, e0, e1, e2]), (hr c).2⟩)
      (DwPleGateReferenceIdeal.Value.run (F := Ideal) m' g')⟩

/-- The reference of `dh_ple` runs on the host alone. -/
theorem frame_DhPleReference : quiescent_DhPleReferenceIdeal := fun m ρ _ =>
  (θ_run DhPleReferenceIdeal.defs _ _).mono (fun r h => ⟨fun c => (h c).2.2, sem_eq_zero_of_no_sems (by decide) r.2⟩)
    (DhPleReferenceIdeal.Value.run (F := Ideal) m ρ)

/-- The results of `dh_ple` are its reference's. -/
theorem algebraic_DhPle : algebraic_DhPleIdeal_DhPleReferenceIdeal := by
  intro m g m' g' _ hagree
  exact ⟨fun c => DhPleReferenceIdeal.Read.val_main_v38 (F := Ideal) (DhPle.X0 m c) (DhPle.X1 m c) (DhPle.X2 m c) (DhPle.X3 m c) (DhPle.X4 m c), fun c => DhPleReferenceIdeal.Read.val_main_v39 (F := Ideal) (DhPle.X0 m c) (DhPle.X2 m c) (DhPle.X3 m c), DhPle.run m g,
    (θ_run DhPleReferenceIdeal.defs _ _).mono (fun r hr c => ⟨(hr c).1.trans (by obtain ⟨e0, e1, e2, e3, e4⟩ := hagree c; rw [DhPleReferenceIdeal.Read.val_main_v38_eq, e0, e1, e2, e3, e4]), (hr c).2.1.trans (by obtain ⟨e0, e1, e2, e3, e4⟩ := hagree c; rw [DhPleReferenceIdeal.Read.val_main_v39_eq, e0, e2, e3]), (hr c).2.2⟩)
      (DhPleReferenceIdeal.Value.run (F := Ideal) m' g')⟩

/-- The reference of `rms_mix` runs on the host alone. -/
theorem frame_RmsMixReference : quiescent_RmsMixReferenceIdeal := fun m ρ _ =>
  (θ_run RmsMixReferenceIdeal.defs _ _).mono (fun r h => ⟨fun c => (h c).2, sem_eq_zero_of_no_sems (by decide) r.2⟩)
    (RmsMixReferenceIdeal.Value.run (F := Ideal) m ρ)

/-- The results of `rms_mix` are its reference's. -/
theorem algebraic_RmsMix : algebraic_RmsMixIdeal_RmsMixReferenceIdeal := by
  intro m g m' g' _ hagree
  exact ⟨fun c => RmsMixReferenceIdeal.Read.val_main_v13 (F := Ideal) (RmsMix.X0 m c) (RmsMix.X1 m c), RmsMix.run m g,
    (θ_run RmsMixReferenceIdeal.defs _ _).mono (fun r hr c => ⟨(hr c).1.trans (by obtain ⟨e0, e1⟩ := hagree c; rw [RmsMixReferenceIdeal.Read.val_main_v13_eq, e0, e1]), (hr c).2⟩)
      (RmsMixReferenceIdeal.Value.run (F := Ideal) m' g')⟩

/-- The reference of `proj` runs on the host alone. -/
theorem frame_ProjFwdReference : quiescent_ProjFwdReferenceIdeal := fun m ρ _ =>
  (θ_run ProjFwdReferenceIdeal.defs _ _).mono (fun r h => ⟨fun c => (h c).2, sem_eq_zero_of_no_sems (by decide) r.2⟩)
    (ProjFwdReferenceIdeal.Value.run (F := Ideal) m ρ)

/-- The results of `proj` are its reference's. -/
theorem algebraic_ProjFwd : algebraic_ProjFwdIdeal_ProjFwdReferenceIdeal := by
  intro m g m' g' _ hagree
  exact ⟨fun c => ProjFwdReferenceIdeal.Read.val_main_v1 (F := Ideal) (ProjFwd.X0 m c) (ProjFwd.X1 m c), ProjFwd.run m g,
    (θ_run ProjFwdReferenceIdeal.defs _ _).mono (fun r hr c => ⟨(hr c).1.trans (by obtain ⟨e0, e1⟩ := hagree c; rw [ProjFwdReferenceIdeal.Read.val_main_v1_eq, e0, e1]), (hr c).2⟩)
      (ProjFwdReferenceIdeal.Value.run (F := Ideal) m' g')⟩

/-- The reference of `proj_gates` runs on the host alone. -/
theorem frame_ProjGatesReference : quiescent_ProjGatesReferenceIdeal := fun m ρ _ =>
  (θ_run ProjGatesReferenceIdeal.defs _ _).mono (fun r h => ⟨fun c => (h c).2, sem_eq_zero_of_no_sems (by decide) r.2⟩)
    (ProjGatesReferenceIdeal.Value.run (F := Ideal) m ρ)

/-- The results of `proj_gates` are its reference's. -/
theorem algebraic_ProjGates : algebraic_ProjGatesIdeal_ProjGatesReferenceIdeal := by
  intro m g m' g' _ hagree
  exact ⟨fun c => ProjGatesReferenceIdeal.Read.val_main_v8 (F := Ideal) (ProjGates.X0 m c) (ProjGates.X1 m c), ProjGates.run m g,
    (θ_run ProjGatesReferenceIdeal.defs _ _).mono (fun r hr c => ⟨(hr c).1.trans (by obtain ⟨e0, e1⟩ := hagree c; rw [ProjGatesReferenceIdeal.Read.val_main_v8_eq, e0, e1]), (hr c).2⟩)
      (ProjGatesReferenceIdeal.Value.run (F := Ideal) m' g')⟩

/-- The reference of `glu` runs on the host alone. -/
theorem frame_GluReference : quiescent_GluReferenceIdeal := fun m ρ _ =>
  (θ_run GluReferenceIdeal.defs _ _).mono (fun r h => ⟨fun c => (h c).2.2, sem_eq_zero_of_no_sems (by decide) r.2⟩)
    (GluReferenceIdeal.Value.run (F := Ideal) m ρ)

/-- The results of `glu` are its reference's. -/
theorem algebraic_Glu : algebraic_GluIdeal_GluReferenceIdeal := by
  intro m g m' g' _ hagree
  exact ⟨fun c => GluReferenceIdeal.Read.val_main_v10 (F := Ideal) (Glu.X0 m c), fun c => GluReferenceIdeal.Read.val_main_v11 (F := Ideal) (Glu.X0 m c), Glu.run m g,
    (θ_run GluReferenceIdeal.defs _ _).mono (fun r hr c => ⟨(hr c).1.trans (by have e0 := hagree c; rw [GluReferenceIdeal.Read.val_main_v10_eq, e0]), (hr c).2.1.trans (by have e0 := hagree c; rw [GluReferenceIdeal.Read.val_main_v11_eq, e0]), (hr c).2.2⟩)
      (GluReferenceIdeal.Value.run (F := Ideal) m' g')⟩

/-- The reference of `merge_fwd` runs on the host alone. -/
theorem frame_MergeFwdReference : quiescent_MergeFwdReferenceIdeal := fun m ρ _ =>
  (θ_run MergeFwdReferenceIdeal.defs _ _).mono (fun r h => ⟨fun c => (h c).2, sem_eq_zero_of_no_sems (by decide) r.2⟩)
    (MergeFwdReferenceIdeal.Value.run (F := Ideal) m ρ)

/-- The results of `merge_fwd` are its reference's. -/
theorem algebraic_MergeFwd : algebraic_MergeFwdIdeal_MergeFwdReferenceIdeal := by
  intro m g m' g' _ hagree
  exact ⟨fun c => MergeFwdReferenceIdeal.Read.val_main_v12 (F := Ideal) (MergeFwd.X0 m c) (MergeFwd.X1 m c) (MergeFwd.X2 m c), MergeFwd.run m g,
    (θ_run MergeFwdReferenceIdeal.defs _ _).mono (fun r hr c => ⟨(hr c).1.trans (by obtain ⟨e0, e1, e2⟩ := hagree c; rw [MergeFwdReferenceIdeal.Read.val_main_v12_eq, e0, e1, e2]), (hr c).2⟩)
      (MergeFwdReferenceIdeal.Value.run (F := Ideal) m' g')⟩

/-- The reference of `out_proj` runs on the host alone. -/
theorem frame_OutProjReference : quiescent_OutProjReferenceIdeal := fun m ρ _ =>
  (θ_run OutProjReferenceIdeal.defs _ _).mono (fun r h => ⟨fun c => (h c).2.2, sem_eq_zero_of_no_sems (by decide) r.2⟩)
    (OutProjReferenceIdeal.Value.run (F := Ideal) m ρ)

/-- The results of `out_proj` are its reference's. -/
theorem algebraic_OutProj : algebraic_OutProjIdeal_OutProjReferenceIdeal := by
  intro m g m' g' _ hagree
  exact ⟨fun c => OutProjReferenceIdeal.Read.val_main_v1 (F := Ideal) (OutProj.X0 m c) (OutProj.X1 m c) (OutProj.X2 m c), fun c => OutProjReferenceIdeal.Read.val_main_v15 (F := Ideal) (OutProj.X0 m c) (OutProj.X1 m c) (OutProj.X2 m c) (OutProj.X3 m c), OutProj.run m g,
    (θ_run OutProjReferenceIdeal.defs _ _).mono (fun r hr c => ⟨(hr c).1.trans (by obtain ⟨e0, e1, e2, e3⟩ := hagree c; rw [OutProjReferenceIdeal.Read.val_main_v1_eq, e0, e1, e2]), (hr c).2.1.trans (by obtain ⟨e0, e1, e2, e3⟩ := hagree c; rw [OutProjReferenceIdeal.Read.val_main_v15_eq, e0, e1, e2, e3]), (hr c).2.2⟩)
      (OutProjReferenceIdeal.Value.run (F := Ideal) m' g')⟩

/-- The reference of `mlp_up` runs on the host alone. -/
theorem frame_MlpUpReference : quiescent_MlpUpReferenceIdeal := fun m ρ _ =>
  (θ_run MlpUpReferenceIdeal.defs _ _).mono (fun r h => ⟨fun c => (h c).2, sem_eq_zero_of_no_sems (by decide) r.2⟩)
    (MlpUpReferenceIdeal.Value.run (F := Ideal) m ρ)

/-- The results of `mlp_up` are its reference's. -/
theorem algebraic_MlpUp : algebraic_MlpUpIdeal_MlpUpReferenceIdeal := by
  intro m g m' g' _ hagree
  exact ⟨fun c => MlpUpReferenceIdeal.Read.val_main_v3 (F := Ideal) (MlpUp.X0 m c) (MlpUp.X1 m c), MlpUp.run m g,
    (θ_run MlpUpReferenceIdeal.defs _ _).mono (fun r hr c => ⟨(hr c).1.trans (by obtain ⟨e0, e1⟩ := hagree c; rw [MlpUpReferenceIdeal.Read.val_main_v3_eq, e0, e1]), (hr c).2⟩)
      (MlpUpReferenceIdeal.Value.run (F := Ideal) m' g')⟩

/-- The reference of `mlp_down` runs on the host alone. -/
theorem frame_MlpDownReference : quiescent_MlpDownReferenceIdeal := fun m ρ _ =>
  (θ_run MlpDownReferenceIdeal.defs _ _).mono (fun r h => ⟨fun c => (h c).2.2, sem_eq_zero_of_no_sems (by decide) r.2⟩)
    (MlpDownReferenceIdeal.Value.run (F := Ideal) m ρ)

/-- The results of `mlp_down` are its reference's. -/
theorem algebraic_MlpDown : algebraic_MlpDownIdeal_MlpDownReferenceIdeal := by
  intro m g m' g' _ hagree
  exact ⟨fun c => MlpDownReferenceIdeal.Read.val_main_v1 (F := Ideal) (MlpDown.X0 m c) (MlpDown.X1 m c) (MlpDown.X2 m c), fun c => MlpDownReferenceIdeal.Read.val_main_v15 (F := Ideal) (MlpDown.X0 m c) (MlpDown.X1 m c) (MlpDown.X2 m c) (MlpDown.X3 m c), MlpDown.run m g,
    (θ_run MlpDownReferenceIdeal.defs _ _).mono (fun r hr c => ⟨(hr c).1.trans (by obtain ⟨e0, e1, e2, e3⟩ := hagree c; rw [MlpDownReferenceIdeal.Read.val_main_v1_eq, e0, e1, e2]), (hr c).2.1.trans (by obtain ⟨e0, e1, e2, e3⟩ := hagree c; rw [MlpDownReferenceIdeal.Read.val_main_v15_eq, e0, e1, e2, e3]), (hr c).2.2⟩)
      (MlpDownReferenceIdeal.Value.run (F := Ideal) m' g')⟩

/-- The reference of `ple_gate` runs on the host alone. -/
theorem frame_PleGateReference : quiescent_PleGateReferenceIdeal := fun m ρ _ =>
  (θ_run PleGateReferenceIdeal.defs _ _).mono (fun r h => ⟨fun c => (h c).2, sem_eq_zero_of_no_sems (by decide) r.2⟩)
    (PleGateReferenceIdeal.Value.run (F := Ideal) m ρ)

/-- The results of `ple_gate` are its reference's. -/
theorem algebraic_PleGate : algebraic_PleGateIdeal_PleGateReferenceIdeal := by
  intro m g m' g' _ hagree
  exact ⟨fun c => PleGateReferenceIdeal.Read.val_main_v0 (F := Ideal) (PleGate.X0 m c) (PleGate.X1 m c), PleGate.run m g,
    (θ_run PleGateReferenceIdeal.defs _ _).mono (fun r hr c => ⟨(hr c).1.trans (by obtain ⟨e0, e1⟩ := hagree c; rw [PleGateReferenceIdeal.Read.val_main_v0_eq, e0, e1]), (hr c).2⟩)
      (PleGateReferenceIdeal.Value.run (F := Ideal) m' g')⟩

/-- The reference of `ple` runs on the host alone. -/
theorem frame_PleReference : quiescent_PleReferenceIdeal := fun m ρ _ =>
  (θ_run PleReferenceIdeal.defs _ _).mono (fun r h => ⟨fun c => (h c).2, sem_eq_zero_of_no_sems (by decide) r.2⟩)
    (PleReferenceIdeal.Value.run (F := Ideal) m ρ)

/-- The results of `ple` are its reference's. -/
theorem algebraic_Ple : algebraic_PleIdeal_PleReferenceIdeal := by
  intro m g m' g' _ hagree
  exact ⟨fun c => PleReferenceIdeal.Read.val_main_v8 (F := Ideal) (Ple.X0 m c) (Ple.X1 m c) (Ple.X2 m c) (Ple.X3 m c), Ple.run m g,
    (θ_run PleReferenceIdeal.defs _ _).mono (fun r hr c => ⟨(hr c).1.trans (by obtain ⟨e0, e1, e2, e3⟩ := hagree c; rw [PleReferenceIdeal.Read.val_main_v8_eq, e0, e1, e2, e3]), (hr c).2⟩)
      (PleReferenceIdeal.Value.run (F := Ideal) m' g')⟩

/-- The reference of `adamw` runs on the host alone. -/
theorem frame_AdamInReference : quiescent_AdamInReferenceIdeal := fun m ρ _ =>
  (θ_run AdamInReferenceIdeal.defs _ _).mono (fun r h => ⟨fun c => (h c).2.2.2, sem_eq_zero_of_no_sems (by decide) r.2⟩)
    (AdamInReferenceIdeal.Value.run (F := Ideal) m ρ)

/-- The results of `adamw` are its reference's. -/
theorem algebraic_AdamIn : algebraic_AdamInIdeal_AdamInReferenceIdeal := by
  intro m g m' g' _ hagree
  exact ⟨fun c => AdamInReferenceIdeal.Read.val_main_v23 (F := Ideal) (AdamIn.X0 m c) (AdamIn.X1 m c) (AdamIn.X2 m c) (AdamIn.X3 m c), fun c => AdamInReferenceIdeal.Read.val_main_v4 (F := Ideal) (AdamIn.X1 m c) (AdamIn.X2 m c), fun c => AdamInReferenceIdeal.Read.val_main_v10 (F := Ideal) (AdamIn.X1 m c) (AdamIn.X3 m c), AdamIn.run m g,
    (θ_run AdamInReferenceIdeal.defs _ _).mono (fun r hr c => ⟨(hr c).1.trans (by obtain ⟨e0, e1, e2, e3⟩ := hagree c; rw [AdamInReferenceIdeal.Read.val_main_v23_eq, e0, e1, e2, e3]), (hr c).2.1.trans (by obtain ⟨e0, e1, e2, e3⟩ := hagree c; rw [AdamInReferenceIdeal.Read.val_main_v4_eq, e1, e2]), (hr c).2.2.1.trans (by obtain ⟨e0, e1, e2, e3⟩ := hagree c; rw [AdamInReferenceIdeal.Read.val_main_v10_eq, e1, e3]), (hr c).2.2.2⟩)
      (AdamInReferenceIdeal.Value.run (F := Ideal) m' g')⟩

/-- The reference of `adamw` runs on the host alone. -/
theorem frame_AdamBranchReference : quiescent_AdamBranchReferenceIdeal := fun m ρ _ =>
  (θ_run AdamBranchReferenceIdeal.defs _ _).mono (fun r h => ⟨fun c => (h c).2.2.2, sem_eq_zero_of_no_sems (by decide) r.2⟩)
    (AdamBranchReferenceIdeal.Value.run (F := Ideal) m ρ)

/-- The results of `adamw` are its reference's. -/
theorem algebraic_AdamBranch : algebraic_AdamBranchIdeal_AdamBranchReferenceIdeal := by
  intro m g m' g' _ hagree
  exact ⟨fun c => AdamBranchReferenceIdeal.Read.val_main_v23 (F := Ideal) (AdamBranch.X0 m c) (AdamBranch.X1 m c) (AdamBranch.X2 m c) (AdamBranch.X3 m c), fun c => AdamBranchReferenceIdeal.Read.val_main_v4 (F := Ideal) (AdamBranch.X1 m c) (AdamBranch.X2 m c), fun c => AdamBranchReferenceIdeal.Read.val_main_v10 (F := Ideal) (AdamBranch.X1 m c) (AdamBranch.X3 m c), AdamBranch.run m g,
    (θ_run AdamBranchReferenceIdeal.defs _ _).mono (fun r hr c => ⟨(hr c).1.trans (by obtain ⟨e0, e1, e2, e3⟩ := hagree c; rw [AdamBranchReferenceIdeal.Read.val_main_v23_eq, e0, e1, e2, e3]), (hr c).2.1.trans (by obtain ⟨e0, e1, e2, e3⟩ := hagree c; rw [AdamBranchReferenceIdeal.Read.val_main_v4_eq, e1, e2]), (hr c).2.2.1.trans (by obtain ⟨e0, e1, e2, e3⟩ := hagree c; rw [AdamBranchReferenceIdeal.Read.val_main_v10_eq, e1, e3]), (hr c).2.2.2⟩)
      (AdamBranchReferenceIdeal.Value.run (F := Ideal) m' g')⟩

/-- The reference of `adamw` runs on the host alone. -/
theorem frame_AdamOutReference : quiescent_AdamOutReferenceIdeal := fun m ρ _ =>
  (θ_run AdamOutReferenceIdeal.defs _ _).mono (fun r h => ⟨fun c => (h c).2.2.2, sem_eq_zero_of_no_sems (by decide) r.2⟩)
    (AdamOutReferenceIdeal.Value.run (F := Ideal) m ρ)

/-- The results of `adamw` are its reference's. -/
theorem algebraic_AdamOut : algebraic_AdamOutIdeal_AdamOutReferenceIdeal := by
  intro m g m' g' _ hagree
  exact ⟨fun c => AdamOutReferenceIdeal.Read.val_main_v23 (F := Ideal) (AdamOut.X0 m c) (AdamOut.X1 m c) (AdamOut.X2 m c) (AdamOut.X3 m c), fun c => AdamOutReferenceIdeal.Read.val_main_v4 (F := Ideal) (AdamOut.X1 m c) (AdamOut.X2 m c), fun c => AdamOutReferenceIdeal.Read.val_main_v10 (F := Ideal) (AdamOut.X1 m c) (AdamOut.X3 m c), AdamOut.run m g,
    (θ_run AdamOutReferenceIdeal.defs _ _).mono (fun r hr c => ⟨(hr c).1.trans (by obtain ⟨e0, e1, e2, e3⟩ := hagree c; rw [AdamOutReferenceIdeal.Read.val_main_v23_eq, e0, e1, e2, e3]), (hr c).2.1.trans (by obtain ⟨e0, e1, e2, e3⟩ := hagree c; rw [AdamOutReferenceIdeal.Read.val_main_v4_eq, e1, e2]), (hr c).2.2.1.trans (by obtain ⟨e0, e1, e2, e3⟩ := hagree c; rw [AdamOutReferenceIdeal.Read.val_main_v10_eq, e1, e3]), (hr c).2.2.2⟩)
      (AdamOutReferenceIdeal.Value.run (F := Ideal) m' g')⟩

/-- The reference of `adamw` runs on the host alone. -/
theorem frame_AdamUpReference : quiescent_AdamUpReferenceIdeal := fun m ρ _ =>
  (θ_run AdamUpReferenceIdeal.defs _ _).mono (fun r h => ⟨fun c => (h c).2.2.2, sem_eq_zero_of_no_sems (by decide) r.2⟩)
    (AdamUpReferenceIdeal.Value.run (F := Ideal) m ρ)

/-- The results of `adamw` are its reference's. -/
theorem algebraic_AdamUp : algebraic_AdamUpIdeal_AdamUpReferenceIdeal := by
  intro m g m' g' _ hagree
  exact ⟨fun c => AdamUpReferenceIdeal.Read.val_main_v23 (F := Ideal) (AdamUp.X0 m c) (AdamUp.X1 m c) (AdamUp.X2 m c) (AdamUp.X3 m c), fun c => AdamUpReferenceIdeal.Read.val_main_v4 (F := Ideal) (AdamUp.X1 m c) (AdamUp.X2 m c), fun c => AdamUpReferenceIdeal.Read.val_main_v10 (F := Ideal) (AdamUp.X1 m c) (AdamUp.X3 m c), AdamUp.run m g,
    (θ_run AdamUpReferenceIdeal.defs _ _).mono (fun r hr c => ⟨(hr c).1.trans (by obtain ⟨e0, e1, e2, e3⟩ := hagree c; rw [AdamUpReferenceIdeal.Read.val_main_v23_eq, e0, e1, e2, e3]), (hr c).2.1.trans (by obtain ⟨e0, e1, e2, e3⟩ := hagree c; rw [AdamUpReferenceIdeal.Read.val_main_v4_eq, e1, e2]), (hr c).2.2.1.trans (by obtain ⟨e0, e1, e2, e3⟩ := hagree c; rw [AdamUpReferenceIdeal.Read.val_main_v10_eq, e1, e3]), (hr c).2.2.2⟩)
      (AdamUpReferenceIdeal.Value.run (F := Ideal) m' g')⟩

/-- The reference of `adamw` runs on the host alone. -/
theorem frame_AdamPleReference : quiescent_AdamPleReferenceIdeal := fun m ρ _ =>
  (θ_run AdamPleReferenceIdeal.defs _ _).mono (fun r h => ⟨fun c => (h c).2.2.2, sem_eq_zero_of_no_sems (by decide) r.2⟩)
    (AdamPleReferenceIdeal.Value.run (F := Ideal) m ρ)

/-- The results of `adamw` are its reference's. -/
theorem algebraic_AdamPle : algebraic_AdamPleIdeal_AdamPleReferenceIdeal := by
  intro m g m' g' _ hagree
  exact ⟨fun c => AdamPleReferenceIdeal.Read.val_main_v23 (F := Ideal) (AdamPle.X0 m c) (AdamPle.X1 m c) (AdamPle.X2 m c) (AdamPle.X3 m c), fun c => AdamPleReferenceIdeal.Read.val_main_v4 (F := Ideal) (AdamPle.X1 m c) (AdamPle.X2 m c), fun c => AdamPleReferenceIdeal.Read.val_main_v10 (F := Ideal) (AdamPle.X1 m c) (AdamPle.X3 m c), AdamPle.run m g,
    (θ_run AdamPleReferenceIdeal.defs _ _).mono (fun r hr c => ⟨(hr c).1.trans (by obtain ⟨e0, e1, e2, e3⟩ := hagree c; rw [AdamPleReferenceIdeal.Read.val_main_v23_eq, e0, e1, e2, e3]), (hr c).2.1.trans (by obtain ⟨e0, e1, e2, e3⟩ := hagree c; rw [AdamPleReferenceIdeal.Read.val_main_v4_eq, e1, e2]), (hr c).2.2.1.trans (by obtain ⟨e0, e1, e2, e3⟩ := hagree c; rw [AdamPleReferenceIdeal.Read.val_main_v10_eq, e1, e3]), (hr c).2.2.2⟩)
      (AdamPleReferenceIdeal.Value.run (F := Ideal) m' g')⟩

/-- The reference of `glu_bwd` runs on the host alone. -/
theorem frame_GluBwdReference : quiescent_GluBwdReferenceIdeal := fun m ρ _ =>
  (θ_run GluBwdReferenceIdeal.defs _ _).mono (fun r h => ⟨fun c => (h c).2, sem_eq_zero_of_no_sems (by decide) r.2⟩)
    (GluBwdReferenceIdeal.Value.run (F := Ideal) m ρ)

/-- The results of `glu_bwd` are its reference's. -/
theorem algebraic_GluBwd : algebraic_GluBwdIdeal_GluBwdReferenceIdeal := by
  intro m g m' g' _ hagree
  exact ⟨fun c => GluBwdReferenceIdeal.Read.val_main_v36 (F := Ideal) (GluBwd.X0 m c) (GluBwd.X1 m c) (GluBwd.X2 m c) (GluBwd.X3 m c) (GluBwd.X4 m c) (GluBwd.X5 m c), GluBwd.run m g,
    (θ_run GluBwdReferenceIdeal.defs _ _).mono (fun r hr c => ⟨(hr c).1.trans (by obtain ⟨e0, e1, e2, e3, e4, e5⟩ := hagree c; rw [GluBwdReferenceIdeal.Read.val_main_v36_eq, e0, e1, e2, e3, e4, e5]), (hr c).2⟩)
      (GluBwdReferenceIdeal.Value.run (F := Ideal) m' g')⟩

/-- The reference of `loss_head` runs on the host alone. -/
theorem frame_LossHeadReference : quiescent_LossHeadReferenceIdeal := fun m ρ _ =>
  (θ_run LossHeadReferenceIdeal.defs _ _).mono (fun r h => ⟨fun c => (h c).2.2.2, sem_eq_zero_of_no_sems (by decide) r.2⟩)
    (LossHeadReferenceIdeal.Value.run (F := Ideal) m ρ)

/-- The results of `loss_head` are its reference's. -/
theorem algebraic_LossHead : algebraic_LossHeadIdeal_LossHeadReferenceIdeal := by
  intro m g m' g' _ hagree
  exact ⟨fun c => LossHeadReferenceIdeal.Read.val_main_v50 (F := Ideal) (LossHead.X0 m c) (LossHead.X1 m c) (LossHead.X2 m c), fun c => LossHeadReferenceIdeal.Read.val_main_v36 (F := Ideal) (LossHead.X0 m c) (LossHead.X1 m c) (LossHead.X2 m c), fun c => LossHeadReferenceIdeal.Read.val_main_v24 (F := Ideal) (LossHead.X0 m c) (LossHead.X1 m c) (LossHead.X2 m c), LossHead.run m g,
    (θ_run LossHeadReferenceIdeal.defs _ _).mono (fun r hr c => ⟨(hr c).1.trans (by obtain ⟨e0, e1, e2⟩ := hagree c; rw [LossHeadReferenceIdeal.Read.val_main_v50_eq, e0, e1, e2]), (hr c).2.1.trans (by obtain ⟨e0, e1, e2⟩ := hagree c; rw [LossHeadReferenceIdeal.Read.val_main_v36_eq, e0, e1, e2]), (hr c).2.2.1.trans (by obtain ⟨e0, e1, e2⟩ := hagree c; rw [LossHeadReferenceIdeal.Read.val_main_v24_eq, e0, e1, e2]), (hr c).2.2.2⟩)
      (LossHeadReferenceIdeal.Value.run (F := Ideal) m' g')⟩

/-- The reference of `adamw_small` runs on the host alone. -/
theorem frame_AdamShardedReference : quiescent_AdamShardedReferenceIdeal := fun m ρ _ =>
  (θ_run AdamShardedReferenceIdeal.defs _ _).mono (fun r h => ⟨fun c => (h c).2.2.2.2.2.2, sem_eq_zero_of_no_sems (by decide) r.2⟩)
    (AdamShardedReferenceIdeal.Value.run (F := Ideal) m ρ)

/-- The results of `adamw_small` are its reference's. -/
theorem algebraic_AdamSharded : algebraic_AdamShardedIdeal_AdamShardedReferenceIdeal := by
  intro m g m' g' _ hagree
  exact ⟨fun c => AdamShardedReferenceIdeal.Read.val_main_v23 (F := Ideal) (AdamSharded.X0 m c) (AdamSharded.X2 m c) (AdamSharded.X4 m c) (AdamSharded.X6 m c), fun c => AdamShardedReferenceIdeal.Read.val_main_v47 (F := Ideal) (AdamSharded.X1 m c) (AdamSharded.X3 m c) (AdamSharded.X5 m c) (AdamSharded.X7 m c), fun c => AdamShardedReferenceIdeal.Read.val_main_v4 (F := Ideal) (AdamSharded.X2 m c) (AdamSharded.X4 m c), fun c => AdamShardedReferenceIdeal.Read.val_main_v28 (F := Ideal) (AdamSharded.X3 m c) (AdamSharded.X5 m c), fun c => AdamShardedReferenceIdeal.Read.val_main_v10 (F := Ideal) (AdamSharded.X2 m c) (AdamSharded.X6 m c), fun c => AdamShardedReferenceIdeal.Read.val_main_v34 (F := Ideal) (AdamSharded.X3 m c) (AdamSharded.X7 m c), AdamSharded.run m g,
    (θ_run AdamShardedReferenceIdeal.defs _ _).mono (fun r hr c => ⟨(hr c).1.trans (by obtain ⟨e0, e1, e2, e3, e4, e5, e6, e7⟩ := hagree c; rw [AdamShardedReferenceIdeal.Read.val_main_v23_eq, e0, e2, e4, e6]), (hr c).2.1.trans (by obtain ⟨e0, e1, e2, e3, e4, e5, e6, e7⟩ := hagree c; rw [AdamShardedReferenceIdeal.Read.val_main_v47_eq, e1, e3, e5, e7]), (hr c).2.2.1.trans (by obtain ⟨e0, e1, e2, e3, e4, e5, e6, e7⟩ := hagree c; rw [AdamShardedReferenceIdeal.Read.val_main_v4_eq, e2, e4]), (hr c).2.2.2.1.trans (by obtain ⟨e0, e1, e2, e3, e4, e5, e6, e7⟩ := hagree c; rw [AdamShardedReferenceIdeal.Read.val_main_v28_eq, e3, e5]), (hr c).2.2.2.2.1.trans (by obtain ⟨e0, e1, e2, e3, e4, e5, e6, e7⟩ := hagree c; rw [AdamShardedReferenceIdeal.Read.val_main_v10_eq, e2, e6]), (hr c).2.2.2.2.2.1.trans (by obtain ⟨e0, e1, e2, e3, e4, e5, e6, e7⟩ := hagree c; rw [AdamShardedReferenceIdeal.Read.val_main_v34_eq, e3, e7]), (hr c).2.2.2.2.2.2⟩)
      (AdamShardedReferenceIdeal.Value.run (F := Ideal) m' g')⟩

/-- The reference of `adamw_small` runs on the host alone. -/
theorem frame_AdamSmallReference : quiescent_AdamSmallReferenceIdeal := fun m ρ _ =>
  (θ_run AdamSmallReferenceIdeal.defs _ _).mono (fun r h => ⟨fun c => (h c).2.2.2.2.2.2.2.2.2.2.2.2.2.2.2.2.2.2.2.2.2.2.2.2.2.2.2.2.2.2.2.2.2.2.2.2.2.2.2, sem_eq_zero_of_no_sems (by decide) r.2⟩)
    (AdamSmallReferenceIdeal.Value.run (F := Ideal) m ρ)

/-- The results of `adamw_small` are its reference's. -/
theorem algebraic_AdamSmall : algebraic_AdamSmallIdeal_AdamSmallReferenceIdeal := by
  intro m g m' g' _ hagree
  exact ⟨fun c => AdamSmallReferenceIdeal.Read.val_main_v23 (F := Ideal) (AdamSmall.X0 m c) (AdamSmall.X13 m c) (AdamSmall.X26 m c) (AdamSmall.X39 m c), fun c => AdamSmallReferenceIdeal.Read.val_main_v47 (F := Ideal) (AdamSmall.X1 m c) (AdamSmall.X14 m c) (AdamSmall.X27 m c) (AdamSmall.X40 m c), fun c => AdamSmallReferenceIdeal.Read.val_main_v71 (F := Ideal) (AdamSmall.X2 m c) (AdamSmall.X15 m c) (AdamSmall.X28 m c) (AdamSmall.X41 m c), fun c => AdamSmallReferenceIdeal.Read.val_main_v95 (F := Ideal) (AdamSmall.X3 m c) (AdamSmall.X16 m c) (AdamSmall.X29 m c) (AdamSmall.X42 m c), fun c => AdamSmallReferenceIdeal.Read.val_main_v119 (F := Ideal) (AdamSmall.X4 m c) (AdamSmall.X17 m c) (AdamSmall.X30 m c) (AdamSmall.X43 m c), fun c => AdamSmallReferenceIdeal.Read.val_main_v143 (F := Ideal) (AdamSmall.X5 m c) (AdamSmall.X18 m c) (AdamSmall.X31 m c) (AdamSmall.X44 m c), fun c => AdamSmallReferenceIdeal.Read.val_main_v167 (F := Ideal) (AdamSmall.X6 m c) (AdamSmall.X19 m c) (AdamSmall.X32 m c) (AdamSmall.X45 m c), fun c => AdamSmallReferenceIdeal.Read.val_main_v191 (F := Ideal) (AdamSmall.X7 m c) (AdamSmall.X20 m c) (AdamSmall.X33 m c) (AdamSmall.X46 m c), fun c => AdamSmallReferenceIdeal.Read.val_main_v215 (F := Ideal) (AdamSmall.X8 m c) (AdamSmall.X21 m c) (AdamSmall.X34 m c) (AdamSmall.X47 m c), fun c => AdamSmallReferenceIdeal.Read.val_main_v239 (F := Ideal) (AdamSmall.X9 m c) (AdamSmall.X22 m c) (AdamSmall.X35 m c) (AdamSmall.X48 m c), fun c => AdamSmallReferenceIdeal.Read.val_main_v263 (F := Ideal) (AdamSmall.X10 m c) (AdamSmall.X23 m c) (AdamSmall.X36 m c) (AdamSmall.X49 m c), fun c => AdamSmallReferenceIdeal.Read.val_main_v287 (F := Ideal) (AdamSmall.X11 m c) (AdamSmall.X24 m c) (AdamSmall.X37 m c) (AdamSmall.X50 m c), fun c => AdamSmallReferenceIdeal.Read.val_main_v311 (F := Ideal) (AdamSmall.X12 m c) (AdamSmall.X25 m c) (AdamSmall.X38 m c) (AdamSmall.X51 m c), fun c => AdamSmallReferenceIdeal.Read.val_main_v4 (F := Ideal) (AdamSmall.X13 m c) (AdamSmall.X26 m c), fun c => AdamSmallReferenceIdeal.Read.val_main_v28 (F := Ideal) (AdamSmall.X14 m c) (AdamSmall.X27 m c), fun c => AdamSmallReferenceIdeal.Read.val_main_v52 (F := Ideal) (AdamSmall.X15 m c) (AdamSmall.X28 m c), fun c => AdamSmallReferenceIdeal.Read.val_main_v76 (F := Ideal) (AdamSmall.X16 m c) (AdamSmall.X29 m c), fun c => AdamSmallReferenceIdeal.Read.val_main_v100 (F := Ideal) (AdamSmall.X17 m c) (AdamSmall.X30 m c), fun c => AdamSmallReferenceIdeal.Read.val_main_v124 (F := Ideal) (AdamSmall.X18 m c) (AdamSmall.X31 m c), fun c => AdamSmallReferenceIdeal.Read.val_main_v148 (F := Ideal) (AdamSmall.X19 m c) (AdamSmall.X32 m c), fun c => AdamSmallReferenceIdeal.Read.val_main_v172 (F := Ideal) (AdamSmall.X20 m c) (AdamSmall.X33 m c), fun c => AdamSmallReferenceIdeal.Read.val_main_v196 (F := Ideal) (AdamSmall.X21 m c) (AdamSmall.X34 m c), fun c => AdamSmallReferenceIdeal.Read.val_main_v220 (F := Ideal) (AdamSmall.X22 m c) (AdamSmall.X35 m c), fun c => AdamSmallReferenceIdeal.Read.val_main_v244 (F := Ideal) (AdamSmall.X23 m c) (AdamSmall.X36 m c), fun c => AdamSmallReferenceIdeal.Read.val_main_v268 (F := Ideal) (AdamSmall.X24 m c) (AdamSmall.X37 m c), fun c => AdamSmallReferenceIdeal.Read.val_main_v292 (F := Ideal) (AdamSmall.X25 m c) (AdamSmall.X38 m c), fun c => AdamSmallReferenceIdeal.Read.val_main_v10 (F := Ideal) (AdamSmall.X13 m c) (AdamSmall.X39 m c), fun c => AdamSmallReferenceIdeal.Read.val_main_v34 (F := Ideal) (AdamSmall.X14 m c) (AdamSmall.X40 m c), fun c => AdamSmallReferenceIdeal.Read.val_main_v58 (F := Ideal) (AdamSmall.X15 m c) (AdamSmall.X41 m c), fun c => AdamSmallReferenceIdeal.Read.val_main_v82 (F := Ideal) (AdamSmall.X16 m c) (AdamSmall.X42 m c), fun c => AdamSmallReferenceIdeal.Read.val_main_v106 (F := Ideal) (AdamSmall.X17 m c) (AdamSmall.X43 m c), fun c => AdamSmallReferenceIdeal.Read.val_main_v130 (F := Ideal) (AdamSmall.X18 m c) (AdamSmall.X44 m c), fun c => AdamSmallReferenceIdeal.Read.val_main_v154 (F := Ideal) (AdamSmall.X19 m c) (AdamSmall.X45 m c), fun c => AdamSmallReferenceIdeal.Read.val_main_v178 (F := Ideal) (AdamSmall.X20 m c) (AdamSmall.X46 m c), fun c => AdamSmallReferenceIdeal.Read.val_main_v202 (F := Ideal) (AdamSmall.X21 m c) (AdamSmall.X47 m c), fun c => AdamSmallReferenceIdeal.Read.val_main_v226 (F := Ideal) (AdamSmall.X22 m c) (AdamSmall.X48 m c), fun c => AdamSmallReferenceIdeal.Read.val_main_v250 (F := Ideal) (AdamSmall.X23 m c) (AdamSmall.X49 m c), fun c => AdamSmallReferenceIdeal.Read.val_main_v274 (F := Ideal) (AdamSmall.X24 m c) (AdamSmall.X50 m c), fun c => AdamSmallReferenceIdeal.Read.val_main_v298 (F := Ideal) (AdamSmall.X25 m c) (AdamSmall.X51 m c), AdamSmall.run m g,
    (θ_run AdamSmallReferenceIdeal.defs _ _).mono (fun r hr c => by
      obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51⟩ := hagree c
      exact ⟨(hr c).1.trans (by rw [AdamSmallReferenceIdeal.Read.val_main_v23_eq]; exact congr (congr (congrArg₂ _ e0 e13) e26) e39), (hr c).2.1.trans (by rw [AdamSmallReferenceIdeal.Read.val_main_v47_eq]; exact congr (congr (congrArg₂ _ e1 e14) e27) e40), (hr c).2.2.1.trans (by rw [AdamSmallReferenceIdeal.Read.val_main_v71_eq]; exact congr (congr (congrArg₂ _ e2 e15) e28) e41), (hr c).2.2.2.1.trans (by rw [AdamSmallReferenceIdeal.Read.val_main_v95_eq]; exact congr (congr (congrArg₂ _ e3 e16) e29) e42), (hr c).2.2.2.2.1.trans (by rw [AdamSmallReferenceIdeal.Read.val_main_v119_eq]; exact congr (congr (congrArg₂ _ e4 e17) e30) e43), (hr c).2.2.2.2.2.1.trans (by rw [AdamSmallReferenceIdeal.Read.val_main_v143_eq]; exact congr (congr (congrArg₂ _ e5 e18) e31) e44), (hr c).2.2.2.2.2.2.1.trans (by rw [AdamSmallReferenceIdeal.Read.val_main_v167_eq]; exact congr (congr (congrArg₂ _ e6 e19) e32) e45), (hr c).2.2.2.2.2.2.2.1.trans (by rw [AdamSmallReferenceIdeal.Read.val_main_v191_eq]; exact congr (congr (congrArg₂ _ e7 e20) e33) e46), (hr c).2.2.2.2.2.2.2.2.1.trans (by rw [AdamSmallReferenceIdeal.Read.val_main_v215_eq]; exact congr (congr (congrArg₂ _ e8 e21) e34) e47), (hr c).2.2.2.2.2.2.2.2.2.1.trans (by rw [AdamSmallReferenceIdeal.Read.val_main_v239_eq]; exact congr (congr (congrArg₂ _ e9 e22) e35) e48), (hr c).2.2.2.2.2.2.2.2.2.2.1.trans (by rw [AdamSmallReferenceIdeal.Read.val_main_v263_eq]; exact congr (congr (congrArg₂ _ e10 e23) e36) e49), (hr c).2.2.2.2.2.2.2.2.2.2.2.1.trans (by rw [AdamSmallReferenceIdeal.Read.val_main_v287_eq]; exact congr (congr (congrArg₂ _ e11 e24) e37) e50), (hr c).2.2.2.2.2.2.2.2.2.2.2.2.1.trans (by rw [AdamSmallReferenceIdeal.Read.val_main_v311_eq]; exact congr (congr (congrArg₂ _ e12 e25) e38) e51), (hr c).2.2.2.2.2.2.2.2.2.2.2.2.2.1.trans (by rw [AdamSmallReferenceIdeal.Read.val_main_v4_eq]; exact congrArg₂ _ e13 e26), (hr c).2.2.2.2.2.2.2.2.2.2.2.2.2.2.1.trans (by rw [AdamSmallReferenceIdeal.Read.val_main_v28_eq]; exact congrArg₂ _ e14 e27), (hr c).2.2.2.2.2.2.2.2.2.2.2.2.2.2.2.1.trans (by rw [AdamSmallReferenceIdeal.Read.val_main_v52_eq]; exact congrArg₂ _ e15 e28), (hr c).2.2.2.2.2.2.2.2.2.2.2.2.2.2.2.2.1.trans (by rw [AdamSmallReferenceIdeal.Read.val_main_v76_eq]; exact congrArg₂ _ e16 e29), (hr c).2.2.2.2.2.2.2.2.2.2.2.2.2.2.2.2.2.1.trans (by rw [AdamSmallReferenceIdeal.Read.val_main_v100_eq]; exact congrArg₂ _ e17 e30), (hr c).2.2.2.2.2.2.2.2.2.2.2.2.2.2.2.2.2.2.1.trans (by rw [AdamSmallReferenceIdeal.Read.val_main_v124_eq]; exact congrArg₂ _ e18 e31), (hr c).2.2.2.2.2.2.2.2.2.2.2.2.2.2.2.2.2.2.2.1.trans (by rw [AdamSmallReferenceIdeal.Read.val_main_v148_eq]; exact congrArg₂ _ e19 e32), (hr c).2.2.2.2.2.2.2.2.2.2.2.2.2.2.2.2.2.2.2.2.1.trans (by rw [AdamSmallReferenceIdeal.Read.val_main_v172_eq]; exact congrArg₂ _ e20 e33), (hr c).2.2.2.2.2.2.2.2.2.2.2.2.2.2.2.2.2.2.2.2.2.1.trans (by rw [AdamSmallReferenceIdeal.Read.val_main_v196_eq]; exact congrArg₂ _ e21 e34), (hr c).2.2.2.2.2.2.2.2.2.2.2.2.2.2.2.2.2.2.2.2.2.2.1.trans (by rw [AdamSmallReferenceIdeal.Read.val_main_v220_eq]; exact congrArg₂ _ e22 e35), (hr c).2.2.2.2.2.2.2.2.2.2.2.2.2.2.2.2.2.2.2.2.2.2.2.1.trans (by rw [AdamSmallReferenceIdeal.Read.val_main_v244_eq]; exact congrArg₂ _ e23 e36), (hr c).2.2.2.2.2.2.2.2.2.2.2.2.2.2.2.2.2.2.2.2.2.2.2.2.1.trans (by rw [AdamSmallReferenceIdeal.Read.val_main_v268_eq]; exact congrArg₂ _ e24 e37), (hr c).2.2.2.2.2.2.2.2.2.2.2.2.2.2.2.2.2.2.2.2.2.2.2.2.2.1.trans (by rw [AdamSmallReferenceIdeal.Read.val_main_v292_eq]; exact congrArg₂ _ e25 e38), (hr c).2.2.2.2.2.2.2.2.2.2.2.2.2.2.2.2.2.2.2.2.2.2.2.2.2.2.1.trans (by rw [AdamSmallReferenceIdeal.Read.val_main_v10_eq]; exact congrArg₂ _ e13 e39), (hr c).2.2.2.2.2.2.2.2.2.2.2.2.2.2.2.2.2.2.2.2.2.2.2.2.2.2.2.1.trans (by rw [AdamSmallReferenceIdeal.Read.val_main_v34_eq]; exact congrArg₂ _ e14 e40), (hr c).2.2.2.2.2.2.2.2.2.2.2.2.2.2.2.2.2.2.2.2.2.2.2.2.2.2.2.2.1.trans (by rw [AdamSmallReferenceIdeal.Read.val_main_v58_eq]; exact congrArg₂ _ e15 e41), (hr c).2.2.2.2.2.2.2.2.2.2.2.2.2.2.2.2.2.2.2.2.2.2.2.2.2.2.2.2.2.1.trans (by rw [AdamSmallReferenceIdeal.Read.val_main_v82_eq]; exact congrArg₂ _ e16 e42), (hr c).2.2.2.2.2.2.2.2.2.2.2.2.2.2.2.2.2.2.2.2.2.2.2.2.2.2.2.2.2.2.1.trans (by rw [AdamSmallReferenceIdeal.Read.val_main_v106_eq]; exact congrArg₂ _ e17 e43), (hr c).2.2.2.2.2.2.2.2.2.2.2.2.2.2.2.2.2.2.2.2.2.2.2.2.2.2.2.2.2.2.2.1.trans (by rw [AdamSmallReferenceIdeal.Read.val_main_v130_eq]; exact congrArg₂ _ e18 e44), (hr c).2.2.2.2.2.2.2.2.2.2.2.2.2.2.2.2.2.2.2.2.2.2.2.2.2.2.2.2.2.2.2.2.1.trans (by rw [AdamSmallReferenceIdeal.Read.val_main_v154_eq]; exact congrArg₂ _ e19 e45), (hr c).2.2.2.2.2.2.2.2.2.2.2.2.2.2.2.2.2.2.2.2.2.2.2.2.2.2.2.2.2.2.2.2.2.1.trans (by rw [AdamSmallReferenceIdeal.Read.val_main_v178_eq]; exact congrArg₂ _ e20 e46), (hr c).2.2.2.2.2.2.2.2.2.2.2.2.2.2.2.2.2.2.2.2.2.2.2.2.2.2.2.2.2.2.2.2.2.2.1.trans (by rw [AdamSmallReferenceIdeal.Read.val_main_v202_eq]; exact congrArg₂ _ e21 e47), (hr c).2.2.2.2.2.2.2.2.2.2.2.2.2.2.2.2.2.2.2.2.2.2.2.2.2.2.2.2.2.2.2.2.2.2.2.1.trans (by rw [AdamSmallReferenceIdeal.Read.val_main_v226_eq]; exact congrArg₂ _ e22 e48), (hr c).2.2.2.2.2.2.2.2.2.2.2.2.2.2.2.2.2.2.2.2.2.2.2.2.2.2.2.2.2.2.2.2.2.2.2.2.1.trans (by rw [AdamSmallReferenceIdeal.Read.val_main_v250_eq]; exact congrArg₂ _ e23 e49), (hr c).2.2.2.2.2.2.2.2.2.2.2.2.2.2.2.2.2.2.2.2.2.2.2.2.2.2.2.2.2.2.2.2.2.2.2.2.2.1.trans (by rw [AdamSmallReferenceIdeal.Read.val_main_v274_eq]; exact congrArg₂ _ e24 e50), (hr c).2.2.2.2.2.2.2.2.2.2.2.2.2.2.2.2.2.2.2.2.2.2.2.2.2.2.2.2.2.2.2.2.2.2.2.2.2.2.1.trans (by rw [AdamSmallReferenceIdeal.Read.val_main_v298_eq]; exact congrArg₂ _ e25 e51), (hr c).2.2.2.2.2.2.2.2.2.2.2.2.2.2.2.2.2.2.2.2.2.2.2.2.2.2.2.2.2.2.2.2.2.2.2.2.2.2.2⟩)
      (AdamSmallReferenceIdeal.Value.run (F := Ideal) m' g')⟩

/-- The reference of `seq_fwd` runs on the host alone. -/
theorem frame_SeqFwdReference : quiescent_SeqFwdReferenceIdeal := fun m ρ _ =>
  (θ_run SeqFwdReferenceIdeal.defs _ _).mono (fun r h => ⟨fun c => (h c).2.2.2, sem_eq_zero_of_no_sems (by decide) r.2⟩)
    (SeqFwdReferenceIdeal.Value.run (F := Ideal) m ρ)

/-- The results of `seq_fwd` are its reference's. -/
theorem algebraic_SeqFwd : algebraic_SeqFwdIdeal_SeqFwdReferenceIdeal := by
  intro m g m' g' _ hagree
  exact ⟨fun c => SeqFwdReferenceIdeal.Read.val_main_v375 (F := Ideal) (SeqFwd.X0 m c) (SeqFwd.X3 m c), fun c => SeqFwdReferenceIdeal.Read.val_main_v127 (F := Ideal) (SeqFwd.X1 m c), fun c => SeqFwdReferenceIdeal.Read.val_main_v399 (F := Ideal) (SeqFwd.X2 m c) (SeqFwd.X4 m c), SeqFwd.run m g,
    (θ_run SeqFwdReferenceIdeal.defs _ _).mono (fun r hr c => ⟨(hr c).1.trans (by obtain ⟨e0, e1, e2, e3, e4⟩ := hagree c; rw [SeqFwdReferenceIdeal.Read.val_main_v375_eq]; exact congrArg₂ _ e0 e3), (hr c).2.1.trans (by obtain ⟨e0, e1, e2, e3, e4⟩ := hagree c; rw [SeqFwdReferenceIdeal.Read.val_main_v127_eq]; exact congrArg _ e1), (hr c).2.2.1.trans (by obtain ⟨e0, e1, e2, e3, e4⟩ := hagree c; rw [SeqFwdReferenceIdeal.Read.val_main_v399_eq]; exact congrArg₂ _ e2 e4), (hr c).2.2.2⟩)
      (SeqFwdReferenceIdeal.Value.run (F := Ideal) m' g')⟩

theorem claim : Cert.Claim := ⟨Kernel.Gen.facts, KernelIdeal.Gen.facts, ReferenceIdeal.Gen.facts, BranchBwd.Gen.facts, BranchBwdIdeal.Gen.facts, BranchBwdReferenceIdeal.Gen.facts, DwBranch.Gen.facts, DwBranchIdeal.Gen.facts, DwBranchReferenceIdeal.Gen.facts, DwIn.Gen.facts, DwInIdeal.Gen.facts, DwInReferenceIdeal.Gen.facts, ProjBwd.Gen.facts, ProjBwdIdeal.Gen.facts, ProjBwdReferenceIdeal.Gen.facts, MlpDownBwd.Gen.facts, MlpDownBwdIdeal.Gen.facts, MlpDownBwdReferenceIdeal.Gen.facts, DwDown.Gen.facts, DwDownIdeal.Gen.facts, DwDownReferenceIdeal.Gen.facts, DwUp.Gen.facts, DwUpIdeal.Gen.facts, DwUpReferenceIdeal.Gen.facts, MlpUpBwd.Gen.facts, MlpUpBwdIdeal.Gen.facts, MlpUpBwdReferenceIdeal.Gen.facts, OutProjBwd.Gen.facts, OutProjBwdIdeal.Gen.facts, OutProjBwdReferenceIdeal.Gen.facts, DwOut.Gen.facts, DwOutIdeal.Gen.facts, DwOutReferenceIdeal.Gen.facts, PleBwd.Gen.facts, PleBwdIdeal.Gen.facts, PleBwdReferenceIdeal.Gen.facts, DwPle.Gen.facts, DwPleIdeal.Gen.facts, DwPleReferenceIdeal.Gen.facts, DwPleGate.Gen.facts, DwPleGateIdeal.Gen.facts, DwPleGateReferenceIdeal.Gen.facts, DhPle.Gen.facts, DhPleIdeal.Gen.facts, DhPleReferenceIdeal.Gen.facts, RmsMix.Gen.facts, RmsMixIdeal.Gen.facts, RmsMixReferenceIdeal.Gen.facts, ProjFwd.Gen.facts, ProjFwdIdeal.Gen.facts, ProjFwdReferenceIdeal.Gen.facts, ProjGates.Gen.facts, ProjGatesIdeal.Gen.facts, ProjGatesReferenceIdeal.Gen.facts, Glu.Gen.facts, GluIdeal.Gen.facts, GluReferenceIdeal.Gen.facts, MergeFwd.Gen.facts, MergeFwdIdeal.Gen.facts, MergeFwdReferenceIdeal.Gen.facts, OutProj.Gen.facts, OutProjIdeal.Gen.facts, OutProjReferenceIdeal.Gen.facts, MlpUp.Gen.facts, MlpUpIdeal.Gen.facts, MlpUpReferenceIdeal.Gen.facts, MlpDown.Gen.facts, MlpDownIdeal.Gen.facts, MlpDownReferenceIdeal.Gen.facts, PleGate.Gen.facts, PleGateIdeal.Gen.facts, PleGateReferenceIdeal.Gen.facts, Ple.Gen.facts, PleIdeal.Gen.facts, PleReferenceIdeal.Gen.facts, AdamIn.Gen.facts, AdamInIdeal.Gen.facts, AdamInReferenceIdeal.Gen.facts, AdamBranch.Gen.facts, AdamBranchIdeal.Gen.facts, AdamBranchReferenceIdeal.Gen.facts, AdamOut.Gen.facts, AdamOutIdeal.Gen.facts, AdamOutReferenceIdeal.Gen.facts, AdamUp.Gen.facts, AdamUpIdeal.Gen.facts, AdamUpReferenceIdeal.Gen.facts, AdamPle.Gen.facts, AdamPleIdeal.Gen.facts, AdamPleReferenceIdeal.Gen.facts, SeqFwd.Gen.facts, SeqFwdIdeal.Gen.facts, SeqFwdReferenceIdeal.Gen.facts, GluBwd.Gen.facts, GluBwdIdeal.Gen.facts, GluBwdReferenceIdeal.Gen.facts, LossHead.Gen.facts, LossHeadIdeal.Gen.facts, LossHeadReferenceIdeal.Gen.facts, AdamSharded.Gen.facts, AdamShardedIdeal.Gen.facts, AdamShardedReferenceIdeal.Gen.facts, AdamSmall.Gen.facts, AdamSmallIdeal.Gen.facts, AdamSmallReferenceIdeal.Gen.facts, On_gate_columns.Gen.facts,
  fun m ρ _ => Kernel.Gen.frame m ρ,
  fun m ρ _ => KernelIdeal.Gen.frame m ρ,
  frame_reference,
  fun m ρ _ => BranchBwd.Gen.frame m ρ,
  fun m ρ _ => BranchBwdIdeal.Gen.frame m ρ,
  frame_BranchBwdReference,
  fun m ρ _ => DwBranch.Gen.frame m ρ,
  fun m ρ _ => DwBranchIdeal.Gen.frame m ρ,
  frame_DwBranchReference,
  fun m ρ _ => DwIn.Gen.frame m ρ,
  fun m ρ _ => DwInIdeal.Gen.frame m ρ,
  frame_DwInReference,
  fun m ρ _ => ProjBwd.Gen.frame m ρ,
  fun m ρ _ => ProjBwdIdeal.Gen.frame m ρ,
  frame_ProjBwdReference,
  fun m ρ _ => MlpDownBwd.Gen.frame m ρ,
  fun m ρ _ => MlpDownBwdIdeal.Gen.frame m ρ,
  frame_MlpDownBwdReference,
  fun m ρ _ => DwDown.Gen.frame m ρ,
  fun m ρ _ => DwDownIdeal.Gen.frame m ρ,
  frame_DwDownReference,
  fun m ρ _ => DwUp.Gen.frame m ρ,
  fun m ρ _ => DwUpIdeal.Gen.frame m ρ,
  frame_DwUpReference,
  fun m ρ _ => MlpUpBwd.Gen.frame m ρ,
  fun m ρ _ => MlpUpBwdIdeal.Gen.frame m ρ,
  frame_MlpUpBwdReference,
  fun m ρ _ => OutProjBwd.Gen.frame m ρ,
  fun m ρ _ => OutProjBwdIdeal.Gen.frame m ρ,
  frame_OutProjBwdReference,
  fun m ρ _ => DwOut.Gen.frame m ρ,
  fun m ρ _ => DwOutIdeal.Gen.frame m ρ,
  frame_DwOutReference,
  fun m ρ _ => PleBwd.Gen.frame m ρ,
  fun m ρ _ => PleBwdIdeal.Gen.frame m ρ,
  frame_PleBwdReference,
  fun m ρ _ => DwPle.Gen.frame m ρ,
  fun m ρ _ => DwPleIdeal.Gen.frame m ρ,
  frame_DwPleReference,
  fun m ρ _ => DwPleGate.Gen.frame m ρ,
  fun m ρ _ => DwPleGateIdeal.Gen.frame m ρ,
  frame_DwPleGateReference,
  fun m ρ _ => DhPle.Gen.frame m ρ,
  fun m ρ _ => DhPleIdeal.Gen.frame m ρ,
  frame_DhPleReference,
  fun m ρ _ => RmsMix.Gen.frame m ρ,
  fun m ρ _ => RmsMixIdeal.Gen.frame m ρ,
  frame_RmsMixReference,
  fun m ρ _ => ProjFwd.Gen.frame m ρ,
  fun m ρ _ => ProjFwdIdeal.Gen.frame m ρ,
  frame_ProjFwdReference,
  fun m ρ _ => ProjGates.Gen.frame m ρ,
  fun m ρ _ => ProjGatesIdeal.Gen.frame m ρ,
  frame_ProjGatesReference,
  fun m ρ _ => Glu.Gen.frame m ρ,
  fun m ρ _ => GluIdeal.Gen.frame m ρ,
  frame_GluReference,
  fun m ρ _ => MergeFwd.Gen.frame m ρ,
  fun m ρ _ => MergeFwdIdeal.Gen.frame m ρ,
  frame_MergeFwdReference,
  fun m ρ _ => OutProj.Gen.frame m ρ,
  fun m ρ _ => OutProjIdeal.Gen.frame m ρ,
  frame_OutProjReference,
  fun m ρ _ => MlpUp.Gen.frame m ρ,
  fun m ρ _ => MlpUpIdeal.Gen.frame m ρ,
  frame_MlpUpReference,
  fun m ρ _ => MlpDown.Gen.frame m ρ,
  fun m ρ _ => MlpDownIdeal.Gen.frame m ρ,
  frame_MlpDownReference,
  fun m ρ _ => PleGate.Gen.frame m ρ,
  fun m ρ _ => PleGateIdeal.Gen.frame m ρ,
  frame_PleGateReference,
  fun m ρ _ => Ple.Gen.frame m ρ,
  fun m ρ _ => PleIdeal.Gen.frame m ρ,
  frame_PleReference,
  fun m ρ _ => AdamIn.Gen.frame m ρ,
  fun m ρ _ => AdamInIdeal.Gen.frame m ρ,
  frame_AdamInReference,
  fun m ρ _ => AdamBranch.Gen.frame m ρ,
  fun m ρ _ => AdamBranchIdeal.Gen.frame m ρ,
  frame_AdamBranchReference,
  fun m ρ _ => AdamOut.Gen.frame m ρ,
  fun m ρ _ => AdamOutIdeal.Gen.frame m ρ,
  frame_AdamOutReference,
  fun m ρ _ => AdamUp.Gen.frame m ρ,
  fun m ρ _ => AdamUpIdeal.Gen.frame m ρ,
  frame_AdamUpReference,
  fun m ρ _ => AdamPle.Gen.frame m ρ,
  fun m ρ _ => AdamPleIdeal.Gen.frame m ρ,
  frame_AdamPleReference,
  fun m ρ _ => SeqFwd.Gen.frame m ρ,
  fun m ρ _ => SeqFwdIdeal.Gen.frame m ρ,
  frame_SeqFwdReference,
  fun m ρ _ => GluBwd.Gen.frame m ρ,
  fun m ρ _ => GluBwdIdeal.Gen.frame m ρ,
  frame_GluBwdReference,
  fun m ρ _ => LossHead.Gen.frame m ρ,
  fun m ρ _ => LossHeadIdeal.Gen.frame m ρ,
  frame_LossHeadReference,
  fun m ρ _ => AdamSharded.Gen.frame m ρ,
  fun m ρ _ => AdamShardedIdeal.Gen.frame m ρ,
  frame_AdamShardedReference,
  fun m ρ _ => AdamSmall.Gen.frame m ρ,
  fun m ρ _ => AdamSmallIdeal.Gen.frame m ρ,
  frame_AdamSmallReference,
  trivial,
  Merge.algebraic _,
  trivial,
  algebraic_BranchBwd,
  trivial,
  algebraic_DwBranch,
  trivial,
  algebraic_DwIn,
  trivial,
  algebraic_ProjBwd,
  trivial,
  algebraic_MlpDownBwd,
  trivial,
  algebraic_DwDown,
  trivial,
  algebraic_DwUp,
  trivial,
  algebraic_MlpUpBwd,
  trivial,
  algebraic_OutProjBwd,
  trivial,
  algebraic_DwOut,
  trivial,
  algebraic_PleBwd,
  trivial,
  algebraic_DwPle,
  trivial,
  algebraic_DwPleGate,
  trivial,
  algebraic_DhPle,
  trivial,
  algebraic_RmsMix,
  trivial,
  algebraic_ProjFwd,
  trivial,
  algebraic_ProjGates,
  trivial,
  algebraic_Glu,
  trivial,
  algebraic_MergeFwd,
  trivial,
  algebraic_OutProj,
  trivial,
  algebraic_MlpUp,
  trivial,
  algebraic_MlpDown,
  trivial,
  algebraic_PleGate,
  trivial,
  algebraic_Ple,
  trivial,
  algebraic_AdamIn,
  trivial,
  algebraic_AdamBranch,
  trivial,
  algebraic_AdamOut,
  trivial,
  algebraic_AdamUp,
  trivial,
  algebraic_AdamPle,
  trivial,
  algebraic_SeqFwd,
  trivial,
  algebraic_GluBwd,
  trivial,
  algebraic_LossHead,
  trivial,
  algebraic_AdamSharded,
  trivial,
  algebraic_AdamSmall⟩

end Cert.Proof

end
